-- ==== Defs.lean ====
def Pre_Kernel [hPre_ends_are_rows : Cert.Pre_ends_are_rows.Facts] (m : (ℓ : Loc Cert.Kernel.nD Cert.Kernel.τ Cert.Kernel.sig) → Buf (Elt Bits) ℓ) : Prop :=
  ∀ c : Dev Cert.Kernel.nD,
    (Cert.Pre_ends_are_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ends_are_rows : Cert.Pre_ends_are_rows.Facts] (m : (ℓ : Loc Cert.KernelIdeal.nD Cert.KernelIdeal.τ Cert.KernelIdeal.sig) → Buf (Elt Ideal) ℓ) : Prop :=
  ∀ c : Dev Cert.KernelIdeal.nD,
    (Cert.Pre_ends_are_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_ends_sorted_rows_finite [hPre_ends_sorted_rows_finite : Cert.Pre_ends_sorted_rows_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ends_sorted_rows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ends_sorted_rows_finite [hPre_ends_sorted_rows_finite : Cert.Pre_ends_sorted_rows_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ends_sorted_rows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ends_are_rows : Cert.Pre_ends_are_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ends_are_rows : Cert.Pre_ends_are_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ends_sorted_rows_finite [hKernelIdeal : Cert.KernelIdeal.Facts] [hPre_ends_sorted_rows_finite : Cert.Pre_ends_sorted_rows_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ends_sorted_rows_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ends_sorted_rows_finite [hReferenceIdeal : Cert.ReferenceIdeal.Facts] [hPre_ends_sorted_rows_finite : Cert.Pre_ends_sorted_rows_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ends_sorted_rows_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ends_sorted_rows_finite [hKernelIdeal : Cert.KernelIdeal.Facts] [hReferenceIdeal : Cert.ReferenceIdeal.Facts] [hPre_ends_sorted_rows_finite : Cert.Pre_ends_sorted_rows_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ends_sorted_rows_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ends_are_rows : Cert.Pre_ends_are_rows.Facts) (hPre_ends_sorted_rows_finite : Cert.Pre_ends_sorted_rows_finite.Facts),
    quiescent_Kernel (hKernel := hKernel) (hPre_ends_are_rows := hPre_ends_are_rows)
    ∧ quiescent_KernelIdeal (hKernelIdeal := hKernelIdeal) (hPre_ends_are_rows := hPre_ends_are_rows)
    ∧ quiescent_KernelIdeal_pre_ends_sorted_rows_finite (hKernelIdeal := hKernelIdeal) (hPre_ends_sorted_rows_finite := hPre_ends_sorted_rows_finite)
    ∧ quiescent_ReferenceIdeal (hReferenceIdeal := hReferenceIdeal)
    ∧ quiescent_ReferenceIdeal_pre_ends_sorted_rows_finite (hReferenceIdeal := hReferenceIdeal) (hPre_ends_sorted_rows_finite := hPre_ends_sorted_rows_finite)
    ∧ preserves_Kernel_KernelIdeal
    ∧ algebraic_KernelIdeal_ReferenceIdeal_pre_ends_sorted_rows_finite (hKernelIdeal := hKernelIdeal) (hReferenceIdeal := hReferenceIdeal) (hPre_ends_sorted_rows_finite := hPre_ends_sorted_rows_finite)
-- ==== Pre_ends_are_rows.lean ====
abbrev S320000x128 : Shape := ⟨2, ![320000, 128]⟩
abbrev S512 : Shape := ⟨1, ![512]⟩
abbrev S16x128 : Shape := ⟨2, ![16, 128]⟩
abbrev S16 : Shape := ⟨1, ![16]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S320000x128 .f32) (main_arg1 : IVec S512 32) (main_arg2 : FVec F S16x128 .f32) (main_arg3 : FVec F S16 .f32) : IVec S_ 1 :=
  let main_c : IVec S_ 32 := constantI S_ 32 0#32
  let main_v0 : IVec S512 32 := broadcastInDim S512 ![] bcast_S_S512 main_c
  let main_v1 : IVec S512 1 := cmpi .sge main_arg1 main_v0
  let main_c_0 : IVec S_ 32 := constantI S_ 32 320000#32
  let main_v2 : IVec S512 32 := broadcastInDim S512 ![] bcast_S_S512 main_c_0
  let main_v3 : IVec S512 1 := cmpi .slt main_arg1 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Pre_ends_sorted_rows_finite.lean ====
abbrev S320000x128 : Shape := ⟨2, ![320000, 128]⟩
abbrev S512 : Shape := ⟨1, ![512]⟩
abbrev S16x128 : Shape := ⟨2, ![16, 128]⟩
abbrev S16 : Shape := ⟨1, ![16]⟩
abbrev S_ : Shape := ⟨0, ![]⟩
abbrev S511 : Shape := ⟨1, ![511]⟩

class Facts : Prop where
  bcast_S_S512 : S_.BroadcastsInDim S512 (![] : Fin 0 → Fin S512.rank)
  reducesTo_S512_S_d0 : S512.ReducesTo [0] S_
  h_S_ : 0 < S_.numel
  slices_S512_S511_0 : S512.Slices ![0] S511
  slices_S512_S511_1 : S512.Slices ![1] S511
  reducesTo_S511_S_d0 : S511.ReducesTo [0] S_
  bcast_S_S320000x128 : S_.BroadcastsInDim S320000x128 (![] : Fin 0 → Fin S320000x128.rank)
  reducesTo_S320000x128_S_d0_1 : S320000x128.ReducesTo [0, 1] S_

variable [Facts]

def fn {F : FTy → Type} [FloatOps F] (main_arg0 : FVec F S320000x128 .f32) (main_arg1 : IVec S512 32) (main_arg2 : FVec F S16x128 .f32) (main_arg3 : FVec F S16 .f32) : IVec S_ 1 :=
  let main_c : IVec S_ 32 := constantI S_ 32 0#32
  let main_v0 : IVec S512 32 := broadcastInDim S512 ![] bcast_S_S512 main_c
  let main_v1 : IVec S512 1 := cmpi .sge main_arg1 main_v0
  let main_c_0 : IVec S_ 32 := constantI S_ 32 320000#32
  let main_v2 : IVec S512 32 := broadcastInDim S512 ![] bcast_S_S512 main_c_0
  let main_v3 : IVec S512 1 := cmpi .slt main_arg1 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  let main_v6 : IVec S511 32 := (extractStridedSlice S511 ![0] · slices_S512_S511_0) main_arg1
  let main_v7 : IVec S511 32 := (extractStridedSlice S511 ![1] · slices_S512_S511_1) main_arg1
  let main_v8 : IVec S511 1 := cmpi .sle main_v6 main_v7
  let main_c_2 : IVec S_ 1 := constantI S_ 1 1#1
  let main_v9 : IVec S_ 1 := (fun x v => Host.reduce IntOp.andi x v reducesTo_S511_S_d0 h_S_) main_v8 main_c_2
  let main_v10 : FVec F S320000x128 .f32 := Host.absf main_arg0
  let main_cst : FVec F S_ .f32 := constant S_ .f32 0x7F800000#32
  let main_v11 : FVec F S320000x128 .f32 := broadcastInDim S320000x128 ![] bcast_S_S320000x128 main_cst
  let main_v12 : IVec S320000x128 1 := cmpf .olt main_v10 main_v11
  let main_c_3 : IVec S_ 1 := constantI S_ 1 1#1
  let main_v13 : IVec S_ 1 := (fun x v => Host.reduce IntOp.andi x v reducesTo_S320000x128_S_d0_1 h_S_) main_v12 main_c_3
  let main_v14 : IVec S_ 1 := andi main_v5 main_v9
  let main_v15 : IVec S_ 1 := andi main_v14 main_v13
  main_v15
-- ==== Kernel.lean ====
abbrev S320000x128 : Shape := ⟨2, ![320000, 128]⟩
abbrev S512 : Shape := ⟨1, ![512]⟩
abbrev S16x128 : Shape := ⟨2, ![16, 128]⟩
abbrev S16 : Shape := ⟨1, ![16]⟩
abbrev S5000x128 : Shape := ⟨2, ![5000, 128]⟩
abbrev S12800x128 : Shape := ⟨2, ![12800, 128]⟩
abbrev S200x128 : Shape := ⟨2, ![200, 128]⟩
abbrev S200x64x128 : Shape := ⟨3, ![200, 64, 128]⟩
abbrev S512x128 : Shape := ⟨2, ![512, 128]⟩
abbrev S2x64x128 : Shape := ⟨3, ![2, 64, 128]⟩
abbrev S2 : Shape := ⟨1, ![2]⟩
abbrev S_ : Shape := ⟨0, ![]⟩
abbrev S1 : Shape := ⟨1, ![1]⟩
abbrev S1x64x128 : Shape := ⟨3, ![1, 64, 128]⟩
abbrev S64x128 : Shape := ⟨2, ![64, 128]⟩
abbrev S1x1x16 : Shape := ⟨3, ![1, 1, 16]⟩
abbrev S1x16 : Shape := ⟨2, ![1, 16]⟩
abbrev S511 : Shape := ⟨1, ![511]⟩
abbrev S512x1 : Shape := ⟨2, ![512, 1]⟩
abbrev S128x16 : Shape := ⟨2, ![128, 16]⟩
abbrev S512x16 : Shape := ⟨2, ![512, 16]⟩
abbrev S512x5000 : Shape := ⟨2, ![512, 5000]⟩

abbrev nBuf : Table → Nat
  | .hbm => 60
  | .local .tc .vmem => 12
  | .local .scVector .vmem => 3
  | _ => 0

abbrev bufTy : (tb : Table) → Fin (nBuf tb) → BufTy
  | .hbm, ⟨0, _⟩ => ⟨S320000x128, .f32⟩
  | .hbm, ⟨1, _⟩ => ⟨S512, .i32⟩
  | .hbm, ⟨2, _⟩ => ⟨S16x128, .f32⟩
  | .hbm, ⟨3, _⟩ => ⟨S16, .f32⟩
  | .hbm, ⟨4, _⟩ => ⟨S5000x128, .f32⟩
  | .hbm, ⟨5, _⟩ => ⟨S512x128, .f32⟩
  | .hbm, ⟨6, _⟩ => ⟨S_, .i32⟩
  | .hbm, ⟨7, _⟩ => ⟨S1, .i32⟩
  | .hbm, ⟨8, _⟩ => ⟨S511, .i32⟩
  | .hbm, ⟨9, _⟩ => ⟨S512, .i32⟩
  | .hbm, ⟨10, _⟩ => ⟨S512, .i32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S512x1, .f32⟩
  | .hbm, ⟨19, _⟩ => ⟨S_, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S512x1, .i32⟩
  | .hbm, ⟨38, _⟩ => ⟨S_, .i32⟩
  | .hbm, ⟨39, _⟩ => ⟨S_, .i32⟩
  | .hbm, ⟨40, _⟩ => ⟨S512, .i32⟩
  | .hbm, ⟨41, _⟩ => ⟨S512, .i32⟩
  | .hbm, ⟨42, _⟩ => ⟨S512, .i32⟩
  | .hbm, ⟨43, _⟩ => ⟨S_, .i32⟩
  | .hbm, ⟨44, _⟩ => ⟨S512, .i32⟩
  | .hbm, ⟨45, _⟩ => ⟨S512, .i1⟩
  | .hbm, ⟨46, _⟩ => ⟨S512, .i32⟩
  | .hbm, ⟨47, _⟩ => ⟨S512, .i32⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S512, .i1⟩
  | .hbm, ⟨52, _⟩ => ⟨S_, .i32⟩
  | .hbm, ⟨53, _⟩ => ⟨S512, .i32⟩
  | .hbm, ⟨54, _⟩ => ⟨S512, .i32⟩
  | .hbm, ⟨55, _⟩ => ⟨S512, .i32⟩
  | .hbm, ⟨56, _⟩ => ⟨S512x1, .i32⟩
  | .hbm, ⟨57, _⟩ => ⟨S128x16, .f32⟩
  | .hbm, ⟨58, _⟩ => ⟨S1x16, .f32⟩
  | .hbm, ⟨59, _⟩ => ⟨S512x16, .f32⟩
  | .local .tc .vmem, ⟨0, _⟩ => ⟨S12800x128, .f32⟩
  | .local .tc .vmem, ⟨1, _⟩ => ⟨S12800x128, .f32⟩
  | .local .tc .vmem, ⟨2, _⟩ => ⟨S200x128, .f32⟩
  | .local .tc .vmem, ⟨3, _⟩ => ⟨S200x128, .f32⟩
  | .local .tc .vmem, ⟨4, _⟩ => ⟨S5000x128, .f32⟩
  | .local .tc .vmem, ⟨5, _⟩ => ⟨S512x128, .f32⟩
  | .local .tc .vmem, ⟨6, _⟩ => ⟨S512x1, .i32⟩
  | .local .tc .vmem, ⟨7, _⟩ => ⟨S512x1, .i32⟩
  | .local .tc .vmem, ⟨8, _⟩ => ⟨S512x1, .f32⟩
  | .local .tc .vmem, ⟨9, _⟩ => ⟨S128x16, .f32⟩
  | .local .tc .vmem, ⟨10, _⟩ => ⟨S1x16, .f32⟩
  | .local .tc .vmem, ⟨11, _⟩ => ⟨S512x16, .f32⟩
  | .local .scVector .vmem, ⟨0, _⟩ => ⟨S512, .i32⟩
  | .local .scVector .vmem, ⟨1, _⟩ => ⟨S2x64x128, .f32⟩
  | .local .scVector .vmem, ⟨2, _⟩ => ⟨S16x128, .f32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_arg0_scv : Ref sig .scVector := ⟨.hbm, 0, rfl⟩
abbrev main_arg1_scv : Ref sig .scVector := ⟨.hbm, 1, rfl⟩
abbrev main_v1_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc2_stg5_0 : Ref sig .tc := ⟨.vmem, 9, rfl⟩
abbrev cc2_stg6_0 : Ref sig .tc := ⟨.vmem, 10, rfl⟩
abbrev cc2_stg7_0 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 8
abbrev cc2_sem1_0 : DmaSem sig := 9
abbrev cc2_sem2_0 : DmaSem sig := 10
abbrev cc2_sem3_0 : DmaSem sig := 11
abbrev cc2_sem4_0 : DmaSem sig := 12
abbrev cc2_sem5_0 : DmaSem sig := 13
abbrev cc2_sem6_0 : DmaSem sig := 14
abbrev cc2_sem7_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v3 : Index := Scalar.indexCast v2
  ![v3.toNat]
def k1_off2 (v7 : BitVec 32) : Fin 2 → Nat :=
  let c0_i32 : BitVec 32 := 0#32
  let v10 : BitVec 1 := Scalar.cmpi .sgt v7 c0_i32
  let v11 : BitVec 32 := Scalar.extui v10
  let c0_i32_0 : BitVec 32 := 0#32
  let v12 : BitVec 1 := Scalar.cmpi .slt v7 c0_i32_0
  let v13 : BitVec 32 := Scalar.extui v12
  let v14 : BitVec 32 := Scalar.subi v11 v13
  let c64_i32 : BitVec 32 := 64#32
  let c0_i32_1 : BitVec 32 := 0#32
  let v15 : BitVec 1 := Scalar.cmpi .sgt c64_i32 c0_i32_1
  let v16 : BitVec 32 := Scalar.extui v15
  let c0_i32_2 : BitVec 32 := 0#32
  let v17 : BitVec 1 := Scalar.cmpi .slt c64_i32 c0_i32_2
  let v18 : BitVec 32 := Scalar.extui v17
  let v19 : BitVec 32 := Scalar.subi v16 v18
  let v20 : BitVec 1 := Scalar.cmpi .ne v14 v19
  let v21 : BitVec 32 := Scalar.remsi v7 c64_i32
  let c0_i32_3 : BitVec 32 := 0#32
  let v22 : BitVec 1 := Scalar.cmpi .ne v21 c0_i32_3
  let v23 : BitVec 1 := Scalar.andi v20 v22
  let v9 : BitVec 32 := Scalar.divsi v7 c64_i32
  let c1_i32 : BitVec 32 := 1#32
  let v24 : BitVec 32 := Scalar.subi v9 c1_i32
  let v25 : BitVec 32 := Scalar.select v23 v24 v9
  let c64_i32_4 : BitVec 32 := 64#32
  let v26 : BitVec 32 := Scalar.muli v25 c64_i32_4
  let c0_i32_9 : BitVec 32 := 0#32
  ![v26.toNat, 0]

def k1_off3 (v36 : BitVec 32) : Fin 2 → Nat :=
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c64_i32_13 : BitVec 32 := 64#32
  let c0_i32_16 : BitVec 32 := 0#32
  let v43 : BitVec 1 := Scalar.cmpi .sgt c64_i32_13 c0_i32_16
  let v44 : BitVec 32 := Scalar.extui v43
  let c0_i32_17 : BitVec 32 := 0#32
  let v45 : BitVec 1 := Scalar.cmpi .slt c64_i32_13 c0_i32_17
  let v46 : BitVec 32 := Scalar.extui v45
  let v47 : BitVec 32 := Scalar.subi v44 v46
  let v48 : BitVec 1 := Scalar.cmpi .ne v42 v47
  let v49 : BitVec 32 := Scalar.remsi v36 c64_i32_13
  let c0_i32_18 : BitVec 32 := 0#32
  let v50 : BitVec 1 := Scalar.cmpi .ne v49 c0_i32_18
  let v51 : BitVec 1 := Scalar.andi v48 v50
  let v37 : BitVec 32 := Scalar.divsi v36 c64_i32_13
  let c1_i32_19 : BitVec 32 := 1#32
  let v52 : BitVec 32 := Scalar.subi v37 c1_i32_19
  let v53 : BitVec 32 := Scalar.select v51 v52 v37
  let c64_i32_20 : BitVec 32 := 64#32
  let v54 : BitVec 32 := Scalar.muli v53 c64_i32_20
  let c0_i32_25 : BitVec 32 := 0#32
  ![v54.toNat, 0]

def k1_off4 (v7 : BitVec 32) : Fin 2 → Nat :=
  let c0_i32_30 : BitVec 32 := 0#32
  let v64 : BitVec 1 := Scalar.cmpi .sgt v7 c0_i32_30
  let v65 : BitVec 32 := Scalar.extui v64
  let c0_i32_31 : BitVec 32 := 0#32
  let v66 : BitVec 1 := Scalar.cmpi .slt v7 c0_i32_31
  let v67 : BitVec 32 := Scalar.extui v66
  let v68 : BitVec 32 := Scalar.subi v65 v67
  let c64_i32_29 : BitVec 32 := 64#32
  let c0_i32_32 : BitVec 32 := 0#32
  let v69 : BitVec 1 := Scalar.cmpi .sgt c64_i32_29 c0_i32_32
  let v70 : BitVec 32 := Scalar.extui v69
  let c0_i32_33 : BitVec 32 := 0#32
  let v71 : BitVec 1 := Scalar.cmpi .slt c64_i32_29 c0_i32_33
  let v72 : BitVec 32 := Scalar.extui v71
  let v73 : BitVec 32 := Scalar.subi v70 v72
  let v74 : BitVec 1 := Scalar.cmpi .ne v68 v73
  let v75 : BitVec 32 := Scalar.remsi v7 c64_i32_29
  let c0_i32_34 : BitVec 32 := 0#32
  let v76 : BitVec 1 := Scalar.cmpi .ne v75 c0_i32_34
  let v77 : BitVec 1 := Scalar.andi v74 v76
  let v63 : BitVec 32 := Scalar.divsi v7 c64_i32_29
  let c1_i32_35 : BitVec 32 := 1#32
  let v78 : BitVec 32 := Scalar.subi v63 c1_i32_35
  let v79 : BitVec 32 := Scalar.select v77 v78 v63
  let c64_i32_36 : BitVec 32 := 64#32
  let v80 : BitVec 32 := Scalar.muli v79 c64_i32_36
  let c0_i32_41 : BitVec 32 := 0#32
  ![v80.toNat, 0]
@[reducible] def k1_t1_loop (v7 : BitVec 32) : Scf.Loop 32 :=
  let c0_i32_51 : BitVec 32 := 0#32
  let c64_i32_45 : BitVec 32 := 64#32
  let c0_i32_46 : BitVec 32 := 0#32
  let v89 : BitVec 1 := Scalar.cmpi .eq c64_i32_45 c0_i32_46
  let c1_i32_47 : BitVec 32 := 1#32
  let v90 : BitVec 32 := Scalar.select v89 c1_i32_47 c64_i32_45
  let v91 : BitVec 32 := Scalar.remsi v7 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  let v99 : BitVec 32 := Scalar.subi v98 c0_i32_51
  let c1_i32_52 : BitVec 32 := 1#32
  let v101 : BitVec 32 := Scalar.divsi v99 c1_i32_52
  let v102 : BitVec 32 := Scalar.muli v101 c1_i32_52
  let v103 : BitVec 32 := Scalar.addi c0_i32_51 v102
  let c1_i32_53 : BitVec 32 := 1#32
  ⟨c0_i32_51, v103, c1_i32_53⟩
def k1_off5 (v7 : BitVec 32) (k1_t1 : Fin (k1_t1_loop v7).trips) : Fin 3 → Nat :=
  let c0_i32_905 : BitVec 32 := 0#32
  let v1656 : Index := Scalar.indexCast c0_i32_905
  let c0_i32_51 : BitVec 32 := 0#32
  let c1_i32_53 : BitVec 32 := 1#32
  let arg9 : BitVec 32 := Scf.iv c0_i32_51 c1_i32_53 k1_t1
  let v1657 : Index := Scalar.indexCast arg9
  let c0_906 : Index := 0#32
  ![0, v1657.toNat, 0]
def k1_off6 (v7 : BitVec 32) (k1_t1 : Fin (k1_t1_loop v7).trips) : Fin 3 → Nat :=
  let c0_i32_907 : BitVec 32 := 0#32
  let v1661 : Index := Scalar.indexCast c0_i32_907
  let c0_i32_51 : BitVec 32 := 0#32
  let c1_i32_53 : BitVec 32 := 1#32
  let arg9 : BitVec 32 := Scf.iv c0_i32_51 c1_i32_53 k1_t1
  let v1662 : Index := Scalar.indexCast arg9
  let c16_908 : Index := 16#32
  ![0, v1662.toNat, 16]
def k1_off7 (v7 : BitVec 32) (k1_t1 : Fin (k1_t1_loop v7).trips) : Fin 3 → Nat :=
  let c0_i32_909 : BitVec 32 := 0#32
  let v1666 : Index := Scalar.indexCast c0_i32_909
  let c0_i32_51 : BitVec 32 := 0#32
  let c1_i32_53 : BitVec 32 := 1#32
  let arg9 : BitVec 32 := Scf.iv c0_i32_51 c1_i32_53 k1_t1
  let v1667 : Index := Scalar.indexCast arg9
  let c32_910 : Index := 32#32
  ![0, v1667.toNat, 32]
def k1_off8 (v7 : BitVec 32) (k1_t1 : Fin (k1_t1_loop v7).trips) : Fin 3 → Nat :=
  let c0_i32_911 : BitVec 32 := 0#32
  let v1671 : Index := Scalar.indexCast c0_i32_911
  let c0_i32_51 : BitVec 32 := 0#32
  let c1_i32_53 : BitVec 32 := 1#32
  let arg9 : BitVec 32 := Scf.iv c0_i32_51 c1_i32_53 k1_t1
  let v1672 : Index := Scalar.indexCast arg9
  let c48_912 : Index := 48#32
  ![0, v1672.toNat, 48]
def k1_off9 (v7 : BitVec 32) (k1_t1 : Fin (k1_t1_loop v7).trips) : Fin 3 → Nat :=
  let c0_i32_913 : BitVec 32 := 0#32
  let v1676 : Index := Scalar.indexCast c0_i32_913
  let c0_i32_51 : BitVec 32 := 0#32
  let c1_i32_53 : BitVec 32 := 1#32
  let arg9 : BitVec 32 := Scf.iv c0_i32_51 c1_i32_53 k1_t1
  let v1677 : Index := Scalar.indexCast arg9
  let c64_914 : Index := 64#32
  ![0, v1677.toNat, 64]
def k1_off10 (v7 : BitVec 32) (k1_t1 : Fin (k1_t1_loop v7).trips) : Fin 3 → Nat :=
  let c0_i32_915 : BitVec 32 := 0#32
  let v1681 : Index := Scalar.indexCast c0_i32_915
  let c0_i32_51 : BitVec 32 := 0#32
  let c1_i32_53 : BitVec 32 := 1#32
  let arg9 : BitVec 32 := Scf.iv c0_i32_51 c1_i32_53 k1_t1
  let v1682 : Index := Scalar.indexCast arg9
  let c80_916 : Index := 80#32
  ![0, v1682.toNat, 80]
def k1_off11 (v7 : BitVec 32) (k1_t1 : Fin (k1_t1_loop v7).trips) : Fin 3 → Nat :=
  let c0_i32_917 : BitVec 32 := 0#32
  let v1686 : Index := Scalar.indexCast c0_i32_917
  let c0_i32_51 : BitVec 32 := 0#32
  let c1_i32_53 : BitVec 32 := 1#32
  let arg9 : BitVec 32 := Scf.iv c0_i32_51 c1_i32_53 k1_t1
  let v1687 : Index := Scalar.indexCast arg9
  let c96_918 : Index := 96#32
  ![0, v1687.toNat, 96]
def k1_off12 (v7 : BitVec 32) (k1_t1 : Fin (k1_t1_loop v7).trips) : Fin 3 → Nat :=
  let c0_i32_919 : BitVec 32 := 0#32
  let v1691 : Index := Scalar.indexCast c0_i32_919
  let c0_i32_51 : BitVec 32 := 0#32
  let c1_i32_53 : BitVec 32 := 1#32
  let arg9 : BitVec 32 := Scf.iv c0_i32_51 c1_i32_53 k1_t1
  let v1692 : Index := Scalar.indexCast arg9
  let c112_920 : Index := 112#32
  ![0, v1692.toNat, 112]
@[reducible] def k1_t2_loop (v7 : BitVec 32) : Scf.Loop 32 :=
  let c0_i32_51 : BitVec 32 := 0#32
  let c64_i32_45 : BitVec 32 := 64#32
  let c0_i32_46 : BitVec 32 := 0#32
  let v89 : BitVec 1 := Scalar.cmpi .eq c64_i32_45 c0_i32_46
  let c1_i32_47 : BitVec 32 := 1#32
  let v90 : BitVec 32 := Scalar.select v89 c1_i32_47 c64_i32_45
  let v91 : BitVec 32 := Scalar.remsi v7 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  let v99 : BitVec 32 := Scalar.subi v98 c0_i32_51
  let c1_i32_52 : BitVec 32 := 1#32
  let v101 : BitVec 32 := Scalar.divsi v99 c1_i32_52
  let v102 : BitVec 32 := Scalar.muli v101 c1_i32_52
  let v103 : BitVec 32 := Scalar.addi c0_i32_51 v102
  let v100 : BitVec 32 := Scalar.addi c0_i32_51 v99
  let c1_i32_54 : BitVec 32 := 1#32
  ⟨v103, v100, c1_i32_54⟩
def k1_off13 (v7 : BitVec 32) (k1_t2 : Fin (k1_t2_loop v7).trips) : Fin 3 → Nat :=
  let c0_i32_905 : BitVec 32 := 0#32
  let v1656 : Index := Scalar.indexCast c0_i32_905
  let c0_i32_51 : BitVec 32 := 0#32
  let c64_i32_45 : BitVec 32 := 64#32
  let c0_i32_46 : BitVec 32 := 0#32
  let v89 : BitVec 1 := Scalar.cmpi .eq c64_i32_45 c0_i32_46
  let c1_i32_47 : BitVec 32 := 1#32
  let v90 : BitVec 32 := Scalar.select v89 c1_i32_47 c64_i32_45
  let v91 : BitVec 32 := Scalar.remsi v7 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  let v99 : BitVec 32 := Scalar.subi v98 c0_i32_51
  let c1_i32_52 : BitVec 32 := 1#32
  let v101 : BitVec 32 := Scalar.divsi v99 c1_i32_52
  let v102 : BitVec 32 := Scalar.muli v101 c1_i32_52
  let v103 : BitVec 32 := Scalar.addi c0_i32_51 v102
  let c1_i32_54 : BitVec 32 := 1#32
  let arg9 : BitVec 32 := Scf.iv v103 c1_i32_54 k1_t2
  let v1657 : Index := Scalar.indexCast arg9
  let c0_906 : Index := 0#32
  ![0, v1657.toNat, 0]
def k1_off14 (v7 : BitVec 32) (k1_t2 : Fin (k1_t2_loop v7).trips) : Fin 3 → Nat :=
  let c0_i32_907 : BitVec 32 := 0#32
  let v1661 : Index := Scalar.indexCast c0_i32_907
  let c0_i32_51 : BitVec 32 := 0#32
  let c64_i32_45 : BitVec 32 := 64#32
  let c0_i32_46 : BitVec 32 := 0#32
  let v89 : BitVec 1 := Scalar.cmpi .eq c64_i32_45 c0_i32_46
  let c1_i32_47 : BitVec 32 := 1#32
  let v90 : BitVec 32 := Scalar.select v89 c1_i32_47 c64_i32_45
  let v91 : BitVec 32 := Scalar.remsi v7 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  let v99 : BitVec 32 := Scalar.subi v98 c0_i32_51
  let c1_i32_52 : BitVec 32 := 1#32
  let v101 : BitVec 32 := Scalar.divsi v99 c1_i32_52
  let v102 : BitVec 32 := Scalar.muli v101 c1_i32_52
  let v103 : BitVec 32 := Scalar.addi c0_i32_51 v102
  let c1_i32_54 : BitVec 32 := 1#32
  let arg9 : BitVec 32 := Scf.iv v103 c1_i32_54 k1_t2
  let v1662 : Index := Scalar.indexCast arg9
  let c16_908 : Index := 16#32
  ![0, v1662.toNat, 16]
def k1_off15 (v7 : BitVec 32) (k1_t2 : Fin (k1_t2_loop v7).trips) : Fin 3 → Nat :=
  let c0_i32_909 : BitVec 32 := 0#32
  let v1666 : Index := Scalar.indexCast c0_i32_909
  let c0_i32_51 : BitVec 32 := 0#32
  let c64_i32_45 : BitVec 32 := 64#32
  let c0_i32_46 : BitVec 32 := 0#32
  let v89 : BitVec 1 := Scalar.cmpi .eq c64_i32_45 c0_i32_46
  let c1_i32_47 : BitVec 32 := 1#32
  let v90 : BitVec 32 := Scalar.select v89 c1_i32_47 c64_i32_45
  let v91 : BitVec 32 := Scalar.remsi v7 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  let v99 : BitVec 32 := Scalar.subi v98 c0_i32_51
  let c1_i32_52 : BitVec 32 := 1#32
  let v101 : BitVec 32 := Scalar.divsi v99 c1_i32_52
  let v102 : BitVec 32 := Scalar.muli v101 c1_i32_52
  let v103 : BitVec 32 := Scalar.addi c0_i32_51 v102
  let c1_i32_54 : BitVec 32 := 1#32
  let arg9 : BitVec 32 := Scf.iv v103 c1_i32_54 k1_t2
  let v1667 : Index := Scalar.indexCast arg9
  let c32_910 : Index := 32#32
  ![0, v1667.toNat, 32]
def k1_off16 (v7 : BitVec 32) (k1_t2 : Fin (k1_t2_loop v7).trips) : Fin 3 → Nat :=
  let c0_i32_911 : BitVec 32 := 0#32
  let v1671 : Index := Scalar.indexCast c0_i32_911
  let c0_i32_51 : BitVec 32 := 0#32
  let c64_i32_45 : BitVec 32 := 64#32
  let c0_i32_46 : BitVec 32 := 0#32
  let v89 : BitVec 1 := Scalar.cmpi .eq c64_i32_45 c0_i32_46
  let c1_i32_47 : BitVec 32 := 1#32
  let v90 : BitVec 32 := Scalar.select v89 c1_i32_47 c64_i32_45
  let v91 : BitVec 32 := Scalar.remsi v7 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  let v99 : BitVec 32 := Scalar.subi v98 c0_i32_51
  let c1_i32_52 : BitVec 32 := 1#32
  let v101 : BitVec 32 := Scalar.divsi v99 c1_i32_52
  let v102 : BitVec 32 := Scalar.muli v101 c1_i32_52
  let v103 : BitVec 32 := Scalar.addi c0_i32_51 v102
  let c1_i32_54 : BitVec 32 := 1#32
  let arg9 : BitVec 32 := Scf.iv v103 c1_i32_54 k1_t2
  let v1672 : Index := Scalar.indexCast arg9
  let c48_912 : Index := 48#32
  ![0, v1672.toNat, 48]
def k1_off17 (v7 : BitVec 32) (k1_t2 : Fin (k1_t2_loop v7).trips) : Fin 3 → Nat :=
  let c0_i32_913 : BitVec 32 := 0#32
  let v1676 : Index := Scalar.indexCast c0_i32_913
  let c0_i32_51 : BitVec 32 := 0#32
  let c64_i32_45 : BitVec 32 := 64#32
  let c0_i32_46 : BitVec 32 := 0#32
  let v89 : BitVec 1 := Scalar.cmpi .eq c64_i32_45 c0_i32_46
  let c1_i32_47 : BitVec 32 := 1#32
  let v90 : BitVec 32 := Scalar.select v89 c1_i32_47 c64_i32_45
  let v91 : BitVec 32 := Scalar.remsi v7 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  let v99 : BitVec 32 := Scalar.subi v98 c0_i32_51
  let c1_i32_52 : BitVec 32 := 1#32
  let v101 : BitVec 32 := Scalar.divsi v99 c1_i32_52
  let v102 : BitVec 32 := Scalar.muli v101 c1_i32_52
  let v103 : BitVec 32 := Scalar.addi c0_i32_51 v102
  let c1_i32_54 : BitVec 32 := 1#32
  let arg9 : BitVec 32 := Scf.iv v103 c1_i32_54 k1_t2
  let v1677 : Index := Scalar.indexCast arg9
  let c64_914 : Index := 64#32
  ![0, v1677.toNat, 64]
def k1_off18 (v7 : BitVec 32) (k1_t2 : Fin (k1_t2_loop v7).trips) : Fin 3 → Nat :=
  let c0_i32_915 : BitVec 32 := 0#32
  let v1681 : Index := Scalar.indexCast c0_i32_915
  let c0_i32_51 : BitVec 32 := 0#32
  let c64_i32_45 : BitVec 32 := 64#32
  let c0_i32_46 : BitVec 32 := 0#32
  let v89 : BitVec 1 := Scalar.cmpi .eq c64_i32_45 c0_i32_46
  let c1_i32_47 : BitVec 32 := 1#32
  let v90 : BitVec 32 := Scalar.select v89 c1_i32_47 c64_i32_45
  let v91 : BitVec 32 := Scalar.remsi v7 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  let v99 : BitVec 32 := Scalar.subi v98 c0_i32_51
  let c1_i32_52 : BitVec 32 := 1#32
  let v101 : BitVec 32 := Scalar.divsi v99 c1_i32_52
  let v102 : BitVec 32 := Scalar.muli v101 c1_i32_52
  let v103 : BitVec 32 := Scalar.addi c0_i32_51 v102
  let c1_i32_54 : BitVec 32 := 1#32
  let arg9 : BitVec 32 := Scf.iv v103 c1_i32_54 k1_t2
  let v1682 : Index := Scalar.indexCast arg9
  let c80_916 : Index := 80#32
  ![0, v1682.toNat, 80]
def k1_off19 (v7 : BitVec 32) (k1_t2 : Fin (k1_t2_loop v7).trips) : Fin 3 → Nat :=
  let c0_i32_917 : BitVec 32 := 0#32
  let v1686 : Index := Scalar.indexCast c0_i32_917
  let c0_i32_51 : BitVec 32 := 0#32
  let c64_i32_45 : BitVec 32 := 64#32
  let c0_i32_46 : BitVec 32 := 0#32
  let v89 : BitVec 1 := Scalar.cmpi .eq c64_i32_45 c0_i32_46
  let c1_i32_47 : BitVec 32 := 1#32
  let v90 : BitVec 32 := Scalar.select v89 c1_i32_47 c64_i32_45
  let v91 : BitVec 32 := Scalar.remsi v7 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  let v99 : BitVec 32 := Scalar.subi v98 c0_i32_51
  let c1_i32_52 : BitVec 32 := 1#32
  let v101 : BitVec 32 := Scalar.divsi v99 c1_i32_52
  let v102 : BitVec 32 := Scalar.muli v101 c1_i32_52
  let v103 : BitVec 32 := Scalar.addi c0_i32_51 v102
  let c1_i32_54 : BitVec 32 := 1#32
  let arg9 : BitVec 32 := Scf.iv v103 c1_i32_54 k1_t2
  let v1687 : Index := Scalar.indexCast arg9
  let c96_918 : Index := 96#32
  ![0, v1687.toNat, 96]
def k1_off20 (v7 : BitVec 32) (k1_t2 : Fin (k1_t2_loop v7).trips) : Fin 3 → Nat :=
  let c0_i32_919 : BitVec 32 := 0#32
  let v1691 : Index := Scalar.indexCast c0_i32_919
  let c0_i32_51 : BitVec 32 := 0#32
  let c64_i32_45 : BitVec 32 := 64#32
  let c0_i32_46 : BitVec 32 := 0#32
  let v89 : BitVec 1 := Scalar.cmpi .eq c64_i32_45 c0_i32_46
  let c1_i32_47 : BitVec 32 := 1#32
  let v90 : BitVec 32 := Scalar.select v89 c1_i32_47 c64_i32_45
  let v91 : BitVec 32 := Scalar.remsi v7 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  let v99 : BitVec 32 := Scalar.subi v98 c0_i32_51
  let c1_i32_52 : BitVec 32 := 1#32
  let v101 : BitVec 32 := Scalar.divsi v99 c1_i32_52
  let v102 : BitVec 32 := Scalar.muli v101 c1_i32_52
  let v103 : BitVec 32 := Scalar.addi c0_i32_51 v102
  let c1_i32_54 : BitVec 32 := 1#32
  let arg9 : BitVec 32 := Scf.iv v103 c1_i32_54 k1_t2
  let v1692 : Index := Scalar.indexCast arg9
  let c112_920 : Index := 112#32
  ![0, v1692.toNat, 112]

def k1_chk1 (v7 : BitVec 32) : Prop :=
  (∀ a, (k1_off2 v7) a + S64x128.size a ≤ S320000x128.size a) ∧
  (∀ a, (k1_off4 v7) a + S64x128.size a ≤ S320000x128.size a) ∧
  ((k1_t1_loop v7).OK) ∧
  (∀ k1_t1 : Fin (k1_t1_loop v7).trips, ∀ a, (k1_off5 v7 k1_t1) a + S1x1x16.size a ≤ S2x64x128.size a) ∧
  (∀ k1_t1 : Fin (k1_t1_loop v7).trips, ∀ a, (k1_off6 v7 k1_t1) a + S1x1x16.size a ≤ S2x64x128.size a) ∧
  (∀ k1_t1 : Fin (k1_t1_loop v7).trips, ∀ a, (k1_off7 v7 k1_t1) a + S1x1x16.size a ≤ S2x64x128.size a) ∧
  (∀ k1_t1 : Fin (k1_t1_loop v7).trips, ∀ a, (k1_off8 v7 k1_t1) a + S1x1x16.size a ≤ S2x64x128.size a) ∧
  (∀ k1_t1 : Fin (k1_t1_loop v7).trips, ∀ a, (k1_off9 v7 k1_t1) a + S1x1x16.size a ≤ S2x64x128.size a) ∧
  (∀ k1_t1 : Fin (k1_t1_loop v7).trips, ∀ a, (k1_off10 v7 k1_t1) a + S1x1x16.size a ≤ S2x64x128.size a) ∧
  (∀ k1_t1 : Fin (k1_t1_loop v7).trips, ∀ a, (k1_off11 v7 k1_t1) a + S1x1x16.size a ≤ S2x64x128.size a) ∧
  (∀ k1_t1 : Fin (k1_t1_loop v7).trips, ∀ a, (k1_off12 v7 k1_t1) a + S1x1x16.size a ≤ S2x64x128.size a) ∧
  ((k1_t2_loop v7).OK) ∧
  (∀ k1_t2 : Fin (k1_t2_loop v7).trips, ∀ a, (k1_off13 v7 k1_t2) a + S1x1x16.size a ≤ S2x64x128.size a) ∧
  (∀ k1_t2 : Fin (k1_t2_loop v7).trips, ∀ a, (k1_off14 v7 k1_t2) a + S1x1x16.size a ≤ S2x64x128.size a) ∧
  (∀ k1_t2 : Fin (k1_t2_loop v7).trips, ∀ a, (k1_off15 v7 k1_t2) a + S1x1x16.size a ≤ S2x64x128.size a) ∧
  (∀ k1_t2 : Fin (k1_t2_loop v7).trips, ∀ a, (k1_off16 v7 k1_t2) a + S1x1x16.size a ≤ S2x64x128.size a) ∧
  (∀ k1_t2 : Fin (k1_t2_loop v7).trips, ∀ a, (k1_off17 v7 k1_t2) a + S1x1x16.size a ≤ S2x64x128.size a) ∧
  (∀ k1_t2 : Fin (k1_t2_loop v7).trips, ∀ a, (k1_off18 v7 k1_t2) a + S1x1x16.size a ≤ S2x64x128.size a) ∧
  (∀ k1_t2 : Fin (k1_t2_loop v7).trips, ∀ a, (k1_off19 v7 k1_t2) a + S1x1x16.size a ≤ S2x64x128.size a) ∧
  (∀ k1_t2 : Fin (k1_t2_loop v7).trips, ∀ a, (k1_off20 v7 k1_t2) a + S1x1x16.size a ≤ S2x64x128.size a)
theorem k1_off2_inb : ∀ (v7 : BitVec 32) (k1_hw1 : k1_chk1 v7), ∀ a, (k1_off2 v7) a + S64x128.size a ≤ S320000x128.size a := fun v7 k1_hw1 => k1_hw1.1
theorem k1_off4_inb : ∀ (v7 : BitVec 32) (k1_hw1 : k1_chk1 v7), ∀ a, (k1_off4 v7) a + S64x128.size a ≤ S320000x128.size a := fun v7 k1_hw1 => k1_hw1.2.1
theorem k1_t1_ok : ∀ (v7 : BitVec 32) (k1_hw1 : k1_chk1 v7), (k1_t1_loop v7).OK := fun v7 k1_hw1 => k1_hw1.2.2.1
theorem k1_off5_inb : ∀ (v7 : BitVec 32) (k1_hw1 : k1_chk1 v7) (k1_t1 : Fin (k1_t1_loop v7).trips), ∀ a, (k1_off5 v7 k1_t1) a + S1x1x16.size a ≤ S2x64x128.size a := fun v7 k1_hw1 k1_t1 => k1_hw1.2.2.2.1 k1_t1
theorem k1_off6_inb : ∀ (v7 : BitVec 32) (k1_hw1 : k1_chk1 v7) (k1_t1 : Fin (k1_t1_loop v7).trips), ∀ a, (k1_off6 v7 k1_t1) a + S1x1x16.size a ≤ S2x64x128.size a := fun v7 k1_hw1 k1_t1 => k1_hw1.2.2.2.2.1 k1_t1
theorem k1_off7_inb : ∀ (v7 : BitVec 32) (k1_hw1 : k1_chk1 v7) (k1_t1 : Fin (k1_t1_loop v7).trips), ∀ a, (k1_off7 v7 k1_t1) a + S1x1x16.size a ≤ S2x64x128.size a := fun v7 k1_hw1 k1_t1 => k1_hw1.2.2.2.2.2.1 k1_t1
theorem k1_off8_inb : ∀ (v7 : BitVec 32) (k1_hw1 : k1_chk1 v7) (k1_t1 : Fin (k1_t1_loop v7).trips), ∀ a, (k1_off8 v7 k1_t1) a + S1x1x16.size a ≤ S2x64x128.size a := fun v7 k1_hw1 k1_t1 => k1_hw1.2.2.2.2.2.2.1 k1_t1
theorem k1_off9_inb : ∀ (v7 : BitVec 32) (k1_hw1 : k1_chk1 v7) (k1_t1 : Fin (k1_t1_loop v7).trips), ∀ a, (k1_off9 v7 k1_t1) a + S1x1x16.size a ≤ S2x64x128.size a := fun v7 k1_hw1 k1_t1 => k1_hw1.2.2.2.2.2.2.2.1 k1_t1
theorem k1_off10_inb : ∀ (v7 : BitVec 32) (k1_hw1 : k1_chk1 v7) (k1_t1 : Fin (k1_t1_loop v7).trips), ∀ a, (k1_off10 v7 k1_t1) a + S1x1x16.size a ≤ S2x64x128.size a := fun v7 k1_hw1 k1_t1 => k1_hw1.2.2.2.2.2.2.2.2.1 k1_t1
theorem k1_off11_inb : ∀ (v7 : BitVec 32) (k1_hw1 : k1_chk1 v7) (k1_t1 : Fin (k1_t1_loop v7).trips), ∀ a, (k1_off11 v7 k1_t1) a + S1x1x16.size a ≤ S2x64x128.size a := fun v7 k1_hw1 k1_t1 => k1_hw1.2.2.2.2.2.2.2.2.2.1 k1_t1
theorem k1_off12_inb : ∀ (v7 : BitVec 32) (k1_hw1 : k1_chk1 v7) (k1_t1 : Fin (k1_t1_loop v7).trips), ∀ a, (k1_off12 v7 k1_t1) a + S1x1x16.size a ≤ S2x64x128.size a := fun v7 k1_hw1 k1_t1 => k1_hw1.2.2.2.2.2.2.2.2.2.2.1 k1_t1
theorem k1_t2_ok : ∀ (v7 : BitVec 32) (k1_hw1 : k1_chk1 v7), (k1_t2_loop v7).OK := fun v7 k1_hw1 => k1_hw1.2.2.2.2.2.2.2.2.2.2.2.1
theorem k1_off13_inb : ∀ (v7 : BitVec 32) (k1_hw1 : k1_chk1 v7) (k1_t2 : Fin (k1_t2_loop v7).trips), ∀ a, (k1_off13 v7 k1_t2) a + S1x1x16.size a ≤ S2x64x128.size a := fun v7 k1_hw1 k1_t2 => k1_hw1.2.2.2.2.2.2.2.2.2.2.2.2.1 k1_t2
theorem k1_off14_inb : ∀ (v7 : BitVec 32) (k1_hw1 : k1_chk1 v7) (k1_t2 : Fin (k1_t2_loop v7).trips), ∀ a, (k1_off14 v7 k1_t2) a + S1x1x16.size a ≤ S2x64x128.size a := fun v7 k1_hw1 k1_t2 => k1_hw1.2.2.2.2.2.2.2.2.2.2.2.2.2.1 k1_t2
theorem k1_off15_inb : ∀ (v7 : BitVec 32) (k1_hw1 : k1_chk1 v7) (k1_t2 : Fin (k1_t2_loop v7).trips), ∀ a, (k1_off15 v7 k1_t2) a + S1x1x16.size a ≤ S2x64x128.size a := fun v7 k1_hw1 k1_t2 => k1_hw1.2.2.2.2.2.2.2.2.2.2.2.2.2.2.1 k1_t2
theorem k1_off16_inb : ∀ (v7 : BitVec 32) (k1_hw1 : k1_chk1 v7) (k1_t2 : Fin (k1_t2_loop v7).trips), ∀ a, (k1_off16 v7 k1_t2) a + S1x1x16.size a ≤ S2x64x128.size a := fun v7 k1_hw1 k1_t2 => k1_hw1.2.2.2.2.2.2.2.2.2.2.2.2.2.2.2.1 k1_t2
theorem k1_off17_inb : ∀ (v7 : BitVec 32) (k1_hw1 : k1_chk1 v7) (k1_t2 : Fin (k1_t2_loop v7).trips), ∀ a, (k1_off17 v7 k1_t2) a + S1x1x16.size a ≤ S2x64x128.size a := fun v7 k1_hw1 k1_t2 => k1_hw1.2.2.2.2.2.2.2.2.2.2.2.2.2.2.2.2.1 k1_t2
theorem k1_off18_inb : ∀ (v7 : BitVec 32) (k1_hw1 : k1_chk1 v7) (k1_t2 : Fin (k1_t2_loop v7).trips), ∀ a, (k1_off18 v7 k1_t2) a + S1x1x16.size a ≤ S2x64x128.size a := fun v7 k1_hw1 k1_t2 => k1_hw1.2.2.2.2.2.2.2.2.2.2.2.2.2.2.2.2.2.1 k1_t2
theorem k1_off19_inb : ∀ (v7 : BitVec 32) (k1_hw1 : k1_chk1 v7) (k1_t2 : Fin (k1_t2_loop v7).trips), ∀ a, (k1_off19 v7 k1_t2) a + S1x1x16.size a ≤ S2x64x128.size a := fun v7 k1_hw1 k1_t2 => k1_hw1.2.2.2.2.2.2.2.2.2.2.2.2.2.2.2.2.2.2.1 k1_t2
theorem k1_off20_inb : ∀ (v7 : BitVec 32) (k1_hw1 : k1_chk1 v7) (k1_t2 : Fin (k1_t2_loop v7).trips), ∀ a, (k1_off20 v7 k1_t2) a + S1x1x16.size a ≤ S2x64x128.size a := fun v7 k1_hw1 k1_t2 => k1_hw1.2.2.2.2.2.2.2.2.2.2.2.2.2.2.2.2.2.2.2 k1_t2

def k1_off21 (v139 : BitVec 32) : Fin 2 → Nat :=
  let c0_i32_64 : BitVec 32 := 0#32
  let v141 : BitVec 1 := Scalar.cmpi .sgt v139 c0_i32_64
  let v142 : BitVec 32 := Scalar.extui v141
  let c0_i32_65 : BitVec 32 := 0#32
  let v143 : BitVec 1 := Scalar.cmpi .slt v139 c0_i32_65
  let v144 : BitVec 32 := Scalar.extui v143
  let v145 : BitVec 32 := Scalar.subi v142 v144
  let c64_i32_63 : BitVec 32 := 64#32
  let c0_i32_66 : BitVec 32 := 0#32
  let v146 : BitVec 1 := Scalar.cmpi .sgt c64_i32_63 c0_i32_66
  let v147 : BitVec 32 := Scalar.extui v146
  let c0_i32_67 : BitVec 32 := 0#32
  let v148 : BitVec 1 := Scalar.cmpi .slt c64_i32_63 c0_i32_67
  let v149 : BitVec 32 := Scalar.extui v148
  let v150 : BitVec 32 := Scalar.subi v147 v149
  let v151 : BitVec 1 := Scalar.cmpi .ne v145 v150
  let v152 : BitVec 32 := Scalar.remsi v139 c64_i32_63
  let c0_i32_68 : BitVec 32 := 0#32
  let v153 : BitVec 1 := Scalar.cmpi .ne v152 c0_i32_68
  let v154 : BitVec 1 := Scalar.andi v151 v153
  let v140 : BitVec 32 := Scalar.divsi v139 c64_i32_63
  let c1_i32_69 : BitVec 32 := 1#32
  let v155 : BitVec 32 := Scalar.subi v140 c1_i32_69
  let v156 : BitVec 32 := Scalar.select v154 v155 v140
  let c64_i32_70 : BitVec 32 := 64#32
  let v157 : BitVec 32 := Scalar.muli v156 c64_i32_70
  let c0_i32_75 : BitVec 32 := 0#32
  ![v157.toNat, 0]

def k1_off22 (v36 : BitVec 32) : Fin 2 → Nat :=
  let c0_i32_80 : BitVec 32 := 0#32
  let v167 : BitVec 1 := Scalar.cmpi .sgt v36 c0_i32_80
  let v168 : BitVec 32 := Scalar.extui v167
  let c0_i32_81 : BitVec 32 := 0#32
  let v169 : BitVec 1 := Scalar.cmpi .slt v36 c0_i32_81
  let v170 : BitVec 32 := Scalar.extui v169
  let v171 : BitVec 32 := Scalar.subi v168 v170
  let c64_i32_79 : BitVec 32 := 64#32
  let c0_i32_82 : BitVec 32 := 0#32
  let v172 : BitVec 1 := Scalar.cmpi .sgt c64_i32_79 c0_i32_82
  let v173 : BitVec 32 := Scalar.extui v172
  let c0_i32_83 : BitVec 32 := 0#32
  let v174 : BitVec 1 := Scalar.cmpi .slt c64_i32_79 c0_i32_83
  let v175 : BitVec 32 := Scalar.extui v174
  let v176 : BitVec 32 := Scalar.subi v173 v175
  let v177 : BitVec 1 := Scalar.cmpi .ne v171 v176
  let v178 : BitVec 32 := Scalar.remsi v36 c64_i32_79
  let c0_i32_84 : BitVec 32 := 0#32
  let v179 : BitVec 1 := Scalar.cmpi .ne v178 c0_i32_84
  let v180 : BitVec 1 := Scalar.andi v177 v179
  let v166 : BitVec 32 := Scalar.divsi v36 c64_i32_79
  let c1_i32_85 : BitVec 32 := 1#32
  let v181 : BitVec 32 := Scalar.subi v166 c1_i32_85
  let v182 : BitVec 32 := Scalar.select v180 v181 v166
  let c64_i32_86 : BitVec 32 := 64#32
  let v183 : BitVec 32 := Scalar.muli v182 c64_i32_86
  let c0_i32_91 : BitVec 32 := 0#32
  ![v183.toNat, 0]
@[reducible] def k1_t3_loop (v36 : BitVec 32) : Scf.Loop 32 :=
  let c0_i32_101 : BitVec 32 := 0#32
  let c64_i32_95 : BitVec 32 := 64#32
  let c0_i32_96 : BitVec 32 := 0#32
  let v192 : BitVec 1 := Scalar.cmpi .eq c64_i32_95 c0_i32_96
  let c1_i32_97 : BitVec 32 := 1#32
  let v193 : BitVec 32 := Scalar.select v192 c1_i32_97 c64_i32_95
  let v194 : BitVec 32 := Scalar.remsi v36 v193
  let c0_i32_99 : BitVec 32 := 0#32
  let v196 : BitVec 1 := Scalar.cmpi .slt v194 c0_i32_99
  let c0_i32_100 : BitVec 32 := 0#32
  let v197 : BitVec 1 := Scalar.cmpi .slt v193 c0_i32_100
  let v198 : BitVec 1 := Scalar.xori v196 v197
  let c0_i32_98 : BitVec 32 := 0#32
  let v195 : BitVec 1 := Scalar.cmpi .ne v194 c0_i32_98
  let v199 : BitVec 1 := Scalar.andi v198 v195
  let v200 : BitVec 32 := Scalar.addi v194 v193
  let v201 : BitVec 32 := Scalar.select v199 v200 v194
  let v202 : BitVec 32 := Scalar.subi v201 c0_i32_101
  let c1_i32_102 : BitVec 32 := 1#32
  let v204 : BitVec 32 := Scalar.divsi v202 c1_i32_102
  let v205 : BitVec 32 := Scalar.muli v204 c1_i32_102
  let v206 : BitVec 32 := Scalar.addi c0_i32_101 v205
  let c1_i32_103 : BitVec 32 := 1#32
  ⟨c0_i32_101, v206, c1_i32_103⟩
def k1_off23 (v36 : BitVec 32) (k1_t3 : Fin (k1_t3_loop v36).trips) : Fin 3 → Nat :=
  let c1_i32_905 : BitVec 32 := 1#32
  let v1656 : Index := Scalar.indexCast c1_i32_905
  let c0_i32_101 : BitVec 32 := 0#32
  let c1_i32_103 : BitVec 32 := 1#32
  let arg9 : BitVec 32 := Scf.iv c0_i32_101 c1_i32_103 k1_t3
  let v1657 : Index := Scalar.indexCast arg9
  let c0_906 : Index := 0#32
  ![1, v1657.toNat, 0]
def k1_off24 (v36 : BitVec 32) (k1_t3 : Fin (k1_t3_loop v36).trips) : Fin 3 → Nat :=
  let c1_i32_907 : BitVec 32 := 1#32
  let v1661 : Index := Scalar.indexCast c1_i32_907
  let c0_i32_101 : BitVec 32 := 0#32
  let c1_i32_103 : BitVec 32 := 1#32
  let arg9 : BitVec 32 := Scf.iv c0_i32_101 c1_i32_103 k1_t3
  let v1662 : Index := Scalar.indexCast arg9
  let c16_908 : Index := 16#32
  ![1, v1662.toNat, 16]
def k1_off25 (v36 : BitVec 32) (k1_t3 : Fin (k1_t3_loop v36).trips) : Fin 3 → Nat :=
  let c1_i32_909 : BitVec 32 := 1#32
  let v1666 : Index := Scalar.indexCast c1_i32_909
  let c0_i32_101 : BitVec 32 := 0#32
  let c1_i32_103 : BitVec 32 := 1#32
  let arg9 : BitVec 32 := Scf.iv c0_i32_101 c1_i32_103 k1_t3
  let v1667 : Index := Scalar.indexCast arg9
  let c32_910 : Index := 32#32
  ![1, v1667.toNat, 32]
def k1_off26 (v36 : BitVec 32) (k1_t3 : Fin (k1_t3_loop v36).trips) : Fin 3 → Nat :=
  let c1_i32_911 : BitVec 32 := 1#32
  let v1671 : Index := Scalar.indexCast c1_i32_911
  let c0_i32_101 : BitVec 32 := 0#32
  let c1_i32_103 : BitVec 32 := 1#32
  let arg9 : BitVec 32 := Scf.iv c0_i32_101 c1_i32_103 k1_t3
  let v1672 : Index := Scalar.indexCast arg9
  let c48_912 : Index := 48#32
  ![1, v1672.toNat, 48]
def k1_off27 (v36 : BitVec 32) (k1_t3 : Fin (k1_t3_loop v36).trips) : Fin 3 → Nat :=
  let c1_i32_913 : BitVec 32 := 1#32
  let v1676 : Index := Scalar.indexCast c1_i32_913
  let c0_i32_101 : BitVec 32 := 0#32
  let c1_i32_103 : BitVec 32 := 1#32
  let arg9 : BitVec 32 := Scf.iv c0_i32_101 c1_i32_103 k1_t3
  let v1677 : Index := Scalar.indexCast arg9
  let c64_914 : Index := 64#32
  ![1, v1677.toNat, 64]
def k1_off28 (v36 : BitVec 32) (k1_t3 : Fin (k1_t3_loop v36).trips) : Fin 3 → Nat :=
  let c1_i32_915 : BitVec 32 := 1#32
  let v1681 : Index := Scalar.indexCast c1_i32_915
  let c0_i32_101 : BitVec 32 := 0#32
  let c1_i32_103 : BitVec 32 := 1#32
  let arg9 : BitVec 32 := Scf.iv c0_i32_101 c1_i32_103 k1_t3
  let v1682 : Index := Scalar.indexCast arg9
  let c80_916 : Index := 80#32
  ![1, v1682.toNat, 80]
def k1_off29 (v36 : BitVec 32) (k1_t3 : Fin (k1_t3_loop v36).trips) : Fin 3 → Nat :=
  let c1_i32_917 : BitVec 32 := 1#32
  let v1686 : Index := Scalar.indexCast c1_i32_917
  let c0_i32_101 : BitVec 32 := 0#32
  let c1_i32_103 : BitVec 32 := 1#32
  let arg9 : BitVec 32 := Scf.iv c0_i32_101 c1_i32_103 k1_t3
  let v1687 : Index := Scalar.indexCast arg9
  let c96_918 : Index := 96#32
  ![1, v1687.toNat, 96]
def k1_off30 (v36 : BitVec 32) (k1_t3 : Fin (k1_t3_loop v36).trips) : Fin 3 → Nat :=
  let c1_i32_919 : BitVec 32 := 1#32
  let v1691 : Index := Scalar.indexCast c1_i32_919
  let c0_i32_101 : BitVec 32 := 0#32
  let c1_i32_103 : BitVec 32 := 1#32
  let arg9 : BitVec 32 := Scf.iv c0_i32_101 c1_i32_103 k1_t3
  let v1692 : Index := Scalar.indexCast arg9
  let c112_920 : Index := 112#32
  ![1, v1692.toNat, 112]
@[reducible] def k1_t4_loop (v36 : BitVec 32) : Scf.Loop 32 :=
  let c0_i32_101 : BitVec 32 := 0#32
  let c64_i32_95 : BitVec 32 := 64#32
  let c0_i32_96 : BitVec 32 := 0#32
  let v192 : BitVec 1 := Scalar.cmpi .eq c64_i32_95 c0_i32_96
  let c1_i32_97 : BitVec 32 := 1#32
  let v193 : BitVec 32 := Scalar.select v192 c1_i32_97 c64_i32_95
  let v194 : BitVec 32 := Scalar.remsi v36 v193
  let c0_i32_99 : BitVec 32 := 0#32
  let v196 : BitVec 1 := Scalar.cmpi .slt v194 c0_i32_99
  let c0_i32_100 : BitVec 32 := 0#32
  let v197 : BitVec 1 := Scalar.cmpi .slt v193 c0_i32_100
  let v198 : BitVec 1 := Scalar.xori v196 v197
  let c0_i32_98 : BitVec 32 := 0#32
  let v195 : BitVec 1 := Scalar.cmpi .ne v194 c0_i32_98
  let v199 : BitVec 1 := Scalar.andi v198 v195
  let v200 : BitVec 32 := Scalar.addi v194 v193
  let v201 : BitVec 32 := Scalar.select v199 v200 v194
  let v202 : BitVec 32 := Scalar.subi v201 c0_i32_101
  let c1_i32_102 : BitVec 32 := 1#32
  let v204 : BitVec 32 := Scalar.divsi v202 c1_i32_102
  let v205 : BitVec 32 := Scalar.muli v204 c1_i32_102
  let v206 : BitVec 32 := Scalar.addi c0_i32_101 v205
  let v203 : BitVec 32 := Scalar.addi c0_i32_101 v202
  let c1_i32_104 : BitVec 32 := 1#32
  ⟨v206, v203, c1_i32_104⟩
def k1_off31 (v36 : BitVec 32) (k1_t4 : Fin (k1_t4_loop v36).trips) : Fin 3 → Nat :=
  let c1_i32_905 : BitVec 32 := 1#32
  let v1656 : Index := Scalar.indexCast c1_i32_905
  let c0_i32_101 : BitVec 32 := 0#32
  let c64_i32_95 : BitVec 32 := 64#32
  let c0_i32_96 : BitVec 32 := 0#32
  let v192 : BitVec 1 := Scalar.cmpi .eq c64_i32_95 c0_i32_96
  let c1_i32_97 : BitVec 32 := 1#32
  let v193 : BitVec 32 := Scalar.select v192 c1_i32_97 c64_i32_95
  let v194 : BitVec 32 := Scalar.remsi v36 v193
  let c0_i32_99 : BitVec 32 := 0#32
  let v196 : BitVec 1 := Scalar.cmpi .slt v194 c0_i32_99
  let c0_i32_100 : BitVec 32 := 0#32
  let v197 : BitVec 1 := Scalar.cmpi .slt v193 c0_i32_100
  let v198 : BitVec 1 := Scalar.xori v196 v197
  let c0_i32_98 : BitVec 32 := 0#32
  let v195 : BitVec 1 := Scalar.cmpi .ne v194 c0_i32_98
  let v199 : BitVec 1 := Scalar.andi v198 v195
  let v200 : BitVec 32 := Scalar.addi v194 v193
  let v201 : BitVec 32 := Scalar.select v199 v200 v194
  let v202 : BitVec 32 := Scalar.subi v201 c0_i32_101
  let c1_i32_102 : BitVec 32 := 1#32
  let v204 : BitVec 32 := Scalar.divsi v202 c1_i32_102
  let v205 : BitVec 32 := Scalar.muli v204 c1_i32_102
  let v206 : BitVec 32 := Scalar.addi c0_i32_101 v205
  let c1_i32_104 : BitVec 32 := 1#32
  let arg9 : BitVec 32 := Scf.iv v206 c1_i32_104 k1_t4
  let v1657 : Index := Scalar.indexCast arg9
  let c0_906 : Index := 0#32
  ![1, v1657.toNat, 0]
def k1_off32 (v36 : BitVec 32) (k1_t4 : Fin (k1_t4_loop v36).trips) : Fin 3 → Nat :=
  let c1_i32_907 : BitVec 32 := 1#32
  let v1661 : Index := Scalar.indexCast c1_i32_907
  let c0_i32_101 : BitVec 32 := 0#32
  let c64_i32_95 : BitVec 32 := 64#32
  let c0_i32_96 : BitVec 32 := 0#32
  let v192 : BitVec 1 := Scalar.cmpi .eq c64_i32_95 c0_i32_96
  let c1_i32_97 : BitVec 32 := 1#32
  let v193 : BitVec 32 := Scalar.select v192 c1_i32_97 c64_i32_95
  let v194 : BitVec 32 := Scalar.remsi v36 v193
  let c0_i32_99 : BitVec 32 := 0#32
  let v196 : BitVec 1 := Scalar.cmpi .slt v194 c0_i32_99
  let c0_i32_100 : BitVec 32 := 0#32
  let v197 : BitVec 1 := Scalar.cmpi .slt v193 c0_i32_100
  let v198 : BitVec 1 := Scalar.xori v196 v197
  let c0_i32_98 : BitVec 32 := 0#32
  let v195 : BitVec 1 := Scalar.cmpi .ne v194 c0_i32_98
  let v199 : BitVec 1 := Scalar.andi v198 v195
  let v200 : BitVec 32 := Scalar.addi v194 v193
  let v201 : BitVec 32 := Scalar.select v199 v200 v194
  let v202 : BitVec 32 := Scalar.subi v201 c0_i32_101
  let c1_i32_102 : BitVec 32 := 1#32
  let v204 : BitVec 32 := Scalar.divsi v202 c1_i32_102
  let v205 : BitVec 32 := Scalar.muli v204 c1_i32_102
  let v206 : BitVec 32 := Scalar.addi c0_i32_101 v205
  let c1_i32_104 : BitVec 32 := 1#32
  let arg9 : BitVec 32 := Scf.iv v206 c1_i32_104 k1_t4
  let v1662 : Index := Scalar.indexCast arg9
  let c16_908 : Index := 16#32
  ![1, v1662.toNat, 16]
def k1_off33 (v36 : BitVec 32) (k1_t4 : Fin (k1_t4_loop v36).trips) : Fin 3 → Nat :=
  let c1_i32_909 : BitVec 32 := 1#32
  let v1666 : Index := Scalar.indexCast c1_i32_909
  let c0_i32_101 : BitVec 32 := 0#32
  let c64_i32_95 : BitVec 32 := 64#32
  let c0_i32_96 : BitVec 32 := 0#32
  let v192 : BitVec 1 := Scalar.cmpi .eq c64_i32_95 c0_i32_96
  let c1_i32_97 : BitVec 32 := 1#32
  let v193 : BitVec 32 := Scalar.select v192 c1_i32_97 c64_i32_95
  let v194 : BitVec 32 := Scalar.remsi v36 v193
  let c0_i32_99 : BitVec 32 := 0#32
  let v196 : BitVec 1 := Scalar.cmpi .slt v194 c0_i32_99
  let c0_i32_100 : BitVec 32 := 0#32
  let v197 : BitVec 1 := Scalar.cmpi .slt v193 c0_i32_100
  let v198 : BitVec 1 := Scalar.xori v196 v197
  let c0_i32_98 : BitVec 32 := 0#32
  let v195 : BitVec 1 := Scalar.cmpi .ne v194 c0_i32_98
  let v199 : BitVec 1 := Scalar.andi v198 v195
  let v200 : BitVec 32 := Scalar.addi v194 v193
  let v201 : BitVec 32 := Scalar.select v199 v200 v194
  let v202 : BitVec 32 := Scalar.subi v201 c0_i32_101
  let c1_i32_102 : BitVec 32 := 1#32
  let v204 : BitVec 32 := Scalar.divsi v202 c1_i32_102
  let v205 : BitVec 32 := Scalar.muli v204 c1_i32_102
  let v206 : BitVec 32 := Scalar.addi c0_i32_101 v205
  let c1_i32_104 : BitVec 32 := 1#32
  let arg9 : BitVec 32 := Scf.iv v206 c1_i32_104 k1_t4
  let v1667 : Index := Scalar.indexCast arg9
  let c32_910 : Index := 32#32
  ![1, v1667.toNat, 32]
def k1_off34 (v36 : BitVec 32) (k1_t4 : Fin (k1_t4_loop v36).trips) : Fin 3 → Nat :=
  let c1_i32_911 : BitVec 32 := 1#32
  let v1671 : Index := Scalar.indexCast c1_i32_911
  let c0_i32_101 : BitVec 32 := 0#32
  let c64_i32_95 : BitVec 32 := 64#32
  let c0_i32_96 : BitVec 32 := 0#32
  let v192 : BitVec 1 := Scalar.cmpi .eq c64_i32_95 c0_i32_96
  let c1_i32_97 : BitVec 32 := 1#32
  let v193 : BitVec 32 := Scalar.select v192 c1_i32_97 c64_i32_95
  let v194 : BitVec 32 := Scalar.remsi v36 v193
  let c0_i32_99 : BitVec 32 := 0#32
  let v196 : BitVec 1 := Scalar.cmpi .slt v194 c0_i32_99
  let c0_i32_100 : BitVec 32 := 0#32
  let v197 : BitVec 1 := Scalar.cmpi .slt v193 c0_i32_100
  let v198 : BitVec 1 := Scalar.xori v196 v197
  let c0_i32_98 : BitVec 32 := 0#32
  let v195 : BitVec 1 := Scalar.cmpi .ne v194 c0_i32_98
  let v199 : BitVec 1 := Scalar.andi v198 v195
  let v200 : BitVec 32 := Scalar.addi v194 v193
  let v201 : BitVec 32 := Scalar.select v199 v200 v194
  let v202 : BitVec 32 := Scalar.subi v201 c0_i32_101
  let c1_i32_102 : BitVec 32 := 1#32
  let v204 : BitVec 32 := Scalar.divsi v202 c1_i32_102
  let v205 : BitVec 32 := Scalar.muli v204 c1_i32_102
  let v206 : BitVec 32 := Scalar.addi c0_i32_101 v205
  let c1_i32_104 : BitVec 32 := 1#32
  let arg9 : BitVec 32 := Scf.iv v206 c1_i32_104 k1_t4
  let v1672 : Index := Scalar.indexCast arg9
  let c48_912 : Index := 48#32
  ![1, v1672.toNat, 48]
def k1_off35 (v36 : BitVec 32) (k1_t4 : Fin (k1_t4_loop v36).trips) : Fin 3 → Nat :=
  let c1_i32_913 : BitVec 32 := 1#32
  let v1676 : Index := Scalar.indexCast c1_i32_913
  let c0_i32_101 : BitVec 32 := 0#32
  let c64_i32_95 : BitVec 32 := 64#32
  let c0_i32_96 : BitVec 32 := 0#32
  let v192 : BitVec 1 := Scalar.cmpi .eq c64_i32_95 c0_i32_96
  let c1_i32_97 : BitVec 32 := 1#32
  let v193 : BitVec 32 := Scalar.select v192 c1_i32_97 c64_i32_95
  let v194 : BitVec 32 := Scalar.remsi v36 v193
  let c0_i32_99 : BitVec 32 := 0#32
  let v196 : BitVec 1 := Scalar.cmpi .slt v194 c0_i32_99
  let c0_i32_100 : BitVec 32 := 0#32
  let v197 : BitVec 1 := Scalar.cmpi .slt v193 c0_i32_100
  let v198 : BitVec 1 := Scalar.xori v196 v197
  let c0_i32_98 : BitVec 32 := 0#32
  let v195 : BitVec 1 := Scalar.cmpi .ne v194 c0_i32_98
  let v199 : BitVec 1 := Scalar.andi v198 v195
  let v200 : BitVec 32 := Scalar.addi v194 v193
  let v201 : BitVec 32 := Scalar.select v199 v200 v194
  let v202 : BitVec 32 := Scalar.subi v201 c0_i32_101
  let c1_i32_102 : BitVec 32 := 1#32
  let v204 : BitVec 32 := Scalar.divsi v202 c1_i32_102
  let v205 : BitVec 32 := Scalar.muli v204 c1_i32_102
  let v206 : BitVec 32 := Scalar.addi c0_i32_101 v205
  let c1_i32_104 : BitVec 32 := 1#32
  let arg9 : BitVec 32 := Scf.iv v206 c1_i32_104 k1_t4
  let v1677 : Index := Scalar.indexCast arg9
  let c64_914 : Index := 64#32
  ![1, v1677.toNat, 64]
def k1_off36 (v36 : BitVec 32) (k1_t4 : Fin (k1_t4_loop v36).trips) : Fin 3 → Nat :=
  let c1_i32_915 : BitVec 32 := 1#32
  let v1681 : Index := Scalar.indexCast c1_i32_915
  let c0_i32_101 : BitVec 32 := 0#32
  let c64_i32_95 : BitVec 32 := 64#32
  let c0_i32_96 : BitVec 32 := 0#32
  let v192 : BitVec 1 := Scalar.cmpi .eq c64_i32_95 c0_i32_96
  let c1_i32_97 : BitVec 32 := 1#32
  let v193 : BitVec 32 := Scalar.select v192 c1_i32_97 c64_i32_95
  let v194 : BitVec 32 := Scalar.remsi v36 v193
  let c0_i32_99 : BitVec 32 := 0#32
  let v196 : BitVec 1 := Scalar.cmpi .slt v194 c0_i32_99
  let c0_i32_100 : BitVec 32 := 0#32
  let v197 : BitVec 1 := Scalar.cmpi .slt v193 c0_i32_100
  let v198 : BitVec 1 := Scalar.xori v196 v197
  let c0_i32_98 : BitVec 32 := 0#32
  let v195 : BitVec 1 := Scalar.cmpi .ne v194 c0_i32_98
  let v199 : BitVec 1 := Scalar.andi v198 v195
  let v200 : BitVec 32 := Scalar.addi v194 v193
  let v201 : BitVec 32 := Scalar.select v199 v200 v194
  let v202 : BitVec 32 := Scalar.subi v201 c0_i32_101
  let c1_i32_102 : BitVec 32 := 1#32
  let v204 : BitVec 32 := Scalar.divsi v202 c1_i32_102
  let v205 : BitVec 32 := Scalar.muli v204 c1_i32_102
  let v206 : BitVec 32 := Scalar.addi c0_i32_101 v205
  let c1_i32_104 : BitVec 32 := 1#32
  let arg9 : BitVec 32 := Scf.iv v206 c1_i32_104 k1_t4
  let v1682 : Index := Scalar.indexCast arg9
  let c80_916 : Index := 80#32
  ![1, v1682.toNat, 80]
def k1_off37 (v36 : BitVec 32) (k1_t4 : Fin (k1_t4_loop v36).trips) : Fin 3 → Nat :=
  let c1_i32_917 : BitVec 32 := 1#32
  let v1686 : Index := Scalar.indexCast c1_i32_917
  let c0_i32_101 : BitVec 32 := 0#32
  let c64_i32_95 : BitVec 32 := 64#32
  let c0_i32_96 : BitVec 32 := 0#32
  let v192 : BitVec 1 := Scalar.cmpi .eq c64_i32_95 c0_i32_96
  let c1_i32_97 : BitVec 32 := 1#32
  let v193 : BitVec 32 := Scalar.select v192 c1_i32_97 c64_i32_95
  let v194 : BitVec 32 := Scalar.remsi v36 v193
  let c0_i32_99 : BitVec 32 := 0#32
  let v196 : BitVec 1 := Scalar.cmpi .slt v194 c0_i32_99
  let c0_i32_100 : BitVec 32 := 0#32
  let v197 : BitVec 1 := Scalar.cmpi .slt v193 c0_i32_100
  let v198 : BitVec 1 := Scalar.xori v196 v197
  let c0_i32_98 : BitVec 32 := 0#32
  let v195 : BitVec 1 := Scalar.cmpi .ne v194 c0_i32_98
  let v199 : BitVec 1 := Scalar.andi v198 v195
  let v200 : BitVec 32 := Scalar.addi v194 v193
  let v201 : BitVec 32 := Scalar.select v199 v200 v194
  let v202 : BitVec 32 := Scalar.subi v201 c0_i32_101
  let c1_i32_102 : BitVec 32 := 1#32
  let v204 : BitVec 32 := Scalar.divsi v202 c1_i32_102
  let v205 : BitVec 32 := Scalar.muli v204 c1_i32_102
  let v206 : BitVec 32 := Scalar.addi c0_i32_101 v205
  let c1_i32_104 : BitVec 32 := 1#32
  let arg9 : BitVec 32 := Scf.iv v206 c1_i32_104 k1_t4
  let v1687 : Index := Scalar.indexCast arg9
  let c96_918 : Index := 96#32
  ![1, v1687.toNat, 96]
def k1_off38 (v36 : BitVec 32) (k1_t4 : Fin (k1_t4_loop v36).trips) : Fin 3 → Nat :=
  let c1_i32_919 : BitVec 32 := 1#32
  let v1691 : Index := Scalar.indexCast c1_i32_919
  let c0_i32_101 : BitVec 32 := 0#32
  let c64_i32_95 : BitVec 32 := 64#32
  let c0_i32_96 : BitVec 32 := 0#32
  let v192 : BitVec 1 := Scalar.cmpi .eq c64_i32_95 c0_i32_96
  let c1_i32_97 : BitVec 32 := 1#32
  let v193 : BitVec 32 := Scalar.select v192 c1_i32_97 c64_i32_95
  let v194 : BitVec 32 := Scalar.remsi v36 v193
  let c0_i32_99 : BitVec 32 := 0#32
  let v196 : BitVec 1 := Scalar.cmpi .slt v194 c0_i32_99
  let c0_i32_100 : BitVec 32 := 0#32
  let v197 : BitVec 1 := Scalar.cmpi .slt v193 c0_i32_100
  let v198 : BitVec 1 := Scalar.xori v196 v197
  let c0_i32_98 : BitVec 32 := 0#32
  let v195 : BitVec 1 := Scalar.cmpi .ne v194 c0_i32_98
  let v199 : BitVec 1 := Scalar.andi v198 v195
  let v200 : BitVec 32 := Scalar.addi v194 v193
  let v201 : BitVec 32 := Scalar.select v199 v200 v194
  let v202 : BitVec 32 := Scalar.subi v201 c0_i32_101
  let c1_i32_102 : BitVec 32 := 1#32
  let v204 : BitVec 32 := Scalar.divsi v202 c1_i32_102
  let v205 : BitVec 32 := Scalar.muli v204 c1_i32_102
  let v206 : BitVec 32 := Scalar.addi c0_i32_101 v205
  let c1_i32_104 : BitVec 32 := 1#32
  let arg9 : BitVec 32 := Scf.iv v206 c1_i32_104 k1_t4
  let v1692 : Index := Scalar.indexCast arg9
  let c112_920 : Index := 112#32
  ![1, v1692.toNat, 112]

def k1_chk2 (v36 : BitVec 32) : Prop :=
  (∀ a, (k1_off3 v36) a + S64x128.size a ≤ S320000x128.size a) ∧
  (∀ a, (k1_off22 v36) a + S64x128.size a ≤ S320000x128.size a) ∧
  ((k1_t3_loop v36).OK) ∧
  (∀ k1_t3 : Fin (k1_t3_loop v36).trips, ∀ a, (k1_off23 v36 k1_t3) a + S1x1x16.size a ≤ S2x64x128.size a) ∧
  (∀ k1_t3 : Fin (k1_t3_loop v36).trips, ∀ a, (k1_off24 v36 k1_t3) a + S1x1x16.size a ≤ S2x64x128.size a) ∧
  (∀ k1_t3 : Fin (k1_t3_loop v36).trips, ∀ a, (k1_off25 v36 k1_t3) a + S1x1x16.size a ≤ S2x64x128.size a) ∧
  (∀ k1_t3 : Fin (k1_t3_loop v36).trips, ∀ a, (k1_off26 v36 k1_t3) a + S1x1x16.size a ≤ S2x64x128.size a) ∧
  (∀ k1_t3 : Fin (k1_t3_loop v36).trips, ∀ a, (k1_off27 v36 k1_t3) a + S1x1x16.size a ≤ S2x64x128.size a) ∧
  (∀ k1_t3 : Fin (k1_t3_loop v36).trips, ∀ a, (k1_off28 v36 k1_t3) a + S1x1x16.size a ≤ S2x64x128.size a) ∧
  (∀ k1_t3 : Fin (k1_t3_loop v36).trips, ∀ a, (k1_off29 v36 k1_t3) a + S1x1x16.size a ≤ S2x64x128.size a) ∧
  (∀ k1_t3 : Fin (k1_t3_loop v36).trips, ∀ a, (k1_off30 v36 k1_t3) a + S1x1x16.size a ≤ S2x64x128.size a) ∧
  ((k1_t4_loop v36).OK) ∧
  (∀ k1_t4 : Fin (k1_t4_loop v36).trips, ∀ a, (k1_off31 v36 k1_t4) a + S1x1x16.size a ≤ S2x64x128.size a) ∧
  (∀ k1_t4 : Fin (k1_t4_loop v36).trips, ∀ a, (k1_off32 v36 k1_t4) a + S1x1x16.size a ≤ S2x64x128.size a) ∧
  (∀ k1_t4 : Fin (k1_t4_loop v36).trips, ∀ a, (k1_off33 v36 k1_t4) a + S1x1x16.size a ≤ S2x64x128.size a) ∧
  (∀ k1_t4 : Fin (k1_t4_loop v36).trips, ∀ a, (k1_off34 v36 k1_t4) a + S1x1x16.size a ≤ S2x64x128.size a) ∧
  (∀ k1_t4 : Fin (k1_t4_loop v36).trips, ∀ a, (k1_off35 v36 k1_t4) a + S1x1x16.size a ≤ S2x64x128.size a) ∧
  (∀ k1_t4 : Fin (k1_t4_loop v36).trips, ∀ a, (k1_off36 v36 k1_t4) a + S1x1x16.size a ≤ S2x64x128.size a) ∧
  (∀ k1_t4 : Fin (k1_t4_loop v36).trips, ∀ a, (k1_off37 v36 k1_t4) a + S1x1x16.size a ≤ S2x64x128.size a) ∧
  (∀ k1_t4 : Fin (k1_t4_loop v36).trips, ∀ a, (k1_off38 v36 k1_t4) a + S1x1x16.size a ≤ S2x64x128.size a)
theorem k1_off3_inb : ∀ (v36 : BitVec 32) (k1_hw2 : k1_chk2 v36), ∀ a, (k1_off3 v36) a + S64x128.size a ≤ S320000x128.size a := fun v36 k1_hw2 => k1_hw2.1
theorem k1_off22_inb : ∀ (v36 : BitVec 32) (k1_hw2 : k1_chk2 v36), ∀ a, (k1_off22 v36) a + S64x128.size a ≤ S320000x128.size a := fun v36 k1_hw2 => k1_hw2.2.1
theorem k1_t3_ok : ∀ (v36 : BitVec 32) (k1_hw2 : k1_chk2 v36), (k1_t3_loop v36).OK := fun v36 k1_hw2 => k1_hw2.2.2.1
theorem k1_off23_inb : ∀ (v36 : BitVec 32) (k1_hw2 : k1_chk2 v36) (k1_t3 : Fin (k1_t3_loop v36).trips), ∀ a, (k1_off23 v36 k1_t3) a + S1x1x16.size a ≤ S2x64x128.size a := fun v36 k1_hw2 k1_t3 => k1_hw2.2.2.2.1 k1_t3
theorem k1_off24_inb : ∀ (v36 : BitVec 32) (k1_hw2 : k1_chk2 v36) (k1_t3 : Fin (k1_t3_loop v36).trips), ∀ a, (k1_off24 v36 k1_t3) a + S1x1x16.size a ≤ S2x64x128.size a := fun v36 k1_hw2 k1_t3 => k1_hw2.2.2.2.2.1 k1_t3
theorem k1_off25_inb : ∀ (v36 : BitVec 32) (k1_hw2 : k1_chk2 v36) (k1_t3 : Fin (k1_t3_loop v36).trips), ∀ a, (k1_off25 v36 k1_t3) a + S1x1x16.size a ≤ S2x64x128.size a := fun v36 k1_hw2 k1_t3 => k1_hw2.2.2.2.2.2.1 k1_t3
theorem k1_off26_inb : ∀ (v36 : BitVec 32) (k1_hw2 : k1_chk2 v36) (k1_t3 : Fin (k1_t3_loop v36).trips), ∀ a, (k1_off26 v36 k1_t3) a + S1x1x16.size a ≤ S2x64x128.size a := fun v36 k1_hw2 k1_t3 => k1_hw2.2.2.2.2.2.2.1 k1_t3
theorem k1_off27_inb : ∀ (v36 : BitVec 32) (k1_hw2 : k1_chk2 v36) (k1_t3 : Fin (k1_t3_loop v36).trips), ∀ a, (k1_off27 v36 k1_t3) a + S1x1x16.size a ≤ S2x64x128.size a := fun v36 k1_hw2 k1_t3 => k1_hw2.2.2.2.2.2.2.2.1 k1_t3
theorem k1_off28_inb : ∀ (v36 : BitVec 32) (k1_hw2 : k1_chk2 v36) (k1_t3 : Fin (k1_t3_loop v36).trips), ∀ a, (k1_off28 v36 k1_t3) a + S1x1x16.size a ≤ S2x64x128.size a := fun v36 k1_hw2 k1_t3 => k1_hw2.2.2.2.2.2.2.2.2.1 k1_t3
theorem k1_off29_inb : ∀ (v36 : BitVec 32) (k1_hw2 : k1_chk2 v36) (k1_t3 : Fin (k1_t3_loop v36).trips), ∀ a, (k1_off29 v36 k1_t3) a + S1x1x16.size a ≤ S2x64x128.size a := fun v36 k1_hw2 k1_t3 => k1_hw2.2.2.2.2.2.2.2.2.2.1 k1_t3
theorem k1_off30_inb : ∀ (v36 : BitVec 32) (k1_hw2 : k1_chk2 v36) (k1_t3 : Fin (k1_t3_loop v36).trips), ∀ a, (k1_off30 v36 k1_t3) a + S1x1x16.size a ≤ S2x64x128.size a := fun v36 k1_hw2 k1_t3 => k1_hw2.2.2.2.2.2.2.2.2.2.2.1 k1_t3
theorem k1_t4_ok : ∀ (v36 : BitVec 32) (k1_hw2 : k1_chk2 v36), (k1_t4_loop v36).OK := fun v36 k1_hw2 => k1_hw2.2.2.2.2.2.2.2.2.2.2.2.1
theorem k1_off31_inb : ∀ (v36 : BitVec 32) (k1_hw2 : k1_chk2 v36) (k1_t4 : Fin (k1_t4_loop v36).trips), ∀ a, (k1_off31 v36 k1_t4) a + S1x1x16.size a ≤ S2x64x128.size a := fun v36 k1_hw2 k1_t4 => k1_hw2.2.2.2.2.2.2.2.2.2.2.2.2.1 k1_t4
theorem k1_off32_inb : ∀ (v36 : BitVec 32) (k1_hw2 : k1_chk2 v36) (k1_t4 : Fin (k1_t4_loop v36).trips), ∀ a, (k1_off32 v36 k1_t4) a + S1x1x16.size a ≤ S2x64x128.size a := fun v36 k1_hw2 k1_t4 => k1_hw2.2.2.2.2.2.2.2.2.2.2.2.2.2.1 k1_t4
theorem k1_off33_inb : ∀ (v36 : BitVec 32) (k1_hw2 : k1_chk2 v36) (k1_t4 : Fin (k1_t4_loop v36).trips), ∀ a, (k1_off33 v36 k1_t4) a + S1x1x16.size a ≤ S2x64x128.size a := fun v36 k1_hw2 k1_t4 => k1_hw2.2.2.2.2.2.2.2.2.2.2.2.2.2.2.1 k1_t4
theorem k1_off34_inb : ∀ (v36 : BitVec 32) (k1_hw2 : k1_chk2 v36) (k1_t4 : Fin (k1_t4_loop v36).trips), ∀ a, (k1_off34 v36 k1_t4) a + S1x1x16.size a ≤ S2x64x128.size a := fun v36 k1_hw2 k1_t4 => k1_hw2.2.2.2.2.2.2.2.2.2.2.2.2.2.2.2.1 k1_t4
theorem k1_off35_inb : ∀ (v36 : BitVec 32) (k1_hw2 : k1_chk2 v36) (k1_t4 : Fin (k1_t4_loop v36).trips), ∀ a, (k1_off35 v36 k1_t4) a + S1x1x16.size a ≤ S2x64x128.size a := fun v36 k1_hw2 k1_t4 => k1_hw2.2.2.2.2.2.2.2.2.2.2.2.2.2.2.2.2.1 k1_t4
theorem k1_off36_inb : ∀ (v36 : BitVec 32) (k1_hw2 : k1_chk2 v36) (k1_t4 : Fin (k1_t4_loop v36).trips), ∀ a, (k1_off36 v36 k1_t4) a + S1x1x16.size a ≤ S2x64x128.size a := fun v36 k1_hw2 k1_t4 => k1_hw2.2.2.2.2.2.2.2.2.2.2.2.2.2.2.2.2.2.1 k1_t4
theorem k1_off37_inb : ∀ (v36 : BitVec 32) (k1_hw2 : k1_chk2 v36) (k1_t4 : Fin (k1_t4_loop v36).trips), ∀ a, (k1_off37 v36 k1_t4) a + S1x1x16.size a ≤ S2x64x128.size a := fun v36 k1_hw2 k1_t4 => k1_hw2.2.2.2.2.2.2.2.2.2.2.2.2.2.2.2.2.2.2.1 k1_t4
theorem k1_off38_inb : ∀ (v36 : BitVec 32) (k1_hw2 : k1_chk2 v36) (k1_t4 : Fin (k1_t4_loop v36).trips), ∀ a, (k1_off38 v36 k1_t4) a + S1x1x16.size a ≤ S2x64x128.size a := fun v36 k1_hw2 k1_t4 => k1_hw2.2.2.2.2.2.2.2.2.2.2.2.2.2.2.2.2.2.2.2 k1_t4

def k1_off39 (v242 : BitVec 32) : Fin 2 → Nat :=
  let c0_i32_122 : BitVec 32 := 0#32
  let v244 : BitVec 1 := Scalar.cmpi .sgt v242 c0_i32_122
  let v245 : BitVec 32 := Scalar.extui v244
  let c0_i32_123 : BitVec 32 := 0#32
  let v246 : BitVec 1 := Scalar.cmpi .slt v242 c0_i32_123
  let v247 : BitVec 32 := Scalar.extui v246
  let v248 : BitVec 32 := Scalar.subi v245 v247
  let c64_i32_121 : BitVec 32 := 64#32
  let c0_i32_124 : BitVec 32 := 0#32
  let v249 : BitVec 1 := Scalar.cmpi .sgt c64_i32_121 c0_i32_124
  let v250 : BitVec 32 := Scalar.extui v249
  let c0_i32_125 : BitVec 32 := 0#32
  let v251 : BitVec 1 := Scalar.cmpi .slt c64_i32_121 c0_i32_125
  let v252 : BitVec 32 := Scalar.extui v251
  let v253 : BitVec 32 := Scalar.subi v250 v252
  let v254 : BitVec 1 := Scalar.cmpi .ne v248 v253
  let v255 : BitVec 32 := Scalar.remsi v242 c64_i32_121
  let c0_i32_126 : BitVec 32 := 0#32
  let v256 : BitVec 1 := Scalar.cmpi .ne v255 c0_i32_126
  let v257 : BitVec 1 := Scalar.andi v254 v256
  let v243 : BitVec 32 := Scalar.divsi v242 c64_i32_121
  let c1_i32_127 : BitVec 32 := 1#32
  let v258 : BitVec 32 := Scalar.subi v243 c1_i32_127
  let v259 : BitVec 32 := Scalar.select v257 v258 v243
  let c64_i32_128 : BitVec 32 := 64#32
  let v260 : BitVec 32 := Scalar.muli v259 c64_i32_128
  let c0_i32_133 : BitVec 32 := 0#32
  ![v260.toNat, 0]

def k1_off40 (v139 : BitVec 32) : Fin 2 → Nat :=
  let c0_i32_138 : BitVec 32 := 0#32
  let v270 : BitVec 1 := Scalar.cmpi .sgt v139 c0_i32_138
  let v271 : BitVec 32 := Scalar.extui v270
  let c0_i32_139 : BitVec 32 := 0#32
  let v272 : BitVec 1 := Scalar.cmpi .slt v139 c0_i32_139
  let v273 : BitVec 32 := Scalar.extui v272
  let v274 : BitVec 32 := Scalar.subi v271 v273
  let c64_i32_137 : BitVec 32 := 64#32
  let c0_i32_140 : BitVec 32 := 0#32
  let v275 : BitVec 1 := Scalar.cmpi .sgt c64_i32_137 c0_i32_140
  let v276 : BitVec 32 := Scalar.extui v275
  let c0_i32_141 : BitVec 32 := 0#32
  let v277 : BitVec 1 := Scalar.cmpi .slt c64_i32_137 c0_i32_141
  let v278 : BitVec 32 := Scalar.extui v277
  let v279 : BitVec 32 := Scalar.subi v276 v278
  let v280 : BitVec 1 := Scalar.cmpi .ne v274 v279
  let v281 : BitVec 32 := Scalar.remsi v139 c64_i32_137
  let c0_i32_142 : BitVec 32 := 0#32
  let v282 : BitVec 1 := Scalar.cmpi .ne v281 c0_i32_142
  let v283 : BitVec 1 := Scalar.andi v280 v282
  let v269 : BitVec 32 := Scalar.divsi v139 c64_i32_137
  let c1_i32_143 : BitVec 32 := 1#32
  let v284 : BitVec 32 := Scalar.subi v269 c1_i32_143
  let v285 : BitVec 32 := Scalar.select v283 v284 v269
  let c64_i32_144 : BitVec 32 := 64#32
  let v286 : BitVec 32 := Scalar.muli v285 c64_i32_144
  let c0_i32_149 : BitVec 32 := 0#32
  ![v286.toNat, 0]
@[reducible] def k1_t5_loop (v139 : BitVec 32) : Scf.Loop 32 :=
  let c0_i32_159 : BitVec 32 := 0#32
  let c64_i32_153 : BitVec 32 := 64#32
  let c0_i32_154 : BitVec 32 := 0#32
  let v295 : BitVec 1 := Scalar.cmpi .eq c64_i32_153 c0_i32_154
  let c1_i32_155 : BitVec 32 := 1#32
  let v296 : BitVec 32 := Scalar.select v295 c1_i32_155 c64_i32_153
  let v297 : BitVec 32 := Scalar.remsi v139 v296
  let c0_i32_157 : BitVec 32 := 0#32
  let v299 : BitVec 1 := Scalar.cmpi .slt v297 c0_i32_157
  let c0_i32_158 : BitVec 32 := 0#32
  let v300 : BitVec 1 := Scalar.cmpi .slt v296 c0_i32_158
  let v301 : BitVec 1 := Scalar.xori v299 v300
  let c0_i32_156 : BitVec 32 := 0#32
  let v298 : BitVec 1 := Scalar.cmpi .ne v297 c0_i32_156
  let v302 : BitVec 1 := Scalar.andi v301 v298
  let v303 : BitVec 32 := Scalar.addi v297 v296
  let v304 : BitVec 32 := Scalar.select v302 v303 v297
  let v305 : BitVec 32 := Scalar.subi v304 c0_i32_159
  let c1_i32_160 : BitVec 32 := 1#32
  let v307 : BitVec 32 := Scalar.divsi v305 c1_i32_160
  let v308 : BitVec 32 := Scalar.muli v307 c1_i32_160
  let v309 : BitVec 32 := Scalar.addi c0_i32_159 v308
  let c1_i32_161 : BitVec 32 := 1#32
  ⟨c0_i32_159, v309, c1_i32_161⟩
def k1_off41 (v139 : BitVec 32) (k1_t5 : Fin (k1_t5_loop v139).trips) : Fin 3 → Nat :=
  let c0_i32_905 : BitVec 32 := 0#32
  let v1656 : Index := Scalar.indexCast c0_i32_905
  let c0_i32_159 : BitVec 32 := 0#32
  let c1_i32_161 : BitVec 32 := 1#32
  let arg9 : BitVec 32 := Scf.iv c0_i32_159 c1_i32_161 k1_t5
  let v1657 : Index := Scalar.indexCast arg9
  let c0_906 : Index := 0#32
  ![0, v1657.toNat, 0]
def k1_off42 (v139 : BitVec 32) (k1_t5 : Fin (k1_t5_loop v139).trips) : Fin 3 → Nat :=
  let c0_i32_907 : BitVec 32 := 0#32
  let v1661 : Index := Scalar.indexCast c0_i32_907
  let c0_i32_159 : BitVec 32 := 0#32
  let c1_i32_161 : BitVec 32 := 1#32
  let arg9 : BitVec 32 := Scf.iv c0_i32_159 c1_i32_161 k1_t5
  let v1662 : Index := Scalar.indexCast arg9
  let c16_908 : Index := 16#32
  ![0, v1662.toNat, 16]
def k1_off43 (v139 : BitVec 32) (k1_t5 : Fin (k1_t5_loop v139).trips) : Fin 3 → Nat :=
  let c0_i32_909 : BitVec 32 := 0#32
  let v1666 : Index := Scalar.indexCast c0_i32_909
  let c0_i32_159 : BitVec 32 := 0#32
  let c1_i32_161 : BitVec 32 := 1#32
  let arg9 : BitVec 32 := Scf.iv c0_i32_159 c1_i32_161 k1_t5
  let v1667 : Index := Scalar.indexCast arg9
  let c32_910 : Index := 32#32
  ![0, v1667.toNat, 32]
def k1_off44 (v139 : BitVec 32) (k1_t5 : Fin (k1_t5_loop v139).trips) : Fin 3 → Nat :=
  let c0_i32_911 : BitVec 32 := 0#32
  let v1671 : Index := Scalar.indexCast c0_i32_911
  let c0_i32_159 : BitVec 32 := 0#32
  let c1_i32_161 : BitVec 32 := 1#32
  let arg9 : BitVec 32 := Scf.iv c0_i32_159 c1_i32_161 k1_t5
  let v1672 : Index := Scalar.indexCast arg9
  let c48_912 : Index := 48#32
  ![0, v1672.toNat, 48]
def k1_off45 (v139 : BitVec 32) (k1_t5 : Fin (k1_t5_loop v139).trips) : Fin 3 → Nat :=
  let c0_i32_913 : BitVec 32 := 0#32
  let v1676 : Index := Scalar.indexCast c0_i32_913
  let c0_i32_159 : BitVec 32 := 0#32
  let c1_i32_161 : BitVec 32 := 1#32
  let arg9 : BitVec 32 := Scf.iv c0_i32_159 c1_i32_161 k1_t5
  let v1677 : Index := Scalar.indexCast arg9
  let c64_914 : Index := 64#32
  ![0, v1677.toNat, 64]
def k1_off46 (v139 : BitVec 32) (k1_t5 : Fin (k1_t5_loop v139).trips) : Fin 3 → Nat :=
  let c0_i32_915 : BitVec 32 := 0#32
  let v1681 : Index := Scalar.indexCast c0_i32_915
  let c0_i32_159 : BitVec 32 := 0#32
  let c1_i32_161 : BitVec 32 := 1#32
  let arg9 : BitVec 32 := Scf.iv c0_i32_159 c1_i32_161 k1_t5
  let v1682 : Index := Scalar.indexCast arg9
  let c80_916 : Index := 80#32
  ![0, v1682.toNat, 80]
def k1_off47 (v139 : BitVec 32) (k1_t5 : Fin (k1_t5_loop v139).trips) : Fin 3 → Nat :=
  let c0_i32_917 : BitVec 32 := 0#32
  let v1686 : Index := Scalar.indexCast c0_i32_917
  let c0_i32_159 : BitVec 32 := 0#32
  let c1_i32_161 : BitVec 32 := 1#32
  let arg9 : BitVec 32 := Scf.iv c0_i32_159 c1_i32_161 k1_t5
  let v1687 : Index := Scalar.indexCast arg9
  let c96_918 : Index := 96#32
  ![0, v1687.toNat, 96]
def k1_off48 (v139 : BitVec 32) (k1_t5 : Fin (k1_t5_loop v139).trips) : Fin 3 → Nat :=
  let c0_i32_919 : BitVec 32 := 0#32
  let v1691 : Index := Scalar.indexCast c0_i32_919
  let c0_i32_159 : BitVec 32 := 0#32
  let c1_i32_161 : BitVec 32 := 1#32
  let arg9 : BitVec 32 := Scf.iv c0_i32_159 c1_i32_161 k1_t5
  let v1692 : Index := Scalar.indexCast arg9
  let c112_920 : Index := 112#32
  ![0, v1692.toNat, 112]
@[reducible] def k1_t6_loop (v139 : BitVec 32) : Scf.Loop 32 :=
  let c0_i32_159 : BitVec 32 := 0#32
  let c64_i32_153 : BitVec 32 := 64#32
  let c0_i32_154 : BitVec 32 := 0#32
  let v295 : BitVec 1 := Scalar.cmpi .eq c64_i32_153 c0_i32_154
  let c1_i32_155 : BitVec 32 := 1#32
  let v296 : BitVec 32 := Scalar.select v295 c1_i32_155 c64_i32_153
  let v297 : BitVec 32 := Scalar.remsi v139 v296
  let c0_i32_157 : BitVec 32 := 0#32
  let v299 : BitVec 1 := Scalar.cmpi .slt v297 c0_i32_157
  let c0_i32_158 : BitVec 32 := 0#32
  let v300 : BitVec 1 := Scalar.cmpi .slt v296 c0_i32_158
  let v301 : BitVec 1 := Scalar.xori v299 v300
  let c0_i32_156 : BitVec 32 := 0#32
  let v298 : BitVec 1 := Scalar.cmpi .ne v297 c0_i32_156
  let v302 : BitVec 1 := Scalar.andi v301 v298
  let v303 : BitVec 32 := Scalar.addi v297 v296
  let v304 : BitVec 32 := Scalar.select v302 v303 v297
  let v305 : BitVec 32 := Scalar.subi v304 c0_i32_159
  let c1_i32_160 : BitVec 32 := 1#32
  let v307 : BitVec 32 := Scalar.divsi v305 c1_i32_160
  let v308 : BitVec 32 := Scalar.muli v307 c1_i32_160
  let v309 : BitVec 32 := Scalar.addi c0_i32_159 v308
  let v306 : BitVec 32 := Scalar.addi c0_i32_159 v305
  let c1_i32_162 : BitVec 32 := 1#32
  ⟨v309, v306, c1_i32_162⟩
def k1_off49 (v139 : BitVec 32) (k1_t6 : Fin (k1_t6_loop v139).trips) : Fin 3 → Nat :=
  let c0_i32_905 : BitVec 32 := 0#32
  let v1656 : Index := Scalar.indexCast c0_i32_905
  let c0_i32_159 : BitVec 32 := 0#32
  let c64_i32_153 : BitVec 32 := 64#32
  let c0_i32_154 : BitVec 32 := 0#32
  let v295 : BitVec 1 := Scalar.cmpi .eq c64_i32_153 c0_i32_154
  let c1_i32_155 : BitVec 32 := 1#32
  let v296 : BitVec 32 := Scalar.select v295 c1_i32_155 c64_i32_153
  let v297 : BitVec 32 := Scalar.remsi v139 v296
  let c0_i32_157 : BitVec 32 := 0#32
  let v299 : BitVec 1 := Scalar.cmpi .slt v297 c0_i32_157
  let c0_i32_158 : BitVec 32 := 0#32
  let v300 : BitVec 1 := Scalar.cmpi .slt v296 c0_i32_158
  let v301 : BitVec 1 := Scalar.xori v299 v300
  let c0_i32_156 : BitVec 32 := 0#32
  let v298 : BitVec 1 := Scalar.cmpi .ne v297 c0_i32_156
  let v302 : BitVec 1 := Scalar.andi v301 v298
  let v303 : BitVec 32 := Scalar.addi v297 v296
  let v304 : BitVec 32 := Scalar.select v302 v303 v297
  let v305 : BitVec 32 := Scalar.subi v304 c0_i32_159
  let c1_i32_160 : BitVec 32 := 1#32
  let v307 : BitVec 32 := Scalar.divsi v305 c1_i32_160
  let v308 : BitVec 32 := Scalar.muli v307 c1_i32_160
  let v309 : BitVec 32 := Scalar.addi c0_i32_159 v308
  let c1_i32_162 : BitVec 32 := 1#32
  let arg9 : BitVec 32 := Scf.iv v309 c1_i32_162 k1_t6
  let v1657 : Index := Scalar.indexCast arg9
  let c0_906 : Index := 0#32
  ![0, v1657.toNat, 0]
def k1_off50 (v139 : BitVec 32) (k1_t6 : Fin (k1_t6_loop v139).trips) : Fin 3 → Nat :=
  let c0_i32_907 : BitVec 32 := 0#32
  let v1661 : Index := Scalar.indexCast c0_i32_907
  let c0_i32_159 : BitVec 32 := 0#32
  let c64_i32_153 : BitVec 32 := 64#32
  let c0_i32_154 : BitVec 32 := 0#32
  let v295 : BitVec 1 := Scalar.cmpi .eq c64_i32_153 c0_i32_154
  let c1_i32_155 : BitVec 32 := 1#32
  let v296 : BitVec 32 := Scalar.select v295 c1_i32_155 c64_i32_153
  let v297 : BitVec 32 := Scalar.remsi v139 v296
  let c0_i32_157 : BitVec 32 := 0#32
  let v299 : BitVec 1 := Scalar.cmpi .slt v297 c0_i32_157
  let c0_i32_158 : BitVec 32 := 0#32
  let v300 : BitVec 1 := Scalar.cmpi .slt v296 c0_i32_158
  let v301 : BitVec 1 := Scalar.xori v299 v300
  let c0_i32_156 : BitVec 32 := 0#32
  let v298 : BitVec 1 := Scalar.cmpi .ne v297 c0_i32_156
  let v302 : BitVec 1 := Scalar.andi v301 v298
  let v303 : BitVec 32 := Scalar.addi v297 v296
  let v304 : BitVec 32 := Scalar.select v302 v303 v297
  let v305 : BitVec 32 := Scalar.subi v304 c0_i32_159
  let c1_i32_160 : BitVec 32 := 1#32
  let v307 : BitVec 32 := Scalar.divsi v305 c1_i32_160
  let v308 : BitVec 32 := Scalar.muli v307 c1_i32_160
  let v309 : BitVec 32 := Scalar.addi c0_i32_159 v308
  let c1_i32_162 : BitVec 32 := 1#32
  let arg9 : BitVec 32 := Scf.iv v309 c1_i32_162 k1_t6
  let v1662 : Index := Scalar.indexCast arg9
  let c16_908 : Index := 16#32
  ![0, v1662.toNat, 16]
def k1_off51 (v139 : BitVec 32) (k1_t6 : Fin (k1_t6_loop v139).trips) : Fin 3 → Nat :=
  let c0_i32_909 : BitVec 32 := 0#32
  let v1666 : Index := Scalar.indexCast c0_i32_909
  let c0_i32_159 : BitVec 32 := 0#32
  let c64_i32_153 : BitVec 32 := 64#32
  let c0_i32_154 : BitVec 32 := 0#32
  let v295 : BitVec 1 := Scalar.cmpi .eq c64_i32_153 c0_i32_154
  let c1_i32_155 : BitVec 32 := 1#32
  let v296 : BitVec 32 := Scalar.select v295 c1_i32_155 c64_i32_153
  let v297 : BitVec 32 := Scalar.remsi v139 v296
  let c0_i32_157 : BitVec 32 := 0#32
  let v299 : BitVec 1 := Scalar.cmpi .slt v297 c0_i32_157
  let c0_i32_158 : BitVec 32 := 0#32
  let v300 : BitVec 1 := Scalar.cmpi .slt v296 c0_i32_158
  let v301 : BitVec 1 := Scalar.xori v299 v300
  let c0_i32_156 : BitVec 32 := 0#32
  let v298 : BitVec 1 := Scalar.cmpi .ne v297 c0_i32_156
  let v302 : BitVec 1 := Scalar.andi v301 v298
  let v303 : BitVec 32 := Scalar.addi v297 v296
  let v304 : BitVec 32 := Scalar.select v302 v303 v297
  let v305 : BitVec 32 := Scalar.subi v304 c0_i32_159
  let c1_i32_160 : BitVec 32 := 1#32
  let v307 : BitVec 32 := Scalar.divsi v305 c1_i32_160
  let v308 : BitVec 32 := Scalar.muli v307 c1_i32_160
  let v309 : BitVec 32 := Scalar.addi c0_i32_159 v308
  let c1_i32_162 : BitVec 32 := 1#32
  let arg9 : BitVec 32 := Scf.iv v309 c1_i32_162 k1_t6
  let v1667 : Index := Scalar.indexCast arg9
  let c32_910 : Index := 32#32
  ![0, v1667.toNat, 32]
def k1_off52 (v139 : BitVec 32) (k1_t6 : Fin (k1_t6_loop v139).trips) : Fin 3 → Nat :=
  let c0_i32_911 : BitVec 32 := 0#32
  let v1671 : Index := Scalar.indexCast c0_i32_911
  let c0_i32_159 : BitVec 32 := 0#32
  let c64_i32_153 : BitVec 32 := 64#32
  let c0_i32_154 : BitVec 32 := 0#32
  let v295 : BitVec 1 := Scalar.cmpi .eq c64_i32_153 c0_i32_154
  let c1_i32_155 : BitVec 32 := 1#32
  let v296 : BitVec 32 := Scalar.select v295 c1_i32_155 c64_i32_153
  let v297 : BitVec 32 := Scalar.remsi v139 v296
  let c0_i32_157 : BitVec 32 := 0#32
  let v299 : BitVec 1 := Scalar.cmpi .slt v297 c0_i32_157
  let c0_i32_158 : BitVec 32 := 0#32
  let v300 : BitVec 1 := Scalar.cmpi .slt v296 c0_i32_158
  let v301 : BitVec 1 := Scalar.xori v299 v300
  let c0_i32_156 : BitVec 32 := 0#32
  let v298 : BitVec 1 := Scalar.cmpi .ne v297 c0_i32_156
  let v302 : BitVec 1 := Scalar.andi v301 v298
  let v303 : BitVec 32 := Scalar.addi v297 v296
  let v304 : BitVec 32 := Scalar.select v302 v303 v297
  let v305 : BitVec 32 := Scalar.subi v304 c0_i32_159
  let c1_i32_160 : BitVec 32 := 1#32
  let v307 : BitVec 32 := Scalar.divsi v305 c1_i32_160
  let v308 : BitVec 32 := Scalar.muli v307 c1_i32_160
  let v309 : BitVec 32 := Scalar.addi c0_i32_159 v308
  let c1_i32_162 : BitVec 32 := 1#32
  let arg9 : BitVec 32 := Scf.iv v309 c1_i32_162 k1_t6
  let v1672 : Index := Scalar.indexCast arg9
  let c48_912 : Index := 48#32
  ![0, v1672.toNat, 48]
def k1_off53 (v139 : BitVec 32) (k1_t6 : Fin (k1_t6_loop v139).trips) : Fin 3 → Nat :=
  let c0_i32_913 : BitVec 32 := 0#32
  let v1676 : Index := Scalar.indexCast c0_i32_913
  let c0_i32_159 : BitVec 32 := 0#32
  let c64_i32_153 : BitVec 32 := 64#32
  let c0_i32_154 : BitVec 32 := 0#32
  let v295 : BitVec 1 := Scalar.cmpi .eq c64_i32_153 c0_i32_154
  let c1_i32_155 : BitVec 32 := 1#32
  let v296 : BitVec 32 := Scalar.select v295 c1_i32_155 c64_i32_153
  let v297 : BitVec 32 := Scalar.remsi v139 v296
  let c0_i32_157 : BitVec 32 := 0#32
  let v299 : BitVec 1 := Scalar.cmpi .slt v297 c0_i32_157
  let c0_i32_158 : BitVec 32 := 0#32
  let v300 : BitVec 1 := Scalar.cmpi .slt v296 c0_i32_158
  let v301 : BitVec 1 := Scalar.xori v299 v300
  let c0_i32_156 : BitVec 32 := 0#32
  let v298 : BitVec 1 := Scalar.cmpi .ne v297 c0_i32_156
  let v302 : BitVec 1 := Scalar.andi v301 v298
  let v303 : BitVec 32 := Scalar.addi v297 v296
  let v304 : BitVec 32 := Scalar.select v302 v303 v297
  let v305 : BitVec 32 := Scalar.subi v304 c0_i32_159
  let c1_i32_160 : BitVec 32 := 1#32
  let v307 : BitVec 32 := Scalar.divsi v305 c1_i32_160
  let v308 : BitVec 32 := Scalar.muli v307 c1_i32_160
  let v309 : BitVec 32 := Scalar.addi c0_i32_159 v308
  let c1_i32_162 : BitVec 32 := 1#32
  let arg9 : BitVec 32 := Scf.iv v309 c1_i32_162 k1_t6
  let v1677 : Index := Scalar.indexCast arg9
  let c64_914 : Index := 64#32
  ![0, v1677.toNat, 64]
def k1_off54 (v139 : BitVec 32) (k1_t6 : Fin (k1_t6_loop v139).trips) : Fin 3 → Nat :=
  let c0_i32_915 : BitVec 32 := 0#32
  let v1681 : Index := Scalar.indexCast c0_i32_915
  let c0_i32_159 : BitVec 32 := 0#32
  let c64_i32_153 : BitVec 32 := 64#32
  let c0_i32_154 : BitVec 32 := 0#32
  let v295 : BitVec 1 := Scalar.cmpi .eq c64_i32_153 c0_i32_154
  let c1_i32_155 : BitVec 32 := 1#32
  let v296 : BitVec 32 := Scalar.select v295 c1_i32_155 c64_i32_153
  let v297 : BitVec 32 := Scalar.remsi v139 v296
  let c0_i32_157 : BitVec 32 := 0#32
  let v299 : BitVec 1 := Scalar.cmpi .slt v297 c0_i32_157
  let c0_i32_158 : BitVec 32 := 0#32
  let v300 : BitVec 1 := Scalar.cmpi .slt v296 c0_i32_158
  let v301 : BitVec 1 := Scalar.xori v299 v300
  let c0_i32_156 : BitVec 32 := 0#32
  let v298 : BitVec 1 := Scalar.cmpi .ne v297 c0_i32_156
  let v302 : BitVec 1 := Scalar.andi v301 v298
  let v303 : BitVec 32 := Scalar.addi v297 v296
  let v304 : BitVec 32 := Scalar.select v302 v303 v297
  let v305 : BitVec 32 := Scalar.subi v304 c0_i32_159
  let c1_i32_160 : BitVec 32 := 1#32
  let v307 : BitVec 32 := Scalar.divsi v305 c1_i32_160
  let v308 : BitVec 32 := Scalar.muli v307 c1_i32_160
  let v309 : BitVec 32 := Scalar.addi c0_i32_159 v308
  let c1_i32_162 : BitVec 32 := 1#32
  let arg9 : BitVec 32 := Scf.iv v309 c1_i32_162 k1_t6
  let v1682 : Index := Scalar.indexCast arg9
  let c80_916 : Index := 80#32
  ![0, v1682.toNat, 80]
def k1_off55 (v139 : BitVec 32) (k1_t6 : Fin (k1_t6_loop v139).trips) : Fin 3 → Nat :=
  let c0_i32_917 : BitVec 32 := 0#32
  let v1686 : Index := Scalar.indexCast c0_i32_917
  let c0_i32_159 : BitVec 32 := 0#32
  let c64_i32_153 : BitVec 32 := 64#32
  let c0_i32_154 : BitVec 32 := 0#32
  let v295 : BitVec 1 := Scalar.cmpi .eq c64_i32_153 c0_i32_154
  let c1_i32_155 : BitVec 32 := 1#32
  let v296 : BitVec 32 := Scalar.select v295 c1_i32_155 c64_i32_153
  let v297 : BitVec 32 := Scalar.remsi v139 v296
  let c0_i32_157 : BitVec 32 := 0#32
  let v299 : BitVec 1 := Scalar.cmpi .slt v297 c0_i32_157
  let c0_i32_158 : BitVec 32 := 0#32
  let v300 : BitVec 1 := Scalar.cmpi .slt v296 c0_i32_158
  let v301 : BitVec 1 := Scalar.xori v299 v300
  let c0_i32_156 : BitVec 32 := 0#32
  let v298 : BitVec 1 := Scalar.cmpi .ne v297 c0_i32_156
  let v302 : BitVec 1 := Scalar.andi v301 v298
  let v303 : BitVec 32 := Scalar.addi v297 v296
  let v304 : BitVec 32 := Scalar.select v302 v303 v297
  let v305 : BitVec 32 := Scalar.subi v304 c0_i32_159
  let c1_i32_160 : BitVec 32 := 1#32
  let v307 : BitVec 32 := Scalar.divsi v305 c1_i32_160
  let v308 : BitVec 32 := Scalar.muli v307 c1_i32_160
  let v309 : BitVec 32 := Scalar.addi c0_i32_159 v308
  let c1_i32_162 : BitVec 32 := 1#32
  let arg9 : BitVec 32 := Scf.iv v309 c1_i32_162 k1_t6
  let v1687 : Index := Scalar.indexCast arg9
  let c96_918 : Index := 96#32
  ![0, v1687.toNat, 96]
def k1_off56 (v139 : BitVec 32) (k1_t6 : Fin (k1_t6_loop v139).trips) : Fin 3 → Nat :=
  let c0_i32_919 : BitVec 32 := 0#32
  let v1691 : Index := Scalar.indexCast c0_i32_919
  let c0_i32_159 : BitVec 32 := 0#32
  let c64_i32_153 : BitVec 32 := 64#32
  let c0_i32_154 : BitVec 32 := 0#32
  let v295 : BitVec 1 := Scalar.cmpi .eq c64_i32_153 c0_i32_154
  let c1_i32_155 : BitVec 32 := 1#32
  let v296 : BitVec 32 := Scalar.select v295 c1_i32_155 c64_i32_153
  let v297 : BitVec 32 := Scalar.remsi v139 v296
  let c0_i32_157 : BitVec 32 := 0#32
  let v299 : BitVec 1 := Scalar.cmpi .slt v297 c0_i32_157
  let c0_i32_158 : BitVec 32 := 0#32
  let v300 : BitVec 1 := Scalar.cmpi .slt v296 c0_i32_158
  let v301 : BitVec 1 := Scalar.xori v299 v300
  let c0_i32_156 : BitVec 32 := 0#32
  let v298 : BitVec 1 := Scalar.cmpi .ne v297 c0_i32_156
  let v302 : BitVec 1 := Scalar.andi v301 v298
  let v303 : BitVec 32 := Scalar.addi v297 v296
  let v304 : BitVec 32 := Scalar.select v302 v303 v297
  let v305 : BitVec 32 := Scalar.subi v304 c0_i32_159
  let c1_i32_160 : BitVec 32 := 1#32
  let v307 : BitVec 32 := Scalar.divsi v305 c1_i32_160
  let v308 : BitVec 32 := Scalar.muli v307 c1_i32_160
  let v309 : BitVec 32 := Scalar.addi c0_i32_159 v308
  let c1_i32_162 : BitVec 32 := 1#32
  let arg9 : BitVec 32 := Scf.iv v309 c1_i32_162 k1_t6
  let v1692 : Index := Scalar.indexCast arg9
  let c112_920 : Index := 112#32
  ![0, v1692.toNat, 112]

def k1_chk3 (v139 : BitVec 32) : Prop :=
  (∀ a, (k1_off21 v139) a + S64x128.size a ≤ S320000x128.size a) ∧
  (∀ a, (k1_off40 v139) a + S64x128.size a ≤ S320000x128.size a) ∧
  ((k1_t5_loop v139).OK) ∧
  (∀ k1_t5 : Fin (k1_t5_loop v139).trips, ∀ a, (k1_off41 v139 k1_t5) a + S1x1x16.size a ≤ S2x64x128.size a) ∧
  (∀ k1_t5 : Fin (k1_t5_loop v139).trips, ∀ a, (k1_off42 v139 k1_t5) a + S1x1x16.size a ≤ S2x64x128.size a) ∧
  (∀ k1_t5 : Fin (k1_t5_loop v139).trips, ∀ a, (k1_off43 v139 k1_t5) a + S1x1x16.size a ≤ S2x64x128.size a) ∧
  (∀ k1_t5 : Fin (k1_t5_loop v139).trips, ∀ a, (k1_off44 v139 k1_t5) a + S1x1x16.size a ≤ S2x64x128.size a) ∧
  (∀ k1_t5 : Fin (k1_t5_loop v139).trips, ∀ a, (k1_off45 v139 k1_t5) a + S1x1x16.size a ≤ S2x64x128.size a) ∧
  (∀ k1_t5 : Fin (k1_t5_loop v139).trips, ∀ a, (k1_off46 v139 k1_t5) a + S1x1x16.size a ≤ S2x64x128.size a) ∧
  (∀ k1_t5 : Fin (k1_t5_loop v139).trips, ∀ a, (k1_off47 v139 k1_t5) a + S1x1x16.size a ≤ S2x64x128.size a) ∧
  (∀ k1_t5 : Fin (k1_t5_loop v139).trips, ∀ a, (k1_off48 v139 k1_t5) a + S1x1x16.size a ≤ S2x64x128.size a) ∧
  ((k1_t6_loop v139).OK) ∧
  (∀ k1_t6 : Fin (k1_t6_loop v139).trips, ∀ a, (k1_off49 v139 k1_t6) a + S1x1x16.size a ≤ S2x64x128.size a) ∧
  (∀ k1_t6 : Fin (k1_t6_loop v139).trips, ∀ a, (k1_off50 v139 k1_t6) a + S1x1x16.size a ≤ S2x64x128.size a) ∧
  (∀ k1_t6 : Fin (k1_t6_loop v139).trips, ∀ a, (k1_off51 v139 k1_t6) a + S1x1x16.size a ≤ S2x64x128.size a) ∧
  (∀ k1_t6 : Fin (k1_t6_loop v139).trips, ∀ a, (k1_off52 v139 k1_t6) a + S1x1x16.size a ≤ S2x64x128.size a) ∧
  (∀ k1_t6 : Fin (k1_t6_loop v139).trips, ∀ a, (k1_off53 v139 k1_t6) a + S1x1x16.size a ≤ S2x64x128.size a) ∧
  (∀ k1_t6 : Fin (k1_t6_loop v139).trips, ∀ a, (k1_off54 v139 k1_t6) a + S1x1x16.size a ≤ S2x64x128.size a) ∧
  (∀ k1_t6 : Fin (k1_t6_loop v139).trips, ∀ a, (k1_off55 v139 k1_t6) a + S1x1x16.size a ≤ S2x64x128.size a) ∧
  (∀ k1_t6 : Fin (k1_t6_loop v139).trips, ∀ a, (k1_off56 v139 k1_t6) a + S1x1x16.size a ≤ S2x64x128.size a)
theorem k1_off21_inb : ∀ (v139 : BitVec 32) (k1_hw3 : k1_chk3 v139), ∀ a, (k1_off21 v139) a + S64x128.size a ≤ S320000x128.size a := fun v139 k1_hw3 => k1_hw3.1
theorem k1_off40_inb : ∀ (v139 : BitVec 32) (k1_hw3 : k1_chk3 v139), ∀ a, (k1_off40 v139) a + S64x128.size a ≤ S320000x128.size a := fun v139 k1_hw3 => k1_hw3.2.1
theorem k1_t5_ok : ∀ (v139 : BitVec 32) (k1_hw3 : k1_chk3 v139), (k1_t5_loop v139).OK := fun v139 k1_hw3 => k1_hw3.2.2.1
theorem k1_off41_inb : ∀ (v139 : BitVec 32) (k1_hw3 : k1_chk3 v139) (k1_t5 : Fin (k1_t5_loop v139).trips), ∀ a, (k1_off41 v139 k1_t5) a + S1x1x16.size a ≤ S2x64x128.size a := fun v139 k1_hw3 k1_t5 => k1_hw3.2.2.2.1 k1_t5
theorem k1_off42_inb : ∀ (v139 : BitVec 32) (k1_hw3 : k1_chk3 v139) (k1_t5 : Fin (k1_t5_loop v139).trips), ∀ a, (k1_off42 v139 k1_t5) a + S1x1x16.size a ≤ S2x64x128.size a := fun v139 k1_hw3 k1_t5 => k1_hw3.2.2.2.2.1 k1_t5
theorem k1_off43_inb : ∀ (v139 : BitVec 32) (k1_hw3 : k1_chk3 v139) (k1_t5 : Fin (k1_t5_loop v139).trips), ∀ a, (k1_off43 v139 k1_t5) a + S1x1x16.size a ≤ S2x64x128.size a := fun v139 k1_hw3 k1_t5 => k1_hw3.2.2.2.2.2.1 k1_t5
theorem k1_off44_inb : ∀ (v139 : BitVec 32) (k1_hw3 : k1_chk3 v139) (k1_t5 : Fin (k1_t5_loop v139).trips), ∀ a, (k1_off44 v139 k1_t5) a + S1x1x16.size a ≤ S2x64x128.size a := fun v139 k1_hw3 k1_t5 => k1_hw3.2.2.2.2.2.2.1 k1_t5
theorem k1_off45_inb : ∀ (v139 : BitVec 32) (k1_hw3 : k1_chk3 v139) (k1_t5 : Fin (k1_t5_loop v139).trips), ∀ a, (k1_off45 v139 k1_t5) a + S1x1x16.size a ≤ S2x64x128.size a := fun v139 k1_hw3 k1_t5 => k1_hw3.2.2.2.2.2.2.2.1 k1_t5
theorem k1_off46_inb : ∀ (v139 : BitVec 32) (k1_hw3 : k1_chk3 v139) (k1_t5 : Fin (k1_t5_loop v139).trips), ∀ a, (k1_off46 v139 k1_t5) a + S1x1x16.size a ≤ S2x64x128.size a := fun v139 k1_hw3 k1_t5 => k1_hw3.2.2.2.2.2.2.2.2.1 k1_t5
theorem k1_off47_inb : ∀ (v139 : BitVec 32) (k1_hw3 : k1_chk3 v139) (k1_t5 : Fin (k1_t5_loop v139).trips), ∀ a, (k1_off47 v139 k1_t5) a + S1x1x16.size a ≤ S2x64x128.size a := fun v139 k1_hw3 k1_t5 => k1_hw3.2.2.2.2.2.2.2.2.2.1 k1_t5
theorem k1_off48_inb : ∀ (v139 : BitVec 32) (k1_hw3 : k1_chk3 v139) (k1_t5 : Fin (k1_t5_loop v139).trips), ∀ a, (k1_off48 v139 k1_t5) a + S1x1x16.size a ≤ S2x64x128.size a := fun v139 k1_hw3 k1_t5 => k1_hw3.2.2.2.2.2.2.2.2.2.2.1 k1_t5
theorem k1_t6_ok : ∀ (v139 : BitVec 32) (k1_hw3 : k1_chk3 v139), (k1_t6_loop v139).OK := fun v139 k1_hw3 => k1_hw3.2.2.2.2.2.2.2.2.2.2.2.1
theorem k1_off49_inb : ∀ (v139 : BitVec 32) (k1_hw3 : k1_chk3 v139) (k1_t6 : Fin (k1_t6_loop v139).trips), ∀ a, (k1_off49 v139 k1_t6) a + S1x1x16.size a ≤ S2x64x128.size a := fun v139 k1_hw3 k1_t6 => k1_hw3.2.2.2.2.2.2.2.2.2.2.2.2.1 k1_t6
theorem k1_off50_inb : ∀ (v139 : BitVec 32) (k1_hw3 : k1_chk3 v139) (k1_t6 : Fin (k1_t6_loop v139).trips), ∀ a, (k1_off50 v139 k1_t6) a + S1x1x16.size a ≤ S2x64x128.size a := fun v139 k1_hw3 k1_t6 => k1_hw3.2.2.2.2.2.2.2.2.2.2.2.2.2.1 k1_t6
theorem k1_off51_inb : ∀ (v139 : BitVec 32) (k1_hw3 : k1_chk3 v139) (k1_t6 : Fin (k1_t6_loop v139).trips), ∀ a, (k1_off51 v139 k1_t6) a + S1x1x16.size a ≤ S2x64x128.size a := fun v139 k1_hw3 k1_t6 => k1_hw3.2.2.2.2.2.2.2.2.2.2.2.2.2.2.1 k1_t6
theorem k1_off52_inb : ∀ (v139 : BitVec 32) (k1_hw3 : k1_chk3 v139) (k1_t6 : Fin (k1_t6_loop v139).trips), ∀ a, (k1_off52 v139 k1_t6) a + S1x1x16.size a ≤ S2x64x128.size a := fun v139 k1_hw3 k1_t6 => k1_hw3.2.2.2.2.2.2.2.2.2.2.2.2.2.2.2.1 k1_t6
theorem k1_off53_inb : ∀ (v139 : BitVec 32) (k1_hw3 : k1_chk3 v139) (k1_t6 : Fin (k1_t6_loop v139).trips), ∀ a, (k1_off53 v139 k1_t6) a + S1x1x16.size a ≤ S2x64x128.size a := fun v139 k1_hw3 k1_t6 => k1_hw3.2.2.2.2.2.2.2.2.2.2.2.2.2.2.2.2.1 k1_t6
theorem k1_off54_inb : ∀ (v139 : BitVec 32) (k1_hw3 : k1_chk3 v139) (k1_t6 : Fin (k1_t6_loop v139).trips), ∀ a, (k1_off54 v139 k1_t6) a + S1x1x16.size a ≤ S2x64x128.size a := fun v139 k1_hw3 k1_t6 => k1_hw3.2.2.2.2.2.2.2.2.2.2.2.2.2.2.2.2.2.1 k1_t6
theorem k1_off55_inb : ∀ (v139 : BitVec 32) (k1_hw3 : k1_chk3 v139) (k1_t6 : Fin (k1_t6_loop v139).trips), ∀ a, (k1_off55 v139 k1_t6) a + S1x1x16.size a ≤ S2x64x128.size a := fun v139 k1_hw3 k1_t6 => k1_hw3.2.2.2.2.2.2.2.2.2.2.2.2.2.2.2.2.2.2.1 k1_t6
theorem k1_off56_inb : ∀ (v139 : BitVec 32) (k1_hw3 : k1_chk3 v139) (k1_t6 : Fin (k1_t6_loop v139).trips), ∀ a, (k1_off56 v139 k1_t6) a + S1x1x16.size a ≤ S2x64x128.size a := fun v139 k1_hw3 k1_t6 => k1_hw3.2.2.2.2.2.2.2.2.2.2.2.2.2.2.2.2.2.2.2 k1_t6

def k1_off57 (v345 : BitVec 32) : Fin 2 → Nat :=
  let c0_i32_180 : BitVec 32 := 0#32
  let v347 : BitVec 1 := Scalar.cmpi .sgt v345 c0_i32_180
  let v348 : BitVec 32 := Scalar.extui v347
  let c0_i32_181 : BitVec 32 := 0#32
  let v349 : BitVec 1 := Scalar.cmpi .slt v345 c0_i32_181
  let v350 : BitVec 32 := Scalar.extui v349
  let v351 : BitVec 32 := Scalar.subi v348 v350
  let c64_i32_179 : BitVec 32 := 64#32
  let c0_i32_182 : BitVec 32 := 0#32
  let v352 : BitVec 1 := Scalar.cmpi .sgt c64_i32_179 c0_i32_182
  let v353 : BitVec 32 := Scalar.extui v352
  let c0_i32_183 : BitVec 32 := 0#32
  let v354 : BitVec 1 := Scalar.cmpi .slt c64_i32_179 c0_i32_183
  let v355 : BitVec 32 := Scalar.extui v354
  let v356 : BitVec 32 := Scalar.subi v353 v355
  let v357 : BitVec 1 := Scalar.cmpi .ne v351 v356
  let v358 : BitVec 32 := Scalar.remsi v345 c64_i32_179
  let c0_i32_184 : BitVec 32 := 0#32
  let v359 : BitVec 1 := Scalar.cmpi .ne v358 c0_i32_184
  let v360 : BitVec 1 := Scalar.andi v357 v359
  let v346 : BitVec 32 := Scalar.divsi v345 c64_i32_179
  let c1_i32_185 : BitVec 32 := 1#32
  let v361 : BitVec 32 := Scalar.subi v346 c1_i32_185
  let v362 : BitVec 32 := Scalar.select v360 v361 v346
  let c64_i32_186 : BitVec 32 := 64#32
  let v363 : BitVec 32 := Scalar.muli v362 c64_i32_186
  let c0_i32_191 : BitVec 32 := 0#32
  ![v363.toNat, 0]

def k1_off58 (v242 : BitVec 32) : Fin 2 → Nat :=
  let c0_i32_196 : BitVec 32 := 0#32
  let v373 : BitVec 1 := Scalar.cmpi .sgt v242 c0_i32_196
  let v374 : BitVec 32 := Scalar.extui v373
  let c0_i32_197 : BitVec 32 := 0#32
  let v375 : BitVec 1 := Scalar.cmpi .slt v242 c0_i32_197
  let v376 : BitVec 32 := Scalar.extui v375
  let v377 : BitVec 32 := Scalar.subi v374 v376
  let c64_i32_195 : BitVec 32 := 64#32
  let c0_i32_198 : BitVec 32 := 0#32
  let v378 : BitVec 1 := Scalar.cmpi .sgt c64_i32_195 c0_i32_198
  let v379 : BitVec 32 := Scalar.extui v378
  let c0_i32_199 : BitVec 32 := 0#32
  let v380 : BitVec 1 := Scalar.cmpi .slt c64_i32_195 c0_i32_199
  let v381 : BitVec 32 := Scalar.extui v380
  let v382 : BitVec 32 := Scalar.subi v379 v381
  let v383 : BitVec 1 := Scalar.cmpi .ne v377 v382
  let v384 : BitVec 32 := Scalar.remsi v242 c64_i32_195
  let c0_i32_200 : BitVec 32 := 0#32
  let v385 : BitVec 1 := Scalar.cmpi .ne v384 c0_i32_200
  let v386 : BitVec 1 := Scalar.andi v383 v385
  let v372 : BitVec 32 := Scalar.divsi v242 c64_i32_195
  let c1_i32_201 : BitVec 32 := 1#32
  let v387 : BitVec 32 := Scalar.subi v372 c1_i32_201
  let v388 : BitVec 32 := Scalar.select v386 v387 v372
  let c64_i32_202 : BitVec 32 := 64#32
  let v389 : BitVec 32 := Scalar.muli v388 c64_i32_202
  let c0_i32_207 : BitVec 32 := 0#32
  ![v389.toNat, 0]
@[reducible] def k1_t7_loop (v242 : BitVec 32) : Scf.Loop 32 :=
  let c0_i32_217 : BitVec 32 := 0#32
  let c64_i32_211 : BitVec 32 := 64#32
  let c0_i32_212 : BitVec 32 := 0#32
  let v398 : BitVec 1 := Scalar.cmpi .eq c64_i32_211 c0_i32_212
  let c1_i32_213 : BitVec 32 := 1#32
  let v399 : BitVec 32 := Scalar.select v398 c1_i32_213 c64_i32_211
  let v400 : BitVec 32 := Scalar.remsi v242 v399
  let c0_i32_215 : BitVec 32 := 0#32
  let v402 : BitVec 1 := Scalar.cmpi .slt v400 c0_i32_215
  let c0_i32_216 : BitVec 32 := 0#32
  let v403 : BitVec 1 := Scalar.cmpi .slt v399 c0_i32_216
  let v404 : BitVec 1 := Scalar.xori v402 v403
  let c0_i32_214 : BitVec 32 := 0#32
  let v401 : BitVec 1 := Scalar.cmpi .ne v400 c0_i32_214
  let v405 : BitVec 1 := Scalar.andi v404 v401
  let v406 : BitVec 32 := Scalar.addi v400 v399
  let v407 : BitVec 32 := Scalar.select v405 v406 v400
  let v408 : BitVec 32 := Scalar.subi v407 c0_i32_217
  let c1_i32_218 : BitVec 32 := 1#32
  let v410 : BitVec 32 := Scalar.divsi v408 c1_i32_218
  let v411 : BitVec 32 := Scalar.muli v410 c1_i32_218
  let v412 : BitVec 32 := Scalar.addi c0_i32_217 v411
  let c1_i32_219 : BitVec 32 := 1#32
  ⟨c0_i32_217, v412, c1_i32_219⟩
def k1_off59 (v242 : BitVec 32) (k1_t7 : Fin (k1_t7_loop v242).trips) : Fin 3 → Nat :=
  let c1_i32_905 : BitVec 32 := 1#32
  let v1656 : Index := Scalar.indexCast c1_i32_905
  let c0_i32_217 : BitVec 32 := 0#32
  let c1_i32_219 : BitVec 32 := 1#32
  let arg9 : BitVec 32 := Scf.iv c0_i32_217 c1_i32_219 k1_t7
  let v1657 : Index := Scalar.indexCast arg9
  let c0_906 : Index := 0#32
  ![1, v1657.toNat, 0]
def k1_off60 (v242 : BitVec 32) (k1_t7 : Fin (k1_t7_loop v242).trips) : Fin 3 → Nat :=
  let c1_i32_907 : BitVec 32 := 1#32
  let v1661 : Index := Scalar.indexCast c1_i32_907
  let c0_i32_217 : BitVec 32 := 0#32
  let c1_i32_219 : BitVec 32 := 1#32
  let arg9 : BitVec 32 := Scf.iv c0_i32_217 c1_i32_219 k1_t7
  let v1662 : Index := Scalar.indexCast arg9
  let c16_908 : Index := 16#32
  ![1, v1662.toNat, 16]
def k1_off61 (v242 : BitVec 32) (k1_t7 : Fin (k1_t7_loop v242).trips) : Fin 3 → Nat :=
  let c1_i32_909 : BitVec 32 := 1#32
  let v1666 : Index := Scalar.indexCast c1_i32_909
  let c0_i32_217 : BitVec 32 := 0#32
  let c1_i32_219 : BitVec 32 := 1#32
  let arg9 : BitVec 32 := Scf.iv c0_i32_217 c1_i32_219 k1_t7
  let v1667 : Index := Scalar.indexCast arg9
  let c32_910 : Index := 32#32
  ![1, v1667.toNat, 32]
def k1_off62 (v242 : BitVec 32) (k1_t7 : Fin (k1_t7_loop v242).trips) : Fin 3 → Nat :=
  let c1_i32_911 : BitVec 32 := 1#32
  let v1671 : Index := Scalar.indexCast c1_i32_911
  let c0_i32_217 : BitVec 32 := 0#32
  let c1_i32_219 : BitVec 32 := 1#32
  let arg9 : BitVec 32 := Scf.iv c0_i32_217 c1_i32_219 k1_t7
  let v1672 : Index := Scalar.indexCast arg9
  let c48_912 : Index := 48#32
  ![1, v1672.toNat, 48]
def k1_off63 (v242 : BitVec 32) (k1_t7 : Fin (k1_t7_loop v242).trips) : Fin 3 → Nat :=
  let c1_i32_913 : BitVec 32 := 1#32
  let v1676 : Index := Scalar.indexCast c1_i32_913
  let c0_i32_217 : BitVec 32 := 0#32
  let c1_i32_219 : BitVec 32 := 1#32
  let arg9 : BitVec 32 := Scf.iv c0_i32_217 c1_i32_219 k1_t7
  let v1677 : Index := Scalar.indexCast arg9
  let c64_914 : Index := 64#32
  ![1, v1677.toNat, 64]
def k1_off64 (v242 : BitVec 32) (k1_t7 : Fin (k1_t7_loop v242).trips) : Fin 3 → Nat :=
  let c1_i32_915 : BitVec 32 := 1#32
  let v1681 : Index := Scalar.indexCast c1_i32_915
  let c0_i32_217 : BitVec 32 := 0#32
  let c1_i32_219 : BitVec 32 := 1#32
  let arg9 : BitVec 32 := Scf.iv c0_i32_217 c1_i32_219 k1_t7
  let v1682 : Index := Scalar.indexCast arg9
  let c80_916 : Index := 80#32
  ![1, v1682.toNat, 80]
def k1_off65 (v242 : BitVec 32) (k1_t7 : Fin (k1_t7_loop v242).trips) : Fin 3 → Nat :=
  let c1_i32_917 : BitVec 32 := 1#32
  let v1686 : Index := Scalar.indexCast c1_i32_917
  let c0_i32_217 : BitVec 32 := 0#32
  let c1_i32_219 : BitVec 32 := 1#32
  let arg9 : BitVec 32 := Scf.iv c0_i32_217 c1_i32_219 k1_t7
  let v1687 : Index := Scalar.indexCast arg9
  let c96_918 : Index := 96#32
  ![1, v1687.toNat, 96]
def k1_off66 (v242 : BitVec 32) (k1_t7 : Fin (k1_t7_loop v242).trips) : Fin 3 → Nat :=
  let c1_i32_919 : BitVec 32 := 1#32
  let v1691 : Index := Scalar.indexCast c1_i32_919
  let c0_i32_217 : BitVec 32 := 0#32
  let c1_i32_219 : BitVec 32 := 1#32
  let arg9 : BitVec 32 := Scf.iv c0_i32_217 c1_i32_219 k1_t7
  let v1692 : Index := Scalar.indexCast arg9
  let c112_920 : Index := 112#32
  ![1, v1692.toNat, 112]
@[reducible] def k1_t8_loop (v242 : BitVec 32) : Scf.Loop 32 :=
  let c0_i32_217 : BitVec 32 := 0#32
  let c64_i32_211 : BitVec 32 := 64#32
  let c0_i32_212 : BitVec 32 := 0#32
  let v398 : BitVec 1 := Scalar.cmpi .eq c64_i32_211 c0_i32_212
  let c1_i32_213 : BitVec 32 := 1#32
  let v399 : BitVec 32 := Scalar.select v398 c1_i32_213 c64_i32_211
  let v400 : BitVec 32 := Scalar.remsi v242 v399
  let c0_i32_215 : BitVec 32 := 0#32
  let v402 : BitVec 1 := Scalar.cmpi .slt v400 c0_i32_215
  let c0_i32_216 : BitVec 32 := 0#32
  let v403 : BitVec 1 := Scalar.cmpi .slt v399 c0_i32_216
  let v404 : BitVec 1 := Scalar.xori v402 v403
  let c0_i32_214 : BitVec 32 := 0#32
  let v401 : BitVec 1 := Scalar.cmpi .ne v400 c0_i32_214
  let v405 : BitVec 1 := Scalar.andi v404 v401
  let v406 : BitVec 32 := Scalar.addi v400 v399
  let v407 : BitVec 32 := Scalar.select v405 v406 v400
  let v408 : BitVec 32 := Scalar.subi v407 c0_i32_217
  let c1_i32_218 : BitVec 32 := 1#32
  let v410 : BitVec 32 := Scalar.divsi v408 c1_i32_218
  let v411 : BitVec 32 := Scalar.muli v410 c1_i32_218
  let v412 : BitVec 32 := Scalar.addi c0_i32_217 v411
  let v409 : BitVec 32 := Scalar.addi c0_i32_217 v408
  let c1_i32_220 : BitVec 32 := 1#32
  ⟨v412, v409, c1_i32_220⟩
def k1_off67 (v242 : BitVec 32) (k1_t8 : Fin (k1_t8_loop v242).trips) : Fin 3 → Nat :=
  let c1_i32_905 : BitVec 32 := 1#32
  let v1656 : Index := Scalar.indexCast c1_i32_905
  let c0_i32_217 : BitVec 32 := 0#32
  let c64_i32_211 : BitVec 32 := 64#32
  let c0_i32_212 : BitVec 32 := 0#32
  let v398 : BitVec 1 := Scalar.cmpi .eq c64_i32_211 c0_i32_212
  let c1_i32_213 : BitVec 32 := 1#32
  let v399 : BitVec 32 := Scalar.select v398 c1_i32_213 c64_i32_211
  let v400 : BitVec 32 := Scalar.remsi v242 v399
  let c0_i32_215 : BitVec 32 := 0#32
  let v402 : BitVec 1 := Scalar.cmpi .slt v400 c0_i32_215
  let c0_i32_216 : BitVec 32 := 0#32
  let v403 : BitVec 1 := Scalar.cmpi .slt v399 c0_i32_216
  let v404 : BitVec 1 := Scalar.xori v402 v403
  let c0_i32_214 : BitVec 32 := 0#32
  let v401 : BitVec 1 := Scalar.cmpi .ne v400 c0_i32_214
  let v405 : BitVec 1 := Scalar.andi v404 v401
  let v406 : BitVec 32 := Scalar.addi v400 v399
  let v407 : BitVec 32 := Scalar.select v405 v406 v400
  let v408 : BitVec 32 := Scalar.subi v407 c0_i32_217
  let c1_i32_218 : BitVec 32 := 1#32
  let v410 : BitVec 32 := Scalar.divsi v408 c1_i32_218
  let v411 : BitVec 32 := Scalar.muli v410 c1_i32_218
  let v412 : BitVec 32 := Scalar.addi c0_i32_217 v411
  let c1_i32_220 : BitVec 32 := 1#32
  let arg9 : BitVec 32 := Scf.iv v412 c1_i32_220 k1_t8
  let v1657 : Index := Scalar.indexCast arg9
  let c0_906 : Index := 0#32
  ![1, v1657.toNat, 0]
def k1_off68 (v242 : BitVec 32) (k1_t8 : Fin (k1_t8_loop v242).trips) : Fin 3 → Nat :=
  let c1_i32_907 : BitVec 32 := 1#32
  let v1661 : Index := Scalar.indexCast c1_i32_907
  let c0_i32_217 : BitVec 32 := 0#32
  let c64_i32_211 : BitVec 32 := 64#32
  let c0_i32_212 : BitVec 32 := 0#32
  let v398 : BitVec 1 := Scalar.cmpi .eq c64_i32_211 c0_i32_212
  let c1_i32_213 : BitVec 32 := 1#32
  let v399 : BitVec 32 := Scalar.select v398 c1_i32_213 c64_i32_211
  let v400 : BitVec 32 := Scalar.remsi v242 v399
  let c0_i32_215 : BitVec 32 := 0#32
  let v402 : BitVec 1 := Scalar.cmpi .slt v400 c0_i32_215
  let c0_i32_216 : BitVec 32 := 0#32
  let v403 : BitVec 1 := Scalar.cmpi .slt v399 c0_i32_216
  let v404 : BitVec 1 := Scalar.xori v402 v403
  let c0_i32_214 : BitVec 32 := 0#32
  let v401 : BitVec 1 := Scalar.cmpi .ne v400 c0_i32_214
  let v405 : BitVec 1 := Scalar.andi v404 v401
  let v406 : BitVec 32 := Scalar.addi v400 v399
  let v407 : BitVec 32 := Scalar.select v405 v406 v400
  let v408 : BitVec 32 := Scalar.subi v407 c0_i32_217
  let c1_i32_218 : BitVec 32 := 1#32
  let v410 : BitVec 32 := Scalar.divsi v408 c1_i32_218
  let v411 : BitVec 32 := Scalar.muli v410 c1_i32_218
  let v412 : BitVec 32 := Scalar.addi c0_i32_217 v411
  let c1_i32_220 : BitVec 32 := 1#32
  let arg9 : BitVec 32 := Scf.iv v412 c1_i32_220 k1_t8
  let v1662 : Index := Scalar.indexCast arg9
  let c16_908 : Index := 16#32
  ![1, v1662.toNat, 16]
def k1_off69 (v242 : BitVec 32) (k1_t8 : Fin (k1_t8_loop v242).trips) : Fin 3 → Nat :=
  let c1_i32_909 : BitVec 32 := 1#32
  let v1666 : Index := Scalar.indexCast c1_i32_909
  let c0_i32_217 : BitVec 32 := 0#32
  let c64_i32_211 : BitVec 32 := 64#32
  let c0_i32_212 : BitVec 32 := 0#32
  let v398 : BitVec 1 := Scalar.cmpi .eq c64_i32_211 c0_i32_212
  let c1_i32_213 : BitVec 32 := 1#32
  let v399 : BitVec 32 := Scalar.select v398 c1_i32_213 c64_i32_211
  let v400 : BitVec 32 := Scalar.remsi v242 v399
  let c0_i32_215 : BitVec 32 := 0#32
  let v402 : BitVec 1 := Scalar.cmpi .slt v400 c0_i32_215
  let c0_i32_216 : BitVec 32 := 0#32
  let v403 : BitVec 1 := Scalar.cmpi .slt v399 c0_i32_216
  let v404 : BitVec 1 := Scalar.xori v402 v403
  let c0_i32_214 : BitVec 32 := 0#32
  let v401 : BitVec 1 := Scalar.cmpi .ne v400 c0_i32_214
  let v405 : BitVec 1 := Scalar.andi v404 v401
  let v406 : BitVec 32 := Scalar.addi v400 v399
  let v407 : BitVec 32 := Scalar.select v405 v406 v400
  let v408 : BitVec 32 := Scalar.subi v407 c0_i32_217
  let c1_i32_218 : BitVec 32 := 1#32
  let v410 : BitVec 32 := Scalar.divsi v408 c1_i32_218
  let v411 : BitVec 32 := Scalar.muli v410 c1_i32_218
  let v412 : BitVec 32 := Scalar.addi c0_i32_217 v411
  let c1_i32_220 : BitVec 32 := 1#32
  let arg9 : BitVec 32 := Scf.iv v412 c1_i32_220 k1_t8
  let v1667 : Index := Scalar.indexCast arg9
  let c32_910 : Index := 32#32
  ![1, v1667.toNat, 32]
def k1_off70 (v242 : BitVec 32) (k1_t8 : Fin (k1_t8_loop v242).trips) : Fin 3 → Nat :=
  let c1_i32_911 : BitVec 32 := 1#32
  let v1671 : Index := Scalar.indexCast c1_i32_911
  let c0_i32_217 : BitVec 32 := 0#32
  let c64_i32_211 : BitVec 32 := 64#32
  let c0_i32_212 : BitVec 32 := 0#32
  let v398 : BitVec 1 := Scalar.cmpi .eq c64_i32_211 c0_i32_212
  let c1_i32_213 : BitVec 32 := 1#32
  let v399 : BitVec 32 := Scalar.select v398 c1_i32_213 c64_i32_211
  let v400 : BitVec 32 := Scalar.remsi v242 v399
  let c0_i32_215 : BitVec 32 := 0#32
  let v402 : BitVec 1 := Scalar.cmpi .slt v400 c0_i32_215
  let c0_i32_216 : BitVec 32 := 0#32
  let v403 : BitVec 1 := Scalar.cmpi .slt v399 c0_i32_216
  let v404 : BitVec 1 := Scalar.xori v402 v403
  let c0_i32_214 : BitVec 32 := 0#32
  let v401 : BitVec 1 := Scalar.cmpi .ne v400 c0_i32_214
  let v405 : BitVec 1 := Scalar.andi v404 v401
  let v406 : BitVec 32 := Scalar.addi v400 v399
  let v407 : BitVec 32 := Scalar.select v405 v406 v400
  let v408 : BitVec 32 := Scalar.subi v407 c0_i32_217
  let c1_i32_218 : BitVec 32 := 1#32
  let v410 : BitVec 32 := Scalar.divsi v408 c1_i32_218
  let v411 : BitVec 32 := Scalar.muli v410 c1_i32_218
  let v412 : BitVec 32 := Scalar.addi c0_i32_217 v411
  let c1_i32_220 : BitVec 32 := 1#32
  let arg9 : BitVec 32 := Scf.iv v412 c1_i32_220 k1_t8
  let v1672 : Index := Scalar.indexCast arg9
  let c48_912 : Index := 48#32
  ![1, v1672.toNat, 48]
def k1_off71 (v242 : BitVec 32) (k1_t8 : Fin (k1_t8_loop v242).trips) : Fin 3 → Nat :=
  let c1_i32_913 : BitVec 32 := 1#32
  let v1676 : Index := Scalar.indexCast c1_i32_913
  let c0_i32_217 : BitVec 32 := 0#32
  let c64_i32_211 : BitVec 32 := 64#32
  let c0_i32_212 : BitVec 32 := 0#32
  let v398 : BitVec 1 := Scalar.cmpi .eq c64_i32_211 c0_i32_212
  let c1_i32_213 : BitVec 32 := 1#32
  let v399 : BitVec 32 := Scalar.select v398 c1_i32_213 c64_i32_211
  let v400 : BitVec 32 := Scalar.remsi v242 v399
  let c0_i32_215 : BitVec 32 := 0#32
  let v402 : BitVec 1 := Scalar.cmpi .slt v400 c0_i32_215
  let c0_i32_216 : BitVec 32 := 0#32
  let v403 : BitVec 1 := Scalar.cmpi .slt v399 c0_i32_216
  let v404 : BitVec 1 := Scalar.xori v402 v403
  let c0_i32_214 : BitVec 32 := 0#32
  let v401 : BitVec 1 := Scalar.cmpi .ne v400 c0_i32_214
  let v405 : BitVec 1 := Scalar.andi v404 v401
  let v406 : BitVec 32 := Scalar.addi v400 v399
  let v407 : BitVec 32 := Scalar.select v405 v406 v400
  let v408 : BitVec 32 := Scalar.subi v407 c0_i32_217
  let c1_i32_218 : BitVec 32 := 1#32
  let v410 : BitVec 32 := Scalar.divsi v408 c1_i32_218
  let v411 : BitVec 32 := Scalar.muli v410 c1_i32_218
  let v412 : BitVec 32 := Scalar.addi c0_i32_217 v411
  let c1_i32_220 : BitVec 32 := 1#32
  let arg9 : BitVec 32 := Scf.iv v412 c1_i32_220 k1_t8
  let v1677 : Index := Scalar.indexCast arg9
  let c64_914 : Index := 64#32
  ![1, v1677.toNat, 64]
def k1_off72 (v242 : BitVec 32) (k1_t8 : Fin (k1_t8_loop v242).trips) : Fin 3 → Nat :=
  let c1_i32_915 : BitVec 32 := 1#32
  let v1681 : Index := Scalar.indexCast c1_i32_915
  let c0_i32_217 : BitVec 32 := 0#32
  let c64_i32_211 : BitVec 32 := 64#32
  let c0_i32_212 : BitVec 32 := 0#32
  let v398 : BitVec 1 := Scalar.cmpi .eq c64_i32_211 c0_i32_212
  let c1_i32_213 : BitVec 32 := 1#32
  let v399 : BitVec 32 := Scalar.select v398 c1_i32_213 c64_i32_211
  let v400 : BitVec 32 := Scalar.remsi v242 v399
  let c0_i32_215 : BitVec 32 := 0#32
  let v402 : BitVec 1 := Scalar.cmpi .slt v400 c0_i32_215
  let c0_i32_216 : BitVec 32 := 0#32
  let v403 : BitVec 1 := Scalar.cmpi .slt v399 c0_i32_216
  let v404 : BitVec 1 := Scalar.xori v402 v403
  let c0_i32_214 : BitVec 32 := 0#32
  let v401 : BitVec 1 := Scalar.cmpi .ne v400 c0_i32_214
  let v405 : BitVec 1 := Scalar.andi v404 v401
  let v406 : BitVec 32 := Scalar.addi v400 v399
  let v407 : BitVec 32 := Scalar.select v405 v406 v400
  let v408 : BitVec 32 := Scalar.subi v407 c0_i32_217
  let c1_i32_218 : BitVec 32 := 1#32
  let v410 : BitVec 32 := Scalar.divsi v408 c1_i32_218
  let v411 : BitVec 32 := Scalar.muli v410 c1_i32_218
  let v412 : BitVec 32 := Scalar.addi c0_i32_217 v411
  let c1_i32_220 : BitVec 32 := 1#32
  let arg9 : BitVec 32 := Scf.iv v412 c1_i32_220 k1_t8
  let v1682 : Index := Scalar.indexCast arg9
  let c80_916 : Index := 80#32
  ![1, v1682.toNat, 80]
def k1_off73 (v242 : BitVec 32) (k1_t8 : Fin (k1_t8_loop v242).trips) : Fin 3 → Nat :=
  let c1_i32_917 : BitVec 32 := 1#32
  let v1686 : Index := Scalar.indexCast c1_i32_917
  let c0_i32_217 : BitVec 32 := 0#32
  let c64_i32_211 : BitVec 32 := 64#32
  let c0_i32_212 : BitVec 32 := 0#32
  let v398 : BitVec 1 := Scalar.cmpi .eq c64_i32_211 c0_i32_212
  let c1_i32_213 : BitVec 32 := 1#32
  let v399 : BitVec 32 := Scalar.select v398 c1_i32_213 c64_i32_211
  let v400 : BitVec 32 := Scalar.remsi v242 v399
  let c0_i32_215 : BitVec 32 := 0#32
  let v402 : BitVec 1 := Scalar.cmpi .slt v400 c0_i32_215
  let c0_i32_216 : BitVec 32 := 0#32
  let v403 : BitVec 1 := Scalar.cmpi .slt v399 c0_i32_216
  let v404 : BitVec 1 := Scalar.xori v402 v403
  let c0_i32_214 : BitVec 32 := 0#32
  let v401 : BitVec 1 := Scalar.cmpi .ne v400 c0_i32_214
  let v405 : BitVec 1 := Scalar.andi v404 v401
  let v406 : BitVec 32 := Scalar.addi v400 v399
  let v407 : BitVec 32 := Scalar.select v405 v406 v400
  let v408 : BitVec 32 := Scalar.subi v407 c0_i32_217
  let c1_i32_218 : BitVec 32 := 1#32
  let v410 : BitVec 32 := Scalar.divsi v408 c1_i32_218
  let v411 : BitVec 32 := Scalar.muli v410 c1_i32_218
  let v412 : BitVec 32 := Scalar.addi c0_i32_217 v411
  let c1_i32_220 : BitVec 32 := 1#32
  let arg9 : BitVec 32 := Scf.iv v412 c1_i32_220 k1_t8
  let v1687 : Index := Scalar.indexCast arg9
  let c96_918 : Index := 96#32
  ![1, v1687.toNat, 96]
def k1_off74 (v242 : BitVec 32) (k1_t8 : Fin (k1_t8_loop v242).trips) : Fin 3 → Nat :=
  let c1_i32_919 : BitVec 32 := 1#32
  let v1691 : Index := Scalar.indexCast c1_i32_919
  let c0_i32_217 : BitVec 32 := 0#32
  let c64_i32_211 : BitVec 32 := 64#32
  let c0_i32_212 : BitVec 32 := 0#32
  let v398 : BitVec 1 := Scalar.cmpi .eq c64_i32_211 c0_i32_212
  let c1_i32_213 : BitVec 32 := 1#32
  let v399 : BitVec 32 := Scalar.select v398 c1_i32_213 c64_i32_211
  let v400 : BitVec 32 := Scalar.remsi v242 v399
  let c0_i32_215 : BitVec 32 := 0#32
  let v402 : BitVec 1 := Scalar.cmpi .slt v400 c0_i32_215
  let c0_i32_216 : BitVec 32 := 0#32
  let v403 : BitVec 1 := Scalar.cmpi .slt v399 c0_i32_216
  let v404 : BitVec 1 := Scalar.xori v402 v403
  let c0_i32_214 : BitVec 32 := 0#32
  let v401 : BitVec 1 := Scalar.cmpi .ne v400 c0_i32_214
  let v405 : BitVec 1 := Scalar.andi v404 v401
  let v406 : BitVec 32 := Scalar.addi v400 v399
  let v407 : BitVec 32 := Scalar.select v405 v406 v400
  let v408 : BitVec 32 := Scalar.subi v407 c0_i32_217
  let c1_i32_218 : BitVec 32 := 1#32
  let v410 : BitVec 32 := Scalar.divsi v408 c1_i32_218
  let v411 : BitVec 32 := Scalar.muli v410 c1_i32_218
  let v412 : BitVec 32 := Scalar.addi c0_i32_217 v411
  let c1_i32_220 : BitVec 32 := 1#32
  let arg9 : BitVec 32 := Scf.iv v412 c1_i32_220 k1_t8
  let v1692 : Index := Scalar.indexCast arg9
  let c112_920 : Index := 112#32
  ![1, v1692.toNat, 112]

def k1_chk4 (v242 : BitVec 32) : Prop :=
  (∀ a, (k1_off39 v242) a + S64x128.size a ≤ S320000x128.size a) ∧
  (∀ a, (k1_off58 v242) a + S64x128.size a ≤ S320000x128.size a) ∧
  ((k1_t7_loop v242).OK) ∧
  (∀ k1_t7 : Fin (k1_t7_loop v242).trips, ∀ a, (k1_off59 v242 k1_t7) a + S1x1x16.size a ≤ S2x64x128.size a) ∧
  (∀ k1_t7 : Fin (k1_t7_loop v242).trips, ∀ a, (k1_off60 v242 k1_t7) a + S1x1x16.size a ≤ S2x64x128.size a) ∧
  (∀ k1_t7 : Fin (k1_t7_loop v242).trips, ∀ a, (k1_off61 v242 k1_t7) a + S1x1x16.size a ≤ S2x64x128.size a) ∧
  (∀ k1_t7 : Fin (k1_t7_loop v242).trips, ∀ a, (k1_off62 v242 k1_t7) a + S1x1x16.size a ≤ S2x64x128.size a) ∧
  (∀ k1_t7 : Fin (k1_t7_loop v242).trips, ∀ a, (k1_off63 v242 k1_t7) a + S1x1x16.size a ≤ S2x64x128.size a) ∧
  (∀ k1_t7 : Fin (k1_t7_loop v242).trips, ∀ a, (k1_off64 v242 k1_t7) a + S1x1x16.size a ≤ S2x64x128.size a) ∧
  (∀ k1_t7 : Fin (k1_t7_loop v242).trips, ∀ a, (k1_off65 v242 k1_t7) a + S1x1x16.size a ≤ S2x64x128.size a) ∧
  (∀ k1_t7 : Fin (k1_t7_loop v242).trips, ∀ a, (k1_off66 v242 k1_t7) a + S1x1x16.size a ≤ S2x64x128.size a) ∧
  ((k1_t8_loop v242).OK) ∧
  (∀ k1_t8 : Fin (k1_t8_loop v242).trips, ∀ a, (k1_off67 v242 k1_t8) a + S1x1x16.size a ≤ S2x64x128.size a) ∧
  (∀ k1_t8 : Fin (k1_t8_loop v242).trips, ∀ a, (k1_off68 v242 k1_t8) a + S1x1x16.size a ≤ S2x64x128.size a) ∧
  (∀ k1_t8 : Fin (k1_t8_loop v242).trips, ∀ a, (k1_off69 v242 k1_t8) a + S1x1x16.size a ≤ S2x64x128.size a) ∧
  (∀ k1_t8 : Fin (k1_t8_loop v242).trips, ∀ a, (k1_off70 v242 k1_t8) a + S1x1x16.size a ≤ S2x64x128.size a) ∧
  (∀ k1_t8 : Fin (k1_t8_loop v242).trips, ∀ a, (k1_off71 v242 k1_t8) a + S1x1x16.size a ≤ S2x64x128.size a) ∧
  (∀ k1_t8 : Fin (k1_t8_loop v242).trips, ∀ a, (k1_off72 v242 k1_t8) a + S1x1x16.size a ≤ S2x64x128.size a) ∧
  (∀ k1_t8 : Fin (k1_t8_loop v242).trips, ∀ a, (k1_off73 v242 k1_t8) a + S1x1x16.size a ≤ S2x64x128.size a) ∧
  (∀ k1_t8 : Fin (k1_t8_loop v242).trips, ∀ a, (k1_off74 v242 k1_t8) a + S1x1x16.size a ≤ S2x64x128.size a)
theorem k1_off39_inb : ∀ (v242 : BitVec 32) (k1_hw4 : k1_chk4 v242), ∀ a, (k1_off39 v242) a + S64x128.size a ≤ S320000x128.size a := fun v242 k1_hw4 => k1_hw4.1
theorem k1_off58_inb : ∀ (v242 : BitVec 32) (k1_hw4 : k1_chk4 v242), ∀ a, (k1_off58 v242) a + S64x128.size a ≤ S320000x128.size a := fun v242 k1_hw4 => k1_hw4.2.1
theorem k1_t7_ok : ∀ (v242 : BitVec 32) (k1_hw4 : k1_chk4 v242), (k1_t7_loop v242).OK := fun v242 k1_hw4 => k1_hw4.2.2.1
theorem k1_off59_inb : ∀ (v242 : BitVec 32) (k1_hw4 : k1_chk4 v242) (k1_t7 : Fin (k1_t7_loop v242).trips), ∀ a, (k1_off59 v242 k1_t7) a + S1x1x16.size a ≤ S2x64x128.size a := fun v242 k1_hw4 k1_t7 => k1_hw4.2.2.2.1 k1_t7
theorem k1_off60_inb : ∀ (v242 : BitVec 32) (k1_hw4 : k1_chk4 v242) (k1_t7 : Fin (k1_t7_loop v242).trips), ∀ a, (k1_off60 v242 k1_t7) a + S1x1x16.size a ≤ S2x64x128.size a := fun v242 k1_hw4 k1_t7 => k1_hw4.2.2.2.2.1 k1_t7
theorem k1_off61_inb : ∀ (v242 : BitVec 32) (k1_hw4 : k1_chk4 v242) (k1_t7 : Fin (k1_t7_loop v242).trips), ∀ a, (k1_off61 v242 k1_t7) a + S1x1x16.size a ≤ S2x64x128.size a := fun v242 k1_hw4 k1_t7 => k1_hw4.2.2.2.2.2.1 k1_t7
theorem k1_off62_inb : ∀ (v242 : BitVec 32) (k1_hw4 : k1_chk4 v242) (k1_t7 : Fin (k1_t7_loop v242).trips), ∀ a, (k1_off62 v242 k1_t7) a + S1x1x16.size a ≤ S2x64x128.size a := fun v242 k1_hw4 k1_t7 => k1_hw4.2.2.2.2.2.2.1 k1_t7
theorem k1_off63_inb : ∀ (v242 : BitVec 32) (k1_hw4 : k1_chk4 v242) (k1_t7 : Fin (k1_t7_loop v242).trips), ∀ a, (k1_off63 v242 k1_t7) a + S1x1x16.size a ≤ S2x64x128.size a := fun v242 k1_hw4 k1_t7 => k1_hw4.2.2.2.2.2.2.2.1 k1_t7
theorem k1_off64_inb : ∀ (v242 : BitVec 32) (k1_hw4 : k1_chk4 v242) (k1_t7 : Fin (k1_t7_loop v242).trips), ∀ a, (k1_off64 v242 k1_t7) a + S1x1x16.size a ≤ S2x64x128.size a := fun v242 k1_hw4 k1_t7 => k1_hw4.2.2.2.2.2.2.2.2.1 k1_t7
theorem k1_off65_inb : ∀ (v242 : BitVec 32) (k1_hw4 : k1_chk4 v242) (k1_t7 : Fin (k1_t7_loop v242).trips), ∀ a, (k1_off65 v242 k1_t7) a + S1x1x16.size a ≤ S2x64x128.size a := fun v242 k1_hw4 k1_t7 => k1_hw4.2.2.2.2.2.2.2.2.2.1 k1_t7
theorem k1_off66_inb : ∀ (v242 : BitVec 32) (k1_hw4 : k1_chk4 v242) (k1_t7 : Fin (k1_t7_loop v242).trips), ∀ a, (k1_off66 v242 k1_t7) a + S1x1x16.size a ≤ S2x64x128.size a := fun v242 k1_hw4 k1_t7 => k1_hw4.2.2.2.2.2.2.2.2.2.2.1 k1_t7
theorem k1_t8_ok : ∀ (v242 : BitVec 32) (k1_hw4 : k1_chk4 v242), (k1_t8_loop v242).OK := fun v242 k1_hw4 => k1_hw4.2.2.2.2.2.2.2.2.2.2.2.1
theorem k1_off67_inb : ∀ (v242 : BitVec 32) (k1_hw4 : k1_chk4 v242) (k1_t8 : Fin (k1_t8_loop v242).trips), ∀ a, (k1_off67 v242 k1_t8) a + S1x1x16.size a ≤ S2x64x128.size a := fun v242 k1_hw4 k1_t8 => k1_hw4.2.2.2.2.2.2.2.2.2.2.2.2.1 k1_t8
theorem k1_off68_inb : ∀ (v242 : BitVec 32) (k1_hw4 : k1_chk4 v242) (k1_t8 : Fin (k1_t8_loop v242).trips), ∀ a, (k1_off68 v242 k1_t8) a + S1x1x16.size a ≤ S2x64x128.size a := fun v242 k1_hw4 k1_t8 => k1_hw4.2.2.2.2.2.2.2.2.2.2.2.2.2.1 k1_t8
theorem k1_off69_inb : ∀ (v242 : BitVec 32) (k1_hw4 : k1_chk4 v242) (k1_t8 : Fin (k1_t8_loop v242).trips), ∀ a, (k1_off69 v242 k1_t8) a + S1x1x16.size a ≤ S2x64x128.size a := fun v242 k1_hw4 k1_t8 => k1_hw4.2.2.2.2.2.2.2.2.2.2.2.2.2.2.1 k1_t8
theorem k1_off70_inb : ∀ (v242 : BitVec 32) (k1_hw4 : k1_chk4 v242) (k1_t8 : Fin (k1_t8_loop v242).trips), ∀ a, (k1_off70 v242 k1_t8) a + S1x1x16.size a ≤ S2x64x128.size a := fun v242 k1_hw4 k1_t8 => k1_hw4.2.2.2.2.2.2.2.2.2.2.2.2.2.2.2.1 k1_t8
theorem k1_off71_inb : ∀ (v242 : BitVec 32) (k1_hw4 : k1_chk4 v242) (k1_t8 : Fin (k1_t8_loop v242).trips), ∀ a, (k1_off71 v242 k1_t8) a + S1x1x16.size a ≤ S2x64x128.size a := fun v242 k1_hw4 k1_t8 => k1_hw4.2.2.2.2.2.2.2.2.2.2.2.2.2.2.2.2.1 k1_t8
theorem k1_off72_inb : ∀ (v242 : BitVec 32) (k1_hw4 : k1_chk4 v242) (k1_t8 : Fin (k1_t8_loop v242).trips), ∀ a, (k1_off72 v242 k1_t8) a + S1x1x16.size a ≤ S2x64x128.size a := fun v242 k1_hw4 k1_t8 => k1_hw4.2.2.2.2.2.2.2.2.2.2.2.2.2.2.2.2.2.1 k1_t8
theorem k1_off73_inb : ∀ (v242 : BitVec 32) (k1_hw4 : k1_chk4 v242) (k1_t8 : Fin (k1_t8_loop v242).trips), ∀ a, (k1_off73 v242 k1_t8) a + S1x1x16.size a ≤ S2x64x128.size a := fun v242 k1_hw4 k1_t8 => k1_hw4.2.2.2.2.2.2.2.2.2.2.2.2.2.2.2.2.2.2.1 k1_t8
theorem k1_off74_inb : ∀ (v242 : BitVec 32) (k1_hw4 : k1_chk4 v242) (k1_t8 : Fin (k1_t8_loop v242).trips), ∀ a, (k1_off74 v242 k1_t8) a + S1x1x16.size a ≤ S2x64x128.size a := fun v242 k1_hw4 k1_t8 => k1_hw4.2.2.2.2.2.2.2.2.2.2.2.2.2.2.2.2.2.2.2 k1_t8

def k1_off75 (v448 : BitVec 32) : Fin 2 → Nat :=
  let c0_i32_237 : BitVec 32 := 0#32
  let v450 : BitVec 1 := Scalar.cmpi .sgt v448 c0_i32_237
  let v451 : BitVec 32 := Scalar.extui v450
  let c0_i32_238 : BitVec 32 := 0#32
  let v452 : BitVec 1 := Scalar.cmpi .slt v448 c0_i32_238
  let v453 : BitVec 32 := Scalar.extui v452
  let v454 : BitVec 32 := Scalar.subi v451 v453
  let c64_i32_236 : BitVec 32 := 64#32
  let c0_i32_239 : BitVec 32 := 0#32
  let v455 : BitVec 1 := Scalar.cmpi .sgt c64_i32_236 c0_i32_239
  let v456 : BitVec 32 := Scalar.extui v455
  let c0_i32_240 : BitVec 32 := 0#32
  let v457 : BitVec 1 := Scalar.cmpi .slt c64_i32_236 c0_i32_240
  let v458 : BitVec 32 := Scalar.extui v457
  let v459 : BitVec 32 := Scalar.subi v456 v458
  let v460 : BitVec 1 := Scalar.cmpi .ne v454 v459
  let v461 : BitVec 32 := Scalar.remsi v448 c64_i32_236
  let c0_i32_241 : BitVec 32 := 0#32
  let v462 : BitVec 1 := Scalar.cmpi .ne v461 c0_i32_241
  let v463 : BitVec 1 := Scalar.andi v460 v462
  let v449 : BitVec 32 := Scalar.divsi v448 c64_i32_236
  let c1_i32_242 : BitVec 32 := 1#32
  let v464 : BitVec 32 := Scalar.subi v449 c1_i32_242
  let v465 : BitVec 32 := Scalar.select v463 v464 v449
  let c64_i32_243 : BitVec 32 := 64#32
  let v466 : BitVec 32 := Scalar.muli v465 c64_i32_243
  let c0_i32_248 : BitVec 32 := 0#32
  ![v466.toNat, 0]

def k1_off76 (v345 : BitVec 32) : Fin 2 → Nat :=
  let c0_i32_253 : BitVec 32 := 0#32
  let v476 : BitVec 1 := Scalar.cmpi .sgt v345 c0_i32_253
  let v477 : BitVec 32 := Scalar.extui v476
  let c0_i32_254 : BitVec 32 := 0#32
  let v478 : BitVec 1 := Scalar.cmpi .slt v345 c0_i32_254
  let v479 : BitVec 32 := Scalar.extui v478
  let v480 : BitVec 32 := Scalar.subi v477 v479
  let c64_i32_252 : BitVec 32 := 64#32
  let c0_i32_255 : BitVec 32 := 0#32
  let v481 : BitVec 1 := Scalar.cmpi .sgt c64_i32_252 c0_i32_255
  let v482 : BitVec 32 := Scalar.extui v481
  let c0_i32_256 : BitVec 32 := 0#32
  let v483 : BitVec 1 := Scalar.cmpi .slt c64_i32_252 c0_i32_256
  let v484 : BitVec 32 := Scalar.extui v483
  let v485 : BitVec 32 := Scalar.subi v482 v484
  let v486 : BitVec 1 := Scalar.cmpi .ne v480 v485
  let v487 : BitVec 32 := Scalar.remsi v345 c64_i32_252
  let c0_i32_257 : BitVec 32 := 0#32
  let v488 : BitVec 1 := Scalar.cmpi .ne v487 c0_i32_257
  let v489 : BitVec 1 := Scalar.andi v486 v488
  let v475 : BitVec 32 := Scalar.divsi v345 c64_i32_252
  let c1_i32_258 : BitVec 32 := 1#32
  let v490 : BitVec 32 := Scalar.subi v475 c1_i32_258
  let v491 : BitVec 32 := Scalar.select v489 v490 v475
  let c64_i32_259 : BitVec 32 := 64#32
  let v492 : BitVec 32 := Scalar.muli v491 c64_i32_259
  let c0_i32_264 : BitVec 32 := 0#32
  ![v492.toNat, 0]
@[reducible] def k1_t9_loop (v345 : BitVec 32) : Scf.Loop 32 :=
  let c0_i32_274 : BitVec 32 := 0#32
  let c64_i32_268 : BitVec 32 := 64#32
  let c0_i32_269 : BitVec 32 := 0#32
  let v501 : BitVec 1 := Scalar.cmpi .eq c64_i32_268 c0_i32_269
  let c1_i32_270 : BitVec 32 := 1#32
  let v502 : BitVec 32 := Scalar.select v501 c1_i32_270 c64_i32_268
  let v503 : BitVec 32 := Scalar.remsi v345 v502
  let c0_i32_272 : BitVec 32 := 0#32
  let v505 : BitVec 1 := Scalar.cmpi .slt v503 c0_i32_272
  let c0_i32_273 : BitVec 32 := 0#32
  let v506 : BitVec 1 := Scalar.cmpi .slt v502 c0_i32_273
  let v507 : BitVec 1 := Scalar.xori v505 v506
  let c0_i32_271 : BitVec 32 := 0#32
  let v504 : BitVec 1 := Scalar.cmpi .ne v503 c0_i32_271
  let v508 : BitVec 1 := Scalar.andi v507 v504
  let v509 : BitVec 32 := Scalar.addi v503 v502
  let v510 : BitVec 32 := Scalar.select v508 v509 v503
  let v511 : BitVec 32 := Scalar.subi v510 c0_i32_274
  let c1_i32_275 : BitVec 32 := 1#32
  let v513 : BitVec 32 := Scalar.divsi v511 c1_i32_275
  let v514 : BitVec 32 := Scalar.muli v513 c1_i32_275
  let v515 : BitVec 32 := Scalar.addi c0_i32_274 v514
  let c1_i32_276 : BitVec 32 := 1#32
  ⟨c0_i32_274, v515, c1_i32_276⟩
def k1_off77 (v345 : BitVec 32) (k1_t9 : Fin (k1_t9_loop v345).trips) : Fin 3 → Nat :=
  let c0_i32_905 : BitVec 32 := 0#32
  let v1656 : Index := Scalar.indexCast c0_i32_905
  let c0_i32_274 : BitVec 32 := 0#32
  let c1_i32_276 : BitVec 32 := 1#32
  let arg9 : BitVec 32 := Scf.iv c0_i32_274 c1_i32_276 k1_t9
  let v1657 : Index := Scalar.indexCast arg9
  let c0_906 : Index := 0#32
  ![0, v1657.toNat, 0]
def k1_off78 (v345 : BitVec 32) (k1_t9 : Fin (k1_t9_loop v345).trips) : Fin 3 → Nat :=
  let c0_i32_907 : BitVec 32 := 0#32
  let v1661 : Index := Scalar.indexCast c0_i32_907
  let c0_i32_274 : BitVec 32 := 0#32
  let c1_i32_276 : BitVec 32 := 1#32
  let arg9 : BitVec 32 := Scf.iv c0_i32_274 c1_i32_276 k1_t9
  let v1662 : Index := Scalar.indexCast arg9
  let c16_908 : Index := 16#32
  ![0, v1662.toNat, 16]
def k1_off79 (v345 : BitVec 32) (k1_t9 : Fin (k1_t9_loop v345).trips) : Fin 3 → Nat :=
  let c0_i32_909 : BitVec 32 := 0#32
  let v1666 : Index := Scalar.indexCast c0_i32_909
  let c0_i32_274 : BitVec 32 := 0#32
  let c1_i32_276 : BitVec 32 := 1#32
  let arg9 : BitVec 32 := Scf.iv c0_i32_274 c1_i32_276 k1_t9
  let v1667 : Index := Scalar.indexCast arg9
  let c32_910 : Index := 32#32
  ![0, v1667.toNat, 32]
def k1_off80 (v345 : BitVec 32) (k1_t9 : Fin (k1_t9_loop v345).trips) : Fin 3 → Nat :=
  let c0_i32_911 : BitVec 32 := 0#32
  let v1671 : Index := Scalar.indexCast c0_i32_911
  let c0_i32_274 : BitVec 32 := 0#32
  let c1_i32_276 : BitVec 32 := 1#32
  let arg9 : BitVec 32 := Scf.iv c0_i32_274 c1_i32_276 k1_t9
  let v1672 : Index := Scalar.indexCast arg9
  let c48_912 : Index := 48#32
  ![0, v1672.toNat, 48]
def k1_off81 (v345 : BitVec 32) (k1_t9 : Fin (k1_t9_loop v345).trips) : Fin 3 → Nat :=
  let c0_i32_913 : BitVec 32 := 0#32
  let v1676 : Index := Scalar.indexCast c0_i32_913
  let c0_i32_274 : BitVec 32 := 0#32
  let c1_i32_276 : BitVec 32 := 1#32
  let arg9 : BitVec 32 := Scf.iv c0_i32_274 c1_i32_276 k1_t9
  let v1677 : Index := Scalar.indexCast arg9
  let c64_914 : Index := 64#32
  ![0, v1677.toNat, 64]
def k1_off82 (v345 : BitVec 32) (k1_t9 : Fin (k1_t9_loop v345).trips) : Fin 3 → Nat :=
  let c0_i32_915 : BitVec 32 := 0#32
  let v1681 : Index := Scalar.indexCast c0_i32_915
  let c0_i32_274 : BitVec 32 := 0#32
  let c1_i32_276 : BitVec 32 := 1#32
  let arg9 : BitVec 32 := Scf.iv c0_i32_274 c1_i32_276 k1_t9
  let v1682 : Index := Scalar.indexCast arg9
  let c80_916 : Index := 80#32
  ![0, v1682.toNat, 80]
def k1_off83 (v345 : BitVec 32) (k1_t9 : Fin (k1_t9_loop v345).trips) : Fin 3 → Nat :=
  let c0_i32_917 : BitVec 32 := 0#32
  let v1686 : Index := Scalar.indexCast c0_i32_917
  let c0_i32_274 : BitVec 32 := 0#32
  let c1_i32_276 : BitVec 32 := 1#32
  let arg9 : BitVec 32 := Scf.iv c0_i32_274 c1_i32_276 k1_t9
  let v1687 : Index := Scalar.indexCast arg9
  let c96_918 : Index := 96#32
  ![0, v1687.toNat, 96]
def k1_off84 (v345 : BitVec 32) (k1_t9 : Fin (k1_t9_loop v345).trips) : Fin 3 → Nat :=
  let c0_i32_919 : BitVec 32 := 0#32
  let v1691 : Index := Scalar.indexCast c0_i32_919
  let c0_i32_274 : BitVec 32 := 0#32
  let c1_i32_276 : BitVec 32 := 1#32
  let arg9 : BitVec 32 := Scf.iv c0_i32_274 c1_i32_276 k1_t9
  let v1692 : Index := Scalar.indexCast arg9
  let c112_920 : Index := 112#32
  ![0, v1692.toNat, 112]
@[reducible] def k1_t10_loop (v345 : BitVec 32) : Scf.Loop 32 :=
  let c0_i32_274 : BitVec 32 := 0#32
  let c64_i32_268 : BitVec 32 := 64#32
  let c0_i32_269 : BitVec 32 := 0#32
  let v501 : BitVec 1 := Scalar.cmpi .eq c64_i32_268 c0_i32_269
  let c1_i32_270 : BitVec 32 := 1#32
  let v502 : BitVec 32 := Scalar.select v501 c1_i32_270 c64_i32_268
  let v503 : BitVec 32 := Scalar.remsi v345 v502
  let c0_i32_272 : BitVec 32 := 0#32
  let v505 : BitVec 1 := Scalar.cmpi .slt v503 c0_i32_272
  let c0_i32_273 : BitVec 32 := 0#32
  let v506 : BitVec 1 := Scalar.cmpi .slt v502 c0_i32_273
  let v507 : BitVec 1 := Scalar.xori v505 v506
  let c0_i32_271 : BitVec 32 := 0#32
  let v504 : BitVec 1 := Scalar.cmpi .ne v503 c0_i32_271
  let v508 : BitVec 1 := Scalar.andi v507 v504
  let v509 : BitVec 32 := Scalar.addi v503 v502
  let v510 : BitVec 32 := Scalar.select v508 v509 v503
  let v511 : BitVec 32 := Scalar.subi v510 c0_i32_274
  let c1_i32_275 : BitVec 32 := 1#32
  let v513 : BitVec 32 := Scalar.divsi v511 c1_i32_275
  let v514 : BitVec 32 := Scalar.muli v513 c1_i32_275
  let v515 : BitVec 32 := Scalar.addi c0_i32_274 v514
  let v512 : BitVec 32 := Scalar.addi c0_i32_274 v511
  let c1_i32_277 : BitVec 32 := 1#32
  ⟨v515, v512, c1_i32_277⟩
def k1_off85 (v345 : BitVec 32) (k1_t10 : Fin (k1_t10_loop v345).trips) : Fin 3 → Nat :=
  let c0_i32_905 : BitVec 32 := 0#32
  let v1656 : Index := Scalar.indexCast c0_i32_905
  let c0_i32_274 : BitVec 32 := 0#32
  let c64_i32_268 : BitVec 32 := 64#32
  let c0_i32_269 : BitVec 32 := 0#32
  let v501 : BitVec 1 := Scalar.cmpi .eq c64_i32_268 c0_i32_269
  let c1_i32_270 : BitVec 32 := 1#32
  let v502 : BitVec 32 := Scalar.select v501 c1_i32_270 c64_i32_268
  let v503 : BitVec 32 := Scalar.remsi v345 v502
  let c0_i32_272 : BitVec 32 := 0#32
  let v505 : BitVec 1 := Scalar.cmpi .slt v503 c0_i32_272
  let c0_i32_273 : BitVec 32 := 0#32
  let v506 : BitVec 1 := Scalar.cmpi .slt v502 c0_i32_273
  let v507 : BitVec 1 := Scalar.xori v505 v506
  let c0_i32_271 : BitVec 32 := 0#32
  let v504 : BitVec 1 := Scalar.cmpi .ne v503 c0_i32_271
  let v508 : BitVec 1 := Scalar.andi v507 v504
  let v509 : BitVec 32 := Scalar.addi v503 v502
  let v510 : BitVec 32 := Scalar.select v508 v509 v503
  let v511 : BitVec 32 := Scalar.subi v510 c0_i32_274
  let c1_i32_275 : BitVec 32 := 1#32
  let v513 : BitVec 32 := Scalar.divsi v511 c1_i32_275
  let v514 : BitVec 32 := Scalar.muli v513 c1_i32_275
  let v515 : BitVec 32 := Scalar.addi c0_i32_274 v514
  let c1_i32_277 : BitVec 32 := 1#32
  let arg9 : BitVec 32 := Scf.iv v515 c1_i32_277 k1_t10
  let v1657 : Index := Scalar.indexCast arg9
  let c0_906 : Index := 0#32
  ![0, v1657.toNat, 0]
def k1_off86 (v345 : BitVec 32) (k1_t10 : Fin (k1_t10_loop v345).trips) : Fin 3 → Nat :=
  let c0_i32_907 : BitVec 32 := 0#32
  let v1661 : Index := Scalar.indexCast c0_i32_907
  let c0_i32_274 : BitVec 32 := 0#32
  let c64_i32_268 : BitVec 32 := 64#32
  let c0_i32_269 : BitVec 32 := 0#32
  let v501 : BitVec 1 := Scalar.cmpi .eq c64_i32_268 c0_i32_269
  let c1_i32_270 : BitVec 32 := 1#32
  let v502 : BitVec 32 := Scalar.select v501 c1_i32_270 c64_i32_268
  let v503 : BitVec 32 := Scalar.remsi v345 v502
  let c0_i32_272 : BitVec 32 := 0#32
  let v505 : BitVec 1 := Scalar.cmpi .slt v503 c0_i32_272
  let c0_i32_273 : BitVec 32 := 0#32
  let v506 : BitVec 1 := Scalar.cmpi .slt v502 c0_i32_273
  let v507 : BitVec 1 := Scalar.xori v505 v506
  let c0_i32_271 : BitVec 32 := 0#32
  let v504 : BitVec 1 := Scalar.cmpi .ne v503 c0_i32_271
  let v508 : BitVec 1 := Scalar.andi v507 v504
  let v509 : BitVec 32 := Scalar.addi v503 v502
  let v510 : BitVec 32 := Scalar.select v508 v509 v503
  let v511 : BitVec 32 := Scalar.subi v510 c0_i32_274
  let c1_i32_275 : BitVec 32 := 1#32
  let v513 : BitVec 32 := Scalar.divsi v511 c1_i32_275
  let v514 : BitVec 32 := Scalar.muli v513 c1_i32_275
  let v515 : BitVec 32 := Scalar.addi c0_i32_274 v514
  let c1_i32_277 : BitVec 32 := 1#32
  let arg9 : BitVec 32 := Scf.iv v515 c1_i32_277 k1_t10
  let v1662 : Index := Scalar.indexCast arg9
  let c16_908 : Index := 16#32
  ![0, v1662.toNat, 16]
def k1_off87 (v345 : BitVec 32) (k1_t10 : Fin (k1_t10_loop v345).trips) : Fin 3 → Nat :=
  let c0_i32_909 : BitVec 32 := 0#32
  let v1666 : Index := Scalar.indexCast c0_i32_909
  let c0_i32_274 : BitVec 32 := 0#32
  let c64_i32_268 : BitVec 32 := 64#32
  let c0_i32_269 : BitVec 32 := 0#32
  let v501 : BitVec 1 := Scalar.cmpi .eq c64_i32_268 c0_i32_269
  let c1_i32_270 : BitVec 32 := 1#32
  let v502 : BitVec 32 := Scalar.select v501 c1_i32_270 c64_i32_268
  let v503 : BitVec 32 := Scalar.remsi v345 v502
  let c0_i32_272 : BitVec 32 := 0#32
  let v505 : BitVec 1 := Scalar.cmpi .slt v503 c0_i32_272
  let c0_i32_273 : BitVec 32 := 0#32
  let v506 : BitVec 1 := Scalar.cmpi .slt v502 c0_i32_273
  let v507 : BitVec 1 := Scalar.xori v505 v506
  let c0_i32_271 : BitVec 32 := 0#32
  let v504 : BitVec 1 := Scalar.cmpi .ne v503 c0_i32_271
  let v508 : BitVec 1 := Scalar.andi v507 v504
  let v509 : BitVec 32 := Scalar.addi v503 v502
  let v510 : BitVec 32 := Scalar.select v508 v509 v503
  let v511 : BitVec 32 := Scalar.subi v510 c0_i32_274
  let c1_i32_275 : BitVec 32 := 1#32
  let v513 : BitVec 32 := Scalar.divsi v511 c1_i32_275
  let v514 : BitVec 32 := Scalar.muli v513 c1_i32_275
  let v515 : BitVec 32 := Scalar.addi c0_i32_274 v514
  let c1_i32_277 : BitVec 32 := 1#32
  let arg9 : BitVec 32 := Scf.iv v515 c1_i32_277 k1_t10
  let v1667 : Index := Scalar.indexCast arg9
  let c32_910 : Index := 32#32
  ![0, v1667.toNat, 32]
def k1_off88 (v345 : BitVec 32) (k1_t10 : Fin (k1_t10_loop v345).trips) : Fin 3 → Nat :=
  let c0_i32_911 : BitVec 32 := 0#32
  let v1671 : Index := Scalar.indexCast c0_i32_911
  let c0_i32_274 : BitVec 32 := 0#32
  let c64_i32_268 : BitVec 32 := 64#32
  let c0_i32_269 : BitVec 32 := 0#32
  let v501 : BitVec 1 := Scalar.cmpi .eq c64_i32_268 c0_i32_269
  let c1_i32_270 : BitVec 32 := 1#32
  let v502 : BitVec 32 := Scalar.select v501 c1_i32_270 c64_i32_268
  let v503 : BitVec 32 := Scalar.remsi v345 v502
  let c0_i32_272 : BitVec 32 := 0#32
  let v505 : BitVec 1 := Scalar.cmpi .slt v503 c0_i32_272
  let c0_i32_273 : BitVec 32 := 0#32
  let v506 : BitVec 1 := Scalar.cmpi .slt v502 c0_i32_273
  let v507 : BitVec 1 := Scalar.xori v505 v506
  let c0_i32_271 : BitVec 32 := 0#32
  let v504 : BitVec 1 := Scalar.cmpi .ne v503 c0_i32_271
  let v508 : BitVec 1 := Scalar.andi v507 v504
  let v509 : BitVec 32 := Scalar.addi v503 v502
  let v510 : BitVec 32 := Scalar.select v508 v509 v503
  let v511 : BitVec 32 := Scalar.subi v510 c0_i32_274
  let c1_i32_275 : BitVec 32 := 1#32
  let v513 : BitVec 32 := Scalar.divsi v511 c1_i32_275
  let v514 : BitVec 32 := Scalar.muli v513 c1_i32_275
  let v515 : BitVec 32 := Scalar.addi c0_i32_274 v514
  let c1_i32_277 : BitVec 32 := 1#32
  let arg9 : BitVec 32 := Scf.iv v515 c1_i32_277 k1_t10
  let v1672 : Index := Scalar.indexCast arg9
  let c48_912 : Index := 48#32
  ![0, v1672.toNat, 48]
def k1_off89 (v345 : BitVec 32) (k1_t10 : Fin (k1_t10_loop v345).trips) : Fin 3 → Nat :=
  let c0_i32_913 : BitVec 32 := 0#32
  let v1676 : Index := Scalar.indexCast c0_i32_913
  let c0_i32_274 : BitVec 32 := 0#32
  let c64_i32_268 : BitVec 32 := 64#32
  let c0_i32_269 : BitVec 32 := 0#32
  let v501 : BitVec 1 := Scalar.cmpi .eq c64_i32_268 c0_i32_269
  let c1_i32_270 : BitVec 32 := 1#32
  let v502 : BitVec 32 := Scalar.select v501 c1_i32_270 c64_i32_268
  let v503 : BitVec 32 := Scalar.remsi v345 v502
  let c0_i32_272 : BitVec 32 := 0#32
  let v505 : BitVec 1 := Scalar.cmpi .slt v503 c0_i32_272
  let c0_i32_273 : BitVec 32 := 0#32
  let v506 : BitVec 1 := Scalar.cmpi .slt v502 c0_i32_273
  let v507 : BitVec 1 := Scalar.xori v505 v506
  let c0_i32_271 : BitVec 32 := 0#32
  let v504 : BitVec 1 := Scalar.cmpi .ne v503 c0_i32_271
  let v508 : BitVec 1 := Scalar.andi v507 v504
  let v509 : BitVec 32 := Scalar.addi v503 v502
  let v510 : BitVec 32 := Scalar.select v508 v509 v503
  let v511 : BitVec 32 := Scalar.subi v510 c0_i32_274
  let c1_i32_275 : BitVec 32 := 1#32
  let v513 : BitVec 32 := Scalar.divsi v511 c1_i32_275
  let v514 : BitVec 32 := Scalar.muli v513 c1_i32_275
  let v515 : BitVec 32 := Scalar.addi c0_i32_274 v514
  let c1_i32_277 : BitVec 32 := 1#32
  let arg9 : BitVec 32 := Scf.iv v515 c1_i32_277 k1_t10
  let v1677 : Index := Scalar.indexCast arg9
  let c64_914 : Index := 64#32
  ![0, v1677.toNat, 64]
def k1_off90 (v345 : BitVec 32) (k1_t10 : Fin (k1_t10_loop v345).trips) : Fin 3 → Nat :=
  let c0_i32_915 : BitVec 32 := 0#32
  let v1681 : Index := Scalar.indexCast c0_i32_915
  let c0_i32_274 : BitVec 32 := 0#32
  let c64_i32_268 : BitVec 32 := 64#32
  let c0_i32_269 : BitVec 32 := 0#32
  let v501 : BitVec 1 := Scalar.cmpi .eq c64_i32_268 c0_i32_269
  let c1_i32_270 : BitVec 32 := 1#32
  let v502 : BitVec 32 := Scalar.select v501 c1_i32_270 c64_i32_268
  let v503 : BitVec 32 := Scalar.remsi v345 v502
  let c0_i32_272 : BitVec 32 := 0#32
  let v505 : BitVec 1 := Scalar.cmpi .slt v503 c0_i32_272
  let c0_i32_273 : BitVec 32 := 0#32
  let v506 : BitVec 1 := Scalar.cmpi .slt v502 c0_i32_273
  let v507 : BitVec 1 := Scalar.xori v505 v506
  let c0_i32_271 : BitVec 32 := 0#32
  let v504 : BitVec 1 := Scalar.cmpi .ne v503 c0_i32_271
  let v508 : BitVec 1 := Scalar.andi v507 v504
  let v509 : BitVec 32 := Scalar.addi v503 v502
  let v510 : BitVec 32 := Scalar.select v508 v509 v503
  let v511 : BitVec 32 := Scalar.subi v510 c0_i32_274
  let c1_i32_275 : BitVec 32 := 1#32
  let v513 : BitVec 32 := Scalar.divsi v511 c1_i32_275
  let v514 : BitVec 32 := Scalar.muli v513 c1_i32_275
  let v515 : BitVec 32 := Scalar.addi c0_i32_274 v514
  let c1_i32_277 : BitVec 32 := 1#32
  let arg9 : BitVec 32 := Scf.iv v515 c1_i32_277 k1_t10
  let v1682 : Index := Scalar.indexCast arg9
  let c80_916 : Index := 80#32
  ![0, v1682.toNat, 80]
def k1_off91 (v345 : BitVec 32) (k1_t10 : Fin (k1_t10_loop v345).trips) : Fin 3 → Nat :=
  let c0_i32_917 : BitVec 32 := 0#32
  let v1686 : Index := Scalar.indexCast c0_i32_917
  let c0_i32_274 : BitVec 32 := 0#32
  let c64_i32_268 : BitVec 32 := 64#32
  let c0_i32_269 : BitVec 32 := 0#32
  let v501 : BitVec 1 := Scalar.cmpi .eq c64_i32_268 c0_i32_269
  let c1_i32_270 : BitVec 32 := 1#32
  let v502 : BitVec 32 := Scalar.select v501 c1_i32_270 c64_i32_268
  let v503 : BitVec 32 := Scalar.remsi v345 v502
  let c0_i32_272 : BitVec 32 := 0#32
  let v505 : BitVec 1 := Scalar.cmpi .slt v503 c0_i32_272
  let c0_i32_273 : BitVec 32 := 0#32
  let v506 : BitVec 1 := Scalar.cmpi .slt v502 c0_i32_273
  let v507 : BitVec 1 := Scalar.xori v505 v506
  let c0_i32_271 : BitVec 32 := 0#32
  let v504 : BitVec 1 := Scalar.cmpi .ne v503 c0_i32_271
  let v508 : BitVec 1 := Scalar.andi v507 v504
  let v509 : BitVec 32 := Scalar.addi v503 v502
  let v510 : BitVec 32 := Scalar.select v508 v509 v503
  let v511 : BitVec 32 := Scalar.subi v510 c0_i32_274
  let c1_i32_275 : BitVec 32 := 1#32
  let v513 : BitVec 32 := Scalar.divsi v511 c1_i32_275
  let v514 : BitVec 32 := Scalar.muli v513 c1_i32_275
  let v515 : BitVec 32 := Scalar.addi c0_i32_274 v514
  let c1_i32_277 : BitVec 32 := 1#32
  let arg9 : BitVec 32 := Scf.iv v515 c1_i32_277 k1_t10
  let v1687 : Index := Scalar.indexCast arg9
  let c96_918 : Index := 96#32
  ![0, v1687.toNat, 96]
def k1_off92 (v345 : BitVec 32) (k1_t10 : Fin (k1_t10_loop v345).trips) : Fin 3 → Nat :=
  let c0_i32_919 : BitVec 32 := 0#32
  let v1691 : Index := Scalar.indexCast c0_i32_919
  let c0_i32_274 : BitVec 32 := 0#32
  let c64_i32_268 : BitVec 32 := 64#32
  let c0_i32_269 : BitVec 32 := 0#32
  let v501 : BitVec 1 := Scalar.cmpi .eq c64_i32_268 c0_i32_269
  let c1_i32_270 : BitVec 32 := 1#32
  let v502 : BitVec 32 := Scalar.select v501 c1_i32_270 c64_i32_268
  let v503 : BitVec 32 := Scalar.remsi v345 v502
  let c0_i32_272 : BitVec 32 := 0#32
  let v505 : BitVec 1 := Scalar.cmpi .slt v503 c0_i32_272
  let c0_i32_273 : BitVec 32 := 0#32
  let v506 : BitVec 1 := Scalar.cmpi .slt v502 c0_i32_273
  let v507 : BitVec 1 := Scalar.xori v505 v506
  let c0_i32_271 : BitVec 32 := 0#32
  let v504 : BitVec 1 := Scalar.cmpi .ne v503 c0_i32_271
  let v508 : BitVec 1 := Scalar.andi v507 v504
  let v509 : BitVec 32 := Scalar.addi v503 v502
  let v510 : BitVec 32 := Scalar.select v508 v509 v503
  let v511 : BitVec 32 := Scalar.subi v510 c0_i32_274
  let c1_i32_275 : BitVec 32 := 1#32
  let v513 : BitVec 32 := Scalar.divsi v511 c1_i32_275
  let v514 : BitVec 32 := Scalar.muli v513 c1_i32_275
  let v515 : BitVec 32 := Scalar.addi c0_i32_274 v514
  let c1_i32_277 : BitVec 32 := 1#32
  let arg9 : BitVec 32 := Scf.iv v515 c1_i32_277 k1_t10
  let v1692 : Index := Scalar.indexCast arg9
  let c112_920 : Index := 112#32
  ![0, v1692.toNat, 112]

def k1_chk5 (v345 : BitVec 32) : Prop :=
  (∀ a, (k1_off57 v345) a + S64x128.size a ≤ S320000x128.size a) ∧
  (∀ a, (k1_off76 v345) a + S64x128.size a ≤ S320000x128.size a) ∧
  ((k1_t9_loop v345).OK) ∧
  (∀ k1_t9 : Fin (k1_t9_loop v345).trips, ∀ a, (k1_off77 v345 k1_t9) a + S1x1x16.size a ≤ S2x64x128.size a) ∧
  (∀ k1_t9 : Fin (k1_t9_loop v345).trips, ∀ a, (k1_off78 v345 k1_t9) a + S1x1x16.size a ≤ S2x64x128.size a) ∧
  (∀ k1_t9 : Fin (k1_t9_loop v345).trips, ∀ a, (k1_off79 v345 k1_t9) a + S1x1x16.size a ≤ S2x64x128.size a) ∧
  (∀ k1_t9 : Fin (k1_t9_loop v345).trips, ∀ a, (k1_off80 v345 k1_t9) a + S1x1x16.size a ≤ S2x64x128.size a) ∧
  (∀ k1_t9 : Fin (k1_t9_loop v345).trips, ∀ a, (k1_off81 v345 k1_t9) a + S1x1x16.size a ≤ S2x64x128.size a) ∧
  (∀ k1_t9 : Fin (k1_t9_loop v345).trips, ∀ a, (k1_off82 v345 k1_t9) a + S1x1x16.size a ≤ S2x64x128.size a) ∧
  (∀ k1_t9 : Fin (k1_t9_loop v345).trips, ∀ a, (k1_off83 v345 k1_t9) a + S1x1x16.size a ≤ S2x64x128.size a) ∧
  (∀ k1_t9 : Fin (k1_t9_loop v345).trips, ∀ a, (k1_off84 v345 k1_t9) a + S1x1x16.size a ≤ S2x64x128.size a) ∧
  ((k1_t10_loop v345).OK) ∧
  (∀ k1_t10 : Fin (k1_t10_loop v345).trips, ∀ a, (k1_off85 v345 k1_t10) a + S1x1x16.size a ≤ S2x64x128.size a) ∧
  (∀ k1_t10 : Fin (k1_t10_loop v345).trips, ∀ a, (k1_off86 v345 k1_t10) a + S1x1x16.size a ≤ S2x64x128.size a) ∧
  (∀ k1_t10 : Fin (k1_t10_loop v345).trips, ∀ a, (k1_off87 v345 k1_t10) a + S1x1x16.size a ≤ S2x64x128.size a) ∧
  (∀ k1_t10 : Fin (k1_t10_loop v345).trips, ∀ a, (k1_off88 v345 k1_t10) a + S1x1x16.size a ≤ S2x64x128.size a) ∧
  (∀ k1_t10 : Fin (k1_t10_loop v345).trips, ∀ a, (k1_off89 v345 k1_t10) a + S1x1x16.size a ≤ S2x64x128.size a) ∧
  (∀ k1_t10 : Fin (k1_t10_loop v345).trips, ∀ a, (k1_off90 v345 k1_t10) a + S1x1x16.size a ≤ S2x64x128.size a) ∧
  (∀ k1_t10 : Fin (k1_t10_loop v345).trips, ∀ a, (k1_off91 v345 k1_t10) a + S1x1x16.size a ≤ S2x64x128.size a) ∧
  (∀ k1_t10 : Fin (k1_t10_loop v345).trips, ∀ a, (k1_off92 v345 k1_t10) a + S1x1x16.size a ≤ S2x64x128.size a)
theorem k1_off57_inb : ∀ (v345 : BitVec 32) (k1_hw5 : k1_chk5 v345), ∀ a, (k1_off57 v345) a + S64x128.size a ≤ S320000x128.size a := fun v345 k1_hw5 => k1_hw5.1
theorem k1_off76_inb : ∀ (v345 : BitVec 32) (k1_hw5 : k1_chk5 v345), ∀ a, (k1_off76 v345) a + S64x128.size a ≤ S320000x128.size a := fun v345 k1_hw5 => k1_hw5.2.1
theorem k1_t9_ok : ∀ (v345 : BitVec 32) (k1_hw5 : k1_chk5 v345), (k1_t9_loop v345).OK := fun v345 k1_hw5 => k1_hw5.2.2.1
theorem k1_off77_inb : ∀ (v345 : BitVec 32) (k1_hw5 : k1_chk5 v345) (k1_t9 : Fin (k1_t9_loop v345).trips), ∀ a, (k1_off77 v345 k1_t9) a + S1x1x16.size a ≤ S2x64x128.size a := fun v345 k1_hw5 k1_t9 => k1_hw5.2.2.2.1 k1_t9
theorem k1_off78_inb : ∀ (v345 : BitVec 32) (k1_hw5 : k1_chk5 v345) (k1_t9 : Fin (k1_t9_loop v345).trips), ∀ a, (k1_off78 v345 k1_t9) a + S1x1x16.size a ≤ S2x64x128.size a := fun v345 k1_hw5 k1_t9 => k1_hw5.2.2.2.2.1 k1_t9
theorem k1_off79_inb : ∀ (v345 : BitVec 32) (k1_hw5 : k1_chk5 v345) (k1_t9 : Fin (k1_t9_loop v345).trips), ∀ a, (k1_off79 v345 k1_t9) a + S1x1x16.size a ≤ S2x64x128.size a := fun v345 k1_hw5 k1_t9 => k1_hw5.2.2.2.2.2.1 k1_t9
theorem k1_off80_inb : ∀ (v345 : BitVec 32) (k1_hw5 : k1_chk5 v345) (k1_t9 : Fin (k1_t9_loop v345).trips), ∀ a, (k1_off80 v345 k1_t9) a + S1x1x16.size a ≤ S2x64x128.size a := fun v345 k1_hw5 k1_t9 => k1_hw5.2.2.2.2.2.2.1 k1_t9
theorem k1_off81_inb : ∀ (v345 : BitVec 32) (k1_hw5 : k1_chk5 v345) (k1_t9 : Fin (k1_t9_loop v345).trips), ∀ a, (k1_off81 v345 k1_t9) a + S1x1x16.size a ≤ S2x64x128.size a := fun v345 k1_hw5 k1_t9 => k1_hw5.2.2.2.2.2.2.2.1 k1_t9
theorem k1_off82_inb : ∀ (v345 : BitVec 32) (k1_hw5 : k1_chk5 v345) (k1_t9 : Fin (k1_t9_loop v345).trips), ∀ a, (k1_off82 v345 k1_t9) a + S1x1x16.size a ≤ S2x64x128.size a := fun v345 k1_hw5 k1_t9 => k1_hw5.2.2.2.2.2.2.2.2.1 k1_t9
theorem k1_off83_inb : ∀ (v345 : BitVec 32) (k1_hw5 : k1_chk5 v345) (k1_t9 : Fin (k1_t9_loop v345).trips), ∀ a, (k1_off83 v345 k1_t9) a + S1x1x16.size a ≤ S2x64x128.size a := fun v345 k1_hw5 k1_t9 => k1_hw5.2.2.2.2.2.2.2.2.2.1 k1_t9
theorem k1_off84_inb : ∀ (v345 : BitVec 32) (k1_hw5 : k1_chk5 v345) (k1_t9 : Fin (k1_t9_loop v345).trips), ∀ a, (k1_off84 v345 k1_t9) a + S1x1x16.size a ≤ S2x64x128.size a := fun v345 k1_hw5 k1_t9 => k1_hw5.2.2.2.2.2.2.2.2.2.2.1 k1_t9
theorem k1_t10_ok : ∀ (v345 : BitVec 32) (k1_hw5 : k1_chk5 v345), (k1_t10_loop v345).OK := fun v345 k1_hw5 => k1_hw5.2.2.2.2.2.2.2.2.2.2.2.1
theorem k1_off85_inb : ∀ (v345 : BitVec 32) (k1_hw5 : k1_chk5 v345) (k1_t10 : Fin (k1_t10_loop v345).trips), ∀ a, (k1_off85 v345 k1_t10) a + S1x1x16.size a ≤ S2x64x128.size a := fun v345 k1_hw5 k1_t10 => k1_hw5.2.2.2.2.2.2.2.2.2.2.2.2.1 k1_t10
theorem k1_off86_inb : ∀ (v345 : BitVec 32) (k1_hw5 : k1_chk5 v345) (k1_t10 : Fin (k1_t10_loop v345).trips), ∀ a, (k1_off86 v345 k1_t10) a + S1x1x16.size a ≤ S2x64x128.size a := fun v345 k1_hw5 k1_t10 => k1_hw5.2.2.2.2.2.2.2.2.2.2.2.2.2.1 k1_t10
theorem k1_off87_inb : ∀ (v345 : BitVec 32) (k1_hw5 : k1_chk5 v345) (k1_t10 : Fin (k1_t10_loop v345).trips), ∀ a, (k1_off87 v345 k1_t10) a + S1x1x16.size a ≤ S2x64x128.size a := fun v345 k1_hw5 k1_t10 => k1_hw5.2.2.2.2.2.2.2.2.2.2.2.2.2.2.1 k1_t10
theorem k1_off88_inb : ∀ (v345 : BitVec 32) (k1_hw5 : k1_chk5 v345) (k1_t10 : Fin (k1_t10_loop v345).trips), ∀ a, (k1_off88 v345 k1_t10) a + S1x1x16.size a ≤ S2x64x128.size a := fun v345 k1_hw5 k1_t10 => k1_hw5.2.2.2.2.2.2.2.2.2.2.2.2.2.2.2.1 k1_t10
theorem k1_off89_inb : ∀ (v345 : BitVec 32) (k1_hw5 : k1_chk5 v345) (k1_t10 : Fin (k1_t10_loop v345).trips), ∀ a, (k1_off89 v345 k1_t10) a + S1x1x16.size a ≤ S2x64x128.size a := fun v345 k1_hw5 k1_t10 => k1_hw5.2.2.2.2.2.2.2.2.2.2.2.2.2.2.2.2.1 k1_t10
theorem k1_off90_inb : ∀ (v345 : BitVec 32) (k1_hw5 : k1_chk5 v345) (k1_t10 : Fin (k1_t10_loop v345).trips), ∀ a, (k1_off90 v345 k1_t10) a + S1x1x16.size a ≤ S2x64x128.size a := fun v345 k1_hw5 k1_t10 => k1_hw5.2.2.2.2.2.2.2.2.2.2.2.2.2.2.2.2.2.1 k1_t10
theorem k1_off91_inb : ∀ (v345 : BitVec 32) (k1_hw5 : k1_chk5 v345) (k1_t10 : Fin (k1_t10_loop v345).trips), ∀ a, (k1_off91 v345 k1_t10) a + S1x1x16.size a ≤ S2x64x128.size a := fun v345 k1_hw5 k1_t10 => k1_hw5.2.2.2.2.2.2.2.2.2.2.2.2.2.2.2.2.2.2.1 k1_t10
theorem k1_off92_inb : ∀ (v345 : BitVec 32) (k1_hw5 : k1_chk5 v345) (k1_t10 : Fin (k1_t10_loop v345).trips), ∀ a, (k1_off92 v345 k1_t10) a + S1x1x16.size a ≤ S2x64x128.size a := fun v345 k1_hw5 k1_t10 => k1_hw5.2.2.2.2.2.2.2.2.2.2.2.2.2.2.2.2.2.2.2 k1_t10

def k1_off93 (v551 : BitVec 32) : Fin 2 → Nat :=
  let c0_i32_294 : BitVec 32 := 0#32
  let v553 : BitVec 1 := Scalar.cmpi .sgt v551 c0_i32_294
  let v554 : BitVec 32 := Scalar.extui v553
  let c0_i32_295 : BitVec 32 := 0#32
  let v555 : BitVec 1 := Scalar.cmpi .slt v551 c0_i32_295
  let v556 : BitVec 32 := Scalar.extui v555
  let v557 : BitVec 32 := Scalar.subi v554 v556
  let c64_i32_293 : BitVec 32 := 64#32
  let c0_i32_296 : BitVec 32 := 0#32
  let v558 : BitVec 1 := Scalar.cmpi .sgt c64_i32_293 c0_i32_296
  let v559 : BitVec 32 := Scalar.extui v558
  let c0_i32_297 : BitVec 32 := 0#32
  let v560 : BitVec 1 := Scalar.cmpi .slt c64_i32_293 c0_i32_297
  let v561 : BitVec 32 := Scalar.extui v560
  let v562 : BitVec 32 := Scalar.subi v559 v561
  let v563 : BitVec 1 := Scalar.cmpi .ne v557 v562
  let v564 : BitVec 32 := Scalar.remsi v551 c64_i32_293
  let c0_i32_298 : BitVec 32 := 0#32
  let v565 : BitVec 1 := Scalar.cmpi .ne v564 c0_i32_298
  let v566 : BitVec 1 := Scalar.andi v563 v565
  let v552 : BitVec 32 := Scalar.divsi v551 c64_i32_293
  let c1_i32_299 : BitVec 32 := 1#32
  let v567 : BitVec 32 := Scalar.subi v552 c1_i32_299
  let v568 : BitVec 32 := Scalar.select v566 v567 v552
  let c64_i32_300 : BitVec 32 := 64#32
  let v569 : BitVec 32 := Scalar.muli v568 c64_i32_300
  let c0_i32_305 : BitVec 32 := 0#32
  ![v569.toNat, 0]

def k1_off94 (v448 : BitVec 32) : Fin 2 → Nat :=
  let c0_i32_310 : BitVec 32 := 0#32
  let v579 : BitVec 1 := Scalar.cmpi .sgt v448 c0_i32_310
  let v580 : BitVec 32 := Scalar.extui v579
  let c0_i32_311 : BitVec 32 := 0#32
  let v581 : BitVec 1 := Scalar.cmpi .slt v448 c0_i32_311
  let v582 : BitVec 32 := Scalar.extui v581
  let v583 : BitVec 32 := Scalar.subi v580 v582
  let c64_i32_309 : BitVec 32 := 64#32
  let c0_i32_312 : BitVec 32 := 0#32
  let v584 : BitVec 1 := Scalar.cmpi .sgt c64_i32_309 c0_i32_312
  let v585 : BitVec 32 := Scalar.extui v584
  let c0_i32_313 : BitVec 32 := 0#32
  let v586 : BitVec 1 := Scalar.cmpi .slt c64_i32_309 c0_i32_313
  let v587 : BitVec 32 := Scalar.extui v586
  let v588 : BitVec 32 := Scalar.subi v585 v587
  let v589 : BitVec 1 := Scalar.cmpi .ne v583 v588
  let v590 : BitVec 32 := Scalar.remsi v448 c64_i32_309
  let c0_i32_314 : BitVec 32 := 0#32
  let v591 : BitVec 1 := Scalar.cmpi .ne v590 c0_i32_314
  let v592 : BitVec 1 := Scalar.andi v589 v591
  let v578 : BitVec 32 := Scalar.divsi v448 c64_i32_309
  let c1_i32_315 : BitVec 32 := 1#32
  let v593 : BitVec 32 := Scalar.subi v578 c1_i32_315
  let v594 : BitVec 32 := Scalar.select v592 v593 v578
  let c64_i32_316 : BitVec 32 := 64#32
  let v595 : BitVec 32 := Scalar.muli v594 c64_i32_316
  let c0_i32_321 : BitVec 32 := 0#32
  ![v595.toNat, 0]
@[reducible] def k1_t11_loop (v448 : BitVec 32) : Scf.Loop 32 :=
  let c0_i32_331 : BitVec 32 := 0#32
  let c64_i32_325 : BitVec 32 := 64#32
  let c0_i32_326 : BitVec 32 := 0#32
  let v604 : BitVec 1 := Scalar.cmpi .eq c64_i32_325 c0_i32_326
  let c1_i32_327 : BitVec 32 := 1#32
  let v605 : BitVec 32 := Scalar.select v604 c1_i32_327 c64_i32_325
  let v606 : BitVec 32 := Scalar.remsi v448 v605
  let c0_i32_329 : BitVec 32 := 0#32
  let v608 : BitVec 1 := Scalar.cmpi .slt v606 c0_i32_329
  let c0_i32_330 : BitVec 32 := 0#32
  let v609 : BitVec 1 := Scalar.cmpi .slt v605 c0_i32_330
  let v610 : BitVec 1 := Scalar.xori v608 v609
  let c0_i32_328 : BitVec 32 := 0#32
  let v607 : BitVec 1 := Scalar.cmpi .ne v606 c0_i32_328
  let v611 : BitVec 1 := Scalar.andi v610 v607
  let v612 : BitVec 32 := Scalar.addi v606 v605
  let v613 : BitVec 32 := Scalar.select v611 v612 v606
  let v614 : BitVec 32 := Scalar.subi v613 c0_i32_331
  let c1_i32_332 : BitVec 32 := 1#32
  let v616 : BitVec 32 := Scalar.divsi v614 c1_i32_332
  let v617 : BitVec 32 := Scalar.muli v616 c1_i32_332
  let v618 : BitVec 32 := Scalar.addi c0_i32_331 v617
  let c1_i32_333 : BitVec 32 := 1#32
  ⟨c0_i32_331, v618, c1_i32_333⟩
def k1_off95 (v448 : BitVec 32) (k1_t11 : Fin (k1_t11_loop v448).trips) : Fin 3 → Nat :=
  let c1_i32_905 : BitVec 32 := 1#32
  let v1656 : Index := Scalar.indexCast c1_i32_905
  let c0_i32_331 : BitVec 32 := 0#32
  let c1_i32_333 : BitVec 32 := 1#32
  let arg9 : BitVec 32 := Scf.iv c0_i32_331 c1_i32_333 k1_t11
  let v1657 : Index := Scalar.indexCast arg9
  let c0_906 : Index := 0#32
  ![1, v1657.toNat, 0]
def k1_off96 (v448 : BitVec 32) (k1_t11 : Fin (k1_t11_loop v448).trips) : Fin 3 → Nat :=
  let c1_i32_907 : BitVec 32 := 1#32
  let v1661 : Index := Scalar.indexCast c1_i32_907
  let c0_i32_331 : BitVec 32 := 0#32
  let c1_i32_333 : BitVec 32 := 1#32
  let arg9 : BitVec 32 := Scf.iv c0_i32_331 c1_i32_333 k1_t11
  let v1662 : Index := Scalar.indexCast arg9
  let c16_908 : Index := 16#32
  ![1, v1662.toNat, 16]
def k1_off97 (v448 : BitVec 32) (k1_t11 : Fin (k1_t11_loop v448).trips) : Fin 3 → Nat :=
  let c1_i32_909 : BitVec 32 := 1#32
  let v1666 : Index := Scalar.indexCast c1_i32_909
  let c0_i32_331 : BitVec 32 := 0#32
  let c1_i32_333 : BitVec 32 := 1#32
  let arg9 : BitVec 32 := Scf.iv c0_i32_331 c1_i32_333 k1_t11
  let v1667 : Index := Scalar.indexCast arg9
  let c32_910 : Index := 32#32
  ![1, v1667.toNat, 32]
def k1_off98 (v448 : BitVec 32) (k1_t11 : Fin (k1_t11_loop v448).trips) : Fin 3 → Nat :=
  let c1_i32_911 : BitVec 32 := 1#32
  let v1671 : Index := Scalar.indexCast c1_i32_911
  let c0_i32_331 : BitVec 32 := 0#32
  let c1_i32_333 : BitVec 32 := 1#32
  let arg9 : BitVec 32 := Scf.iv c0_i32_331 c1_i32_333 k1_t11
  let v1672 : Index := Scalar.indexCast arg9
  let c48_912 : Index := 48#32
  ![1, v1672.toNat, 48]
def k1_off99 (v448 : BitVec 32) (k1_t11 : Fin (k1_t11_loop v448).trips) : Fin 3 → Nat :=
  let c1_i32_913 : BitVec 32 := 1#32
  let v1676 : Index := Scalar.indexCast c1_i32_913
  let c0_i32_331 : BitVec 32 := 0#32
  let c1_i32_333 : BitVec 32 := 1#32
  let arg9 : BitVec 32 := Scf.iv c0_i32_331 c1_i32_333 k1_t11
  let v1677 : Index := Scalar.indexCast arg9
  let c64_914 : Index := 64#32
  ![1, v1677.toNat, 64]
def k1_off100 (v448 : BitVec 32) (k1_t11 : Fin (k1_t11_loop v448).trips) : Fin 3 → Nat :=
  let c1_i32_915 : BitVec 32 := 1#32
  let v1681 : Index := Scalar.indexCast c1_i32_915
  let c0_i32_331 : BitVec 32 := 0#32
  let c1_i32_333 : BitVec 32 := 1#32
  let arg9 : BitVec 32 := Scf.iv c0_i32_331 c1_i32_333 k1_t11
  let v1682 : Index := Scalar.indexCast arg9
  let c80_916 : Index := 80#32
  ![1, v1682.toNat, 80]
def k1_off101 (v448 : BitVec 32) (k1_t11 : Fin (k1_t11_loop v448).trips) : Fin 3 → Nat :=
  let c1_i32_917 : BitVec 32 := 1#32
  let v1686 : Index := Scalar.indexCast c1_i32_917
  let c0_i32_331 : BitVec 32 := 0#32
  let c1_i32_333 : BitVec 32 := 1#32
  let arg9 : BitVec 32 := Scf.iv c0_i32_331 c1_i32_333 k1_t11
  let v1687 : Index := Scalar.indexCast arg9
  let c96_918 : Index := 96#32
  ![1, v1687.toNat, 96]
def k1_off102 (v448 : BitVec 32) (k1_t11 : Fin (k1_t11_loop v448).trips) : Fin 3 → Nat :=
  let c1_i32_919 : BitVec 32 := 1#32
  let v1691 : Index := Scalar.indexCast c1_i32_919
  let c0_i32_331 : BitVec 32 := 0#32
  let c1_i32_333 : BitVec 32 := 1#32
  let arg9 : BitVec 32 := Scf.iv c0_i32_331 c1_i32_333 k1_t11
  let v1692 : Index := Scalar.indexCast arg9
  let c112_920 : Index := 112#32
  ![1, v1692.toNat, 112]
@[reducible] def k1_t12_loop (v448 : BitVec 32) : Scf.Loop 32 :=
  let c0_i32_331 : BitVec 32 := 0#32
  let c64_i32_325 : BitVec 32 := 64#32
  let c0_i32_326 : BitVec 32 := 0#32
  let v604 : BitVec 1 := Scalar.cmpi .eq c64_i32_325 c0_i32_326
  let c1_i32_327 : BitVec 32 := 1#32
  let v605 : BitVec 32 := Scalar.select v604 c1_i32_327 c64_i32_325
  let v606 : BitVec 32 := Scalar.remsi v448 v605
  let c0_i32_329 : BitVec 32 := 0#32
  let v608 : BitVec 1 := Scalar.cmpi .slt v606 c0_i32_329
  let c0_i32_330 : BitVec 32 := 0#32
  let v609 : BitVec 1 := Scalar.cmpi .slt v605 c0_i32_330
  let v610 : BitVec 1 := Scalar.xori v608 v609
  let c0_i32_328 : BitVec 32 := 0#32
  let v607 : BitVec 1 := Scalar.cmpi .ne v606 c0_i32_328
  let v611 : BitVec 1 := Scalar.andi v610 v607
  let v612 : BitVec 32 := Scalar.addi v606 v605
  let v613 : BitVec 32 := Scalar.select v611 v612 v606
  let v614 : BitVec 32 := Scalar.subi v613 c0_i32_331
  let c1_i32_332 : BitVec 32 := 1#32
  let v616 : BitVec 32 := Scalar.divsi v614 c1_i32_332
  let v617 : BitVec 32 := Scalar.muli v616 c1_i32_332
  let v618 : BitVec 32 := Scalar.addi c0_i32_331 v617
  let v615 : BitVec 32 := Scalar.addi c0_i32_331 v614
  let c1_i32_334 : BitVec 32 := 1#32
  ⟨v618, v615, c1_i32_334⟩
def k1_off103 (v448 : BitVec 32) (k1_t12 : Fin (k1_t12_loop v448).trips) : Fin 3 → Nat :=
  let c1_i32_905 : BitVec 32 := 1#32
  let v1656 : Index := Scalar.indexCast c1_i32_905
  let c0_i32_331 : BitVec 32 := 0#32
  let c64_i32_325 : BitVec 32 := 64#32
  let c0_i32_326 : BitVec 32 := 0#32
  let v604 : BitVec 1 := Scalar.cmpi .eq c64_i32_325 c0_i32_326
  let c1_i32_327 : BitVec 32 := 1#32
  let v605 : BitVec 32 := Scalar.select v604 c1_i32_327 c64_i32_325
  let v606 : BitVec 32 := Scalar.remsi v448 v605
  let c0_i32_329 : BitVec 32 := 0#32
  let v608 : BitVec 1 := Scalar.cmpi .slt v606 c0_i32_329
  let c0_i32_330 : BitVec 32 := 0#32
  let v609 : BitVec 1 := Scalar.cmpi .slt v605 c0_i32_330
  let v610 : BitVec 1 := Scalar.xori v608 v609
  let c0_i32_328 : BitVec 32 := 0#32
  let v607 : BitVec 1 := Scalar.cmpi .ne v606 c0_i32_328
  let v611 : BitVec 1 := Scalar.andi v610 v607
  let v612 : BitVec 32 := Scalar.addi v606 v605
  let v613 : BitVec 32 := Scalar.select v611 v612 v606
  let v614 : BitVec 32 := Scalar.subi v613 c0_i32_331
  let c1_i32_332 : BitVec 32 := 1#32
  let v616 : BitVec 32 := Scalar.divsi v614 c1_i32_332
  let v617 : BitVec 32 := Scalar.muli v616 c1_i32_332
  let v618 : BitVec 32 := Scalar.addi c0_i32_331 v617
  let c1_i32_334 : BitVec 32 := 1#32
  let arg9 : BitVec 32 := Scf.iv v618 c1_i32_334 k1_t12
  let v1657 : Index := Scalar.indexCast arg9
  let c0_906 : Index := 0#32
  ![1, v1657.toNat, 0]
def k1_off104 (v448 : BitVec 32) (k1_t12 : Fin (k1_t12_loop v448).trips) : Fin 3 → Nat :=
  let c1_i32_907 : BitVec 32 := 1#32
  let v1661 : Index := Scalar.indexCast c1_i32_907
  let c0_i32_331 : BitVec 32 := 0#32
  let c64_i32_325 : BitVec 32 := 64#32
  let c0_i32_326 : BitVec 32 := 0#32
  let v604 : BitVec 1 := Scalar.cmpi .eq c64_i32_325 c0_i32_326
  let c1_i32_327 : BitVec 32 := 1#32
  let v605 : BitVec 32 := Scalar.select v604 c1_i32_327 c64_i32_325
  let v606 : BitVec 32 := Scalar.remsi v448 v605
  let c0_i32_329 : BitVec 32 := 0#32
  let v608 : BitVec 1 := Scalar.cmpi .slt v606 c0_i32_329
  let c0_i32_330 : BitVec 32 := 0#32
  let v609 : BitVec 1 := Scalar.cmpi .slt v605 c0_i32_330
  let v610 : BitVec 1 := Scalar.xori v608 v609
  let c0_i32_328 : BitVec 32 := 0#32
  let v607 : BitVec 1 := Scalar.cmpi .ne v606 c0_i32_328
  let v611 : BitVec 1 := Scalar.andi v610 v607
  let v612 : BitVec 32 := Scalar.addi v606 v605
  let v613 : BitVec 32 := Scalar.select v611 v612 v606
  let v614 : BitVec 32 := Scalar.subi v613 c0_i32_331
  let c1_i32_332 : BitVec 32 := 1#32
  let v616 : BitVec 32 := Scalar.divsi v614 c1_i32_332
  let v617 : BitVec 32 := Scalar.muli v616 c1_i32_332
  let v618 : BitVec 32 := Scalar.addi c0_i32_331 v617
  let c1_i32_334 : BitVec 32 := 1#32
  let arg9 : BitVec 32 := Scf.iv v618 c1_i32_334 k1_t12
  let v1662 : Index := Scalar.indexCast arg9
  let c16_908 : Index := 16#32
  ![1, v1662.toNat, 16]
def k1_off105 (v448 : BitVec 32) (k1_t12 : Fin (k1_t12_loop v448).trips) : Fin 3 → Nat :=
  let c1_i32_909 : BitVec 32 := 1#32
  let v1666 : Index := Scalar.indexCast c1_i32_909
  let c0_i32_331 : BitVec 32 := 0#32
  let c64_i32_325 : BitVec 32 := 64#32
  let c0_i32_326 : BitVec 32 := 0#32
  let v604 : BitVec 1 := Scalar.cmpi .eq c64_i32_325 c0_i32_326
  let c1_i32_327 : BitVec 32 := 1#32
  let v605 : BitVec 32 := Scalar.select v604 c1_i32_327 c64_i32_325
  let v606 : BitVec 32 := Scalar.remsi v448 v605
  let c0_i32_329 : BitVec 32 := 0#32
  let v608 : BitVec 1 := Scalar.cmpi .slt v606 c0_i32_329
  let c0_i32_330 : BitVec 32 := 0#32
  let v609 : BitVec 1 := Scalar.cmpi .slt v605 c0_i32_330
  let v610 : BitVec 1 := Scalar.xori v608 v609
  let c0_i32_328 : BitVec 32 := 0#32
  let v607 : BitVec 1 := Scalar.cmpi .ne v606 c0_i32_328
  let v611 : BitVec 1 := Scalar.andi v610 v607
  let v612 : BitVec 32 := Scalar.addi v606 v605
  let v613 : BitVec 32 := Scalar.select v611 v612 v606
  let v614 : BitVec 32 := Scalar.subi v613 c0_i32_331
  let c1_i32_332 : BitVec 32 := 1#32
  let v616 : BitVec 32 := Scalar.divsi v614 c1_i32_332
  let v617 : BitVec 32 := Scalar.muli v616 c1_i32_332
  let v618 : BitVec 32 := Scalar.addi c0_i32_331 v617
  let c1_i32_334 : BitVec 32 := 1#32
  let arg9 : BitVec 32 := Scf.iv v618 c1_i32_334 k1_t12
  let v1667 : Index := Scalar.indexCast arg9
  let c32_910 : Index := 32#32
  ![1, v1667.toNat, 32]
def k1_off106 (v448 : BitVec 32) (k1_t12 : Fin (k1_t12_loop v448).trips) : Fin 3 → Nat :=
  let c1_i32_911 : BitVec 32 := 1#32
  let v1671 : Index := Scalar.indexCast c1_i32_911
  let c0_i32_331 : BitVec 32 := 0#32
  let c64_i32_325 : BitVec 32 := 64#32
  let c0_i32_326 : BitVec 32 := 0#32
  let v604 : BitVec 1 := Scalar.cmpi .eq c64_i32_325 c0_i32_326
  let c1_i32_327 : BitVec 32 := 1#32
  let v605 : BitVec 32 := Scalar.select v604 c1_i32_327 c64_i32_325
  let v606 : BitVec 32 := Scalar.remsi v448 v605
  let c0_i32_329 : BitVec 32 := 0#32
  let v608 : BitVec 1 := Scalar.cmpi .slt v606 c0_i32_329
  let c0_i32_330 : BitVec 32 := 0#32
  let v609 : BitVec 1 := Scalar.cmpi .slt v605 c0_i32_330
  let v610 : BitVec 1 := Scalar.xori v608 v609
  let c0_i32_328 : BitVec 32 := 0#32
  let v607 : BitVec 1 := Scalar.cmpi .ne v606 c0_i32_328
  let v611 : BitVec 1 := Scalar.andi v610 v607
  let v612 : BitVec 32 := Scalar.addi v606 v605
  let v613 : BitVec 32 := Scalar.select v611 v612 v606
  let v614 : BitVec 32 := Scalar.subi v613 c0_i32_331
  let c1_i32_332 : BitVec 32 := 1#32
  let v616 : BitVec 32 := Scalar.divsi v614 c1_i32_332
  let v617 : BitVec 32 := Scalar.muli v616 c1_i32_332
  let v618 : BitVec 32 := Scalar.addi c0_i32_331 v617
  let c1_i32_334 : BitVec 32 := 1#32
  let arg9 : BitVec 32 := Scf.iv v618 c1_i32_334 k1_t12
  let v1672 : Index := Scalar.indexCast arg9
  let c48_912 : Index := 48#32
  ![1, v1672.toNat, 48]
def k1_off107 (v448 : BitVec 32) (k1_t12 : Fin (k1_t12_loop v448).trips) : Fin 3 → Nat :=
  let c1_i32_913 : BitVec 32 := 1#32
  let v1676 : Index := Scalar.indexCast c1_i32_913
  let c0_i32_331 : BitVec 32 := 0#32
  let c64_i32_325 : BitVec 32 := 64#32
  let c0_i32_326 : BitVec 32 := 0#32
  let v604 : BitVec 1 := Scalar.cmpi .eq c64_i32_325 c0_i32_326
  let c1_i32_327 : BitVec 32 := 1#32
  let v605 : BitVec 32 := Scalar.select v604 c1_i32_327 c64_i32_325
  let v606 : BitVec 32 := Scalar.remsi v448 v605
  let c0_i32_329 : BitVec 32 := 0#32
  let v608 : BitVec 1 := Scalar.cmpi .slt v606 c0_i32_329
  let c0_i32_330 : BitVec 32 := 0#32
  let v609 : BitVec 1 := Scalar.cmpi .slt v605 c0_i32_330
  let v610 : BitVec 1 := Scalar.xori v608 v609
  let c0_i32_328 : BitVec 32 := 0#32
  let v607 : BitVec 1 := Scalar.cmpi .ne v606 c0_i32_328
  let v611 : BitVec 1 := Scalar.andi v610 v607
  let v612 : BitVec 32 := Scalar.addi v606 v605
  let v613 : BitVec 32 := Scalar.select v611 v612 v606
  let v614 : BitVec 32 := Scalar.subi v613 c0_i32_331
  let c1_i32_332 : BitVec 32 := 1#32
  let v616 : BitVec 32 := Scalar.divsi v614 c1_i32_332
  let v617 : BitVec 32 := Scalar.muli v616 c1_i32_332
  let v618 : BitVec 32 := Scalar.addi c0_i32_331 v617
  let c1_i32_334 : BitVec 32 := 1#32
  let arg9 : BitVec 32 := Scf.iv v618 c1_i32_334 k1_t12
  let v1677 : Index := Scalar.indexCast arg9
  let c64_914 : Index := 64#32
  ![1, v1677.toNat, 64]
def k1_off108 (v448 : BitVec 32) (k1_t12 : Fin (k1_t12_loop v448).trips) : Fin 3 → Nat :=
  let c1_i32_915 : BitVec 32 := 1#32
  let v1681 : Index := Scalar.indexCast c1_i32_915
  let c0_i32_331 : BitVec 32 := 0#32
  let c64_i32_325 : BitVec 32 := 64#32
  let c0_i32_326 : BitVec 32 := 0#32
  let v604 : BitVec 1 := Scalar.cmpi .eq c64_i32_325 c0_i32_326
  let c1_i32_327 : BitVec 32 := 1#32
  let v605 : BitVec 32 := Scalar.select v604 c1_i32_327 c64_i32_325
  let v606 : BitVec 32 := Scalar.remsi v448 v605
  let c0_i32_329 : BitVec 32 := 0#32
  let v608 : BitVec 1 := Scalar.cmpi .slt v606 c0_i32_329
  let c0_i32_330 : BitVec 32 := 0#32
  let v609 : BitVec 1 := Scalar.cmpi .slt v605 c0_i32_330
  let v610 : BitVec 1 := Scalar.xori v608 v609
  let c0_i32_328 : BitVec 32 := 0#32
  let v607 : BitVec 1 := Scalar.cmpi .ne v606 c0_i32_328
  let v611 : BitVec 1 := Scalar.andi v610 v607
  let v612 : BitVec 32 := Scalar.addi v606 v605
  let v613 : BitVec 32 := Scalar.select v611 v612 v606
  let v614 : BitVec 32 := Scalar.subi v613 c0_i32_331
  let c1_i32_332 : BitVec 32 := 1#32
  let v616 : BitVec 32 := Scalar.divsi v614 c1_i32_332
  let v617 : BitVec 32 := Scalar.muli v616 c1_i32_332
  let v618 : BitVec 32 := Scalar.addi c0_i32_331 v617
  let c1_i32_334 : BitVec 32 := 1#32
  let arg9 : BitVec 32 := Scf.iv v618 c1_i32_334 k1_t12
  let v1682 : Index := Scalar.indexCast arg9
  let c80_916 : Index := 80#32
  ![1, v1682.toNat, 80]
def k1_off109 (v448 : BitVec 32) (k1_t12 : Fin (k1_t12_loop v448).trips) : Fin 3 → Nat :=
  let c1_i32_917 : BitVec 32 := 1#32
  let v1686 : Index := Scalar.indexCast c1_i32_917
  let c0_i32_331 : BitVec 32 := 0#32
  let c64_i32_325 : BitVec 32 := 64#32
  let c0_i32_326 : BitVec 32 := 0#32
  let v604 : BitVec 1 := Scalar.cmpi .eq c64_i32_325 c0_i32_326
  let c1_i32_327 : BitVec 32 := 1#32
  let v605 : BitVec 32 := Scalar.select v604 c1_i32_327 c64_i32_325
  let v606 : BitVec 32 := Scalar.remsi v448 v605
  let c0_i32_329 : BitVec 32 := 0#32
  let v608 : BitVec 1 := Scalar.cmpi .slt v606 c0_i32_329
  let c0_i32_330 : BitVec 32 := 0#32
  let v609 : BitVec 1 := Scalar.cmpi .slt v605 c0_i32_330
  let v610 : BitVec 1 := Scalar.xori v608 v609
  let c0_i32_328 : BitVec 32 := 0#32
  let v607 : BitVec 1 := Scalar.cmpi .ne v606 c0_i32_328
  let v611 : BitVec 1 := Scalar.andi v610 v607
  let v612 : BitVec 32 := Scalar.addi v606 v605
  let v613 : BitVec 32 := Scalar.select v611 v612 v606
  let v614 : BitVec 32 := Scalar.subi v613 c0_i32_331
  let c1_i32_332 : BitVec 32 := 1#32
  let v616 : BitVec 32 := Scalar.divsi v614 c1_i32_332
  let v617 : BitVec 32 := Scalar.muli v616 c1_i32_332
  let v618 : BitVec 32 := Scalar.addi c0_i32_331 v617
  let c1_i32_334 : BitVec 32 := 1#32
  let arg9 : BitVec 32 := Scf.iv v618 c1_i32_334 k1_t12
  let v1687 : Index := Scalar.indexCast arg9
  let c96_918 : Index := 96#32
  ![1, v1687.toNat, 96]
def k1_off110 (v448 : BitVec 32) (k1_t12 : Fin (k1_t12_loop v448).trips) : Fin 3 → Nat :=
  let c1_i32_919 : BitVec 32 := 1#32
  let v1691 : Index := Scalar.indexCast c1_i32_919
  let c0_i32_331 : BitVec 32 := 0#32
  let c64_i32_325 : BitVec 32 := 64#32
  let c0_i32_326 : BitVec 32 := 0#32
  let v604 : BitVec 1 := Scalar.cmpi .eq c64_i32_325 c0_i32_326
  let c1_i32_327 : BitVec 32 := 1#32
  let v605 : BitVec 32 := Scalar.select v604 c1_i32_327 c64_i32_325
  let v606 : BitVec 32 := Scalar.remsi v448 v605
  let c0_i32_329 : BitVec 32 := 0#32
  let v608 : BitVec 1 := Scalar.cmpi .slt v606 c0_i32_329
  let c0_i32_330 : BitVec 32 := 0#32
  let v609 : BitVec 1 := Scalar.cmpi .slt v605 c0_i32_330
  let v610 : BitVec 1 := Scalar.xori v608 v609
  let c0_i32_328 : BitVec 32 := 0#32
  let v607 : BitVec 1 := Scalar.cmpi .ne v606 c0_i32_328
  let v611 : BitVec 1 := Scalar.andi v610 v607
  let v612 : BitVec 32 := Scalar.addi v606 v605
  let v613 : BitVec 32 := Scalar.select v611 v612 v606
  let v614 : BitVec 32 := Scalar.subi v613 c0_i32_331
  let c1_i32_332 : BitVec 32 := 1#32
  let v616 : BitVec 32 := Scalar.divsi v614 c1_i32_332
  let v617 : BitVec 32 := Scalar.muli v616 c1_i32_332
  let v618 : BitVec 32 := Scalar.addi c0_i32_331 v617
  let c1_i32_334 : BitVec 32 := 1#32
  let arg9 : BitVec 32 := Scf.iv v618 c1_i32_334 k1_t12
  let v1692 : Index := Scalar.indexCast arg9
  let c112_920 : Index := 112#32
  ![1, v1692.toNat, 112]

def k1_chk6 (v448 : BitVec 32) : Prop :=
  (∀ a, (k1_off75 v448) a + S64x128.size a ≤ S320000x128.size a) ∧
  (∀ a, (k1_off94 v448) a + S64x128.size a ≤ S320000x128.size a) ∧
  ((k1_t11_loop v448).OK) ∧
  (∀ k1_t11 : Fin (k1_t11_loop v448).trips, ∀ a, (k1_off95 v448 k1_t11) a + S1x1x16.size a ≤ S2x64x128.size a) ∧
  (∀ k1_t11 : Fin (k1_t11_loop v448).trips, ∀ a, (k1_off96 v448 k1_t11) a + S1x1x16.size a ≤ S2x64x128.size a) ∧
  (∀ k1_t11 : Fin (k1_t11_loop v448).trips, ∀ a, (k1_off97 v448 k1_t11) a + S1x1x16.size a ≤ S2x64x128.size a) ∧
  (∀ k1_t11 : Fin (k1_t11_loop v448).trips, ∀ a, (k1_off98 v448 k1_t11) a + S1x1x16.size a ≤ S2x64x128.size a) ∧
  (∀ k1_t11 : Fin (k1_t11_loop v448).trips, ∀ a, (k1_off99 v448 k1_t11) a + S1x1x16.size a ≤ S2x64x128.size a) ∧
  (∀ k1_t11 : Fin (k1_t11_loop v448).trips, ∀ a, (k1_off100 v448 k1_t11) a + S1x1x16.size a ≤ S2x64x128.size a) ∧
  (∀ k1_t11 : Fin (k1_t11_loop v448).trips, ∀ a, (k1_off101 v448 k1_t11) a + S1x1x16.size a ≤ S2x64x128.size a) ∧
  (∀ k1_t11 : Fin (k1_t11_loop v448).trips, ∀ a, (k1_off102 v448 k1_t11) a + S1x1x16.size a ≤ S2x64x128.size a) ∧
  ((k1_t12_loop v448).OK) ∧
  (∀ k1_t12 : Fin (k1_t12_loop v448).trips, ∀ a, (k1_off103 v448 k1_t12) a + S1x1x16.size a ≤ S2x64x128.size a) ∧
  (∀ k1_t12 : Fin (k1_t12_loop v448).trips, ∀ a, (k1_off104 v448 k1_t12) a + S1x1x16.size a ≤ S2x64x128.size a) ∧
  (∀ k1_t12 : Fin (k1_t12_loop v448).trips, ∀ a, (k1_off105 v448 k1_t12) a + S1x1x16.size a ≤ S2x64x128.size a) ∧
  (∀ k1_t12 : Fin (k1_t12_loop v448).trips, ∀ a, (k1_off106 v448 k1_t12) a + S1x1x16.size a ≤ S2x64x128.size a) ∧
  (∀ k1_t12 : Fin (k1_t12_loop v448).trips, ∀ a, (k1_off107 v448 k1_t12) a + S1x1x16.size a ≤ S2x64x128.size a) ∧
  (∀ k1_t12 : Fin (k1_t12_loop v448).trips, ∀ a, (k1_off108 v448 k1_t12) a + S1x1x16.size a ≤ S2x64x128.size a) ∧
  (∀ k1_t12 : Fin (k1_t12_loop v448).trips, ∀ a, (k1_off109 v448 k1_t12) a + S1x1x16.size a ≤ S2x64x128.size a) ∧
  (∀ k1_t12 : Fin (k1_t12_loop v448).trips, ∀ a, (k1_off110 v448 k1_t12) a + S1x1x16.size a ≤ S2x64x128.size a)
theorem k1_off75_inb : ∀ (v448 : BitVec 32) (k1_hw6 : k1_chk6 v448), ∀ a, (k1_off75 v448) a + S64x128.size a ≤ S320000x128.size a := fun v448 k1_hw6 => k1_hw6.1
theorem k1_off94_inb : ∀ (v448 : BitVec 32) (k1_hw6 : k1_chk6 v448), ∀ a, (k1_off94 v448) a + S64x128.size a ≤ S320000x128.size a := fun v448 k1_hw6 => k1_hw6.2.1
theorem k1_t11_ok : ∀ (v448 : BitVec 32) (k1_hw6 : k1_chk6 v448), (k1_t11_loop v448).OK := fun v448 k1_hw6 => k1_hw6.2.2.1
theorem k1_off95_inb : ∀ (v448 : BitVec 32) (k1_hw6 : k1_chk6 v448) (k1_t11 : Fin (k1_t11_loop v448).trips), ∀ a, (k1_off95 v448 k1_t11) a + S1x1x16.size a ≤ S2x64x128.size a := fun v448 k1_hw6 k1_t11 => k1_hw6.2.2.2.1 k1_t11
theorem k1_off96_inb : ∀ (v448 : BitVec 32) (k1_hw6 : k1_chk6 v448) (k1_t11 : Fin (k1_t11_loop v448).trips), ∀ a, (k1_off96 v448 k1_t11) a + S1x1x16.size a ≤ S2x64x128.size a := fun v448 k1_hw6 k1_t11 => k1_hw6.2.2.2.2.1 k1_t11
theorem k1_off97_inb : ∀ (v448 : BitVec 32) (k1_hw6 : k1_chk6 v448) (k1_t11 : Fin (k1_t11_loop v448).trips), ∀ a, (k1_off97 v448 k1_t11) a + S1x1x16.size a ≤ S2x64x128.size a := fun v448 k1_hw6 k1_t11 => k1_hw6.2.2.2.2.2.1 k1_t11
theorem k1_off98_inb : ∀ (v448 : BitVec 32) (k1_hw6 : k1_chk6 v448) (k1_t11 : Fin (k1_t11_loop v448).trips), ∀ a, (k1_off98 v448 k1_t11) a + S1x1x16.size a ≤ S2x64x128.size a := fun v448 k1_hw6 k1_t11 => k1_hw6.2.2.2.2.2.2.1 k1_t11
theorem k1_off99_inb : ∀ (v448 : BitVec 32) (k1_hw6 : k1_chk6 v448) (k1_t11 : Fin (k1_t11_loop v448).trips), ∀ a, (k1_off99 v448 k1_t11) a + S1x1x16.size a ≤ S2x64x128.size a := fun v448 k1_hw6 k1_t11 => k1_hw6.2.2.2.2.2.2.2.1 k1_t11
theorem k1_off100_inb : ∀ (v448 : BitVec 32) (k1_hw6 : k1_chk6 v448) (k1_t11 : Fin (k1_t11_loop v448).trips), ∀ a, (k1_off100 v448 k1_t11) a + S1x1x16.size a ≤ S2x64x128.size a := fun v448 k1_hw6 k1_t11 => k1_hw6.2.2.2.2.2.2.2.2.1 k1_t11
theorem k1_off101_inb : ∀ (v448 : BitVec 32) (k1_hw6 : k1_chk6 v448) (k1_t11 : Fin (k1_t11_loop v448).trips), ∀ a, (k1_off101 v448 k1_t11) a + S1x1x16.size a ≤ S2x64x128.size a := fun v448 k1_hw6 k1_t11 => k1_hw6.2.2.2.2.2.2.2.2.2.1 k1_t11
theorem k1_off102_inb : ∀ (v448 : BitVec 32) (k1_hw6 : k1_chk6 v448) (k1_t11 : Fin (k1_t11_loop v448).trips), ∀ a, (k1_off102 v448 k1_t11) a + S1x1x16.size a ≤ S2x64x128.size a := fun v448 k1_hw6 k1_t11 => k1_hw6.2.2.2.2.2.2.2.2.2.2.1 k1_t11
theorem k1_t12_ok : ∀ (v448 : BitVec 32) (k1_hw6 : k1_chk6 v448), (k1_t12_loop v448).OK := fun v448 k1_hw6 => k1_hw6.2.2.2.2.2.2.2.2.2.2.2.1
theorem k1_off103_inb : ∀ (v448 : BitVec 32) (k1_hw6 : k1_chk6 v448) (k1_t12 : Fin (k1_t12_loop v448).trips), ∀ a, (k1_off103 v448 k1_t12) a + S1x1x16.size a ≤ S2x64x128.size a := fun v448 k1_hw6 k1_t12 => k1_hw6.2.2.2.2.2.2.2.2.2.2.2.2.1 k1_t12
theorem k1_off104_inb : ∀ (v448 : BitVec 32) (k1_hw6 : k1_chk6 v448) (k1_t12 : Fin (k1_t12_loop v448).trips), ∀ a, (k1_off104 v448 k1_t12) a + S1x1x16.size a ≤ S2x64x128.size a := fun v448 k1_hw6 k1_t12 => k1_hw6.2.2.2.2.2.2.2.2.2.2.2.2.2.1 k1_t12
theorem k1_off105_inb : ∀ (v448 : BitVec 32) (k1_hw6 : k1_chk6 v448) (k1_t12 : Fin (k1_t12_loop v448).trips), ∀ a, (k1_off105 v448 k1_t12) a + S1x1x16.size a ≤ S2x64x128.size a := fun v448 k1_hw6 k1_t12 => k1_hw6.2.2.2.2.2.2.2.2.2.2.2.2.2.2.1 k1_t12
theorem k1_off106_inb : ∀ (v448 : BitVec 32) (k1_hw6 : k1_chk6 v448) (k1_t12 : Fin (k1_t12_loop v448).trips), ∀ a, (k1_off106 v448 k1_t12) a + S1x1x16.size a ≤ S2x64x128.size a := fun v448 k1_hw6 k1_t12 => k1_hw6.2.2.2.2.2.2.2.2.2.2.2.2.2.2.2.1 k1_t12
theorem k1_off107_inb : ∀ (v448 : BitVec 32) (k1_hw6 : k1_chk6 v448) (k1_t12 : Fin (k1_t12_loop v448).trips), ∀ a, (k1_off107 v448 k1_t12) a + S1x1x16.size a ≤ S2x64x128.size a := fun v448 k1_hw6 k1_t12 => k1_hw6.2.2.2.2.2.2.2.2.2.2.2.2.2.2.2.2.1 k1_t12
theorem k1_off108_inb : ∀ (v448 : BitVec 32) (k1_hw6 : k1_chk6 v448) (k1_t12 : Fin (k1_t12_loop v448).trips), ∀ a, (k1_off108 v448 k1_t12) a + S1x1x16.size a ≤ S2x64x128.size a := fun v448 k1_hw6 k1_t12 => k1_hw6.2.2.2.2.2.2.2.2.2.2.2.2.2.2.2.2.2.1 k1_t12
theorem k1_off109_inb : ∀ (v448 : BitVec 32) (k1_hw6 : k1_chk6 v448) (k1_t12 : Fin (k1_t12_loop v448).trips), ∀ a, (k1_off109 v448 k1_t12) a + S1x1x16.size a ≤ S2x64x128.size a := fun v448 k1_hw6 k1_t12 => k1_hw6.2.2.2.2.2.2.2.2.2.2.2.2.2.2.2.2.2.2.1 k1_t12
theorem k1_off110_inb : ∀ (v448 : BitVec 32) (k1_hw6 : k1_chk6 v448) (k1_t12 : Fin (k1_t12_loop v448).trips), ∀ a, (k1_off110 v448 k1_t12) a + S1x1x16.size a ≤ S2x64x128.size a := fun v448 k1_hw6 k1_t12 => k1_hw6.2.2.2.2.2.2.2.2.2.2.2.2.2.2.2.2.2.2.2 k1_t12

def k1_off111 (v654 : BitVec 32) : Fin 2 → Nat :=
  let c0_i32_351 : BitVec 32 := 0#32
  let v656 : BitVec 1 := Scalar.cmpi .sgt v654 c0_i32_351
  let v657 : BitVec 32 := Scalar.extui v656
  let c0_i32_352 : BitVec 32 := 0#32
  let v658 : BitVec 1 := Scalar.cmpi .slt v654 c0_i32_352
  let v659 : BitVec 32 := Scalar.extui v658
  let v660 : BitVec 32 := Scalar.subi v657 v659
  let c64_i32_350 : BitVec 32 := 64#32
  let c0_i32_353 : BitVec 32 := 0#32
  let v661 : BitVec 1 := Scalar.cmpi .sgt c64_i32_350 c0_i32_353
  let v662 : BitVec 32 := Scalar.extui v661
  let c0_i32_354 : BitVec 32 := 0#32
  let v663 : BitVec 1 := Scalar.cmpi .slt c64_i32_350 c0_i32_354
  let v664 : BitVec 32 := Scalar.extui v663
  let v665 : BitVec 32 := Scalar.subi v662 v664
  let v666 : BitVec 1 := Scalar.cmpi .ne v660 v665
  let v667 : BitVec 32 := Scalar.remsi v654 c64_i32_350
  let c0_i32_355 : BitVec 32 := 0#32
  let v668 : BitVec 1 := Scalar.cmpi .ne v667 c0_i32_355
  let v669 : BitVec 1 := Scalar.andi v666 v668
  let v655 : BitVec 32 := Scalar.divsi v654 c64_i32_350
  let c1_i32_356 : BitVec 32 := 1#32
  let v670 : BitVec 32 := Scalar.subi v655 c1_i32_356
  let v671 : BitVec 32 := Scalar.select v669 v670 v655
  let c64_i32_357 : BitVec 32 := 64#32
  let v672 : BitVec 32 := Scalar.muli v671 c64_i32_357
  let c0_i32_362 : BitVec 32 := 0#32
  ![v672.toNat, 0]

def k1_off112 (v551 : BitVec 32) : Fin 2 → Nat :=
  let c0_i32_367 : BitVec 32 := 0#32
  let v682 : BitVec 1 := Scalar.cmpi .sgt v551 c0_i32_367
  let v683 : BitVec 32 := Scalar.extui v682
  let c0_i32_368 : BitVec 32 := 0#32
  let v684 : BitVec 1 := Scalar.cmpi .slt v551 c0_i32_368
  let v685 : BitVec 32 := Scalar.extui v684
  let v686 : BitVec 32 := Scalar.subi v683 v685
  let c64_i32_366 : BitVec 32 := 64#32
  let c0_i32_369 : BitVec 32 := 0#32
  let v687 : BitVec 1 := Scalar.cmpi .sgt c64_i32_366 c0_i32_369
  let v688 : BitVec 32 := Scalar.extui v687
  let c0_i32_370 : BitVec 32 := 0#32
  let v689 : BitVec 1 := Scalar.cmpi .slt c64_i32_366 c0_i32_370
  let v690 : BitVec 32 := Scalar.extui v689
  let v691 : BitVec 32 := Scalar.subi v688 v690
  let v692 : BitVec 1 := Scalar.cmpi .ne v686 v691
  let v693 : BitVec 32 := Scalar.remsi v551 c64_i32_366
  let c0_i32_371 : BitVec 32 := 0#32
  let v694 : BitVec 1 := Scalar.cmpi .ne v693 c0_i32_371
  let v695 : BitVec 1 := Scalar.andi v692 v694
  let v681 : BitVec 32 := Scalar.divsi v551 c64_i32_366
  let c1_i32_372 : BitVec 32 := 1#32
  let v696 : BitVec 32 := Scalar.subi v681 c1_i32_372
  let v697 : BitVec 32 := Scalar.select v695 v696 v681
  let c64_i32_373 : BitVec 32 := 64#32
  let v698 : BitVec 32 := Scalar.muli v697 c64_i32_373
  let c0_i32_378 : BitVec 32 := 0#32
  ![v698.toNat, 0]
@[reducible] def k1_t13_loop (v551 : BitVec 32) : Scf.Loop 32 :=
  let c0_i32_388 : BitVec 32 := 0#32
  let c64_i32_382 : BitVec 32 := 64#32
  let c0_i32_383 : BitVec 32 := 0#32
  let v707 : BitVec 1 := Scalar.cmpi .eq c64_i32_382 c0_i32_383
  let c1_i32_384 : BitVec 32 := 1#32
  let v708 : BitVec 32 := Scalar.select v707 c1_i32_384 c64_i32_382
  let v709 : BitVec 32 := Scalar.remsi v551 v708
  let c0_i32_386 : BitVec 32 := 0#32
  let v711 : BitVec 1 := Scalar.cmpi .slt v709 c0_i32_386
  let c0_i32_387 : BitVec 32 := 0#32
  let v712 : BitVec 1 := Scalar.cmpi .slt v708 c0_i32_387
  let v713 : BitVec 1 := Scalar.xori v711 v712
  let c0_i32_385 : BitVec 32 := 0#32
  let v710 : BitVec 1 := Scalar.cmpi .ne v709 c0_i32_385
  let v714 : BitVec 1 := Scalar.andi v713 v710
  let v715 : BitVec 32 := Scalar.addi v709 v708
  let v716 : BitVec 32 := Scalar.select v714 v715 v709
  let v717 : BitVec 32 := Scalar.subi v716 c0_i32_388
  let c1_i32_389 : BitVec 32 := 1#32
  let v719 : BitVec 32 := Scalar.divsi v717 c1_i32_389
  let v720 : BitVec 32 := Scalar.muli v719 c1_i32_389
  let v721 : BitVec 32 := Scalar.addi c0_i32_388 v720
  let c1_i32_390 : BitVec 32 := 1#32
  ⟨c0_i32_388, v721, c1_i32_390⟩
def k1_off113 (v551 : BitVec 32) (k1_t13 : Fin (k1_t13_loop v551).trips) : Fin 3 → Nat :=
  let c0_i32_905 : BitVec 32 := 0#32
  let v1656 : Index := Scalar.indexCast c0_i32_905
  let c0_i32_388 : BitVec 32 := 0#32
  let c1_i32_390 : BitVec 32 := 1#32
  let arg9 : BitVec 32 := Scf.iv c0_i32_388 c1_i32_390 k1_t13
  let v1657 : Index := Scalar.indexCast arg9
  let c0_906 : Index := 0#32
  ![0, v1657.toNat, 0]
def k1_off114 (v551 : BitVec 32) (k1_t13 : Fin (k1_t13_loop v551).trips) : Fin 3 → Nat :=
  let c0_i32_907 : BitVec 32 := 0#32
  let v1661 : Index := Scalar.indexCast c0_i32_907
  let c0_i32_388 : BitVec 32 := 0#32
  let c1_i32_390 : BitVec 32 := 1#32
  let arg9 : BitVec 32 := Scf.iv c0_i32_388 c1_i32_390 k1_t13
  let v1662 : Index := Scalar.indexCast arg9
  let c16_908 : Index := 16#32
  ![0, v1662.toNat, 16]
def k1_off115 (v551 : BitVec 32) (k1_t13 : Fin (k1_t13_loop v551).trips) : Fin 3 → Nat :=
  let c0_i32_909 : BitVec 32 := 0#32
  let v1666 : Index := Scalar.indexCast c0_i32_909
  let c0_i32_388 : BitVec 32 := 0#32
  let c1_i32_390 : BitVec 32 := 1#32
  let arg9 : BitVec 32 := Scf.iv c0_i32_388 c1_i32_390 k1_t13
  let v1667 : Index := Scalar.indexCast arg9
  let c32_910 : Index := 32#32
  ![0, v1667.toNat, 32]
def k1_off116 (v551 : BitVec 32) (k1_t13 : Fin (k1_t13_loop v551).trips) : Fin 3 → Nat :=
  let c0_i32_911 : BitVec 32 := 0#32
  let v1671 : Index := Scalar.indexCast c0_i32_911
  let c0_i32_388 : BitVec 32 := 0#32
  let c1_i32_390 : BitVec 32 := 1#32
  let arg9 : BitVec 32 := Scf.iv c0_i32_388 c1_i32_390 k1_t13
  let v1672 : Index := Scalar.indexCast arg9
  let c48_912 : Index := 48#32
  ![0, v1672.toNat, 48]
def k1_off117 (v551 : BitVec 32) (k1_t13 : Fin (k1_t13_loop v551).trips) : Fin 3 → Nat :=
  let c0_i32_913 : BitVec 32 := 0#32
  let v1676 : Index := Scalar.indexCast c0_i32_913
  let c0_i32_388 : BitVec 32 := 0#32
  let c1_i32_390 : BitVec 32 := 1#32
  let arg9 : BitVec 32 := Scf.iv c0_i32_388 c1_i32_390 k1_t13
  let v1677 : Index := Scalar.indexCast arg9
  let c64_914 : Index := 64#32
  ![0, v1677.toNat, 64]
def k1_off118 (v551 : BitVec 32) (k1_t13 : Fin (k1_t13_loop v551).trips) : Fin 3 → Nat :=
  let c0_i32_915 : BitVec 32 := 0#32
  let v1681 : Index := Scalar.indexCast c0_i32_915
  let c0_i32_388 : BitVec 32 := 0#32
  let c1_i32_390 : BitVec 32 := 1#32
  let arg9 : BitVec 32 := Scf.iv c0_i32_388 c1_i32_390 k1_t13
  let v1682 : Index := Scalar.indexCast arg9
  let c80_916 : Index := 80#32
  ![0, v1682.toNat, 80]
def k1_off119 (v551 : BitVec 32) (k1_t13 : Fin (k1_t13_loop v551).trips) : Fin 3 → Nat :=
  let c0_i32_917 : BitVec 32 := 0#32
  let v1686 : Index := Scalar.indexCast c0_i32_917
  let c0_i32_388 : BitVec 32 := 0#32
  let c1_i32_390 : BitVec 32 := 1#32
  let arg9 : BitVec 32 := Scf.iv c0_i32_388 c1_i32_390 k1_t13
  let v1687 : Index := Scalar.indexCast arg9
  let c96_918 : Index := 96#32
  ![0, v1687.toNat, 96]
def k1_off120 (v551 : BitVec 32) (k1_t13 : Fin (k1_t13_loop v551).trips) : Fin 3 → Nat :=
  let c0_i32_919 : BitVec 32 := 0#32
  let v1691 : Index := Scalar.indexCast c0_i32_919
  let c0_i32_388 : BitVec 32 := 0#32
  let c1_i32_390 : BitVec 32 := 1#32
  let arg9 : BitVec 32 := Scf.iv c0_i32_388 c1_i32_390 k1_t13
  let v1692 : Index := Scalar.indexCast arg9
  let c112_920 : Index := 112#32
  ![0, v1692.toNat, 112]
@[reducible] def k1_t14_loop (v551 : BitVec 32) : Scf.Loop 32 :=
  let c0_i32_388 : BitVec 32 := 0#32
  let c64_i32_382 : BitVec 32 := 64#32
  let c0_i32_383 : BitVec 32 := 0#32
  let v707 : BitVec 1 := Scalar.cmpi .eq c64_i32_382 c0_i32_383
  let c1_i32_384 : BitVec 32 := 1#32
  let v708 : BitVec 32 := Scalar.select v707 c1_i32_384 c64_i32_382
  let v709 : BitVec 32 := Scalar.remsi v551 v708
  let c0_i32_386 : BitVec 32 := 0#32
  let v711 : BitVec 1 := Scalar.cmpi .slt v709 c0_i32_386
  let c0_i32_387 : BitVec 32 := 0#32
  let v712 : BitVec 1 := Scalar.cmpi .slt v708 c0_i32_387
  let v713 : BitVec 1 := Scalar.xori v711 v712
  let c0_i32_385 : BitVec 32 := 0#32
  let v710 : BitVec 1 := Scalar.cmpi .ne v709 c0_i32_385
  let v714 : BitVec 1 := Scalar.andi v713 v710
  let v715 : BitVec 32 := Scalar.addi v709 v708
  let v716 : BitVec 32 := Scalar.select v714 v715 v709
  let v717 : BitVec 32 := Scalar.subi v716 c0_i32_388
  let c1_i32_389 : BitVec 32 := 1#32
  let v719 : BitVec 32 := Scalar.divsi v717 c1_i32_389
  let v720 : BitVec 32 := Scalar.muli v719 c1_i32_389
  let v721 : BitVec 32 := Scalar.addi c0_i32_388 v720
  let v718 : BitVec 32 := Scalar.addi c0_i32_388 v717
  let c1_i32_391 : BitVec 32 := 1#32
  ⟨v721, v718, c1_i32_391⟩
def k1_off121 (v551 : BitVec 32) (k1_t14 : Fin (k1_t14_loop v551).trips) : Fin 3 → Nat :=
  let c0_i32_905 : BitVec 32 := 0#32
  let v1656 : Index := Scalar.indexCast c0_i32_905
  let c0_i32_388 : BitVec 32 := 0#32
  let c64_i32_382 : BitVec 32 := 64#32
  let c0_i32_383 : BitVec 32 := 0#32
  let v707 : BitVec 1 := Scalar.cmpi .eq c64_i32_382 c0_i32_383
  let c1_i32_384 : BitVec 32 := 1#32
  let v708 : BitVec 32 := Scalar.select v707 c1_i32_384 c64_i32_382
  let v709 : BitVec 32 := Scalar.remsi v551 v708
  let c0_i32_386 : BitVec 32 := 0#32
  let v711 : BitVec 1 := Scalar.cmpi .slt v709 c0_i32_386
  let c0_i32_387 : BitVec 32 := 0#32
  let v712 : BitVec 1 := Scalar.cmpi .slt v708 c0_i32_387
  let v713 : BitVec 1 := Scalar.xori v711 v712
  let c0_i32_385 : BitVec 32 := 0#32
  let v710 : BitVec 1 := Scalar.cmpi .ne v709 c0_i32_385
  let v714 : BitVec 1 := Scalar.andi v713 v710
  let v715 : BitVec 32 := Scalar.addi v709 v708
  let v716 : BitVec 32 := Scalar.select v714 v715 v709
  let v717 : BitVec 32 := Scalar.subi v716 c0_i32_388
  let c1_i32_389 : BitVec 32 := 1#32
  let v719 : BitVec 32 := Scalar.divsi v717 c1_i32_389
  let v720 : BitVec 32 := Scalar.muli v719 c1_i32_389
  let v721 : BitVec 32 := Scalar.addi c0_i32_388 v720
  let c1_i32_391 : BitVec 32 := 1#32
  let arg9 : BitVec 32 := Scf.iv v721 c1_i32_391 k1_t14
  let v1657 : Index := Scalar.indexCast arg9
  let c0_906 : Index := 0#32
  ![0, v1657.toNat, 0]
def k1_off122 (v551 : BitVec 32) (k1_t14 : Fin (k1_t14_loop v551).trips) : Fin 3 → Nat :=
  let c0_i32_907 : BitVec 32 := 0#32
  let v1661 : Index := Scalar.indexCast c0_i32_907
  let c0_i32_388 : BitVec 32 := 0#32
  let c64_i32_382 : BitVec 32 := 64#32
  let c0_i32_383 : BitVec 32 := 0#32
  let v707 : BitVec 1 := Scalar.cmpi .eq c64_i32_382 c0_i32_383
  let c1_i32_384 : BitVec 32 := 1#32
  let v708 : BitVec 32 := Scalar.select v707 c1_i32_384 c64_i32_382
  let v709 : BitVec 32 := Scalar.remsi v551 v708
  let c0_i32_386 : BitVec 32 := 0#32
  let v711 : BitVec 1 := Scalar.cmpi .slt v709 c0_i32_386
  let c0_i32_387 : BitVec 32 := 0#32
  let v712 : BitVec 1 := Scalar.cmpi .slt v708 c0_i32_387
  let v713 : BitVec 1 := Scalar.xori v711 v712
  let c0_i32_385 : BitVec 32 := 0#32
  let v710 : BitVec 1 := Scalar.cmpi .ne v709 c0_i32_385
  let v714 : BitVec 1 := Scalar.andi v713 v710
  let v715 : BitVec 32 := Scalar.addi v709 v708
  let v716 : BitVec 32 := Scalar.select v714 v715 v709
  let v717 : BitVec 32 := Scalar.subi v716 c0_i32_388
  let c1_i32_389 : BitVec 32 := 1#32
  let v719 : BitVec 32 := Scalar.divsi v717 c1_i32_389
  let v720 : BitVec 32 := Scalar.muli v719 c1_i32_389
  let v721 : BitVec 32 := Scalar.addi c0_i32_388 v720
  let c1_i32_391 : BitVec 32 := 1#32
  let arg9 : BitVec 32 := Scf.iv v721 c1_i32_391 k1_t14
  let v1662 : Index := Scalar.indexCast arg9
  let c16_908 : Index := 16#32
  ![0, v1662.toNat, 16]
def k1_off123 (v551 : BitVec 32) (k1_t14 : Fin (k1_t14_loop v551).trips) : Fin 3 → Nat :=
  let c0_i32_909 : BitVec 32 := 0#32
  let v1666 : Index := Scalar.indexCast c0_i32_909
  let c0_i32_388 : BitVec 32 := 0#32
  let c64_i32_382 : BitVec 32 := 64#32
  let c0_i32_383 : BitVec 32 := 0#32
  let v707 : BitVec 1 := Scalar.cmpi .eq c64_i32_382 c0_i32_383
  let c1_i32_384 : BitVec 32 := 1#32
  let v708 : BitVec 32 := Scalar.select v707 c1_i32_384 c64_i32_382
  let v709 : BitVec 32 := Scalar.remsi v551 v708
  let c0_i32_386 : BitVec 32 := 0#32
  let v711 : BitVec 1 := Scalar.cmpi .slt v709 c0_i32_386
  let c0_i32_387 : BitVec 32 := 0#32
  let v712 : BitVec 1 := Scalar.cmpi .slt v708 c0_i32_387
  let v713 : BitVec 1 := Scalar.xori v711 v712
  let c0_i32_385 : BitVec 32 := 0#32
  let v710 : BitVec 1 := Scalar.cmpi .ne v709 c0_i32_385
  let v714 : BitVec 1 := Scalar.andi v713 v710
  let v715 : BitVec 32 := Scalar.addi v709 v708
  let v716 : BitVec 32 := Scalar.select v714 v715 v709
  let v717 : BitVec 32 := Scalar.subi v716 c0_i32_388
  let c1_i32_389 : BitVec 32 := 1#32
  let v719 : BitVec 32 := Scalar.divsi v717 c1_i32_389
  let v720 : BitVec 32 := Scalar.muli v719 c1_i32_389
  let v721 : BitVec 32 := Scalar.addi c0_i32_388 v720
  let c1_i32_391 : BitVec 32 := 1#32
  let arg9 : BitVec 32 := Scf.iv v721 c1_i32_391 k1_t14
  let v1667 : Index := Scalar.indexCast arg9
  let c32_910 : Index := 32#32
  ![0, v1667.toNat, 32]
def k1_off124 (v551 : BitVec 32) (k1_t14 : Fin (k1_t14_loop v551).trips) : Fin 3 → Nat :=
  let c0_i32_911 : BitVec 32 := 0#32
  let v1671 : Index := Scalar.indexCast c0_i32_911
  let c0_i32_388 : BitVec 32 := 0#32
  let c64_i32_382 : BitVec 32 := 64#32
  let c0_i32_383 : BitVec 32 := 0#32
  let v707 : BitVec 1 := Scalar.cmpi .eq c64_i32_382 c0_i32_383
  let c1_i32_384 : BitVec 32 := 1#32
  let v708 : BitVec 32 := Scalar.select v707 c1_i32_384 c64_i32_382
  let v709 : BitVec 32 := Scalar.remsi v551 v708
  let c0_i32_386 : BitVec 32 := 0#32
  let v711 : BitVec 1 := Scalar.cmpi .slt v709 c0_i32_386
  let c0_i32_387 : BitVec 32 := 0#32
  let v712 : BitVec 1 := Scalar.cmpi .slt v708 c0_i32_387
  let v713 : BitVec 1 := Scalar.xori v711 v712
  let c0_i32_385 : BitVec 32 := 0#32
  let v710 : BitVec 1 := Scalar.cmpi .ne v709 c0_i32_385
  let v714 : BitVec 1 := Scalar.andi v713 v710
  let v715 : BitVec 32 := Scalar.addi v709 v708
  let v716 : BitVec 32 := Scalar.select v714 v715 v709
  let v717 : BitVec 32 := Scalar.subi v716 c0_i32_388
  let c1_i32_389 : BitVec 32 := 1#32
  let v719 : BitVec 32 := Scalar.divsi v717 c1_i32_389
  let v720 : BitVec 32 := Scalar.muli v719 c1_i32_389
  let v721 : BitVec 32 := Scalar.addi c0_i32_388 v720
  let c1_i32_391 : BitVec 32 := 1#32
  let arg9 : BitVec 32 := Scf.iv v721 c1_i32_391 k1_t14
  let v1672 : Index := Scalar.indexCast arg9
  let c48_912 : Index := 48#32
  ![0, v1672.toNat, 48]
def k1_off125 (v551 : BitVec 32) (k1_t14 : Fin (k1_t14_loop v551).trips) : Fin 3 → Nat :=
  let c0_i32_913 : BitVec 32 := 0#32
  let v1676 : Index := Scalar.indexCast c0_i32_913
  let c0_i32_388 : BitVec 32 := 0#32
  let c64_i32_382 : BitVec 32 := 64#32
  let c0_i32_383 : BitVec 32 := 0#32
  let v707 : BitVec 1 := Scalar.cmpi .eq c64_i32_382 c0_i32_383
  let c1_i32_384 : BitVec 32 := 1#32
  let v708 : BitVec 32 := Scalar.select v707 c1_i32_384 c64_i32_382
  let v709 : BitVec 32 := Scalar.remsi v551 v708
  let c0_i32_386 : BitVec 32 := 0#32
  let v711 : BitVec 1 := Scalar.cmpi .slt v709 c0_i32_386
  let c0_i32_387 : BitVec 32 := 0#32
  let v712 : BitVec 1 := Scalar.cmpi .slt v708 c0_i32_387
  let v713 : BitVec 1 := Scalar.xori v711 v712
  let c0_i32_385 : BitVec 32 := 0#32
  let v710 : BitVec 1 := Scalar.cmpi .ne v709 c0_i32_385
  let v714 : BitVec 1 := Scalar.andi v713 v710
  let v715 : BitVec 32 := Scalar.addi v709 v708
  let v716 : BitVec 32 := Scalar.select v714 v715 v709
  let v717 : BitVec 32 := Scalar.subi v716 c0_i32_388
  let c1_i32_389 : BitVec 32 := 1#32
  let v719 : BitVec 32 := Scalar.divsi v717 c1_i32_389
  let v720 : BitVec 32 := Scalar.muli v719 c1_i32_389
  let v721 : BitVec 32 := Scalar.addi c0_i32_388 v720
  let c1_i32_391 : BitVec 32 := 1#32
  let arg9 : BitVec 32 := Scf.iv v721 c1_i32_391 k1_t14
  let v1677 : Index := Scalar.indexCast arg9
  let c64_914 : Index := 64#32
  ![0, v1677.toNat, 64]
def k1_off126 (v551 : BitVec 32) (k1_t14 : Fin (k1_t14_loop v551).trips) : Fin 3 → Nat :=
  let c0_i32_915 : BitVec 32 := 0#32
  let v1681 : Index := Scalar.indexCast c0_i32_915
  let c0_i32_388 : BitVec 32 := 0#32
  let c64_i32_382 : BitVec 32 := 64#32
  let c0_i32_383 : BitVec 32 := 0#32
  let v707 : BitVec 1 := Scalar.cmpi .eq c64_i32_382 c0_i32_383
  let c1_i32_384 : BitVec 32 := 1#32
  let v708 : BitVec 32 := Scalar.select v707 c1_i32_384 c64_i32_382
  let v709 : BitVec 32 := Scalar.remsi v551 v708
  let c0_i32_386 : BitVec 32 := 0#32
  let v711 : BitVec 1 := Scalar.cmpi .slt v709 c0_i32_386
  let c0_i32_387 : BitVec 32 := 0#32
  let v712 : BitVec 1 := Scalar.cmpi .slt v708 c0_i32_387
  let v713 : BitVec 1 := Scalar.xori v711 v712
  let c0_i32_385 : BitVec 32 := 0#32
  let v710 : BitVec 1 := Scalar.cmpi .ne v709 c0_i32_385
  let v714 : BitVec 1 := Scalar.andi v713 v710
  let v715 : BitVec 32 := Scalar.addi v709 v708
  let v716 : BitVec 32 := Scalar.select v714 v715 v709
  let v717 : BitVec 32 := Scalar.subi v716 c0_i32_388
  let c1_i32_389 : BitVec 32 := 1#32
  let v719 : BitVec 32 := Scalar.divsi v717 c1_i32_389
  let v720 : BitVec 32 := Scalar.muli v719 c1_i32_389
  let v721 : BitVec 32 := Scalar.addi c0_i32_388 v720
  let c1_i32_391 : BitVec 32 := 1#32
  let arg9 : BitVec 32 := Scf.iv v721 c1_i32_391 k1_t14
  let v1682 : Index := Scalar.indexCast arg9
  let c80_916 : Index := 80#32
  ![0, v1682.toNat, 80]
def k1_off127 (v551 : BitVec 32) (k1_t14 : Fin (k1_t14_loop v551).trips) : Fin 3 → Nat :=
  let c0_i32_917 : BitVec 32 := 0#32
  let v1686 : Index := Scalar.indexCast c0_i32_917
  let c0_i32_388 : BitVec 32 := 0#32
  let c64_i32_382 : BitVec 32 := 64#32
  let c0_i32_383 : BitVec 32 := 0#32
  let v707 : BitVec 1 := Scalar.cmpi .eq c64_i32_382 c0_i32_383
  let c1_i32_384 : BitVec 32 := 1#32
  let v708 : BitVec 32 := Scalar.select v707 c1_i32_384 c64_i32_382
  let v709 : BitVec 32 := Scalar.remsi v551 v708
  let c0_i32_386 : BitVec 32 := 0#32
  let v711 : BitVec 1 := Scalar.cmpi .slt v709 c0_i32_386
  let c0_i32_387 : BitVec 32 := 0#32
  let v712 : BitVec 1 := Scalar.cmpi .slt v708 c0_i32_387
  let v713 : BitVec 1 := Scalar.xori v711 v712
  let c0_i32_385 : BitVec 32 := 0#32
  let v710 : BitVec 1 := Scalar.cmpi .ne v709 c0_i32_385
  let v714 : BitVec 1 := Scalar.andi v713 v710
  let v715 : BitVec 32 := Scalar.addi v709 v708
  let v716 : BitVec 32 := Scalar.select v714 v715 v709
  let v717 : BitVec 32 := Scalar.subi v716 c0_i32_388
  let c1_i32_389 : BitVec 32 := 1#32
  let v719 : BitVec 32 := Scalar.divsi v717 c1_i32_389
  let v720 : BitVec 32 := Scalar.muli v719 c1_i32_389
  let v721 : BitVec 32 := Scalar.addi c0_i32_388 v720
  let c1_i32_391 : BitVec 32 := 1#32
  let arg9 : BitVec 32 := Scf.iv v721 c1_i32_391 k1_t14
  let v1687 : Index := Scalar.indexCast arg9
  let c96_918 : Index := 96#32
  ![0, v1687.toNat, 96]
def k1_off128 (v551 : BitVec 32) (k1_t14 : Fin (k1_t14_loop v551).trips) : Fin 3 → Nat :=
  let c0_i32_919 : BitVec 32 := 0#32
  let v1691 : Index := Scalar.indexCast c0_i32_919
  let c0_i32_388 : BitVec 32 := 0#32
  let c64_i32_382 : BitVec 32 := 64#32
  let c0_i32_383 : BitVec 32 := 0#32
  let v707 : BitVec 1 := Scalar.cmpi .eq c64_i32_382 c0_i32_383
  let c1_i32_384 : BitVec 32 := 1#32
  let v708 : BitVec 32 := Scalar.select v707 c1_i32_384 c64_i32_382
  let v709 : BitVec 32 := Scalar.remsi v551 v708
  let c0_i32_386 : BitVec 32 := 0#32
  let v711 : BitVec 1 := Scalar.cmpi .slt v709 c0_i32_386
  let c0_i32_387 : BitVec 32 := 0#32
  let v712 : BitVec 1 := Scalar.cmpi .slt v708 c0_i32_387
  let v713 : BitVec 1 := Scalar.xori v711 v712
  let c0_i32_385 : BitVec 32 := 0#32
  let v710 : BitVec 1 := Scalar.cmpi .ne v709 c0_i32_385
  let v714 : BitVec 1 := Scalar.andi v713 v710
  let v715 : BitVec 32 := Scalar.addi v709 v708
  let v716 : BitVec 32 := Scalar.select v714 v715 v709
  let v717 : BitVec 32 := Scalar.subi v716 c0_i32_388
  let c1_i32_389 : BitVec 32 := 1#32
  let v719 : BitVec 32 := Scalar.divsi v717 c1_i32_389
  let v720 : BitVec 32 := Scalar.muli v719 c1_i32_389
  let v721 : BitVec 32 := Scalar.addi c0_i32_388 v720
  let c1_i32_391 : BitVec 32 := 1#32
  let arg9 : BitVec 32 := Scf.iv v721 c1_i32_391 k1_t14
  let v1692 : Index := Scalar.indexCast arg9
  let c112_920 : Index := 112#32
  ![0, v1692.toNat, 112]

def k1_chk7 (v551 : BitVec 32) : Prop :=
  (∀ a, (k1_off93 v551) a + S64x128.size a ≤ S320000x128.size a) ∧
  (∀ a, (k1_off112 v551) a + S64x128.size a ≤ S320000x128.size a) ∧
  ((k1_t13_loop v551).OK) ∧
  (∀ k1_t13 : Fin (k1_t13_loop v551).trips, ∀ a, (k1_off113 v551 k1_t13) a + S1x1x16.size a ≤ S2x64x128.size a) ∧
  (∀ k1_t13 : Fin (k1_t13_loop v551).trips, ∀ a, (k1_off114 v551 k1_t13) a + S1x1x16.size a ≤ S2x64x128.size a) ∧
  (∀ k1_t13 : Fin (k1_t13_loop v551).trips, ∀ a, (k1_off115 v551 k1_t13) a + S1x1x16.size a ≤ S2x64x128.size a) ∧
  (∀ k1_t13 : Fin (k1_t13_loop v551).trips, ∀ a, (k1_off116 v551 k1_t13) a + S1x1x16.size a ≤ S2x64x128.size a) ∧
  (∀ k1_t13 : Fin (k1_t13_loop v551).trips, ∀ a, (k1_off117 v551 k1_t13) a + S1x1x16.size a ≤ S2x64x128.size a) ∧
  (∀ k1_t13 : Fin (k1_t13_loop v551).trips, ∀ a, (k1_off118 v551 k1_t13) a + S1x1x16.size a ≤ S2x64x128.size a) ∧
  (∀ k1_t13 : Fin (k1_t13_loop v551).trips, ∀ a, (k1_off119 v551 k1_t13) a + S1x1x16.size a ≤ S2x64x128.size a) ∧
  (∀ k1_t13 : Fin (k1_t13_loop v551).trips, ∀ a, (k1_off120 v551 k1_t13) a + S1x1x16.size a ≤ S2x64x128.size a) ∧
  ((k1_t14_loop v551).OK) ∧
  (∀ k1_t14 : Fin (k1_t14_loop v551).trips, ∀ a, (k1_off121 v551 k1_t14) a + S1x1x16.size a ≤ S2x64x128.size a) ∧
  (∀ k1_t14 : Fin (k1_t14_loop v551).trips, ∀ a, (k1_off122 v551 k1_t14) a + S1x1x16.size a ≤ S2x64x128.size a) ∧
  (∀ k1_t14 : Fin (k1_t14_loop v551).trips, ∀ a, (k1_off123 v551 k1_t14) a + S1x1x16.size a ≤ S2x64x128.size a) ∧
  (∀ k1_t14 : Fin (k1_t14_loop v551).trips, ∀ a, (k1_off124 v551 k1_t14) a + S1x1x16.size a ≤ S2x64x128.size a) ∧
  (∀ k1_t14 : Fin (k1_t14_loop v551).trips, ∀ a, (k1_off125 v551 k1_t14) a + S1x1x16.size a ≤ S2x64x128.size a) ∧
  (∀ k1_t14 : Fin (k1_t14_loop v551).trips, ∀ a, (k1_off126 v551 k1_t14) a + S1x1x16.size a ≤ S2x64x128.size a) ∧
  (∀ k1_t14 : Fin (k1_t14_loop v551).trips, ∀ a, (k1_off127 v551 k1_t14) a + S1x1x16.size a ≤ S2x64x128.size a) ∧
  (∀ k1_t14 : Fin (k1_t14_loop v551).trips, ∀ a, (k1_off128 v551 k1_t14) a + S1x1x16.size a ≤ S2x64x128.size a)
theorem k1_off93_inb : ∀ (v551 : BitVec 32) (k1_hw7 : k1_chk7 v551), ∀ a, (k1_off93 v551) a + S64x128.size a ≤ S320000x128.size a := fun v551 k1_hw7 => k1_hw7.1
theorem k1_off112_inb : ∀ (v551 : BitVec 32) (k1_hw7 : k1_chk7 v551), ∀ a, (k1_off112 v551) a + S64x128.size a ≤ S320000x128.size a := fun v551 k1_hw7 => k1_hw7.2.1
theorem k1_t13_ok : ∀ (v551 : BitVec 32) (k1_hw7 : k1_chk7 v551), (k1_t13_loop v551).OK := fun v551 k1_hw7 => k1_hw7.2.2.1
theorem k1_off113_inb : ∀ (v551 : BitVec 32) (k1_hw7 : k1_chk7 v551) (k1_t13 : Fin (k1_t13_loop v551).trips), ∀ a, (k1_off113 v551 k1_t13) a + S1x1x16.size a ≤ S2x64x128.size a := fun v551 k1_hw7 k1_t13 => k1_hw7.2.2.2.1 k1_t13
theorem k1_off114_inb : ∀ (v551 : BitVec 32) (k1_hw7 : k1_chk7 v551) (k1_t13 : Fin (k1_t13_loop v551).trips), ∀ a, (k1_off114 v551 k1_t13) a + S1x1x16.size a ≤ S2x64x128.size a := fun v551 k1_hw7 k1_t13 => k1_hw7.2.2.2.2.1 k1_t13
theorem k1_off115_inb : ∀ (v551 : BitVec 32) (k1_hw7 : k1_chk7 v551) (k1_t13 : Fin (k1_t13_loop v551).trips), ∀ a, (k1_off115 v551 k1_t13) a + S1x1x16.size a ≤ S2x64x128.size a := fun v551 k1_hw7 k1_t13 => k1_hw7.2.2.2.2.2.1 k1_t13
theorem k1_off116_inb : ∀ (v551 : BitVec 32) (k1_hw7 : k1_chk7 v551) (k1_t13 : Fin (k1_t13_loop v551).trips), ∀ a, (k1_off116 v551 k1_t13) a + S1x1x16.size a ≤ S2x64x128.size a := fun v551 k1_hw7 k1_t13 => k1_hw7.2.2.2.2.2.2.1 k1_t13
theorem k1_off117_inb : ∀ (v551 : BitVec 32) (k1_hw7 : k1_chk7 v551) (k1_t13 : Fin (k1_t13_loop v551).trips), ∀ a, (k1_off117 v551 k1_t13) a + S1x1x16.size a ≤ S2x64x128.size a := fun v551 k1_hw7 k1_t13 => k1_hw7.2.2.2.2.2.2.2.1 k1_t13
theorem k1_off118_inb : ∀ (v551 : BitVec 32) (k1_hw7 : k1_chk7 v551) (k1_t13 : Fin (k1_t13_loop v551).trips), ∀ a, (k1_off118 v551 k1_t13) a + S1x1x16.size a ≤ S2x64x128.size a := fun v551 k1_hw7 k1_t13 => k1_hw7.2.2.2.2.2.2.2.2.1 k1_t13
theorem k1_off119_inb : ∀ (v551 : BitVec 32) (k1_hw7 : k1_chk7 v551) (k1_t13 : Fin (k1_t13_loop v551).trips), ∀ a, (k1_off119 v551 k1_t13) a + S1x1x16.size a ≤ S2x64x128.size a := fun v551 k1_hw7 k1_t13 => k1_hw7.2.2.2.2.2.2.2.2.2.1 k1_t13
theorem k1_off120_inb : ∀ (v551 : BitVec 32) (k1_hw7 : k1_chk7 v551) (k1_t13 : Fin (k1_t13_loop v551).trips), ∀ a, (k1_off120 v551 k1_t13) a + S1x1x16.size a ≤ S2x64x128.size a := fun v551 k1_hw7 k1_t13 => k1_hw7.2.2.2.2.2.2.2.2.2.2.1 k1_t13
theorem k1_t14_ok : ∀ (v551 : BitVec 32) (k1_hw7 : k1_chk7 v551), (k1_t14_loop v551).OK := fun v551 k1_hw7 => k1_hw7.2.2.2.2.2.2.2.2.2.2.2.1
theorem k1_off121_inb : ∀ (v551 : BitVec 32) (k1_hw7 : k1_chk7 v551) (k1_t14 : Fin (k1_t14_loop v551).trips), ∀ a, (k1_off121 v551 k1_t14) a + S1x1x16.size a ≤ S2x64x128.size a := fun v551 k1_hw7 k1_t14 => k1_hw7.2.2.2.2.2.2.2.2.2.2.2.2.1 k1_t14
theorem k1_off122_inb : ∀ (v551 : BitVec 32) (k1_hw7 : k1_chk7 v551) (k1_t14 : Fin (k1_t14_loop v551).trips), ∀ a, (k1_off122 v551 k1_t14) a + S1x1x16.size a ≤ S2x64x128.size a := fun v551 k1_hw7 k1_t14 => k1_hw7.2.2.2.2.2.2.2.2.2.2.2.2.2.1 k1_t14
theorem k1_off123_inb : ∀ (v551 : BitVec 32) (k1_hw7 : k1_chk7 v551) (k1_t14 : Fin (k1_t14_loop v551).trips), ∀ a, (k1_off123 v551 k1_t14) a + S1x1x16.size a ≤ S2x64x128.size a := fun v551 k1_hw7 k1_t14 => k1_hw7.2.2.2.2.2.2.2.2.2.2.2.2.2.2.1 k1_t14
theorem k1_off124_inb : ∀ (v551 : BitVec 32) (k1_hw7 : k1_chk7 v551) (k1_t14 : Fin (k1_t14_loop v551).trips), ∀ a, (k1_off124 v551 k1_t14) a + S1x1x16.size a ≤ S2x64x128.size a := fun v551 k1_hw7 k1_t14 => k1_hw7.2.2.2.2.2.2.2.2.2.2.2.2.2.2.2.1 k1_t14
theorem k1_off125_inb : ∀ (v551 : BitVec 32) (k1_hw7 : k1_chk7 v551) (k1_t14 : Fin (k1_t14_loop v551).trips), ∀ a, (k1_off125 v551 k1_t14) a + S1x1x16.size a ≤ S2x64x128.size a := fun v551 k1_hw7 k1_t14 => k1_hw7.2.2.2.2.2.2.2.2.2.2.2.2.2.2.2.2.1 k1_t14
theorem k1_off126_inb : ∀ (v551 : BitVec 32) (k1_hw7 : k1_chk7 v551) (k1_t14 : Fin (k1_t14_loop v551).trips), ∀ a, (k1_off126 v551 k1_t14) a + S1x1x16.size a ≤ S2x64x128.size a := fun v551 k1_hw7 k1_t14 => k1_hw7.2.2.2.2.2.2.2.2.2.2.2.2.2.2.2.2.2.1 k1_t14
theorem k1_off127_inb : ∀ (v551 : BitVec 32) (k1_hw7 : k1_chk7 v551) (k1_t14 : Fin (k1_t14_loop v551).trips), ∀ a, (k1_off127 v551 k1_t14) a + S1x1x16.size a ≤ S2x64x128.size a := fun v551 k1_hw7 k1_t14 => k1_hw7.2.2.2.2.2.2.2.2.2.2.2.2.2.2.2.2.2.2.1 k1_t14
theorem k1_off128_inb : ∀ (v551 : BitVec 32) (k1_hw7 : k1_chk7 v551) (k1_t14 : Fin (k1_t14_loop v551).trips), ∀ a, (k1_off128 v551 k1_t14) a + S1x1x16.size a ≤ S2x64x128.size a := fun v551 k1_hw7 k1_t14 => k1_hw7.2.2.2.2.2.2.2.2.2.2.2.2.2.2.2.2.2.2.2 k1_t14

def k1_off129 (v757 : BitVec 32) : Fin 2 → Nat :=
  let c0_i32_408 : BitVec 32 := 0#32
  let v759 : BitVec 1 := Scalar.cmpi .sgt v757 c0_i32_408
  let v760 : BitVec 32 := Scalar.extui v759
  let c0_i32_409 : BitVec 32 := 0#32
  let v761 : BitVec 1 := Scalar.cmpi .slt v757 c0_i32_409
  let v762 : BitVec 32 := Scalar.extui v761
  let v763 : BitVec 32 := Scalar.subi v760 v762
  let c64_i32_407 : BitVec 32 := 64#32
  let c0_i32_410 : BitVec 32 := 0#32
  let v764 : BitVec 1 := Scalar.cmpi .sgt c64_i32_407 c0_i32_410
  let v765 : BitVec 32 := Scalar.extui v764
  let c0_i32_411 : BitVec 32 := 0#32
  let v766 : BitVec 1 := Scalar.cmpi .slt c64_i32_407 c0_i32_411
  let v767 : BitVec 32 := Scalar.extui v766
  let v768 : BitVec 32 := Scalar.subi v765 v767
  let v769 : BitVec 1 := Scalar.cmpi .ne v763 v768
  let v770 : BitVec 32 := Scalar.remsi v757 c64_i32_407
  let c0_i32_412 : BitVec 32 := 0#32
  let v771 : BitVec 1 := Scalar.cmpi .ne v770 c0_i32_412
  let v772 : BitVec 1 := Scalar.andi v769 v771
  let v758 : BitVec 32 := Scalar.divsi v757 c64_i32_407
  let c1_i32_413 : BitVec 32 := 1#32
  let v773 : BitVec 32 := Scalar.subi v758 c1_i32_413
  let v774 : BitVec 32 := Scalar.select v772 v773 v758
  let c64_i32_414 : BitVec 32 := 64#32
  let v775 : BitVec 32 := Scalar.muli v774 c64_i32_414
  let c0_i32_419 : BitVec 32 := 0#32
  ![v775.toNat, 0]

def k1_off130 (v654 : BitVec 32) : Fin 2 → Nat :=
  let c0_i32_424 : BitVec 32 := 0#32
  let v785 : BitVec 1 := Scalar.cmpi .sgt v654 c0_i32_424
  let v786 : BitVec 32 := Scalar.extui v785
  let c0_i32_425 : BitVec 32 := 0#32
  let v787 : BitVec 1 := Scalar.cmpi .slt v654 c0_i32_425
  let v788 : BitVec 32 := Scalar.extui v787
  let v789 : BitVec 32 := Scalar.subi v786 v788
  let c64_i32_423 : BitVec 32 := 64#32
  let c0_i32_426 : BitVec 32 := 0#32
  let v790 : BitVec 1 := Scalar.cmpi .sgt c64_i32_423 c0_i32_426
  let v791 : BitVec 32 := Scalar.extui v790
  let c0_i32_427 : BitVec 32 := 0#32
  let v792 : BitVec 1 := Scalar.cmpi .slt c64_i32_423 c0_i32_427
  let v793 : BitVec 32 := Scalar.extui v792
  let v794 : BitVec 32 := Scalar.subi v791 v793
  let v795 : BitVec 1 := Scalar.cmpi .ne v789 v794
  let v796 : BitVec 32 := Scalar.remsi v654 c64_i32_423
  let c0_i32_428 : BitVec 32 := 0#32
  let v797 : BitVec 1 := Scalar.cmpi .ne v796 c0_i32_428
  let v798 : BitVec 1 := Scalar.andi v795 v797
  let v784 : BitVec 32 := Scalar.divsi v654 c64_i32_423
  let c1_i32_429 : BitVec 32 := 1#32
  let v799 : BitVec 32 := Scalar.subi v784 c1_i32_429
  let v800 : BitVec 32 := Scalar.select v798 v799 v784
  let c64_i32_430 : BitVec 32 := 64#32
  let v801 : BitVec 32 := Scalar.muli v800 c64_i32_430
  let c0_i32_435 : BitVec 32 := 0#32
  ![v801.toNat, 0]
@[reducible] def k1_t15_loop (v654 : BitVec 32) : Scf.Loop 32 :=
  let c0_i32_445 : BitVec 32 := 0#32
  let c64_i32_439 : BitVec 32 := 64#32
  let c0_i32_440 : BitVec 32 := 0#32
  let v810 : BitVec 1 := Scalar.cmpi .eq c64_i32_439 c0_i32_440
  let c1_i32_441 : BitVec 32 := 1#32
  let v811 : BitVec 32 := Scalar.select v810 c1_i32_441 c64_i32_439
  let v812 : BitVec 32 := Scalar.remsi v654 v811
  let c0_i32_443 : BitVec 32 := 0#32
  let v814 : BitVec 1 := Scalar.cmpi .slt v812 c0_i32_443
  let c0_i32_444 : BitVec 32 := 0#32
  let v815 : BitVec 1 := Scalar.cmpi .slt v811 c0_i32_444
  let v816 : BitVec 1 := Scalar.xori v814 v815
  let c0_i32_442 : BitVec 32 := 0#32
  let v813 : BitVec 1 := Scalar.cmpi .ne v812 c0_i32_442
  let v817 : BitVec 1 := Scalar.andi v816 v813
  let v818 : BitVec 32 := Scalar.addi v812 v811
  let v819 : BitVec 32 := Scalar.select v817 v818 v812
  let v820 : BitVec 32 := Scalar.subi v819 c0_i32_445
  let c1_i32_446 : BitVec 32 := 1#32
  let v822 : BitVec 32 := Scalar.divsi v820 c1_i32_446
  let v823 : BitVec 32 := Scalar.muli v822 c1_i32_446
  let v824 : BitVec 32 := Scalar.addi c0_i32_445 v823
  let c1_i32_447 : BitVec 32 := 1#32
  ⟨c0_i32_445, v824, c1_i32_447⟩
def k1_off131 (v654 : BitVec 32) (k1_t15 : Fin (k1_t15_loop v654).trips) : Fin 3 → Nat :=
  let c1_i32_905 : BitVec 32 := 1#32
  let v1656 : Index := Scalar.indexCast c1_i32_905
  let c0_i32_445 : BitVec 32 := 0#32
  let c1_i32_447 : BitVec 32 := 1#32
  let arg9 : BitVec 32 := Scf.iv c0_i32_445 c1_i32_447 k1_t15
  let v1657 : Index := Scalar.indexCast arg9
  let c0_906 : Index := 0#32
  ![1, v1657.toNat, 0]
def k1_off132 (v654 : BitVec 32) (k1_t15 : Fin (k1_t15_loop v654).trips) : Fin 3 → Nat :=
  let c1_i32_907 : BitVec 32 := 1#32
  let v1661 : Index := Scalar.indexCast c1_i32_907
  let c0_i32_445 : BitVec 32 := 0#32
  let c1_i32_447 : BitVec 32 := 1#32
  let arg9 : BitVec 32 := Scf.iv c0_i32_445 c1_i32_447 k1_t15
  let v1662 : Index := Scalar.indexCast arg9
  let c16_908 : Index := 16#32
  ![1, v1662.toNat, 16]
def k1_off133 (v654 : BitVec 32) (k1_t15 : Fin (k1_t15_loop v654).trips) : Fin 3 → Nat :=
  let c1_i32_909 : BitVec 32 := 1#32
  let v1666 : Index := Scalar.indexCast c1_i32_909
  let c0_i32_445 : BitVec 32 := 0#32
  let c1_i32_447 : BitVec 32 := 1#32
  let arg9 : BitVec 32 := Scf.iv c0_i32_445 c1_i32_447 k1_t15
  let v1667 : Index := Scalar.indexCast arg9
  let c32_910 : Index := 32#32
  ![1, v1667.toNat, 32]
def k1_off134 (v654 : BitVec 32) (k1_t15 : Fin (k1_t15_loop v654).trips) : Fin 3 → Nat :=
  let c1_i32_911 : BitVec 32 := 1#32
  let v1671 : Index := Scalar.indexCast c1_i32_911
  let c0_i32_445 : BitVec 32 := 0#32
  let c1_i32_447 : BitVec 32 := 1#32
  let arg9 : BitVec 32 := Scf.iv c0_i32_445 c1_i32_447 k1_t15
  let v1672 : Index := Scalar.indexCast arg9
  let c48_912 : Index := 48#32
  ![1, v1672.toNat, 48]
def k1_off135 (v654 : BitVec 32) (k1_t15 : Fin (k1_t15_loop v654).trips) : Fin 3 → Nat :=
  let c1_i32_913 : BitVec 32 := 1#32
  let v1676 : Index := Scalar.indexCast c1_i32_913
  let c0_i32_445 : BitVec 32 := 0#32
  let c1_i32_447 : BitVec 32 := 1#32
  let arg9 : BitVec 32 := Scf.iv c0_i32_445 c1_i32_447 k1_t15
  let v1677 : Index := Scalar.indexCast arg9
  let c64_914 : Index := 64#32
  ![1, v1677.toNat, 64]
def k1_off136 (v654 : BitVec 32) (k1_t15 : Fin (k1_t15_loop v654).trips) : Fin 3 → Nat :=
  let c1_i32_915 : BitVec 32 := 1#32
  let v1681 : Index := Scalar.indexCast c1_i32_915
  let c0_i32_445 : BitVec 32 := 0#32
  let c1_i32_447 : BitVec 32 := 1#32
  let arg9 : BitVec 32 := Scf.iv c0_i32_445 c1_i32_447 k1_t15
  let v1682 : Index := Scalar.indexCast arg9
  let c80_916 : Index := 80#32
  ![1, v1682.toNat, 80]
def k1_off137 (v654 : BitVec 32) (k1_t15 : Fin (k1_t15_loop v654).trips) : Fin 3 → Nat :=
  let c1_i32_917 : BitVec 32 := 1#32
  let v1686 : Index := Scalar.indexCast c1_i32_917
  let c0_i32_445 : BitVec 32 := 0#32
  let c1_i32_447 : BitVec 32 := 1#32
  let arg9 : BitVec 32 := Scf.iv c0_i32_445 c1_i32_447 k1_t15
  let v1687 : Index := Scalar.indexCast arg9
  let c96_918 : Index := 96#32
  ![1, v1687.toNat, 96]
def k1_off138 (v654 : BitVec 32) (k1_t15 : Fin (k1_t15_loop v654).trips) : Fin 3 → Nat :=
  let c1_i32_919 : BitVec 32 := 1#32
  let v1691 : Index := Scalar.indexCast c1_i32_919
  let c0_i32_445 : BitVec 32 := 0#32
  let c1_i32_447 : BitVec 32 := 1#32
  let arg9 : BitVec 32 := Scf.iv c0_i32_445 c1_i32_447 k1_t15
  let v1692 : Index := Scalar.indexCast arg9
  let c112_920 : Index := 112#32
  ![1, v1692.toNat, 112]
@[reducible] def k1_t16_loop (v654 : BitVec 32) : Scf.Loop 32 :=
  let c0_i32_445 : BitVec 32 := 0#32
  let c64_i32_439 : BitVec 32 := 64#32
  let c0_i32_440 : BitVec 32 := 0#32
  let v810 : BitVec 1 := Scalar.cmpi .eq c64_i32_439 c0_i32_440
  let c1_i32_441 : BitVec 32 := 1#32
  let v811 : BitVec 32 := Scalar.select v810 c1_i32_441 c64_i32_439
  let v812 : BitVec 32 := Scalar.remsi v654 v811
  let c0_i32_443 : BitVec 32 := 0#32
  let v814 : BitVec 1 := Scalar.cmpi .slt v812 c0_i32_443
  let c0_i32_444 : BitVec 32 := 0#32
  let v815 : BitVec 1 := Scalar.cmpi .slt v811 c0_i32_444
  let v816 : BitVec 1 := Scalar.xori v814 v815
  let c0_i32_442 : BitVec 32 := 0#32
  let v813 : BitVec 1 := Scalar.cmpi .ne v812 c0_i32_442
  let v817 : BitVec 1 := Scalar.andi v816 v813
  let v818 : BitVec 32 := Scalar.addi v812 v811
  let v819 : BitVec 32 := Scalar.select v817 v818 v812
  let v820 : BitVec 32 := Scalar.subi v819 c0_i32_445
  let c1_i32_446 : BitVec 32 := 1#32
  let v822 : BitVec 32 := Scalar.divsi v820 c1_i32_446
  let v823 : BitVec 32 := Scalar.muli v822 c1_i32_446
  let v824 : BitVec 32 := Scalar.addi c0_i32_445 v823
  let v821 : BitVec 32 := Scalar.addi c0_i32_445 v820
  let c1_i32_448 : BitVec 32 := 1#32
  ⟨v824, v821, c1_i32_448⟩
def k1_off139 (v654 : BitVec 32) (k1_t16 : Fin (k1_t16_loop v654).trips) : Fin 3 → Nat :=
  let c1_i32_905 : BitVec 32 := 1#32
  let v1656 : Index := Scalar.indexCast c1_i32_905
  let c0_i32_445 : BitVec 32 := 0#32
  let c64_i32_439 : BitVec 32 := 64#32
  let c0_i32_440 : BitVec 32 := 0#32
  let v810 : BitVec 1 := Scalar.cmpi .eq c64_i32_439 c0_i32_440
  let c1_i32_441 : BitVec 32 := 1#32
  let v811 : BitVec 32 := Scalar.select v810 c1_i32_441 c64_i32_439
  let v812 : BitVec 32 := Scalar.remsi v654 v811
  let c0_i32_443 : BitVec 32 := 0#32
  let v814 : BitVec 1 := Scalar.cmpi .slt v812 c0_i32_443
  let c0_i32_444 : BitVec 32 := 0#32
  let v815 : BitVec 1 := Scalar.cmpi .slt v811 c0_i32_444
  let v816 : BitVec 1 := Scalar.xori v814 v815
  let c0_i32_442 : BitVec 32 := 0#32
  let v813 : BitVec 1 := Scalar.cmpi .ne v812 c0_i32_442
  let v817 : BitVec 1 := Scalar.andi v816 v813
  let v818 : BitVec 32 := Scalar.addi v812 v811
  let v819 : BitVec 32 := Scalar.select v817 v818 v812
  let v820 : BitVec 32 := Scalar.subi v819 c0_i32_445
  let c1_i32_446 : BitVec 32 := 1#32
  let v822 : BitVec 32 := Scalar.divsi v820 c1_i32_446
  let v823 : BitVec 32 := Scalar.muli v822 c1_i32_446
  let v824 : BitVec 32 := Scalar.addi c0_i32_445 v823
  let c1_i32_448 : BitVec 32 := 1#32
  let arg9 : BitVec 32 := Scf.iv v824 c1_i32_448 k1_t16
  let v1657 : Index := Scalar.indexCast arg9
  let c0_906 : Index := 0#32
  ![1, v1657.toNat, 0]
def k1_off140 (v654 : BitVec 32) (k1_t16 : Fin (k1_t16_loop v654).trips) : Fin 3 → Nat :=
  let c1_i32_907 : BitVec 32 := 1#32
  let v1661 : Index := Scalar.indexCast c1_i32_907
  let c0_i32_445 : BitVec 32 := 0#32
  let c64_i32_439 : BitVec 32 := 64#32
  let c0_i32_440 : BitVec 32 := 0#32
  let v810 : BitVec 1 := Scalar.cmpi .eq c64_i32_439 c0_i32_440
  let c1_i32_441 : BitVec 32 := 1#32
  let v811 : BitVec 32 := Scalar.select v810 c1_i32_441 c64_i32_439
  let v812 : BitVec 32 := Scalar.remsi v654 v811
  let c0_i32_443 : BitVec 32 := 0#32
  let v814 : BitVec 1 := Scalar.cmpi .slt v812 c0_i32_443
  let c0_i32_444 : BitVec 32 := 0#32
  let v815 : BitVec 1 := Scalar.cmpi .slt v811 c0_i32_444
  let v816 : BitVec 1 := Scalar.xori v814 v815
  let c0_i32_442 : BitVec 32 := 0#32
  let v813 : BitVec 1 := Scalar.cmpi .ne v812 c0_i32_442
  let v817 : BitVec 1 := Scalar.andi v816 v813
  let v818 : BitVec 32 := Scalar.addi v812 v811
  let v819 : BitVec 32 := Scalar.select v817 v818 v812
  let v820 : BitVec 32 := Scalar.subi v819 c0_i32_445
  let c1_i32_446 : BitVec 32 := 1#32
  let v822 : BitVec 32 := Scalar.divsi v820 c1_i32_446
  let v823 : BitVec 32 := Scalar.muli v822 c1_i32_446
  let v824 : BitVec 32 := Scalar.addi c0_i32_445 v823
  let c1_i32_448 : BitVec 32 := 1#32
  let arg9 : BitVec 32 := Scf.iv v824 c1_i32_448 k1_t16
  let v1662 : Index := Scalar.indexCast arg9
  let c16_908 : Index := 16#32
  ![1, v1662.toNat, 16]
def k1_off141 (v654 : BitVec 32) (k1_t16 : Fin (k1_t16_loop v654).trips) : Fin 3 → Nat :=
  let c1_i32_909 : BitVec 32 := 1#32
  let v1666 : Index := Scalar.indexCast c1_i32_909
  let c0_i32_445 : BitVec 32 := 0#32
  let c64_i32_439 : BitVec 32 := 64#32
  let c0_i32_440 : BitVec 32 := 0#32
  let v810 : BitVec 1 := Scalar.cmpi .eq c64_i32_439 c0_i32_440
  let c1_i32_441 : BitVec 32 := 1#32
  let v811 : BitVec 32 := Scalar.select v810 c1_i32_441 c64_i32_439
  let v812 : BitVec 32 := Scalar.remsi v654 v811
  let c0_i32_443 : BitVec 32 := 0#32
  let v814 : BitVec 1 := Scalar.cmpi .slt v812 c0_i32_443
  let c0_i32_444 : BitVec 32 := 0#32
  let v815 : BitVec 1 := Scalar.cmpi .slt v811 c0_i32_444
  let v816 : BitVec 1 := Scalar.xori v814 v815
  let c0_i32_442 : BitVec 32 := 0#32
  let v813 : BitVec 1 := Scalar.cmpi .ne v812 c0_i32_442
  let v817 : BitVec 1 := Scalar.andi v816 v813
  let v818 : BitVec 32 := Scalar.addi v812 v811
  let v819 : BitVec 32 := Scalar.select v817 v818 v812
  let v820 : BitVec 32 := Scalar.subi v819 c0_i32_445
  let c1_i32_446 : BitVec 32 := 1#32
  let v822 : BitVec 32 := Scalar.divsi v820 c1_i32_446
  let v823 : BitVec 32 := Scalar.muli v822 c1_i32_446
  let v824 : BitVec 32 := Scalar.addi c0_i32_445 v823
  let c1_i32_448 : BitVec 32 := 1#32
  let arg9 : BitVec 32 := Scf.iv v824 c1_i32_448 k1_t16
  let v1667 : Index := Scalar.indexCast arg9
  let c32_910 : Index := 32#32
  ![1, v1667.toNat, 32]
def k1_off142 (v654 : BitVec 32) (k1_t16 : Fin (k1_t16_loop v654).trips) : Fin 3 → Nat :=
  let c1_i32_911 : BitVec 32 := 1#32
  let v1671 : Index := Scalar.indexCast c1_i32_911
  let c0_i32_445 : BitVec 32 := 0#32
  let c64_i32_439 : BitVec 32 := 64#32
  let c0_i32_440 : BitVec 32 := 0#32
  let v810 : BitVec 1 := Scalar.cmpi .eq c64_i32_439 c0_i32_440
  let c1_i32_441 : BitVec 32 := 1#32
  let v811 : BitVec 32 := Scalar.select v810 c1_i32_441 c64_i32_439
  let v812 : BitVec 32 := Scalar.remsi v654 v811
  let c0_i32_443 : BitVec 32 := 0#32
  let v814 : BitVec 1 := Scalar.cmpi .slt v812 c0_i32_443
  let c0_i32_444 : BitVec 32 := 0#32
  let v815 : BitVec 1 := Scalar.cmpi .slt v811 c0_i32_444
  let v816 : BitVec 1 := Scalar.xori v814 v815
  let c0_i32_442 : BitVec 32 := 0#32
  let v813 : BitVec 1 := Scalar.cmpi .ne v812 c0_i32_442
  let v817 : BitVec 1 := Scalar.andi v816 v813
  let v818 : BitVec 32 := Scalar.addi v812 v811
  let v819 : BitVec 32 := Scalar.select v817 v818 v812
  let v820 : BitVec 32 := Scalar.subi v819 c0_i32_445
  let c1_i32_446 : BitVec 32 := 1#32
  let v822 : BitVec 32 := Scalar.divsi v820 c1_i32_446
  let v823 : BitVec 32 := Scalar.muli v822 c1_i32_446
  let v824 : BitVec 32 := Scalar.addi c0_i32_445 v823
  let c1_i32_448 : BitVec 32 := 1#32
  let arg9 : BitVec 32 := Scf.iv v824 c1_i32_448 k1_t16
  let v1672 : Index := Scalar.indexCast arg9
  let c48_912 : Index := 48#32
  ![1, v1672.toNat, 48]
def k1_off143 (v654 : BitVec 32) (k1_t16 : Fin (k1_t16_loop v654).trips) : Fin 3 → Nat :=
  let c1_i32_913 : BitVec 32 := 1#32
  let v1676 : Index := Scalar.indexCast c1_i32_913
  let c0_i32_445 : BitVec 32 := 0#32
  let c64_i32_439 : BitVec 32 := 64#32
  let c0_i32_440 : BitVec 32 := 0#32
  let v810 : BitVec 1 := Scalar.cmpi .eq c64_i32_439 c0_i32_440
  let c1_i32_441 : BitVec 32 := 1#32
  let v811 : BitVec 32 := Scalar.select v810 c1_i32_441 c64_i32_439
  let v812 : BitVec 32 := Scalar.remsi v654 v811
  let c0_i32_443 : BitVec 32 := 0#32
  let v814 : BitVec 1 := Scalar.cmpi .slt v812 c0_i32_443
  let c0_i32_444 : BitVec 32 := 0#32
  let v815 : BitVec 1 := Scalar.cmpi .slt v811 c0_i32_444
  let v816 : BitVec 1 := Scalar.xori v814 v815
  let c0_i32_442 : BitVec 32 := 0#32
  let v813 : BitVec 1 := Scalar.cmpi .ne v812 c0_i32_442
  let v817 : BitVec 1 := Scalar.andi v816 v813
  let v818 : BitVec 32 := Scalar.addi v812 v811
  let v819 : BitVec 32 := Scalar.select v817 v818 v812
  let v820 : BitVec 32 := Scalar.subi v819 c0_i32_445
  let c1_i32_446 : BitVec 32 := 1#32
  let v822 : BitVec 32 := Scalar.divsi v820 c1_i32_446
  let v823 : BitVec 32 := Scalar.muli v822 c1_i32_446
  let v824 : BitVec 32 := Scalar.addi c0_i32_445 v823
  let c1_i32_448 : BitVec 32 := 1#32
  let arg9 : BitVec 32 := Scf.iv v824 c1_i32_448 k1_t16
  let v1677 : Index := Scalar.indexCast arg9
  let c64_914 : Index := 64#32
  ![1, v1677.toNat, 64]
def k1_off144 (v654 : BitVec 32) (k1_t16 : Fin (k1_t16_loop v654).trips) : Fin 3 → Nat :=
  let c1_i32_915 : BitVec 32 := 1#32
  let v1681 : Index := Scalar.indexCast c1_i32_915
  let c0_i32_445 : BitVec 32 := 0#32
  let c64_i32_439 : BitVec 32 := 64#32
  let c0_i32_440 : BitVec 32 := 0#32
  let v810 : BitVec 1 := Scalar.cmpi .eq c64_i32_439 c0_i32_440
  let c1_i32_441 : BitVec 32 := 1#32
  let v811 : BitVec 32 := Scalar.select v810 c1_i32_441 c64_i32_439
  let v812 : BitVec 32 := Scalar.remsi v654 v811
  let c0_i32_443 : BitVec 32 := 0#32
  let v814 : BitVec 1 := Scalar.cmpi .slt v812 c0_i32_443
  let c0_i32_444 : BitVec 32 := 0#32
  let v815 : BitVec 1 := Scalar.cmpi .slt v811 c0_i32_444
  let v816 : BitVec 1 := Scalar.xori v814 v815
  let c0_i32_442 : BitVec 32 := 0#32
  let v813 : BitVec 1 := Scalar.cmpi .ne v812 c0_i32_442
  let v817 : BitVec 1 := Scalar.andi v816 v813
  let v818 : BitVec 32 := Scalar.addi v812 v811
  let v819 : BitVec 32 := Scalar.select v817 v818 v812
  let v820 : BitVec 32 := Scalar.subi v819 c0_i32_445
  let c1_i32_446 : BitVec 32 := 1#32
  let v822 : BitVec 32 := Scalar.divsi v820 c1_i32_446
  let v823 : BitVec 32 := Scalar.muli v822 c1_i32_446
  let v824 : BitVec 32 := Scalar.addi c0_i32_445 v823
  let c1_i32_448 : BitVec 32 := 1#32
  let arg9 : BitVec 32 := Scf.iv v824 c1_i32_448 k1_t16
  let v1682 : Index := Scalar.indexCast arg9
  let c80_916 : Index := 80#32
  ![1, v1682.toNat, 80]
def k1_off145 (v654 : BitVec 32) (k1_t16 : Fin (k1_t16_loop v654).trips) : Fin 3 → Nat :=
  let c1_i32_917 : BitVec 32 := 1#32
  let v1686 : Index := Scalar.indexCast c1_i32_917
  let c0_i32_445 : BitVec 32 := 0#32
  let c64_i32_439 : BitVec 32 := 64#32
  let c0_i32_440 : BitVec 32 := 0#32
  let v810 : BitVec 1 := Scalar.cmpi .eq c64_i32_439 c0_i32_440
  let c1_i32_441 : BitVec 32 := 1#32
  let v811 : BitVec 32 := Scalar.select v810 c1_i32_441 c64_i32_439
  let v812 : BitVec 32 := Scalar.remsi v654 v811
  let c0_i32_443 : BitVec 32 := 0#32
  let v814 : BitVec 1 := Scalar.cmpi .slt v812 c0_i32_443
  let c0_i32_444 : BitVec 32 := 0#32
  let v815 : BitVec 1 := Scalar.cmpi .slt v811 c0_i32_444
  let v816 : BitVec 1 := Scalar.xori v814 v815
  let c0_i32_442 : BitVec 32 := 0#32
  let v813 : BitVec 1 := Scalar.cmpi .ne v812 c0_i32_442
  let v817 : BitVec 1 := Scalar.andi v816 v813
  let v818 : BitVec 32 := Scalar.addi v812 v811
  let v819 : BitVec 32 := Scalar.select v817 v818 v812
  let v820 : BitVec 32 := Scalar.subi v819 c0_i32_445
  let c1_i32_446 : BitVec 32 := 1#32
  let v822 : BitVec 32 := Scalar.divsi v820 c1_i32_446
  let v823 : BitVec 32 := Scalar.muli v822 c1_i32_446
  let v824 : BitVec 32 := Scalar.addi c0_i32_445 v823
  let c1_i32_448 : BitVec 32 := 1#32
  let arg9 : BitVec 32 := Scf.iv v824 c1_i32_448 k1_t16
  let v1687 : Index := Scalar.indexCast arg9
  let c96_918 : Index := 96#32
  ![1, v1687.toNat, 96]
def k1_off146 (v654 : BitVec 32) (k1_t16 : Fin (k1_t16_loop v654).trips) : Fin 3 → Nat :=
  let c1_i32_919 : BitVec 32 := 1#32
  let v1691 : Index := Scalar.indexCast c1_i32_919
  let c0_i32_445 : BitVec 32 := 0#32
  let c64_i32_439 : BitVec 32 := 64#32
  let c0_i32_440 : BitVec 32 := 0#32
  let v810 : BitVec 1 := Scalar.cmpi .eq c64_i32_439 c0_i32_440
  let c1_i32_441 : BitVec 32 := 1#32
  let v811 : BitVec 32 := Scalar.select v810 c1_i32_441 c64_i32_439
  let v812 : BitVec 32 := Scalar.remsi v654 v811
  let c0_i32_443 : BitVec 32 := 0#32
  let v814 : BitVec 1 := Scalar.cmpi .slt v812 c0_i32_443
  let c0_i32_444 : BitVec 32 := 0#32
  let v815 : BitVec 1 := Scalar.cmpi .slt v811 c0_i32_444
  let v816 : BitVec 1 := Scalar.xori v814 v815
  let c0_i32_442 : BitVec 32 := 0#32
  let v813 : BitVec 1 := Scalar.cmpi .ne v812 c0_i32_442
  let v817 : BitVec 1 := Scalar.andi v816 v813
  let v818 : BitVec 32 := Scalar.addi v812 v811
  let v819 : BitVec 32 := Scalar.select v817 v818 v812
  let v820 : BitVec 32 := Scalar.subi v819 c0_i32_445
  let c1_i32_446 : BitVec 32 := 1#32
  let v822 : BitVec 32 := Scalar.divsi v820 c1_i32_446
  let v823 : BitVec 32 := Scalar.muli v822 c1_i32_446
  let v824 : BitVec 32 := Scalar.addi c0_i32_445 v823
  let c1_i32_448 : BitVec 32 := 1#32
  let arg9 : BitVec 32 := Scf.iv v824 c1_i32_448 k1_t16
  let v1692 : Index := Scalar.indexCast arg9
  let c112_920 : Index := 112#32
  ![1, v1692.toNat, 112]

def k1_chk8 (v654 : BitVec 32) : Prop :=
  (∀ a, (k1_off111 v654) a + S64x128.size a ≤ S320000x128.size a) ∧
  (∀ a, (k1_off130 v654) a + S64x128.size a ≤ S320000x128.size a) ∧
  ((k1_t15_loop v654).OK) ∧
  (∀ k1_t15 : Fin (k1_t15_loop v654).trips, ∀ a, (k1_off131 v654 k1_t15) a + S1x1x16.size a ≤ S2x64x128.size a) ∧
  (∀ k1_t15 : Fin (k1_t15_loop v654).trips, ∀ a, (k1_off132 v654 k1_t15) a + S1x1x16.size a ≤ S2x64x128.size a) ∧
  (∀ k1_t15 : Fin (k1_t15_loop v654).trips, ∀ a, (k1_off133 v654 k1_t15) a + S1x1x16.size a ≤ S2x64x128.size a) ∧
  (∀ k1_t15 : Fin (k1_t15_loop v654).trips, ∀ a, (k1_off134 v654 k1_t15) a + S1x1x16.size a ≤ S2x64x128.size a) ∧
  (∀ k1_t15 : Fin (k1_t15_loop v654).trips, ∀ a, (k1_off135 v654 k1_t15) a + S1x1x16.size a ≤ S2x64x128.size a) ∧
  (∀ k1_t15 : Fin (k1_t15_loop v654).trips, ∀ a, (k1_off136 v654 k1_t15) a + S1x1x16.size a ≤ S2x64x128.size a) ∧
  (∀ k1_t15 : Fin (k1_t15_loop v654).trips, ∀ a, (k1_off137 v654 k1_t15) a + S1x1x16.size a ≤ S2x64x128.size a) ∧
  (∀ k1_t15 : Fin (k1_t15_loop v654).trips, ∀ a, (k1_off138 v654 k1_t15) a + S1x1x16.size a ≤ S2x64x128.size a) ∧
  ((k1_t16_loop v654).OK) ∧
  (∀ k1_t16 : Fin (k1_t16_loop v654).trips, ∀ a, (k1_off139 v654 k1_t16) a + S1x1x16.size a ≤ S2x64x128.size a) ∧
  (∀ k1_t16 : Fin (k1_t16_loop v654).trips, ∀ a, (k1_off140 v654 k1_t16) a + S1x1x16.size a ≤ S2x64x128.size a) ∧
  (∀ k1_t16 : Fin (k1_t16_loop v654).trips, ∀ a, (k1_off141 v654 k1_t16) a + S1x1x16.size a ≤ S2x64x128.size a) ∧
  (∀ k1_t16 : Fin (k1_t16_loop v654).trips, ∀ a, (k1_off142 v654 k1_t16) a + S1x1x16.size a ≤ S2x64x128.size a) ∧
  (∀ k1_t16 : Fin (k1_t16_loop v654).trips, ∀ a, (k1_off143 v654 k1_t16) a + S1x1x16.size a ≤ S2x64x128.size a) ∧
  (∀ k1_t16 : Fin (k1_t16_loop v654).trips, ∀ a, (k1_off144 v654 k1_t16) a + S1x1x16.size a ≤ S2x64x128.size a) ∧
  (∀ k1_t16 : Fin (k1_t16_loop v654).trips, ∀ a, (k1_off145 v654 k1_t16) a + S1x1x16.size a ≤ S2x64x128.size a) ∧
  (∀ k1_t16 : Fin (k1_t16_loop v654).trips, ∀ a, (k1_off146 v654 k1_t16) a + S1x1x16.size a ≤ S2x64x128.size a)
theorem k1_off111_inb : ∀ (v654 : BitVec 32) (k1_hw8 : k1_chk8 v654), ∀ a, (k1_off111 v654) a + S64x128.size a ≤ S320000x128.size a := fun v654 k1_hw8 => k1_hw8.1
theorem k1_off130_inb : ∀ (v654 : BitVec 32) (k1_hw8 : k1_chk8 v654), ∀ a, (k1_off130 v654) a + S64x128.size a ≤ S320000x128.size a := fun v654 k1_hw8 => k1_hw8.2.1
theorem k1_t15_ok : ∀ (v654 : BitVec 32) (k1_hw8 : k1_chk8 v654), (k1_t15_loop v654).OK := fun v654 k1_hw8 => k1_hw8.2.2.1
theorem k1_off131_inb : ∀ (v654 : BitVec 32) (k1_hw8 : k1_chk8 v654) (k1_t15 : Fin (k1_t15_loop v654).trips), ∀ a, (k1_off131 v654 k1_t15) a + S1x1x16.size a ≤ S2x64x128.size a := fun v654 k1_hw8 k1_t15 => k1_hw8.2.2.2.1 k1_t15
theorem k1_off132_inb : ∀ (v654 : BitVec 32) (k1_hw8 : k1_chk8 v654) (k1_t15 : Fin (k1_t15_loop v654).trips), ∀ a, (k1_off132 v654 k1_t15) a + S1x1x16.size a ≤ S2x64x128.size a := fun v654 k1_hw8 k1_t15 => k1_hw8.2.2.2.2.1 k1_t15
theorem k1_off133_inb : ∀ (v654 : BitVec 32) (k1_hw8 : k1_chk8 v654) (k1_t15 : Fin (k1_t15_loop v654).trips), ∀ a, (k1_off133 v654 k1_t15) a + S1x1x16.size a ≤ S2x64x128.size a := fun v654 k1_hw8 k1_t15 => k1_hw8.2.2.2.2.2.1 k1_t15
theorem k1_off134_inb : ∀ (v654 : BitVec 32) (k1_hw8 : k1_chk8 v654) (k1_t15 : Fin (k1_t15_loop v654).trips), ∀ a, (k1_off134 v654 k1_t15) a + S1x1x16.size a ≤ S2x64x128.size a := fun v654 k1_hw8 k1_t15 => k1_hw8.2.2.2.2.2.2.1 k1_t15
theorem k1_off135_inb : ∀ (v654 : BitVec 32) (k1_hw8 : k1_chk8 v654) (k1_t15 : Fin (k1_t15_loop v654).trips), ∀ a, (k1_off135 v654 k1_t15) a + S1x1x16.size a ≤ S2x64x128.size a := fun v654 k1_hw8 k1_t15 => k1_hw8.2.2.2.2.2.2.2.1 k1_t15
theorem k1_off136_inb : ∀ (v654 : BitVec 32) (k1_hw8 : k1_chk8 v654) (k1_t15 : Fin (k1_t15_loop v654).trips), ∀ a, (k1_off136 v654 k1_t15) a + S1x1x16.size a ≤ S2x64x128.size a := fun v654 k1_hw8 k1_t15 => k1_hw8.2.2.2.2.2.2.2.2.1 k1_t15
theorem k1_off137_inb : ∀ (v654 : BitVec 32) (k1_hw8 : k1_chk8 v654) (k1_t15 : Fin (k1_t15_loop v654).trips), ∀ a, (k1_off137 v654 k1_t15) a + S1x1x16.size a ≤ S2x64x128.size a := fun v654 k1_hw8 k1_t15 => k1_hw8.2.2.2.2.2.2.2.2.2.1 k1_t15
theorem k1_off138_inb : ∀ (v654 : BitVec 32) (k1_hw8 : k1_chk8 v654) (k1_t15 : Fin (k1_t15_loop v654).trips), ∀ a, (k1_off138 v654 k1_t15) a + S1x1x16.size a ≤ S2x64x128.size a := fun v654 k1_hw8 k1_t15 => k1_hw8.2.2.2.2.2.2.2.2.2.2.1 k1_t15
theorem k1_t16_ok : ∀ (v654 : BitVec 32) (k1_hw8 : k1_chk8 v654), (k1_t16_loop v654).OK := fun v654 k1_hw8 => k1_hw8.2.2.2.2.2.2.2.2.2.2.2.1
theorem k1_off139_inb : ∀ (v654 : BitVec 32) (k1_hw8 : k1_chk8 v654) (k1_t16 : Fin (k1_t16_loop v654).trips), ∀ a, (k1_off139 v654 k1_t16) a + S1x1x16.size a ≤ S2x64x128.size a := fun v654 k1_hw8 k1_t16 => k1_hw8.2.2.2.2.2.2.2.2.2.2.2.2.1 k1_t16
theorem k1_off140_inb : ∀ (v654 : BitVec 32) (k1_hw8 : k1_chk8 v654) (k1_t16 : Fin (k1_t16_loop v654).trips), ∀ a, (k1_off140 v654 k1_t16) a + S1x1x16.size a ≤ S2x64x128.size a := fun v654 k1_hw8 k1_t16 => k1_hw8.2.2.2.2.2.2.2.2.2.2.2.2.2.1 k1_t16
theorem k1_off141_inb : ∀ (v654 : BitVec 32) (k1_hw8 : k1_chk8 v654) (k1_t16 : Fin (k1_t16_loop v654).trips), ∀ a, (k1_off141 v654 k1_t16) a + S1x1x16.size a ≤ S2x64x128.size a := fun v654 k1_hw8 k1_t16 => k1_hw8.2.2.2.2.2.2.2.2.2.2.2.2.2.2.1 k1_t16
theorem k1_off142_inb : ∀ (v654 : BitVec 32) (k1_hw8 : k1_chk8 v654) (k1_t16 : Fin (k1_t16_loop v654).trips), ∀ a, (k1_off142 v654 k1_t16) a + S1x1x16.size a ≤ S2x64x128.size a := fun v654 k1_hw8 k1_t16 => k1_hw8.2.2.2.2.2.2.2.2.2.2.2.2.2.2.2.1 k1_t16
theorem k1_off143_inb : ∀ (v654 : BitVec 32) (k1_hw8 : k1_chk8 v654) (k1_t16 : Fin (k1_t16_loop v654).trips), ∀ a, (k1_off143 v654 k1_t16) a + S1x1x16.size a ≤ S2x64x128.size a := fun v654 k1_hw8 k1_t16 => k1_hw8.2.2.2.2.2.2.2.2.2.2.2.2.2.2.2.2.1 k1_t16
theorem k1_off144_inb : ∀ (v654 : BitVec 32) (k1_hw8 : k1_chk8 v654) (k1_t16 : Fin (k1_t16_loop v654).trips), ∀ a, (k1_off144 v654 k1_t16) a + S1x1x16.size a ≤ S2x64x128.size a := fun v654 k1_hw8 k1_t16 => k1_hw8.2.2.2.2.2.2.2.2.2.2.2.2.2.2.2.2.2.1 k1_t16
theorem k1_off145_inb : ∀ (v654 : BitVec 32) (k1_hw8 : k1_chk8 v654) (k1_t16 : Fin (k1_t16_loop v654).trips), ∀ a, (k1_off145 v654 k1_t16) a + S1x1x16.size a ≤ S2x64x128.size a := fun v654 k1_hw8 k1_t16 => k1_hw8.2.2.2.2.2.2.2.2.2.2.2.2.2.2.2.2.2.2.1 k1_t16
theorem k1_off146_inb : ∀ (v654 : BitVec 32) (k1_hw8 : k1_chk8 v654) (k1_t16 : Fin (k1_t16_loop v654).trips), ∀ a, (k1_off146 v654 k1_t16) a + S1x1x16.size a ≤ S2x64x128.size a := fun v654 k1_hw8 k1_t16 => k1_hw8.2.2.2.2.2.2.2.2.2.2.2.2.2.2.2.2.2.2.2 k1_t16

def k1_off147 (v860 : BitVec 32) : Fin 2 → Nat :=
  let c0_i32_465 : BitVec 32 := 0#32
  let v862 : BitVec 1 := Scalar.cmpi .sgt v860 c0_i32_465
  let v863 : BitVec 32 := Scalar.extui v862
  let c0_i32_466 : BitVec 32 := 0#32
  let v864 : BitVec 1 := Scalar.cmpi .slt v860 c0_i32_466
  let v865 : BitVec 32 := Scalar.extui v864
  let v866 : BitVec 32 := Scalar.subi v863 v865
  let c64_i32_464 : BitVec 32 := 64#32
  let c0_i32_467 : BitVec 32 := 0#32
  let v867 : BitVec 1 := Scalar.cmpi .sgt c64_i32_464 c0_i32_467
  let v868 : BitVec 32 := Scalar.extui v867
  let c0_i32_468 : BitVec 32 := 0#32
  let v869 : BitVec 1 := Scalar.cmpi .slt c64_i32_464 c0_i32_468
  let v870 : BitVec 32 := Scalar.extui v869
  let v871 : BitVec 32 := Scalar.subi v868 v870
  let v872 : BitVec 1 := Scalar.cmpi .ne v866 v871
  let v873 : BitVec 32 := Scalar.remsi v860 c64_i32_464
  let c0_i32_469 : BitVec 32 := 0#32
  let v874 : BitVec 1 := Scalar.cmpi .ne v873 c0_i32_469
  let v875 : BitVec 1 := Scalar.andi v872 v874
  let v861 : BitVec 32 := Scalar.divsi v860 c64_i32_464
  let c1_i32_470 : BitVec 32 := 1#32
  let v876 : BitVec 32 := Scalar.subi v861 c1_i32_470
  let v877 : BitVec 32 := Scalar.select v875 v876 v861
  let c64_i32_471 : BitVec 32 := 64#32
  let v878 : BitVec 32 := Scalar.muli v877 c64_i32_471
  let c0_i32_476 : BitVec 32 := 0#32
  ![v878.toNat, 0]

def k1_off148 (v757 : BitVec 32) : Fin 2 → Nat :=
  let c0_i32_481 : BitVec 32 := 0#32
  let v888 : BitVec 1 := Scalar.cmpi .sgt v757 c0_i32_481
  let v889 : BitVec 32 := Scalar.extui v888
  let c0_i32_482 : BitVec 32 := 0#32
  let v890 : BitVec 1 := Scalar.cmpi .slt v757 c0_i32_482
  let v891 : BitVec 32 := Scalar.extui v890
  let v892 : BitVec 32 := Scalar.subi v889 v891
  let c64_i32_480 : BitVec 32 := 64#32
  let c0_i32_483 : BitVec 32 := 0#32
  let v893 : BitVec 1 := Scalar.cmpi .sgt c64_i32_480 c0_i32_483
  let v894 : BitVec 32 := Scalar.extui v893
  let c0_i32_484 : BitVec 32 := 0#32
  let v895 : BitVec 1 := Scalar.cmpi .slt c64_i32_480 c0_i32_484
  let v896 : BitVec 32 := Scalar.extui v895
  let v897 : BitVec 32 := Scalar.subi v894 v896
  let v898 : BitVec 1 := Scalar.cmpi .ne v892 v897
  let v899 : BitVec 32 := Scalar.remsi v757 c64_i32_480
  let c0_i32_485 : BitVec 32 := 0#32
  let v900 : BitVec 1 := Scalar.cmpi .ne v899 c0_i32_485
  let v901 : BitVec 1 := Scalar.andi v898 v900
  let v887 : BitVec 32 := Scalar.divsi v757 c64_i32_480
  let c1_i32_486 : BitVec 32 := 1#32
  let v902 : BitVec 32 := Scalar.subi v887 c1_i32_486
  let v903 : BitVec 32 := Scalar.select v901 v902 v887
  let c64_i32_487 : BitVec 32 := 64#32
  let v904 : BitVec 32 := Scalar.muli v903 c64_i32_487
  let c0_i32_492 : BitVec 32 := 0#32
  ![v904.toNat, 0]
@[reducible] def k1_t17_loop (v757 : BitVec 32) : Scf.Loop 32 :=
  let c0_i32_502 : BitVec 32 := 0#32
  let c64_i32_496 : BitVec 32 := 64#32
  let c0_i32_497 : BitVec 32 := 0#32
  let v913 : BitVec 1 := Scalar.cmpi .eq c64_i32_496 c0_i32_497
  let c1_i32_498 : BitVec 32 := 1#32
  let v914 : BitVec 32 := Scalar.select v913 c1_i32_498 c64_i32_496
  let v915 : BitVec 32 := Scalar.remsi v757 v914
  let c0_i32_500 : BitVec 32 := 0#32
  let v917 : BitVec 1 := Scalar.cmpi .slt v915 c0_i32_500
  let c0_i32_501 : BitVec 32 := 0#32
  let v918 : BitVec 1 := Scalar.cmpi .slt v914 c0_i32_501
  let v919 : BitVec 1 := Scalar.xori v917 v918
  let c0_i32_499 : BitVec 32 := 0#32
  let v916 : BitVec 1 := Scalar.cmpi .ne v915 c0_i32_499
  let v920 : BitVec 1 := Scalar.andi v919 v916
  let v921 : BitVec 32 := Scalar.addi v915 v914
  let v922 : BitVec 32 := Scalar.select v920 v921 v915
  let v923 : BitVec 32 := Scalar.subi v922 c0_i32_502
  let c1_i32_503 : BitVec 32 := 1#32
  let v925 : BitVec 32 := Scalar.divsi v923 c1_i32_503
  let v926 : BitVec 32 := Scalar.muli v925 c1_i32_503
  let v927 : BitVec 32 := Scalar.addi c0_i32_502 v926
  let c1_i32_504 : BitVec 32 := 1#32
  ⟨c0_i32_502, v927, c1_i32_504⟩
def k1_off149 (v757 : BitVec 32) (k1_t17 : Fin (k1_t17_loop v757).trips) : Fin 3 → Nat :=
  let c0_i32_905 : BitVec 32 := 0#32
  let v1656 : Index := Scalar.indexCast c0_i32_905
  let c0_i32_502 : BitVec 32 := 0#32
  let c1_i32_504 : BitVec 32 := 1#32
  let arg9 : BitVec 32 := Scf.iv c0_i32_502 c1_i32_504 k1_t17
  let v1657 : Index := Scalar.indexCast arg9
  let c0_906 : Index := 0#32
  ![0, v1657.toNat, 0]
def k1_off150 (v757 : BitVec 32) (k1_t17 : Fin (k1_t17_loop v757).trips) : Fin 3 → Nat :=
  let c0_i32_907 : BitVec 32 := 0#32
  let v1661 : Index := Scalar.indexCast c0_i32_907
  let c0_i32_502 : BitVec 32 := 0#32
  let c1_i32_504 : BitVec 32 := 1#32
  let arg9 : BitVec 32 := Scf.iv c0_i32_502 c1_i32_504 k1_t17
  let v1662 : Index := Scalar.indexCast arg9
  let c16_908 : Index := 16#32
  ![0, v1662.toNat, 16]
def k1_off151 (v757 : BitVec 32) (k1_t17 : Fin (k1_t17_loop v757).trips) : Fin 3 → Nat :=
  let c0_i32_909 : BitVec 32 := 0#32
  let v1666 : Index := Scalar.indexCast c0_i32_909
  let c0_i32_502 : BitVec 32 := 0#32
  let c1_i32_504 : BitVec 32 := 1#32
  let arg9 : BitVec 32 := Scf.iv c0_i32_502 c1_i32_504 k1_t17
  let v1667 : Index := Scalar.indexCast arg9
  let c32_910 : Index := 32#32
  ![0, v1667.toNat, 32]
def k1_off152 (v757 : BitVec 32) (k1_t17 : Fin (k1_t17_loop v757).trips) : Fin 3 → Nat :=
  let c0_i32_911 : BitVec 32 := 0#32
  let v1671 : Index := Scalar.indexCast c0_i32_911
  let c0_i32_502 : BitVec 32 := 0#32
  let c1_i32_504 : BitVec 32 := 1#32
  let arg9 : BitVec 32 := Scf.iv c0_i32_502 c1_i32_504 k1_t17
  let v1672 : Index := Scalar.indexCast arg9
  let c48_912 : Index := 48#32
  ![0, v1672.toNat, 48]
def k1_off153 (v757 : BitVec 32) (k1_t17 : Fin (k1_t17_loop v757).trips) : Fin 3 → Nat :=
  let c0_i32_913 : BitVec 32 := 0#32
  let v1676 : Index := Scalar.indexCast c0_i32_913
  let c0_i32_502 : BitVec 32 := 0#32
  let c1_i32_504 : BitVec 32 := 1#32
  let arg9 : BitVec 32 := Scf.iv c0_i32_502 c1_i32_504 k1_t17
  let v1677 : Index := Scalar.indexCast arg9
  let c64_914 : Index := 64#32
  ![0, v1677.toNat, 64]
def k1_off154 (v757 : BitVec 32) (k1_t17 : Fin (k1_t17_loop v757).trips) : Fin 3 → Nat :=
  let c0_i32_915 : BitVec 32 := 0#32
  let v1681 : Index := Scalar.indexCast c0_i32_915
  let c0_i32_502 : BitVec 32 := 0#32
  let c1_i32_504 : BitVec 32 := 1#32
  let arg9 : BitVec 32 := Scf.iv c0_i32_502 c1_i32_504 k1_t17
  let v1682 : Index := Scalar.indexCast arg9
  let c80_916 : Index := 80#32
  ![0, v1682.toNat, 80]
def k1_off155 (v757 : BitVec 32) (k1_t17 : Fin (k1_t17_loop v757).trips) : Fin 3 → Nat :=
  let c0_i32_917 : BitVec 32 := 0#32
  let v1686 : Index := Scalar.indexCast c0_i32_917
  let c0_i32_502 : BitVec 32 := 0#32
  let c1_i32_504 : BitVec 32 := 1#32
  let arg9 : BitVec 32 := Scf.iv c0_i32_502 c1_i32_504 k1_t17
  let v1687 : Index := Scalar.indexCast arg9
  let c96_918 : Index := 96#32
  ![0, v1687.toNat, 96]
def k1_off156 (v757 : BitVec 32) (k1_t17 : Fin (k1_t17_loop v757).trips) : Fin 3 → Nat :=
  let c0_i32_919 : BitVec 32 := 0#32
  let v1691 : Index := Scalar.indexCast c0_i32_919
  let c0_i32_502 : BitVec 32 := 0#32
  let c1_i32_504 : BitVec 32 := 1#32
  let arg9 : BitVec 32 := Scf.iv c0_i32_502 c1_i32_504 k1_t17
  let v1692 : Index := Scalar.indexCast arg9
  let c112_920 : Index := 112#32
  ![0, v1692.toNat, 112]
@[reducible] def k1_t18_loop (v757 : BitVec 32) : Scf.Loop 32 :=
  let c0_i32_502 : BitVec 32 := 0#32
  let c64_i32_496 : BitVec 32 := 64#32
  let c0_i32_497 : BitVec 32 := 0#32
  let v913 : BitVec 1 := Scalar.cmpi .eq c64_i32_496 c0_i32_497
  let c1_i32_498 : BitVec 32 := 1#32
  let v914 : BitVec 32 := Scalar.select v913 c1_i32_498 c64_i32_496
  let v915 : BitVec 32 := Scalar.remsi v757 v914
  let c0_i32_500 : BitVec 32 := 0#32
  let v917 : BitVec 1 := Scalar.cmpi .slt v915 c0_i32_500
  let c0_i32_501 : BitVec 32 := 0#32
  let v918 : BitVec 1 := Scalar.cmpi .slt v914 c0_i32_501
  let v919 : BitVec 1 := Scalar.xori v917 v918
  let c0_i32_499 : BitVec 32 := 0#32
  let v916 : BitVec 1 := Scalar.cmpi .ne v915 c0_i32_499
  let v920 : BitVec 1 := Scalar.andi v919 v916
  let v921 : BitVec 32 := Scalar.addi v915 v914
  let v922 : BitVec 32 := Scalar.select v920 v921 v915
  let v923 : BitVec 32 := Scalar.subi v922 c0_i32_502
  let c1_i32_503 : BitVec 32 := 1#32
  let v925 : BitVec 32 := Scalar.divsi v923 c1_i32_503
  let v926 : BitVec 32 := Scalar.muli v925 c1_i32_503
  let v927 : BitVec 32 := Scalar.addi c0_i32_502 v926
  let v924 : BitVec 32 := Scalar.addi c0_i32_502 v923
  let c1_i32_505 : BitVec 32 := 1#32
  ⟨v927, v924, c1_i32_505⟩
def k1_off157 (v757 : BitVec 32) (k1_t18 : Fin (k1_t18_loop v757).trips) : Fin 3 → Nat :=
  let c0_i32_905 : BitVec 32 := 0#32
  let v1656 : Index := Scalar.indexCast c0_i32_905
  let c0_i32_502 : BitVec 32 := 0#32
  let c64_i32_496 : BitVec 32 := 64#32
  let c0_i32_497 : BitVec 32 := 0#32
  let v913 : BitVec 1 := Scalar.cmpi .eq c64_i32_496 c0_i32_497
  let c1_i32_498 : BitVec 32 := 1#32
  let v914 : BitVec 32 := Scalar.select v913 c1_i32_498 c64_i32_496
  let v915 : BitVec 32 := Scalar.remsi v757 v914
  let c0_i32_500 : BitVec 32 := 0#32
  let v917 : BitVec 1 := Scalar.cmpi .slt v915 c0_i32_500
  let c0_i32_501 : BitVec 32 := 0#32
  let v918 : BitVec 1 := Scalar.cmpi .slt v914 c0_i32_501
  let v919 : BitVec 1 := Scalar.xori v917 v918
  let c0_i32_499 : BitVec 32 := 0#32
  let v916 : BitVec 1 := Scalar.cmpi .ne v915 c0_i32_499
  let v920 : BitVec 1 := Scalar.andi v919 v916
  let v921 : BitVec 32 := Scalar.addi v915 v914
  let v922 : BitVec 32 := Scalar.select v920 v921 v915
  let v923 : BitVec 32 := Scalar.subi v922 c0_i32_502
  let c1_i32_503 : BitVec 32 := 1#32
  let v925 : BitVec 32 := Scalar.divsi v923 c1_i32_503
  let v926 : BitVec 32 := Scalar.muli v925 c1_i32_503
  let v927 : BitVec 32 := Scalar.addi c0_i32_502 v926
  let c1_i32_505 : BitVec 32 := 1#32
  let arg9 : BitVec 32 := Scf.iv v927 c1_i32_505 k1_t18
  let v1657 : Index := Scalar.indexCast arg9
  let c0_906 : Index := 0#32
  ![0, v1657.toNat, 0]
def k1_off158 (v757 : BitVec 32) (k1_t18 : Fin (k1_t18_loop v757).trips) : Fin 3 → Nat :=
  let c0_i32_907 : BitVec 32 := 0#32
  let v1661 : Index := Scalar.indexCast c0_i32_907
  let c0_i32_502 : BitVec 32 := 0#32
  let c64_i32_496 : BitVec 32 := 64#32
  let c0_i32_497 : BitVec 32 := 0#32
  let v913 : BitVec 1 := Scalar.cmpi .eq c64_i32_496 c0_i32_497
  let c1_i32_498 : BitVec 32 := 1#32
  let v914 : BitVec 32 := Scalar.select v913 c1_i32_498 c64_i32_496
  let v915 : BitVec 32 := Scalar.remsi v757 v914
  let c0_i32_500 : BitVec 32 := 0#32
  let v917 : BitVec 1 := Scalar.cmpi .slt v915 c0_i32_500
  let c0_i32_501 : BitVec 32 := 0#32
  let v918 : BitVec 1 := Scalar.cmpi .slt v914 c0_i32_501
  let v919 : BitVec 1 := Scalar.xori v917 v918
  let c0_i32_499 : BitVec 32 := 0#32
  let v916 : BitVec 1 := Scalar.cmpi .ne v915 c0_i32_499
  let v920 : BitVec 1 := Scalar.andi v919 v916
  let v921 : BitVec 32 := Scalar.addi v915 v914
  let v922 : BitVec 32 := Scalar.select v920 v921 v915
  let v923 : BitVec 32 := Scalar.subi v922 c0_i32_502
  let c1_i32_503 : BitVec 32 := 1#32
  let v925 : BitVec 32 := Scalar.divsi v923 c1_i32_503
  let v926 : BitVec 32 := Scalar.muli v925 c1_i32_503
  let v927 : BitVec 32 := Scalar.addi c0_i32_502 v926
  let c1_i32_505 : BitVec 32 := 1#32
  let arg9 : BitVec 32 := Scf.iv v927 c1_i32_505 k1_t18
  let v1662 : Index := Scalar.indexCast arg9
  let c16_908 : Index := 16#32
  ![0, v1662.toNat, 16]
def k1_off159 (v757 : BitVec 32) (k1_t18 : Fin (k1_t18_loop v757).trips) : Fin 3 → Nat :=
  let c0_i32_909 : BitVec 32 := 0#32
  let v1666 : Index := Scalar.indexCast c0_i32_909
  let c0_i32_502 : BitVec 32 := 0#32
  let c64_i32_496 : BitVec 32 := 64#32
  let c0_i32_497 : BitVec 32 := 0#32
  let v913 : BitVec 1 := Scalar.cmpi .eq c64_i32_496 c0_i32_497
  let c1_i32_498 : BitVec 32 := 1#32
  let v914 : BitVec 32 := Scalar.select v913 c1_i32_498 c64_i32_496
  let v915 : BitVec 32 := Scalar.remsi v757 v914
  let c0_i32_500 : BitVec 32 := 0#32
  let v917 : BitVec 1 := Scalar.cmpi .slt v915 c0_i32_500
  let c0_i32_501 : BitVec 32 := 0#32
  let v918 : BitVec 1 := Scalar.cmpi .slt v914 c0_i32_501
  let v919 : BitVec 1 := Scalar.xori v917 v918
  let c0_i32_499 : BitVec 32 := 0#32
  let v916 : BitVec 1 := Scalar.cmpi .ne v915 c0_i32_499
  let v920 : BitVec 1 := Scalar.andi v919 v916
  let v921 : BitVec 32 := Scalar.addi v915 v914
  let v922 : BitVec 32 := Scalar.select v920 v921 v915
  let v923 : BitVec 32 := Scalar.subi v922 c0_i32_502
  let c1_i32_503 : BitVec 32 := 1#32
  let v925 : BitVec 32 := Scalar.divsi v923 c1_i32_503
  let v926 : BitVec 32 := Scalar.muli v925 c1_i32_503
  let v927 : BitVec 32 := Scalar.addi c0_i32_502 v926
  let c1_i32_505 : BitVec 32 := 1#32
  let arg9 : BitVec 32 := Scf.iv v927 c1_i32_505 k1_t18
  let v1667 : Index := Scalar.indexCast arg9
  let c32_910 : Index := 32#32
  ![0, v1667.toNat, 32]
def k1_off160 (v757 : BitVec 32) (k1_t18 : Fin (k1_t18_loop v757).trips) : Fin 3 → Nat :=
  let c0_i32_911 : BitVec 32 := 0#32
  let v1671 : Index := Scalar.indexCast c0_i32_911
  let c0_i32_502 : BitVec 32 := 0#32
  let c64_i32_496 : BitVec 32 := 64#32
  let c0_i32_497 : BitVec 32 := 0#32
  let v913 : BitVec 1 := Scalar.cmpi .eq c64_i32_496 c0_i32_497
  let c1_i32_498 : BitVec 32 := 1#32
  let v914 : BitVec 32 := Scalar.select v913 c1_i32_498 c64_i32_496
  let v915 : BitVec 32 := Scalar.remsi v757 v914
  let c0_i32_500 : BitVec 32 := 0#32
  let v917 : BitVec 1 := Scalar.cmpi .slt v915 c0_i32_500
  let c0_i32_501 : BitVec 32 := 0#32
  let v918 : BitVec 1 := Scalar.cmpi .slt v914 c0_i32_501
  let v919 : BitVec 1 := Scalar.xori v917 v918
  let c0_i32_499 : BitVec 32 := 0#32
  let v916 : BitVec 1 := Scalar.cmpi .ne v915 c0_i32_499
  let v920 : BitVec 1 := Scalar.andi v919 v916
  let v921 : BitVec 32 := Scalar.addi v915 v914
  let v922 : BitVec 32 := Scalar.select v920 v921 v915
  let v923 : BitVec 32 := Scalar.subi v922 c0_i32_502
  let c1_i32_503 : BitVec 32 := 1#32
  let v925 : BitVec 32 := Scalar.divsi v923 c1_i32_503
  let v926 : BitVec 32 := Scalar.muli v925 c1_i32_503
  let v927 : BitVec 32 := Scalar.addi c0_i32_502 v926
  let c1_i32_505 : BitVec 32 := 1#32
  let arg9 : BitVec 32 := Scf.iv v927 c1_i32_505 k1_t18
  let v1672 : Index := Scalar.indexCast arg9
  let c48_912 : Index := 48#32
  ![0, v1672.toNat, 48]
def k1_off161 (v757 : BitVec 32) (k1_t18 : Fin (k1_t18_loop v757).trips) : Fin 3 → Nat :=
  let c0_i32_913 : BitVec 32 := 0#32
  let v1676 : Index := Scalar.indexCast c0_i32_913
  let c0_i32_502 : BitVec 32 := 0#32
  let c64_i32_496 : BitVec 32 := 64#32
  let c0_i32_497 : BitVec 32 := 0#32
  let v913 : BitVec 1 := Scalar.cmpi .eq c64_i32_496 c0_i32_497
  let c1_i32_498 : BitVec 32 := 1#32
  let v914 : BitVec 32 := Scalar.select v913 c1_i32_498 c64_i32_496
  let v915 : BitVec 32 := Scalar.remsi v757 v914
  let c0_i32_500 : BitVec 32 := 0#32
  let v917 : BitVec 1 := Scalar.cmpi .slt v915 c0_i32_500
  let c0_i32_501 : BitVec 32 := 0#32
  let v918 : BitVec 1 := Scalar.cmpi .slt v914 c0_i32_501
  let v919 : BitVec 1 := Scalar.xori v917 v918
  let c0_i32_499 : BitVec 32 := 0#32
  let v916 : BitVec 1 := Scalar.cmpi .ne v915 c0_i32_499
  let v920 : BitVec 1 := Scalar.andi v919 v916
  let v921 : BitVec 32 := Scalar.addi v915 v914
  let v922 : BitVec 32 := Scalar.select v920 v921 v915
  let v923 : BitVec 32 := Scalar.subi v922 c0_i32_502
  let c1_i32_503 : BitVec 32 := 1#32
  let v925 : BitVec 32 := Scalar.divsi v923 c1_i32_503
  let v926 : BitVec 32 := Scalar.muli v925 c1_i32_503
  let v927 : BitVec 32 := Scalar.addi c0_i32_502 v926
  let c1_i32_505 : BitVec 32 := 1#32
  let arg9 : BitVec 32 := Scf.iv v927 c1_i32_505 k1_t18
  let v1677 : Index := Scalar.indexCast arg9
  let c64_914 : Index := 64#32
  ![0, v1677.toNat, 64]
def k1_off162 (v757 : BitVec 32) (k1_t18 : Fin (k1_t18_loop v757).trips) : Fin 3 → Nat :=
  let c0_i32_915 : BitVec 32 := 0#32
  let v1681 : Index := Scalar.indexCast c0_i32_915
  let c0_i32_502 : BitVec 32 := 0#32
  let c64_i32_496 : BitVec 32 := 64#32
  let c0_i32_497 : BitVec 32 := 0#32
  let v913 : BitVec 1 := Scalar.cmpi .eq c64_i32_496 c0_i32_497
  let c1_i32_498 : BitVec 32 := 1#32
  let v914 : BitVec 32 := Scalar.select v913 c1_i32_498 c64_i32_496
  let v915 : BitVec 32 := Scalar.remsi v757 v914
  let c0_i32_500 : BitVec 32 := 0#32
  let v917 : BitVec 1 := Scalar.cmpi .slt v915 c0_i32_500
  let c0_i32_501 : BitVec 32 := 0#32
  let v918 : BitVec 1 := Scalar.cmpi .slt v914 c0_i32_501
  let v919 : BitVec 1 := Scalar.xori v917 v918
  let c0_i32_499 : BitVec 32 := 0#32
  let v916 : BitVec 1 := Scalar.cmpi .ne v915 c0_i32_499
  let v920 : BitVec 1 := Scalar.andi v919 v916
  let v921 : BitVec 32 := Scalar.addi v915 v914
  let v922 : BitVec 32 := Scalar.select v920 v921 v915
  let v923 : BitVec 32 := Scalar.subi v922 c0_i32_502
  let c1_i32_503 : BitVec 32 := 1#32
  let v925 : BitVec 32 := Scalar.divsi v923 c1_i32_503
  let v926 : BitVec 32 := Scalar.muli v925 c1_i32_503
  let v927 : BitVec 32 := Scalar.addi c0_i32_502 v926
  let c1_i32_505 : BitVec 32 := 1#32
  let arg9 : BitVec 32 := Scf.iv v927 c1_i32_505 k1_t18
  let v1682 : Index := Scalar.indexCast arg9
  let c80_916 : Index := 80#32
  ![0, v1682.toNat, 80]
def k1_off163 (v757 : BitVec 32) (k1_t18 : Fin (k1_t18_loop v757).trips) : Fin 3 → Nat :=
  let c0_i32_917 : BitVec 32 := 0#32
  let v1686 : Index := Scalar.indexCast c0_i32_917
  let c0_i32_502 : BitVec 32 := 0#32
  let c64_i32_496 : BitVec 32 := 64#32
  let c0_i32_497 : BitVec 32 := 0#32
  let v913 : BitVec 1 := Scalar.cmpi .eq c64_i32_496 c0_i32_497
  let c1_i32_498 : BitVec 32 := 1#32
  let v914 : BitVec 32 := Scalar.select v913 c1_i32_498 c64_i32_496
  let v915 : BitVec 32 := Scalar.remsi v757 v914
  let c0_i32_500 : BitVec 32 := 0#32
  let v917 : BitVec 1 := Scalar.cmpi .slt v915 c0_i32_500
  let c0_i32_501 : BitVec 32 := 0#32
  let v918 : BitVec 1 := Scalar.cmpi .slt v914 c0_i32_501
  let v919 : BitVec 1 := Scalar.xori v917 v918
  let c0_i32_499 : BitVec 32 := 0#32
  let v916 : BitVec 1 := Scalar.cmpi .ne v915 c0_i32_499
  let v920 : BitVec 1 := Scalar.andi v919 v916
  let v921 : BitVec 32 := Scalar.addi v915 v914
  let v922 : BitVec 32 := Scalar.select v920 v921 v915
  let v923 : BitVec 32 := Scalar.subi v922 c0_i32_502
  let c1_i32_503 : BitVec 32 := 1#32
  let v925 : BitVec 32 := Scalar.divsi v923 c1_i32_503
  let v926 : BitVec 32 := Scalar.muli v925 c1_i32_503
  let v927 : BitVec 32 := Scalar.addi c0_i32_502 v926
  let c1_i32_505 : BitVec 32 := 1#32
  let arg9 : BitVec 32 := Scf.iv v927 c1_i32_505 k1_t18
  let v1687 : Index := Scalar.indexCast arg9
  let c96_918 : Index := 96#32
  ![0, v1687.toNat, 96]
def k1_off164 (v757 : BitVec 32) (k1_t18 : Fin (k1_t18_loop v757).trips) : Fin 3 → Nat :=
  let c0_i32_919 : BitVec 32 := 0#32
  let v1691 : Index := Scalar.indexCast c0_i32_919
  let c0_i32_502 : BitVec 32 := 0#32
  let c64_i32_496 : BitVec 32 := 64#32
  let c0_i32_497 : BitVec 32 := 0#32
  let v913 : BitVec 1 := Scalar.cmpi .eq c64_i32_496 c0_i32_497
  let c1_i32_498 : BitVec 32 := 1#32
  let v914 : BitVec 32 := Scalar.select v913 c1_i32_498 c64_i32_496
  let v915 : BitVec 32 := Scalar.remsi v757 v914
  let c0_i32_500 : BitVec 32 := 0#32
  let v917 : BitVec 1 := Scalar.cmpi .slt v915 c0_i32_500
  let c0_i32_501 : BitVec 32 := 0#32
  let v918 : BitVec 1 := Scalar.cmpi .slt v914 c0_i32_501
  let v919 : BitVec 1 := Scalar.xori v917 v918
  let c0_i32_499 : BitVec 32 := 0#32
  let v916 : BitVec 1 := Scalar.cmpi .ne v915 c0_i32_499
  let v920 : BitVec 1 := Scalar.andi v919 v916
  let v921 : BitVec 32 := Scalar.addi v915 v914
  let v922 : BitVec 32 := Scalar.select v920 v921 v915
  let v923 : BitVec 32 := Scalar.subi v922 c0_i32_502
  let c1_i32_503 : BitVec 32 := 1#32
  let v925 : BitVec 32 := Scalar.divsi v923 c1_i32_503
  let v926 : BitVec 32 := Scalar.muli v925 c1_i32_503
  let v927 : BitVec 32 := Scalar.addi c0_i32_502 v926
  let c1_i32_505 : BitVec 32 := 1#32
  let arg9 : BitVec 32 := Scf.iv v927 c1_i32_505 k1_t18
  let v1692 : Index := Scalar.indexCast arg9
  let c112_920 : Index := 112#32
  ![0, v1692.toNat, 112]

def k1_chk9 (v757 : BitVec 32) : Prop :=
  (∀ a, (k1_off129 v757) a + S64x128.size a ≤ S320000x128.size a) ∧
  (∀ a, (k1_off148 v757) a + S64x128.size a ≤ S320000x128.size a) ∧
  ((k1_t17_loop v757).OK) ∧
  (∀ k1_t17 : Fin (k1_t17_loop v757).trips, ∀ a, (k1_off149 v757 k1_t17) a + S1x1x16.size a ≤ S2x64x128.size a) ∧
  (∀ k1_t17 : Fin (k1_t17_loop v757).trips, ∀ a, (k1_off150 v757 k1_t17) a + S1x1x16.size a ≤ S2x64x128.size a) ∧
  (∀ k1_t17 : Fin (k1_t17_loop v757).trips, ∀ a, (k1_off151 v757 k1_t17) a + S1x1x16.size a ≤ S2x64x128.size a) ∧
  (∀ k1_t17 : Fin (k1_t17_loop v757).trips, ∀ a, (k1_off152 v757 k1_t17) a + S1x1x16.size a ≤ S2x64x128.size a) ∧
  (∀ k1_t17 : Fin (k1_t17_loop v757).trips, ∀ a, (k1_off153 v757 k1_t17) a + S1x1x16.size a ≤ S2x64x128.size a) ∧
  (∀ k1_t17 : Fin (k1_t17_loop v757).trips, ∀ a, (k1_off154 v757 k1_t17) a + S1x1x16.size a ≤ S2x64x128.size a) ∧
  (∀ k1_t17 : Fin (k1_t17_loop v757).trips, ∀ a, (k1_off155 v757 k1_t17) a + S1x1x16.size a ≤ S2x64x128.size a) ∧
  (∀ k1_t17 : Fin (k1_t17_loop v757).trips, ∀ a, (k1_off156 v757 k1_t17) a + S1x1x16.size a ≤ S2x64x128.size a) ∧
  ((k1_t18_loop v757).OK) ∧
  (∀ k1_t18 : Fin (k1_t18_loop v757).trips, ∀ a, (k1_off157 v757 k1_t18) a + S1x1x16.size a ≤ S2x64x128.size a) ∧
  (∀ k1_t18 : Fin (k1_t18_loop v757).trips, ∀ a, (k1_off158 v757 k1_t18) a + S1x1x16.size a ≤ S2x64x128.size a) ∧
  (∀ k1_t18 : Fin (k1_t18_loop v757).trips, ∀ a, (k1_off159 v757 k1_t18) a + S1x1x16.size a ≤ S2x64x128.size a) ∧
  (∀ k1_t18 : Fin (k1_t18_loop v757).trips, ∀ a, (k1_off160 v757 k1_t18) a + S1x1x16.size a ≤ S2x64x128.size a) ∧
  (∀ k1_t18 : Fin (k1_t18_loop v757).trips, ∀ a, (k1_off161 v757 k1_t18) a + S1x1x16.size a ≤ S2x64x128.size a) ∧
  (∀ k1_t18 : Fin (k1_t18_loop v757).trips, ∀ a, (k1_off162 v757 k1_t18) a + S1x1x16.size a ≤ S2x64x128.size a) ∧
  (∀ k1_t18 : Fin (k1_t18_loop v757).trips, ∀ a, (k1_off163 v757 k1_t18) a + S1x1x16.size a ≤ S2x64x128.size a) ∧
  (∀ k1_t18 : Fin (k1_t18_loop v757).trips, ∀ a, (k1_off164 v757 k1_t18) a + S1x1x16.size a ≤ S2x64x128.size a)
theorem k1_off129_inb : ∀ (v757 : BitVec 32) (k1_hw9 : k1_chk9 v757), ∀ a, (k1_off129 v757) a + S64x128.size a ≤ S320000x128.size a := fun v757 k1_hw9 => k1_hw9.1
theorem k1_off148_inb : ∀ (v757 : BitVec 32) (k1_hw9 : k1_chk9 v757), ∀ a, (k1_off148 v757) a + S64x128.size a ≤ S320000x128.size a := fun v757 k1_hw9 => k1_hw9.2.1
theorem k1_t17_ok : ∀ (v757 : BitVec 32) (k1_hw9 : k1_chk9 v757), (k1_t17_loop v757).OK := fun v757 k1_hw9 => k1_hw9.2.2.1
theorem k1_off149_inb : ∀ (v757 : BitVec 32) (k1_hw9 : k1_chk9 v757) (k1_t17 : Fin (k1_t17_loop v757).trips), ∀ a, (k1_off149 v757 k1_t17) a + S1x1x16.size a ≤ S2x64x128.size a := fun v757 k1_hw9 k1_t17 => k1_hw9.2.2.2.1 k1_t17
theorem k1_off150_inb : ∀ (v757 : BitVec 32) (k1_hw9 : k1_chk9 v757) (k1_t17 : Fin (k1_t17_loop v757).trips), ∀ a, (k1_off150 v757 k1_t17) a + S1x1x16.size a ≤ S2x64x128.size a := fun v757 k1_hw9 k1_t17 => k1_hw9.2.2.2.2.1 k1_t17
theorem k1_off151_inb : ∀ (v757 : BitVec 32) (k1_hw9 : k1_chk9 v757) (k1_t17 : Fin (k1_t17_loop v757).trips), ∀ a, (k1_off151 v757 k1_t17) a + S1x1x16.size a ≤ S2x64x128.size a := fun v757 k1_hw9 k1_t17 => k1_hw9.2.2.2.2.2.1 k1_t17
theorem k1_off152_inb : ∀ (v757 : BitVec 32) (k1_hw9 : k1_chk9 v757) (k1_t17 : Fin (k1_t17_loop v757).trips), ∀ a, (k1_off152 v757 k1_t17) a + S1x1x16.size a ≤ S2x64x128.size a := fun v757 k1_hw9 k1_t17 => k1_hw9.2.2.2.2.2.2.1 k1_t17
theorem k1_off153_inb : ∀ (v757 : BitVec 32) (k1_hw9 : k1_chk9 v757) (k1_t17 : Fin (k1_t17_loop v757).trips), ∀ a, (k1_off153 v757 k1_t17) a + S1x1x16.size a ≤ S2x64x128.size a := fun v757 k1_hw9 k1_t17 => k1_hw9.2.2.2.2.2.2.2.1 k1_t17
theorem k1_off154_inb : ∀ (v757 : BitVec 32) (k1_hw9 : k1_chk9 v757) (k1_t17 : Fin (k1_t17_loop v757).trips), ∀ a, (k1_off154 v757 k1_t17) a + S1x1x16.size a ≤ S2x64x128.size a := fun v757 k1_hw9 k1_t17 => k1_hw9.2.2.2.2.2.2.2.2.1 k1_t17
theorem k1_off155_inb : ∀ (v757 : BitVec 32) (k1_hw9 : k1_chk9 v757) (k1_t17 : Fin (k1_t17_loop v757).trips), ∀ a, (k1_off155 v757 k1_t17) a + S1x1x16.size a ≤ S2x64x128.size a := fun v757 k1_hw9 k1_t17 => k1_hw9.2.2.2.2.2.2.2.2.2.1 k1_t17
theorem k1_off156_inb : ∀ (v757 : BitVec 32) (k1_hw9 : k1_chk9 v757) (k1_t17 : Fin (k1_t17_loop v757).trips), ∀ a, (k1_off156 v757 k1_t17) a + S1x1x16.size a ≤ S2x64x128.size a := fun v757 k1_hw9 k1_t17 => k1_hw9.2.2.2.2.2.2.2.2.2.2.1 k1_t17
theorem k1_t18_ok : ∀ (v757 : BitVec 32) (k1_hw9 : k1_chk9 v757), (k1_t18_loop v757).OK := fun v757 k1_hw9 => k1_hw9.2.2.2.2.2.2.2.2.2.2.2.1
theorem k1_off157_inb : ∀ (v757 : BitVec 32) (k1_hw9 : k1_chk9 v757) (k1_t18 : Fin (k1_t18_loop v757).trips), ∀ a, (k1_off157 v757 k1_t18) a + S1x1x16.size a ≤ S2x64x128.size a := fun v757 k1_hw9 k1_t18 => k1_hw9.2.2.2.2.2.2.2.2.2.2.2.2.1 k1_t18
theorem k1_off158_inb : ∀ (v757 : BitVec 32) (k1_hw9 : k1_chk9 v757) (k1_t18 : Fin (k1_t18_loop v757).trips), ∀ a, (k1_off158 v757 k1_t18) a + S1x1x16.size a ≤ S2x64x128.size a := fun v757 k1_hw9 k1_t18 => k1_hw9.2.2.2.2.2.2.2.2.2.2.2.2.2.1 k1_t18
theorem k1_off159_inb : ∀ (v757 : BitVec 32) (k1_hw9 : k1_chk9 v757) (k1_t18 : Fin (k1_t18_loop v757).trips), ∀ a, (k1_off159 v757 k1_t18) a + S1x1x16.size a ≤ S2x64x128.size a := fun v757 k1_hw9 k1_t18 => k1_hw9.2.2.2.2.2.2.2.2.2.2.2.2.2.2.1 k1_t18
theorem k1_off160_inb : ∀ (v757 : BitVec 32) (k1_hw9 : k1_chk9 v757) (k1_t18 : Fin (k1_t18_loop v757).trips), ∀ a, (k1_off160 v757 k1_t18) a + S1x1x16.size a ≤ S2x64x128.size a := fun v757 k1_hw9 k1_t18 => k1_hw9.2.2.2.2.2.2.2.2.2.2.2.2.2.2.2.1 k1_t18
theorem k1_off161_inb : ∀ (v757 : BitVec 32) (k1_hw9 : k1_chk9 v757) (k1_t18 : Fin (k1_t18_loop v757).trips), ∀ a, (k1_off161 v757 k1_t18) a + S1x1x16.size a ≤ S2x64x128.size a := fun v757 k1_hw9 k1_t18 => k1_hw9.2.2.2.2.2.2.2.2.2.2.2.2.2.2.2.2.1 k1_t18
theorem k1_off162_inb : ∀ (v757 : BitVec 32) (k1_hw9 : k1_chk9 v757) (k1_t18 : Fin (k1_t18_loop v757).trips), ∀ a, (k1_off162 v757 k1_t18) a + S1x1x16.size a ≤ S2x64x128.size a := fun v757 k1_hw9 k1_t18 => k1_hw9.2.2.2.2.2.2.2.2.2.2.2.2.2.2.2.2.2.1 k1_t18
theorem k1_off163_inb : ∀ (v757 : BitVec 32) (k1_hw9 : k1_chk9 v757) (k1_t18 : Fin (k1_t18_loop v757).trips), ∀ a, (k1_off163 v757 k1_t18) a + S1x1x16.size a ≤ S2x64x128.size a := fun v757 k1_hw9 k1_t18 => k1_hw9.2.2.2.2.2.2.2.2.2.2.2.2.2.2.2.2.2.2.1 k1_t18
theorem k1_off164_inb : ∀ (v757 : BitVec 32) (k1_hw9 : k1_chk9 v757) (k1_t18 : Fin (k1_t18_loop v757).trips), ∀ a, (k1_off164 v757 k1_t18) a + S1x1x16.size a ≤ S2x64x128.size a := fun v757 k1_hw9 k1_t18 => k1_hw9.2.2.2.2.2.2.2.2.2.2.2.2.2.2.2.2.2.2.2 k1_t18

def k1_off165 (v963 : BitVec 32) : Fin 2 → Nat :=
  let c0_i32_522 : BitVec 32 := 0#32
  let v965 : BitVec 1 := Scalar.cmpi .sgt v963 c0_i32_522
  let v966 : BitVec 32 := Scalar.extui v965
  let c0_i32_523 : BitVec 32 := 0#32
  let v967 : BitVec 1 := Scalar.cmpi .slt v963 c0_i32_523
  let v968 : BitVec 32 := Scalar.extui v967
  let v969 : BitVec 32 := Scalar.subi v966 v968
  let c64_i32_521 : BitVec 32 := 64#32
  let c0_i32_524 : BitVec 32 := 0#32
  let v970 : BitVec 1 := Scalar.cmpi .sgt c64_i32_521 c0_i32_524
  let v971 : BitVec 32 := Scalar.extui v970
  let c0_i32_525 : BitVec 32 := 0#32
  let v972 : BitVec 1 := Scalar.cmpi .slt c64_i32_521 c0_i32_525
  let v973 : BitVec 32 := Scalar.extui v972
  let v974 : BitVec 32 := Scalar.subi v971 v973
  let v975 : BitVec 1 := Scalar.cmpi .ne v969 v974
  let v976 : BitVec 32 := Scalar.remsi v963 c64_i32_521
  let c0_i32_526 : BitVec 32 := 0#32
  let v977 : BitVec 1 := Scalar.cmpi .ne v976 c0_i32_526
  let v978 : BitVec 1 := Scalar.andi v975 v977
  let v964 : BitVec 32 := Scalar.divsi v963 c64_i32_521
  let c1_i32_527 : BitVec 32 := 1#32
  let v979 : BitVec 32 := Scalar.subi v964 c1_i32_527
  let v980 : BitVec 32 := Scalar.select v978 v979 v964
  let c64_i32_528 : BitVec 32 := 64#32
  let v981 : BitVec 32 := Scalar.muli v980 c64_i32_528
  let c0_i32_533 : BitVec 32 := 0#32
  ![v981.toNat, 0]

def k1_off166 (v860 : BitVec 32) : Fin 2 → Nat :=
  let c0_i32_538 : BitVec 32 := 0#32
  let v991 : BitVec 1 := Scalar.cmpi .sgt v860 c0_i32_538
  let v992 : BitVec 32 := Scalar.extui v991
  let c0_i32_539 : BitVec 32 := 0#32
  let v993 : BitVec 1 := Scalar.cmpi .slt v860 c0_i32_539
  let v994 : BitVec 32 := Scalar.extui v993
  let v995 : BitVec 32 := Scalar.subi v992 v994
  let c64_i32_537 : BitVec 32 := 64#32
  let c0_i32_540 : BitVec 32 := 0#32
  let v996 : BitVec 1 := Scalar.cmpi .sgt c64_i32_537 c0_i32_540
  let v997 : BitVec 32 := Scalar.extui v996
  let c0_i32_541 : BitVec 32 := 0#32
  let v998 : BitVec 1 := Scalar.cmpi .slt c64_i32_537 c0_i32_541
  let v999 : BitVec 32 := Scalar.extui v998
  let v1000 : BitVec 32 := Scalar.subi v997 v999
  let v1001 : BitVec 1 := Scalar.cmpi .ne v995 v1000
  let v1002 : BitVec 32 := Scalar.remsi v860 c64_i32_537
  let c0_i32_542 : BitVec 32 := 0#32
  let v1003 : BitVec 1 := Scalar.cmpi .ne v1002 c0_i32_542
  let v1004 : BitVec 1 := Scalar.andi v1001 v1003
  let v990 : BitVec 32 := Scalar.divsi v860 c64_i32_537
  let c1_i32_543 : BitVec 32 := 1#32
  let v1005 : BitVec 32 := Scalar.subi v990 c1_i32_543
  let v1006 : BitVec 32 := Scalar.select v1004 v1005 v990
  let c64_i32_544 : BitVec 32 := 64#32
  let v1007 : BitVec 32 := Scalar.muli v1006 c64_i32_544
  let c0_i32_549 : BitVec 32 := 0#32
  ![v1007.toNat, 0]
@[reducible] def k1_t19_loop (v860 : BitVec 32) : Scf.Loop 32 :=
  let c0_i32_559 : BitVec 32 := 0#32
  let c64_i32_553 : BitVec 32 := 64#32
  let c0_i32_554 : BitVec 32 := 0#32
  let v1016 : BitVec 1 := Scalar.cmpi .eq c64_i32_553 c0_i32_554
  let c1_i32_555 : BitVec 32 := 1#32
  let v1017 : BitVec 32 := Scalar.select v1016 c1_i32_555 c64_i32_553
  let v1018 : BitVec 32 := Scalar.remsi v860 v1017
  let c0_i32_557 : BitVec 32 := 0#32
  let v1020 : BitVec 1 := Scalar.cmpi .slt v1018 c0_i32_557
  let c0_i32_558 : BitVec 32 := 0#32
  let v1021 : BitVec 1 := Scalar.cmpi .slt v1017 c0_i32_558
  let v1022 : BitVec 1 := Scalar.xori v1020 v1021
  let c0_i32_556 : BitVec 32 := 0#32
  let v1019 : BitVec 1 := Scalar.cmpi .ne v1018 c0_i32_556
  let v1023 : BitVec 1 := Scalar.andi v1022 v1019
  let v1024 : BitVec 32 := Scalar.addi v1018 v1017
  let v1025 : BitVec 32 := Scalar.select v1023 v1024 v1018
  let v1026 : BitVec 32 := Scalar.subi v1025 c0_i32_559
  let c1_i32_560 : BitVec 32 := 1#32
  let v1028 : BitVec 32 := Scalar.divsi v1026 c1_i32_560
  let v1029 : BitVec 32 := Scalar.muli v1028 c1_i32_560
  let v1030 : BitVec 32 := Scalar.addi c0_i32_559 v1029
  let c1_i32_561 : BitVec 32 := 1#32
  ⟨c0_i32_559, v1030, c1_i32_561⟩
def k1_off167 (v860 : BitVec 32) (k1_t19 : Fin (k1_t19_loop v860).trips) : Fin 3 → Nat :=
  let c1_i32_905 : BitVec 32 := 1#32
  let v1656 : Index := Scalar.indexCast c1_i32_905
  let c0_i32_559 : BitVec 32 := 0#32
  let c1_i32_561 : BitVec 32 := 1#32
  let arg9 : BitVec 32 := Scf.iv c0_i32_559 c1_i32_561 k1_t19
  let v1657 : Index := Scalar.indexCast arg9
  let c0_906 : Index := 0#32
  ![1, v1657.toNat, 0]
def k1_off168 (v860 : BitVec 32) (k1_t19 : Fin (k1_t19_loop v860).trips) : Fin 3 → Nat :=
  let c1_i32_907 : BitVec 32 := 1#32
  let v1661 : Index := Scalar.indexCast c1_i32_907
  let c0_i32_559 : BitVec 32 := 0#32
  let c1_i32_561 : BitVec 32 := 1#32
  let arg9 : BitVec 32 := Scf.iv c0_i32_559 c1_i32_561 k1_t19
  let v1662 : Index := Scalar.indexCast arg9
  let c16_908 : Index := 16#32
  ![1, v1662.toNat, 16]
def k1_off169 (v860 : BitVec 32) (k1_t19 : Fin (k1_t19_loop v860).trips) : Fin 3 → Nat :=
  let c1_i32_909 : BitVec 32 := 1#32
  let v1666 : Index := Scalar.indexCast c1_i32_909
  let c0_i32_559 : BitVec 32 := 0#32
  let c1_i32_561 : BitVec 32 := 1#32
  let arg9 : BitVec 32 := Scf.iv c0_i32_559 c1_i32_561 k1_t19
  let v1667 : Index := Scalar.indexCast arg9
  let c32_910 : Index := 32#32
  ![1, v1667.toNat, 32]
def k1_off170 (v860 : BitVec 32) (k1_t19 : Fin (k1_t19_loop v860).trips) : Fin 3 → Nat :=
  let c1_i32_911 : BitVec 32 := 1#32
  let v1671 : Index := Scalar.indexCast c1_i32_911
  let c0_i32_559 : BitVec 32 := 0#32
  let c1_i32_561 : BitVec 32 := 1#32
  let arg9 : BitVec 32 := Scf.iv c0_i32_559 c1_i32_561 k1_t19
  let v1672 : Index := Scalar.indexCast arg9
  let c48_912 : Index := 48#32
  ![1, v1672.toNat, 48]
def k1_off171 (v860 : BitVec 32) (k1_t19 : Fin (k1_t19_loop v860).trips) : Fin 3 → Nat :=
  let c1_i32_913 : BitVec 32 := 1#32
  let v1676 : Index := Scalar.indexCast c1_i32_913
  let c0_i32_559 : BitVec 32 := 0#32
  let c1_i32_561 : BitVec 32 := 1#32
  let arg9 : BitVec 32 := Scf.iv c0_i32_559 c1_i32_561 k1_t19
  let v1677 : Index := Scalar.indexCast arg9
  let c64_914 : Index := 64#32
  ![1, v1677.toNat, 64]
def k1_off172 (v860 : BitVec 32) (k1_t19 : Fin (k1_t19_loop v860).trips) : Fin 3 → Nat :=
  let c1_i32_915 : BitVec 32 := 1#32
  let v1681 : Index := Scalar.indexCast c1_i32_915
  let c0_i32_559 : BitVec 32 := 0#32
  let c1_i32_561 : BitVec 32 := 1#32
  let arg9 : BitVec 32 := Scf.iv c0_i32_559 c1_i32_561 k1_t19
  let v1682 : Index := Scalar.indexCast arg9
  let c80_916 : Index := 80#32
  ![1, v1682.toNat, 80]
def k1_off173 (v860 : BitVec 32) (k1_t19 : Fin (k1_t19_loop v860).trips) : Fin 3 → Nat :=
  let c1_i32_917 : BitVec 32 := 1#32
  let v1686 : Index := Scalar.indexCast c1_i32_917
  let c0_i32_559 : BitVec 32 := 0#32
  let c1_i32_561 : BitVec 32 := 1#32
  let arg9 : BitVec 32 := Scf.iv c0_i32_559 c1_i32_561 k1_t19
  let v1687 : Index := Scalar.indexCast arg9
  let c96_918 : Index := 96#32
  ![1, v1687.toNat, 96]
def k1_off174 (v860 : BitVec 32) (k1_t19 : Fin (k1_t19_loop v860).trips) : Fin 3 → Nat :=
  let c1_i32_919 : BitVec 32 := 1#32
  let v1691 : Index := Scalar.indexCast c1_i32_919
  let c0_i32_559 : BitVec 32 := 0#32
  let c1_i32_561 : BitVec 32 := 1#32
  let arg9 : BitVec 32 := Scf.iv c0_i32_559 c1_i32_561 k1_t19
  let v1692 : Index := Scalar.indexCast arg9
  let c112_920 : Index := 112#32
  ![1, v1692.toNat, 112]
@[reducible] def k1_t20_loop (v860 : BitVec 32) : Scf.Loop 32 :=
  let c0_i32_559 : BitVec 32 := 0#32
  let c64_i32_553 : BitVec 32 := 64#32
  let c0_i32_554 : BitVec 32 := 0#32
  let v1016 : BitVec 1 := Scalar.cmpi .eq c64_i32_553 c0_i32_554
  let c1_i32_555 : BitVec 32 := 1#32
  let v1017 : BitVec 32 := Scalar.select v1016 c1_i32_555 c64_i32_553
  let v1018 : BitVec 32 := Scalar.remsi v860 v1017
  let c0_i32_557 : BitVec 32 := 0#32
  let v1020 : BitVec 1 := Scalar.cmpi .slt v1018 c0_i32_557
  let c0_i32_558 : BitVec 32 := 0#32
  let v1021 : BitVec 1 := Scalar.cmpi .slt v1017 c0_i32_558
  let v1022 : BitVec 1 := Scalar.xori v1020 v1021
  let c0_i32_556 : BitVec 32 := 0#32
  let v1019 : BitVec 1 := Scalar.cmpi .ne v1018 c0_i32_556
  let v1023 : BitVec 1 := Scalar.andi v1022 v1019
  let v1024 : BitVec 32 := Scalar.addi v1018 v1017
  let v1025 : BitVec 32 := Scalar.select v1023 v1024 v1018
  let v1026 : BitVec 32 := Scalar.subi v1025 c0_i32_559
  let c1_i32_560 : BitVec 32 := 1#32
  let v1028 : BitVec 32 := Scalar.divsi v1026 c1_i32_560
  let v1029 : BitVec 32 := Scalar.muli v1028 c1_i32_560
  let v1030 : BitVec 32 := Scalar.addi c0_i32_559 v1029
  let v1027 : BitVec 32 := Scalar.addi c0_i32_559 v1026
  let c1_i32_562 : BitVec 32 := 1#32
  ⟨v1030, v1027, c1_i32_562⟩
def k1_off175 (v860 : BitVec 32) (k1_t20 : Fin (k1_t20_loop v860).trips) : Fin 3 → Nat :=
  let c1_i32_905 : BitVec 32 := 1#32
  let v1656 : Index := Scalar.indexCast c1_i32_905
  let c0_i32_559 : BitVec 32 := 0#32
  let c64_i32_553 : BitVec 32 := 64#32
  let c0_i32_554 : BitVec 32 := 0#32
  let v1016 : BitVec 1 := Scalar.cmpi .eq c64_i32_553 c0_i32_554
  let c1_i32_555 : BitVec 32 := 1#32
  let v1017 : BitVec 32 := Scalar.select v1016 c1_i32_555 c64_i32_553
  let v1018 : BitVec 32 := Scalar.remsi v860 v1017
  let c0_i32_557 : BitVec 32 := 0#32
  let v1020 : BitVec 1 := Scalar.cmpi .slt v1018 c0_i32_557
  let c0_i32_558 : BitVec 32 := 0#32
  let v1021 : BitVec 1 := Scalar.cmpi .slt v1017 c0_i32_558
  let v1022 : BitVec 1 := Scalar.xori v1020 v1021
  let c0_i32_556 : BitVec 32 := 0#32
  let v1019 : BitVec 1 := Scalar.cmpi .ne v1018 c0_i32_556
  let v1023 : BitVec 1 := Scalar.andi v1022 v1019
  let v1024 : BitVec 32 := Scalar.addi v1018 v1017
  let v1025 : BitVec 32 := Scalar.select v1023 v1024 v1018
  let v1026 : BitVec 32 := Scalar.subi v1025 c0_i32_559
  let c1_i32_560 : BitVec 32 := 1#32
  let v1028 : BitVec 32 := Scalar.divsi v1026 c1_i32_560
  let v1029 : BitVec 32 := Scalar.muli v1028 c1_i32_560
  let v1030 : BitVec 32 := Scalar.addi c0_i32_559 v1029
  let c1_i32_562 : BitVec 32 := 1#32
  let arg9 : BitVec 32 := Scf.iv v1030 c1_i32_562 k1_t20
  let v1657 : Index := Scalar.indexCast arg9
  let c0_906 : Index := 0#32
  ![1, v1657.toNat, 0]
def k1_off176 (v860 : BitVec 32) (k1_t20 : Fin (k1_t20_loop v860).trips) : Fin 3 → Nat :=
  let c1_i32_907 : BitVec 32 := 1#32
  let v1661 : Index := Scalar.indexCast c1_i32_907
  let c0_i32_559 : BitVec 32 := 0#32
  let c64_i32_553 : BitVec 32 := 64#32
  let c0_i32_554 : BitVec 32 := 0#32
  let v1016 : BitVec 1 := Scalar.cmpi .eq c64_i32_553 c0_i32_554
  let c1_i32_555 : BitVec 32 := 1#32
  let v1017 : BitVec 32 := Scalar.select v1016 c1_i32_555 c64_i32_553
  let v1018 : BitVec 32 := Scalar.remsi v860 v1017
  let c0_i32_557 : BitVec 32 := 0#32
  let v1020 : BitVec 1 := Scalar.cmpi .slt v1018 c0_i32_557
  let c0_i32_558 : BitVec 32 := 0#32
  let v1021 : BitVec 1 := Scalar.cmpi .slt v1017 c0_i32_558
  let v1022 : BitVec 1 := Scalar.xori v1020 v1021
  let c0_i32_556 : BitVec 32 := 0#32
  let v1019 : BitVec 1 := Scalar.cmpi .ne v1018 c0_i32_556
  let v1023 : BitVec 1 := Scalar.andi v1022 v1019
  let v1024 : BitVec 32 := Scalar.addi v1018 v1017
  let v1025 : BitVec 32 := Scalar.select v1023 v1024 v1018
  let v1026 : BitVec 32 := Scalar.subi v1025 c0_i32_559
  let c1_i32_560 : BitVec 32 := 1#32
  let v1028 : BitVec 32 := Scalar.divsi v1026 c1_i32_560
  let v1029 : BitVec 32 := Scalar.muli v1028 c1_i32_560
  let v1030 : BitVec 32 := Scalar.addi c0_i32_559 v1029
  let c1_i32_562 : BitVec 32 := 1#32
  let arg9 : BitVec 32 := Scf.iv v1030 c1_i32_562 k1_t20
  let v1662 : Index := Scalar.indexCast arg9
  let c16_908 : Index := 16#32
  ![1, v1662.toNat, 16]
def k1_off177 (v860 : BitVec 32) (k1_t20 : Fin (k1_t20_loop v860).trips) : Fin 3 → Nat :=
  let c1_i32_909 : BitVec 32 := 1#32
  let v1666 : Index := Scalar.indexCast c1_i32_909
  let c0_i32_559 : BitVec 32 := 0#32
  let c64_i32_553 : BitVec 32 := 64#32
  let c0_i32_554 : BitVec 32 := 0#32
  let v1016 : BitVec 1 := Scalar.cmpi .eq c64_i32_553 c0_i32_554
  let c1_i32_555 : BitVec 32 := 1#32
  let v1017 : BitVec 32 := Scalar.select v1016 c1_i32_555 c64_i32_553
  let v1018 : BitVec 32 := Scalar.remsi v860 v1017
  let c0_i32_557 : BitVec 32 := 0#32
  let v1020 : BitVec 1 := Scalar.cmpi .slt v1018 c0_i32_557
  let c0_i32_558 : BitVec 32 := 0#32
  let v1021 : BitVec 1 := Scalar.cmpi .slt v1017 c0_i32_558
  let v1022 : BitVec 1 := Scalar.xori v1020 v1021
  let c0_i32_556 : BitVec 32 := 0#32
  let v1019 : BitVec 1 := Scalar.cmpi .ne v1018 c0_i32_556
  let v1023 : BitVec 1 := Scalar.andi v1022 v1019
  let v1024 : BitVec 32 := Scalar.addi v1018 v1017
  let v1025 : BitVec 32 := Scalar.select v1023 v1024 v1018
  let v1026 : BitVec 32 := Scalar.subi v1025 c0_i32_559
  let c1_i32_560 : BitVec 32 := 1#32
  let v1028 : BitVec 32 := Scalar.divsi v1026 c1_i32_560
  let v1029 : BitVec 32 := Scalar.muli v1028 c1_i32_560
  let v1030 : BitVec 32 := Scalar.addi c0_i32_559 v1029
  let c1_i32_562 : BitVec 32 := 1#32
  let arg9 : BitVec 32 := Scf.iv v1030 c1_i32_562 k1_t20
  let v1667 : Index := Scalar.indexCast arg9
  let c32_910 : Index := 32#32
  ![1, v1667.toNat, 32]
def k1_off178 (v860 : BitVec 32) (k1_t20 : Fin (k1_t20_loop v860).trips) : Fin 3 → Nat :=
  let c1_i32_911 : BitVec 32 := 1#32
  let v1671 : Index := Scalar.indexCast c1_i32_911
  let c0_i32_559 : BitVec 32 := 0#32
  let c64_i32_553 : BitVec 32 := 64#32
  let c0_i32_554 : BitVec 32 := 0#32
  let v1016 : BitVec 1 := Scalar.cmpi .eq c64_i32_553 c0_i32_554
  let c1_i32_555 : BitVec 32 := 1#32
  let v1017 : BitVec 32 := Scalar.select v1016 c1_i32_555 c64_i32_553
  let v1018 : BitVec 32 := Scalar.remsi v860 v1017
  let c0_i32_557 : BitVec 32 := 0#32
  let v1020 : BitVec 1 := Scalar.cmpi .slt v1018 c0_i32_557
  let c0_i32_558 : BitVec 32 := 0#32
  let v1021 : BitVec 1 := Scalar.cmpi .slt v1017 c0_i32_558
  let v1022 : BitVec 1 := Scalar.xori v1020 v1021
  let c0_i32_556 : BitVec 32 := 0#32
  let v1019 : BitVec 1 := Scalar.cmpi .ne v1018 c0_i32_556
  let v1023 : BitVec 1 := Scalar.andi v1022 v1019
  let v1024 : BitVec 32 := Scalar.addi v1018 v1017
  let v1025 : BitVec 32 := Scalar.select v1023 v1024 v1018
  let v1026 : BitVec 32 := Scalar.subi v1025 c0_i32_559
  let c1_i32_560 : BitVec 32 := 1#32
  let v1028 : BitVec 32 := Scalar.divsi v1026 c1_i32_560
  let v1029 : BitVec 32 := Scalar.muli v1028 c1_i32_560
  let v1030 : BitVec 32 := Scalar.addi c0_i32_559 v1029
  let c1_i32_562 : BitVec 32 := 1#32
  let arg9 : BitVec 32 := Scf.iv v1030 c1_i32_562 k1_t20
  let v1672 : Index := Scalar.indexCast arg9
  let c48_912 : Index := 48#32
  ![1, v1672.toNat, 48]
def k1_off179 (v860 : BitVec 32) (k1_t20 : Fin (k1_t20_loop v860).trips) : Fin 3 → Nat :=
  let c1_i32_913 : BitVec 32 := 1#32
  let v1676 : Index := Scalar.indexCast c1_i32_913
  let c0_i32_559 : BitVec 32 := 0#32
  let c64_i32_553 : BitVec 32 := 64#32
  let c0_i32_554 : BitVec 32 := 0#32
  let v1016 : BitVec 1 := Scalar.cmpi .eq c64_i32_553 c0_i32_554
  let c1_i32_555 : BitVec 32 := 1#32
  let v1017 : BitVec 32 := Scalar.select v1016 c1_i32_555 c64_i32_553
  let v1018 : BitVec 32 := Scalar.remsi v860 v1017
  let c0_i32_557 : BitVec 32 := 0#32
  let v1020 : BitVec 1 := Scalar.cmpi .slt v1018 c0_i32_557
  let c0_i32_558 : BitVec 32 := 0#32
  let v1021 : BitVec 1 := Scalar.cmpi .slt v1017 c0_i32_558
  let v1022 : BitVec 1 := Scalar.xori v1020 v1021
  let c0_i32_556 : BitVec 32 := 0#32
  let v1019 : BitVec 1 := Scalar.cmpi .ne v1018 c0_i32_556
  let v1023 : BitVec 1 := Scalar.andi v1022 v1019
  let v1024 : BitVec 32 := Scalar.addi v1018 v1017
  let v1025 : BitVec 32 := Scalar.select v1023 v1024 v1018
  let v1026 : BitVec 32 := Scalar.subi v1025 c0_i32_559
  let c1_i32_560 : BitVec 32 := 1#32
  let v1028 : BitVec 32 := Scalar.divsi v1026 c1_i32_560
  let v1029 : BitVec 32 := Scalar.muli v1028 c1_i32_560
  let v1030 : BitVec 32 := Scalar.addi c0_i32_559 v1029
  let c1_i32_562 : BitVec 32 := 1#32
  let arg9 : BitVec 32 := Scf.iv v1030 c1_i32_562 k1_t20
  let v1677 : Index := Scalar.indexCast arg9
  let c64_914 : Index := 64#32
  ![1, v1677.toNat, 64]
def k1_off180 (v860 : BitVec 32) (k1_t20 : Fin (k1_t20_loop v860).trips) : Fin 3 → Nat :=
  let c1_i32_915 : BitVec 32 := 1#32
  let v1681 : Index := Scalar.indexCast c1_i32_915
  let c0_i32_559 : BitVec 32 := 0#32
  let c64_i32_553 : BitVec 32 := 64#32
  let c0_i32_554 : BitVec 32 := 0#32
  let v1016 : BitVec 1 := Scalar.cmpi .eq c64_i32_553 c0_i32_554
  let c1_i32_555 : BitVec 32 := 1#32
  let v1017 : BitVec 32 := Scalar.select v1016 c1_i32_555 c64_i32_553
  let v1018 : BitVec 32 := Scalar.remsi v860 v1017
  let c0_i32_557 : BitVec 32 := 0#32
  let v1020 : BitVec 1 := Scalar.cmpi .slt v1018 c0_i32_557
  let c0_i32_558 : BitVec 32 := 0#32
  let v1021 : BitVec 1 := Scalar.cmpi .slt v1017 c0_i32_558
  let v1022 : BitVec 1 := Scalar.xori v1020 v1021
  let c0_i32_556 : BitVec 32 := 0#32
  let v1019 : BitVec 1 := Scalar.cmpi .ne v1018 c0_i32_556
  let v1023 : BitVec 1 := Scalar.andi v1022 v1019
  let v1024 : BitVec 32 := Scalar.addi v1018 v1017
  let v1025 : BitVec 32 := Scalar.select v1023 v1024 v1018
  let v1026 : BitVec 32 := Scalar.subi v1025 c0_i32_559
  let c1_i32_560 : BitVec 32 := 1#32
  let v1028 : BitVec 32 := Scalar.divsi v1026 c1_i32_560
  let v1029 : BitVec 32 := Scalar.muli v1028 c1_i32_560
  let v1030 : BitVec 32 := Scalar.addi c0_i32_559 v1029
  let c1_i32_562 : BitVec 32 := 1#32
  let arg9 : BitVec 32 := Scf.iv v1030 c1_i32_562 k1_t20
  let v1682 : Index := Scalar.indexCast arg9
  let c80_916 : Index := 80#32
  ![1, v1682.toNat, 80]
def k1_off181 (v860 : BitVec 32) (k1_t20 : Fin (k1_t20_loop v860).trips) : Fin 3 → Nat :=
  let c1_i32_917 : BitVec 32 := 1#32
  let v1686 : Index := Scalar.indexCast c1_i32_917
  let c0_i32_559 : BitVec 32 := 0#32
  let c64_i32_553 : BitVec 32 := 64#32
  let c0_i32_554 : BitVec 32 := 0#32
  let v1016 : BitVec 1 := Scalar.cmpi .eq c64_i32_553 c0_i32_554
  let c1_i32_555 : BitVec 32 := 1#32
  let v1017 : BitVec 32 := Scalar.select v1016 c1_i32_555 c64_i32_553
  let v1018 : BitVec 32 := Scalar.remsi v860 v1017
  let c0_i32_557 : BitVec 32 := 0#32
  let v1020 : BitVec 1 := Scalar.cmpi .slt v1018 c0_i32_557
  let c0_i32_558 : BitVec 32 := 0#32
  let v1021 : BitVec 1 := Scalar.cmpi .slt v1017 c0_i32_558
  let v1022 : BitVec 1 := Scalar.xori v1020 v1021
  let c0_i32_556 : BitVec 32 := 0#32
  let v1019 : BitVec 1 := Scalar.cmpi .ne v1018 c0_i32_556
  let v1023 : BitVec 1 := Scalar.andi v1022 v1019
  let v1024 : BitVec 32 := Scalar.addi v1018 v1017
  let v1025 : BitVec 32 := Scalar.select v1023 v1024 v1018
  let v1026 : BitVec 32 := Scalar.subi v1025 c0_i32_559
  let c1_i32_560 : BitVec 32 := 1#32
  let v1028 : BitVec 32 := Scalar.divsi v1026 c1_i32_560
  let v1029 : BitVec 32 := Scalar.muli v1028 c1_i32_560
  let v1030 : BitVec 32 := Scalar.addi c0_i32_559 v1029
  let c1_i32_562 : BitVec 32 := 1#32
  let arg9 : BitVec 32 := Scf.iv v1030 c1_i32_562 k1_t20
  let v1687 : Index := Scalar.indexCast arg9
  let c96_918 : Index := 96#32
  ![1, v1687.toNat, 96]
def k1_off182 (v860 : BitVec 32) (k1_t20 : Fin (k1_t20_loop v860).trips) : Fin 3 → Nat :=
  let c1_i32_919 : BitVec 32 := 1#32
  let v1691 : Index := Scalar.indexCast c1_i32_919
  let c0_i32_559 : BitVec 32 := 0#32
  let c64_i32_553 : BitVec 32 := 64#32
  let c0_i32_554 : BitVec 32 := 0#32
  let v1016 : BitVec 1 := Scalar.cmpi .eq c64_i32_553 c0_i32_554
  let c1_i32_555 : BitVec 32 := 1#32
  let v1017 : BitVec 32 := Scalar.select v1016 c1_i32_555 c64_i32_553
  let v1018 : BitVec 32 := Scalar.remsi v860 v1017
  let c0_i32_557 : BitVec 32 := 0#32
  let v1020 : BitVec 1 := Scalar.cmpi .slt v1018 c0_i32_557
  let c0_i32_558 : BitVec 32 := 0#32
  let v1021 : BitVec 1 := Scalar.cmpi .slt v1017 c0_i32_558
  let v1022 : BitVec 1 := Scalar.xori v1020 v1021
  let c0_i32_556 : BitVec 32 := 0#32
  let v1019 : BitVec 1 := Scalar.cmpi .ne v1018 c0_i32_556
  let v1023 : BitVec 1 := Scalar.andi v1022 v1019
  let v1024 : BitVec 32 := Scalar.addi v1018 v1017
  let v1025 : BitVec 32 := Scalar.select v1023 v1024 v1018
  let v1026 : BitVec 32 := Scalar.subi v1025 c0_i32_559
  let c1_i32_560 : BitVec 32 := 1#32
  let v1028 : BitVec 32 := Scalar.divsi v1026 c1_i32_560
  let v1029 : BitVec 32 := Scalar.muli v1028 c1_i32_560
  let v1030 : BitVec 32 := Scalar.addi c0_i32_559 v1029
  let c1_i32_562 : BitVec 32 := 1#32
  let arg9 : BitVec 32 := Scf.iv v1030 c1_i32_562 k1_t20
  let v1692 : Index := Scalar.indexCast arg9
  let c112_920 : Index := 112#32
  ![1, v1692.toNat, 112]

def k1_chk10 (v860 : BitVec 32) : Prop :=
  (∀ a, (k1_off147 v860) a + S64x128.size a ≤ S320000x128.size a) ∧
  (∀ a, (k1_off166 v860) a + S64x128.size a ≤ S320000x128.size a) ∧
  ((k1_t19_loop v860).OK) ∧
  (∀ k1_t19 : Fin (k1_t19_loop v860).trips, ∀ a, (k1_off167 v860 k1_t19) a + S1x1x16.size a ≤ S2x64x128.size a) ∧
  (∀ k1_t19 : Fin (k1_t19_loop v860).trips, ∀ a, (k1_off168 v860 k1_t19) a + S1x1x16.size a ≤ S2x64x128.size a) ∧
  (∀ k1_t19 : Fin (k1_t19_loop v860).trips, ∀ a, (k1_off169 v860 k1_t19) a + S1x1x16.size a ≤ S2x64x128.size a) ∧
  (∀ k1_t19 : Fin (k1_t19_loop v860).trips, ∀ a, (k1_off170 v860 k1_t19) a + S1x1x16.size a ≤ S2x64x128.size a) ∧
  (∀ k1_t19 : Fin (k1_t19_loop v860).trips, ∀ a, (k1_off171 v860 k1_t19) a + S1x1x16.size a ≤ S2x64x128.size a) ∧
  (∀ k1_t19 : Fin (k1_t19_loop v860).trips, ∀ a, (k1_off172 v860 k1_t19) a + S1x1x16.size a ≤ S2x64x128.size a) ∧
  (∀ k1_t19 : Fin (k1_t19_loop v860).trips, ∀ a, (k1_off173 v860 k1_t19) a + S1x1x16.size a ≤ S2x64x128.size a) ∧
  (∀ k1_t19 : Fin (k1_t19_loop v860).trips, ∀ a, (k1_off174 v860 k1_t19) a + S1x1x16.size a ≤ S2x64x128.size a) ∧
  ((k1_t20_loop v860).OK) ∧
  (∀ k1_t20 : Fin (k1_t20_loop v860).trips, ∀ a, (k1_off175 v860 k1_t20) a + S1x1x16.size a ≤ S2x64x128.size a) ∧
  (∀ k1_t20 : Fin (k1_t20_loop v860).trips, ∀ a, (k1_off176 v860 k1_t20) a + S1x1x16.size a ≤ S2x64x128.size a) ∧
  (∀ k1_t20 : Fin (k1_t20_loop v860).trips, ∀ a, (k1_off177 v860 k1_t20) a + S1x1x16.size a ≤ S2x64x128.size a) ∧
  (∀ k1_t20 : Fin (k1_t20_loop v860).trips, ∀ a, (k1_off178 v860 k1_t20) a + S1x1x16.size a ≤ S2x64x128.size a) ∧
  (∀ k1_t20 : Fin (k1_t20_loop v860).trips, ∀ a, (k1_off179 v860 k1_t20) a + S1x1x16.size a ≤ S2x64x128.size a) ∧
  (∀ k1_t20 : Fin (k1_t20_loop v860).trips, ∀ a, (k1_off180 v860 k1_t20) a + S1x1x16.size a ≤ S2x64x128.size a) ∧
  (∀ k1_t20 : Fin (k1_t20_loop v860).trips, ∀ a, (k1_off181 v860 k1_t20) a + S1x1x16.size a ≤ S2x64x128.size a) ∧
  (∀ k1_t20 : Fin (k1_t20_loop v860).trips, ∀ a, (k1_off182 v860 k1_t20) a + S1x1x16.size a ≤ S2x64x128.size a)
theorem k1_off147_inb : ∀ (v860 : BitVec 32) (k1_hw10 : k1_chk10 v860), ∀ a, (k1_off147 v860) a + S64x128.size a ≤ S320000x128.size a := fun v860 k1_hw10 => k1_hw10.1
theorem k1_off166_inb : ∀ (v860 : BitVec 32) (k1_hw10 : k1_chk10 v860), ∀ a, (k1_off166 v860) a + S64x128.size a ≤ S320000x128.size a := fun v860 k1_hw10 => k1_hw10.2.1
theorem k1_t19_ok : ∀ (v860 : BitVec 32) (k1_hw10 : k1_chk10 v860), (k1_t19_loop v860).OK := fun v860 k1_hw10 => k1_hw10.2.2.1
theorem k1_off167_inb : ∀ (v860 : BitVec 32) (k1_hw10 : k1_chk10 v860) (k1_t19 : Fin (k1_t19_loop v860).trips), ∀ a, (k1_off167 v860 k1_t19) a + S1x1x16.size a ≤ S2x64x128.size a := fun v860 k1_hw10 k1_t19 => k1_hw10.2.2.2.1 k1_t19
theorem k1_off168_inb : ∀ (v860 : BitVec 32) (k1_hw10 : k1_chk10 v860) (k1_t19 : Fin (k1_t19_loop v860).trips), ∀ a, (k1_off168 v860 k1_t19) a + S1x1x16.size a ≤ S2x64x128.size a := fun v860 k1_hw10 k1_t19 => k1_hw10.2.2.2.2.1 k1_t19
theorem k1_off169_inb : ∀ (v860 : BitVec 32) (k1_hw10 : k1_chk10 v860) (k1_t19 : Fin (k1_t19_loop v860).trips), ∀ a, (k1_off169 v860 k1_t19) a + S1x1x16.size a ≤ S2x64x128.size a := fun v860 k1_hw10 k1_t19 => k1_hw10.2.2.2.2.2.1 k1_t19
theorem k1_off170_inb : ∀ (v860 : BitVec 32) (k1_hw10 : k1_chk10 v860) (k1_t19 : Fin (k1_t19_loop v860).trips), ∀ a, (k1_off170 v860 k1_t19) a + S1x1x16.size a ≤ S2x64x128.size a := fun v860 k1_hw10 k1_t19 => k1_hw10.2.2.2.2.2.2.1 k1_t19
theorem k1_off171_inb : ∀ (v860 : BitVec 32) (k1_hw10 : k1_chk10 v860) (k1_t19 : Fin (k1_t19_loop v860).trips), ∀ a, (k1_off171 v860 k1_t19) a + S1x1x16.size a ≤ S2x64x128.size a := fun v860 k1_hw10 k1_t19 => k1_hw10.2.2.2.2.2.2.2.1 k1_t19
theorem k1_off172_inb : ∀ (v860 : BitVec 32) (k1_hw10 : k1_chk10 v860) (k1_t19 : Fin (k1_t19_loop v860).trips), ∀ a, (k1_off172 v860 k1_t19) a + S1x1x16.size a ≤ S2x64x128.size a := fun v860 k1_hw10 k1_t19 => k1_hw10.2.2.2.2.2.2.2.2.1 k1_t19
theorem k1_off173_inb : ∀ (v860 : BitVec 32) (k1_hw10 : k1_chk10 v860) (k1_t19 : Fin (k1_t19_loop v860).trips), ∀ a, (k1_off173 v860 k1_t19) a + S1x1x16.size a ≤ S2x64x128.size a := fun v860 k1_hw10 k1_t19 => k1_hw10.2.2.2.2.2.2.2.2.2.1 k1_t19
theorem k1_off174_inb : ∀ (v860 : BitVec 32) (k1_hw10 : k1_chk10 v860) (k1_t19 : Fin (k1_t19_loop v860).trips), ∀ a, (k1_off174 v860 k1_t19) a + S1x1x16.size a ≤ S2x64x128.size a := fun v860 k1_hw10 k1_t19 => k1_hw10.2.2.2.2.2.2.2.2.2.2.1 k1_t19
theorem k1_t20_ok : ∀ (v860 : BitVec 32) (k1_hw10 : k1_chk10 v860), (k1_t20_loop v860).OK := fun v860 k1_hw10 => k1_hw10.2.2.2.2.2.2.2.2.2.2.2.1
theorem k1_off175_inb : ∀ (v860 : BitVec 32) (k1_hw10 : k1_chk10 v860) (k1_t20 : Fin (k1_t20_loop v860).trips), ∀ a, (k1_off175 v860 k1_t20) a + S1x1x16.size a ≤ S2x64x128.size a := fun v860 k1_hw10 k1_t20 => k1_hw10.2.2.2.2.2.2.2.2.2.2.2.2.1 k1_t20
theorem k1_off176_inb : ∀ (v860 : BitVec 32) (k1_hw10 : k1_chk10 v860) (k1_t20 : Fin (k1_t20_loop v860).trips), ∀ a, (k1_off176 v860 k1_t20) a + S1x1x16.size a ≤ S2x64x128.size a := fun v860 k1_hw10 k1_t20 => k1_hw10.2.2.2.2.2.2.2.2.2.2.2.2.2.1 k1_t20
theorem k1_off177_inb : ∀ (v860 : BitVec 32) (k1_hw10 : k1_chk10 v860) (k1_t20 : Fin (k1_t20_loop v860).trips), ∀ a, (k1_off177 v860 k1_t20) a + S1x1x16.size a ≤ S2x64x128.size a := fun v860 k1_hw10 k1_t20 => k1_hw10.2.2.2.2.2.2.2.2.2.2.2.2.2.2.1 k1_t20
theorem k1_off178_inb : ∀ (v860 : BitVec 32) (k1_hw10 : k1_chk10 v860) (k1_t20 : Fin (k1_t20_loop v860).trips), ∀ a, (k1_off178 v860 k1_t20) a + S1x1x16.size a ≤ S2x64x128.size a := fun v860 k1_hw10 k1_t20 => k1_hw10.2.2.2.2.2.2.2.2.2.2.2.2.2.2.2.1 k1_t20
theorem k1_off179_inb : ∀ (v860 : BitVec 32) (k1_hw10 : k1_chk10 v860) (k1_t20 : Fin (k1_t20_loop v860).trips), ∀ a, (k1_off179 v860 k1_t20) a + S1x1x16.size a ≤ S2x64x128.size a := fun v860 k1_hw10 k1_t20 => k1_hw10.2.2.2.2.2.2.2.2.2.2.2.2.2.2.2.2.1 k1_t20
theorem k1_off180_inb : ∀ (v860 : BitVec 32) (k1_hw10 : k1_chk10 v860) (k1_t20 : Fin (k1_t20_loop v860).trips), ∀ a, (k1_off180 v860 k1_t20) a + S1x1x16.size a ≤ S2x64x128.size a := fun v860 k1_hw10 k1_t20 => k1_hw10.2.2.2.2.2.2.2.2.2.2.2.2.2.2.2.2.2.1 k1_t20
theorem k1_off181_inb : ∀ (v860 : BitVec 32) (k1_hw10 : k1_chk10 v860) (k1_t20 : Fin (k1_t20_loop v860).trips), ∀ a, (k1_off181 v860 k1_t20) a + S1x1x16.size a ≤ S2x64x128.size a := fun v860 k1_hw10 k1_t20 => k1_hw10.2.2.2.2.2.2.2.2.2.2.2.2.2.2.2.2.2.2.1 k1_t20
theorem k1_off182_inb : ∀ (v860 : BitVec 32) (k1_hw10 : k1_chk10 v860) (k1_t20 : Fin (k1_t20_loop v860).trips), ∀ a, (k1_off182 v860 k1_t20) a + S1x1x16.size a ≤ S2x64x128.size a := fun v860 k1_hw10 k1_t20 => k1_hw10.2.2.2.2.2.2.2.2.2.2.2.2.2.2.2.2.2.2.2 k1_t20

def k1_off183 (v1066 : BitVec 32) : Fin 2 → Nat :=
  let c0_i32_579 : BitVec 32 := 0#32
  let v1068 : BitVec 1 := Scalar.cmpi .sgt v1066 c0_i32_579
  let v1069 : BitVec 32 := Scalar.extui v1068
  let c0_i32_580 : BitVec 32 := 0#32
  let v1070 : BitVec 1 := Scalar.cmpi .slt v1066 c0_i32_580
  let v1071 : BitVec 32 := Scalar.extui v1070
  let v1072 : BitVec 32 := Scalar.subi v1069 v1071
  let c64_i32_578 : BitVec 32 := 64#32
  let c0_i32_581 : BitVec 32 := 0#32
  let v1073 : BitVec 1 := Scalar.cmpi .sgt c64_i32_578 c0_i32_581
  let v1074 : BitVec 32 := Scalar.extui v1073
  let c0_i32_582 : BitVec 32 := 0#32
  let v1075 : BitVec 1 := Scalar.cmpi .slt c64_i32_578 c0_i32_582
  let v1076 : BitVec 32 := Scalar.extui v1075
  let v1077 : BitVec 32 := Scalar.subi v1074 v1076
  let v1078 : BitVec 1 := Scalar.cmpi .ne v1072 v1077
  let v1079 : BitVec 32 := Scalar.remsi v1066 c64_i32_578
  let c0_i32_583 : BitVec 32 := 0#32
  let v1080 : BitVec 1 := Scalar.cmpi .ne v1079 c0_i32_583
  let v1081 : BitVec 1 := Scalar.andi v1078 v1080
  let v1067 : BitVec 32 := Scalar.divsi v1066 c64_i32_578
  let c1_i32_584 : BitVec 32 := 1#32
  let v1082 : BitVec 32 := Scalar.subi v1067 c1_i32_584
  let v1083 : BitVec 32 := Scalar.select v1081 v1082 v1067
  let c64_i32_585 : BitVec 32 := 64#32
  let v1084 : BitVec 32 := Scalar.muli v1083 c64_i32_585
  let c0_i32_590 : BitVec 32 := 0#32
  ![v1084.toNat, 0]

def k1_off184 (v963 : BitVec 32) : Fin 2 → Nat :=
  let c0_i32_595 : BitVec 32 := 0#32
  let v1094 : BitVec 1 := Scalar.cmpi .sgt v963 c0_i32_595
  let v1095 : BitVec 32 := Scalar.extui v1094
  let c0_i32_596 : BitVec 32 := 0#32
  let v1096 : BitVec 1 := Scalar.cmpi .slt v963 c0_i32_596
  let v1097 : BitVec 32 := Scalar.extui v1096
  let v1098 : BitVec 32 := Scalar.subi v1095 v1097
  let c64_i32_594 : BitVec 32 := 64#32
  let c0_i32_597 : BitVec 32 := 0#32
  let v1099 : BitVec 1 := Scalar.cmpi .sgt c64_i32_594 c0_i32_597
  let v1100 : BitVec 32 := Scalar.extui v1099
  let c0_i32_598 : BitVec 32 := 0#32
  let v1101 : BitVec 1 := Scalar.cmpi .slt c64_i32_594 c0_i32_598
  let v1102 : BitVec 32 := Scalar.extui v1101
  let v1103 : BitVec 32 := Scalar.subi v1100 v1102
  let v1104 : BitVec 1 := Scalar.cmpi .ne v1098 v1103
  let v1105 : BitVec 32 := Scalar.remsi v963 c64_i32_594
  let c0_i32_599 : BitVec 32 := 0#32
  let v1106 : BitVec 1 := Scalar.cmpi .ne v1105 c0_i32_599
  let v1107 : BitVec 1 := Scalar.andi v1104 v1106
  let v1093 : BitVec 32 := Scalar.divsi v963 c64_i32_594
  let c1_i32_600 : BitVec 32 := 1#32
  let v1108 : BitVec 32 := Scalar.subi v1093 c1_i32_600
  let v1109 : BitVec 32 := Scalar.select v1107 v1108 v1093
  let c64_i32_601 : BitVec 32 := 64#32
  let v1110 : BitVec 32 := Scalar.muli v1109 c64_i32_601
  let c0_i32_606 : BitVec 32 := 0#32
  ![v1110.toNat, 0]
@[reducible] def k1_t21_loop (v963 : BitVec 32) : Scf.Loop 32 :=
  let c0_i32_616 : BitVec 32 := 0#32
  let c64_i32_610 : BitVec 32 := 64#32
  let c0_i32_611 : BitVec 32 := 0#32
  let v1119 : BitVec 1 := Scalar.cmpi .eq c64_i32_610 c0_i32_611
  let c1_i32_612 : BitVec 32 := 1#32
  let v1120 : BitVec 32 := Scalar.select v1119 c1_i32_612 c64_i32_610
  let v1121 : BitVec 32 := Scalar.remsi v963 v1120
  let c0_i32_614 : BitVec 32 := 0#32
  let v1123 : BitVec 1 := Scalar.cmpi .slt v1121 c0_i32_614
  let c0_i32_615 : BitVec 32 := 0#32
  let v1124 : BitVec 1 := Scalar.cmpi .slt v1120 c0_i32_615
  let v1125 : BitVec 1 := Scalar.xori v1123 v1124
  let c0_i32_613 : BitVec 32 := 0#32
  let v1122 : BitVec 1 := Scalar.cmpi .ne v1121 c0_i32_613
  let v1126 : BitVec 1 := Scalar.andi v1125 v1122
  let v1127 : BitVec 32 := Scalar.addi v1121 v1120
  let v1128 : BitVec 32 := Scalar.select v1126 v1127 v1121
  let v1129 : BitVec 32 := Scalar.subi v1128 c0_i32_616
  let c1_i32_617 : BitVec 32 := 1#32
  let v1131 : BitVec 32 := Scalar.divsi v1129 c1_i32_617
  let v1132 : BitVec 32 := Scalar.muli v1131 c1_i32_617
  let v1133 : BitVec 32 := Scalar.addi c0_i32_616 v1132
  let c1_i32_618 : BitVec 32 := 1#32
  ⟨c0_i32_616, v1133, c1_i32_618⟩
def k1_off185 (v963 : BitVec 32) (k1_t21 : Fin (k1_t21_loop v963).trips) : Fin 3 → Nat :=
  let c0_i32_905 : BitVec 32 := 0#32
  let v1656 : Index := Scalar.indexCast c0_i32_905
  let c0_i32_616 : BitVec 32 := 0#32
  let c1_i32_618 : BitVec 32 := 1#32
  let arg9 : BitVec 32 := Scf.iv c0_i32_616 c1_i32_618 k1_t21
  let v1657 : Index := Scalar.indexCast arg9
  let c0_906 : Index := 0#32
  ![0, v1657.toNat, 0]
def k1_off186 (v963 : BitVec 32) (k1_t21 : Fin (k1_t21_loop v963).trips) : Fin 3 → Nat :=
  let c0_i32_907 : BitVec 32 := 0#32
  let v1661 : Index := Scalar.indexCast c0_i32_907
  let c0_i32_616 : BitVec 32 := 0#32
  let c1_i32_618 : BitVec 32 := 1#32
  let arg9 : BitVec 32 := Scf.iv c0_i32_616 c1_i32_618 k1_t21
  let v1662 : Index := Scalar.indexCast arg9
  let c16_908 : Index := 16#32
  ![0, v1662.toNat, 16]
def k1_off187 (v963 : BitVec 32) (k1_t21 : Fin (k1_t21_loop v963).trips) : Fin 3 → Nat :=
  let c0_i32_909 : BitVec 32 := 0#32
  let v1666 : Index := Scalar.indexCast c0_i32_909
  let c0_i32_616 : BitVec 32 := 0#32
  let c1_i32_618 : BitVec 32 := 1#32
  let arg9 : BitVec 32 := Scf.iv c0_i32_616 c1_i32_618 k1_t21
  let v1667 : Index := Scalar.indexCast arg9
  let c32_910 : Index := 32#32
  ![0, v1667.toNat, 32]
def k1_off188 (v963 : BitVec 32) (k1_t21 : Fin (k1_t21_loop v963).trips) : Fin 3 → Nat :=
  let c0_i32_911 : BitVec 32 := 0#32
  let v1671 : Index := Scalar.indexCast c0_i32_911
  let c0_i32_616 : BitVec 32 := 0#32
  let c1_i32_618 : BitVec 32 := 1#32
  let arg9 : BitVec 32 := Scf.iv c0_i32_616 c1_i32_618 k1_t21
  let v1672 : Index := Scalar.indexCast arg9
  let c48_912 : Index := 48#32
  ![0, v1672.toNat, 48]
def k1_off189 (v963 : BitVec 32) (k1_t21 : Fin (k1_t21_loop v963).trips) : Fin 3 → Nat :=
  let c0_i32_913 : BitVec 32 := 0#32
  let v1676 : Index := Scalar.indexCast c0_i32_913
  let c0_i32_616 : BitVec 32 := 0#32
  let c1_i32_618 : BitVec 32 := 1#32
  let arg9 : BitVec 32 := Scf.iv c0_i32_616 c1_i32_618 k1_t21
  let v1677 : Index := Scalar.indexCast arg9
  let c64_914 : Index := 64#32
  ![0, v1677.toNat, 64]
def k1_off190 (v963 : BitVec 32) (k1_t21 : Fin (k1_t21_loop v963).trips) : Fin 3 → Nat :=
  let c0_i32_915 : BitVec 32 := 0#32
  let v1681 : Index := Scalar.indexCast c0_i32_915
  let c0_i32_616 : BitVec 32 := 0#32
  let c1_i32_618 : BitVec 32 := 1#32
  let arg9 : BitVec 32 := Scf.iv c0_i32_616 c1_i32_618 k1_t21
  let v1682 : Index := Scalar.indexCast arg9
  let c80_916 : Index := 80#32
  ![0, v1682.toNat, 80]
def k1_off191 (v963 : BitVec 32) (k1_t21 : Fin (k1_t21_loop v963).trips) : Fin 3 → Nat :=
  let c0_i32_917 : BitVec 32 := 0#32
  let v1686 : Index := Scalar.indexCast c0_i32_917
  let c0_i32_616 : BitVec 32 := 0#32
  let c1_i32_618 : BitVec 32 := 1#32
  let arg9 : BitVec 32 := Scf.iv c0_i32_616 c1_i32_618 k1_t21
  let v1687 : Index := Scalar.indexCast arg9
  let c96_918 : Index := 96#32
  ![0, v1687.toNat, 96]
def k1_off192 (v963 : BitVec 32) (k1_t21 : Fin (k1_t21_loop v963).trips) : Fin 3 → Nat :=
  let c0_i32_919 : BitVec 32 := 0#32
  let v1691 : Index := Scalar.indexCast c0_i32_919
  let c0_i32_616 : BitVec 32 := 0#32
  let c1_i32_618 : BitVec 32 := 1#32
  let arg9 : BitVec 32 := Scf.iv c0_i32_616 c1_i32_618 k1_t21
  let v1692 : Index := Scalar.indexCast arg9
  let c112_920 : Index := 112#32
  ![0, v1692.toNat, 112]
@[reducible] def k1_t22_loop (v963 : BitVec 32) : Scf.Loop 32 :=
  let c0_i32_616 : BitVec 32 := 0#32
  let c64_i32_610 : BitVec 32 := 64#32
  let c0_i32_611 : BitVec 32 := 0#32
  let v1119 : BitVec 1 := Scalar.cmpi .eq c64_i32_610 c0_i32_611
  let c1_i32_612 : BitVec 32 := 1#32
  let v1120 : BitVec 32 := Scalar.select v1119 c1_i32_612 c64_i32_610
  let v1121 : BitVec 32 := Scalar.remsi v963 v1120
  let c0_i32_614 : BitVec 32 := 0#32
  let v1123 : BitVec 1 := Scalar.cmpi .slt v1121 c0_i32_614
  let c0_i32_615 : BitVec 32 := 0#32
  let v1124 : BitVec 1 := Scalar.cmpi .slt v1120 c0_i32_615
  let v1125 : BitVec 1 := Scalar.xori v1123 v1124
  let c0_i32_613 : BitVec 32 := 0#32
  let v1122 : BitVec 1 := Scalar.cmpi .ne v1121 c0_i32_613
  let v1126 : BitVec 1 := Scalar.andi v1125 v1122
  let v1127 : BitVec 32 := Scalar.addi v1121 v1120
  let v1128 : BitVec 32 := Scalar.select v1126 v1127 v1121
  let v1129 : BitVec 32 := Scalar.subi v1128 c0_i32_616
  let c1_i32_617 : BitVec 32 := 1#32
  let v1131 : BitVec 32 := Scalar.divsi v1129 c1_i32_617
  let v1132 : BitVec 32 := Scalar.muli v1131 c1_i32_617
  let v1133 : BitVec 32 := Scalar.addi c0_i32_616 v1132
  let v1130 : BitVec 32 := Scalar.addi c0_i32_616 v1129
  let c1_i32_619 : BitVec 32 := 1#32
  ⟨v1133, v1130, c1_i32_619⟩
def k1_off193 (v963 : BitVec 32) (k1_t22 : Fin (k1_t22_loop v963).trips) : Fin 3 → Nat :=
  let c0_i32_905 : BitVec 32 := 0#32
  let v1656 : Index := Scalar.indexCast c0_i32_905
  let c0_i32_616 : BitVec 32 := 0#32
  let c64_i32_610 : BitVec 32 := 64#32
  let c0_i32_611 : BitVec 32 := 0#32
  let v1119 : BitVec 1 := Scalar.cmpi .eq c64_i32_610 c0_i32_611
  let c1_i32_612 : BitVec 32 := 1#32
  let v1120 : BitVec 32 := Scalar.select v1119 c1_i32_612 c64_i32_610
  let v1121 : BitVec 32 := Scalar.remsi v963 v1120
  let c0_i32_614 : BitVec 32 := 0#32
  let v1123 : BitVec 1 := Scalar.cmpi .slt v1121 c0_i32_614
  let c0_i32_615 : BitVec 32 := 0#32
  let v1124 : BitVec 1 := Scalar.cmpi .slt v1120 c0_i32_615
  let v1125 : BitVec 1 := Scalar.xori v1123 v1124
  let c0_i32_613 : BitVec 32 := 0#32
  let v1122 : BitVec 1 := Scalar.cmpi .ne v1121 c0_i32_613
  let v1126 : BitVec 1 := Scalar.andi v1125 v1122
  let v1127 : BitVec 32 := Scalar.addi v1121 v1120
  let v1128 : BitVec 32 := Scalar.select v1126 v1127 v1121
  let v1129 : BitVec 32 := Scalar.subi v1128 c0_i32_616
  let c1_i32_617 : BitVec 32 := 1#32
  let v1131 : BitVec 32 := Scalar.divsi v1129 c1_i32_617
  let v1132 : BitVec 32 := Scalar.muli v1131 c1_i32_617
  let v1133 : BitVec 32 := Scalar.addi c0_i32_616 v1132
  let c1_i32_619 : BitVec 32 := 1#32
  let arg9 : BitVec 32 := Scf.iv v1133 c1_i32_619 k1_t22
  let v1657 : Index := Scalar.indexCast arg9
  let c0_906 : Index := 0#32
  ![0, v1657.toNat, 0]
def k1_off194 (v963 : BitVec 32) (k1_t22 : Fin (k1_t22_loop v963).trips) : Fin 3 → Nat :=
  let c0_i32_907 : BitVec 32 := 0#32
  let v1661 : Index := Scalar.indexCast c0_i32_907
  let c0_i32_616 : BitVec 32 := 0#32
  let c64_i32_610 : BitVec 32 := 64#32
  let c0_i32_611 : BitVec 32 := 0#32
  let v1119 : BitVec 1 := Scalar.cmpi .eq c64_i32_610 c0_i32_611
  let c1_i32_612 : BitVec 32 := 1#32
  let v1120 : BitVec 32 := Scalar.select v1119 c1_i32_612 c64_i32_610
  let v1121 : BitVec 32 := Scalar.remsi v963 v1120
  let c0_i32_614 : BitVec 32 := 0#32
  let v1123 : BitVec 1 := Scalar.cmpi .slt v1121 c0_i32_614
  let c0_i32_615 : BitVec 32 := 0#32
  let v1124 : BitVec 1 := Scalar.cmpi .slt v1120 c0_i32_615
  let v1125 : BitVec 1 := Scalar.xori v1123 v1124
  let c0_i32_613 : BitVec 32 := 0#32
  let v1122 : BitVec 1 := Scalar.cmpi .ne v1121 c0_i32_613
  let v1126 : BitVec 1 := Scalar.andi v1125 v1122
  let v1127 : BitVec 32 := Scalar.addi v1121 v1120
  let v1128 : BitVec 32 := Scalar.select v1126 v1127 v1121
  let v1129 : BitVec 32 := Scalar.subi v1128 c0_i32_616
  let c1_i32_617 : BitVec 32 := 1#32
  let v1131 : BitVec 32 := Scalar.divsi v1129 c1_i32_617
  let v1132 : BitVec 32 := Scalar.muli v1131 c1_i32_617
  let v1133 : BitVec 32 := Scalar.addi c0_i32_616 v1132
  let c1_i32_619 : BitVec 32 := 1#32
  let arg9 : BitVec 32 := Scf.iv v1133 c1_i32_619 k1_t22
  let v1662 : Index := Scalar.indexCast arg9
  let c16_908 : Index := 16#32
  ![0, v1662.toNat, 16]
def k1_off195 (v963 : BitVec 32) (k1_t22 : Fin (k1_t22_loop v963).trips) : Fin 3 → Nat :=
  let c0_i32_909 : BitVec 32 := 0#32
  let v1666 : Index := Scalar.indexCast c0_i32_909
  let c0_i32_616 : BitVec 32 := 0#32
  let c64_i32_610 : BitVec 32 := 64#32
  let c0_i32_611 : BitVec 32 := 0#32
  let v1119 : BitVec 1 := Scalar.cmpi .eq c64_i32_610 c0_i32_611
  let c1_i32_612 : BitVec 32 := 1#32
  let v1120 : BitVec 32 := Scalar.select v1119 c1_i32_612 c64_i32_610
  let v1121 : BitVec 32 := Scalar.remsi v963 v1120
  let c0_i32_614 : BitVec 32 := 0#32
  let v1123 : BitVec 1 := Scalar.cmpi .slt v1121 c0_i32_614
  let c0_i32_615 : BitVec 32 := 0#32
  let v1124 : BitVec 1 := Scalar.cmpi .slt v1120 c0_i32_615
  let v1125 : BitVec 1 := Scalar.xori v1123 v1124
  let c0_i32_613 : BitVec 32 := 0#32
  let v1122 : BitVec 1 := Scalar.cmpi .ne v1121 c0_i32_613
  let v1126 : BitVec 1 := Scalar.andi v1125 v1122
  let v1127 : BitVec 32 := Scalar.addi v1121 v1120
  let v1128 : BitVec 32 := Scalar.select v1126 v1127 v1121
  let v1129 : BitVec 32 := Scalar.subi v1128 c0_i32_616
  let c1_i32_617 : BitVec 32 := 1#32
  let v1131 : BitVec 32 := Scalar.divsi v1129 c1_i32_617
  let v1132 : BitVec 32 := Scalar.muli v1131 c1_i32_617
  let v1133 : BitVec 32 := Scalar.addi c0_i32_616 v1132
  let c1_i32_619 : BitVec 32 := 1#32
  let arg9 : BitVec 32 := Scf.iv v1133 c1_i32_619 k1_t22
  let v1667 : Index := Scalar.indexCast arg9
  let c32_910 : Index := 32#32
  ![0, v1667.toNat, 32]
def k1_off196 (v963 : BitVec 32) (k1_t22 : Fin (k1_t22_loop v963).trips) : Fin 3 → Nat :=
  let c0_i32_911 : BitVec 32 := 0#32
  let v1671 : Index := Scalar.indexCast c0_i32_911
  let c0_i32_616 : BitVec 32 := 0#32
  let c64_i32_610 : BitVec 32 := 64#32
  let c0_i32_611 : BitVec 32 := 0#32
  let v1119 : BitVec 1 := Scalar.cmpi .eq c64_i32_610 c0_i32_611
  let c1_i32_612 : BitVec 32 := 1#32
  let v1120 : BitVec 32 := Scalar.select v1119 c1_i32_612 c64_i32_610
  let v1121 : BitVec 32 := Scalar.remsi v963 v1120
  let c0_i32_614 : BitVec 32 := 0#32
  let v1123 : BitVec 1 := Scalar.cmpi .slt v1121 c0_i32_614
  let c0_i32_615 : BitVec 32 := 0#32
  let v1124 : BitVec 1 := Scalar.cmpi .slt v1120 c0_i32_615
  let v1125 : BitVec 1 := Scalar.xori v1123 v1124
  let c0_i32_613 : BitVec 32 := 0#32
  let v1122 : BitVec 1 := Scalar.cmpi .ne v1121 c0_i32_613
  let v1126 : BitVec 1 := Scalar.andi v1125 v1122
  let v1127 : BitVec 32 := Scalar.addi v1121 v1120
  let v1128 : BitVec 32 := Scalar.select v1126 v1127 v1121
  let v1129 : BitVec 32 := Scalar.subi v1128 c0_i32_616
  let c1_i32_617 : BitVec 32 := 1#32
  let v1131 : BitVec 32 := Scalar.divsi v1129 c1_i32_617
  let v1132 : BitVec 32 := Scalar.muli v1131 c1_i32_617
  let v1133 : BitVec 32 := Scalar.addi c0_i32_616 v1132
  let c1_i32_619 : BitVec 32 := 1#32
  let arg9 : BitVec 32 := Scf.iv v1133 c1_i32_619 k1_t22
  let v1672 : Index := Scalar.indexCast arg9
  let c48_912 : Index := 48#32
  ![0, v1672.toNat, 48]
def k1_off197 (v963 : BitVec 32) (k1_t22 : Fin (k1_t22_loop v963).trips) : Fin 3 → Nat :=
  let c0_i32_913 : BitVec 32 := 0#32
  let v1676 : Index := Scalar.indexCast c0_i32_913
  let c0_i32_616 : BitVec 32 := 0#32
  let c64_i32_610 : BitVec 32 := 64#32
  let c0_i32_611 : BitVec 32 := 0#32
  let v1119 : BitVec 1 := Scalar.cmpi .eq c64_i32_610 c0_i32_611
  let c1_i32_612 : BitVec 32 := 1#32
  let v1120 : BitVec 32 := Scalar.select v1119 c1_i32_612 c64_i32_610
  let v1121 : BitVec 32 := Scalar.remsi v963 v1120
  let c0_i32_614 : BitVec 32 := 0#32
  let v1123 : BitVec 1 := Scalar.cmpi .slt v1121 c0_i32_614
  let c0_i32_615 : BitVec 32 := 0#32
  let v1124 : BitVec 1 := Scalar.cmpi .slt v1120 c0_i32_615
  let v1125 : BitVec 1 := Scalar.xori v1123 v1124
  let c0_i32_613 : BitVec 32 := 0#32
  let v1122 : BitVec 1 := Scalar.cmpi .ne v1121 c0_i32_613
  let v1126 : BitVec 1 := Scalar.andi v1125 v1122
  let v1127 : BitVec 32 := Scalar.addi v1121 v1120
  let v1128 : BitVec 32 := Scalar.select v1126 v1127 v1121
  let v1129 : BitVec 32 := Scalar.subi v1128 c0_i32_616
  let c1_i32_617 : BitVec 32 := 1#32
  let v1131 : BitVec 32 := Scalar.divsi v1129 c1_i32_617
  let v1132 : BitVec 32 := Scalar.muli v1131 c1_i32_617
  let v1133 : BitVec 32 := Scalar.addi c0_i32_616 v1132
  let c1_i32_619 : BitVec 32 := 1#32
  let arg9 : BitVec 32 := Scf.iv v1133 c1_i32_619 k1_t22
  let v1677 : Index := Scalar.indexCast arg9
  let c64_914 : Index := 64#32
  ![0, v1677.toNat, 64]
def k1_off198 (v963 : BitVec 32) (k1_t22 : Fin (k1_t22_loop v963).trips) : Fin 3 → Nat :=
  let c0_i32_915 : BitVec 32 := 0#32
  let v1681 : Index := Scalar.indexCast c0_i32_915
  let c0_i32_616 : BitVec 32 := 0#32
  let c64_i32_610 : BitVec 32 := 64#32
  let c0_i32_611 : BitVec 32 := 0#32
  let v1119 : BitVec 1 := Scalar.cmpi .eq c64_i32_610 c0_i32_611
  let c1_i32_612 : BitVec 32 := 1#32
  let v1120 : BitVec 32 := Scalar.select v1119 c1_i32_612 c64_i32_610
  let v1121 : BitVec 32 := Scalar.remsi v963 v1120
  let c0_i32_614 : BitVec 32 := 0#32
  let v1123 : BitVec 1 := Scalar.cmpi .slt v1121 c0_i32_614
  let c0_i32_615 : BitVec 32 := 0#32
  let v1124 : BitVec 1 := Scalar.cmpi .slt v1120 c0_i32_615
  let v1125 : BitVec 1 := Scalar.xori v1123 v1124
  let c0_i32_613 : BitVec 32 := 0#32
  let v1122 : BitVec 1 := Scalar.cmpi .ne v1121 c0_i32_613
  let v1126 : BitVec 1 := Scalar.andi v1125 v1122
  let v1127 : BitVec 32 := Scalar.addi v1121 v1120
  let v1128 : BitVec 32 := Scalar.select v1126 v1127 v1121
  let v1129 : BitVec 32 := Scalar.subi v1128 c0_i32_616
  let c1_i32_617 : BitVec 32 := 1#32
  let v1131 : BitVec 32 := Scalar.divsi v1129 c1_i32_617
  let v1132 : BitVec 32 := Scalar.muli v1131 c1_i32_617
  let v1133 : BitVec 32 := Scalar.addi c0_i32_616 v1132
  let c1_i32_619 : BitVec 32 := 1#32
  let arg9 : BitVec 32 := Scf.iv v1133 c1_i32_619 k1_t22
  let v1682 : Index := Scalar.indexCast arg9
  let c80_916 : Index := 80#32
  ![0, v1682.toNat, 80]
def k1_off199 (v963 : BitVec 32) (k1_t22 : Fin (k1_t22_loop v963).trips) : Fin 3 → Nat :=
  let c0_i32_917 : BitVec 32 := 0#32
  let v1686 : Index := Scalar.indexCast c0_i32_917
  let c0_i32_616 : BitVec 32 := 0#32
  let c64_i32_610 : BitVec 32 := 64#32
  let c0_i32_611 : BitVec 32 := 0#32
  let v1119 : BitVec 1 := Scalar.cmpi .eq c64_i32_610 c0_i32_611
  let c1_i32_612 : BitVec 32 := 1#32
  let v1120 : BitVec 32 := Scalar.select v1119 c1_i32_612 c64_i32_610
  let v1121 : BitVec 32 := Scalar.remsi v963 v1120
  let c0_i32_614 : BitVec 32 := 0#32
  let v1123 : BitVec 1 := Scalar.cmpi .slt v1121 c0_i32_614
  let c0_i32_615 : BitVec 32 := 0#32
  let v1124 : BitVec 1 := Scalar.cmpi .slt v1120 c0_i32_615
  let v1125 : BitVec 1 := Scalar.xori v1123 v1124
  let c0_i32_613 : BitVec 32 := 0#32
  let v1122 : BitVec 1 := Scalar.cmpi .ne v1121 c0_i32_613
  let v1126 : BitVec 1 := Scalar.andi v1125 v1122
  let v1127 : BitVec 32 := Scalar.addi v1121 v1120
  let v1128 : BitVec 32 := Scalar.select v1126 v1127 v1121
  let v1129 : BitVec 32 := Scalar.subi v1128 c0_i32_616
  let c1_i32_617 : BitVec 32 := 1#32
  let v1131 : BitVec 32 := Scalar.divsi v1129 c1_i32_617
  let v1132 : BitVec 32 := Scalar.muli v1131 c1_i32_617
  let v1133 : BitVec 32 := Scalar.addi c0_i32_616 v1132
  let c1_i32_619 : BitVec 32 := 1#32
  let arg9 : BitVec 32 := Scf.iv v1133 c1_i32_619 k1_t22
  let v1687 : Index := Scalar.indexCast arg9
  let c96_918 : Index := 96#32
  ![0, v1687.toNat, 96]
def k1_off200 (v963 : BitVec 32) (k1_t22 : Fin (k1_t22_loop v963).trips) : Fin 3 → Nat :=
  let c0_i32_919 : BitVec 32 := 0#32
  let v1691 : Index := Scalar.indexCast c0_i32_919
  let c0_i32_616 : BitVec 32 := 0#32
  let c64_i32_610 : BitVec 32 := 64#32
  let c0_i32_611 : BitVec 32 := 0#32
  let v1119 : BitVec 1 := Scalar.cmpi .eq c64_i32_610 c0_i32_611
  let c1_i32_612 : BitVec 32 := 1#32
  let v1120 : BitVec 32 := Scalar.select v1119 c1_i32_612 c64_i32_610
  let v1121 : BitVec 32 := Scalar.remsi v963 v1120
  let c0_i32_614 : BitVec 32 := 0#32
  let v1123 : BitVec 1 := Scalar.cmpi .slt v1121 c0_i32_614
  let c0_i32_615 : BitVec 32 := 0#32
  let v1124 : BitVec 1 := Scalar.cmpi .slt v1120 c0_i32_615
  let v1125 : BitVec 1 := Scalar.xori v1123 v1124
  let c0_i32_613 : BitVec 32 := 0#32
  let v1122 : BitVec 1 := Scalar.cmpi .ne v1121 c0_i32_613
  let v1126 : BitVec 1 := Scalar.andi v1125 v1122
  let v1127 : BitVec 32 := Scalar.addi v1121 v1120
  let v1128 : BitVec 32 := Scalar.select v1126 v1127 v1121
  let v1129 : BitVec 32 := Scalar.subi v1128 c0_i32_616
  let c1_i32_617 : BitVec 32 := 1#32
  let v1131 : BitVec 32 := Scalar.divsi v1129 c1_i32_617
  let v1132 : BitVec 32 := Scalar.muli v1131 c1_i32_617
  let v1133 : BitVec 32 := Scalar.addi c0_i32_616 v1132
  let c1_i32_619 : BitVec 32 := 1#32
  let arg9 : BitVec 32 := Scf.iv v1133 c1_i32_619 k1_t22
  let v1692 : Index := Scalar.indexCast arg9
  let c112_920 : Index := 112#32
  ![0, v1692.toNat, 112]

def k1_chk11 (v963 : BitVec 32) : Prop :=
  (∀ a, (k1_off165 v963) a + S64x128.size a ≤ S320000x128.size a) ∧
  (∀ a, (k1_off184 v963) a + S64x128.size a ≤ S320000x128.size a) ∧
  ((k1_t21_loop v963).OK) ∧
  (∀ k1_t21 : Fin (k1_t21_loop v963).trips, ∀ a, (k1_off185 v963 k1_t21) a + S1x1x16.size a ≤ S2x64x128.size a) ∧
  (∀ k1_t21 : Fin (k1_t21_loop v963).trips, ∀ a, (k1_off186 v963 k1_t21) a + S1x1x16.size a ≤ S2x64x128.size a) ∧
  (∀ k1_t21 : Fin (k1_t21_loop v963).trips, ∀ a, (k1_off187 v963 k1_t21) a + S1x1x16.size a ≤ S2x64x128.size a) ∧
  (∀ k1_t21 : Fin (k1_t21_loop v963).trips, ∀ a, (k1_off188 v963 k1_t21) a + S1x1x16.size a ≤ S2x64x128.size a) ∧
  (∀ k1_t21 : Fin (k1_t21_loop v963).trips, ∀ a, (k1_off189 v963 k1_t21) a + S1x1x16.size a ≤ S2x64x128.size a) ∧
  (∀ k1_t21 : Fin (k1_t21_loop v963).trips, ∀ a, (k1_off190 v963 k1_t21) a + S1x1x16.size a ≤ S2x64x128.size a) ∧
  (∀ k1_t21 : Fin (k1_t21_loop v963).trips, ∀ a, (k1_off191 v963 k1_t21) a + S1x1x16.size a ≤ S2x64x128.size a) ∧
  (∀ k1_t21 : Fin (k1_t21_loop v963).trips, ∀ a, (k1_off192 v963 k1_t21) a + S1x1x16.size a ≤ S2x64x128.size a) ∧
  ((k1_t22_loop v963).OK) ∧
  (∀ k1_t22 : Fin (k1_t22_loop v963).trips, ∀ a, (k1_off193 v963 k1_t22) a + S1x1x16.size a ≤ S2x64x128.size a) ∧
  (∀ k1_t22 : Fin (k1_t22_loop v963).trips, ∀ a, (k1_off194 v963 k1_t22) a + S1x1x16.size a ≤ S2x64x128.size a) ∧
  (∀ k1_t22 : Fin (k1_t22_loop v963).trips, ∀ a, (k1_off195 v963 k1_t22) a + S1x1x16.size a ≤ S2x64x128.size a) ∧
  (∀ k1_t22 : Fin (k1_t22_loop v963).trips, ∀ a, (k1_off196 v963 k1_t22) a + S1x1x16.size a ≤ S2x64x128.size a) ∧
  (∀ k1_t22 : Fin (k1_t22_loop v963).trips, ∀ a, (k1_off197 v963 k1_t22) a + S1x1x16.size a ≤ S2x64x128.size a) ∧
  (∀ k1_t22 : Fin (k1_t22_loop v963).trips, ∀ a, (k1_off198 v963 k1_t22) a + S1x1x16.size a ≤ S2x64x128.size a) ∧
  (∀ k1_t22 : Fin (k1_t22_loop v963).trips, ∀ a, (k1_off199 v963 k1_t22) a + S1x1x16.size a ≤ S2x64x128.size a) ∧
  (∀ k1_t22 : Fin (k1_t22_loop v963).trips, ∀ a, (k1_off200 v963 k1_t22) a + S1x1x16.size a ≤ S2x64x128.size a)
theorem k1_off165_inb : ∀ (v963 : BitVec 32) (k1_hw11 : k1_chk11 v963), ∀ a, (k1_off165 v963) a + S64x128.size a ≤ S320000x128.size a := fun v963 k1_hw11 => k1_hw11.1
theorem k1_off184_inb : ∀ (v963 : BitVec 32) (k1_hw11 : k1_chk11 v963), ∀ a, (k1_off184 v963) a + S64x128.size a ≤ S320000x128.size a := fun v963 k1_hw11 => k1_hw11.2.1
theorem k1_t21_ok : ∀ (v963 : BitVec 32) (k1_hw11 : k1_chk11 v963), (k1_t21_loop v963).OK := fun v963 k1_hw11 => k1_hw11.2.2.1
theorem k1_off185_inb : ∀ (v963 : BitVec 32) (k1_hw11 : k1_chk11 v963) (k1_t21 : Fin (k1_t21_loop v963).trips), ∀ a, (k1_off185 v963 k1_t21) a + S1x1x16.size a ≤ S2x64x128.size a := fun v963 k1_hw11 k1_t21 => k1_hw11.2.2.2.1 k1_t21
theorem k1_off186_inb : ∀ (v963 : BitVec 32) (k1_hw11 : k1_chk11 v963) (k1_t21 : Fin (k1_t21_loop v963).trips), ∀ a, (k1_off186 v963 k1_t21) a + S1x1x16.size a ≤ S2x64x128.size a := fun v963 k1_hw11 k1_t21 => k1_hw11.2.2.2.2.1 k1_t21
theorem k1_off187_inb : ∀ (v963 : BitVec 32) (k1_hw11 : k1_chk11 v963) (k1_t21 : Fin (k1_t21_loop v963).trips), ∀ a, (k1_off187 v963 k1_t21) a + S1x1x16.size a ≤ S2x64x128.size a := fun v963 k1_hw11 k1_t21 => k1_hw11.2.2.2.2.2.1 k1_t21
theorem k1_off188_inb : ∀ (v963 : BitVec 32) (k1_hw11 : k1_chk11 v963) (k1_t21 : Fin (k1_t21_loop v963).trips), ∀ a, (k1_off188 v963 k1_t21) a + S1x1x16.size a ≤ S2x64x128.size a := fun v963 k1_hw11 k1_t21 => k1_hw11.2.2.2.2.2.2.1 k1_t21
theorem k1_off189_inb : ∀ (v963 : BitVec 32) (k1_hw11 : k1_chk11 v963) (k1_t21 : Fin (k1_t21_loop v963).trips), ∀ a, (k1_off189 v963 k1_t21) a + S1x1x16.size a ≤ S2x64x128.size a := fun v963 k1_hw11 k1_t21 => k1_hw11.2.2.2.2.2.2.2.1 k1_t21
theorem k1_off190_inb : ∀ (v963 : BitVec 32) (k1_hw11 : k1_chk11 v963) (k1_t21 : Fin (k1_t21_loop v963).trips), ∀ a, (k1_off190 v963 k1_t21) a + S1x1x16.size a ≤ S2x64x128.size a := fun v963 k1_hw11 k1_t21 => k1_hw11.2.2.2.2.2.2.2.2.1 k1_t21
theorem k1_off191_inb : ∀ (v963 : BitVec 32) (k1_hw11 : k1_chk11 v963) (k1_t21 : Fin (k1_t21_loop v963).trips), ∀ a, (k1_off191 v963 k1_t21) a + S1x1x16.size a ≤ S2x64x128.size a := fun v963 k1_hw11 k1_t21 => k1_hw11.2.2.2.2.2.2.2.2.2.1 k1_t21
theorem k1_off192_inb : ∀ (v963 : BitVec 32) (k1_hw11 : k1_chk11 v963) (k1_t21 : Fin (k1_t21_loop v963).trips), ∀ a, (k1_off192 v963 k1_t21) a + S1x1x16.size a ≤ S2x64x128.size a := fun v963 k1_hw11 k1_t21 => k1_hw11.2.2.2.2.2.2.2.2.2.2.1 k1_t21
theorem k1_t22_ok : ∀ (v963 : BitVec 32) (k1_hw11 : k1_chk11 v963), (k1_t22_loop v963).OK := fun v963 k1_hw11 => k1_hw11.2.2.2.2.2.2.2.2.2.2.2.1
theorem k1_off193_inb : ∀ (v963 : BitVec 32) (k1_hw11 : k1_chk11 v963) (k1_t22 : Fin (k1_t22_loop v963).trips), ∀ a, (k1_off193 v963 k1_t22) a + S1x1x16.size a ≤ S2x64x128.size a := fun v963 k1_hw11 k1_t22 => k1_hw11.2.2.2.2.2.2.2.2.2.2.2.2.1 k1_t22
theorem k1_off194_inb : ∀ (v963 : BitVec 32) (k1_hw11 : k1_chk11 v963) (k1_t22 : Fin (k1_t22_loop v963).trips), ∀ a, (k1_off194 v963 k1_t22) a + S1x1x16.size a ≤ S2x64x128.size a := fun v963 k1_hw11 k1_t22 => k1_hw11.2.2.2.2.2.2.2.2.2.2.2.2.2.1 k1_t22
theorem k1_off195_inb : ∀ (v963 : BitVec 32) (k1_hw11 : k1_chk11 v963) (k1_t22 : Fin (k1_t22_loop v963).trips), ∀ a, (k1_off195 v963 k1_t22) a + S1x1x16.size a ≤ S2x64x128.size a := fun v963 k1_hw11 k1_t22 => k1_hw11.2.2.2.2.2.2.2.2.2.2.2.2.2.2.1 k1_t22
theorem k1_off196_inb : ∀ (v963 : BitVec 32) (k1_hw11 : k1_chk11 v963) (k1_t22 : Fin (k1_t22_loop v963).trips), ∀ a, (k1_off196 v963 k1_t22) a + S1x1x16.size a ≤ S2x64x128.size a := fun v963 k1_hw11 k1_t22 => k1_hw11.2.2.2.2.2.2.2.2.2.2.2.2.2.2.2.1 k1_t22
theorem k1_off197_inb : ∀ (v963 : BitVec 32) (k1_hw11 : k1_chk11 v963) (k1_t22 : Fin (k1_t22_loop v963).trips), ∀ a, (k1_off197 v963 k1_t22) a + S1x1x16.size a ≤ S2x64x128.size a := fun v963 k1_hw11 k1_t22 => k1_hw11.2.2.2.2.2.2.2.2.2.2.2.2.2.2.2.2.1 k1_t22
theorem k1_off198_inb : ∀ (v963 : BitVec 32) (k1_hw11 : k1_chk11 v963) (k1_t22 : Fin (k1_t22_loop v963).trips), ∀ a, (k1_off198 v963 k1_t22) a + S1x1x16.size a ≤ S2x64x128.size a := fun v963 k1_hw11 k1_t22 => k1_hw11.2.2.2.2.2.2.2.2.2.2.2.2.2.2.2.2.2.1 k1_t22
theorem k1_off199_inb : ∀ (v963 : BitVec 32) (k1_hw11 : k1_chk11 v963) (k1_t22 : Fin (k1_t22_loop v963).trips), ∀ a, (k1_off199 v963 k1_t22) a + S1x1x16.size a ≤ S2x64x128.size a := fun v963 k1_hw11 k1_t22 => k1_hw11.2.2.2.2.2.2.2.2.2.2.2.2.2.2.2.2.2.2.1 k1_t22
theorem k1_off200_inb : ∀ (v963 : BitVec 32) (k1_hw11 : k1_chk11 v963) (k1_t22 : Fin (k1_t22_loop v963).trips), ∀ a, (k1_off200 v963 k1_t22) a + S1x1x16.size a ≤ S2x64x128.size a := fun v963 k1_hw11 k1_t22 => k1_hw11.2.2.2.2.2.2.2.2.2.2.2.2.2.2.2.2.2.2.2 k1_t22

def k1_off201 (v1169 : BitVec 32) : Fin 2 → Nat :=
  let c0_i32_636 : BitVec 32 := 0#32
  let v1171 : BitVec 1 := Scalar.cmpi .sgt v1169 c0_i32_636
  let v1172 : BitVec 32 := Scalar.extui v1171
  let c0_i32_637 : BitVec 32 := 0#32
  let v1173 : BitVec 1 := Scalar.cmpi .slt v1169 c0_i32_637
  let v1174 : BitVec 32 := Scalar.extui v1173
  let v1175 : BitVec 32 := Scalar.subi v1172 v1174
  let c64_i32_635 : BitVec 32 := 64#32
  let c0_i32_638 : BitVec 32 := 0#32
  let v1176 : BitVec 1 := Scalar.cmpi .sgt c64_i32_635 c0_i32_638
  let v1177 : BitVec 32 := Scalar.extui v1176
  let c0_i32_639 : BitVec 32 := 0#32
  let v1178 : BitVec 1 := Scalar.cmpi .slt c64_i32_635 c0_i32_639
  let v1179 : BitVec 32 := Scalar.extui v1178
  let v1180 : BitVec 32 := Scalar.subi v1177 v1179
  let v1181 : BitVec 1 := Scalar.cmpi .ne v1175 v1180
  let v1182 : BitVec 32 := Scalar.remsi v1169 c64_i32_635
  let c0_i32_640 : BitVec 32 := 0#32
  let v1183 : BitVec 1 := Scalar.cmpi .ne v1182 c0_i32_640
  let v1184 : BitVec 1 := Scalar.andi v1181 v1183
  let v1170 : BitVec 32 := Scalar.divsi v1169 c64_i32_635
  let c1_i32_641 : BitVec 32 := 1#32
  let v1185 : BitVec 32 := Scalar.subi v1170 c1_i32_641
  let v1186 : BitVec 32 := Scalar.select v1184 v1185 v1170
  let c64_i32_642 : BitVec 32 := 64#32
  let v1187 : BitVec 32 := Scalar.muli v1186 c64_i32_642
  let c0_i32_647 : BitVec 32 := 0#32
  ![v1187.toNat, 0]

def k1_off202 (v1066 : BitVec 32) : Fin 2 → Nat :=
  let c0_i32_652 : BitVec 32 := 0#32
  let v1197 : BitVec 1 := Scalar.cmpi .sgt v1066 c0_i32_652
  let v1198 : BitVec 32 := Scalar.extui v1197
  let c0_i32_653 : BitVec 32 := 0#32
  let v1199 : BitVec 1 := Scalar.cmpi .slt v1066 c0_i32_653
  let v1200 : BitVec 32 := Scalar.extui v1199
  let v1201 : BitVec 32 := Scalar.subi v1198 v1200
  let c64_i32_651 : BitVec 32 := 64#32
  let c0_i32_654 : BitVec 32 := 0#32
  let v1202 : BitVec 1 := Scalar.cmpi .sgt c64_i32_651 c0_i32_654
  let v1203 : BitVec 32 := Scalar.extui v1202
  let c0_i32_655 : BitVec 32 := 0#32
  let v1204 : BitVec 1 := Scalar.cmpi .slt c64_i32_651 c0_i32_655
  let v1205 : BitVec 32 := Scalar.extui v1204
  let v1206 : BitVec 32 := Scalar.subi v1203 v1205
  let v1207 : BitVec 1 := Scalar.cmpi .ne v1201 v1206
  let v1208 : BitVec 32 := Scalar.remsi v1066 c64_i32_651
  let c0_i32_656 : BitVec 32 := 0#32
  let v1209 : BitVec 1 := Scalar.cmpi .ne v1208 c0_i32_656
  let v1210 : BitVec 1 := Scalar.andi v1207 v1209
  let v1196 : BitVec 32 := Scalar.divsi v1066 c64_i32_651
  let c1_i32_657 : BitVec 32 := 1#32
  let v1211 : BitVec 32 := Scalar.subi v1196 c1_i32_657
  let v1212 : BitVec 32 := Scalar.select v1210 v1211 v1196
  let c64_i32_658 : BitVec 32 := 64#32
  let v1213 : BitVec 32 := Scalar.muli v1212 c64_i32_658
  let c0_i32_663 : BitVec 32 := 0#32
  ![v1213.toNat, 0]
@[reducible] def k1_t23_loop (v1066 : BitVec 32) : Scf.Loop 32 :=
  let c0_i32_673 : BitVec 32 := 0#32
  let c64_i32_667 : BitVec 32 := 64#32
  let c0_i32_668 : BitVec 32 := 0#32
  let v1222 : BitVec 1 := Scalar.cmpi .eq c64_i32_667 c0_i32_668
  let c1_i32_669 : BitVec 32 := 1#32
  let v1223 : BitVec 32 := Scalar.select v1222 c1_i32_669 c64_i32_667
  let v1224 : BitVec 32 := Scalar.remsi v1066 v1223
  let c0_i32_671 : BitVec 32 := 0#32
  let v1226 : BitVec 1 := Scalar.cmpi .slt v1224 c0_i32_671
  let c0_i32_672 : BitVec 32 := 0#32
  let v1227 : BitVec 1 := Scalar.cmpi .slt v1223 c0_i32_672
  let v1228 : BitVec 1 := Scalar.xori v1226 v1227
  let c0_i32_670 : BitVec 32 := 0#32
  let v1225 : BitVec 1 := Scalar.cmpi .ne v1224 c0_i32_670
  let v1229 : BitVec 1 := Scalar.andi v1228 v1225
  let v1230 : BitVec 32 := Scalar.addi v1224 v1223
  let v1231 : BitVec 32 := Scalar.select v1229 v1230 v1224
  let v1232 : BitVec 32 := Scalar.subi v1231 c0_i32_673
  let c1_i32_674 : BitVec 32 := 1#32
  let v1234 : BitVec 32 := Scalar.divsi v1232 c1_i32_674
  let v1235 : BitVec 32 := Scalar.muli v1234 c1_i32_674
  let v1236 : BitVec 32 := Scalar.addi c0_i32_673 v1235
  let c1_i32_675 : BitVec 32 := 1#32
  ⟨c0_i32_673, v1236, c1_i32_675⟩
def k1_off203 (v1066 : BitVec 32) (k1_t23 : Fin (k1_t23_loop v1066).trips) : Fin 3 → Nat :=
  let c1_i32_905 : BitVec 32 := 1#32
  let v1656 : Index := Scalar.indexCast c1_i32_905
  let c0_i32_673 : BitVec 32 := 0#32
  let c1_i32_675 : BitVec 32 := 1#32
  let arg9 : BitVec 32 := Scf.iv c0_i32_673 c1_i32_675 k1_t23
  let v1657 : Index := Scalar.indexCast arg9
  let c0_906 : Index := 0#32
  ![1, v1657.toNat, 0]
def k1_off204 (v1066 : BitVec 32) (k1_t23 : Fin (k1_t23_loop v1066).trips) : Fin 3 → Nat :=
  let c1_i32_907 : BitVec 32 := 1#32
  let v1661 : Index := Scalar.indexCast c1_i32_907
  let c0_i32_673 : BitVec 32 := 0#32
  let c1_i32_675 : BitVec 32 := 1#32
  let arg9 : BitVec 32 := Scf.iv c0_i32_673 c1_i32_675 k1_t23
  let v1662 : Index := Scalar.indexCast arg9
  let c16_908 : Index := 16#32
  ![1, v1662.toNat, 16]
def k1_off205 (v1066 : BitVec 32) (k1_t23 : Fin (k1_t23_loop v1066).trips) : Fin 3 → Nat :=
  let c1_i32_909 : BitVec 32 := 1#32
  let v1666 : Index := Scalar.indexCast c1_i32_909
  let c0_i32_673 : BitVec 32 := 0#32
  let c1_i32_675 : BitVec 32 := 1#32
  let arg9 : BitVec 32 := Scf.iv c0_i32_673 c1_i32_675 k1_t23
  let v1667 : Index := Scalar.indexCast arg9
  let c32_910 : Index := 32#32
  ![1, v1667.toNat, 32]
def k1_off206 (v1066 : BitVec 32) (k1_t23 : Fin (k1_t23_loop v1066).trips) : Fin 3 → Nat :=
  let c1_i32_911 : BitVec 32 := 1#32
  let v1671 : Index := Scalar.indexCast c1_i32_911
  let c0_i32_673 : BitVec 32 := 0#32
  let c1_i32_675 : BitVec 32 := 1#32
  let arg9 : BitVec 32 := Scf.iv c0_i32_673 c1_i32_675 k1_t23
  let v1672 : Index := Scalar.indexCast arg9
  let c48_912 : Index := 48#32
  ![1, v1672.toNat, 48]
def k1_off207 (v1066 : BitVec 32) (k1_t23 : Fin (k1_t23_loop v1066).trips) : Fin 3 → Nat :=
  let c1_i32_913 : BitVec 32 := 1#32
  let v1676 : Index := Scalar.indexCast c1_i32_913
  let c0_i32_673 : BitVec 32 := 0#32
  let c1_i32_675 : BitVec 32 := 1#32
  let arg9 : BitVec 32 := Scf.iv c0_i32_673 c1_i32_675 k1_t23
  let v1677 : Index := Scalar.indexCast arg9
  let c64_914 : Index := 64#32
  ![1, v1677.toNat, 64]
def k1_off208 (v1066 : BitVec 32) (k1_t23 : Fin (k1_t23_loop v1066).trips) : Fin 3 → Nat :=
  let c1_i32_915 : BitVec 32 := 1#32
  let v1681 : Index := Scalar.indexCast c1_i32_915
  let c0_i32_673 : BitVec 32 := 0#32
  let c1_i32_675 : BitVec 32 := 1#32
  let arg9 : BitVec 32 := Scf.iv c0_i32_673 c1_i32_675 k1_t23
  let v1682 : Index := Scalar.indexCast arg9
  let c80_916 : Index := 80#32
  ![1, v1682.toNat, 80]
def k1_off209 (v1066 : BitVec 32) (k1_t23 : Fin (k1_t23_loop v1066).trips) : Fin 3 → Nat :=
  let c1_i32_917 : BitVec 32 := 1#32
  let v1686 : Index := Scalar.indexCast c1_i32_917
  let c0_i32_673 : BitVec 32 := 0#32
  let c1_i32_675 : BitVec 32 := 1#32
  let arg9 : BitVec 32 := Scf.iv c0_i32_673 c1_i32_675 k1_t23
  let v1687 : Index := Scalar.indexCast arg9
  let c96_918 : Index := 96#32
  ![1, v1687.toNat, 96]
def k1_off210 (v1066 : BitVec 32) (k1_t23 : Fin (k1_t23_loop v1066).trips) : Fin 3 → Nat :=
  let c1_i32_919 : BitVec 32 := 1#32
  let v1691 : Index := Scalar.indexCast c1_i32_919
  let c0_i32_673 : BitVec 32 := 0#32
  let c1_i32_675 : BitVec 32 := 1#32
  let arg9 : BitVec 32 := Scf.iv c0_i32_673 c1_i32_675 k1_t23
  let v1692 : Index := Scalar.indexCast arg9
  let c112_920 : Index := 112#32
  ![1, v1692.toNat, 112]
@[reducible] def k1_t24_loop (v1066 : BitVec 32) : Scf.Loop 32 :=
  let c0_i32_673 : BitVec 32 := 0#32
  let c64_i32_667 : BitVec 32 := 64#32
  let c0_i32_668 : BitVec 32 := 0#32
  let v1222 : BitVec 1 := Scalar.cmpi .eq c64_i32_667 c0_i32_668
  let c1_i32_669 : BitVec 32 := 1#32
  let v1223 : BitVec 32 := Scalar.select v1222 c1_i32_669 c64_i32_667
  let v1224 : BitVec 32 := Scalar.remsi v1066 v1223
  let c0_i32_671 : BitVec 32 := 0#32
  let v1226 : BitVec 1 := Scalar.cmpi .slt v1224 c0_i32_671
  let c0_i32_672 : BitVec 32 := 0#32
  let v1227 : BitVec 1 := Scalar.cmpi .slt v1223 c0_i32_672
  let v1228 : BitVec 1 := Scalar.xori v1226 v1227
  let c0_i32_670 : BitVec 32 := 0#32
  let v1225 : BitVec 1 := Scalar.cmpi .ne v1224 c0_i32_670
  let v1229 : BitVec 1 := Scalar.andi v1228 v1225
  let v1230 : BitVec 32 := Scalar.addi v1224 v1223
  let v1231 : BitVec 32 := Scalar.select v1229 v1230 v1224
  let v1232 : BitVec 32 := Scalar.subi v1231 c0_i32_673
  let c1_i32_674 : BitVec 32 := 1#32
  let v1234 : BitVec 32 := Scalar.divsi v1232 c1_i32_674
  let v1235 : BitVec 32 := Scalar.muli v1234 c1_i32_674
  let v1236 : BitVec 32 := Scalar.addi c0_i32_673 v1235
  let v1233 : BitVec 32 := Scalar.addi c0_i32_673 v1232
  let c1_i32_676 : BitVec 32 := 1#32
  ⟨v1236, v1233, c1_i32_676⟩
def k1_off211 (v1066 : BitVec 32) (k1_t24 : Fin (k1_t24_loop v1066).trips) : Fin 3 → Nat :=
  let c1_i32_905 : BitVec 32 := 1#32
  let v1656 : Index := Scalar.indexCast c1_i32_905
  let c0_i32_673 : BitVec 32 := 0#32
  let c64_i32_667 : BitVec 32 := 64#32
  let c0_i32_668 : BitVec 32 := 0#32
  let v1222 : BitVec 1 := Scalar.cmpi .eq c64_i32_667 c0_i32_668
  let c1_i32_669 : BitVec 32 := 1#32
  let v1223 : BitVec 32 := Scalar.select v1222 c1_i32_669 c64_i32_667
  let v1224 : BitVec 32 := Scalar.remsi v1066 v1223
  let c0_i32_671 : BitVec 32 := 0#32
  let v1226 : BitVec 1 := Scalar.cmpi .slt v1224 c0_i32_671
  let c0_i32_672 : BitVec 32 := 0#32
  let v1227 : BitVec 1 := Scalar.cmpi .slt v1223 c0_i32_672
  let v1228 : BitVec 1 := Scalar.xori v1226 v1227
  let c0_i32_670 : BitVec 32 := 0#32
  let v1225 : BitVec 1 := Scalar.cmpi .ne v1224 c0_i32_670
  let v1229 : BitVec 1 := Scalar.andi v1228 v1225
  let v1230 : BitVec 32 := Scalar.addi v1224 v1223
  let v1231 : BitVec 32 := Scalar.select v1229 v1230 v1224
  let v1232 : BitVec 32 := Scalar.subi v1231 c0_i32_673
  let c1_i32_674 : BitVec 32 := 1#32
  let v1234 : BitVec 32 := Scalar.divsi v1232 c1_i32_674
  let v1235 : BitVec 32 := Scalar.muli v1234 c1_i32_674
  let v1236 : BitVec 32 := Scalar.addi c0_i32_673 v1235
  let c1_i32_676 : BitVec 32 := 1#32
  let arg9 : BitVec 32 := Scf.iv v1236 c1_i32_676 k1_t24
  let v1657 : Index := Scalar.indexCast arg9
  let c0_906 : Index := 0#32
  ![1, v1657.toNat, 0]
def k1_off212 (v1066 : BitVec 32) (k1_t24 : Fin (k1_t24_loop v1066).trips) : Fin 3 → Nat :=
  let c1_i32_907 : BitVec 32 := 1#32
  let v1661 : Index := Scalar.indexCast c1_i32_907
  let c0_i32_673 : BitVec 32 := 0#32
  let c64_i32_667 : BitVec 32 := 64#32
  let c0_i32_668 : BitVec 32 := 0#32
  let v1222 : BitVec 1 := Scalar.cmpi .eq c64_i32_667 c0_i32_668
  let c1_i32_669 : BitVec 32 := 1#32
  let v1223 : BitVec 32 := Scalar.select v1222 c1_i32_669 c64_i32_667
  let v1224 : BitVec 32 := Scalar.remsi v1066 v1223
  let c0_i32_671 : BitVec 32 := 0#32
  let v1226 : BitVec 1 := Scalar.cmpi .slt v1224 c0_i32_671
  let c0_i32_672 : BitVec 32 := 0#32
  let v1227 : BitVec 1 := Scalar.cmpi .slt v1223 c0_i32_672
  let v1228 : BitVec 1 := Scalar.xori v1226 v1227
  let c0_i32_670 : BitVec 32 := 0#32
  let v1225 : BitVec 1 := Scalar.cmpi .ne v1224 c0_i32_670
  let v1229 : BitVec 1 := Scalar.andi v1228 v1225
  let v1230 : BitVec 32 := Scalar.addi v1224 v1223
  let v1231 : BitVec 32 := Scalar.select v1229 v1230 v1224
  let v1232 : BitVec 32 := Scalar.subi v1231 c0_i32_673
  let c1_i32_674 : BitVec 32 := 1#32
  let v1234 : BitVec 32 := Scalar.divsi v1232 c1_i32_674
  let v1235 : BitVec 32 := Scalar.muli v1234 c1_i32_674
  let v1236 : BitVec 32 := Scalar.addi c0_i32_673 v1235
  let c1_i32_676 : BitVec 32 := 1#32
  let arg9 : BitVec 32 := Scf.iv v1236 c1_i32_676 k1_t24
  let v1662 : Index := Scalar.indexCast arg9
  let c16_908 : Index := 16#32
  ![1, v1662.toNat, 16]
def k1_off213 (v1066 : BitVec 32) (k1_t24 : Fin (k1_t24_loop v1066).trips) : Fin 3 → Nat :=
  let c1_i32_909 : BitVec 32 := 1#32
  let v1666 : Index := Scalar.indexCast c1_i32_909
  let c0_i32_673 : BitVec 32 := 0#32
  let c64_i32_667 : BitVec 32 := 64#32
  let c0_i32_668 : BitVec 32 := 0#32
  let v1222 : BitVec 1 := Scalar.cmpi .eq c64_i32_667 c0_i32_668
  let c1_i32_669 : BitVec 32 := 1#32
  let v1223 : BitVec 32 := Scalar.select v1222 c1_i32_669 c64_i32_667
  let v1224 : BitVec 32 := Scalar.remsi v1066 v1223
  let c0_i32_671 : BitVec 32 := 0#32
  let v1226 : BitVec 1 := Scalar.cmpi .slt v1224 c0_i32_671
  let c0_i32_672 : BitVec 32 := 0#32
  let v1227 : BitVec 1 := Scalar.cmpi .slt v1223 c0_i32_672
  let v1228 : BitVec 1 := Scalar.xori v1226 v1227
  let c0_i32_670 : BitVec 32 := 0#32
  let v1225 : BitVec 1 := Scalar.cmpi .ne v1224 c0_i32_670
  let v1229 : BitVec 1 := Scalar.andi v1228 v1225
  let v1230 : BitVec 32 := Scalar.addi v1224 v1223
  let v1231 : BitVec 32 := Scalar.select v1229 v1230 v1224
  let v1232 : BitVec 32 := Scalar.subi v1231 c0_i32_673
  let c1_i32_674 : BitVec 32 := 1#32
  let v1234 : BitVec 32 := Scalar.divsi v1232 c1_i32_674
  let v1235 : BitVec 32 := Scalar.muli v1234 c1_i32_674
  let v1236 : BitVec 32 := Scalar.addi c0_i32_673 v1235
  let c1_i32_676 : BitVec 32 := 1#32
  let arg9 : BitVec 32 := Scf.iv v1236 c1_i32_676 k1_t24
  let v1667 : Index := Scalar.indexCast arg9
  let c32_910 : Index := 32#32
  ![1, v1667.toNat, 32]
def k1_off214 (v1066 : BitVec 32) (k1_t24 : Fin (k1_t24_loop v1066).trips) : Fin 3 → Nat :=
  let c1_i32_911 : BitVec 32 := 1#32
  let v1671 : Index := Scalar.indexCast c1_i32_911
  let c0_i32_673 : BitVec 32 := 0#32
  let c64_i32_667 : BitVec 32 := 64#32
  let c0_i32_668 : BitVec 32 := 0#32
  let v1222 : BitVec 1 := Scalar.cmpi .eq c64_i32_667 c0_i32_668
  let c1_i32_669 : BitVec 32 := 1#32
  let v1223 : BitVec 32 := Scalar.select v1222 c1_i32_669 c64_i32_667
  let v1224 : BitVec 32 := Scalar.remsi v1066 v1223
  let c0_i32_671 : BitVec 32 := 0#32
  let v1226 : BitVec 1 := Scalar.cmpi .slt v1224 c0_i32_671
  let c0_i32_672 : BitVec 32 := 0#32
  let v1227 : BitVec 1 := Scalar.cmpi .slt v1223 c0_i32_672
  let v1228 : BitVec 1 := Scalar.xori v1226 v1227
  let c0_i32_670 : BitVec 32 := 0#32
  let v1225 : BitVec 1 := Scalar.cmpi .ne v1224 c0_i32_670
  let v1229 : BitVec 1 := Scalar.andi v1228 v1225
  let v1230 : BitVec 32 := Scalar.addi v1224 v1223
  let v1231 : BitVec 32 := Scalar.select v1229 v1230 v1224
  let v1232 : BitVec 32 := Scalar.subi v1231 c0_i32_673
  let c1_i32_674 : BitVec 32 := 1#32
  let v1234 : BitVec 32 := Scalar.divsi v1232 c1_i32_674
  let v1235 : BitVec 32 := Scalar.muli v1234 c1_i32_674
  let v1236 : BitVec 32 := Scalar.addi c0_i32_673 v1235
  let c1_i32_676 : BitVec 32 := 1#32
  let arg9 : BitVec 32 := Scf.iv v1236 c1_i32_676 k1_t24
  let v1672 : Index := Scalar.indexCast arg9
  let c48_912 : Index := 48#32
  ![1, v1672.toNat, 48]
def k1_off215 (v1066 : BitVec 32) (k1_t24 : Fin (k1_t24_loop v1066).trips) : Fin 3 → Nat :=
  let c1_i32_913 : BitVec 32 := 1#32
  let v1676 : Index := Scalar.indexCast c1_i32_913
  let c0_i32_673 : BitVec 32 := 0#32
  let c64_i32_667 : BitVec 32 := 64#32
  let c0_i32_668 : BitVec 32 := 0#32
  let v1222 : BitVec 1 := Scalar.cmpi .eq c64_i32_667 c0_i32_668
  let c1_i32_669 : BitVec 32 := 1#32
  let v1223 : BitVec 32 := Scalar.select v1222 c1_i32_669 c64_i32_667
  let v1224 : BitVec 32 := Scalar.remsi v1066 v1223
  let c0_i32_671 : BitVec 32 := 0#32
  let v1226 : BitVec 1 := Scalar.cmpi .slt v1224 c0_i32_671
  let c0_i32_672 : BitVec 32 := 0#32
  let v1227 : BitVec 1 := Scalar.cmpi .slt v1223 c0_i32_672
  let v1228 : BitVec 1 := Scalar.xori v1226 v1227
  let c0_i32_670 : BitVec 32 := 0#32
  let v1225 : BitVec 1 := Scalar.cmpi .ne v1224 c0_i32_670
  let v1229 : BitVec 1 := Scalar.andi v1228 v1225
  let v1230 : BitVec 32 := Scalar.addi v1224 v1223
  let v1231 : BitVec 32 := Scalar.select v1229 v1230 v1224
  let v1232 : BitVec 32 := Scalar.subi v1231 c0_i32_673
  let c1_i32_674 : BitVec 32 := 1#32
  let v1234 : BitVec 32 := Scalar.divsi v1232 c1_i32_674
  let v1235 : BitVec 32 := Scalar.muli v1234 c1_i32_674
  let v1236 : BitVec 32 := Scalar.addi c0_i32_673 v1235
  let c1_i32_676 : BitVec 32 := 1#32
  let arg9 : BitVec 32 := Scf.iv v1236 c1_i32_676 k1_t24
  let v1677 : Index := Scalar.indexCast arg9
  let c64_914 : Index := 64#32
  ![1, v1677.toNat, 64]
def k1_off216 (v1066 : BitVec 32) (k1_t24 : Fin (k1_t24_loop v1066).trips) : Fin 3 → Nat :=
  let c1_i32_915 : BitVec 32 := 1#32
  let v1681 : Index := Scalar.indexCast c1_i32_915
  let c0_i32_673 : BitVec 32 := 0#32
  let c64_i32_667 : BitVec 32 := 64#32
  let c0_i32_668 : BitVec 32 := 0#32
  let v1222 : BitVec 1 := Scalar.cmpi .eq c64_i32_667 c0_i32_668
  let c1_i32_669 : BitVec 32 := 1#32
  let v1223 : BitVec 32 := Scalar.select v1222 c1_i32_669 c64_i32_667
  let v1224 : BitVec 32 := Scalar.remsi v1066 v1223
  let c0_i32_671 : BitVec 32 := 0#32
  let v1226 : BitVec 1 := Scalar.cmpi .slt v1224 c0_i32_671
  let c0_i32_672 : BitVec 32 := 0#32
  let v1227 : BitVec 1 := Scalar.cmpi .slt v1223 c0_i32_672
  let v1228 : BitVec 1 := Scalar.xori v1226 v1227
  let c0_i32_670 : BitVec 32 := 0#32
  let v1225 : BitVec 1 := Scalar.cmpi .ne v1224 c0_i32_670
  let v1229 : BitVec 1 := Scalar.andi v1228 v1225
  let v1230 : BitVec 32 := Scalar.addi v1224 v1223
  let v1231 : BitVec 32 := Scalar.select v1229 v1230 v1224
  let v1232 : BitVec 32 := Scalar.subi v1231 c0_i32_673
  let c1_i32_674 : BitVec 32 := 1#32
  let v1234 : BitVec 32 := Scalar.divsi v1232 c1_i32_674
  let v1235 : BitVec 32 := Scalar.muli v1234 c1_i32_674
  let v1236 : BitVec 32 := Scalar.addi c0_i32_673 v1235
  let c1_i32_676 : BitVec 32 := 1#32
  let arg9 : BitVec 32 := Scf.iv v1236 c1_i32_676 k1_t24
  let v1682 : Index := Scalar.indexCast arg9
  let c80_916 : Index := 80#32
  ![1, v1682.toNat, 80]
def k1_off217 (v1066 : BitVec 32) (k1_t24 : Fin (k1_t24_loop v1066).trips) : Fin 3 → Nat :=
  let c1_i32_917 : BitVec 32 := 1#32
  let v1686 : Index := Scalar.indexCast c1_i32_917
  let c0_i32_673 : BitVec 32 := 0#32
  let c64_i32_667 : BitVec 32 := 64#32
  let c0_i32_668 : BitVec 32 := 0#32
  let v1222 : BitVec 1 := Scalar.cmpi .eq c64_i32_667 c0_i32_668
  let c1_i32_669 : BitVec 32 := 1#32
  let v1223 : BitVec 32 := Scalar.select v1222 c1_i32_669 c64_i32_667
  let v1224 : BitVec 32 := Scalar.remsi v1066 v1223
  let c0_i32_671 : BitVec 32 := 0#32
  let v1226 : BitVec 1 := Scalar.cmpi .slt v1224 c0_i32_671
  let c0_i32_672 : BitVec 32 := 0#32
  let v1227 : BitVec 1 := Scalar.cmpi .slt v1223 c0_i32_672
  let v1228 : BitVec 1 := Scalar.xori v1226 v1227
  let c0_i32_670 : BitVec 32 := 0#32
  let v1225 : BitVec 1 := Scalar.cmpi .ne v1224 c0_i32_670
  let v1229 : BitVec 1 := Scalar.andi v1228 v1225
  let v1230 : BitVec 32 := Scalar.addi v1224 v1223
  let v1231 : BitVec 32 := Scalar.select v1229 v1230 v1224
  let v1232 : BitVec 32 := Scalar.subi v1231 c0_i32_673
  let c1_i32_674 : BitVec 32 := 1#32
  let v1234 : BitVec 32 := Scalar.divsi v1232 c1_i32_674
  let v1235 : BitVec 32 := Scalar.muli v1234 c1_i32_674
  let v1236 : BitVec 32 := Scalar.addi c0_i32_673 v1235
  let c1_i32_676 : BitVec 32 := 1#32
  let arg9 : BitVec 32 := Scf.iv v1236 c1_i32_676 k1_t24
  let v1687 : Index := Scalar.indexCast arg9
  let c96_918 : Index := 96#32
  ![1, v1687.toNat, 96]
def k1_off218 (v1066 : BitVec 32) (k1_t24 : Fin (k1_t24_loop v1066).trips) : Fin 3 → Nat :=
  let c1_i32_919 : BitVec 32 := 1#32
  let v1691 : Index := Scalar.indexCast c1_i32_919
  let c0_i32_673 : BitVec 32 := 0#32
  let c64_i32_667 : BitVec 32 := 64#32
  let c0_i32_668 : BitVec 32 := 0#32
  let v1222 : BitVec 1 := Scalar.cmpi .eq c64_i32_667 c0_i32_668
  let c1_i32_669 : BitVec 32 := 1#32
  let v1223 : BitVec 32 := Scalar.select v1222 c1_i32_669 c64_i32_667
  let v1224 : BitVec 32 := Scalar.remsi v1066 v1223
  let c0_i32_671 : BitVec 32 := 0#32
  let v1226 : BitVec 1 := Scalar.cmpi .slt v1224 c0_i32_671
  let c0_i32_672 : BitVec 32 := 0#32
  let v1227 : BitVec 1 := Scalar.cmpi .slt v1223 c0_i32_672
  let v1228 : BitVec 1 := Scalar.xori v1226 v1227
  let c0_i32_670 : BitVec 32 := 0#32
  let v1225 : BitVec 1 := Scalar.cmpi .ne v1224 c0_i32_670
  let v1229 : BitVec 1 := Scalar.andi v1228 v1225
  let v1230 : BitVec 32 := Scalar.addi v1224 v1223
  let v1231 : BitVec 32 := Scalar.select v1229 v1230 v1224
  let v1232 : BitVec 32 := Scalar.subi v1231 c0_i32_673
  let c1_i32_674 : BitVec 32 := 1#32
  let v1234 : BitVec 32 := Scalar.divsi v1232 c1_i32_674
  let v1235 : BitVec 32 := Scalar.muli v1234 c1_i32_674
  let v1236 : BitVec 32 := Scalar.addi c0_i32_673 v1235
  let c1_i32_676 : BitVec 32 := 1#32
  let arg9 : BitVec 32 := Scf.iv v1236 c1_i32_676 k1_t24
  let v1692 : Index := Scalar.indexCast arg9
  let c112_920 : Index := 112#32
  ![1, v1692.toNat, 112]

def k1_chk12 (v1066 : BitVec 32) : Prop :=
  (∀ a, (k1_off183 v1066) a + S64x128.size a ≤ S320000x128.size a) ∧
  (∀ a, (k1_off202 v1066) a + S64x128.size a ≤ S320000x128.size a) ∧
  ((k1_t23_loop v1066).OK) ∧
  (∀ k1_t23 : Fin (k1_t23_loop v1066).trips, ∀ a, (k1_off203 v1066 k1_t23) a + S1x1x16.size a ≤ S2x64x128.size a) ∧
  (∀ k1_t23 : Fin (k1_t23_loop v1066).trips, ∀ a, (k1_off204 v1066 k1_t23) a + S1x1x16.size a ≤ S2x64x128.size a) ∧
  (∀ k1_t23 : Fin (k1_t23_loop v1066).trips, ∀ a, (k1_off205 v1066 k1_t23) a + S1x1x16.size a ≤ S2x64x128.size a) ∧
  (∀ k1_t23 : Fin (k1_t23_loop v1066).trips, ∀ a, (k1_off206 v1066 k1_t23) a + S1x1x16.size a ≤ S2x64x128.size a) ∧
  (∀ k1_t23 : Fin (k1_t23_loop v1066).trips, ∀ a, (k1_off207 v1066 k1_t23) a + S1x1x16.size a ≤ S2x64x128.size a) ∧
  (∀ k1_t23 : Fin (k1_t23_loop v1066).trips, ∀ a, (k1_off208 v1066 k1_t23) a + S1x1x16.size a ≤ S2x64x128.size a) ∧
  (∀ k1_t23 : Fin (k1_t23_loop v1066).trips, ∀ a, (k1_off209 v1066 k1_t23) a + S1x1x16.size a ≤ S2x64x128.size a) ∧
  (∀ k1_t23 : Fin (k1_t23_loop v1066).trips, ∀ a, (k1_off210 v1066 k1_t23) a + S1x1x16.size a ≤ S2x64x128.size a) ∧
  ((k1_t24_loop v1066).OK) ∧
  (∀ k1_t24 : Fin (k1_t24_loop v1066).trips, ∀ a, (k1_off211 v1066 k1_t24) a + S1x1x16.size a ≤ S2x64x128.size a) ∧
  (∀ k1_t24 : Fin (k1_t24_loop v1066).trips, ∀ a, (k1_off212 v1066 k1_t24) a + S1x1x16.size a ≤ S2x64x128.size a) ∧
  (∀ k1_t24 : Fin (k1_t24_loop v1066).trips, ∀ a, (k1_off213 v1066 k1_t24) a + S1x1x16.size a ≤ S2x64x128.size a) ∧
  (∀ k1_t24 : Fin (k1_t24_loop v1066).trips, ∀ a, (k1_off214 v1066 k1_t24) a + S1x1x16.size a ≤ S2x64x128.size a) ∧
  (∀ k1_t24 : Fin (k1_t24_loop v1066).trips, ∀ a, (k1_off215 v1066 k1_t24) a + S1x1x16.size a ≤ S2x64x128.size a) ∧
  (∀ k1_t24 : Fin (k1_t24_loop v1066).trips, ∀ a, (k1_off216 v1066 k1_t24) a + S1x1x16.size a ≤ S2x64x128.size a) ∧
  (∀ k1_t24 : Fin (k1_t24_loop v1066).trips, ∀ a, (k1_off217 v1066 k1_t24) a + S1x1x16.size a ≤ S2x64x128.size a) ∧
  (∀ k1_t24 : Fin (k1_t24_loop v1066).trips, ∀ a, (k1_off218 v1066 k1_t24) a + S1x1x16.size a ≤ S2x64x128.size a)
theorem k1_off183_inb : ∀ (v1066 : BitVec 32) (k1_hw12 : k1_chk12 v1066), ∀ a, (k1_off183 v1066) a + S64x128.size a ≤ S320000x128.size a := fun v1066 k1_hw12 => k1_hw12.1
theorem k1_off202_inb : ∀ (v1066 : BitVec 32) (k1_hw12 : k1_chk12 v1066), ∀ a, (k1_off202 v1066) a + S64x128.size a ≤ S320000x128.size a := fun v1066 k1_hw12 => k1_hw12.2.1
theorem k1_t23_ok : ∀ (v1066 : BitVec 32) (k1_hw12 : k1_chk12 v1066), (k1_t23_loop v1066).OK := fun v1066 k1_hw12 => k1_hw12.2.2.1
theorem k1_off203_inb : ∀ (v1066 : BitVec 32) (k1_hw12 : k1_chk12 v1066) (k1_t23 : Fin (k1_t23_loop v1066).trips), ∀ a, (k1_off203 v1066 k1_t23) a + S1x1x16.size a ≤ S2x64x128.size a := fun v1066 k1_hw12 k1_t23 => k1_hw12.2.2.2.1 k1_t23
theorem k1_off204_inb : ∀ (v1066 : BitVec 32) (k1_hw12 : k1_chk12 v1066) (k1_t23 : Fin (k1_t23_loop v1066).trips), ∀ a, (k1_off204 v1066 k1_t23) a + S1x1x16.size a ≤ S2x64x128.size a := fun v1066 k1_hw12 k1_t23 => k1_hw12.2.2.2.2.1 k1_t23
theorem k1_off205_inb : ∀ (v1066 : BitVec 32) (k1_hw12 : k1_chk12 v1066) (k1_t23 : Fin (k1_t23_loop v1066).trips), ∀ a, (k1_off205 v1066 k1_t23) a + S1x1x16.size a ≤ S2x64x128.size a := fun v1066 k1_hw12 k1_t23 => k1_hw12.2.2.2.2.2.1 k1_t23
theorem k1_off206_inb : ∀ (v1066 : BitVec 32) (k1_hw12 : k1_chk12 v1066) (k1_t23 : Fin (k1_t23_loop v1066).trips), ∀ a, (k1_off206 v1066 k1_t23) a + S1x1x16.size a ≤ S2x64x128.size a := fun v1066 k1_hw12 k1_t23 => k1_hw12.2.2.2.2.2.2.1 k1_t23
theorem k1_off207_inb : ∀ (v1066 : BitVec 32) (k1_hw12 : k1_chk12 v1066) (k1_t23 : Fin (k1_t23_loop v1066).trips), ∀ a, (k1_off207 v1066 k1_t23) a + S1x1x16.size a ≤ S2x64x128.size a := fun v1066 k1_hw12 k1_t23 => k1_hw12.2.2.2.2.2.2.2.1 k1_t23
theorem k1_off208_inb : ∀ (v1066 : BitVec 32) (k1_hw12 : k1_chk12 v1066) (k1_t23 : Fin (k1_t23_loop v1066).trips), ∀ a, (k1_off208 v1066 k1_t23) a + S1x1x16.size a ≤ S2x64x128.size a := fun v1066 k1_hw12 k1_t23 => k1_hw12.2.2.2.2.2.2.2.2.1 k1_t23
theorem k1_off209_inb : ∀ (v1066 : BitVec 32) (k1_hw12 : k1_chk12 v1066) (k1_t23 : Fin (k1_t23_loop v1066).trips), ∀ a, (k1_off209 v1066 k1_t23) a + S1x1x16.size a ≤ S2x64x128.size a := fun v1066 k1_hw12 k1_t23 => k1_hw12.2.2.2.2.2.2.2.2.2.1 k1_t23
theorem k1_off210_inb : ∀ (v1066 : BitVec 32) (k1_hw12 : k1_chk12 v1066) (k1_t23 : Fin (k1_t23_loop v1066).trips), ∀ a, (k1_off210 v1066 k1_t23) a + S1x1x16.size a ≤ S2x64x128.size a := fun v1066 k1_hw12 k1_t23 => k1_hw12.2.2.2.2.2.2.2.2.2.2.1 k1_t23
theorem k1_t24_ok : ∀ (v1066 : BitVec 32) (k1_hw12 : k1_chk12 v1066), (k1_t24_loop v1066).OK := fun v1066 k1_hw12 => k1_hw12.2.2.2.2.2.2.2.2.2.2.2.1
theorem k1_off211_inb : ∀ (v1066 : BitVec 32) (k1_hw12 : k1_chk12 v1066) (k1_t24 : Fin (k1_t24_loop v1066).trips), ∀ a, (k1_off211 v1066 k1_t24) a + S1x1x16.size a ≤ S2x64x128.size a := fun v1066 k1_hw12 k1_t24 => k1_hw12.2.2.2.2.2.2.2.2.2.2.2.2.1 k1_t24
theorem k1_off212_inb : ∀ (v1066 : BitVec 32) (k1_hw12 : k1_chk12 v1066) (k1_t24 : Fin (k1_t24_loop v1066).trips), ∀ a, (k1_off212 v1066 k1_t24) a + S1x1x16.size a ≤ S2x64x128.size a := fun v1066 k1_hw12 k1_t24 => k1_hw12.2.2.2.2.2.2.2.2.2.2.2.2.2.1 k1_t24
theorem k1_off213_inb : ∀ (v1066 : BitVec 32) (k1_hw12 : k1_chk12 v1066) (k1_t24 : Fin (k1_t24_loop v1066).trips), ∀ a, (k1_off213 v1066 k1_t24) a + S1x1x16.size a ≤ S2x64x128.size a := fun v1066 k1_hw12 k1_t24 => k1_hw12.2.2.2.2.2.2.2.2.2.2.2.2.2.2.1 k1_t24
theorem k1_off214_inb : ∀ (v1066 : BitVec 32) (k1_hw12 : k1_chk12 v1066) (k1_t24 : Fin (k1_t24_loop v1066).trips), ∀ a, (k1_off214 v1066 k1_t24) a + S1x1x16.size a ≤ S2x64x128.size a := fun v1066 k1_hw12 k1_t24 => k1_hw12.2.2.2.2.2.2.2.2.2.2.2.2.2.2.2.1 k1_t24
theorem k1_off215_inb : ∀ (v1066 : BitVec 32) (k1_hw12 : k1_chk12 v1066) (k1_t24 : Fin (k1_t24_loop v1066).trips), ∀ a, (k1_off215 v1066 k1_t24) a + S1x1x16.size a ≤ S2x64x128.size a := fun v1066 k1_hw12 k1_t24 => k1_hw12.2.2.2.2.2.2.2.2.2.2.2.2.2.2.2.2.1 k1_t24
theorem k1_off216_inb : ∀ (v1066 : BitVec 32) (k1_hw12 : k1_chk12 v1066) (k1_t24 : Fin (k1_t24_loop v1066).trips), ∀ a, (k1_off216 v1066 k1_t24) a + S1x1x16.size a ≤ S2x64x128.size a := fun v1066 k1_hw12 k1_t24 => k1_hw12.2.2.2.2.2.2.2.2.2.2.2.2.2.2.2.2.2.1 k1_t24
theorem k1_off217_inb : ∀ (v1066 : BitVec 32) (k1_hw12 : k1_chk12 v1066) (k1_t24 : Fin (k1_t24_loop v1066).trips), ∀ a, (k1_off217 v1066 k1_t24) a + S1x1x16.size a ≤ S2x64x128.size a := fun v1066 k1_hw12 k1_t24 => k1_hw12.2.2.2.2.2.2.2.2.2.2.2.2.2.2.2.2.2.2.1 k1_t24
theorem k1_off218_inb : ∀ (v1066 : BitVec 32) (k1_hw12 : k1_chk12 v1066) (k1_t24 : Fin (k1_t24_loop v1066).trips), ∀ a, (k1_off218 v1066 k1_t24) a + S1x1x16.size a ≤ S2x64x128.size a := fun v1066 k1_hw12 k1_t24 => k1_hw12.2.2.2.2.2.2.2.2.2.2.2.2.2.2.2.2.2.2.2 k1_t24

def k1_off219 (v1272 : BitVec 32) : Fin 2 → Nat :=
  let c0_i32_693 : BitVec 32 := 0#32
  let v1274 : BitVec 1 := Scalar.cmpi .sgt v1272 c0_i32_693
  let v1275 : BitVec 32 := Scalar.extui v1274
  let c0_i32_694 : BitVec 32 := 0#32
  let v1276 : BitVec 1 := Scalar.cmpi .slt v1272 c0_i32_694
  let v1277 : BitVec 32 := Scalar.extui v1276
  let v1278 : BitVec 32 := Scalar.subi v1275 v1277
  let c64_i32_692 : BitVec 32 := 64#32
  let c0_i32_695 : BitVec 32 := 0#32
  let v1279 : BitVec 1 := Scalar.cmpi .sgt c64_i32_692 c0_i32_695
  let v1280 : BitVec 32 := Scalar.extui v1279
  let c0_i32_696 : BitVec 32 := 0#32
  let v1281 : BitVec 1 := Scalar.cmpi .slt c64_i32_692 c0_i32_696
  let v1282 : BitVec 32 := Scalar.extui v1281
  let v1283 : BitVec 32 := Scalar.subi v1280 v1282
  let v1284 : BitVec 1 := Scalar.cmpi .ne v1278 v1283
  let v1285 : BitVec 32 := Scalar.remsi v1272 c64_i32_692
  let c0_i32_697 : BitVec 32 := 0#32
  let v1286 : BitVec 1 := Scalar.cmpi .ne v1285 c0_i32_697
  let v1287 : BitVec 1 := Scalar.andi v1284 v1286
  let v1273 : BitVec 32 := Scalar.divsi v1272 c64_i32_692
  let c1_i32_698 : BitVec 32 := 1#32
  let v1288 : BitVec 32 := Scalar.subi v1273 c1_i32_698
  let v1289 : BitVec 32 := Scalar.select v1287 v1288 v1273
  let c64_i32_699 : BitVec 32 := 64#32
  let v1290 : BitVec 32 := Scalar.muli v1289 c64_i32_699
  let c0_i32_704 : BitVec 32 := 0#32
  ![v1290.toNat, 0]

def k1_off220 (v1169 : BitVec 32) : Fin 2 → Nat :=
  let c0_i32_709 : BitVec 32 := 0#32
  let v1300 : BitVec 1 := Scalar.cmpi .sgt v1169 c0_i32_709
  let v1301 : BitVec 32 := Scalar.extui v1300
  let c0_i32_710 : BitVec 32 := 0#32
  let v1302 : BitVec 1 := Scalar.cmpi .slt v1169 c0_i32_710
  let v1303 : BitVec 32 := Scalar.extui v1302
  let v1304 : BitVec 32 := Scalar.subi v1301 v1303
  let c64_i32_708 : BitVec 32 := 64#32
  let c0_i32_711 : BitVec 32 := 0#32
  let v1305 : BitVec 1 := Scalar.cmpi .sgt c64_i32_708 c0_i32_711
  let v1306 : BitVec 32 := Scalar.extui v1305
  let c0_i32_712 : BitVec 32 := 0#32
  let v1307 : BitVec 1 := Scalar.cmpi .slt c64_i32_708 c0_i32_712
  let v1308 : BitVec 32 := Scalar.extui v1307
  let v1309 : BitVec 32 := Scalar.subi v1306 v1308
  let v1310 : BitVec 1 := Scalar.cmpi .ne v1304 v1309
  let v1311 : BitVec 32 := Scalar.remsi v1169 c64_i32_708
  let c0_i32_713 : BitVec 32 := 0#32
  let v1312 : BitVec 1 := Scalar.cmpi .ne v1311 c0_i32_713
  let v1313 : BitVec 1 := Scalar.andi v1310 v1312
  let v1299 : BitVec 32 := Scalar.divsi v1169 c64_i32_708
  let c1_i32_714 : BitVec 32 := 1#32
  let v1314 : BitVec 32 := Scalar.subi v1299 c1_i32_714
  let v1315 : BitVec 32 := Scalar.select v1313 v1314 v1299
  let c64_i32_715 : BitVec 32 := 64#32
  let v1316 : BitVec 32 := Scalar.muli v1315 c64_i32_715
  let c0_i32_720 : BitVec 32 := 0#32
  ![v1316.toNat, 0]
@[reducible] def k1_t25_loop (v1169 : BitVec 32) : Scf.Loop 32 :=
  let c0_i32_730 : BitVec 32 := 0#32
  let c64_i32_724 : BitVec 32 := 64#32
  let c0_i32_725 : BitVec 32 := 0#32
  let v1325 : BitVec 1 := Scalar.cmpi .eq c64_i32_724 c0_i32_725
  let c1_i32_726 : BitVec 32 := 1#32
  let v1326 : BitVec 32 := Scalar.select v1325 c1_i32_726 c64_i32_724
  let v1327 : BitVec 32 := Scalar.remsi v1169 v1326
  let c0_i32_728 : BitVec 32 := 0#32
  let v1329 : BitVec 1 := Scalar.cmpi .slt v1327 c0_i32_728
  let c0_i32_729 : BitVec 32 := 0#32
  let v1330 : BitVec 1 := Scalar.cmpi .slt v1326 c0_i32_729
  let v1331 : BitVec 1 := Scalar.xori v1329 v1330
  let c0_i32_727 : BitVec 32 := 0#32
  let v1328 : BitVec 1 := Scalar.cmpi .ne v1327 c0_i32_727
  let v1332 : BitVec 1 := Scalar.andi v1331 v1328
  let v1333 : BitVec 32 := Scalar.addi v1327 v1326
  let v1334 : BitVec 32 := Scalar.select v1332 v1333 v1327
  let v1335 : BitVec 32 := Scalar.subi v1334 c0_i32_730
  let c1_i32_731 : BitVec 32 := 1#32
  let v1337 : BitVec 32 := Scalar.divsi v1335 c1_i32_731
  let v1338 : BitVec 32 := Scalar.muli v1337 c1_i32_731
  let v1339 : BitVec 32 := Scalar.addi c0_i32_730 v1338
  let c1_i32_732 : BitVec 32 := 1#32
  ⟨c0_i32_730, v1339, c1_i32_732⟩
def k1_off221 (v1169 : BitVec 32) (k1_t25 : Fin (k1_t25_loop v1169).trips) : Fin 3 → Nat :=
  let c0_i32_905 : BitVec 32 := 0#32
  let v1656 : Index := Scalar.indexCast c0_i32_905
  let c0_i32_730 : BitVec 32 := 0#32
  let c1_i32_732 : BitVec 32 := 1#32
  let arg9 : BitVec 32 := Scf.iv c0_i32_730 c1_i32_732 k1_t25
  let v1657 : Index := Scalar.indexCast arg9
  let c0_906 : Index := 0#32
  ![0, v1657.toNat, 0]
def k1_off222 (v1169 : BitVec 32) (k1_t25 : Fin (k1_t25_loop v1169).trips) : Fin 3 → Nat :=
  let c0_i32_907 : BitVec 32 := 0#32
  let v1661 : Index := Scalar.indexCast c0_i32_907
  let c0_i32_730 : BitVec 32 := 0#32
  let c1_i32_732 : BitVec 32 := 1#32
  let arg9 : BitVec 32 := Scf.iv c0_i32_730 c1_i32_732 k1_t25
  let v1662 : Index := Scalar.indexCast arg9
  let c16_908 : Index := 16#32
  ![0, v1662.toNat, 16]
def k1_off223 (v1169 : BitVec 32) (k1_t25 : Fin (k1_t25_loop v1169).trips) : Fin 3 → Nat :=
  let c0_i32_909 : BitVec 32 := 0#32
  let v1666 : Index := Scalar.indexCast c0_i32_909
  let c0_i32_730 : BitVec 32 := 0#32
  let c1_i32_732 : BitVec 32 := 1#32
  let arg9 : BitVec 32 := Scf.iv c0_i32_730 c1_i32_732 k1_t25
  let v1667 : Index := Scalar.indexCast arg9
  let c32_910 : Index := 32#32
  ![0, v1667.toNat, 32]
def k1_off224 (v1169 : BitVec 32) (k1_t25 : Fin (k1_t25_loop v1169).trips) : Fin 3 → Nat :=
  let c0_i32_911 : BitVec 32 := 0#32
  let v1671 : Index := Scalar.indexCast c0_i32_911
  let c0_i32_730 : BitVec 32 := 0#32
  let c1_i32_732 : BitVec 32 := 1#32
  let arg9 : BitVec 32 := Scf.iv c0_i32_730 c1_i32_732 k1_t25
  let v1672 : Index := Scalar.indexCast arg9
  let c48_912 : Index := 48#32
  ![0, v1672.toNat, 48]
def k1_off225 (v1169 : BitVec 32) (k1_t25 : Fin (k1_t25_loop v1169).trips) : Fin 3 → Nat :=
  let c0_i32_913 : BitVec 32 := 0#32
  let v1676 : Index := Scalar.indexCast c0_i32_913
  let c0_i32_730 : BitVec 32 := 0#32
  let c1_i32_732 : BitVec 32 := 1#32
  let arg9 : BitVec 32 := Scf.iv c0_i32_730 c1_i32_732 k1_t25
  let v1677 : Index := Scalar.indexCast arg9
  let c64_914 : Index := 64#32
  ![0, v1677.toNat, 64]
def k1_off226 (v1169 : BitVec 32) (k1_t25 : Fin (k1_t25_loop v1169).trips) : Fin 3 → Nat :=
  let c0_i32_915 : BitVec 32 := 0#32
  let v1681 : Index := Scalar.indexCast c0_i32_915
  let c0_i32_730 : BitVec 32 := 0#32
  let c1_i32_732 : BitVec 32 := 1#32
  let arg9 : BitVec 32 := Scf.iv c0_i32_730 c1_i32_732 k1_t25
  let v1682 : Index := Scalar.indexCast arg9
  let c80_916 : Index := 80#32
  ![0, v1682.toNat, 80]
def k1_off227 (v1169 : BitVec 32) (k1_t25 : Fin (k1_t25_loop v1169).trips) : Fin 3 → Nat :=
  let c0_i32_917 : BitVec 32 := 0#32
  let v1686 : Index := Scalar.indexCast c0_i32_917
  let c0_i32_730 : BitVec 32 := 0#32
  let c1_i32_732 : BitVec 32 := 1#32
  let arg9 : BitVec 32 := Scf.iv c0_i32_730 c1_i32_732 k1_t25
  let v1687 : Index := Scalar.indexCast arg9
  let c96_918 : Index := 96#32
  ![0, v1687.toNat, 96]
def k1_off228 (v1169 : BitVec 32) (k1_t25 : Fin (k1_t25_loop v1169).trips) : Fin 3 → Nat :=
  let c0_i32_919 : BitVec 32 := 0#32
  let v1691 : Index := Scalar.indexCast c0_i32_919
  let c0_i32_730 : BitVec 32 := 0#32
  let c1_i32_732 : BitVec 32 := 1#32
  let arg9 : BitVec 32 := Scf.iv c0_i32_730 c1_i32_732 k1_t25
  let v1692 : Index := Scalar.indexCast arg9
  let c112_920 : Index := 112#32
  ![0, v1692.toNat, 112]
@[reducible] def k1_t26_loop (v1169 : BitVec 32) : Scf.Loop 32 :=
  let c0_i32_730 : BitVec 32 := 0#32
  let c64_i32_724 : BitVec 32 := 64#32
  let c0_i32_725 : BitVec 32 := 0#32
  let v1325 : BitVec 1 := Scalar.cmpi .eq c64_i32_724 c0_i32_725
  let c1_i32_726 : BitVec 32 := 1#32
  let v1326 : BitVec 32 := Scalar.select v1325 c1_i32_726 c64_i32_724
  let v1327 : BitVec 32 := Scalar.remsi v1169 v1326
  let c0_i32_728 : BitVec 32 := 0#32
  let v1329 : BitVec 1 := Scalar.cmpi .slt v1327 c0_i32_728
  let c0_i32_729 : BitVec 32 := 0#32
  let v1330 : BitVec 1 := Scalar.cmpi .slt v1326 c0_i32_729
  let v1331 : BitVec 1 := Scalar.xori v1329 v1330
  let c0_i32_727 : BitVec 32 := 0#32
  let v1328 : BitVec 1 := Scalar.cmpi .ne v1327 c0_i32_727
  let v1332 : BitVec 1 := Scalar.andi v1331 v1328
  let v1333 : BitVec 32 := Scalar.addi v1327 v1326
  let v1334 : BitVec 32 := Scalar.select v1332 v1333 v1327
  let v1335 : BitVec 32 := Scalar.subi v1334 c0_i32_730
  let c1_i32_731 : BitVec 32 := 1#32
  let v1337 : BitVec 32 := Scalar.divsi v1335 c1_i32_731
  let v1338 : BitVec 32 := Scalar.muli v1337 c1_i32_731
  let v1339 : BitVec 32 := Scalar.addi c0_i32_730 v1338
  let v1336 : BitVec 32 := Scalar.addi c0_i32_730 v1335
  let c1_i32_733 : BitVec 32 := 1#32
  ⟨v1339, v1336, c1_i32_733⟩
def k1_off229 (v1169 : BitVec 32) (k1_t26 : Fin (k1_t26_loop v1169).trips) : Fin 3 → Nat :=
  let c0_i32_905 : BitVec 32 := 0#32
  let v1656 : Index := Scalar.indexCast c0_i32_905
  let c0_i32_730 : BitVec 32 := 0#32
  let c64_i32_724 : BitVec 32 := 64#32
  let c0_i32_725 : BitVec 32 := 0#32
  let v1325 : BitVec 1 := Scalar.cmpi .eq c64_i32_724 c0_i32_725
  let c1_i32_726 : BitVec 32 := 1#32
  let v1326 : BitVec 32 := Scalar.select v1325 c1_i32_726 c64_i32_724
  let v1327 : BitVec 32 := Scalar.remsi v1169 v1326
  let c0_i32_728 : BitVec 32 := 0#32
  let v1329 : BitVec 1 := Scalar.cmpi .slt v1327 c0_i32_728
  let c0_i32_729 : BitVec 32 := 0#32
  let v1330 : BitVec 1 := Scalar.cmpi .slt v1326 c0_i32_729
  let v1331 : BitVec 1 := Scalar.xori v1329 v1330
  let c0_i32_727 : BitVec 32 := 0#32
  let v1328 : BitVec 1 := Scalar.cmpi .ne v1327 c0_i32_727
  let v1332 : BitVec 1 := Scalar.andi v1331 v1328
  let v1333 : BitVec 32 := Scalar.addi v1327 v1326
  let v1334 : BitVec 32 := Scalar.select v1332 v1333 v1327
  let v1335 : BitVec 32 := Scalar.subi v1334 c0_i32_730
  let c1_i32_731 : BitVec 32 := 1#32
  let v1337 : BitVec 32 := Scalar.divsi v1335 c1_i32_731
  let v1338 : BitVec 32 := Scalar.muli v1337 c1_i32_731
  let v1339 : BitVec 32 := Scalar.addi c0_i32_730 v1338
  let c1_i32_733 : BitVec 32 := 1#32
  let arg9 : BitVec 32 := Scf.iv v1339 c1_i32_733 k1_t26
  let v1657 : Index := Scalar.indexCast arg9
  let c0_906 : Index := 0#32
  ![0, v1657.toNat, 0]
def k1_off230 (v1169 : BitVec 32) (k1_t26 : Fin (k1_t26_loop v1169).trips) : Fin 3 → Nat :=
  let c0_i32_907 : BitVec 32 := 0#32
  let v1661 : Index := Scalar.indexCast c0_i32_907
  let c0_i32_730 : BitVec 32 := 0#32
  let c64_i32_724 : BitVec 32 := 64#32
  let c0_i32_725 : BitVec 32 := 0#32
  let v1325 : BitVec 1 := Scalar.cmpi .eq c64_i32_724 c0_i32_725
  let c1_i32_726 : BitVec 32 := 1#32
  let v1326 : BitVec 32 := Scalar.select v1325 c1_i32_726 c64_i32_724
  let v1327 : BitVec 32 := Scalar.remsi v1169 v1326
  let c0_i32_728 : BitVec 32 := 0#32
  let v1329 : BitVec 1 := Scalar.cmpi .slt v1327 c0_i32_728
  let c0_i32_729 : BitVec 32 := 0#32
  let v1330 : BitVec 1 := Scalar.cmpi .slt v1326 c0_i32_729
  let v1331 : BitVec 1 := Scalar.xori v1329 v1330
  let c0_i32_727 : BitVec 32 := 0#32
  let v1328 : BitVec 1 := Scalar.cmpi .ne v1327 c0_i32_727
  let v1332 : BitVec 1 := Scalar.andi v1331 v1328
  let v1333 : BitVec 32 := Scalar.addi v1327 v1326
  let v1334 : BitVec 32 := Scalar.select v1332 v1333 v1327
  let v1335 : BitVec 32 := Scalar.subi v1334 c0_i32_730
  let c1_i32_731 : BitVec 32 := 1#32
  let v1337 : BitVec 32 := Scalar.divsi v1335 c1_i32_731
  let v1338 : BitVec 32 := Scalar.muli v1337 c1_i32_731
  let v1339 : BitVec 32 := Scalar.addi c0_i32_730 v1338
  let c1_i32_733 : BitVec 32 := 1#32
  let arg9 : BitVec 32 := Scf.iv v1339 c1_i32_733 k1_t26
  let v1662 : Index := Scalar.indexCast arg9
  let c16_908 : Index := 16#32
  ![0, v1662.toNat, 16]
def k1_off231 (v1169 : BitVec 32) (k1_t26 : Fin (k1_t26_loop v1169).trips) : Fin 3 → Nat :=
  let c0_i32_909 : BitVec 32 := 0#32
  let v1666 : Index := Scalar.indexCast c0_i32_909
  let c0_i32_730 : BitVec 32 := 0#32
  let c64_i32_724 : BitVec 32 := 64#32
  let c0_i32_725 : BitVec 32 := 0#32
  let v1325 : BitVec 1 := Scalar.cmpi .eq c64_i32_724 c0_i32_725
  let c1_i32_726 : BitVec 32 := 1#32
  let v1326 : BitVec 32 := Scalar.select v1325 c1_i32_726 c64_i32_724
  let v1327 : BitVec 32 := Scalar.remsi v1169 v1326
  let c0_i32_728 : BitVec 32 := 0#32
  let v1329 : BitVec 1 := Scalar.cmpi .slt v1327 c0_i32_728
  let c0_i32_729 : BitVec 32 := 0#32
  let v1330 : BitVec 1 := Scalar.cmpi .slt v1326 c0_i32_729
  let v1331 : BitVec 1 := Scalar.xori v1329 v1330
  let c0_i32_727 : BitVec 32 := 0#32
  let v1328 : BitVec 1 := Scalar.cmpi .ne v1327 c0_i32_727
  let v1332 : BitVec 1 := Scalar.andi v1331 v1328
  let v1333 : BitVec 32 := Scalar.addi v1327 v1326
  let v1334 : BitVec 32 := Scalar.select v1332 v1333 v1327
  let v1335 : BitVec 32 := Scalar.subi v1334 c0_i32_730
  let c1_i32_731 : BitVec 32 := 1#32
  let v1337 : BitVec 32 := Scalar.divsi v1335 c1_i32_731
  let v1338 : BitVec 32 := Scalar.muli v1337 c1_i32_731
  let v1339 : BitVec 32 := Scalar.addi c0_i32_730 v1338
  let c1_i32_733 : BitVec 32 := 1#32
  let arg9 : BitVec 32 := Scf.iv v1339 c1_i32_733 k1_t26
  let v1667 : Index := Scalar.indexCast arg9
  let c32_910 : Index := 32#32
  ![0, v1667.toNat, 32]
def k1_off232 (v1169 : BitVec 32) (k1_t26 : Fin (k1_t26_loop v1169).trips) : Fin 3 → Nat :=
  let c0_i32_911 : BitVec 32 := 0#32
  let v1671 : Index := Scalar.indexCast c0_i32_911
  let c0_i32_730 : BitVec 32 := 0#32
  let c64_i32_724 : BitVec 32 := 64#32
  let c0_i32_725 : BitVec 32 := 0#32
  let v1325 : BitVec 1 := Scalar.cmpi .eq c64_i32_724 c0_i32_725
  let c1_i32_726 : BitVec 32 := 1#32
  let v1326 : BitVec 32 := Scalar.select v1325 c1_i32_726 c64_i32_724
  let v1327 : BitVec 32 := Scalar.remsi v1169 v1326
  let c0_i32_728 : BitVec 32 := 0#32
  let v1329 : BitVec 1 := Scalar.cmpi .slt v1327 c0_i32_728
  let c0_i32_729 : BitVec 32 := 0#32
  let v1330 : BitVec 1 := Scalar.cmpi .slt v1326 c0_i32_729
  let v1331 : BitVec 1 := Scalar.xori v1329 v1330
  let c0_i32_727 : BitVec 32 := 0#32
  let v1328 : BitVec 1 := Scalar.cmpi .ne v1327 c0_i32_727
  let v1332 : BitVec 1 := Scalar.andi v1331 v1328
  let v1333 : BitVec 32 := Scalar.addi v1327 v1326
  let v1334 : BitVec 32 := Scalar.select v1332 v1333 v1327
  let v1335 : BitVec 32 := Scalar.subi v1334 c0_i32_730
  let c1_i32_731 : BitVec 32 := 1#32
  let v1337 : BitVec 32 := Scalar.divsi v1335 c1_i32_731
  let v1338 : BitVec 32 := Scalar.muli v1337 c1_i32_731
  let v1339 : BitVec 32 := Scalar.addi c0_i32_730 v1338
  let c1_i32_733 : BitVec 32 := 1#32
  let arg9 : BitVec 32 := Scf.iv v1339 c1_i32_733 k1_t26
  let v1672 : Index := Scalar.indexCast arg9
  let c48_912 : Index := 48#32
  ![0, v1672.toNat, 48]
def k1_off233 (v1169 : BitVec 32) (k1_t26 : Fin (k1_t26_loop v1169).trips) : Fin 3 → Nat :=
  let c0_i32_913 : BitVec 32 := 0#32
  let v1676 : Index := Scalar.indexCast c0_i32_913
  let c0_i32_730 : BitVec 32 := 0#32
  let c64_i32_724 : BitVec 32 := 64#32
  let c0_i32_725 : BitVec 32 := 0#32
  let v1325 : BitVec 1 := Scalar.cmpi .eq c64_i32_724 c0_i32_725
  let c1_i32_726 : BitVec 32 := 1#32
  let v1326 : BitVec 32 := Scalar.select v1325 c1_i32_726 c64_i32_724
  let v1327 : BitVec 32 := Scalar.remsi v1169 v1326
  let c0_i32_728 : BitVec 32 := 0#32
  let v1329 : BitVec 1 := Scalar.cmpi .slt v1327 c0_i32_728
  let c0_i32_729 : BitVec 32 := 0#32
  let v1330 : BitVec 1 := Scalar.cmpi .slt v1326 c0_i32_729
  let v1331 : BitVec 1 := Scalar.xori v1329 v1330
  let c0_i32_727 : BitVec 32 := 0#32
  let v1328 : BitVec 1 := Scalar.cmpi .ne v1327 c0_i32_727
  let v1332 : BitVec 1 := Scalar.andi v1331 v1328
  let v1333 : BitVec 32 := Scalar.addi v1327 v1326
  let v1334 : BitVec 32 := Scalar.select v1332 v1333 v1327
  let v1335 : BitVec 32 := Scalar.subi v1334 c0_i32_730
  let c1_i32_731 : BitVec 32 := 1#32
  let v1337 : BitVec 32 := Scalar.divsi v1335 c1_i32_731
  let v1338 : BitVec 32 := Scalar.muli v1337 c1_i32_731
  let v1339 : BitVec 32 := Scalar.addi c0_i32_730 v1338
  let c1_i32_733 : BitVec 32 := 1#32
  let arg9 : BitVec 32 := Scf.iv v1339 c1_i32_733 k1_t26
  let v1677 : Index := Scalar.indexCast arg9
  let c64_914 : Index := 64#32
  ![0, v1677.toNat, 64]
def k1_off234 (v1169 : BitVec 32) (k1_t26 : Fin (k1_t26_loop v1169).trips) : Fin 3 → Nat :=
  let c0_i32_915 : BitVec 32 := 0#32
  let v1681 : Index := Scalar.indexCast c0_i32_915
  let c0_i32_730 : BitVec 32 := 0#32
  let c64_i32_724 : BitVec 32 := 64#32
  let c0_i32_725 : BitVec 32 := 0#32
  let v1325 : BitVec 1 := Scalar.cmpi .eq c64_i32_724 c0_i32_725
  let c1_i32_726 : BitVec 32 := 1#32
  let v1326 : BitVec 32 := Scalar.select v1325 c1_i32_726 c64_i32_724
  let v1327 : BitVec 32 := Scalar.remsi v1169 v1326
  let c0_i32_728 : BitVec 32 := 0#32
  let v1329 : BitVec 1 := Scalar.cmpi .slt v1327 c0_i32_728
  let c0_i32_729 : BitVec 32 := 0#32
  let v1330 : BitVec 1 := Scalar.cmpi .slt v1326 c0_i32_729
  let v1331 : BitVec 1 := Scalar.xori v1329 v1330
  let c0_i32_727 : BitVec 32 := 0#32
  let v1328 : BitVec 1 := Scalar.cmpi .ne v1327 c0_i32_727
  let v1332 : BitVec 1 := Scalar.andi v1331 v1328
  let v1333 : BitVec 32 := Scalar.addi v1327 v1326
  let v1334 : BitVec 32 := Scalar.select v1332 v1333 v1327
  let v1335 : BitVec 32 := Scalar.subi v1334 c0_i32_730
  let c1_i32_731 : BitVec 32 := 1#32
  let v1337 : BitVec 32 := Scalar.divsi v1335 c1_i32_731
  let v1338 : BitVec 32 := Scalar.muli v1337 c1_i32_731
  let v1339 : BitVec 32 := Scalar.addi c0_i32_730 v1338
  let c1_i32_733 : BitVec 32 := 1#32
  let arg9 : BitVec 32 := Scf.iv v1339 c1_i32_733 k1_t26
  let v1682 : Index := Scalar.indexCast arg9
  let c80_916 : Index := 80#32
  ![0, v1682.toNat, 80]
def k1_off235 (v1169 : BitVec 32) (k1_t26 : Fin (k1_t26_loop v1169).trips) : Fin 3 → Nat :=
  let c0_i32_917 : BitVec 32 := 0#32
  let v1686 : Index := Scalar.indexCast c0_i32_917
  let c0_i32_730 : BitVec 32 := 0#32
  let c64_i32_724 : BitVec 32 := 64#32
  let c0_i32_725 : BitVec 32 := 0#32
  let v1325 : BitVec 1 := Scalar.cmpi .eq c64_i32_724 c0_i32_725
  let c1_i32_726 : BitVec 32 := 1#32
  let v1326 : BitVec 32 := Scalar.select v1325 c1_i32_726 c64_i32_724
  let v1327 : BitVec 32 := Scalar.remsi v1169 v1326
  let c0_i32_728 : BitVec 32 := 0#32
  let v1329 : BitVec 1 := Scalar.cmpi .slt v1327 c0_i32_728
  let c0_i32_729 : BitVec 32 := 0#32
  let v1330 : BitVec 1 := Scalar.cmpi .slt v1326 c0_i32_729
  let v1331 : BitVec 1 := Scalar.xori v1329 v1330
  let c0_i32_727 : BitVec 32 := 0#32
  let v1328 : BitVec 1 := Scalar.cmpi .ne v1327 c0_i32_727
  let v1332 : BitVec 1 := Scalar.andi v1331 v1328
  let v1333 : BitVec 32 := Scalar.addi v1327 v1326
  let v1334 : BitVec 32 := Scalar.select v1332 v1333 v1327
  let v1335 : BitVec 32 := Scalar.subi v1334 c0_i32_730
  let c1_i32_731 : BitVec 32 := 1#32
  let v1337 : BitVec 32 := Scalar.divsi v1335 c1_i32_731
  let v1338 : BitVec 32 := Scalar.muli v1337 c1_i32_731
  let v1339 : BitVec 32 := Scalar.addi c0_i32_730 v1338
  let c1_i32_733 : BitVec 32 := 1#32
  let arg9 : BitVec 32 := Scf.iv v1339 c1_i32_733 k1_t26
  let v1687 : Index := Scalar.indexCast arg9
  let c96_918 : Index := 96#32
  ![0, v1687.toNat, 96]
def k1_off236 (v1169 : BitVec 32) (k1_t26 : Fin (k1_t26_loop v1169).trips) : Fin 3 → Nat :=
  let c0_i32_919 : BitVec 32 := 0#32
  let v1691 : Index := Scalar.indexCast c0_i32_919
  let c0_i32_730 : BitVec 32 := 0#32
  let c64_i32_724 : BitVec 32 := 64#32
  let c0_i32_725 : BitVec 32 := 0#32
  let v1325 : BitVec 1 := Scalar.cmpi .eq c64_i32_724 c0_i32_725
  let c1_i32_726 : BitVec 32 := 1#32
  let v1326 : BitVec 32 := Scalar.select v1325 c1_i32_726 c64_i32_724
  let v1327 : BitVec 32 := Scalar.remsi v1169 v1326
  let c0_i32_728 : BitVec 32 := 0#32
  let v1329 : BitVec 1 := Scalar.cmpi .slt v1327 c0_i32_728
  let c0_i32_729 : BitVec 32 := 0#32
  let v1330 : BitVec 1 := Scalar.cmpi .slt v1326 c0_i32_729
  let v1331 : BitVec 1 := Scalar.xori v1329 v1330
  let c0_i32_727 : BitVec 32 := 0#32
  let v1328 : BitVec 1 := Scalar.cmpi .ne v1327 c0_i32_727
  let v1332 : BitVec 1 := Scalar.andi v1331 v1328
  let v1333 : BitVec 32 := Scalar.addi v1327 v1326
  let v1334 : BitVec 32 := Scalar.select v1332 v1333 v1327
  let v1335 : BitVec 32 := Scalar.subi v1334 c0_i32_730
  let c1_i32_731 : BitVec 32 := 1#32
  let v1337 : BitVec 32 := Scalar.divsi v1335 c1_i32_731
  let v1338 : BitVec 32 := Scalar.muli v1337 c1_i32_731
  let v1339 : BitVec 32 := Scalar.addi c0_i32_730 v1338
  let c1_i32_733 : BitVec 32 := 1#32
  let arg9 : BitVec 32 := Scf.iv v1339 c1_i32_733 k1_t26
  let v1692 : Index := Scalar.indexCast arg9
  let c112_920 : Index := 112#32
  ![0, v1692.toNat, 112]

def k1_chk13 (v1169 : BitVec 32) : Prop :=
  (∀ a, (k1_off201 v1169) a + S64x128.size a ≤ S320000x128.size a) ∧
  (∀ a, (k1_off220 v1169) a + S64x128.size a ≤ S320000x128.size a) ∧
  ((k1_t25_loop v1169).OK) ∧
  (∀ k1_t25 : Fin (k1_t25_loop v1169).trips, ∀ a, (k1_off221 v1169 k1_t25) a + S1x1x16.size a ≤ S2x64x128.size a) ∧
  (∀ k1_t25 : Fin (k1_t25_loop v1169).trips, ∀ a, (k1_off222 v1169 k1_t25) a + S1x1x16.size a ≤ S2x64x128.size a) ∧
  (∀ k1_t25 : Fin (k1_t25_loop v1169).trips, ∀ a, (k1_off223 v1169 k1_t25) a + S1x1x16.size a ≤ S2x64x128.size a) ∧
  (∀ k1_t25 : Fin (k1_t25_loop v1169).trips, ∀ a, (k1_off224 v1169 k1_t25) a + S1x1x16.size a ≤ S2x64x128.size a) ∧
  (∀ k1_t25 : Fin (k1_t25_loop v1169).trips, ∀ a, (k1_off225 v1169 k1_t25) a + S1x1x16.size a ≤ S2x64x128.size a) ∧
  (∀ k1_t25 : Fin (k1_t25_loop v1169).trips, ∀ a, (k1_off226 v1169 k1_t25) a + S1x1x16.size a ≤ S2x64x128.size a) ∧
  (∀ k1_t25 : Fin (k1_t25_loop v1169).trips, ∀ a, (k1_off227 v1169 k1_t25) a + S1x1x16.size a ≤ S2x64x128.size a) ∧
  (∀ k1_t25 : Fin (k1_t25_loop v1169).trips, ∀ a, (k1_off228 v1169 k1_t25) a + S1x1x16.size a ≤ S2x64x128.size a) ∧
  ((k1_t26_loop v1169).OK) ∧
  (∀ k1_t26 : Fin (k1_t26_loop v1169).trips, ∀ a, (k1_off229 v1169 k1_t26) a + S1x1x16.size a ≤ S2x64x128.size a) ∧
  (∀ k1_t26 : Fin (k1_t26_loop v1169).trips, ∀ a, (k1_off230 v1169 k1_t26) a + S1x1x16.size a ≤ S2x64x128.size a) ∧
  (∀ k1_t26 : Fin (k1_t26_loop v1169).trips, ∀ a, (k1_off231 v1169 k1_t26) a + S1x1x16.size a ≤ S2x64x128.size a) ∧
  (∀ k1_t26 : Fin (k1_t26_loop v1169).trips, ∀ a, (k1_off232 v1169 k1_t26) a + S1x1x16.size a ≤ S2x64x128.size a) ∧
  (∀ k1_t26 : Fin (k1_t26_loop v1169).trips, ∀ a, (k1_off233 v1169 k1_t26) a + S1x1x16.size a ≤ S2x64x128.size a) ∧
  (∀ k1_t26 : Fin (k1_t26_loop v1169).trips, ∀ a, (k1_off234 v1169 k1_t26) a + S1x1x16.size a ≤ S2x64x128.size a) ∧
  (∀ k1_t26 : Fin (k1_t26_loop v1169).trips, ∀ a, (k1_off235 v1169 k1_t26) a + S1x1x16.size a ≤ S2x64x128.size a) ∧
  (∀ k1_t26 : Fin (k1_t26_loop v1169).trips, ∀ a, (k1_off236 v1169 k1_t26) a + S1x1x16.size a ≤ S2x64x128.size a)
theorem k1_off201_inb : ∀ (v1169 : BitVec 32) (k1_hw13 : k1_chk13 v1169), ∀ a, (k1_off201 v1169) a + S64x128.size a ≤ S320000x128.size a := fun v1169 k1_hw13 => k1_hw13.1
theorem k1_off220_inb : ∀ (v1169 : BitVec 32) (k1_hw13 : k1_chk13 v1169), ∀ a, (k1_off220 v1169) a + S64x128.size a ≤ S320000x128.size a := fun v1169 k1_hw13 => k1_hw13.2.1
theorem k1_t25_ok : ∀ (v1169 : BitVec 32) (k1_hw13 : k1_chk13 v1169), (k1_t25_loop v1169).OK := fun v1169 k1_hw13 => k1_hw13.2.2.1
theorem k1_off221_inb : ∀ (v1169 : BitVec 32) (k1_hw13 : k1_chk13 v1169) (k1_t25 : Fin (k1_t25_loop v1169).trips), ∀ a, (k1_off221 v1169 k1_t25) a + S1x1x16.size a ≤ S2x64x128.size a := fun v1169 k1_hw13 k1_t25 => k1_hw13.2.2.2.1 k1_t25
theorem k1_off222_inb : ∀ (v1169 : BitVec 32) (k1_hw13 : k1_chk13 v1169) (k1_t25 : Fin (k1_t25_loop v1169).trips), ∀ a, (k1_off222 v1169 k1_t25) a + S1x1x16.size a ≤ S2x64x128.size a := fun v1169 k1_hw13 k1_t25 => k1_hw13.2.2.2.2.1 k1_t25
theorem k1_off223_inb : ∀ (v1169 : BitVec 32) (k1_hw13 : k1_chk13 v1169) (k1_t25 : Fin (k1_t25_loop v1169).trips), ∀ a, (k1_off223 v1169 k1_t25) a + S1x1x16.size a ≤ S2x64x128.size a := fun v1169 k1_hw13 k1_t25 => k1_hw13.2.2.2.2.2.1 k1_t25
theorem k1_off224_inb : ∀ (v1169 : BitVec 32) (k1_hw13 : k1_chk13 v1169) (k1_t25 : Fin (k1_t25_loop v1169).trips), ∀ a, (k1_off224 v1169 k1_t25) a + S1x1x16.size a ≤ S2x64x128.size a := fun v1169 k1_hw13 k1_t25 => k1_hw13.2.2.2.2.2.2.1 k1_t25
theorem k1_off225_inb : ∀ (v1169 : BitVec 32) (k1_hw13 : k1_chk13 v1169) (k1_t25 : Fin (k1_t25_loop v1169).trips), ∀ a, (k1_off225 v1169 k1_t25) a + S1x1x16.size a ≤ S2x64x128.size a := fun v1169 k1_hw13 k1_t25 => k1_hw13.2.2.2.2.2.2.2.1 k1_t25
theorem k1_off226_inb : ∀ (v1169 : BitVec 32) (k1_hw13 : k1_chk13 v1169) (k1_t25 : Fin (k1_t25_loop v1169).trips), ∀ a, (k1_off226 v1169 k1_t25) a + S1x1x16.size a ≤ S2x64x128.size a := fun v1169 k1_hw13 k1_t25 => k1_hw13.2.2.2.2.2.2.2.2.1 k1_t25
theorem k1_off227_inb : ∀ (v1169 : BitVec 32) (k1_hw13 : k1_chk13 v1169) (k1_t25 : Fin (k1_t25_loop v1169).trips), ∀ a, (k1_off227 v1169 k1_t25) a + S1x1x16.size a ≤ S2x64x128.size a := fun v1169 k1_hw13 k1_t25 => k1_hw13.2.2.2.2.2.2.2.2.2.1 k1_t25
theorem k1_off228_inb : ∀ (v1169 : BitVec 32) (k1_hw13 : k1_chk13 v1169) (k1_t25 : Fin (k1_t25_loop v1169).trips), ∀ a, (k1_off228 v1169 k1_t25) a + S1x1x16.size a ≤ S2x64x128.size a := fun v1169 k1_hw13 k1_t25 => k1_hw13.2.2.2.2.2.2.2.2.2.2.1 k1_t25
theorem k1_t26_ok : ∀ (v1169 : BitVec 32) (k1_hw13 : k1_chk13 v1169), (k1_t26_loop v1169).OK := fun v1169 k1_hw13 => k1_hw13.2.2.2.2.2.2.2.2.2.2.2.1
theorem k1_off229_inb : ∀ (v1169 : BitVec 32) (k1_hw13 : k1_chk13 v1169) (k1_t26 : Fin (k1_t26_loop v1169).trips), ∀ a, (k1_off229 v1169 k1_t26) a + S1x1x16.size a ≤ S2x64x128.size a := fun v1169 k1_hw13 k1_t26 => k1_hw13.2.2.2.2.2.2.2.2.2.2.2.2.1 k1_t26
theorem k1_off230_inb : ∀ (v1169 : BitVec 32) (k1_hw13 : k1_chk13 v1169) (k1_t26 : Fin (k1_t26_loop v1169).trips), ∀ a, (k1_off230 v1169 k1_t26) a + S1x1x16.size a ≤ S2x64x128.size a := fun v1169 k1_hw13 k1_t26 => k1_hw13.2.2.2.2.2.2.2.2.2.2.2.2.2.1 k1_t26
theorem k1_off231_inb : ∀ (v1169 : BitVec 32) (k1_hw13 : k1_chk13 v1169) (k1_t26 : Fin (k1_t26_loop v1169).trips), ∀ a, (k1_off231 v1169 k1_t26) a + S1x1x16.size a ≤ S2x64x128.size a := fun v1169 k1_hw13 k1_t26 => k1_hw13.2.2.2.2.2.2.2.2.2.2.2.2.2.2.1 k1_t26
theorem k1_off232_inb : ∀ (v1169 : BitVec 32) (k1_hw13 : k1_chk13 v1169) (k1_t26 : Fin (k1_t26_loop v1169).trips), ∀ a, (k1_off232 v1169 k1_t26) a + S1x1x16.size a ≤ S2x64x128.size a := fun v1169 k1_hw13 k1_t26 => k1_hw13.2.2.2.2.2.2.2.2.2.2.2.2.2.2.2.1 k1_t26
theorem k1_off233_inb : ∀ (v1169 : BitVec 32) (k1_hw13 : k1_chk13 v1169) (k1_t26 : Fin (k1_t26_loop v1169).trips), ∀ a, (k1_off233 v1169 k1_t26) a + S1x1x16.size a ≤ S2x64x128.size a := fun v1169 k1_hw13 k1_t26 => k1_hw13.2.2.2.2.2.2.2.2.2.2.2.2.2.2.2.2.1 k1_t26
theorem k1_off234_inb : ∀ (v1169 : BitVec 32) (k1_hw13 : k1_chk13 v1169) (k1_t26 : Fin (k1_t26_loop v1169).trips), ∀ a, (k1_off234 v1169 k1_t26) a + S1x1x16.size a ≤ S2x64x128.size a := fun v1169 k1_hw13 k1_t26 => k1_hw13.2.2.2.2.2.2.2.2.2.2.2.2.2.2.2.2.2.1 k1_t26
theorem k1_off235_inb : ∀ (v1169 : BitVec 32) (k1_hw13 : k1_chk13 v1169) (k1_t26 : Fin (k1_t26_loop v1169).trips), ∀ a, (k1_off235 v1169 k1_t26) a + S1x1x16.size a ≤ S2x64x128.size a := fun v1169 k1_hw13 k1_t26 => k1_hw13.2.2.2.2.2.2.2.2.2.2.2.2.2.2.2.2.2.2.1 k1_t26
theorem k1_off236_inb : ∀ (v1169 : BitVec 32) (k1_hw13 : k1_chk13 v1169) (k1_t26 : Fin (k1_t26_loop v1169).trips), ∀ a, (k1_off236 v1169 k1_t26) a + S1x1x16.size a ≤ S2x64x128.size a := fun v1169 k1_hw13 k1_t26 => k1_hw13.2.2.2.2.2.2.2.2.2.2.2.2.2.2.2.2.2.2.2 k1_t26

def k1_off237 (v1375 : BitVec 32) : Fin 2 → Nat :=
  let c0_i32_750 : BitVec 32 := 0#32
  let v1377 : BitVec 1 := Scalar.cmpi .sgt v1375 c0_i32_750
  let v1378 : BitVec 32 := Scalar.extui v1377
  let c0_i32_751 : BitVec 32 := 0#32
  let v1379 : BitVec 1 := Scalar.cmpi .slt v1375 c0_i32_751
  let v1380 : BitVec 32 := Scalar.extui v1379
  let v1381 : BitVec 32 := Scalar.subi v1378 v1380
  let c64_i32_749 : BitVec 32 := 64#32
  let c0_i32_752 : BitVec 32 := 0#32
  let v1382 : BitVec 1 := Scalar.cmpi .sgt c64_i32_749 c0_i32_752
  let v1383 : BitVec 32 := Scalar.extui v1382
  let c0_i32_753 : BitVec 32 := 0#32
  let v1384 : BitVec 1 := Scalar.cmpi .slt c64_i32_749 c0_i32_753
  let v1385 : BitVec 32 := Scalar.extui v1384
  let v1386 : BitVec 32 := Scalar.subi v1383 v1385
  let v1387 : BitVec 1 := Scalar.cmpi .ne v1381 v1386
  let v1388 : BitVec 32 := Scalar.remsi v1375 c64_i32_749
  let c0_i32_754 : BitVec 32 := 0#32
  let v1389 : BitVec 1 := Scalar.cmpi .ne v1388 c0_i32_754
  let v1390 : BitVec 1 := Scalar.andi v1387 v1389
  let v1376 : BitVec 32 := Scalar.divsi v1375 c64_i32_749
  let c1_i32_755 : BitVec 32 := 1#32
  let v1391 : BitVec 32 := Scalar.subi v1376 c1_i32_755
  let v1392 : BitVec 32 := Scalar.select v1390 v1391 v1376
  let c64_i32_756 : BitVec 32 := 64#32
  let v1393 : BitVec 32 := Scalar.muli v1392 c64_i32_756
  let c0_i32_761 : BitVec 32 := 0#32
  ![v1393.toNat, 0]

def k1_off238 (v1272 : BitVec 32) : Fin 2 → Nat :=
  let c0_i32_766 : BitVec 32 := 0#32
  let v1403 : BitVec 1 := Scalar.cmpi .sgt v1272 c0_i32_766
  let v1404 : BitVec 32 := Scalar.extui v1403
  let c0_i32_767 : BitVec 32 := 0#32
  let v1405 : BitVec 1 := Scalar.cmpi .slt v1272 c0_i32_767
  let v1406 : BitVec 32 := Scalar.extui v1405
  let v1407 : BitVec 32 := Scalar.subi v1404 v1406
  let c64_i32_765 : BitVec 32 := 64#32
  let c0_i32_768 : BitVec 32 := 0#32
  let v1408 : BitVec 1 := Scalar.cmpi .sgt c64_i32_765 c0_i32_768
  let v1409 : BitVec 32 := Scalar.extui v1408
  let c0_i32_769 : BitVec 32 := 0#32
  let v1410 : BitVec 1 := Scalar.cmpi .slt c64_i32_765 c0_i32_769
  let v1411 : BitVec 32 := Scalar.extui v1410
  let v1412 : BitVec 32 := Scalar.subi v1409 v1411
  let v1413 : BitVec 1 := Scalar.cmpi .ne v1407 v1412
  let v1414 : BitVec 32 := Scalar.remsi v1272 c64_i32_765
  let c0_i32_770 : BitVec 32 := 0#32
  let v1415 : BitVec 1 := Scalar.cmpi .ne v1414 c0_i32_770
  let v1416 : BitVec 1 := Scalar.andi v1413 v1415
  let v1402 : BitVec 32 := Scalar.divsi v1272 c64_i32_765
  let c1_i32_771 : BitVec 32 := 1#32
  let v1417 : BitVec 32 := Scalar.subi v1402 c1_i32_771
  let v1418 : BitVec 32 := Scalar.select v1416 v1417 v1402
  let c64_i32_772 : BitVec 32 := 64#32
  let v1419 : BitVec 32 := Scalar.muli v1418 c64_i32_772
  let c0_i32_777 : BitVec 32 := 0#32
  ![v1419.toNat, 0]
@[reducible] def k1_t27_loop (v1272 : BitVec 32) : Scf.Loop 32 :=
  let c0_i32_787 : BitVec 32 := 0#32
  let c64_i32_781 : BitVec 32 := 64#32
  let c0_i32_782 : BitVec 32 := 0#32
  let v1428 : BitVec 1 := Scalar.cmpi .eq c64_i32_781 c0_i32_782
  let c1_i32_783 : BitVec 32 := 1#32
  let v1429 : BitVec 32 := Scalar.select v1428 c1_i32_783 c64_i32_781
  let v1430 : BitVec 32 := Scalar.remsi v1272 v1429
  let c0_i32_785 : BitVec 32 := 0#32
  let v1432 : BitVec 1 := Scalar.cmpi .slt v1430 c0_i32_785
  let c0_i32_786 : BitVec 32 := 0#32
  let v1433 : BitVec 1 := Scalar.cmpi .slt v1429 c0_i32_786
  let v1434 : BitVec 1 := Scalar.xori v1432 v1433
  let c0_i32_784 : BitVec 32 := 0#32
  let v1431 : BitVec 1 := Scalar.cmpi .ne v1430 c0_i32_784
  let v1435 : BitVec 1 := Scalar.andi v1434 v1431
  let v1436 : BitVec 32 := Scalar.addi v1430 v1429
  let v1437 : BitVec 32 := Scalar.select v1435 v1436 v1430
  let v1438 : BitVec 32 := Scalar.subi v1437 c0_i32_787
  let c1_i32_788 : BitVec 32 := 1#32
  let v1440 : BitVec 32 := Scalar.divsi v1438 c1_i32_788
  let v1441 : BitVec 32 := Scalar.muli v1440 c1_i32_788
  let v1442 : BitVec 32 := Scalar.addi c0_i32_787 v1441
  let c1_i32_789 : BitVec 32 := 1#32
  ⟨c0_i32_787, v1442, c1_i32_789⟩
def k1_off239 (v1272 : BitVec 32) (k1_t27 : Fin (k1_t27_loop v1272).trips) : Fin 3 → Nat :=
  let c1_i32_905 : BitVec 32 := 1#32
  let v1656 : Index := Scalar.indexCast c1_i32_905
  let c0_i32_787 : BitVec 32 := 0#32
  let c1_i32_789 : BitVec 32 := 1#32
  let arg9 : BitVec 32 := Scf.iv c0_i32_787 c1_i32_789 k1_t27
  let v1657 : Index := Scalar.indexCast arg9
  let c0_906 : Index := 0#32
  ![1, v1657.toNat, 0]
def k1_off240 (v1272 : BitVec 32) (k1_t27 : Fin (k1_t27_loop v1272).trips) : Fin 3 → Nat :=
  let c1_i32_907 : BitVec 32 := 1#32
  let v1661 : Index := Scalar.indexCast c1_i32_907
  let c0_i32_787 : BitVec 32 := 0#32
  let c1_i32_789 : BitVec 32 := 1#32
  let arg9 : BitVec 32 := Scf.iv c0_i32_787 c1_i32_789 k1_t27
  let v1662 : Index := Scalar.indexCast arg9
  let c16_908 : Index := 16#32
  ![1, v1662.toNat, 16]
def k1_off241 (v1272 : BitVec 32) (k1_t27 : Fin (k1_t27_loop v1272).trips) : Fin 3 → Nat :=
  let c1_i32_909 : BitVec 32 := 1#32
  let v1666 : Index := Scalar.indexCast c1_i32_909
  let c0_i32_787 : BitVec 32 := 0#32
  let c1_i32_789 : BitVec 32 := 1#32
  let arg9 : BitVec 32 := Scf.iv c0_i32_787 c1_i32_789 k1_t27
  let v1667 : Index := Scalar.indexCast arg9
  let c32_910 : Index := 32#32
  ![1, v1667.toNat, 32]
def k1_off242 (v1272 : BitVec 32) (k1_t27 : Fin (k1_t27_loop v1272).trips) : Fin 3 → Nat :=
  let c1_i32_911 : BitVec 32 := 1#32
  let v1671 : Index := Scalar.indexCast c1_i32_911
  let c0_i32_787 : BitVec 32 := 0#32
  let c1_i32_789 : BitVec 32 := 1#32
  let arg9 : BitVec 32 := Scf.iv c0_i32_787 c1_i32_789 k1_t27
  let v1672 : Index := Scalar.indexCast arg9
  let c48_912 : Index := 48#32
  ![1, v1672.toNat, 48]
def k1_off243 (v1272 : BitVec 32) (k1_t27 : Fin (k1_t27_loop v1272).trips) : Fin 3 → Nat :=
  let c1_i32_913 : BitVec 32 := 1#32
  let v1676 : Index := Scalar.indexCast c1_i32_913
  let c0_i32_787 : BitVec 32 := 0#32
  let c1_i32_789 : BitVec 32 := 1#32
  let arg9 : BitVec 32 := Scf.iv c0_i32_787 c1_i32_789 k1_t27
  let v1677 : Index := Scalar.indexCast arg9
  let c64_914 : Index := 64#32
  ![1, v1677.toNat, 64]
def k1_off244 (v1272 : BitVec 32) (k1_t27 : Fin (k1_t27_loop v1272).trips) : Fin 3 → Nat :=
  let c1_i32_915 : BitVec 32 := 1#32
  let v1681 : Index := Scalar.indexCast c1_i32_915
  let c0_i32_787 : BitVec 32 := 0#32
  let c1_i32_789 : BitVec 32 := 1#32
  let arg9 : BitVec 32 := Scf.iv c0_i32_787 c1_i32_789 k1_t27
  let v1682 : Index := Scalar.indexCast arg9
  let c80_916 : Index := 80#32
  ![1, v1682.toNat, 80]
def k1_off245 (v1272 : BitVec 32) (k1_t27 : Fin (k1_t27_loop v1272).trips) : Fin 3 → Nat :=
  let c1_i32_917 : BitVec 32 := 1#32
  let v1686 : Index := Scalar.indexCast c1_i32_917
  let c0_i32_787 : BitVec 32 := 0#32
  let c1_i32_789 : BitVec 32 := 1#32
  let arg9 : BitVec 32 := Scf.iv c0_i32_787 c1_i32_789 k1_t27
  let v1687 : Index := Scalar.indexCast arg9
  let c96_918 : Index := 96#32
  ![1, v1687.toNat, 96]
def k1_off246 (v1272 : BitVec 32) (k1_t27 : Fin (k1_t27_loop v1272).trips) : Fin 3 → Nat :=
  let c1_i32_919 : BitVec 32 := 1#32
  let v1691 : Index := Scalar.indexCast c1_i32_919
  let c0_i32_787 : BitVec 32 := 0#32
  let c1_i32_789 : BitVec 32 := 1#32
  let arg9 : BitVec 32 := Scf.iv c0_i32_787 c1_i32_789 k1_t27
  let v1692 : Index := Scalar.indexCast arg9
  let c112_920 : Index := 112#32
  ![1, v1692.toNat, 112]
@[reducible] def k1_t28_loop (v1272 : BitVec 32) : Scf.Loop 32 :=
  let c0_i32_787 : BitVec 32 := 0#32
  let c64_i32_781 : BitVec 32 := 64#32
  let c0_i32_782 : BitVec 32 := 0#32
  let v1428 : BitVec 1 := Scalar.cmpi .eq c64_i32_781 c0_i32_782
  let c1_i32_783 : BitVec 32 := 1#32
  let v1429 : BitVec 32 := Scalar.select v1428 c1_i32_783 c64_i32_781
  let v1430 : BitVec 32 := Scalar.remsi v1272 v1429
  let c0_i32_785 : BitVec 32 := 0#32
  let v1432 : BitVec 1 := Scalar.cmpi .slt v1430 c0_i32_785
  let c0_i32_786 : BitVec 32 := 0#32
  let v1433 : BitVec 1 := Scalar.cmpi .slt v1429 c0_i32_786
  let v1434 : BitVec 1 := Scalar.xori v1432 v1433
  let c0_i32_784 : BitVec 32 := 0#32
  let v1431 : BitVec 1 := Scalar.cmpi .ne v1430 c0_i32_784
  let v1435 : BitVec 1 := Scalar.andi v1434 v1431
  let v1436 : BitVec 32 := Scalar.addi v1430 v1429
  let v1437 : BitVec 32 := Scalar.select v1435 v1436 v1430
  let v1438 : BitVec 32 := Scalar.subi v1437 c0_i32_787
  let c1_i32_788 : BitVec 32 := 1#32
  let v1440 : BitVec 32 := Scalar.divsi v1438 c1_i32_788
  let v1441 : BitVec 32 := Scalar.muli v1440 c1_i32_788
  let v1442 : BitVec 32 := Scalar.addi c0_i32_787 v1441
  let v1439 : BitVec 32 := Scalar.addi c0_i32_787 v1438
  let c1_i32_790 : BitVec 32 := 1#32
  ⟨v1442, v1439, c1_i32_790⟩
def k1_off247 (v1272 : BitVec 32) (k1_t28 : Fin (k1_t28_loop v1272).trips) : Fin 3 → Nat :=
  let c1_i32_905 : BitVec 32 := 1#32
  let v1656 : Index := Scalar.indexCast c1_i32_905
  let c0_i32_787 : BitVec 32 := 0#32
  let c64_i32_781 : BitVec 32 := 64#32
  let c0_i32_782 : BitVec 32 := 0#32
  let v1428 : BitVec 1 := Scalar.cmpi .eq c64_i32_781 c0_i32_782
  let c1_i32_783 : BitVec 32 := 1#32
  let v1429 : BitVec 32 := Scalar.select v1428 c1_i32_783 c64_i32_781
  let v1430 : BitVec 32 := Scalar.remsi v1272 v1429
  let c0_i32_785 : BitVec 32 := 0#32
  let v1432 : BitVec 1 := Scalar.cmpi .slt v1430 c0_i32_785
  let c0_i32_786 : BitVec 32 := 0#32
  let v1433 : BitVec 1 := Scalar.cmpi .slt v1429 c0_i32_786
  let v1434 : BitVec 1 := Scalar.xori v1432 v1433
  let c0_i32_784 : BitVec 32 := 0#32
  let v1431 : BitVec 1 := Scalar.cmpi .ne v1430 c0_i32_784
  let v1435 : BitVec 1 := Scalar.andi v1434 v1431
  let v1436 : BitVec 32 := Scalar.addi v1430 v1429
  let v1437 : BitVec 32 := Scalar.select v1435 v1436 v1430
  let v1438 : BitVec 32 := Scalar.subi v1437 c0_i32_787
  let c1_i32_788 : BitVec 32 := 1#32
  let v1440 : BitVec 32 := Scalar.divsi v1438 c1_i32_788
  let v1441 : BitVec 32 := Scalar.muli v1440 c1_i32_788
  let v1442 : BitVec 32 := Scalar.addi c0_i32_787 v1441
  let c1_i32_790 : BitVec 32 := 1#32
  let arg9 : BitVec 32 := Scf.iv v1442 c1_i32_790 k1_t28
  let v1657 : Index := Scalar.indexCast arg9
  let c0_906 : Index := 0#32
  ![1, v1657.toNat, 0]
def k1_off248 (v1272 : BitVec 32) (k1_t28 : Fin (k1_t28_loop v1272).trips) : Fin 3 → Nat :=
  let c1_i32_907 : BitVec 32 := 1#32
  let v1661 : Index := Scalar.indexCast c1_i32_907
  let c0_i32_787 : BitVec 32 := 0#32
  let c64_i32_781 : BitVec 32 := 64#32
  let c0_i32_782 : BitVec 32 := 0#32
  let v1428 : BitVec 1 := Scalar.cmpi .eq c64_i32_781 c0_i32_782
  let c1_i32_783 : BitVec 32 := 1#32
  let v1429 : BitVec 32 := Scalar.select v1428 c1_i32_783 c64_i32_781
  let v1430 : BitVec 32 := Scalar.remsi v1272 v1429
  let c0_i32_785 : BitVec 32 := 0#32
  let v1432 : BitVec 1 := Scalar.cmpi .slt v1430 c0_i32_785
  let c0_i32_786 : BitVec 32 := 0#32
  let v1433 : BitVec 1 := Scalar.cmpi .slt v1429 c0_i32_786
  let v1434 : BitVec 1 := Scalar.xori v1432 v1433
  let c0_i32_784 : BitVec 32 := 0#32
  let v1431 : BitVec 1 := Scalar.cmpi .ne v1430 c0_i32_784
  let v1435 : BitVec 1 := Scalar.andi v1434 v1431
  let v1436 : BitVec 32 := Scalar.addi v1430 v1429
  let v1437 : BitVec 32 := Scalar.select v1435 v1436 v1430
  let v1438 : BitVec 32 := Scalar.subi v1437 c0_i32_787
  let c1_i32_788 : BitVec 32 := 1#32
  let v1440 : BitVec 32 := Scalar.divsi v1438 c1_i32_788
  let v1441 : BitVec 32 := Scalar.muli v1440 c1_i32_788
  let v1442 : BitVec 32 := Scalar.addi c0_i32_787 v1441
  let c1_i32_790 : BitVec 32 := 1#32
  let arg9 : BitVec 32 := Scf.iv v1442 c1_i32_790 k1_t28
  let v1662 : Index := Scalar.indexCast arg9
  let c16_908 : Index := 16#32
  ![1, v1662.toNat, 16]
def k1_off249 (v1272 : BitVec 32) (k1_t28 : Fin (k1_t28_loop v1272).trips) : Fin 3 → Nat :=
  let c1_i32_909 : BitVec 32 := 1#32
  let v1666 : Index := Scalar.indexCast c1_i32_909
  let c0_i32_787 : BitVec 32 := 0#32
  let c64_i32_781 : BitVec 32 := 64#32
  let c0_i32_782 : BitVec 32 := 0#32
  let v1428 : BitVec 1 := Scalar.cmpi .eq c64_i32_781 c0_i32_782
  let c1_i32_783 : BitVec 32 := 1#32
  let v1429 : BitVec 32 := Scalar.select v1428 c1_i32_783 c64_i32_781
  let v1430 : BitVec 32 := Scalar.remsi v1272 v1429
  let c0_i32_785 : BitVec 32 := 0#32
  let v1432 : BitVec 1 := Scalar.cmpi .slt v1430 c0_i32_785
  let c0_i32_786 : BitVec 32 := 0#32
  let v1433 : BitVec 1 := Scalar.cmpi .slt v1429 c0_i32_786
  let v1434 : BitVec 1 := Scalar.xori v1432 v1433
  let c0_i32_784 : BitVec 32 := 0#32
  let v1431 : BitVec 1 := Scalar.cmpi .ne v1430 c0_i32_784
  let v1435 : BitVec 1 := Scalar.andi v1434 v1431
  let v1436 : BitVec 32 := Scalar.addi v1430 v1429
  let v1437 : BitVec 32 := Scalar.select v1435 v1436 v1430
  let v1438 : BitVec 32 := Scalar.subi v1437 c0_i32_787
  let c1_i32_788 : BitVec 32 := 1#32
  let v1440 : BitVec 32 := Scalar.divsi v1438 c1_i32_788
  let v1441 : BitVec 32 := Scalar.muli v1440 c1_i32_788
  let v1442 : BitVec 32 := Scalar.addi c0_i32_787 v1441
  let c1_i32_790 : BitVec 32 := 1#32
  let arg9 : BitVec 32 := Scf.iv v1442 c1_i32_790 k1_t28
  let v1667 : Index := Scalar.indexCast arg9
  let c32_910 : Index := 32#32
  ![1, v1667.toNat, 32]
def k1_off250 (v1272 : BitVec 32) (k1_t28 : Fin (k1_t28_loop v1272).trips) : Fin 3 → Nat :=
  let c1_i32_911 : BitVec 32 := 1#32
  let v1671 : Index := Scalar.indexCast c1_i32_911
  let c0_i32_787 : BitVec 32 := 0#32
  let c64_i32_781 : BitVec 32 := 64#32
  let c0_i32_782 : BitVec 32 := 0#32
  let v1428 : BitVec 1 := Scalar.cmpi .eq c64_i32_781 c0_i32_782
  let c1_i32_783 : BitVec 32 := 1#32
  let v1429 : BitVec 32 := Scalar.select v1428 c1_i32_783 c64_i32_781
  let v1430 : BitVec 32 := Scalar.remsi v1272 v1429
  let c0_i32_785 : BitVec 32 := 0#32
  let v1432 : BitVec 1 := Scalar.cmpi .slt v1430 c0_i32_785
  let c0_i32_786 : BitVec 32 := 0#32
  let v1433 : BitVec 1 := Scalar.cmpi .slt v1429 c0_i32_786
  let v1434 : BitVec 1 := Scalar.xori v1432 v1433
  let c0_i32_784 : BitVec 32 := 0#32
  let v1431 : BitVec 1 := Scalar.cmpi .ne v1430 c0_i32_784
  let v1435 : BitVec 1 := Scalar.andi v1434 v1431
  let v1436 : BitVec 32 := Scalar.addi v1430 v1429
  let v1437 : BitVec 32 := Scalar.select v1435 v1436 v1430
  let v1438 : BitVec 32 := Scalar.subi v1437 c0_i32_787
  let c1_i32_788 : BitVec 32 := 1#32
  let v1440 : BitVec 32 := Scalar.divsi v1438 c1_i32_788
  let v1441 : BitVec 32 := Scalar.muli v1440 c1_i32_788
  let v1442 : BitVec 32 := Scalar.addi c0_i32_787 v1441
  let c1_i32_790 : BitVec 32 := 1#32
  let arg9 : BitVec 32 := Scf.iv v1442 c1_i32_790 k1_t28
  let v1672 : Index := Scalar.indexCast arg9
  let c48_912 : Index := 48#32
  ![1, v1672.toNat, 48]
def k1_off251 (v1272 : BitVec 32) (k1_t28 : Fin (k1_t28_loop v1272).trips) : Fin 3 → Nat :=
  let c1_i32_913 : BitVec 32 := 1#32
  let v1676 : Index := Scalar.indexCast c1_i32_913
  let c0_i32_787 : BitVec 32 := 0#32
  let c64_i32_781 : BitVec 32 := 64#32
  let c0_i32_782 : BitVec 32 := 0#32
  let v1428 : BitVec 1 := Scalar.cmpi .eq c64_i32_781 c0_i32_782
  let c1_i32_783 : BitVec 32 := 1#32
  let v1429 : BitVec 32 := Scalar.select v1428 c1_i32_783 c64_i32_781
  let v1430 : BitVec 32 := Scalar.remsi v1272 v1429
  let c0_i32_785 : BitVec 32 := 0#32
  let v1432 : BitVec 1 := Scalar.cmpi .slt v1430 c0_i32_785
  let c0_i32_786 : BitVec 32 := 0#32
  let v1433 : BitVec 1 := Scalar.cmpi .slt v1429 c0_i32_786
  let v1434 : BitVec 1 := Scalar.xori v1432 v1433
  let c0_i32_784 : BitVec 32 := 0#32
  let v1431 : BitVec 1 := Scalar.cmpi .ne v1430 c0_i32_784
  let v1435 : BitVec 1 := Scalar.andi v1434 v1431
  let v1436 : BitVec 32 := Scalar.addi v1430 v1429
  let v1437 : BitVec 32 := Scalar.select v1435 v1436 v1430
  let v1438 : BitVec 32 := Scalar.subi v1437 c0_i32_787
  let c1_i32_788 : BitVec 32 := 1#32
  let v1440 : BitVec 32 := Scalar.divsi v1438 c1_i32_788
  let v1441 : BitVec 32 := Scalar.muli v1440 c1_i32_788
  let v1442 : BitVec 32 := Scalar.addi c0_i32_787 v1441
  let c1_i32_790 : BitVec 32 := 1#32
  let arg9 : BitVec 32 := Scf.iv v1442 c1_i32_790 k1_t28
  let v1677 : Index := Scalar.indexCast arg9
  let c64_914 : Index := 64#32
  ![1, v1677.toNat, 64]
def k1_off252 (v1272 : BitVec 32) (k1_t28 : Fin (k1_t28_loop v1272).trips) : Fin 3 → Nat :=
  let c1_i32_915 : BitVec 32 := 1#32
  let v1681 : Index := Scalar.indexCast c1_i32_915
  let c0_i32_787 : BitVec 32 := 0#32
  let c64_i32_781 : BitVec 32 := 64#32
  let c0_i32_782 : BitVec 32 := 0#32
  let v1428 : BitVec 1 := Scalar.cmpi .eq c64_i32_781 c0_i32_782
  let c1_i32_783 : BitVec 32 := 1#32
  let v1429 : BitVec 32 := Scalar.select v1428 c1_i32_783 c64_i32_781
  let v1430 : BitVec 32 := Scalar.remsi v1272 v1429
  let c0_i32_785 : BitVec 32 := 0#32
  let v1432 : BitVec 1 := Scalar.cmpi .slt v1430 c0_i32_785
  let c0_i32_786 : BitVec 32 := 0#32
  let v1433 : BitVec 1 := Scalar.cmpi .slt v1429 c0_i32_786
  let v1434 : BitVec 1 := Scalar.xori v1432 v1433
  let c0_i32_784 : BitVec 32 := 0#32
  let v1431 : BitVec 1 := Scalar.cmpi .ne v1430 c0_i32_784
  let v1435 : BitVec 1 := Scalar.andi v1434 v1431
  let v1436 : BitVec 32 := Scalar.addi v1430 v1429
  let v1437 : BitVec 32 := Scalar.select v1435 v1436 v1430
  let v1438 : BitVec 32 := Scalar.subi v1437 c0_i32_787
  let c1_i32_788 : BitVec 32 := 1#32
  let v1440 : BitVec 32 := Scalar.divsi v1438 c1_i32_788
  let v1441 : BitVec 32 := Scalar.muli v1440 c1_i32_788
  let v1442 : BitVec 32 := Scalar.addi c0_i32_787 v1441
  let c1_i32_790 : BitVec 32 := 1#32
  let arg9 : BitVec 32 := Scf.iv v1442 c1_i32_790 k1_t28
  let v1682 : Index := Scalar.indexCast arg9
  let c80_916 : Index := 80#32
  ![1, v1682.toNat, 80]
def k1_off253 (v1272 : BitVec 32) (k1_t28 : Fin (k1_t28_loop v1272).trips) : Fin 3 → Nat :=
  let c1_i32_917 : BitVec 32 := 1#32
  let v1686 : Index := Scalar.indexCast c1_i32_917
  let c0_i32_787 : BitVec 32 := 0#32
  let c64_i32_781 : BitVec 32 := 64#32
  let c0_i32_782 : BitVec 32 := 0#32
  let v1428 : BitVec 1 := Scalar.cmpi .eq c64_i32_781 c0_i32_782
  let c1_i32_783 : BitVec 32 := 1#32
  let v1429 : BitVec 32 := Scalar.select v1428 c1_i32_783 c64_i32_781
  let v1430 : BitVec 32 := Scalar.remsi v1272 v1429
  let c0_i32_785 : BitVec 32 := 0#32
  let v1432 : BitVec 1 := Scalar.cmpi .slt v1430 c0_i32_785
  let c0_i32_786 : BitVec 32 := 0#32
  let v1433 : BitVec 1 := Scalar.cmpi .slt v1429 c0_i32_786
  let v1434 : BitVec 1 := Scalar.xori v1432 v1433
  let c0_i32_784 : BitVec 32 := 0#32
  let v1431 : BitVec 1 := Scalar.cmpi .ne v1430 c0_i32_784
  let v1435 : BitVec 1 := Scalar.andi v1434 v1431
  let v1436 : BitVec 32 := Scalar.addi v1430 v1429
  let v1437 : BitVec 32 := Scalar.select v1435 v1436 v1430
  let v1438 : BitVec 32 := Scalar.subi v1437 c0_i32_787
  let c1_i32_788 : BitVec 32 := 1#32
  let v1440 : BitVec 32 := Scalar.divsi v1438 c1_i32_788
  let v1441 : BitVec 32 := Scalar.muli v1440 c1_i32_788
  let v1442 : BitVec 32 := Scalar.addi c0_i32_787 v1441
  let c1_i32_790 : BitVec 32 := 1#32
  let arg9 : BitVec 32 := Scf.iv v1442 c1_i32_790 k1_t28
  let v1687 : Index := Scalar.indexCast arg9
  let c96_918 : Index := 96#32
  ![1, v1687.toNat, 96]
def k1_off254 (v1272 : BitVec 32) (k1_t28 : Fin (k1_t28_loop v1272).trips) : Fin 3 → Nat :=
  let c1_i32_919 : BitVec 32 := 1#32
  let v1691 : Index := Scalar.indexCast c1_i32_919
  let c0_i32_787 : BitVec 32 := 0#32
  let c64_i32_781 : BitVec 32 := 64#32
  let c0_i32_782 : BitVec 32 := 0#32
  let v1428 : BitVec 1 := Scalar.cmpi .eq c64_i32_781 c0_i32_782
  let c1_i32_783 : BitVec 32 := 1#32
  let v1429 : BitVec 32 := Scalar.select v1428 c1_i32_783 c64_i32_781
  let v1430 : BitVec 32 := Scalar.remsi v1272 v1429
  let c0_i32_785 : BitVec 32 := 0#32
  let v1432 : BitVec 1 := Scalar.cmpi .slt v1430 c0_i32_785
  let c0_i32_786 : BitVec 32 := 0#32
  let v1433 : BitVec 1 := Scalar.cmpi .slt v1429 c0_i32_786
  let v1434 : BitVec 1 := Scalar.xori v1432 v1433
  let c0_i32_784 : BitVec 32 := 0#32
  let v1431 : BitVec 1 := Scalar.cmpi .ne v1430 c0_i32_784
  let v1435 : BitVec 1 := Scalar.andi v1434 v1431
  let v1436 : BitVec 32 := Scalar.addi v1430 v1429
  let v1437 : BitVec 32 := Scalar.select v1435 v1436 v1430
  let v1438 : BitVec 32 := Scalar.subi v1437 c0_i32_787
  let c1_i32_788 : BitVec 32 := 1#32
  let v1440 : BitVec 32 := Scalar.divsi v1438 c1_i32_788
  let v1441 : BitVec 32 := Scalar.muli v1440 c1_i32_788
  let v1442 : BitVec 32 := Scalar.addi c0_i32_787 v1441
  let c1_i32_790 : BitVec 32 := 1#32
  let arg9 : BitVec 32 := Scf.iv v1442 c1_i32_790 k1_t28
  let v1692 : Index := Scalar.indexCast arg9
  let c112_920 : Index := 112#32
  ![1, v1692.toNat, 112]

def k1_chk14 (v1272 : BitVec 32) : Prop :=
  (∀ a, (k1_off219 v1272) a + S64x128.size a ≤ S320000x128.size a) ∧
  (∀ a, (k1_off238 v1272) a + S64x128.size a ≤ S320000x128.size a) ∧
  ((k1_t27_loop v1272).OK) ∧
  (∀ k1_t27 : Fin (k1_t27_loop v1272).trips, ∀ a, (k1_off239 v1272 k1_t27) a + S1x1x16.size a ≤ S2x64x128.size a) ∧
  (∀ k1_t27 : Fin (k1_t27_loop v1272).trips, ∀ a, (k1_off240 v1272 k1_t27) a + S1x1x16.size a ≤ S2x64x128.size a) ∧
  (∀ k1_t27 : Fin (k1_t27_loop v1272).trips, ∀ a, (k1_off241 v1272 k1_t27) a + S1x1x16.size a ≤ S2x64x128.size a) ∧
  (∀ k1_t27 : Fin (k1_t27_loop v1272).trips, ∀ a, (k1_off242 v1272 k1_t27) a + S1x1x16.size a ≤ S2x64x128.size a) ∧
  (∀ k1_t27 : Fin (k1_t27_loop v1272).trips, ∀ a, (k1_off243 v1272 k1_t27) a + S1x1x16.size a ≤ S2x64x128.size a) ∧
  (∀ k1_t27 : Fin (k1_t27_loop v1272).trips, ∀ a, (k1_off244 v1272 k1_t27) a + S1x1x16.size a ≤ S2x64x128.size a) ∧
  (∀ k1_t27 : Fin (k1_t27_loop v1272).trips, ∀ a, (k1_off245 v1272 k1_t27) a + S1x1x16.size a ≤ S2x64x128.size a) ∧
  (∀ k1_t27 : Fin (k1_t27_loop v1272).trips, ∀ a, (k1_off246 v1272 k1_t27) a + S1x1x16.size a ≤ S2x64x128.size a) ∧
  ((k1_t28_loop v1272).OK) ∧
  (∀ k1_t28 : Fin (k1_t28_loop v1272).trips, ∀ a, (k1_off247 v1272 k1_t28) a + S1x1x16.size a ≤ S2x64x128.size a) ∧
  (∀ k1_t28 : Fin (k1_t28_loop v1272).trips, ∀ a, (k1_off248 v1272 k1_t28) a + S1x1x16.size a ≤ S2x64x128.size a) ∧
  (∀ k1_t28 : Fin (k1_t28_loop v1272).trips, ∀ a, (k1_off249 v1272 k1_t28) a + S1x1x16.size a ≤ S2x64x128.size a) ∧
  (∀ k1_t28 : Fin (k1_t28_loop v1272).trips, ∀ a, (k1_off250 v1272 k1_t28) a + S1x1x16.size a ≤ S2x64x128.size a) ∧
  (∀ k1_t28 : Fin (k1_t28_loop v1272).trips, ∀ a, (k1_off251 v1272 k1_t28) a + S1x1x16.size a ≤ S2x64x128.size a) ∧
  (∀ k1_t28 : Fin (k1_t28_loop v1272).trips, ∀ a, (k1_off252 v1272 k1_t28) a + S1x1x16.size a ≤ S2x64x128.size a) ∧
  (∀ k1_t28 : Fin (k1_t28_loop v1272).trips, ∀ a, (k1_off253 v1272 k1_t28) a + S1x1x16.size a ≤ S2x64x128.size a) ∧
  (∀ k1_t28 : Fin (k1_t28_loop v1272).trips, ∀ a, (k1_off254 v1272 k1_t28) a + S1x1x16.size a ≤ S2x64x128.size a)
theorem k1_off219_inb : ∀ (v1272 : BitVec 32) (k1_hw14 : k1_chk14 v1272), ∀ a, (k1_off219 v1272) a + S64x128.size a ≤ S320000x128.size a := fun v1272 k1_hw14 => k1_hw14.1
theorem k1_off238_inb : ∀ (v1272 : BitVec 32) (k1_hw14 : k1_chk14 v1272), ∀ a, (k1_off238 v1272) a + S64x128.size a ≤ S320000x128.size a := fun v1272 k1_hw14 => k1_hw14.2.1
theorem k1_t27_ok : ∀ (v1272 : BitVec 32) (k1_hw14 : k1_chk14 v1272), (k1_t27_loop v1272).OK := fun v1272 k1_hw14 => k1_hw14.2.2.1
theorem k1_off239_inb : ∀ (v1272 : BitVec 32) (k1_hw14 : k1_chk14 v1272) (k1_t27 : Fin (k1_t27_loop v1272).trips), ∀ a, (k1_off239 v1272 k1_t27) a + S1x1x16.size a ≤ S2x64x128.size a := fun v1272 k1_hw14 k1_t27 => k1_hw14.2.2.2.1 k1_t27
theorem k1_off240_inb : ∀ (v1272 : BitVec 32) (k1_hw14 : k1_chk14 v1272) (k1_t27 : Fin (k1_t27_loop v1272).trips), ∀ a, (k1_off240 v1272 k1_t27) a + S1x1x16.size a ≤ S2x64x128.size a := fun v1272 k1_hw14 k1_t27 => k1_hw14.2.2.2.2.1 k1_t27
theorem k1_off241_inb : ∀ (v1272 : BitVec 32) (k1_hw14 : k1_chk14 v1272) (k1_t27 : Fin (k1_t27_loop v1272).trips), ∀ a, (k1_off241 v1272 k1_t27) a + S1x1x16.size a ≤ S2x64x128.size a := fun v1272 k1_hw14 k1_t27 => k1_hw14.2.2.2.2.2.1 k1_t27
theorem k1_off242_inb : ∀ (v1272 : BitVec 32) (k1_hw14 : k1_chk14 v1272) (k1_t27 : Fin (k1_t27_loop v1272).trips), ∀ a, (k1_off242 v1272 k1_t27) a + S1x1x16.size a ≤ S2x64x128.size a := fun v1272 k1_hw14 k1_t27 => k1_hw14.2.2.2.2.2.2.1 k1_t27
theorem k1_off243_inb : ∀ (v1272 : BitVec 32) (k1_hw14 : k1_chk14 v1272) (k1_t27 : Fin (k1_t27_loop v1272).trips), ∀ a, (k1_off243 v1272 k1_t27) a + S1x1x16.size a ≤ S2x64x128.size a := fun v1272 k1_hw14 k1_t27 => k1_hw14.2.2.2.2.2.2.2.1 k1_t27
theorem k1_off244_inb : ∀ (v1272 : BitVec 32) (k1_hw14 : k1_chk14 v1272) (k1_t27 : Fin (k1_t27_loop v1272).trips), ∀ a, (k1_off244 v1272 k1_t27) a + S1x1x16.size a ≤ S2x64x128.size a := fun v1272 k1_hw14 k1_t27 => k1_hw14.2.2.2.2.2.2.2.2.1 k1_t27
theorem k1_off245_inb : ∀ (v1272 : BitVec 32) (k1_hw14 : k1_chk14 v1272) (k1_t27 : Fin (k1_t27_loop v1272).trips), ∀ a, (k1_off245 v1272 k1_t27) a + S1x1x16.size a ≤ S2x64x128.size a := fun v1272 k1_hw14 k1_t27 => k1_hw14.2.2.2.2.2.2.2.2.2.1 k1_t27
theorem k1_off246_inb : ∀ (v1272 : BitVec 32) (k1_hw14 : k1_chk14 v1272) (k1_t27 : Fin (k1_t27_loop v1272).trips), ∀ a, (k1_off246 v1272 k1_t27) a + S1x1x16.size a ≤ S2x64x128.size a := fun v1272 k1_hw14 k1_t27 => k1_hw14.2.2.2.2.2.2.2.2.2.2.1 k1_t27
theorem k1_t28_ok : ∀ (v1272 : BitVec 32) (k1_hw14 : k1_chk14 v1272), (k1_t28_loop v1272).OK := fun v1272 k1_hw14 => k1_hw14.2.2.2.2.2.2.2.2.2.2.2.1
theorem k1_off247_inb : ∀ (v1272 : BitVec 32) (k1_hw14 : k1_chk14 v1272) (k1_t28 : Fin (k1_t28_loop v1272).trips), ∀ a, (k1_off247 v1272 k1_t28) a + S1x1x16.size a ≤ S2x64x128.size a := fun v1272 k1_hw14 k1_t28 => k1_hw14.2.2.2.2.2.2.2.2.2.2.2.2.1 k1_t28
theorem k1_off248_inb : ∀ (v1272 : BitVec 32) (k1_hw14 : k1_chk14 v1272) (k1_t28 : Fin (k1_t28_loop v1272).trips), ∀ a, (k1_off248 v1272 k1_t28) a + S1x1x16.size a ≤ S2x64x128.size a := fun v1272 k1_hw14 k1_t28 => k1_hw14.2.2.2.2.2.2.2.2.2.2.2.2.2.1 k1_t28
theorem k1_off249_inb : ∀ (v1272 : BitVec 32) (k1_hw14 : k1_chk14 v1272) (k1_t28 : Fin (k1_t28_loop v1272).trips), ∀ a, (k1_off249 v1272 k1_t28) a + S1x1x16.size a ≤ S2x64x128.size a := fun v1272 k1_hw14 k1_t28 => k1_hw14.2.2.2.2.2.2.2.2.2.2.2.2.2.2.1 k1_t28
theorem k1_off250_inb : ∀ (v1272 : BitVec 32) (k1_hw14 : k1_chk14 v1272) (k1_t28 : Fin (k1_t28_loop v1272).trips), ∀ a, (k1_off250 v1272 k1_t28) a + S1x1x16.size a ≤ S2x64x128.size a := fun v1272 k1_hw14 k1_t28 => k1_hw14.2.2.2.2.2.2.2.2.2.2.2.2.2.2.2.1 k1_t28
theorem k1_off251_inb : ∀ (v1272 : BitVec 32) (k1_hw14 : k1_chk14 v1272) (k1_t28 : Fin (k1_t28_loop v1272).trips), ∀ a, (k1_off251 v1272 k1_t28) a + S1x1x16.size a ≤ S2x64x128.size a := fun v1272 k1_hw14 k1_t28 => k1_hw14.2.2.2.2.2.2.2.2.2.2.2.2.2.2.2.2.1 k1_t28
theorem k1_off252_inb : ∀ (v1272 : BitVec 32) (k1_hw14 : k1_chk14 v1272) (k1_t28 : Fin (k1_t28_loop v1272).trips), ∀ a, (k1_off252 v1272 k1_t28) a + S1x1x16.size a ≤ S2x64x128.size a := fun v1272 k1_hw14 k1_t28 => k1_hw14.2.2.2.2.2.2.2.2.2.2.2.2.2.2.2.2.2.1 k1_t28
theorem k1_off253_inb : ∀ (v1272 : BitVec 32) (k1_hw14 : k1_chk14 v1272) (k1_t28 : Fin (k1_t28_loop v1272).trips), ∀ a, (k1_off253 v1272 k1_t28) a + S1x1x16.size a ≤ S2x64x128.size a := fun v1272 k1_hw14 k1_t28 => k1_hw14.2.2.2.2.2.2.2.2.2.2.2.2.2.2.2.2.2.2.1 k1_t28
theorem k1_off254_inb : ∀ (v1272 : BitVec 32) (k1_hw14 : k1_chk14 v1272) (k1_t28 : Fin (k1_t28_loop v1272).trips), ∀ a, (k1_off254 v1272 k1_t28) a + S1x1x16.size a ≤ S2x64x128.size a := fun v1272 k1_hw14 k1_t28 => k1_hw14.2.2.2.2.2.2.2.2.2.2.2.2.2.2.2.2.2.2.2 k1_t28

def k1_off255 (v1478 : BitVec 32) : Fin 2 → Nat :=
  let c0_i32_807 : BitVec 32 := 0#32
  let v1480 : BitVec 1 := Scalar.cmpi .sgt v1478 c0_i32_807
  let v1481 : BitVec 32 := Scalar.extui v1480
  let c0_i32_808 : BitVec 32 := 0#32
  let v1482 : BitVec 1 := Scalar.cmpi .slt v1478 c0_i32_808
  let v1483 : BitVec 32 := Scalar.extui v1482
  let v1484 : BitVec 32 := Scalar.subi v1481 v1483
  let c64_i32_806 : BitVec 32 := 64#32
  let c0_i32_809 : BitVec 32 := 0#32
  let v1485 : BitVec 1 := Scalar.cmpi .sgt c64_i32_806 c0_i32_809
  let v1486 : BitVec 32 := Scalar.extui v1485
  let c0_i32_810 : BitVec 32 := 0#32
  let v1487 : BitVec 1 := Scalar.cmpi .slt c64_i32_806 c0_i32_810
  let v1488 : BitVec 32 := Scalar.extui v1487
  let v1489 : BitVec 32 := Scalar.subi v1486 v1488
  let v1490 : BitVec 1 := Scalar.cmpi .ne v1484 v1489
  let v1491 : BitVec 32 := Scalar.remsi v1478 c64_i32_806
  let c0_i32_811 : BitVec 32 := 0#32
  let v1492 : BitVec 1 := Scalar.cmpi .ne v1491 c0_i32_811
  let v1493 : BitVec 1 := Scalar.andi v1490 v1492
  let v1479 : BitVec 32 := Scalar.divsi v1478 c64_i32_806
  let c1_i32_812 : BitVec 32 := 1#32
  let v1494 : BitVec 32 := Scalar.subi v1479 c1_i32_812
  let v1495 : BitVec 32 := Scalar.select v1493 v1494 v1479
  let c64_i32_813 : BitVec 32 := 64#32
  let v1496 : BitVec 32 := Scalar.muli v1495 c64_i32_813
  let c0_i32_818 : BitVec 32 := 0#32
  ![v1496.toNat, 0]

def k1_off256 (v1375 : BitVec 32) : Fin 2 → Nat :=
  let c0_i32_823 : BitVec 32 := 0#32
  let v1506 : BitVec 1 := Scalar.cmpi .sgt v1375 c0_i32_823
  let v1507 : BitVec 32 := Scalar.extui v1506
  let c0_i32_824 : BitVec 32 := 0#32
  let v1508 : BitVec 1 := Scalar.cmpi .slt v1375 c0_i32_824
  let v1509 : BitVec 32 := Scalar.extui v1508
  let v1510 : BitVec 32 := Scalar.subi v1507 v1509
  let c64_i32_822 : BitVec 32 := 64#32
  let c0_i32_825 : BitVec 32 := 0#32
  let v1511 : BitVec 1 := Scalar.cmpi .sgt c64_i32_822 c0_i32_825
  let v1512 : BitVec 32 := Scalar.extui v1511
  let c0_i32_826 : BitVec 32 := 0#32
  let v1513 : BitVec 1 := Scalar.cmpi .slt c64_i32_822 c0_i32_826
  let v1514 : BitVec 32 := Scalar.extui v1513
  let v1515 : BitVec 32 := Scalar.subi v1512 v1514
  let v1516 : BitVec 1 := Scalar.cmpi .ne v1510 v1515
  let v1517 : BitVec 32 := Scalar.remsi v1375 c64_i32_822
  let c0_i32_827 : BitVec 32 := 0#32
  let v1518 : BitVec 1 := Scalar.cmpi .ne v1517 c0_i32_827
  let v1519 : BitVec 1 := Scalar.andi v1516 v1518
  let v1505 : BitVec 32 := Scalar.divsi v1375 c64_i32_822
  let c1_i32_828 : BitVec 32 := 1#32
  let v1520 : BitVec 32 := Scalar.subi v1505 c1_i32_828
  let v1521 : BitVec 32 := Scalar.select v1519 v1520 v1505
  let c64_i32_829 : BitVec 32 := 64#32
  let v1522 : BitVec 32 := Scalar.muli v1521 c64_i32_829
  let c0_i32_834 : BitVec 32 := 0#32
  ![v1522.toNat, 0]
@[reducible] def k1_t29_loop (v1375 : BitVec 32) : Scf.Loop 32 :=
  let c0_i32_844 : BitVec 32 := 0#32
  let c64_i32_838 : BitVec 32 := 64#32
  let c0_i32_839 : BitVec 32 := 0#32
  let v1531 : BitVec 1 := Scalar.cmpi .eq c64_i32_838 c0_i32_839
  let c1_i32_840 : BitVec 32 := 1#32
  let v1532 : BitVec 32 := Scalar.select v1531 c1_i32_840 c64_i32_838
  let v1533 : BitVec 32 := Scalar.remsi v1375 v1532
  let c0_i32_842 : BitVec 32 := 0#32
  let v1535 : BitVec 1 := Scalar.cmpi .slt v1533 c0_i32_842
  let c0_i32_843 : BitVec 32 := 0#32
  let v1536 : BitVec 1 := Scalar.cmpi .slt v1532 c0_i32_843
  let v1537 : BitVec 1 := Scalar.xori v1535 v1536
  let c0_i32_841 : BitVec 32 := 0#32
  let v1534 : BitVec 1 := Scalar.cmpi .ne v1533 c0_i32_841
  let v1538 : BitVec 1 := Scalar.andi v1537 v1534
  let v1539 : BitVec 32 := Scalar.addi v1533 v1532
  let v1540 : BitVec 32 := Scalar.select v1538 v1539 v1533
  let v1541 : BitVec 32 := Scalar.subi v1540 c0_i32_844
  let c1_i32_845 : BitVec 32 := 1#32
  let v1543 : BitVec 32 := Scalar.divsi v1541 c1_i32_845
  let v1544 : BitVec 32 := Scalar.muli v1543 c1_i32_845
  let v1545 : BitVec 32 := Scalar.addi c0_i32_844 v1544
  let c1_i32_846 : BitVec 32 := 1#32
  ⟨c0_i32_844, v1545, c1_i32_846⟩
def k1_off257 (v1375 : BitVec 32) (k1_t29 : Fin (k1_t29_loop v1375).trips) : Fin 3 → Nat :=
  let c0_i32_905 : BitVec 32 := 0#32
  let v1656 : Index := Scalar.indexCast c0_i32_905
  let c0_i32_844 : BitVec 32 := 0#32
  let c1_i32_846 : BitVec 32 := 1#32
  let arg9 : BitVec 32 := Scf.iv c0_i32_844 c1_i32_846 k1_t29
  let v1657 : Index := Scalar.indexCast arg9
  let c0_906 : Index := 0#32
  ![0, v1657.toNat, 0]
def k1_off258 (v1375 : BitVec 32) (k1_t29 : Fin (k1_t29_loop v1375).trips) : Fin 3 → Nat :=
  let c0_i32_907 : BitVec 32 := 0#32
  let v1661 : Index := Scalar.indexCast c0_i32_907
  let c0_i32_844 : BitVec 32 := 0#32
  let c1_i32_846 : BitVec 32 := 1#32
  let arg9 : BitVec 32 := Scf.iv c0_i32_844 c1_i32_846 k1_t29
  let v1662 : Index := Scalar.indexCast arg9
  let c16_908 : Index := 16#32
  ![0, v1662.toNat, 16]
def k1_off259 (v1375 : BitVec 32) (k1_t29 : Fin (k1_t29_loop v1375).trips) : Fin 3 → Nat :=
  let c0_i32_909 : BitVec 32 := 0#32
  let v1666 : Index := Scalar.indexCast c0_i32_909
  let c0_i32_844 : BitVec 32 := 0#32
  let c1_i32_846 : BitVec 32 := 1#32
  let arg9 : BitVec 32 := Scf.iv c0_i32_844 c1_i32_846 k1_t29
  let v1667 : Index := Scalar.indexCast arg9
  let c32_910 : Index := 32#32
  ![0, v1667.toNat, 32]
def k1_off260 (v1375 : BitVec 32) (k1_t29 : Fin (k1_t29_loop v1375).trips) : Fin 3 → Nat :=
  let c0_i32_911 : BitVec 32 := 0#32
  let v1671 : Index := Scalar.indexCast c0_i32_911
  let c0_i32_844 : BitVec 32 := 0#32
  let c1_i32_846 : BitVec 32 := 1#32
  let arg9 : BitVec 32 := Scf.iv c0_i32_844 c1_i32_846 k1_t29
  let v1672 : Index := Scalar.indexCast arg9
  let c48_912 : Index := 48#32
  ![0, v1672.toNat, 48]
def k1_off261 (v1375 : BitVec 32) (k1_t29 : Fin (k1_t29_loop v1375).trips) : Fin 3 → Nat :=
  let c0_i32_913 : BitVec 32 := 0#32
  let v1676 : Index := Scalar.indexCast c0_i32_913
  let c0_i32_844 : BitVec 32 := 0#32
  let c1_i32_846 : BitVec 32 := 1#32
  let arg9 : BitVec 32 := Scf.iv c0_i32_844 c1_i32_846 k1_t29
  let v1677 : Index := Scalar.indexCast arg9
  let c64_914 : Index := 64#32
  ![0, v1677.toNat, 64]
def k1_off262 (v1375 : BitVec 32) (k1_t29 : Fin (k1_t29_loop v1375).trips) : Fin 3 → Nat :=
  let c0_i32_915 : BitVec 32 := 0#32
  let v1681 : Index := Scalar.indexCast c0_i32_915
  let c0_i32_844 : BitVec 32 := 0#32
  let c1_i32_846 : BitVec 32 := 1#32
  let arg9 : BitVec 32 := Scf.iv c0_i32_844 c1_i32_846 k1_t29
  let v1682 : Index := Scalar.indexCast arg9
  let c80_916 : Index := 80#32
  ![0, v1682.toNat, 80]
def k1_off263 (v1375 : BitVec 32) (k1_t29 : Fin (k1_t29_loop v1375).trips) : Fin 3 → Nat :=
  let c0_i32_917 : BitVec 32 := 0#32
  let v1686 : Index := Scalar.indexCast c0_i32_917
  let c0_i32_844 : BitVec 32 := 0#32
  let c1_i32_846 : BitVec 32 := 1#32
  let arg9 : BitVec 32 := Scf.iv c0_i32_844 c1_i32_846 k1_t29
  let v1687 : Index := Scalar.indexCast arg9
  let c96_918 : Index := 96#32
  ![0, v1687.toNat, 96]
def k1_off264 (v1375 : BitVec 32) (k1_t29 : Fin (k1_t29_loop v1375).trips) : Fin 3 → Nat :=
  let c0_i32_919 : BitVec 32 := 0#32
  let v1691 : Index := Scalar.indexCast c0_i32_919
  let c0_i32_844 : BitVec 32 := 0#32
  let c1_i32_846 : BitVec 32 := 1#32
  let arg9 : BitVec 32 := Scf.iv c0_i32_844 c1_i32_846 k1_t29
  let v1692 : Index := Scalar.indexCast arg9
  let c112_920 : Index := 112#32
  ![0, v1692.toNat, 112]
@[reducible] def k1_t30_loop (v1375 : BitVec 32) : Scf.Loop 32 :=
  let c0_i32_844 : BitVec 32 := 0#32
  let c64_i32_838 : BitVec 32 := 64#32
  let c0_i32_839 : BitVec 32 := 0#32
  let v1531 : BitVec 1 := Scalar.cmpi .eq c64_i32_838 c0_i32_839
  let c1_i32_840 : BitVec 32 := 1#32
  let v1532 : BitVec 32 := Scalar.select v1531 c1_i32_840 c64_i32_838
  let v1533 : BitVec 32 := Scalar.remsi v1375 v1532
  let c0_i32_842 : BitVec 32 := 0#32
  let v1535 : BitVec 1 := Scalar.cmpi .slt v1533 c0_i32_842
  let c0_i32_843 : BitVec 32 := 0#32
  let v1536 : BitVec 1 := Scalar.cmpi .slt v1532 c0_i32_843
  let v1537 : BitVec 1 := Scalar.xori v1535 v1536
  let c0_i32_841 : BitVec 32 := 0#32
  let v1534 : BitVec 1 := Scalar.cmpi .ne v1533 c0_i32_841
  let v1538 : BitVec 1 := Scalar.andi v1537 v1534
  let v1539 : BitVec 32 := Scalar.addi v1533 v1532
  let v1540 : BitVec 32 := Scalar.select v1538 v1539 v1533
  let v1541 : BitVec 32 := Scalar.subi v1540 c0_i32_844
  let c1_i32_845 : BitVec 32 := 1#32
  let v1543 : BitVec 32 := Scalar.divsi v1541 c1_i32_845
  let v1544 : BitVec 32 := Scalar.muli v1543 c1_i32_845
  let v1545 : BitVec 32 := Scalar.addi c0_i32_844 v1544
  let v1542 : BitVec 32 := Scalar.addi c0_i32_844 v1541
  let c1_i32_847 : BitVec 32 := 1#32
  ⟨v1545, v1542, c1_i32_847⟩
def k1_off265 (v1375 : BitVec 32) (k1_t30 : Fin (k1_t30_loop v1375).trips) : Fin 3 → Nat :=
  let c0_i32_905 : BitVec 32 := 0#32
  let v1656 : Index := Scalar.indexCast c0_i32_905
  let c0_i32_844 : BitVec 32 := 0#32
  let c64_i32_838 : BitVec 32 := 64#32
  let c0_i32_839 : BitVec 32 := 0#32
  let v1531 : BitVec 1 := Scalar.cmpi .eq c64_i32_838 c0_i32_839
  let c1_i32_840 : BitVec 32 := 1#32
  let v1532 : BitVec 32 := Scalar.select v1531 c1_i32_840 c64_i32_838
  let v1533 : BitVec 32 := Scalar.remsi v1375 v1532
  let c0_i32_842 : BitVec 32 := 0#32
  let v1535 : BitVec 1 := Scalar.cmpi .slt v1533 c0_i32_842
  let c0_i32_843 : BitVec 32 := 0#32
  let v1536 : BitVec 1 := Scalar.cmpi .slt v1532 c0_i32_843
  let v1537 : BitVec 1 := Scalar.xori v1535 v1536
  let c0_i32_841 : BitVec 32 := 0#32
  let v1534 : BitVec 1 := Scalar.cmpi .ne v1533 c0_i32_841
  let v1538 : BitVec 1 := Scalar.andi v1537 v1534
  let v1539 : BitVec 32 := Scalar.addi v1533 v1532
  let v1540 : BitVec 32 := Scalar.select v1538 v1539 v1533
  let v1541 : BitVec 32 := Scalar.subi v1540 c0_i32_844
  let c1_i32_845 : BitVec 32 := 1#32
  let v1543 : BitVec 32 := Scalar.divsi v1541 c1_i32_845
  let v1544 : BitVec 32 := Scalar.muli v1543 c1_i32_845
  let v1545 : BitVec 32 := Scalar.addi c0_i32_844 v1544
  let c1_i32_847 : BitVec 32 := 1#32
  let arg9 : BitVec 32 := Scf.iv v1545 c1_i32_847 k1_t30
  let v1657 : Index := Scalar.indexCast arg9
  let c0_906 : Index := 0#32
  ![0, v1657.toNat, 0]
def k1_off266 (v1375 : BitVec 32) (k1_t30 : Fin (k1_t30_loop v1375).trips) : Fin 3 → Nat :=
  let c0_i32_907 : BitVec 32 := 0#32
  let v1661 : Index := Scalar.indexCast c0_i32_907
  let c0_i32_844 : BitVec 32 := 0#32
  let c64_i32_838 : BitVec 32 := 64#32
  let c0_i32_839 : BitVec 32 := 0#32
  let v1531 : BitVec 1 := Scalar.cmpi .eq c64_i32_838 c0_i32_839
  let c1_i32_840 : BitVec 32 := 1#32
  let v1532 : BitVec 32 := Scalar.select v1531 c1_i32_840 c64_i32_838
  let v1533 : BitVec 32 := Scalar.remsi v1375 v1532
  let c0_i32_842 : BitVec 32 := 0#32
  let v1535 : BitVec 1 := Scalar.cmpi .slt v1533 c0_i32_842
  let c0_i32_843 : BitVec 32 := 0#32
  let v1536 : BitVec 1 := Scalar.cmpi .slt v1532 c0_i32_843
  let v1537 : BitVec 1 := Scalar.xori v1535 v1536
  let c0_i32_841 : BitVec 32 := 0#32
  let v1534 : BitVec 1 := Scalar.cmpi .ne v1533 c0_i32_841
  let v1538 : BitVec 1 := Scalar.andi v1537 v1534
  let v1539 : BitVec 32 := Scalar.addi v1533 v1532
  let v1540 : BitVec 32 := Scalar.select v1538 v1539 v1533
  let v1541 : BitVec 32 := Scalar.subi v1540 c0_i32_844
  let c1_i32_845 : BitVec 32 := 1#32
  let v1543 : BitVec 32 := Scalar.divsi v1541 c1_i32_845
  let v1544 : BitVec 32 := Scalar.muli v1543 c1_i32_845
  let v1545 : BitVec 32 := Scalar.addi c0_i32_844 v1544
  let c1_i32_847 : BitVec 32 := 1#32
  let arg9 : BitVec 32 := Scf.iv v1545 c1_i32_847 k1_t30
  let v1662 : Index := Scalar.indexCast arg9
  let c16_908 : Index := 16#32
  ![0, v1662.toNat, 16]
def k1_off267 (v1375 : BitVec 32) (k1_t30 : Fin (k1_t30_loop v1375).trips) : Fin 3 → Nat :=
  let c0_i32_909 : BitVec 32 := 0#32
  let v1666 : Index := Scalar.indexCast c0_i32_909
  let c0_i32_844 : BitVec 32 := 0#32
  let c64_i32_838 : BitVec 32 := 64#32
  let c0_i32_839 : BitVec 32 := 0#32
  let v1531 : BitVec 1 := Scalar.cmpi .eq c64_i32_838 c0_i32_839
  let c1_i32_840 : BitVec 32 := 1#32
  let v1532 : BitVec 32 := Scalar.select v1531 c1_i32_840 c64_i32_838
  let v1533 : BitVec 32 := Scalar.remsi v1375 v1532
  let c0_i32_842 : BitVec 32 := 0#32
  let v1535 : BitVec 1 := Scalar.cmpi .slt v1533 c0_i32_842
  let c0_i32_843 : BitVec 32 := 0#32
  let v1536 : BitVec 1 := Scalar.cmpi .slt v1532 c0_i32_843
  let v1537 : BitVec 1 := Scalar.xori v1535 v1536
  let c0_i32_841 : BitVec 32 := 0#32
  let v1534 : BitVec 1 := Scalar.cmpi .ne v1533 c0_i32_841
  let v1538 : BitVec 1 := Scalar.andi v1537 v1534
  let v1539 : BitVec 32 := Scalar.addi v1533 v1532
  let v1540 : BitVec 32 := Scalar.select v1538 v1539 v1533
  let v1541 : BitVec 32 := Scalar.subi v1540 c0_i32_844
  let c1_i32_845 : BitVec 32 := 1#32
  let v1543 : BitVec 32 := Scalar.divsi v1541 c1_i32_845
  let v1544 : BitVec 32 := Scalar.muli v1543 c1_i32_845
  let v1545 : BitVec 32 := Scalar.addi c0_i32_844 v1544
  let c1_i32_847 : BitVec 32 := 1#32
  let arg9 : BitVec 32 := Scf.iv v1545 c1_i32_847 k1_t30
  let v1667 : Index := Scalar.indexCast arg9
  let c32_910 : Index := 32#32
  ![0, v1667.toNat, 32]
def k1_off268 (v1375 : BitVec 32) (k1_t30 : Fin (k1_t30_loop v1375).trips) : Fin 3 → Nat :=
  let c0_i32_911 : BitVec 32 := 0#32
  let v1671 : Index := Scalar.indexCast c0_i32_911
  let c0_i32_844 : BitVec 32 := 0#32
  let c64_i32_838 : BitVec 32 := 64#32
  let c0_i32_839 : BitVec 32 := 0#32
  let v1531 : BitVec 1 := Scalar.cmpi .eq c64_i32_838 c0_i32_839
  let c1_i32_840 : BitVec 32 := 1#32
  let v1532 : BitVec 32 := Scalar.select v1531 c1_i32_840 c64_i32_838
  let v1533 : BitVec 32 := Scalar.remsi v1375 v1532
  let c0_i32_842 : BitVec 32 := 0#32
  let v1535 : BitVec 1 := Scalar.cmpi .slt v1533 c0_i32_842
  let c0_i32_843 : BitVec 32 := 0#32
  let v1536 : BitVec 1 := Scalar.cmpi .slt v1532 c0_i32_843
  let v1537 : BitVec 1 := Scalar.xori v1535 v1536
  let c0_i32_841 : BitVec 32 := 0#32
  let v1534 : BitVec 1 := Scalar.cmpi .ne v1533 c0_i32_841
  let v1538 : BitVec 1 := Scalar.andi v1537 v1534
  let v1539 : BitVec 32 := Scalar.addi v1533 v1532
  let v1540 : BitVec 32 := Scalar.select v1538 v1539 v1533
  let v1541 : BitVec 32 := Scalar.subi v1540 c0_i32_844
  let c1_i32_845 : BitVec 32 := 1#32
  let v1543 : BitVec 32 := Scalar.divsi v1541 c1_i32_845
  let v1544 : BitVec 32 := Scalar.muli v1543 c1_i32_845
  let v1545 : BitVec 32 := Scalar.addi c0_i32_844 v1544
  let c1_i32_847 : BitVec 32 := 1#32
  let arg9 : BitVec 32 := Scf.iv v1545 c1_i32_847 k1_t30
  let v1672 : Index := Scalar.indexCast arg9
  let c48_912 : Index := 48#32
  ![0, v1672.toNat, 48]
def k1_off269 (v1375 : BitVec 32) (k1_t30 : Fin (k1_t30_loop v1375).trips) : Fin 3 → Nat :=
  let c0_i32_913 : BitVec 32 := 0#32
  let v1676 : Index := Scalar.indexCast c0_i32_913
  let c0_i32_844 : BitVec 32 := 0#32
  let c64_i32_838 : BitVec 32 := 64#32
  let c0_i32_839 : BitVec 32 := 0#32
  let v1531 : BitVec 1 := Scalar.cmpi .eq c64_i32_838 c0_i32_839
  let c1_i32_840 : BitVec 32 := 1#32
  let v1532 : BitVec 32 := Scalar.select v1531 c1_i32_840 c64_i32_838
  let v1533 : BitVec 32 := Scalar.remsi v1375 v1532
  let c0_i32_842 : BitVec 32 := 0#32
  let v1535 : BitVec 1 := Scalar.cmpi .slt v1533 c0_i32_842
  let c0_i32_843 : BitVec 32 := 0#32
  let v1536 : BitVec 1 := Scalar.cmpi .slt v1532 c0_i32_843
  let v1537 : BitVec 1 := Scalar.xori v1535 v1536
  let c0_i32_841 : BitVec 32 := 0#32
  let v1534 : BitVec 1 := Scalar.cmpi .ne v1533 c0_i32_841
  let v1538 : BitVec 1 := Scalar.andi v1537 v1534
  let v1539 : BitVec 32 := Scalar.addi v1533 v1532
  let v1540 : BitVec 32 := Scalar.select v1538 v1539 v1533
  let v1541 : BitVec 32 := Scalar.subi v1540 c0_i32_844
  let c1_i32_845 : BitVec 32 := 1#32
  let v1543 : BitVec 32 := Scalar.divsi v1541 c1_i32_845
  let v1544 : BitVec 32 := Scalar.muli v1543 c1_i32_845
  let v1545 : BitVec 32 := Scalar.addi c0_i32_844 v1544
  let c1_i32_847 : BitVec 32 := 1#32
  let arg9 : BitVec 32 := Scf.iv v1545 c1_i32_847 k1_t30
  let v1677 : Index := Scalar.indexCast arg9
  let c64_914 : Index := 64#32
  ![0, v1677.toNat, 64]
def k1_off270 (v1375 : BitVec 32) (k1_t30 : Fin (k1_t30_loop v1375).trips) : Fin 3 → Nat :=
  let c0_i32_915 : BitVec 32 := 0#32
  let v1681 : Index := Scalar.indexCast c0_i32_915
  let c0_i32_844 : BitVec 32 := 0#32
  let c64_i32_838 : BitVec 32 := 64#32
  let c0_i32_839 : BitVec 32 := 0#32
  let v1531 : BitVec 1 := Scalar.cmpi .eq c64_i32_838 c0_i32_839
  let c1_i32_840 : BitVec 32 := 1#32
  let v1532 : BitVec 32 := Scalar.select v1531 c1_i32_840 c64_i32_838
  let v1533 : BitVec 32 := Scalar.remsi v1375 v1532
  let c0_i32_842 : BitVec 32 := 0#32
  let v1535 : BitVec 1 := Scalar.cmpi .slt v1533 c0_i32_842
  let c0_i32_843 : BitVec 32 := 0#32
  let v1536 : BitVec 1 := Scalar.cmpi .slt v1532 c0_i32_843
  let v1537 : BitVec 1 := Scalar.xori v1535 v1536
  let c0_i32_841 : BitVec 32 := 0#32
  let v1534 : BitVec 1 := Scalar.cmpi .ne v1533 c0_i32_841
  let v1538 : BitVec 1 := Scalar.andi v1537 v1534
  let v1539 : BitVec 32 := Scalar.addi v1533 v1532
  let v1540 : BitVec 32 := Scalar.select v1538 v1539 v1533
  let v1541 : BitVec 32 := Scalar.subi v1540 c0_i32_844
  let c1_i32_845 : BitVec 32 := 1#32
  let v1543 : BitVec 32 := Scalar.divsi v1541 c1_i32_845
  let v1544 : BitVec 32 := Scalar.muli v1543 c1_i32_845
  let v1545 : BitVec 32 := Scalar.addi c0_i32_844 v1544
  let c1_i32_847 : BitVec 32 := 1#32
  let arg9 : BitVec 32 := Scf.iv v1545 c1_i32_847 k1_t30
  let v1682 : Index := Scalar.indexCast arg9
  let c80_916 : Index := 80#32
  ![0, v1682.toNat, 80]
def k1_off271 (v1375 : BitVec 32) (k1_t30 : Fin (k1_t30_loop v1375).trips) : Fin 3 → Nat :=
  let c0_i32_917 : BitVec 32 := 0#32
  let v1686 : Index := Scalar.indexCast c0_i32_917
  let c0_i32_844 : BitVec 32 := 0#32
  let c64_i32_838 : BitVec 32 := 64#32
  let c0_i32_839 : BitVec 32 := 0#32
  let v1531 : BitVec 1 := Scalar.cmpi .eq c64_i32_838 c0_i32_839
  let c1_i32_840 : BitVec 32 := 1#32
  let v1532 : BitVec 32 := Scalar.select v1531 c1_i32_840 c64_i32_838
  let v1533 : BitVec 32 := Scalar.remsi v1375 v1532
  let c0_i32_842 : BitVec 32 := 0#32
  let v1535 : BitVec 1 := Scalar.cmpi .slt v1533 c0_i32_842
  let c0_i32_843 : BitVec 32 := 0#32
  let v1536 : BitVec 1 := Scalar.cmpi .slt v1532 c0_i32_843
  let v1537 : BitVec 1 := Scalar.xori v1535 v1536
  let c0_i32_841 : BitVec 32 := 0#32
  let v1534 : BitVec 1 := Scalar.cmpi .ne v1533 c0_i32_841
  let v1538 : BitVec 1 := Scalar.andi v1537 v1534
  let v1539 : BitVec 32 := Scalar.addi v1533 v1532
  let v1540 : BitVec 32 := Scalar.select v1538 v1539 v1533
  let v1541 : BitVec 32 := Scalar.subi v1540 c0_i32_844
  let c1_i32_845 : BitVec 32 := 1#32
  let v1543 : BitVec 32 := Scalar.divsi v1541 c1_i32_845
  let v1544 : BitVec 32 := Scalar.muli v1543 c1_i32_845
  let v1545 : BitVec 32 := Scalar.addi c0_i32_844 v1544
  let c1_i32_847 : BitVec 32 := 1#32
  let arg9 : BitVec 32 := Scf.iv v1545 c1_i32_847 k1_t30
  let v1687 : Index := Scalar.indexCast arg9
  let c96_918 : Index := 96#32
  ![0, v1687.toNat, 96]
def k1_off272 (v1375 : BitVec 32) (k1_t30 : Fin (k1_t30_loop v1375).trips) : Fin 3 → Nat :=
  let c0_i32_919 : BitVec 32 := 0#32
  let v1691 : Index := Scalar.indexCast c0_i32_919
  let c0_i32_844 : BitVec 32 := 0#32
  let c64_i32_838 : BitVec 32 := 64#32
  let c0_i32_839 : BitVec 32 := 0#32
  let v1531 : BitVec 1 := Scalar.cmpi .eq c64_i32_838 c0_i32_839
  let c1_i32_840 : BitVec 32 := 1#32
  let v1532 : BitVec 32 := Scalar.select v1531 c1_i32_840 c64_i32_838
  let v1533 : BitVec 32 := Scalar.remsi v1375 v1532
  let c0_i32_842 : BitVec 32 := 0#32
  let v1535 : BitVec 1 := Scalar.cmpi .slt v1533 c0_i32_842
  let c0_i32_843 : BitVec 32 := 0#32
  let v1536 : BitVec 1 := Scalar.cmpi .slt v1532 c0_i32_843
  let v1537 : BitVec 1 := Scalar.xori v1535 v1536
  let c0_i32_841 : BitVec 32 := 0#32
  let v1534 : BitVec 1 := Scalar.cmpi .ne v1533 c0_i32_841
  let v1538 : BitVec 1 := Scalar.andi v1537 v1534
  let v1539 : BitVec 32 := Scalar.addi v1533 v1532
  let v1540 : BitVec 32 := Scalar.select v1538 v1539 v1533
  let v1541 : BitVec 32 := Scalar.subi v1540 c0_i32_844
  let c1_i32_845 : BitVec 32 := 1#32
  let v1543 : BitVec 32 := Scalar.divsi v1541 c1_i32_845
  let v1544 : BitVec 32 := Scalar.muli v1543 c1_i32_845
  let v1545 : BitVec 32 := Scalar.addi c0_i32_844 v1544
  let c1_i32_847 : BitVec 32 := 1#32
  let arg9 : BitVec 32 := Scf.iv v1545 c1_i32_847 k1_t30
  let v1692 : Index := Scalar.indexCast arg9
  let c112_920 : Index := 112#32
  ![0, v1692.toNat, 112]

def k1_chk15 (v1375 : BitVec 32) : Prop :=
  (∀ a, (k1_off237 v1375) a + S64x128.size a ≤ S320000x128.size a) ∧
  (∀ a, (k1_off256 v1375) a + S64x128.size a ≤ S320000x128.size a) ∧
  ((k1_t29_loop v1375).OK) ∧
  (∀ k1_t29 : Fin (k1_t29_loop v1375).trips, ∀ a, (k1_off257 v1375 k1_t29) a + S1x1x16.size a ≤ S2x64x128.size a) ∧
  (∀ k1_t29 : Fin (k1_t29_loop v1375).trips, ∀ a, (k1_off258 v1375 k1_t29) a + S1x1x16.size a ≤ S2x64x128.size a) ∧
  (∀ k1_t29 : Fin (k1_t29_loop v1375).trips, ∀ a, (k1_off259 v1375 k1_t29) a + S1x1x16.size a ≤ S2x64x128.size a) ∧
  (∀ k1_t29 : Fin (k1_t29_loop v1375).trips, ∀ a, (k1_off260 v1375 k1_t29) a + S1x1x16.size a ≤ S2x64x128.size a) ∧
  (∀ k1_t29 : Fin (k1_t29_loop v1375).trips, ∀ a, (k1_off261 v1375 k1_t29) a + S1x1x16.size a ≤ S2x64x128.size a) ∧
  (∀ k1_t29 : Fin (k1_t29_loop v1375).trips, ∀ a, (k1_off262 v1375 k1_t29) a + S1x1x16.size a ≤ S2x64x128.size a) ∧
  (∀ k1_t29 : Fin (k1_t29_loop v1375).trips, ∀ a, (k1_off263 v1375 k1_t29) a + S1x1x16.size a ≤ S2x64x128.size a) ∧
  (∀ k1_t29 : Fin (k1_t29_loop v1375).trips, ∀ a, (k1_off264 v1375 k1_t29) a + S1x1x16.size a ≤ S2x64x128.size a) ∧
  ((k1_t30_loop v1375).OK) ∧
  (∀ k1_t30 : Fin (k1_t30_loop v1375).trips, ∀ a, (k1_off265 v1375 k1_t30) a + S1x1x16.size a ≤ S2x64x128.size a) ∧
  (∀ k1_t30 : Fin (k1_t30_loop v1375).trips, ∀ a, (k1_off266 v1375 k1_t30) a + S1x1x16.size a ≤ S2x64x128.size a) ∧
  (∀ k1_t30 : Fin (k1_t30_loop v1375).trips, ∀ a, (k1_off267 v1375 k1_t30) a + S1x1x16.size a ≤ S2x64x128.size a) ∧
  (∀ k1_t30 : Fin (k1_t30_loop v1375).trips, ∀ a, (k1_off268 v1375 k1_t30) a + S1x1x16.size a ≤ S2x64x128.size a) ∧
  (∀ k1_t30 : Fin (k1_t30_loop v1375).trips, ∀ a, (k1_off269 v1375 k1_t30) a + S1x1x16.size a ≤ S2x64x128.size a) ∧
  (∀ k1_t30 : Fin (k1_t30_loop v1375).trips, ∀ a, (k1_off270 v1375 k1_t30) a + S1x1x16.size a ≤ S2x64x128.size a) ∧
  (∀ k1_t30 : Fin (k1_t30_loop v1375).trips, ∀ a, (k1_off271 v1375 k1_t30) a + S1x1x16.size a ≤ S2x64x128.size a) ∧
  (∀ k1_t30 : Fin (k1_t30_loop v1375).trips, ∀ a, (k1_off272 v1375 k1_t30) a + S1x1x16.size a ≤ S2x64x128.size a)
theorem k1_off237_inb : ∀ (v1375 : BitVec 32) (k1_hw15 : k1_chk15 v1375), ∀ a, (k1_off237 v1375) a + S64x128.size a ≤ S320000x128.size a := fun v1375 k1_hw15 => k1_hw15.1
theorem k1_off256_inb : ∀ (v1375 : BitVec 32) (k1_hw15 : k1_chk15 v1375), ∀ a, (k1_off256 v1375) a + S64x128.size a ≤ S320000x128.size a := fun v1375 k1_hw15 => k1_hw15.2.1
theorem k1_t29_ok : ∀ (v1375 : BitVec 32) (k1_hw15 : k1_chk15 v1375), (k1_t29_loop v1375).OK := fun v1375 k1_hw15 => k1_hw15.2.2.1
theorem k1_off257_inb : ∀ (v1375 : BitVec 32) (k1_hw15 : k1_chk15 v1375) (k1_t29 : Fin (k1_t29_loop v1375).trips), ∀ a, (k1_off257 v1375 k1_t29) a + S1x1x16.size a ≤ S2x64x128.size a := fun v1375 k1_hw15 k1_t29 => k1_hw15.2.2.2.1 k1_t29
theorem k1_off258_inb : ∀ (v1375 : BitVec 32) (k1_hw15 : k1_chk15 v1375) (k1_t29 : Fin (k1_t29_loop v1375).trips), ∀ a, (k1_off258 v1375 k1_t29) a + S1x1x16.size a ≤ S2x64x128.size a := fun v1375 k1_hw15 k1_t29 => k1_hw15.2.2.2.2.1 k1_t29
theorem k1_off259_inb : ∀ (v1375 : BitVec 32) (k1_hw15 : k1_chk15 v1375) (k1_t29 : Fin (k1_t29_loop v1375).trips), ∀ a, (k1_off259 v1375 k1_t29) a + S1x1x16.size a ≤ S2x64x128.size a := fun v1375 k1_hw15 k1_t29 => k1_hw15.2.2.2.2.2.1 k1_t29
theorem k1_off260_inb : ∀ (v1375 : BitVec 32) (k1_hw15 : k1_chk15 v1375) (k1_t29 : Fin (k1_t29_loop v1375).trips), ∀ a, (k1_off260 v1375 k1_t29) a + S1x1x16.size a ≤ S2x64x128.size a := fun v1375 k1_hw15 k1_t29 => k1_hw15.2.2.2.2.2.2.1 k1_t29
theorem k1_off261_inb : ∀ (v1375 : BitVec 32) (k1_hw15 : k1_chk15 v1375) (k1_t29 : Fin (k1_t29_loop v1375).trips), ∀ a, (k1_off261 v1375 k1_t29) a + S1x1x16.size a ≤ S2x64x128.size a := fun v1375 k1_hw15 k1_t29 => k1_hw15.2.2.2.2.2.2.2.1 k1_t29
theorem k1_off262_inb : ∀ (v1375 : BitVec 32) (k1_hw15 : k1_chk15 v1375) (k1_t29 : Fin (k1_t29_loop v1375).trips), ∀ a, (k1_off262 v1375 k1_t29) a + S1x1x16.size a ≤ S2x64x128.size a := fun v1375 k1_hw15 k1_t29 => k1_hw15.2.2.2.2.2.2.2.2.1 k1_t29
theorem k1_off263_inb : ∀ (v1375 : BitVec 32) (k1_hw15 : k1_chk15 v1375) (k1_t29 : Fin (k1_t29_loop v1375).trips), ∀ a, (k1_off263 v1375 k1_t29) a + S1x1x16.size a ≤ S2x64x128.size a := fun v1375 k1_hw15 k1_t29 => k1_hw15.2.2.2.2.2.2.2.2.2.1 k1_t29
theorem k1_off264_inb : ∀ (v1375 : BitVec 32) (k1_hw15 : k1_chk15 v1375) (k1_t29 : Fin (k1_t29_loop v1375).trips), ∀ a, (k1_off264 v1375 k1_t29) a + S1x1x16.size a ≤ S2x64x128.size a := fun v1375 k1_hw15 k1_t29 => k1_hw15.2.2.2.2.2.2.2.2.2.2.1 k1_t29
theorem k1_t30_ok : ∀ (v1375 : BitVec 32) (k1_hw15 : k1_chk15 v1375), (k1_t30_loop v1375).OK := fun v1375 k1_hw15 => k1_hw15.2.2.2.2.2.2.2.2.2.2.2.1
theorem k1_off265_inb : ∀ (v1375 : BitVec 32) (k1_hw15 : k1_chk15 v1375) (k1_t30 : Fin (k1_t30_loop v1375).trips), ∀ a, (k1_off265 v1375 k1_t30) a + S1x1x16.size a ≤ S2x64x128.size a := fun v1375 k1_hw15 k1_t30 => k1_hw15.2.2.2.2.2.2.2.2.2.2.2.2.1 k1_t30
theorem k1_off266_inb : ∀ (v1375 : BitVec 32) (k1_hw15 : k1_chk15 v1375) (k1_t30 : Fin (k1_t30_loop v1375).trips), ∀ a, (k1_off266 v1375 k1_t30) a + S1x1x16.size a ≤ S2x64x128.size a := fun v1375 k1_hw15 k1_t30 => k1_hw15.2.2.2.2.2.2.2.2.2.2.2.2.2.1 k1_t30
theorem k1_off267_inb : ∀ (v1375 : BitVec 32) (k1_hw15 : k1_chk15 v1375) (k1_t30 : Fin (k1_t30_loop v1375).trips), ∀ a, (k1_off267 v1375 k1_t30) a + S1x1x16.size a ≤ S2x64x128.size a := fun v1375 k1_hw15 k1_t30 => k1_hw15.2.2.2.2.2.2.2.2.2.2.2.2.2.2.1 k1_t30
theorem k1_off268_inb : ∀ (v1375 : BitVec 32) (k1_hw15 : k1_chk15 v1375) (k1_t30 : Fin (k1_t30_loop v1375).trips), ∀ a, (k1_off268 v1375 k1_t30) a + S1x1x16.size a ≤ S2x64x128.size a := fun v1375 k1_hw15 k1_t30 => k1_hw15.2.2.2.2.2.2.2.2.2.2.2.2.2.2.2.1 k1_t30
theorem k1_off269_inb : ∀ (v1375 : BitVec 32) (k1_hw15 : k1_chk15 v1375) (k1_t30 : Fin (k1_t30_loop v1375).trips), ∀ a, (k1_off269 v1375 k1_t30) a + S1x1x16.size a ≤ S2x64x128.size a := fun v1375 k1_hw15 k1_t30 => k1_hw15.2.2.2.2.2.2.2.2.2.2.2.2.2.2.2.2.1 k1_t30
theorem k1_off270_inb : ∀ (v1375 : BitVec 32) (k1_hw15 : k1_chk15 v1375) (k1_t30 : Fin (k1_t30_loop v1375).trips), ∀ a, (k1_off270 v1375 k1_t30) a + S1x1x16.size a ≤ S2x64x128.size a := fun v1375 k1_hw15 k1_t30 => k1_hw15.2.2.2.2.2.2.2.2.2.2.2.2.2.2.2.2.2.1 k1_t30
theorem k1_off271_inb : ∀ (v1375 : BitVec 32) (k1_hw15 : k1_chk15 v1375) (k1_t30 : Fin (k1_t30_loop v1375).trips), ∀ a, (k1_off271 v1375 k1_t30) a + S1x1x16.size a ≤ S2x64x128.size a := fun v1375 k1_hw15 k1_t30 => k1_hw15.2.2.2.2.2.2.2.2.2.2.2.2.2.2.2.2.2.2.1 k1_t30
theorem k1_off272_inb : ∀ (v1375 : BitVec 32) (k1_hw15 : k1_chk15 v1375) (k1_t30 : Fin (k1_t30_loop v1375).trips), ∀ a, (k1_off272 v1375 k1_t30) a + S1x1x16.size a ≤ S2x64x128.size a := fun v1375 k1_hw15 k1_t30 => k1_hw15.2.2.2.2.2.2.2.2.2.2.2.2.2.2.2.2.2.2.2 k1_t30

@[reducible] def k1_t31_loop (v1478 : BitVec 32) : Scf.Loop 32 :=
  let c0_i32_885 : BitVec 32 := 0#32
  let c64_i32_879 : BitVec 32 := 64#32
  let c0_i32_880 : BitVec 32 := 0#32
  let v1606 : BitVec 1 := Scalar.cmpi .eq c64_i32_879 c0_i32_880
  let c1_i32_881 : BitVec 32 := 1#32
  let v1607 : BitVec 32 := Scalar.select v1606 c1_i32_881 c64_i32_879
  let v1608 : BitVec 32 := Scalar.remsi v1478 v1607
  let c0_i32_883 : BitVec 32 := 0#32
  let v1610 : BitVec 1 := Scalar.cmpi .slt v1608 c0_i32_883
  let c0_i32_884 : BitVec 32 := 0#32
  let v1611 : BitVec 1 := Scalar.cmpi .slt v1607 c0_i32_884
  let v1612 : BitVec 1 := Scalar.xori v1610 v1611
  let c0_i32_882 : BitVec 32 := 0#32
  let v1609 : BitVec 1 := Scalar.cmpi .ne v1608 c0_i32_882
  let v1613 : BitVec 1 := Scalar.andi v1612 v1609
  let v1614 : BitVec 32 := Scalar.addi v1608 v1607
  let v1615 : BitVec 32 := Scalar.select v1613 v1614 v1608
  let v1616 : BitVec 32 := Scalar.subi v1615 c0_i32_885
  let c1_i32_886 : BitVec 32 := 1#32
  let v1618 : BitVec 32 := Scalar.divsi v1616 c1_i32_886
  let v1619 : BitVec 32 := Scalar.muli v1618 c1_i32_886
  let v1620 : BitVec 32 := Scalar.addi c0_i32_885 v1619
  let c1_i32_887 : BitVec 32 := 1#32
  ⟨c0_i32_885, v1620, c1_i32_887⟩
def k1_off273 (v1478 : BitVec 32) (k1_t31 : Fin (k1_t31_loop v1478).trips) : Fin 3 → Nat :=
  let c1_i32_905 : BitVec 32 := 1#32
  let v1656 : Index := Scalar.indexCast c1_i32_905
  let c0_i32_885 : BitVec 32 := 0#32
  let c1_i32_887 : BitVec 32 := 1#32
  let arg9 : BitVec 32 := Scf.iv c0_i32_885 c1_i32_887 k1_t31
  let v1657 : Index := Scalar.indexCast arg9
  let c0_906 : Index := 0#32
  ![1, v1657.toNat, 0]
def k1_off274 (v1478 : BitVec 32) (k1_t31 : Fin (k1_t31_loop v1478).trips) : Fin 3 → Nat :=
  let c1_i32_907 : BitVec 32 := 1#32
  let v1661 : Index := Scalar.indexCast c1_i32_907
  let c0_i32_885 : BitVec 32 := 0#32
  let c1_i32_887 : BitVec 32 := 1#32
  let arg9 : BitVec 32 := Scf.iv c0_i32_885 c1_i32_887 k1_t31
  let v1662 : Index := Scalar.indexCast arg9
  let c16_908 : Index := 16#32
  ![1, v1662.toNat, 16]
def k1_off275 (v1478 : BitVec 32) (k1_t31 : Fin (k1_t31_loop v1478).trips) : Fin 3 → Nat :=
  let c1_i32_909 : BitVec 32 := 1#32
  let v1666 : Index := Scalar.indexCast c1_i32_909
  let c0_i32_885 : BitVec 32 := 0#32
  let c1_i32_887 : BitVec 32 := 1#32
  let arg9 : BitVec 32 := Scf.iv c0_i32_885 c1_i32_887 k1_t31
  let v1667 : Index := Scalar.indexCast arg9
  let c32_910 : Index := 32#32
  ![1, v1667.toNat, 32]
def k1_off276 (v1478 : BitVec 32) (k1_t31 : Fin (k1_t31_loop v1478).trips) : Fin 3 → Nat :=
  let c1_i32_911 : BitVec 32 := 1#32
  let v1671 : Index := Scalar.indexCast c1_i32_911
  let c0_i32_885 : BitVec 32 := 0#32
  let c1_i32_887 : BitVec 32 := 1#32
  let arg9 : BitVec 32 := Scf.iv c0_i32_885 c1_i32_887 k1_t31
  let v1672 : Index := Scalar.indexCast arg9
  let c48_912 : Index := 48#32
  ![1, v1672.toNat, 48]
def k1_off277 (v1478 : BitVec 32) (k1_t31 : Fin (k1_t31_loop v1478).trips) : Fin 3 → Nat :=
  let c1_i32_913 : BitVec 32 := 1#32
  let v1676 : Index := Scalar.indexCast c1_i32_913
  let c0_i32_885 : BitVec 32 := 0#32
  let c1_i32_887 : BitVec 32 := 1#32
  let arg9 : BitVec 32 := Scf.iv c0_i32_885 c1_i32_887 k1_t31
  let v1677 : Index := Scalar.indexCast arg9
  let c64_914 : Index := 64#32
  ![1, v1677.toNat, 64]
def k1_off278 (v1478 : BitVec 32) (k1_t31 : Fin (k1_t31_loop v1478).trips) : Fin 3 → Nat :=
  let c1_i32_915 : BitVec 32 := 1#32
  let v1681 : Index := Scalar.indexCast c1_i32_915
  let c0_i32_885 : BitVec 32 := 0#32
  let c1_i32_887 : BitVec 32 := 1#32
  let arg9 : BitVec 32 := Scf.iv c0_i32_885 c1_i32_887 k1_t31
  let v1682 : Index := Scalar.indexCast arg9
  let c80_916 : Index := 80#32
  ![1, v1682.toNat, 80]
def k1_off279 (v1478 : BitVec 32) (k1_t31 : Fin (k1_t31_loop v1478).trips) : Fin 3 → Nat :=
  let c1_i32_917 : BitVec 32 := 1#32
  let v1686 : Index := Scalar.indexCast c1_i32_917
  let c0_i32_885 : BitVec 32 := 0#32
  let c1_i32_887 : BitVec 32 := 1#32
  let arg9 : BitVec 32 := Scf.iv c0_i32_885 c1_i32_887 k1_t31
  let v1687 : Index := Scalar.indexCast arg9
  let c96_918 : Index := 96#32
  ![1, v1687.toNat, 96]
def k1_off280 (v1478 : BitVec 32) (k1_t31 : Fin (k1_t31_loop v1478).trips) : Fin 3 → Nat :=
  let c1_i32_919 : BitVec 32 := 1#32
  let v1691 : Index := Scalar.indexCast c1_i32_919
  let c0_i32_885 : BitVec 32 := 0#32
  let c1_i32_887 : BitVec 32 := 1#32
  let arg9 : BitVec 32 := Scf.iv c0_i32_885 c1_i32_887 k1_t31
  let v1692 : Index := Scalar.indexCast arg9
  let c112_920 : Index := 112#32
  ![1, v1692.toNat, 112]
@[reducible] def k1_t32_loop (v1478 : BitVec 32) : Scf.Loop 32 :=
  let c0_i32_885 : BitVec 32 := 0#32
  let c64_i32_879 : BitVec 32 := 64#32
  let c0_i32_880 : BitVec 32 := 0#32
  let v1606 : BitVec 1 := Scalar.cmpi .eq c64_i32_879 c0_i32_880
  let c1_i32_881 : BitVec 32 := 1#32
  let v1607 : BitVec 32 := Scalar.select v1606 c1_i32_881 c64_i32_879
  let v1608 : BitVec 32 := Scalar.remsi v1478 v1607
  let c0_i32_883 : BitVec 32 := 0#32
  let v1610 : BitVec 1 := Scalar.cmpi .slt v1608 c0_i32_883
  let c0_i32_884 : BitVec 32 := 0#32
  let v1611 : BitVec 1 := Scalar.cmpi .slt v1607 c0_i32_884
  let v1612 : BitVec 1 := Scalar.xori v1610 v1611
  let c0_i32_882 : BitVec 32 := 0#32
  let v1609 : BitVec 1 := Scalar.cmpi .ne v1608 c0_i32_882
  let v1613 : BitVec 1 := Scalar.andi v1612 v1609
  let v1614 : BitVec 32 := Scalar.addi v1608 v1607
  let v1615 : BitVec 32 := Scalar.select v1613 v1614 v1608
  let v1616 : BitVec 32 := Scalar.subi v1615 c0_i32_885
  let c1_i32_886 : BitVec 32 := 1#32
  let v1618 : BitVec 32 := Scalar.divsi v1616 c1_i32_886
  let v1619 : BitVec 32 := Scalar.muli v1618 c1_i32_886
  let v1620 : BitVec 32 := Scalar.addi c0_i32_885 v1619
  let v1617 : BitVec 32 := Scalar.addi c0_i32_885 v1616
  let c1_i32_888 : BitVec 32 := 1#32
  ⟨v1620, v1617, c1_i32_888⟩
def k1_off281 (v1478 : BitVec 32) (k1_t32 : Fin (k1_t32_loop v1478).trips) : Fin 3 → Nat :=
  let c1_i32_905 : BitVec 32 := 1#32
  let v1656 : Index := Scalar.indexCast c1_i32_905
  let c0_i32_885 : BitVec 32 := 0#32
  let c64_i32_879 : BitVec 32 := 64#32
  let c0_i32_880 : BitVec 32 := 0#32
  let v1606 : BitVec 1 := Scalar.cmpi .eq c64_i32_879 c0_i32_880
  let c1_i32_881 : BitVec 32 := 1#32
  let v1607 : BitVec 32 := Scalar.select v1606 c1_i32_881 c64_i32_879
  let v1608 : BitVec 32 := Scalar.remsi v1478 v1607
  let c0_i32_883 : BitVec 32 := 0#32
  let v1610 : BitVec 1 := Scalar.cmpi .slt v1608 c0_i32_883
  let c0_i32_884 : BitVec 32 := 0#32
  let v1611 : BitVec 1 := Scalar.cmpi .slt v1607 c0_i32_884
  let v1612 : BitVec 1 := Scalar.xori v1610 v1611
  let c0_i32_882 : BitVec 32 := 0#32
  let v1609 : BitVec 1 := Scalar.cmpi .ne v1608 c0_i32_882
  let v1613 : BitVec 1 := Scalar.andi v1612 v1609
  let v1614 : BitVec 32 := Scalar.addi v1608 v1607
  let v1615 : BitVec 32 := Scalar.select v1613 v1614 v1608
  let v1616 : BitVec 32 := Scalar.subi v1615 c0_i32_885
  let c1_i32_886 : BitVec 32 := 1#32
  let v1618 : BitVec 32 := Scalar.divsi v1616 c1_i32_886
  let v1619 : BitVec 32 := Scalar.muli v1618 c1_i32_886
  let v1620 : BitVec 32 := Scalar.addi c0_i32_885 v1619
  let c1_i32_888 : BitVec 32 := 1#32
  let arg9 : BitVec 32 := Scf.iv v1620 c1_i32_888 k1_t32
  let v1657 : Index := Scalar.indexCast arg9
  let c0_906 : Index := 0#32
  ![1, v1657.toNat, 0]
def k1_off282 (v1478 : BitVec 32) (k1_t32 : Fin (k1_t32_loop v1478).trips) : Fin 3 → Nat :=
  let c1_i32_907 : BitVec 32 := 1#32
  let v1661 : Index := Scalar.indexCast c1_i32_907
  let c0_i32_885 : BitVec 32 := 0#32
  let c64_i32_879 : BitVec 32 := 64#32
  let c0_i32_880 : BitVec 32 := 0#32
  let v1606 : BitVec 1 := Scalar.cmpi .eq c64_i32_879 c0_i32_880
  let c1_i32_881 : BitVec 32 := 1#32
  let v1607 : BitVec 32 := Scalar.select v1606 c1_i32_881 c64_i32_879
  let v1608 : BitVec 32 := Scalar.remsi v1478 v1607
  let c0_i32_883 : BitVec 32 := 0#32
  let v1610 : BitVec 1 := Scalar.cmpi .slt v1608 c0_i32_883
  let c0_i32_884 : BitVec 32 := 0#32
  let v1611 : BitVec 1 := Scalar.cmpi .slt v1607 c0_i32_884
  let v1612 : BitVec 1 := Scalar.xori v1610 v1611
  let c0_i32_882 : BitVec 32 := 0#32
  let v1609 : BitVec 1 := Scalar.cmpi .ne v1608 c0_i32_882
  let v1613 : BitVec 1 := Scalar.andi v1612 v1609
  let v1614 : BitVec 32 := Scalar.addi v1608 v1607
  let v1615 : BitVec 32 := Scalar.select v1613 v1614 v1608
  let v1616 : BitVec 32 := Scalar.subi v1615 c0_i32_885
  let c1_i32_886 : BitVec 32 := 1#32
  let v1618 : BitVec 32 := Scalar.divsi v1616 c1_i32_886
  let v1619 : BitVec 32 := Scalar.muli v1618 c1_i32_886
  let v1620 : BitVec 32 := Scalar.addi c0_i32_885 v1619
  let c1_i32_888 : BitVec 32 := 1#32
  let arg9 : BitVec 32 := Scf.iv v1620 c1_i32_888 k1_t32
  let v1662 : Index := Scalar.indexCast arg9
  let c16_908 : Index := 16#32
  ![1, v1662.toNat, 16]
def k1_off283 (v1478 : BitVec 32) (k1_t32 : Fin (k1_t32_loop v1478).trips) : Fin 3 → Nat :=
  let c1_i32_909 : BitVec 32 := 1#32
  let v1666 : Index := Scalar.indexCast c1_i32_909
  let c0_i32_885 : BitVec 32 := 0#32
  let c64_i32_879 : BitVec 32 := 64#32
  let c0_i32_880 : BitVec 32 := 0#32
  let v1606 : BitVec 1 := Scalar.cmpi .eq c64_i32_879 c0_i32_880
  let c1_i32_881 : BitVec 32 := 1#32
  let v1607 : BitVec 32 := Scalar.select v1606 c1_i32_881 c64_i32_879
  let v1608 : BitVec 32 := Scalar.remsi v1478 v1607
  let c0_i32_883 : BitVec 32 := 0#32
  let v1610 : BitVec 1 := Scalar.cmpi .slt v1608 c0_i32_883
  let c0_i32_884 : BitVec 32 := 0#32
  let v1611 : BitVec 1 := Scalar.cmpi .slt v1607 c0_i32_884
  let v1612 : BitVec 1 := Scalar.xori v1610 v1611
  let c0_i32_882 : BitVec 32 := 0#32
  let v1609 : BitVec 1 := Scalar.cmpi .ne v1608 c0_i32_882
  let v1613 : BitVec 1 := Scalar.andi v1612 v1609
  let v1614 : BitVec 32 := Scalar.addi v1608 v1607
  let v1615 : BitVec 32 := Scalar.select v1613 v1614 v1608
  let v1616 : BitVec 32 := Scalar.subi v1615 c0_i32_885
  let c1_i32_886 : BitVec 32 := 1#32
  let v1618 : BitVec 32 := Scalar.divsi v1616 c1_i32_886
  let v1619 : BitVec 32 := Scalar.muli v1618 c1_i32_886
  let v1620 : BitVec 32 := Scalar.addi c0_i32_885 v1619
  let c1_i32_888 : BitVec 32 := 1#32
  let arg9 : BitVec 32 := Scf.iv v1620 c1_i32_888 k1_t32
  let v1667 : Index := Scalar.indexCast arg9
  let c32_910 : Index := 32#32
  ![1, v1667.toNat, 32]
def k1_off284 (v1478 : BitVec 32) (k1_t32 : Fin (k1_t32_loop v1478).trips) : Fin 3 → Nat :=
  let c1_i32_911 : BitVec 32 := 1#32
  let v1671 : Index := Scalar.indexCast c1_i32_911
  let c0_i32_885 : BitVec 32 := 0#32
  let c64_i32_879 : BitVec 32 := 64#32
  let c0_i32_880 : BitVec 32 := 0#32
  let v1606 : BitVec 1 := Scalar.cmpi .eq c64_i32_879 c0_i32_880
  let c1_i32_881 : BitVec 32 := 1#32
  let v1607 : BitVec 32 := Scalar.select v1606 c1_i32_881 c64_i32_879
  let v1608 : BitVec 32 := Scalar.remsi v1478 v1607
  let c0_i32_883 : BitVec 32 := 0#32
  let v1610 : BitVec 1 := Scalar.cmpi .slt v1608 c0_i32_883
  let c0_i32_884 : BitVec 32 := 0#32
  let v1611 : BitVec 1 := Scalar.cmpi .slt v1607 c0_i32_884
  let v1612 : BitVec 1 := Scalar.xori v1610 v1611
  let c0_i32_882 : BitVec 32 := 0#32
  let v1609 : BitVec 1 := Scalar.cmpi .ne v1608 c0_i32_882
  let v1613 : BitVec 1 := Scalar.andi v1612 v1609
  let v1614 : BitVec 32 := Scalar.addi v1608 v1607
  let v1615 : BitVec 32 := Scalar.select v1613 v1614 v1608
  let v1616 : BitVec 32 := Scalar.subi v1615 c0_i32_885
  let c1_i32_886 : BitVec 32 := 1#32
  let v1618 : BitVec 32 := Scalar.divsi v1616 c1_i32_886
  let v1619 : BitVec 32 := Scalar.muli v1618 c1_i32_886
  let v1620 : BitVec 32 := Scalar.addi c0_i32_885 v1619
  let c1_i32_888 : BitVec 32 := 1#32
  let arg9 : BitVec 32 := Scf.iv v1620 c1_i32_888 k1_t32
  let v1672 : Index := Scalar.indexCast arg9
  let c48_912 : Index := 48#32
  ![1, v1672.toNat, 48]
def k1_off285 (v1478 : BitVec 32) (k1_t32 : Fin (k1_t32_loop v1478).trips) : Fin 3 → Nat :=
  let c1_i32_913 : BitVec 32 := 1#32
  let v1676 : Index := Scalar.indexCast c1_i32_913
  let c0_i32_885 : BitVec 32 := 0#32
  let c64_i32_879 : BitVec 32 := 64#32
  let c0_i32_880 : BitVec 32 := 0#32
  let v1606 : BitVec 1 := Scalar.cmpi .eq c64_i32_879 c0_i32_880
  let c1_i32_881 : BitVec 32 := 1#32
  let v1607 : BitVec 32 := Scalar.select v1606 c1_i32_881 c64_i32_879
  let v1608 : BitVec 32 := Scalar.remsi v1478 v1607
  let c0_i32_883 : BitVec 32 := 0#32
  let v1610 : BitVec 1 := Scalar.cmpi .slt v1608 c0_i32_883
  let c0_i32_884 : BitVec 32 := 0#32
  let v1611 : BitVec 1 := Scalar.cmpi .slt v1607 c0_i32_884
  let v1612 : BitVec 1 := Scalar.xori v1610 v1611
  let c0_i32_882 : BitVec 32 := 0#32
  let v1609 : BitVec 1 := Scalar.cmpi .ne v1608 c0_i32_882
  let v1613 : BitVec 1 := Scalar.andi v1612 v1609
  let v1614 : BitVec 32 := Scalar.addi v1608 v1607
  let v1615 : BitVec 32 := Scalar.select v1613 v1614 v1608
  let v1616 : BitVec 32 := Scalar.subi v1615 c0_i32_885
  let c1_i32_886 : BitVec 32 := 1#32
  let v1618 : BitVec 32 := Scalar.divsi v1616 c1_i32_886
  let v1619 : BitVec 32 := Scalar.muli v1618 c1_i32_886
  let v1620 : BitVec 32 := Scalar.addi c0_i32_885 v1619
  let c1_i32_888 : BitVec 32 := 1#32
  let arg9 : BitVec 32 := Scf.iv v1620 c1_i32_888 k1_t32
  let v1677 : Index := Scalar.indexCast arg9
  let c64_914 : Index := 64#32
  ![1, v1677.toNat, 64]
def k1_off286 (v1478 : BitVec 32) (k1_t32 : Fin (k1_t32_loop v1478).trips) : Fin 3 → Nat :=
  let c1_i32_915 : BitVec 32 := 1#32
  let v1681 : Index := Scalar.indexCast c1_i32_915
  let c0_i32_885 : BitVec 32 := 0#32
  let c64_i32_879 : BitVec 32 := 64#32
  let c0_i32_880 : BitVec 32 := 0#32
  let v1606 : BitVec 1 := Scalar.cmpi .eq c64_i32_879 c0_i32_880
  let c1_i32_881 : BitVec 32 := 1#32
  let v1607 : BitVec 32 := Scalar.select v1606 c1_i32_881 c64_i32_879
  let v1608 : BitVec 32 := Scalar.remsi v1478 v1607
  let c0_i32_883 : BitVec 32 := 0#32
  let v1610 : BitVec 1 := Scalar.cmpi .slt v1608 c0_i32_883
  let c0_i32_884 : BitVec 32 := 0#32
  let v1611 : BitVec 1 := Scalar.cmpi .slt v1607 c0_i32_884
  let v1612 : BitVec 1 := Scalar.xori v1610 v1611
  let c0_i32_882 : BitVec 32 := 0#32
  let v1609 : BitVec 1 := Scalar.cmpi .ne v1608 c0_i32_882
  let v1613 : BitVec 1 := Scalar.andi v1612 v1609
  let v1614 : BitVec 32 := Scalar.addi v1608 v1607
  let v1615 : BitVec 32 := Scalar.select v1613 v1614 v1608
  let v1616 : BitVec 32 := Scalar.subi v1615 c0_i32_885
  let c1_i32_886 : BitVec 32 := 1#32
  let v1618 : BitVec 32 := Scalar.divsi v1616 c1_i32_886
  let v1619 : BitVec 32 := Scalar.muli v1618 c1_i32_886
  let v1620 : BitVec 32 := Scalar.addi c0_i32_885 v1619
  let c1_i32_888 : BitVec 32 := 1#32
  let arg9 : BitVec 32 := Scf.iv v1620 c1_i32_888 k1_t32
  let v1682 : Index := Scalar.indexCast arg9
  let c80_916 : Index := 80#32
  ![1, v1682.toNat, 80]
def k1_off287 (v1478 : BitVec 32) (k1_t32 : Fin (k1_t32_loop v1478).trips) : Fin 3 → Nat :=
  let c1_i32_917 : BitVec 32 := 1#32
  let v1686 : Index := Scalar.indexCast c1_i32_917
  let c0_i32_885 : BitVec 32 := 0#32
  let c64_i32_879 : BitVec 32 := 64#32
  let c0_i32_880 : BitVec 32 := 0#32
  let v1606 : BitVec 1 := Scalar.cmpi .eq c64_i32_879 c0_i32_880
  let c1_i32_881 : BitVec 32 := 1#32
  let v1607 : BitVec 32 := Scalar.select v1606 c1_i32_881 c64_i32_879
  let v1608 : BitVec 32 := Scalar.remsi v1478 v1607
  let c0_i32_883 : BitVec 32 := 0#32
  let v1610 : BitVec 1 := Scalar.cmpi .slt v1608 c0_i32_883
  let c0_i32_884 : BitVec 32 := 0#32
  let v1611 : BitVec 1 := Scalar.cmpi .slt v1607 c0_i32_884
  let v1612 : BitVec 1 := Scalar.xori v1610 v1611
  let c0_i32_882 : BitVec 32 := 0#32
  let v1609 : BitVec 1 := Scalar.cmpi .ne v1608 c0_i32_882
  let v1613 : BitVec 1 := Scalar.andi v1612 v1609
  let v1614 : BitVec 32 := Scalar.addi v1608 v1607
  let v1615 : BitVec 32 := Scalar.select v1613 v1614 v1608
  let v1616 : BitVec 32 := Scalar.subi v1615 c0_i32_885
  let c1_i32_886 : BitVec 32 := 1#32
  let v1618 : BitVec 32 := Scalar.divsi v1616 c1_i32_886
  let v1619 : BitVec 32 := Scalar.muli v1618 c1_i32_886
  let v1620 : BitVec 32 := Scalar.addi c0_i32_885 v1619
  let c1_i32_888 : BitVec 32 := 1#32
  let arg9 : BitVec 32 := Scf.iv v1620 c1_i32_888 k1_t32
  let v1687 : Index := Scalar.indexCast arg9
  let c96_918 : Index := 96#32
  ![1, v1687.toNat, 96]
def k1_off288 (v1478 : BitVec 32) (k1_t32 : Fin (k1_t32_loop v1478).trips) : Fin 3 → Nat :=
  let c1_i32_919 : BitVec 32 := 1#32
  let v1691 : Index := Scalar.indexCast c1_i32_919
  let c0_i32_885 : BitVec 32 := 0#32
  let c64_i32_879 : BitVec 32 := 64#32
  let c0_i32_880 : BitVec 32 := 0#32
  let v1606 : BitVec 1 := Scalar.cmpi .eq c64_i32_879 c0_i32_880
  let c1_i32_881 : BitVec 32 := 1#32
  let v1607 : BitVec 32 := Scalar.select v1606 c1_i32_881 c64_i32_879
  let v1608 : BitVec 32 := Scalar.remsi v1478 v1607
  let c0_i32_883 : BitVec 32 := 0#32
  let v1610 : BitVec 1 := Scalar.cmpi .slt v1608 c0_i32_883
  let c0_i32_884 : BitVec 32 := 0#32
  let v1611 : BitVec 1 := Scalar.cmpi .slt v1607 c0_i32_884
  let v1612 : BitVec 1 := Scalar.xori v1610 v1611
  let c0_i32_882 : BitVec 32 := 0#32
  let v1609 : BitVec 1 := Scalar.cmpi .ne v1608 c0_i32_882
  let v1613 : BitVec 1 := Scalar.andi v1612 v1609
  let v1614 : BitVec 32 := Scalar.addi v1608 v1607
  let v1615 : BitVec 32 := Scalar.select v1613 v1614 v1608
  let v1616 : BitVec 32 := Scalar.subi v1615 c0_i32_885
  let c1_i32_886 : BitVec 32 := 1#32
  let v1618 : BitVec 32 := Scalar.divsi v1616 c1_i32_886
  let v1619 : BitVec 32 := Scalar.muli v1618 c1_i32_886
  let v1620 : BitVec 32 := Scalar.addi c0_i32_885 v1619
  let c1_i32_888 : BitVec 32 := 1#32
  let arg9 : BitVec 32 := Scf.iv v1620 c1_i32_888 k1_t32
  let v1692 : Index := Scalar.indexCast arg9
  let c112_920 : Index := 112#32
  ![1, v1692.toNat, 112]

def k1_chk16 (v1478 : BitVec 32) : Prop :=
  (∀ a, (k1_off255 v1478) a + S64x128.size a ≤ S320000x128.size a) ∧
  ((k1_t31_loop v1478).OK) ∧
  (∀ k1_t31 : Fin (k1_t31_loop v1478).trips, ∀ a, (k1_off273 v1478 k1_t31) a + S1x1x16.size a ≤ S2x64x128.size a) ∧
  (∀ k1_t31 : Fin (k1_t31_loop v1478).trips, ∀ a, (k1_off274 v1478 k1_t31) a + S1x1x16.size a ≤ S2x64x128.size a) ∧
  (∀ k1_t31 : Fin (k1_t31_loop v1478).trips, ∀ a, (k1_off275 v1478 k1_t31) a + S1x1x16.size a ≤ S2x64x128.size a) ∧
  (∀ k1_t31 : Fin (k1_t31_loop v1478).trips, ∀ a, (k1_off276 v1478 k1_t31) a + S1x1x16.size a ≤ S2x64x128.size a) ∧
  (∀ k1_t31 : Fin (k1_t31_loop v1478).trips, ∀ a, (k1_off277 v1478 k1_t31) a + S1x1x16.size a ≤ S2x64x128.size a) ∧
  (∀ k1_t31 : Fin (k1_t31_loop v1478).trips, ∀ a, (k1_off278 v1478 k1_t31) a + S1x1x16.size a ≤ S2x64x128.size a) ∧
  (∀ k1_t31 : Fin (k1_t31_loop v1478).trips, ∀ a, (k1_off279 v1478 k1_t31) a + S1x1x16.size a ≤ S2x64x128.size a) ∧
  (∀ k1_t31 : Fin (k1_t31_loop v1478).trips, ∀ a, (k1_off280 v1478 k1_t31) a + S1x1x16.size a ≤ S2x64x128.size a) ∧
  ((k1_t32_loop v1478).OK) ∧
  (∀ k1_t32 : Fin (k1_t32_loop v1478).trips, ∀ a, (k1_off281 v1478 k1_t32) a + S1x1x16.size a ≤ S2x64x128.size a) ∧
  (∀ k1_t32 : Fin (k1_t32_loop v1478).trips, ∀ a, (k1_off282 v1478 k1_t32) a + S1x1x16.size a ≤ S2x64x128.size a) ∧
  (∀ k1_t32 : Fin (k1_t32_loop v1478).trips, ∀ a, (k1_off283 v1478 k1_t32) a + S1x1x16.size a ≤ S2x64x128.size a) ∧
  (∀ k1_t32 : Fin (k1_t32_loop v1478).trips, ∀ a, (k1_off284 v1478 k1_t32) a + S1x1x16.size a ≤ S2x64x128.size a) ∧
  (∀ k1_t32 : Fin (k1_t32_loop v1478).trips, ∀ a, (k1_off285 v1478 k1_t32) a + S1x1x16.size a ≤ S2x64x128.size a) ∧
  (∀ k1_t32 : Fin (k1_t32_loop v1478).trips, ∀ a, (k1_off286 v1478 k1_t32) a + S1x1x16.size a ≤ S2x64x128.size a) ∧
  (∀ k1_t32 : Fin (k1_t32_loop v1478).trips, ∀ a, (k1_off287 v1478 k1_t32) a + S1x1x16.size a ≤ S2x64x128.size a) ∧
  (∀ k1_t32 : Fin (k1_t32_loop v1478).trips, ∀ a, (k1_off288 v1478 k1_t32) a + S1x1x16.size a ≤ S2x64x128.size a)
theorem k1_off255_inb : ∀ (v1478 : BitVec 32) (k1_hw16 : k1_chk16 v1478), ∀ a, (k1_off255 v1478) a + S64x128.size a ≤ S320000x128.size a := fun v1478 k1_hw16 => k1_hw16.1
theorem k1_t31_ok : ∀ (v1478 : BitVec 32) (k1_hw16 : k1_chk16 v1478), (k1_t31_loop v1478).OK := fun v1478 k1_hw16 => k1_hw16.2.1
theorem k1_off273_inb : ∀ (v1478 : BitVec 32) (k1_hw16 : k1_chk16 v1478) (k1_t31 : Fin (k1_t31_loop v1478).trips), ∀ a, (k1_off273 v1478 k1_t31) a + S1x1x16.size a ≤ S2x64x128.size a := fun v1478 k1_hw16 k1_t31 => k1_hw16.2.2.1 k1_t31
theorem k1_off274_inb : ∀ (v1478 : BitVec 32) (k1_hw16 : k1_chk16 v1478) (k1_t31 : Fin (k1_t31_loop v1478).trips), ∀ a, (k1_off274 v1478 k1_t31) a + S1x1x16.size a ≤ S2x64x128.size a := fun v1478 k1_hw16 k1_t31 => k1_hw16.2.2.2.1 k1_t31
theorem k1_off275_inb : ∀ (v1478 : BitVec 32) (k1_hw16 : k1_chk16 v1478) (k1_t31 : Fin (k1_t31_loop v1478).trips), ∀ a, (k1_off275 v1478 k1_t31) a + S1x1x16.size a ≤ S2x64x128.size a := fun v1478 k1_hw16 k1_t31 => k1_hw16.2.2.2.2.1 k1_t31
theorem k1_off276_inb : ∀ (v1478 : BitVec 32) (k1_hw16 : k1_chk16 v1478) (k1_t31 : Fin (k1_t31_loop v1478).trips), ∀ a, (k1_off276 v1478 k1_t31) a + S1x1x16.size a ≤ S2x64x128.size a := fun v1478 k1_hw16 k1_t31 => k1_hw16.2.2.2.2.2.1 k1_t31
theorem k1_off277_inb : ∀ (v1478 : BitVec 32) (k1_hw16 : k1_chk16 v1478) (k1_t31 : Fin (k1_t31_loop v1478).trips), ∀ a, (k1_off277 v1478 k1_t31) a + S1x1x16.size a ≤ S2x64x128.size a := fun v1478 k1_hw16 k1_t31 => k1_hw16.2.2.2.2.2.2.1 k1_t31
theorem k1_off278_inb : ∀ (v1478 : BitVec 32) (k1_hw16 : k1_chk16 v1478) (k1_t31 : Fin (k1_t31_loop v1478).trips), ∀ a, (k1_off278 v1478 k1_t31) a + S1x1x16.size a ≤ S2x64x128.size a := fun v1478 k1_hw16 k1_t31 => k1_hw16.2.2.2.2.2.2.2.1 k1_t31
theorem k1_off279_inb : ∀ (v1478 : BitVec 32) (k1_hw16 : k1_chk16 v1478) (k1_t31 : Fin (k1_t31_loop v1478).trips), ∀ a, (k1_off279 v1478 k1_t31) a + S1x1x16.size a ≤ S2x64x128.size a := fun v1478 k1_hw16 k1_t31 => k1_hw16.2.2.2.2.2.2.2.2.1 k1_t31
theorem k1_off280_inb : ∀ (v1478 : BitVec 32) (k1_hw16 : k1_chk16 v1478) (k1_t31 : Fin (k1_t31_loop v1478).trips), ∀ a, (k1_off280 v1478 k1_t31) a + S1x1x16.size a ≤ S2x64x128.size a := fun v1478 k1_hw16 k1_t31 => k1_hw16.2.2.2.2.2.2.2.2.2.1 k1_t31
theorem k1_t32_ok : ∀ (v1478 : BitVec 32) (k1_hw16 : k1_chk16 v1478), (k1_t32_loop v1478).OK := fun v1478 k1_hw16 => k1_hw16.2.2.2.2.2.2.2.2.2.2.1
theorem k1_off281_inb : ∀ (v1478 : BitVec 32) (k1_hw16 : k1_chk16 v1478) (k1_t32 : Fin (k1_t32_loop v1478).trips), ∀ a, (k1_off281 v1478 k1_t32) a + S1x1x16.size a ≤ S2x64x128.size a := fun v1478 k1_hw16 k1_t32 => k1_hw16.2.2.2.2.2.2.2.2.2.2.2.1 k1_t32
theorem k1_off282_inb : ∀ (v1478 : BitVec 32) (k1_hw16 : k1_chk16 v1478) (k1_t32 : Fin (k1_t32_loop v1478).trips), ∀ a, (k1_off282 v1478 k1_t32) a + S1x1x16.size a ≤ S2x64x128.size a := fun v1478 k1_hw16 k1_t32 => k1_hw16.2.2.2.2.2.2.2.2.2.2.2.2.1 k1_t32
theorem k1_off283_inb : ∀ (v1478 : BitVec 32) (k1_hw16 : k1_chk16 v1478) (k1_t32 : Fin (k1_t32_loop v1478).trips), ∀ a, (k1_off283 v1478 k1_t32) a + S1x1x16.size a ≤ S2x64x128.size a := fun v1478 k1_hw16 k1_t32 => k1_hw16.2.2.2.2.2.2.2.2.2.2.2.2.2.1 k1_t32
theorem k1_off284_inb : ∀ (v1478 : BitVec 32) (k1_hw16 : k1_chk16 v1478) (k1_t32 : Fin (k1_t32_loop v1478).trips), ∀ a, (k1_off284 v1478 k1_t32) a + S1x1x16.size a ≤ S2x64x128.size a := fun v1478 k1_hw16 k1_t32 => k1_hw16.2.2.2.2.2.2.2.2.2.2.2.2.2.2.1 k1_t32
theorem k1_off285_inb : ∀ (v1478 : BitVec 32) (k1_hw16 : k1_chk16 v1478) (k1_t32 : Fin (k1_t32_loop v1478).trips), ∀ a, (k1_off285 v1478 k1_t32) a + S1x1x16.size a ≤ S2x64x128.size a := fun v1478 k1_hw16 k1_t32 => k1_hw16.2.2.2.2.2.2.2.2.2.2.2.2.2.2.2.1 k1_t32
theorem k1_off286_inb : ∀ (v1478 : BitVec 32) (k1_hw16 : k1_chk16 v1478) (k1_t32 : Fin (k1_t32_loop v1478).trips), ∀ a, (k1_off286 v1478 k1_t32) a + S1x1x16.size a ≤ S2x64x128.size a := fun v1478 k1_hw16 k1_t32 => k1_hw16.2.2.2.2.2.2.2.2.2.2.2.2.2.2.2.2.1 k1_t32
theorem k1_off287_inb : ∀ (v1478 : BitVec 32) (k1_hw16 : k1_chk16 v1478) (k1_t32 : Fin (k1_t32_loop v1478).trips), ∀ a, (k1_off287 v1478 k1_t32) a + S1x1x16.size a ≤ S2x64x128.size a := fun v1478 k1_hw16 k1_t32 => k1_hw16.2.2.2.2.2.2.2.2.2.2.2.2.2.2.2.2.2.1 k1_t32
theorem k1_off288_inb : ∀ (v1478 : BitVec 32) (k1_hw16 : k1_chk16 v1478) (k1_t32 : Fin (k1_t32_loop v1478).trips), ∀ a, (k1_off288 v1478 k1_t32) a + S1x1x16.size a ≤ S2x64x128.size a := fun v1478 k1_hw16 k1_t32 => k1_hw16.2.2.2.2.2.2.2.2.2.2.2.2.2.2.2.2.2.2 k1_t32

def k1_off289 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_904 : BitVec 32 := 16#32
  let v1655 : BitVec 32 := Scalar.muli v1 c16_i32_904
  let c0_i32_905_r1 : BitVec 32 := 0#32
  ![v1655.toNat, 0]
abbrev grid2 : Pipeline.Grid := .none

abbrev stage2_0 : Fin 1 → Memref sig .tc .vmem S5000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S512x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S512x1 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S512x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S128x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S512x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S512 : Shape := ⟨1, ![512]⟩
abbrev S16x128 : Shape := ⟨2, ![16, 128]⟩
abbrev S16 : Shape := ⟨1, ![16]⟩
abbrev S320000 : Shape := ⟨1, ![320000]⟩
abbrev S1x512 : Shape := ⟨2, ![1, 512]⟩
abbrev S320000x1 : Shape := ⟨2, ![320000, 1]⟩
abbrev S320000x512 : Shape := ⟨2, ![320000, 512]⟩
abbrev S_ : Shape := ⟨0, ![]⟩
abbrev S512x128 : Shape := ⟨2, ![512, 128]⟩
abbrev S1 : Shape := ⟨1, ![1]⟩
abbrev S511 : Shape := ⟨1, ![511]⟩
abbrev S512x1 : Shape := ⟨2, ![512, 1]⟩
abbrev S512x127 : Shape := ⟨2, ![512, 127]⟩
abbrev S128x16 : Shape := ⟨2, ![128, 16]⟩
abbrev S512x16 : Shape := ⟨2, ![512, 16]⟩
abbrev S1x16 : Shape := ⟨2, ![1, 16]⟩

abbrev nBuf : Space → Nat
  | .hbm => 63
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S512, .i32⟩
  | .hbm, ⟨2, _⟩ => ⟨S16x128, .f32⟩
  | .hbm, ⟨3, _⟩ => ⟨S16, .f32⟩
  | .hbm, ⟨4, _⟩ => ⟨S320000, .i32⟩
  | .hbm, ⟨5, _⟩ => ⟨S1x512, .i32⟩
  | .hbm, ⟨6, _⟩ => ⟨S320000x1, .i32⟩
  | .hbm, ⟨7, _⟩ => ⟨S320000x512, .i32⟩
  | .hbm, ⟨8, _⟩ => ⟨S320000x512, .i32⟩
  | .hbm, ⟨9, _⟩ => ⟨S320000x512, .i1⟩
  | .hbm, ⟨10, _⟩ => ⟨S320000x512, .i32⟩
  | .hbm, ⟨11, _⟩ => ⟨S_, .i32⟩
  | .hbm, ⟨12, _⟩ => ⟨S320000, .i32⟩
  | .hbm, ⟨13, _⟩ => ⟨S_, .f32⟩
  | .hbm, ⟨14, _⟩ => ⟨S512x128, .f32⟩
  | .hbm, ⟨15, _⟩ => ⟨S320000x1, .i32⟩
  | .hbm, ⟨16, _⟩ => ⟨S512x128, .f32⟩
  | .hbm, ⟨17, _⟩ => ⟨S_, .i32⟩
  | .hbm, ⟨18, _⟩ => ⟨S1, .i32⟩
  | .hbm, ⟨19, _⟩ => ⟨S511, .i32⟩
  | .hbm, ⟨20, _⟩ => ⟨S512, .i32⟩
  | .hbm, ⟨21, _⟩ => ⟨S512, .i32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512x1, .f32⟩
  | .hbm, ⟨27, _⟩ => ⟨S512x128, .f32⟩
  | .hbm, ⟨28, _⟩ => ⟨S512x128, .f32⟩
  | .hbm, ⟨29, _⟩ => ⟨S512x1, .f32⟩
  | .hbm, ⟨30, _⟩ => ⟨S512x1, .f32⟩
  | .hbm, ⟨31, _⟩ => ⟨S512x1, .f32⟩
  | .hbm, ⟨32, _⟩ => ⟨S512x1, .f32⟩
  | .hbm, ⟨33, _⟩ => ⟨S512x127, .f32⟩
  | .hbm, ⟨34, _⟩ => ⟨S512x127, .f32⟩
  | .hbm, ⟨35, _⟩ => ⟨S512x127, .f32⟩
  | .hbm, ⟨36, _⟩ => ⟨S_, .f32⟩
  | .hbm, ⟨37, _⟩ => ⟨S512, .f32⟩
  | .hbm, ⟨38, _⟩ => ⟨S512x1, .f32⟩
  | .hbm, ⟨39, _⟩ => ⟨S512x1, .f32⟩
  | .hbm, ⟨40, _⟩ => ⟨S512x1, .f32⟩
  | .hbm, ⟨41, _⟩ => ⟨S512x1, .f32⟩
  | .hbm, ⟨42, _⟩ => ⟨S_, .f32⟩
  | .hbm, ⟨43, _⟩ => ⟨S512x1, .f32⟩
  | .hbm, ⟨44, _⟩ => ⟨S512x1, .f32⟩
  | .hbm, ⟨45, _⟩ => ⟨S512x1, .f32⟩
  | .hbm, ⟨46, _⟩ => ⟨S512x128, .f32⟩
  | .hbm, ⟨47, _⟩ => ⟨S512x128, .f32⟩
  | .hbm, ⟨48, _⟩ => ⟨S512x1, .f32⟩
  | .hbm, ⟨49, _⟩ => ⟨S512x1, .f32⟩
  | .hbm, ⟨50, _⟩ => ⟨S512x127, .f32⟩
  | .hbm, ⟨51, _⟩ => ⟨S512x128, .f32⟩
  | .hbm, ⟨52, _⟩ => ⟨S128x16, .f32⟩
  | .hbm, ⟨53, _⟩ => ⟨S512x16, .f32⟩
  | .hbm, ⟨54, _⟩ => ⟨S_, .f32⟩
  | .hbm, ⟨55, _⟩ => ⟨S512x16, .f32⟩
  | .hbm, ⟨56, _⟩ => ⟨S512x16, .f32⟩
  | .hbm, ⟨57, _⟩ => ⟨S_, .f32⟩
  | .hbm, ⟨58, _⟩ => ⟨S512x16, .f32⟩
  | .hbm, ⟨59, _⟩ => ⟨S512x16, .f32⟩
  | .hbm, ⟨60, _⟩ => ⟨S1x16, .f32⟩
  | .hbm, ⟨61, _⟩ => ⟨S512x16, .f32⟩
  | .hbm, ⟨62, _⟩ => ⟨S512x16, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== Proof.Words.lean ====
/-
  The integer words one window of the SparseCore kernel computes from a segment's end word `e`: the first row of
  the 64-row window that holds row `e` (`winStart`, the floor of `e / 64`, times 64) and the number of rows of that
  window that belong to the segment (`winLen`, `e` modulo 64), both spelt the way floor division and floor modulus
  are printed, with the signs compared. For an end word in range they are the plain quotient and remainder.
-/
module

public import Idealize.ShloMosaic.Lib.Affine
public import Idealize.ShloMosaic.Lib.LoopRemainder

@[expose] public section

namespace Cert.Proof

open Idealize.ShloMosaic

/-- The window's first row: `floor (e / 64) * 64`. -/
def winStart (e : BitVec 32) : BitVec 32 :=
  Scalar.muli (Scalar.select
    (Scalar.andi
      (Scalar.cmpi .ne
        (Scalar.subi (Scalar.extui (Scalar.cmpi .sgt e 0#32)) (Scalar.extui (Scalar.cmpi .slt e 0#32)))
        (Scalar.subi (Scalar.extui (Scalar.cmpi .sgt 64#32 0#32)) (Scalar.extui (Scalar.cmpi .slt 64#32 0#32))))
      (Scalar.cmpi .ne (Scalar.remsi e 64#32) 0#32))
    (Scalar.subi (Scalar.divsi e 64#32) 1#32) (Scalar.divsi e 64#32)) 64#32

/-- The divisor of the modulus, guarded against zero. -/
def winDiv : BitVec 32 := Scalar.select (Scalar.cmpi .eq 64#32 0#32) 1#32 64#32

/-- The rows of the window before row `e`: `e mod 64`, of the divisor's sign. -/
def winLen (e : BitVec 32) : BitVec 32 :=
  Scalar.select
    (Scalar.andi (Scalar.xori (Scalar.cmpi .slt (Scalar.remsi e winDiv) 0#32) (Scalar.cmpi .slt winDiv 0#32))
      (Scalar.cmpi .ne (Scalar.remsi e winDiv) 0#32))
    (Scalar.addi (Scalar.remsi e winDiv) winDiv) (Scalar.remsi e winDiv)

/-- The loop over the window's rows. -/
@[reducible] def winLoop (e : BitVec 32) : Scf.Loop 32 :=
  ⟨0#32, Scalar.addi 0#32 (Scalar.muli (Scalar.divsi (Scalar.subi (winLen e) 0#32) 1#32) 1#32), 1#32⟩

/-- The loop over the rows left by a step wider than one: none. -/
@[reducible] def remLoop (e : BitVec 32) : Scf.Loop 32 :=
  ⟨Scalar.addi 0#32 (Scalar.muli (Scalar.divsi (Scalar.subi (winLen e) 0#32) 1#32) 1#32),
    Scalar.addi 0#32 (Scalar.subi (winLen e) 0#32), 1#32⟩

variable {e : BitVec 32}

/-- An end word in range read as a signed integer. -/
theorem isInt_word (he : e.toNat < 320000) : Affine.IsInt e e.toNat := by
  have h : e.toInt = e.toNat := by
    rw [BitVec.toInt_eq_toNat_cond]; split <;> omega
  have := Affine.word e
  rwa [h] at this

/-- The window of row `e` starts at the last multiple of 64 up to `e`. -/
theorem winStart_toNat (he : e.toNat < 320000) : (winStart e).toNat = e.toNat / 64 * 64 := by
  have hw := isInt_word he
  have h0 : Affine.IsInt 0#32 0 := Affine.ofNat 0 ⟨rfl, by decide⟩
  have h64 : Affine.IsInt 64#32 64 := Affine.ofNat 64 ⟨rfl, by decide⟩
  have hq := Affine.divsi hw h64 ⟨rfl, by omega, by decide⟩
  have hr := Affine.remsi hw h64 ⟨rfl, by omega, by decide⟩
  have hs : Affine.IsInt (Scalar.subi (Scalar.extui (Scalar.cmpi .sgt 64#32 0#32)) (Scalar.extui (Scalar.cmpi .slt 64#32 0#32))) 1 :=
    Affine.subi (Affine.extui_holds (Affine.sgt_holds h64 h0 (by decide)) rfl)
      (Affine.extui_fails (Affine.slt_fails h64 h0 (by decide)) rfl) ⟨rfl, by decide, by decide⟩
  have hneg : Affine.IsInt (Scalar.extui (Scalar.cmpi .slt e 0#32)) 0 :=
    Affine.extui_fails (Affine.slt_fails hw h0 (by omega)) rfl
  have hc : Affine.Fails (Scalar.andi
      (Scalar.cmpi .ne
        (Scalar.subi (Scalar.extui (Scalar.cmpi .sgt e 0#32)) (Scalar.extui (Scalar.cmpi .slt e 0#32)))
        (Scalar.subi (Scalar.extui (Scalar.cmpi .sgt 64#32 0#32)) (Scalar.extui (Scalar.cmpi .slt 64#32 0#32))))
      (Scalar.cmpi .ne (Scalar.remsi e 64#32) 0#32)) := by
    by_cases hz : e.toNat = 0
    · exact Affine.andi_fails_right trivial (Affine.ne_fails hr h0 (by rw [hz]; rfl))
    · refine Affine.andi_fails_left (Affine.ne_fails (Affine.subi (e := 1)
        (Affine.extui_holds (Affine.sgt_holds hw h0 (by omega)) rfl) hneg ⟨rfl, by decide, by decide⟩) hs rfl) trivial
  have hd := Affine.select_fails hc
    (Affine.subi hq (Affine.ofNat 1 ⟨rfl, by decide⟩) ⟨rfl, by omega, by omega⟩) hq rfl
  exact Affine.nat_eq (Affine.muli hd h64 ⟨rfl, by omega, by omega⟩) _ (by omega)

/-- The rows of the window before row `e` are the remainder. -/
theorem winLen_isInt (he : e.toNat < 320000) : Affine.IsInt (winLen e) (e.toNat % 64) := by
  have hw := isInt_word he
  have h0 : Affine.IsInt 0#32 0 := Affine.ofNat 0 ⟨rfl, by decide⟩
  have h64 : Affine.IsInt winDiv 64 := Affine.ofNat 64 ⟨rfl, by decide⟩
  have hr := Affine.remsi hw h64 ⟨rfl, by omega, by decide⟩
  have hc : Affine.Fails (Scalar.andi (Scalar.xori (Scalar.cmpi .slt (Scalar.remsi e winDiv) 0#32) (Scalar.cmpi .slt winDiv 0#32))
      (Scalar.cmpi .ne (Scalar.remsi e winDiv) 0#32)) :=
    Affine.andi_fails_left (Affine.xori_ff (Affine.slt_fails hr h0 (by omega)) (Affine.slt_fails h64 h0 (by decide))) trivial
  exact Affine.select_fails hc (Affine.addi hr h64 ⟨rfl, by omega, by omega⟩) hr rfl

theorem winHi_isInt (he : e.toNat < 320000) : Affine.IsInt (winLoop e).ub (e.toNat % 64) := by
  have h0 : Affine.IsInt 0#32 0 := Affine.ofNat 0 ⟨rfl, by decide⟩
  have h1 : Affine.IsInt 1#32 1 := Affine.ofNat 1 ⟨rfl, by decide⟩
  have hl := winLen_isInt he
  have hs := Affine.subi (e := (e.toNat % 64 : Int)) hl h0 ⟨by omega, by omega, by omega⟩
  have hd := Affine.divsi_one (e := (e.toNat % 64 : Int)) hs h1 ⟨rfl, rfl⟩
  have hm := Affine.muli (e := (e.toNat % 64 : Int)) hd h1 ⟨by omega, by omega, by omega⟩
  exact Affine.addi h0 hm ⟨by omega, by omega, by omega⟩

/-- The loop over the window's rows runs once for each row before `e`. -/
theorem winLoop_trips (he : e.toNat < 320000) : (winLoop e).trips = e.toNat % 64 :=
  Affine.trips_eq (Affine.ofNat 0 ⟨rfl, by decide⟩) (winHi_isInt he) (Affine.ofNat 1 ⟨rfl, by decide⟩) _ ⟨by decide, by omega⟩

theorem winLoop_ok (he : e.toNat < 320000) : (winLoop e).OK :=
  Affine.ok (Affine.ofNat 0 ⟨rfl, by decide⟩) (winHi_isInt he) (Affine.ofNat 1 ⟨rfl, by decide⟩) ⟨by decide, by omega⟩

/-- The second loop of a window runs no trip. -/
theorem remLoop_trips (e : BitVec 32) : (remLoop e).trips = 0 := Scf.rem_trips _ _

theorem remLoop_ok (e : BitVec 32) : (remLoop e).OK := Scf.rem_ok _ _

/-- At trip `t` the induction variable of the loop over the window's rows is `t`. -/
theorem winIv_toNat (t : Nat) (ht : t < 64) : (Scalar.indexCast (Scf.iv 0#32 1#32 t)).toNat = t :=
  Affine.nat_eq (Affine.indexCast (Affine.iv (e := (t : Int)) (Affine.ofNat 0 ⟨rfl, by decide⟩) (Affine.ofNat 1 ⟨rfl, by decide⟩) t
    ⟨by omega, by omega, by omega⟩)) _ rfl

end Cert.Proof
-- ==== Proof.Base.lean ====
/-
  The kernel's program as the launch theorem sees it, its resource algebra, and what one SparseCore tile computes:
  for each of its sixteen segment ends `e`, the sum of the rows of the 64-row window of `e` that lie before row `e`.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.Transfers
public import Idealize.ShloMosaic.Lib.StableHlo.Run
public import Idealize.ShloMosaic.Lib.ValueLayout
public import Idealize.ShloMosaic.Lib.Pipeline.Kit
public import Idealize.ShloMosaic.Lib.Tactic
public import proofs.«01_k».proof.Proof.Gen.KernelIdeal
public import proofs.«01_k».proof.Proof.Gen.KernelIdeal.Launch
public import proofs.«01_k».proof.Proof.Gen.KernelIdeal.Skeleton

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, and the counters of the copies in flight -/

abbrev UH : Type := URounds (GSem nD τ sig) ℕ
abbrev UR : Type := URounds (GSem nD τ sig) Unit
abbrev UU : Type := UH × (UR × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UR 𝕄).LandsIn (upEmb : UEmb _ 𝕄) := by unfold EP; infer_instance

/-- The counters of the copies in flight. -/
abbrev EC : UEmb Counters (MT nD τ sig (HIx 1) (Elt F) ℕ UU ℕ) := countersEmb

/-! ## What one window sums to -/

/-- `x` at row `a`, column `b`. -/
def xat {α : Type} (fx : S320000x128.Idx → α) (a b : ℕ) : α :=
  fx (ix2 ⟨a % 320000, Nat.mod_lt _ (by decide)⟩ ⟨b % 128, Nat.mod_lt _ (by decide)⟩)

theorem xat_ix {α : Type} (fx : S320000x128.Idx → α) (j : S320000x128.Idx) (a b : ℕ) (h0 : (j 0).val = a) (h1 : (j 1).val = b) :
    fx j = xat fx a b := by
  subst h0 h1
  unfold xat
  congr 1
  funext d
  match d with
  | ⟨0, _⟩ => exact Fin.ext (Nat.mod_eq_of_lt (j 0).isLt).symm
  | ⟨1, _⟩ => exact Fin.ext (Nat.mod_eq_of_lt (j 1).isLt).symm

/-- The tile's `k`-th end word. -/
def word (v5 : IVec S16 32) (k : ℕ) : BitVec 32 := v5 (ix1 ⟨k % 16, Nat.mod_lt _ (by decide)⟩)

section
variable [FloatOps F]

/-- Row `n` of the window of `v`, its `t`-th group of sixteen columns. -/
def wlane (fx : S320000x128.Idx → F .f32) (v : BitVec 32) (n t : ℕ) : FVec F S16 .f32 :=
  fun i => xat fx ((winStart v).toNat + n) (16 * t + (i 0).val)

/-- The first `n` rows of the window of `v` added up, its `t`-th group of sixteen columns. -/
def wacc (fx : S320000x128.Idx → F .f32) (v : BitVec 32) : ℕ → ℕ → FVec F S16 .f32
  | 0, _ => k1_pay3
  | n + 1, t => addf (wacc fx v n t) (wlane fx v n t)

/-- The rows of the window of `v` before row `v`, added up. -/
def wsum (fx : S320000x128.Idx → F .f32) (v : BitVec 32) (t : ℕ) : FVec F S16 .f32 := wacc fx v (v.toNat % 64) t

/-- The eight accumulators. -/
abbrev V16 (F : FTy → Type) : Type := FVec F S16 .f32
abbrev V8 (F : FTy → Type) : Type := V16 F × V16 F × V16 F × V16 F × V16 F × V16 F × V16 F × V16 F

def accs (fx : S320000x128.Idx → F .f32) (v : BitVec 32) (n : ℕ) : V8 F :=
  (wacc fx v n 0, wacc fx v n 1, wacc fx v n 2, wacc fx v n 3, wacc fx v n 4, wacc fx v n 5, wacc fx v n 6, wacc fx v n 7)

end

/-! ## The tile's memrefs -/

abbrev xM : Memref sig .scVector .hbm S320000x128 .f32 := Memref.whole main_arg0_scv
abbrev edM : Memref sig .scVector .hbm S512 .i32 := Memref.whole main_arg1_scv
abbrev outM : Memref sig .scVector .hbm S512x128 .f32 := Memref.whole main_v1_scv
abbrev evM : Memref sig .scVector .vmem S512 .i32 := Memref.whole cc1_scratch0
abbrev bufM : Memref sig .scVector .vmem S2x64x128 .f32 := Memref.whole cc1_scratch1
abbrev rowM : Memref sig .scVector .vmem S16x128 .f32 := Memref.whole cc1_scratch2

theorem slot_inb (p : Fin 2) : ∀ a, (![p.val, 0, 0] : Fin 3 → ℕ) a + S1x64x128.size a ≤ S2x64x128.size a := by
  revert p; decide
theorem sem_inb (p : Fin 2) : ∀ a, (![p.val] : Fin 1 → ℕ) a + S1.size a ≤ S2.size a := by revert p; decide

/-- Half `p` of the window buffer. -/
abbrev slotM (p : Fin 2) : Memref sig .scVector .vmem S64x128 .f32 :=
  (bufM.slice (Rect.unit (s := S2x64x128) ![p.val, 0, 0] S1x64x128.size (slot_inb p)) (fun _ => rfl)).squeeze S64x128 squeezes_S1x64x128_S64x128
/-- Its semaphore. -/
abbrev semM (p : Fin 2) : DmaSem sig := ((cc1_scratch3.slice (Rect.unit (s := S2) ![p.val] S1.size (sem_inb p))).squeeze S_ squeezes_S1_S_).sem

def winOff (v : BitVec 32) : Fin 2 → ℕ := ![(winStart v).toNat, 0]

theorem win_inb (v : BitVec 32) (hv : v.toNat < 320000) : ∀ a, winOff v a + S64x128.size a ≤ S320000x128.size a := by
  have h := winStart_toNat hv
  intro a
  match a with
  | ⟨0, _⟩ => show (winStart v).toNat + 64 ≤ 320000; omega
  | ⟨1, _⟩ => show 0 + 128 ≤ 128; omega

/-- The window of `x` a copy reads. -/
abbrev winM (off : Fin 2 → ℕ) (h : ∀ a, off a + S64x128.size a ≤ S320000x128.size a) : Memref sig .scVector .hbm S64x128 .f32 :=
  xM.slice (Rect.unit (s := S320000x128) off S64x128.size h) (fun _ => rfl)

abbrev cV (i : grid1.Coords) : Fin τ.nSC := (i 0).castLE hcore1
abbrev jV (i : grid1.Coords) : Fin τ.nSub := (i 1).castLE hsub1
/-- The thread of the tile at grid point `i`. -/
abbrev thr (d : Dev nD) (i : grid1.Coords) : Thread nD τ := V d (cV i) (jV i)

theorem slot_emb (p : Fin 2) (r : Fin 64) (c : Fin 128) :
    (slotM p).view.emb (ix2 r c) = (ix3 (p : Fin 2) r c : S2x64x128.Idx) := by
  show (Rect.unit (s := S2x64x128) ![p.val, 0, 0] S1x64x128.size (slot_inb p)).emb
    (Shape.reshapeEquiv _ (ix2 r c : S64x128.Idx)) = _
  rw [reshapeEquiv_ix2_1ab]
  funext a
  apply Fin.ext
  rw [Rect.emb_apply]
  match a with
  | ⟨0, _⟩ => show p.val + 1 * 0 = p.val; omega
  | ⟨1, _⟩ => show 0 + 1 * r.val = r.val; omega
  | ⟨2, _⟩ => show 0 + 1 * c.val = c.val; omega

/-- What a landed window copy leaves in half `p`: row `r` of the window of `v` at row `r`. -/
theorem slot_write {Val : EltTy → Type} (p : Fin 2) (v : BitVec 32) (off : Fin 2 → ℕ) (h) (hoff : off = winOff v)
    (fd : (slotM p).view.ty.Contents Val) (fx : S320000x128.Idx → Val .f32) (r : Fin 64) (c : Fin 128) :
    (slotM p).view.write Val fd ((winM off h).view.read Val fx) Finset.univ (ix3 (p : Fin 2) r c : S2x64x128.Idx)
      = xat fx ((winStart v).toNat + r.val) c.val := by
  subst hoff
  rw [← slot_emb p r c, View.write_emb_of_mem _ _ (Finset.mem_univ _)]
  refine (cast_eq _ _).trans ?_
  rw [View.read_apply]
  refine (cast_eq _ _).trans ?_
  refine xat_ix fx _ _ _ ?_ ?_
  · show (winStart v).toNat + 1 * r.val = _; omega
  · show 0 + 1 * c.val = _; omega

end Cert.Proof
-- ==== Proof.Steps.lean ====
/-
  The steps of one SparseCore tile over its state: each half of the window buffer is idle, filling with the window of
  an end word, or full of it; and so many groups of sixteen columns of the rows of sums are written.
-/
module

public import proofs.«01_k».proof.Proof.Base

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- What half a window buffer is at. -/
inductive Phase
  | idle
  | busy (v : BitVec 32)
  | full (v : BitVec 32)

def Phase.free : Phase → Bool
  | .busy _ => false
  | _ => true

variable (d : Dev nD) (i : grid1.Coords) (fx : S320000x128.Idx → F .f32) (q : Fin 2 → PosShare TreeShare)
  (O : CellTallies nD τ sig (HIx 1)) (W : Waits sig (HIx 1))

/-- A tile's program. -/
abbrev TP (F : FTy → Type) [FloatOps F] (i : grid1.Coords) (α : Type) : Type 1 := Prog (TpuEff nD τ sig (Elt F) Λ₀ (.scVector (cV i) (jV i))) α

abbrev twp {α : Type} (prog : TP F i α) (Q : α → sProp 𝕄) : sProp 𝕄 :=
  wp frame (wpE (defs₀ (F := F)) 𝒱₀ (thr d i) none) Set.univ prog Q

/-- Half `p` of the window buffer at contents `g`. -/
abbrev slotAt (p : Fin 2) (g : S2x64x128.Idx → F .f32) : sProp 𝕄 :=
  (slotM p).view.loc (thr d i) ↦[(slotM p).view.set]{fullShare} g
abbrev xTok (p : Fin 2) : sProp 𝕄 := xM.view.loc (thr d i) ↦{q p} fx
abbrev NS (p : Fin 2) : ℕ := (slotM p).view.dmaCredit
/-- `g`'s half `p` holds the window of `v`. -/
def Holds (p : Fin 2) (v : BitVec 32) (g : S2x64x128.Idx → F .f32) : Prop :=
  ∀ (r : Fin 64) (c : Fin 128), g (ix3 p r c) = xat fx ((winStart v).toNat + r.val) c.val
def Got (p : Fin 2) (v : BitVec 32) : sProp 𝕄 :=
  iprop((∃ g, ⌜Holds fx p v g⌝ ∗ slotAt d i p g) ∗ xTok d i fx q p)

/-- Half `p` of the window buffer, its share of `x` and its semaphore. -/
def Slot (p : Fin 2) : Phase → sProp 𝕄
  | .idle => iprop((∃ g, slotAt d i p g) ∗ xTok d i fx q p ∗ semVal (thr d i, .dma (semM p)) 0)
  | .busy v => iprop(∃ Dl, Transfers.Flight EC (thr d i) (.dma (semM p)) none (NS p) Dl ∗ (Dl -∗ Got d i fx q p v))
  | .full v => iprop(Got d i fx q p v ∗ semVal (thr d i, .dma (semM p)) 0)

theorem slot_idle (p : Fin 2) (ph : Phase) (h : ph.free = true) : (Slot d i fx q p ph : sProp 𝕄) ⊢ Slot d i fx q p .idle := by
  match ph, h with
  | .idle, _ => exact .rfl
  | .full v, _ =>
    show Slot d i fx q p (.full v) ⊢ Slot d i fx q p .idle
    unfold Slot Got
    iintro ⟨⟨⟨%g, -, Hg⟩, Hx⟩, Hv⟩
    isplitl [Hg]; · iexists g; iexact Hg
    isplitl [Hx] <;> iassumption

/-- What the tile owes, and the waits it has named. -/
def Ow : sProp 𝕄 :=
  iprop(levAts (K (F := F)).L (K (F := F)).lev ∗ ∃ W', ⌜∀ p ∈ W', p ∈ W ∨ p.2 = none⌝ ∗ owes (thr d i) O W')

/-- The first `n` groups of the rows of sums are written. -/
def Rows (v5 : IVec S16 32) (n : ℕ) : sProp 𝕄 :=
  iprop(∃ g : S16x128.Idx → F .f32, ⌜∀ j < n, ∀ l : Fin 16, ∀ ix : S16x128.Idx, (ix 0).val = j / 8 → (ix 1).val = 16 * (j % 8) + l.val →
      g ix = wsum fx (word v5 (j / 8)) (j % 8) (ix1 l)⌝ ∗ rowM.view.loc (thr d i) ↦{fullShare} g)

variable {d i fx q O W}

theorem dma_slot {p : Fin 2} {v : BitVec 32} {ph : Phase} {α : Type} {src : Memref sig .scVector .hbm S64x128 .f32}
    {dst : Memref sig .scVector .vmem S64x128 .f32} {sem : DmaSem sig} {h1 h2 h3} {kk : PUnit → TP F i α} {Q : α → sProp 𝕄} {R : sProp 𝕄}
    (off : Fin 2 → ℕ) (h) (hs : src = winM off h) (hoff : off = winOff v) (hd : dst = slotM p) (hsem : sem = semM p) (hph : ph.free = true)
    (hk : iprop(Slot d i fx q p (.busy v) ∗ R) ⊢ twp d i (kk ⟨⟩) Q) :
    iprop(Slot d i fx q p ph ∗ R) ⊢ twp d i (Prog.lift (.enqueueDma src (.here dst) (.dma sem) h1 h2 h3) >>= kk) Q := by
  subst hs hd hsem
  simp only [Prog.lift, Prog.bind_op, Prog.bind_ret]
  refine (sep_mono (slot_idle d i fx q p ph hph) .rfl).trans ?_
  unfold Slot
  iintro ⟨⟨⟨%g, Hg⟩, Hx, Hv⟩, HR⟩
  ihave Hx := (pointsTo_split_subset (I := (winM off h).view.set) (Finset.subset_univ _)).1 $$ Hx
  icases Hx with ⟨Hw, Hx⟩
  iapply (Transfers.wp_dmaLocal EC 𝒱₀ (thr d i) none (src := winM off h) (dst := slotM p) (q := q p) (fs := fx) (Sd := (slotM p).view.set) (fd := g) none (NS p) rfl (View.dmaCredit_pos _ (by decide)) (Finset.Subset.refl _)) $$ [Hw Hg Hv]
  · isplitl [Hw]; · iexact Hw
    isplitl [Hg]; · iexact Hg
    iexact Hv
  iintro Hf
  iapply hk
  unfold Slot
  isplitr [HR]
  · iexists _
    isplitl [Hf]; · iexact Hf
    iintro ⟨Hg, Hw⟩
    unfold Got
    isplitl [Hg]
    · iexists ((slotM p).view.write (Elt F) g ((winM off h).view.read (Elt F) fx) Finset.univ)
      isplitr
      · ipureintro
        exact fun r c => slot_write (Val := Elt F) p v off h hoff g fx r c
      · iexact Hg
    · iapply (pointsTo_split_subset (I := (winM off h).view.set) (Finset.subset_univ _)).2
      isplitl [Hw] <;> iassumption
  · iexact HR

theorem wait_slot (hO : ∀ g, O g none = 0) {p : Fin 2} {v : BitVec 32} {α : Type} {src : Memref sig .scVector .hbm S64x128 .f32}
    {dst : Memref sig .scVector .vmem S64x128 .f32} {sem : DmaSem sig} {h1 h2} {kk : PUnit → TP F i α} {Q : α → sProp 𝕄} {R : sProp 𝕄}
    (hd : dst = slotM p) (hsem : sem = semM p)
    (hk : iprop(Slot d i fx q p (.full v) ∗ Ow d i O W ∗ R) ⊢ twp d i (kk ⟨⟩) Q) :
    iprop(Slot d i fx q p (.busy v) ∗ Ow d i O W ∗ R) ⊢ twp d i (Prog.lift (.waitDma2 sem src dst h1 h2) >>= kk) Q := by
  subst hd hsem
  simp only [Prog.lift, Prog.bind_op, Prog.bind_ret]
  unfold Slot Ow
  iintro ⟨⟨%Dl, Hf, Hd⟩, ⟨#Hlv, %W', %hW', HO⟩, HR⟩
  iapply (Transfers.wp_waitLocalO EC 𝒱₀ (thr d i) none none (N := NS p) rfl (O := O) (W := W')) $$ [Hf HO]
  · isplitl [Hf]; · iexact Hf
    isplitl [HO]; · iexact HO
    iapply ((K (F := F)).mayWait_none (SemLoc.dma (semM p)) hO); iexact Hlv
  iintro ⟨HD, Hv, HO⟩
  iapply hk
  unfold Slot Ow
  isplitl [HD Hd Hv]
  · isplitr [Hv]
    · iapply Hd; iexact HD
    · iexact Hv
  isplitl [HO]
  · isplitr; · iexact Hlv
    iexists (insert (SemLoc.dma (semM p), none) W')
    isplitr
    · ipureintro
      intro p hp
      rcases Finset.mem_insert.mp hp with rfl | hp
      · exact .inr rfl
      · exact hW' p hp
    · iexact HO
  · iexact HR

/-- A load of the rows of sums whose value is not used. -/
theorem load_rows {v5 : IVec S16 32} {n : ℕ} {α : Type} {m : Memref sig .scVector .vmem S16x128 .f32} {r : LoadRect S16x128} {hl}
    {kk : (r.shape.Idx → Elt F .f32) → TP F i α} {Q : α → sProp 𝕄} {R : sProp 𝕄} (hm : m = rowM)
    (hk : ∀ u, iprop(Rows d i fx v5 n ∗ R) ⊢ twp d i (kk u) Q) :
    iprop(Rows d i fx v5 n ∗ R) ⊢ twp d i (Prog.lift (.load (cs := .vmem) m r hl) >>= kk) Q := by
  subst hm
  simp only [Prog.lift, Prog.bind_op, Prog.bind_ret]
  refine Entails.trans ?_ Entails.rfl
  conv_lhs => unfold Rows
  iintro ⟨⟨%g, %hg, Hg⟩, HR⟩
  iapply (wp_load 𝒱₀ (thr d i) none Set.univ (m := rowM) (S := Finset.univ) (Finset.subset_univ _)) $$ Hg
  iintro Hg
  iapply hk
  unfold Rows
  isplitr [HR]
  · iexists g
    isplitr
    · ipureintro; exact hg
    · iexact Hg
  · iexact HR

/-- The store of one group of sixteen columns. -/
theorem store_rows {v5 : IVec S16 32} {n : ℕ} {α : Type} {m : Memref sig .scVector .vmem S16x128 .f32} {off : Fin 2 → ℕ} {h}
    {w : S1x16.Idx → Elt F .f32} {hx hm'} {v : BitVec 32} (t : ℕ)
    {kk : PUnit → TP F i α} {Q : α → sProp 𝕄} {R : sProp 𝕄} (hm : m = rowM) (hw : w = shapeCast S1x16 (wsum fx v t) shapeCasts_S16_S1x16)
    (hoff : off = ![n / 8, 16 * (n % 8)]) (ht : t = n % 8) (hv : v = word v5 (n / 8))
    (hk : iprop(Rows d i fx v5 (n + 1) ∗ R) ⊢ twp d i (kk ⟨⟩) Q) :
    iprop(Rows d i fx v5 n ∗ R) ⊢ twp d i (Prog.lift (.store (cs := .vmem) m (Rect.unit (s := S16x128) off S1x16.size h) w Finset.univ hx hm') >>= kk) Q := by
  subst hm hw hv ht
  simp only [Prog.lift, Prog.bind_op, Prog.bind_ret]
  refine Entails.trans ?_ Entails.rfl
  conv_lhs => unfold Rows
  iintro ⟨⟨%g, %hg, Hg⟩, HR⟩
  iapply (wp_store 𝒱₀ (thr d i) none Set.univ (m := rowM) (r := Rect.unit (s := S16x128) off S1x16.size h) (Mk := Finset.univ) (S := Finset.univ) (Finset.subset_univ _)) $$ Hg
  iintro Hg
  iapply hk
  unfold Rows
  isplitr [HR]
  · iexists _
    isplitr
    swap
    · iexact Hg
    · ipureintro
      intro j hj l ix h0 h1
      by_cases hjn : j = n
      · subst hjn
        have hix : ix = (rowM.access (Rect.unit (s := S16x128) off S1x16.size h)).emb (ix2 (0 : Fin 1) l : S1x16.Idx) := by
          funext a
          apply Fin.ext
          show _ = (((Rect.unit (s := S16x128) off S1x16.size h)).emb (ix2 (0 : Fin 1) l : S1x16.Idx) a).val
          rw [Rect.emb_apply]
          subst hoff
          match a with
          | ⟨0, _⟩ => show (ix 0).val = j / 8 + 1 * 0; omega
          | ⟨1, _⟩ => show (ix 1).val = 16 * (j % 8) + 1 * l.val; omega
        rw [hix, View.write_emb_of_mem _ _ (Finset.mem_univ _)]
        refine (cast_eq _ _).trans ?_
        exact shapeCast_a_1a_apply _ _ _ _
      · rw [View.write_of_not_mem]
        · exact hg j (by omega) l ix h0 h1
        · rw [View.setOn_univ]
          intro hmem
          obtain ⟨y, -, hy⟩ := Finset.mem_map.mp hmem
          have e0 : (ix 0).val = off 0 + 1 * (y 0).val := by rw [← hy]; rfl
          have e1 : (ix 1).val = off 1 + 1 * (y 1).val := by rw [← hy]; rfl
          subst hoff
          have y0 : (y 0).val < 1 := (y 0).isLt
          have y1 : (y 1).val < 16 := (y 1).isLt
          change (ix 0).val = n / 8 + 1 * (y 0).val at e0
          change (ix 1).val = 16 * (n % 8) + 1 * (y 1).val at e1
          omega
  · iexact HR

/-! ## The loop over a window's rows -/

/-- Row `t` of half `p` at sixteen columns from `c`, as the loop's body addresses it. -/
theorem lane_inb (p : Fin 2) (n c : ℕ) (hn : n < 64) (hc : c + 16 ≤ 128) :
    ∀ a, (![p.val, (Scalar.indexCast (Scf.iv 0#32 1#32 n)).toNat, c] : Fin 3 → ℕ) a + S1x1x16.size a ≤ S2x64x128.size a := by
  have h := winIv_toNat n hn
  intro a
  match a with
  | ⟨0, _⟩ => show p.val + 1 ≤ 2; omega
  | ⟨1, _⟩ => show (Scalar.indexCast (Scf.iv 0#32 1#32 n)).toNat + 1 ≤ 64; omega
  | ⟨2, _⟩ => exact hc

/-- One trip's read of sixteen columns. -/
abbrev laneRect (p : Fin 2) (n c : ℕ) (hn : n < 64) (hc : c + 16 ≤ 128) : Rect S2x64x128 :=
  Rect.unit (s := S2x64x128) ![p.val, (Scalar.indexCast (Scf.iv 0#32 1#32 n)).toNat, c] S1x1x16.size (lane_inb p n c hn hc)

/-- One trip: sixteen columns at a time, row `t` of half `p` is added to the accumulators. -/
def winBody (p : Fin 2) {N : ℕ} (hN : N ≤ 64) : Fin N → V8 F → TP F i (V8 F) := fun t (a0, a1, a2, a3, a4, a5, a6, a7) => do
  have hn : t.val < 64 := Nat.lt_of_lt_of_le t.isLt hN
  let u0 ← Prog.lift (.load bufM (laneRect p t 0 hn (by decide)).toLoadRect (View.loadsAt_vmem h_S1x1x16))
  let u1 ← Prog.lift (.load bufM (laneRect p t 16 hn (by decide)).toLoadRect (View.loadsAt_vmem h_S1x1x16))
  let u2 ← Prog.lift (.load bufM (laneRect p t 32 hn (by decide)).toLoadRect (View.loadsAt_vmem h_S1x1x16))
  let u3 ← Prog.lift (.load bufM (laneRect p t 48 hn (by decide)).toLoadRect (View.loadsAt_vmem h_S1x1x16))
  let u4 ← Prog.lift (.load bufM (laneRect p t 64 hn (by decide)).toLoadRect (View.loadsAt_vmem h_S1x1x16))
  let u5 ← Prog.lift (.load bufM (laneRect p t 80 hn (by decide)).toLoadRect (View.loadsAt_vmem h_S1x1x16))
  let u6 ← Prog.lift (.load bufM (laneRect p t 96 hn (by decide)).toLoadRect (View.loadsAt_vmem h_S1x1x16))
  let u7 ← Prog.lift (.load bufM (laneRect p t 112 hn (by decide)).toLoadRect (View.loadsAt_vmem h_S1x1x16))
  pure (k1_pay5 a0 u0, k1_pay5 a1 u1, k1_pay5 a2 u2, k1_pay5 a3 u3, k1_pay5 a4 u4, k1_pay5 a5 u5, k1_pay5 a6 u6, k1_pay5 a7 u7)

/-- What a read of sixteen columns adds. -/
theorem lane_add {p : Fin 2} {v : BitVec 32} {g : S2x64x128.Idx → F .f32} (hg : Holds fx p v g) (a : V16 F) (n t : ℕ) (hn : n < 64) (ht : t < 8)
    (hc : 16 * t + 16 ≤ 128) :
    k1_pay5 a (bufM.view.readAt (Elt F) (laneRect p n (16 * t) hn hc).toLoadRect g) = addf a (wlane fx v n t) := by
  show addf a (shapeCast S16 (bufM.view.readAt (Elt F) (laneRect p n (16 * t) hn hc).toLoadRect g) shapeCasts_S1x1x16_S16) = _
  congr 1
  funext j
  rw [shapeCast_apply _ _ j (ix3 (0 : Fin 1) (0 : Fin 1) (j 0) : S1x1x16.Idx) (by
    rw [Shape.rowMajor_val_three, Shape.rowMajor_val_one]
    show (0 * 1 + 0) * 16 + (j 0).val = (j 0).val; omega)]
  rw [View.readAt_apply]
  have hj : (j 0).val < 16 := (j 0).isLt
  have e : (laneRect p n (16 * t) hn hc).toLoadRect.idx (ix3 (0 : Fin 1) (0 : Fin 1) (j 0) : S1x1x16.Idx)
      = (ix3 p (⟨n, hn⟩ : Fin 64) (⟨16 * t + (j 0).val, by omega⟩ : Fin 128) : S2x64x128.Idx) := by
    have h := winIv_toNat n hn
    funext a
    apply Fin.ext
    rw [LoadRect.idx_apply]
    match a with
    | ⟨0, _⟩ => show p.val + 1 * 0 = p.val; omega
    | ⟨1, _⟩ => show (Scalar.indexCast (Scf.iv 0#32 1#32 n)).toNat + 1 * 0 = n; omega
    | ⟨2, _⟩ => show 16 * t + 1 * (j 0).val = 16 * t + (j 0).val; omega
  rw [e]
  exact hg ⟨n, hn⟩ ⟨16 * t + (j 0).val, by omega⟩

theorem laneRect_sub (p : Fin 2) (n c : ℕ) (hn : n < 64) (hc : c + 16 ≤ 128) :
    bufM.view.setOn (laneRect p n c hn hc).toLoadRect.set ⊆ (slotM p).view.set := by
  have h := winIv_toNat n hn
  intro ix hix
  obtain ⟨y, hy, rfl⟩ := Finset.mem_map.mp hix
  have hm := (LoadRect.mem_set _).mp hy
  obtain ⟨z0, l0, e0⟩ := hm 0
  obtain ⟨z1, l1, e1⟩ := hm 1
  obtain ⟨z2, l2, e2⟩ := hm 2
  change z0 < 1 at l0
  change z1 < 1 at l1
  change z2 < 16 at l2
  change (y 0).val = p.val + 1 * z0 at e0
  change (y 1).val = (Scalar.indexCast (Scf.iv 0#32 1#32 n)).toNat + 1 * z1 at e1
  change (y 2).val = c + 1 * z2 at e2
  have e : y = (ix3 p (⟨n, hn⟩ : Fin 64) (⟨c + z2, by omega⟩ : Fin 128) : S2x64x128.Idx) := by
    funext a
    apply Fin.ext
    match a with
    | ⟨0, _⟩ => show (y 0).val = p.val; omega
    | ⟨1, _⟩ => show (y 1).val = n; omega
    | ⟨2, _⟩ => show (y 2).val = c + z2; omega
  show y ∈ _
  rw [e]
  have := (slotM p).view.emb_mem_set (ix2 (⟨n, hn⟩ : Fin 64) (⟨c + z2, by omega⟩ : Fin 128))
  rw [slot_emb] at this
  exact this

theorem load_buf {p : Fin 2} {g : S2x64x128.Idx → F .f32} {α : Type} {n c : ℕ} {hn : n < 64} {hc : c + 16 ≤ 128} {hl}
    {kk : (S1x1x16.Idx → F .f32) → TP F i α} {Q : α → sProp 𝕄} {R : sProp 𝕄}
    (hk : iprop(slotAt d i p g ∗ R) ⊢ twp d i (kk (bufM.view.readAt (Elt F) (laneRect p n c hn hc).toLoadRect g)) Q) :
    iprop(slotAt d i p g ∗ R) ⊢ twp d i (Prog.lift (.load (cs := .vmem) bufM (laneRect p n c hn hc).toLoadRect hl) >>= kk) Q := by
  simp only [Prog.lift, Prog.bind_op, Prog.bind_ret]
  iintro ⟨Hg, HR⟩
  iapply (wp_load 𝒱₀ (thr d i) none Set.univ (m := bufM) (S := (slotM p).view.set) (laneRect_sub p n c hn hc)) $$ Hg
  iintro Hg
  iapply hk
  isplitl [Hg] <;> iassumption

theorem winBody_spec {p : Fin 2} {N : ℕ} (hN : N ≤ 64) (t : Fin N) {v : BitVec 32} {g : S2x64x128.Idx → F .f32} (hg : Holds fx p v g) {R : sProp 𝕄} :
    iprop(slotAt d i p g ∗ R) ⊢ twp d i (winBody (i := i) p hN t (accs fx v t.val)) fun acc => iprop(⌜acc = accs fx v (t.val + 1)⌝ ∗ slotAt d i p g ∗ R) := by
  unfold winBody accs
  have hn : t.val < 64 := Nat.lt_of_lt_of_le t.isLt hN
  iterate 8 refine load_buf ?_
  rw [Prog.pure_eq_ret]
  unfold twp
  rw [wp_ret]
  refine Entails.trans ?_ fupd_intro
  iintro H
  isplitr
  · ipureintro
    have e := fun (k : ℕ) hk hc => lane_add hg (wacc fx v t.val k) t.val k hn hk hc
    refine Prod.ext (e 0 (by decide) (by decide)) (Prod.ext (e 1 (by decide) (by decide)) (Prod.ext (e 2 (by decide) (by decide)) (Prod.ext (e 3 (by decide) (by decide))
      (Prod.ext (e 4 (by decide) (by decide)) (Prod.ext (e 5 (by decide) (by decide)) (Prod.ext (e 6 (by decide) (by decide)) (e 7 (by decide) (by decide))))))))
  · iexact H

/-- The loop over the rows before `v` of the window of `v`. -/
theorem loop_slot {p : Fin 2} {v : BitVec 32} (hv : v.toNat < 320000) {α : Type} {L : Scf.Loop 32} {hok : L.OK} {init : V8 F} {body : Fin L.trips → V8 F → TP F i (V8 F)}
    {kk : V8 F → TP F i α} {Q : α → sProp 𝕄} {R : sProp 𝕄} (hL : L = winLoop v) (hinit : init = (k1_pay3, k1_pay3, k1_pay3, k1_pay3, k1_pay3, k1_pay3, k1_pay3, k1_pay3))
    (hbody : ∀ hN : L.trips ≤ 64, body = winBody p hN)
    (hk : iprop(Slot d i fx q p (.full v) ∗ R) ⊢ twp d i (kk (wsum fx v 0, wsum fx v 1, wsum fx v 2, wsum fx v 3, wsum fx v 4, wsum fx v 5, wsum fx v 6, wsum fx v 7)) Q) :
    iprop(Slot d i fx q p (.full v) ∗ R) ⊢ twp d i (Scf.for L.lb L.ub L.st hok init body >>= kk) Q := by
  have ht : L.trips = v.toNat % 64 := by rw [hL]; exact winLoop_trips hv
  have hN : L.trips ≤ 64 := by omega
  have hk' : iprop(Slot d i fx q p (.full v) ∗ R) ⊢ twp d i (kk (accs fx v (Scf.trips L.lb L.ub L.st))) Q := by
    rw [show Scf.trips L.lb L.ub L.st = v.toNat % 64 from ht]
    exact hk
  rw [hbody hN, hinit]
  refine Entails.trans ?_ Entails.rfl
  conv_lhs => unfold Slot Got
  iintro ⟨⟨⟨⟨%g, %hg, Hg⟩, Hx⟩, Hv⟩, HR⟩
  iapply (Scf.wp_for_bind frame (wpE (defs₀ (F := F)) 𝒱₀ (thr d i) none) Set.univ L.lb L.ub L.st hok _ (winBody p hN)
    (fun n acc => iprop(⌜acc = accs fx v n⌝ ∗ slotAt d i p g ∗ emp)) (fun t acc => by
      iintro ⟨%ha, H⟩
      subst ha
      iapply (winBody_spec hN t hg); iexact H)) $$ [Hg]
  · isplitr
    · ipureintro; rfl
    · isplitl; · iexact Hg
      iempintro
  iintro %acc ⟨%ha, Hg, -⟩
  subst ha
  iapply hk'
  unfold Slot Got
  isplitr [HR]
  · isplitr [Hv]
    · isplitl [Hg]
      · iexists g
        isplitr
        · ipureintro; exact hg
        · iexact Hg
      · iexact Hx
    · iexact Hv
  · iexact HR

/-- The loop over the rows left by a step wider than one: it runs no trip. -/
theorem loop_none {α : Type} {L : Scf.Loop 32} {hok : L.OK} {init : V8 F} {body : Fin L.trips → V8 F → TP F i (V8 F)}
    {kk : V8 F → TP F i α} {Q : α → sProp 𝕄} {P : sProp 𝕄} (v : BitVec 32) (hL : L = remLoop v) (hk : P ⊢ twp d i (kk init) Q) :
    P ⊢ twp d i (Scf.for L.lb L.ub L.st hok init body >>= kk) Q := by
  rw [Scf.for_eq_ret L.lb L.ub L.st hok init body (by subst hL; exact remLoop_trips v)]
  exact hk

/-- A check that holds. -/
theorem assume_step {α : Type} {Pr : Prop} {dec : Decidable Pr} {kk : PLift Pr → TP F i α} {Q : α → sProp 𝕄} {P : sProp 𝕄} (hc : Pr)
    (hk : P ⊢ twp d i (kk ⟨hc⟩) Q) : P ⊢ twp d i (Prog.lift (.assume Pr dec) >>= kk) Q := by
  simp only [Prog.lift, Prog.bind_op, Prog.bind_ret]
  unfold twp
  rw [wp_assume_of _ _ _ _ hc]
  exact hk

end Cert.Proof
-- ==== Proof.TileParts.lean ====
/-
  The tile's program, part by part: each printed step is one of the steps over the tile's state, and the sixteen
  windows use the two halves of the window buffer in turn.
-/
module

public import proofs.«01_k».proof.Proof.Steps

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid1.Coords) (fx : S320000x128.Idx → F .f32) (q : Fin 2 → PosShare TreeShare)
  (O : CellTallies nD τ sig (HIx 1)) (W : Waits sig (HIx 1))

/-- The tile's state: the two halves of the window buffer, the groups of sums written, what it owes, and the rest. -/
def St (v5 : IVec S16 32) (a b : Phase) (n : ℕ) (R : sProp 𝕄) : sProp 𝕄 :=
  iprop(Slot d i fx q 0 a ∗ Slot d i fx q 1 b ∗ Rows d i fx v5 n ∗ Ow d i O W ∗ R)

variable {d i fx q O W}

theorem st_slot0 {v5 : IVec S16 32} {a b : Phase} {n : ℕ} {R : sProp 𝕄} :
    St d i fx q O W v5 a b n R ⊣⊢ iprop(Slot d i fx q 0 a ∗ Ow d i O W ∗ (Slot d i fx q 1 b ∗ Rows d i fx v5 n ∗ R)) := by
  unfold St
  constructor
  · iintro ⟨H0, H1, HR, HO, H⟩
    isplitl [H0]; · iexact H0
    isplitl [HO]; · iexact HO
    isplitl [H1]; · iexact H1
    isplitl [HR] <;> iassumption
  · iintro ⟨H0, HO, H1, HR, H⟩
    isplitl [H0]; · iexact H0
    isplitl [H1]; · iexact H1
    isplitl [HR]; · iexact HR
    isplitl [HO] <;> iassumption

theorem st_slot1 {v5 : IVec S16 32} {a b : Phase} {n : ℕ} {R : sProp 𝕄} :
    St d i fx q O W v5 a b n R ⊣⊢ iprop(Slot d i fx q 1 b ∗ Ow d i O W ∗ (Slot d i fx q 0 a ∗ Rows d i fx v5 n ∗ R)) := by
  unfold St
  constructor
  · iintro ⟨H0, H1, HR, HO, H⟩
    isplitl [H1]; · iexact H1
    isplitl [HO]; · iexact HO
    isplitl [H0]; · iexact H0
    isplitl [HR] <;> iassumption
  · iintro ⟨H1, HO, H0, HR, H⟩
    isplitl [H0]; · iexact H0
    isplitl [H1]; · iexact H1
    isplitl [HR]; · iexact HR
    isplitl [HO] <;> iassumption

theorem st_rows {v5 : IVec S16 32} {a b : Phase} {n : ℕ} {R : sProp 𝕄} :
    St d i fx q O W v5 a b n R ⊣⊢ iprop(Rows d i fx v5 n ∗ (Slot d i fx q 0 a ∗ Slot d i fx q 1 b ∗ Ow d i O W ∗ R)) := by
  unfold St
  constructor
  · iintro ⟨H0, H1, HR, HO, H⟩
    isplitl [HR]; · iexact HR
    isplitl [H0]; · iexact H0
    isplitl [H1]; · iexact H1
    isplitl [HO] <;> iassumption
  · iintro ⟨HR, H0, H1, HO, H⟩
    isplitl [H0]; · iexact H0
    isplitl [H1]; · iexact H1
    isplitl [HR]; · iexact HR
    isplitl [HO] <;> iassumption

section Steps

variable {v5 : IVec S16 32} {a b : Phase} {n : ℕ} {α : Type}

theorem st_dma0 {R : sProp 𝕄} {Q : α → sProp 𝕄} {v : BitVec 32} {src : Memref sig .scVector .hbm S64x128 .f32} {dst : Memref sig .scVector .vmem S64x128 .f32} {sem : DmaSem sig} {h1 h2 h3}
    {kk : PUnit → TP F i α} {off : Fin 2 → ℕ} {h} (hph : a.free = true) (hs : src = winM off h) (hoff : off = winOff v) (hd : dst = slotM 0) (hsem : sem = semM 0)
    (hk : St d i fx q O W v5 (.busy v) b n R ⊢ twp d i (kk ⟨⟩) Q) :
    St d i fx q O W v5 a b n R ⊢ twp d i (Prog.lift (.enqueueDma src (.here dst) (.dma sem) h1 h2 h3) >>= kk) Q := by
  exact st_slot0.1.trans (dma_slot off h hs hoff hd hsem hph (st_slot0.2.trans hk))

theorem st_dma1 {R : sProp 𝕄} {Q : α → sProp 𝕄} {v : BitVec 32} {src : Memref sig .scVector .hbm S64x128 .f32} {dst : Memref sig .scVector .vmem S64x128 .f32} {sem : DmaSem sig} {h1 h2 h3}
    {kk : PUnit → TP F i α} {off : Fin 2 → ℕ} {h} (hph : b.free = true) (hs : src = winM off h) (hoff : off = winOff v) (hd : dst = slotM 1) (hsem : sem = semM 1)
    (hk : St d i fx q O W v5 a (.busy v) n R ⊢ twp d i (kk ⟨⟩) Q) :
    St d i fx q O W v5 a b n R ⊢ twp d i (Prog.lift (.enqueueDma src (.here dst) (.dma sem) h1 h2 h3) >>= kk) Q := by
  exact st_slot1.1.trans (dma_slot off h hs hoff hd hsem hph (st_slot1.2.trans hk))

theorem st_wait0 {R : sProp 𝕄} {Q : α → sProp 𝕄} (hO : ∀ g, O g none = 0) {v : BitVec 32} {src : Memref sig .scVector .hbm S64x128 .f32} {dst : Memref sig .scVector .vmem S64x128 .f32} {sem : DmaSem sig} {h1 h2}
    {kk : PUnit → TP F i α} (hd : dst = slotM 0) (hsem : sem = semM 0)
    (hk : St d i fx q O W v5 (.full v) b n R ⊢ twp d i (kk ⟨⟩) Q) :
    St d i fx q O W v5 (.busy v) b n R ⊢ twp d i (Prog.lift (.waitDma2 sem src dst h1 h2) >>= kk) Q := by
  exact st_slot0.1.trans (wait_slot hO hd hsem (st_slot0.2.trans hk))

theorem st_wait1 {R : sProp 𝕄} {Q : α → sProp 𝕄} (hO : ∀ g, O g none = 0) {v : BitVec 32} {src : Memref sig .scVector .hbm S64x128 .f32} {dst : Memref sig .scVector .vmem S64x128 .f32} {sem : DmaSem sig} {h1 h2}
    {kk : PUnit → TP F i α} (hd : dst = slotM 1) (hsem : sem = semM 1)
    (hk : St d i fx q O W v5 a (.full v) n R ⊢ twp d i (kk ⟨⟩) Q) :
    St d i fx q O W v5 a (.busy v) n R ⊢ twp d i (Prog.lift (.waitDma2 sem src dst h1 h2) >>= kk) Q := by
  exact st_slot1.1.trans (wait_slot hO hd hsem (st_slot1.2.trans hk))

theorem st_load {R : sProp 𝕄} {Q : α → sProp 𝕄} {m : Memref sig .scVector .vmem S16x128 .f32} {r : LoadRect S16x128} {hl} {kk : (r.shape.Idx → Elt F .f32) → TP F i α} (hm : m = rowM)
    (hk : ∀ u, St d i fx q O W v5 a b n R ⊢ twp d i (kk u) Q) :
    St d i fx q O W v5 a b n R ⊢ twp d i (Prog.lift (.load (cs := .vmem) m r hl) >>= kk) Q := by
  exact st_rows.1.trans (load_rows hm fun u => st_rows.2.trans (hk u))

theorem st_store {R : sProp 𝕄} {Q : α → sProp 𝕄} {m : Memref sig .scVector .vmem S16x128 .f32} {off : Fin 2 → ℕ} {h} {w : S1x16.Idx → Elt F .f32} {hx hm'} {v : BitVec 32} {t : ℕ}
    {kk : PUnit → TP F i α} (hm : m = rowM) (hw : w = shapeCast S1x16 (wsum fx v t) shapeCasts_S16_S1x16)
    (hoff : off = ![n / 8, 16 * (n % 8)]) (ht : t = n % 8) (hv : v = word v5 (n / 8))
    (hk : St d i fx q O W v5 a b (n + 1) R ⊢ twp d i (kk ⟨⟩) Q) :
    St d i fx q O W v5 a b n R ⊢ twp d i (Prog.lift (.store (cs := .vmem) m (Rect.unit (s := S16x128) off S1x16.size h) w Finset.univ hx hm') >>= kk) Q := by
  exact st_rows.1.trans (store_rows t hm hw hoff ht hv (st_rows.2.trans hk))

theorem st_loop0 {R : sProp 𝕄} {Q : α → sProp 𝕄} {v : BitVec 32} {L : Scf.Loop 32} {hok : L.OK} {init : V8 F} {body : Fin L.trips → V8 F → TP F i (V8 F)}
    {kk : V8 F → TP F i α} (hv : v.toNat < 320000) (hL : L = winLoop v) (hinit : init = (k1_pay3, k1_pay3, k1_pay3, k1_pay3, k1_pay3, k1_pay3, k1_pay3, k1_pay3))
    (hbody : ∀ hN : L.trips ≤ 64, body = winBody 0 hN)
    (hk : St d i fx q O W v5 (.full v) b n R ⊢ twp d i (kk (wsum fx v 0, wsum fx v 1, wsum fx v 2, wsum fx v 3, wsum fx v 4, wsum fx v 5, wsum fx v 6, wsum fx v 7)) Q) :
    St d i fx q O W v5 (.full v) b n R ⊢ twp d i (L.for hok init body >>= kk) Q := by
  exact st_slot0.1.trans (loop_slot hv hL hinit hbody (st_slot0.2.trans hk))

theorem st_loop1 {R : sProp 𝕄} {Q : α → sProp 𝕄} {v : BitVec 32} {L : Scf.Loop 32} {hok : L.OK} {init : V8 F} {body : Fin L.trips → V8 F → TP F i (V8 F)}
    {kk : V8 F → TP F i α} (hv : v.toNat < 320000) (hL : L = winLoop v) (hinit : init = (k1_pay3, k1_pay3, k1_pay3, k1_pay3, k1_pay3, k1_pay3, k1_pay3, k1_pay3))
    (hbody : ∀ hN : L.trips ≤ 64, body = winBody 1 hN)
    (hk : St d i fx q O W v5 a (.full v) n R ⊢ twp d i (kk (wsum fx v 0, wsum fx v 1, wsum fx v 2, wsum fx v 3, wsum fx v 4, wsum fx v 5, wsum fx v 6, wsum fx v 7)) Q) :
    St d i fx q O W v5 a (.full v) n R ⊢ twp d i (L.for hok init body >>= kk) Q := by
  exact st_slot1.1.trans (loop_slot hv hL hinit hbody (st_slot1.2.trans hk))

theorem st_rem {P : sProp 𝕄} {Q : α → sProp 𝕄} {v : BitVec 32} {L : Scf.Loop 32} {hok : L.OK} {init : V8 F} {body : Fin L.trips → V8 F → TP F i (V8 F)}
    {kk : V8 F → TP F i α} (hL : L = remLoop v) (hk : P ⊢ twp d i (kk init) Q) : P ⊢ twp d i (L.for hok init body >>= kk) Q :=
  loop_none v hL hk

theorem part_step {β : Type} {P : sProp 𝕄} {Q : α → sProp 𝕄} {prog : TP F i β} {kk : β → TP F i α} (hk : P ⊢ twp d i prog fun x => twp d i (kk x) Q) :
    P ⊢ twp d i (prog >>= kk) Q := by
  unfold twp at *
  rw [wp_bind]
  exact hk

theorem ret_step {P : sProp 𝕄} {Q : α → sProp 𝕄} {x : α} (hk : P ⊢ Q x) : P ⊢ twp d i (pure x) Q := by
  rw [Prog.pure_eq_ret]
  unfold twp
  rw [wp_ret]
  exact hk.trans fupd_intro

end Steps

/-! ## The checks -/

theorem chk_rows {p : Fin 2} {v : BitVec 32} (hv : v.toNat < 320000) {c : ℕ} (hc : c + 16 ≤ 128) (t : Fin (winLoop v).trips) :
    ∀ a, (![p.val, (Scalar.indexCast (Scf.iv 0#32 1#32 t.val)).toNat, c] : Fin 3 → ℕ) a + S1x1x16.size a ≤ S2x64x128.size a :=
  lane_inb p t.val c (by have h := t.isLt; have h2 := winLoop_trips hv; omega) hc

theorem chk_none {v : BitVec 32} {Pr : Fin (remLoop v).trips → Prop} (t : Fin (remLoop v).trips) : Pr t :=
  absurd t.isLt (by have h := remLoop_trips v; omega)

end Cert.Proof
-- ==== Proof.TileEnds.lean ====
/-
  The two ends of the tile's program: its copy of the end words and the load of its sixteen, and the copy of its
  rows of sums to the result.
-/
module

public import proofs.«01_k».proof.Proof.TileParts

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid1.Coords) (fx : S320000x128.Idx → F .f32) (q : Fin 2 → PosShare TreeShare)
  (O : CellTallies nD τ sig (HIx 1)) (W : Waits sig (HIx 1))

/-- The tile's number. -/
def wid : ℕ := 2 * (i 1).val + (i 0).val

theorem wid_lt : wid i < 32 := by
  have h0 : (i 0).val < 2 := (i 0).isLt
  have h1 : (i 1).val < 16 := (i 1).isLt
  unfold wid
  omega

theorem off1_eq : k1_off1 i 0 = 16 * wid i := by
  have h0 : (i 0).val < 2 := (i 0).isLt
  have h1 : (i 1).val < 16 := (i 1).isLt
  unfold wid
  show (Scalar.indexCast (Scalar.muli (Scalar.addi (Scalar.muli (BitVec.ofNat 32 (i 1).val) 2#32) (BitVec.ofNat 32 (i 0).val)) 16#32)).toNat = _
  generalize (i 0).val = a at *
  generalize (i 1).val = b at *
  revert a b
  decide

theorem off289_eq : k1_off289 i = ![16 * wid i, 0] := by
  have h := off1_eq i
  exact congrArg (fun n => (![n, 0] : Fin 2 → ℕ)) h

/-- The tile's sixteen end words. -/
def words (fe : S512.Idx → BitVec 32) : S16.Idx → BitVec 32 :=
  fun j => fe (ix1 ⟨(16 * wid i + (j 0).val) % 512, Nat.mod_lt _ (by decide)⟩)

/-- Its rows of the result. -/
abbrev outRows : Memref sig .scVector .hbm S16x128 .f32 :=
  outM.slice (Rect.unit (s := S512x128) (k1_off289 i) S16x128.size (k1_off289_inb i)) (fun _ => rfl)

variable (qe : PosShare TreeShare) (fe : S512.Idx → BitVec 32)

/-- Before the copy of the end words. -/
def EdPre : sProp 𝕄 :=
  iprop((edM.view.loc (thr d i) ↦{qe} fe) ∗ (∃ g : S512.Idx → BitVec 32, evM.view.loc (thr d i) ↦{fullShare} g) ∗ semVal (thr d i, .dma cc1_scoped0.sem) 0)

/-- What the copy of the end words brings. -/
def EdGot : sProp 𝕄 :=
  iprop((edM.view.loc (thr d i) ↦{qe} fe) ∗ evM.view.loc (thr d i) ↦{fullShare} fe)

/-- After it. -/
def EdPost : sProp 𝕄 := iprop(EdGot d i qe fe ∗ semVal (thr d i, .dma cc1_scoped0.sem) 0)

/-- The tile's rows of the result hold the sums of its windows. -/
def OutIs (v5 : IVec S16 32) (fo : S512x128.Idx → F .f32) : Prop :=
  ∀ (r : Fin 16) (c : Fin 128), fo (ix2 (⟨16 * wid i + r.val, by have := wid_lt i; omega⟩ : Fin 512) c) = wsum fx (word v5 r.val) (c.val / 16) (ix1 ⟨c.val % 16, Nat.mod_lt _ (by decide)⟩)

def OutPre : sProp 𝕄 :=
  iprop((∃ g : S512x128.Idx → F .f32, (outRows i).view.loc (thr d i) ↦[(outRows i).view.set]{fullShare} g) ∗ semVal (thr d i, .dma cc1_scoped1.sem) 0)

def OutGot (v5 : IVec S16 32) : sProp 𝕄 :=
  iprop((∃ g : S512x128.Idx → F .f32, ⌜OutIs i fx v5 g⌝ ∗ (outRows i).view.loc (thr d i) ↦[(outRows i).view.set]{fullShare} g)
    ∗ ∃ g : S16x128.Idx → F .f32, rowM.view.loc (thr d i) ↦{fullShare} g)

def OutBusy (v5 : IVec S16 32) : sProp 𝕄 :=
  iprop(∃ Dl, Transfers.Flight EC (thr d i) (.dma cc1_scoped1.sem) none (outRows i).view.dmaCredit Dl ∗ (Dl -∗ OutGot d i fx v5))

def OutPost (v5 : IVec S16 32) : sProp 𝕄 := iprop(OutGot d i fx v5 ∗ semVal (thr d i, .dma cc1_scoped1.sem) 0)

variable {d i fx q O W qe fe}

theorem ev_write (g : S512.Idx → BitVec 32) :
    evM.view.write (Elt F) g (edM.view.read (Elt F) fe) Finset.univ = fe := by
  funext j
  have e : j = evM.view.emb j := rfl
  conv_lhs => rw [e]
  rw [View.write_emb_of_mem _ _ (Finset.mem_univ _)]
  refine (cast_eq _ _).trans ?_
  rw [View.read_apply]
  exact cast_eq _ _

theorem ed_dma {α : Type} {h1 h2 h3} {kk' : (S16.Idx → BitVec 32) → TP F i α} {Q : α → sProp 𝕄} {R : sProp 𝕄} (hO : ∀ g, O g none = 0)
    {h4 h5} {h6} {h7}
    (hk : ∀ v4 : S16.Idx → BitVec 32, v4 = words i fe → iprop(EdPost d i qe fe ∗ Ow d i O W ∗ R) ⊢ twp d i (kk' v4) Q) :
    iprop(EdPre d i qe fe ∗ Ow d i O W ∗ R) ⊢ twp d i (Prog.lift (.enqueueDma edM (.here evM) (.dma cc1_scoped0.sem) h1 h2 h3) >>= fun _ =>
      Prog.lift (.waitDma2 cc1_scoped0.sem edM evM h4 h5) >>= fun _ =>
      Prog.lift (.load (cs := .vmem) evM (Rect.unit (s := S512) (k1_off1 i) S16.size h6).toLoadRect h7) >>= kk') Q := by
  simp only [Prog.lift, Prog.bind_op, Prog.bind_ret]
  refine Entails.trans ?_ Entails.rfl
  conv_lhs => unfold EdPre Ow
  iintro ⟨⟨He, ⟨%g, Hg⟩, Hv⟩, ⟨#Hlv, %W', %hW', HO⟩, HR⟩
  ihave He := (pointsTo_split_subset (I := edM.view.set) (Finset.subset_univ _)).1 $$ He
  icases He with ⟨He, He'⟩
  iapply (Transfers.wp_dmaLocal EC 𝒱₀ (thr d i) none (src := edM) (dst := evM) (q := qe) (fs := fe) (Sd := Finset.univ) (fd := g) none evM.view.dmaCredit rfl (View.dmaCredit_pos _ (by decide)) (Finset.subset_univ _)) $$ [He Hg Hv]
  · isplitl [He]; · iexact He
    isplitl [Hg]; · iexact Hg
    iexact Hv
  iintro Hf
  iapply (Transfers.wp_waitLocalO EC 𝒱₀ (thr d i) none none (N := evM.view.dmaCredit) rfl (O := O) (W := W')) $$ [Hf HO]
  · isplitl [Hf]; · iexact Hf
    isplitl [HO]; · iexact HO
    iapply ((K (F := F)).mayWait_none (SemLoc.dma cc1_scoped0.sem) hO); iexact Hlv
  iintro ⟨⟨Hg, He⟩, Hv, HO⟩
  ihave Hg := (Entails.of_eq (congrArg (fun f : S512.Idx → BitVec 32 => (evM.view.loc (thr d i) ↦{fullShare} f : sProp 𝕄)) (ev_write (F := F) (fe := fe) g))) $$ Hg
  iapply (wp_load 𝒱₀ (thr d i) none Set.univ (m := evM) (S := Finset.univ) (Finset.subset_univ _)) $$ Hg
  iintro Hg
  iapply (hk _ (by
    funext j
    rw [View.readAt_apply]
    have h0 := off1_eq i
    have hj : (j 0).val < 16 := (j 0).isLt
    have hw := wid_lt i
    unfold words
    refine congrArg fe ?_
    funext a
    apply Fin.ext
    match a with
    | ⟨0, _⟩ => show k1_off1 i 0 + 1 * (j 0).val = (16 * wid i + (j 0).val) % 512; omega))
  unfold EdPost EdGot Ow
  isplitl [He He' Hg Hv]
  · isplitr [Hv]
    · isplitr [Hg]
      · iapply (pointsTo_split_subset (I := edM.view.set) (Finset.subset_univ _)).2
        isplitl [He] <;> iassumption
      · iexact Hg
    · iexact Hv
  isplitr [HR]
  · isplitr [HO]
    · iexact Hlv
    iexists (insert (SemLoc.dma cc1_scoped0.sem, none) W')
    isplitr
    · ipureintro
      intro p hp
      rcases Finset.mem_insert.mp hp with rfl | hp
      · exact .inr rfl
      · exact hW' p hp
    · iexact HO
  · iexact HR

/-- The copy of the rows of sums puts them at the tile's rows of the result. -/
theorem out_write (v5 : IVec S16 32) (g : S16x128.Idx → F .f32)
    (hg : ∀ j < 128, ∀ l : Fin 16, ∀ ix : S16x128.Idx, (ix 0).val = j / 8 → (ix 1).val = 16 * (j % 8) + l.val → g ix = wsum fx (word v5 (j / 8)) (j % 8) (ix1 l))
    (fo : S512x128.Idx → F .f32) :
    OutIs i fx v5 ((outRows i).view.write (Elt F) fo (rowM.view.read (Elt F) g) Finset.univ) := by
  intro r c
  have hr := r.isLt
  have hc := c.isLt
  have e : (ix2 (⟨16 * wid i + r.val, by have := wid_lt i; omega⟩ : Fin 512) c : S512x128.Idx) = (outRows i).view.emb (ix2 r c : S16x128.Idx) := by
    funext a
    apply Fin.ext
    show _ = ((Rect.unit (s := S512x128) (k1_off289 i) S16x128.size (k1_off289_inb i)).emb (ix2 r c : S16x128.Idx) a).val
    rw [Rect.emb_apply]
    have h := off289_eq i
    match a with
    | ⟨0, _⟩ =>
      have h0 : k1_off289 i 0 = 16 * wid i := by rw [h]; rfl
      show 16 * wid i + r.val = k1_off289 i 0 + 1 * r.val
      omega
    | ⟨1, _⟩ =>
      have h0 : k1_off289 i 1 = 0 := by rw [h]; rfl
      show c.val = k1_off289 i 1 + 1 * c.val
      omega
  rw [e, View.write_emb_of_mem _ _ (Finset.mem_univ _)]
  refine (cast_eq _ _).trans ?_
  rw [View.read_apply]
  refine (cast_eq _ _).trans ?_
  have h := hg (8 * r.val + c.val / 16) (by omega) ⟨c.val % 16, Nat.mod_lt _ (by decide)⟩ (rowM.view.emb (ix2 r c : S16x128.Idx))
    (by show r.val = _; omega) (by show c.val = 16 * ((8 * r.val + c.val / 16) % 8) + c.val % 16; omega)
  rw [show (8 * r.val + c.val / 16) / 8 = r.val by omega, show (8 * r.val + c.val / 16) % 8 = c.val / 16 by omega] at h
  exact h

theorem out_dma {α : Type} {v5 : IVec S16 32} {h1 h2 h3} {kk : PUnit → TP F i α} {Q : α → sProp 𝕄} {R : sProp 𝕄}
    (hk : iprop(OutBusy d i fx v5 ∗ R) ⊢ twp d i (kk ⟨⟩) Q) :
    iprop(Rows d i fx v5 128 ∗ OutPre d i ∗ R) ⊢ twp d i (Prog.lift (.enqueueDma rowM (.here (outRows i)) (.dma cc1_scoped1.sem) h1 h2 h3) >>= kk) Q := by
  simp only [Prog.lift, Prog.bind_op, Prog.bind_ret]
  refine Entails.trans ?_ Entails.rfl
  conv_lhs => unfold OutPre Rows
  iintro ⟨⟨%g, %hg, Hg⟩, ⟨⟨%fo, Ho⟩, Hv⟩, HR⟩
  ihave Hg := (pointsTo_split_subset (I := rowM.view.set) (Finset.subset_univ _)).1 $$ Hg
  icases Hg with ⟨Hg, Hg'⟩
  iapply (Transfers.wp_dmaLocal EC 𝒱₀ (thr d i) none (src := rowM) (dst := outRows i) (q := fullShare) (fs := g) (Sd := (outRows i).view.set) (fd := fo) none (outRows i).view.dmaCredit rfl (View.dmaCredit_pos _ (by decide)) (Finset.Subset.refl _)) $$ [Hg Ho Hv]
  · isplitl [Hg]; · iexact Hg
    isplitl [Ho]; · iexact Ho
    iexact Hv
  iintro Hf
  iapply hk
  unfold OutBusy OutGot
  isplitr [HR]
  · iexists _
    isplitl [Hf]; · iexact Hf
    iintro ⟨Ho, Hg⟩
    isplitl [Ho]
    · iexists ((outRows i).view.write (Elt F) fo (rowM.view.read (Elt F) g) Finset.univ)
      isplitr
      · ipureintro
        exact out_write v5 g hg fo
      · iexact Ho
    · iexists g
      iapply (pointsTo_split_subset (I := rowM.view.set) (Finset.subset_univ _)).2
      isplitl [Hg] <;> iassumption
  · iexact HR

theorem out_wait (hO : ∀ g, O g none = 0) {α : Type} {v5 : IVec S16 32} {h1 h2} {kk : PUnit → TP F i α} {Q : α → sProp 𝕄} {R : sProp 𝕄}
    (hk : iprop(OutPost d i fx v5 ∗ Ow d i O W ∗ R) ⊢ twp d i (kk ⟨⟩) Q) :
    iprop(OutBusy d i fx v5 ∗ Ow d i O W ∗ R) ⊢ twp d i (Prog.lift (.waitDma2 cc1_scoped1.sem rowM (outRows i) h1 h2) >>= kk) Q := by
  simp only [Prog.lift, Prog.bind_op, Prog.bind_ret]
  refine Entails.trans ?_ Entails.rfl
  conv_lhs => unfold OutBusy Ow
  iintro ⟨⟨%Dl, Hf, Hd⟩, ⟨#Hlv, %W', %hW', HO⟩, HR⟩
  iapply (Transfers.wp_waitLocalO EC 𝒱₀ (thr d i) none none (N := (outRows i).view.dmaCredit) rfl (O := O) (W := W')) $$ [Hf HO]
  · isplitl [Hf]; · iexact Hf
    isplitl [HO]; · iexact HO
    iapply ((K (F := F)).mayWait_none (SemLoc.dma cc1_scoped1.sem) hO); iexact Hlv
  iintro ⟨HD, Hv, HO⟩
  iapply hk
  unfold OutPost Ow
  isplitl [HD Hd Hv]
  · isplitr [Hv]
    · iapply Hd; iexact HD
    · iexact Hv
  isplitr [HR]
  · isplitr [HO]
    · iexact Hlv
    iexists (insert (SemLoc.dma cc1_scoped1.sem, none) W')
    isplitr
    · ipureintro
      intro p hp
      rcases Finset.mem_insert.mp hp with rfl | hp
      · exact .inr rfl
      · exact hW' p hp
    · iexact HO
  · iexact HR

end Cert.Proof
-- ==== Proof.Tile.lean ====
/-
  The tile: its program takes what it is handed to the sums of its sixteen windows.
-/
module

public import proofs.«01_k».proof.Proof.TileEnds

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid1.Coords) (fx : S320000x128.Idx → F .f32) (q : Fin 2 → PosShare TreeShare)
  (O : CellTallies nD τ sig (HIx 1)) (W : Waits sig (HIx 1))

variable {d i fx q O W}

theorem slices16 (k : ℕ) (hk : k < 16) : S16.Slices ![k] S1 := by
  refine ⟨rfl, fun a => ?_⟩
  match a with
  | ⟨0, _⟩ => show k + 1 ≤ 16; omega

theorem word_eq {v5 : IVec S16 32} (k : ℕ) (hk : k < 16) {h'} :
    extractAt ![0] (extractStridedSlice S1 ![k] v5 (slices16 k hk)) h' = word v5 k := by
  refine congrArg v5 ?_
  funext a
  apply Fin.ext
  match a with
  | ⟨0, _⟩ => show k + 0 = k % 16; omega

theorem chk_lanes {p : Fin 2} {v : BitVec 32} (hv : v.toNat < 320000) {r0 r1 r2 r3 r4 r5 r6 r7 : Fin (remLoop v).trips → Prop} :
    (winLoop v).OK ∧
    (∀ t : Fin (winLoop v).trips, ∀ a, (![p.val, (Scalar.indexCast (Scf.iv 0#32 1#32 t.val)).toNat, 0] : Fin 3 → ℕ) a + S1x1x16.size a ≤ S2x64x128.size a) ∧
    (∀ t : Fin (winLoop v).trips, ∀ a, (![p.val, (Scalar.indexCast (Scf.iv 0#32 1#32 t.val)).toNat, 16] : Fin 3 → ℕ) a + S1x1x16.size a ≤ S2x64x128.size a) ∧
    (∀ t : Fin (winLoop v).trips, ∀ a, (![p.val, (Scalar.indexCast (Scf.iv 0#32 1#32 t.val)).toNat, 32] : Fin 3 → ℕ) a + S1x1x16.size a ≤ S2x64x128.size a) ∧
    (∀ t : Fin (winLoop v).trips, ∀ a, (![p.val, (Scalar.indexCast (Scf.iv 0#32 1#32 t.val)).toNat, 48] : Fin 3 → ℕ) a + S1x1x16.size a ≤ S2x64x128.size a) ∧
    (∀ t : Fin (winLoop v).trips, ∀ a, (![p.val, (Scalar.indexCast (Scf.iv 0#32 1#32 t.val)).toNat, 64] : Fin 3 → ℕ) a + S1x1x16.size a ≤ S2x64x128.size a) ∧
    (∀ t : Fin (winLoop v).trips, ∀ a, (![p.val, (Scalar.indexCast (Scf.iv 0#32 1#32 t.val)).toNat, 80] : Fin 3 → ℕ) a + S1x1x16.size a ≤ S2x64x128.size a) ∧
    (∀ t : Fin (winLoop v).trips, ∀ a, (![p.val, (Scalar.indexCast (Scf.iv 0#32 1#32 t.val)).toNat, 96] : Fin 3 → ℕ) a + S1x1x16.size a ≤ S2x64x128.size a) ∧
    (∀ t : Fin (winLoop v).trips, ∀ a, (![p.val, (Scalar.indexCast (Scf.iv 0#32 1#32 t.val)).toNat, 112] : Fin 3 → ℕ) a + S1x1x16.size a ≤ S2x64x128.size a) ∧
    (remLoop v).OK ∧ (∀ t, r0 t) ∧ (∀ t, r1 t) ∧ (∀ t, r2 t) ∧ (∀ t, r3 t) ∧ (∀ t, r4 t) ∧ (∀ t, r5 t) ∧ (∀ t, r6 t) ∧ (∀ t, r7 t) :=
  ⟨winLoop_ok hv, chk_rows hv (by decide), chk_rows hv (by decide), chk_rows hv (by decide), chk_rows hv (by decide), chk_rows hv (by decide),
    chk_rows hv (by decide), chk_rows hv (by decide), chk_rows hv (by decide), remLoop_ok v, chk_none, chk_none, chk_none, chk_none, chk_none, chk_none, chk_none, chk_none⟩

theorem st_out {α : Type} {v5 : IVec S16 32} {a b : Phase} {n : ℕ} {h1 h2 h3} {kk : PUnit → TP F i α} {Q : α → sProp 𝕄} {R : sProp 𝕄} (hn : n = 128)
    (hk : iprop(OutBusy d i fx v5 ∗ Ow d i O W ∗ Slot d i fx q 0 a ∗ Slot d i fx q 1 b ∗ R) ⊢ twp d i (kk ⟨⟩) Q) :
    St d i fx q O W v5 a b n iprop(OutPre d i ∗ R) ⊢ twp d i (Prog.lift (.enqueueDma rowM (.here (outRows i)) (.dma cc1_scoped1.sem) h1 h2 h3) >>= kk) Q := by
  subst hn
  refine BIBase.Entails.trans ?_ (out_dma hk)
  unfold St
  iintro ⟨H0, H1, HR, HO, Hp, H⟩
  isplitl [HR]; · iexact HR
  isplitl [Hp]; · iexact Hp
  isplitl [HO]; · iexact HO
  isplitl [H0]; · iexact H0
  isplitl [H1] <;> iassumption

set_option maxHeartbeats 4000000 in
set_option maxRecDepth 65536 in
/-- The program from its ends to its result. -/
theorem tile_prog (hO : ∀ g, O g none = 0) {qe : PosShare TreeShare} {fe : S512.Idx → BitVec 32} (hE : ∀ j, (fe j).toNat < 320000) {h2 h3 h4 h5 h6 h7}
    {Q : PUnit → sProp 𝕄}
    (hk : ∀ a b, a.free = true → b.free = true → iprop(OutPost d i fx (words i fe) ∗ Ow d i O W ∗ Slot d i fx q 0 a ∗ Slot d i fx q 1 b ∗ EdPost d i qe fe) ⊢ Q ⟨⟩) :
    iprop(EdPre d i qe fe ∗ Ow d i O W ∗ Slot d i fx q 0 .idle ∗ Slot d i fx q 1 .idle ∗ Rows d i fx (words i fe) 0 ∗ OutPre d i)
      ⊢ twp d i (cc1_boundary_kernel (F := F) i xM h2 edM h3 outM h4 evM h5 bufM h6 rowM h7 cc1_scratch3 cc1_scoped0 cc1_scoped1) Q := by
  rw [cc1_boundary_kernel_eq_skeleton]
  unfold cc1_boundary_kernel_skel
  refine part_step ?_
  rw [k1_part47_eq_skeleton]
  unfold k1_part47_skel
  refine part_step ?_
  rw [k1_part1_eq_skeleton]
  unfold k1_part1_skel
  refine ed_dma hO ?_
  intro v4 hv4
  have hp : k1_pay1 (F := F) v4 = words i fe := (show k1_pay1 (F := F) v4 = v4 from shapeCast_self ..).trans hv4
  have hW : ∀ j, (k1_pay1 (F := F) v4 j).toNat < 320000 := fun j => by rw [hp]; exact hE _
  suffices hmain : St d i fx q O W (k1_pay1 (F := F) v4) .idle .idle 0 iprop(OutPre d i ∗ EdPost d i qe fe) ⊢ _ from BIBase.Entails.trans (by
    rw [hp]
    unfold St
    iintro ⟨He, HO, H0, H1, HR, Ho⟩
    isplitl [H0]; · iexact H0
    isplitl [H1]; · iexact H1
    isplitl [HR]; · iexact HR
    isplitl [HO]; · iexact HO
    isplitl [Ho] <;> iassumption) hmain
  rw [← hp] at hk
  clear hv4 hE hp
  repeat first
    | (with_reducible apply st_load
       · rfl
       intro u
       try clear u)
    | (with_reducible apply st_store
       · rfl
       · rfl
       · rfl
       · rfl
       · exact word_eq _ (by decide))
    | (with_reducible refine assume_step ?_ ?_
       · (first | exact ⟨win_inb _ (hW _), win_inb _ (hW _), chk_lanes (p := 0) (hW _)⟩ | exact ⟨win_inb _ (hW _), win_inb _ (hW _), chk_lanes (p := 1) (hW _)⟩ | exact ⟨win_inb _ (hW _), chk_lanes (p := 1) (hW _)⟩))
    | (with_reducible apply st_dma0
       · rfl
       · rfl
       · rfl
       · rfl
       · rfl)
    | (with_reducible apply st_dma1
       · rfl
       · rfl
       · rfl
       · rfl
       · rfl)
    | (with_reducible apply st_wait0 hO
       · rfl
       · rfl)
    | (with_reducible apply st_wait1 hO
       · rfl
       · rfl)
    | (with_reducible apply st_rem
       · rfl)
    | (with_reducible apply st_loop0
       · exact hW _
       · rfl
       · rfl
       · intro hN; rfl)
    | (with_reducible apply st_loop1
       · exact hW _
       · rfl
       · rfl
       · intro hN; rfl)
    | with_reducible apply ret_step
    | (apply part_step
       first
      | (rw [k1_part2_eq_skeleton]; unfold k1_part2_skel)
      | (rw [k1_part3_eq_skeleton]; unfold k1_part3_skel)
      | (rw [k1_part4_eq_skeleton]; unfold k1_part4_skel)
      | (rw [k1_part5_eq_skeleton]; unfold k1_part5_skel)
      | (rw [k1_part6_eq_skeleton]; unfold k1_part6_skel)
      | (rw [k1_part7_eq_skeleton]; unfold k1_part7_skel)
      | (rw [k1_part8_eq_skeleton]; unfold k1_part8_skel)
      | (rw [k1_part9_eq_skeleton]; unfold k1_part9_skel)
      | (rw [k1_part10_eq_skeleton]; unfold k1_part10_skel)
      | (rw [k1_part11_eq_skeleton]; unfold k1_part11_skel)
      | (rw [k1_part12_eq_skeleton]; unfold k1_part12_skel)
      | (rw [k1_part13_eq_skeleton]; unfold k1_part13_skel)
      | (rw [k1_part14_eq_skeleton]; unfold k1_part14_skel)
      | (rw [k1_part15_eq_skeleton]; unfold k1_part15_skel)
      | (rw [k1_part16_eq_skeleton]; unfold k1_part16_skel)
      | (rw [k1_part17_eq_skeleton]; unfold k1_part17_skel)
      | (rw [k1_part18_eq_skeleton]; unfold k1_part18_skel)
      | (rw [k1_part19_eq_skeleton]; unfold k1_part19_skel)
      | (rw [k1_part20_eq_skeleton]; unfold k1_part20_skel)
      | (rw [k1_part21_eq_skeleton]; unfold k1_part21_skel)
      | (rw [k1_part22_eq_skeleton]; unfold k1_part22_skel)
      | (rw [k1_part23_eq_skeleton]; unfold k1_part23_skel)
      | (rw [k1_part24_eq_skeleton]; unfold k1_part24_skel)
      | (rw [k1_part25_eq_skeleton]; unfold k1_part25_skel)
      | (rw [k1_part26_eq_skeleton]; unfold k1_part26_skel)
      | (rw [k1_part27_eq_skeleton]; unfold k1_part27_skel)
      | (rw [k1_part28_eq_skeleton]; unfold k1_part28_skel)
      | (rw [k1_part29_eq_skeleton]; unfold k1_part29_skel)
      | (rw [k1_part30_eq_skeleton]; unfold k1_part30_skel)
      | (rw [k1_part31_eq_skeleton]; unfold k1_part31_skel)
      | (rw [k1_part32_eq_skeleton]; unfold k1_part32_skel)
      | (rw [k1_part33_eq_skeleton]; unfold k1_part33_skel)
      | (rw [k1_part34_eq_skeleton]; unfold k1_part34_skel)
      | (rw [k1_part35_eq_skeleton]; unfold k1_part35_skel)
      | (rw [k1_part36_eq_skeleton]; unfold k1_part36_skel)
      | (rw [k1_part37_eq_skeleton]; unfold k1_part37_skel)
      | (rw [k1_part38_eq_skeleton]; unfold k1_part38_skel)
      | (rw [k1_part39_eq_skeleton]; unfold k1_part39_skel)
      | (rw [k1_part40_eq_skeleton]; unfold k1_part40_skel)
      | (rw [k1_part41_eq_skeleton]; unfold k1_part41_skel)
      | (rw [k1_part42_eq_skeleton]; unfold k1_part42_skel)
      | (rw [k1_part43_eq_skeleton]; unfold k1_part43_skel)
      | (rw [k1_part44_eq_skeleton]; unfold k1_part44_skel)
      | (rw [k1_part45_eq_skeleton]; unfold k1_part45_skel)
      | (rw [k1_part46_eq_skeleton]; unfold k1_part46_skel))
  refine st_out ?_ ?_
  · rfl
  refine ret_step ?_
  refine out_wait hO ?_
  exact ret_step (hk _ _ rfl rfl)

end Cert.Proof
-- ==== Proof.TileEntry.lean ====
/-
  The tile's task: from the shares, the rows of the result and the scratch it is handed, its program leaves the sums of
  its windows in its rows and hands everything back.
-/
module

public import proofs.«01_k».proof.Proof.Tile

@[expose] public section

noncomputable section

namespace Cert.Proof

open Cert.KernelIdeal Cert.KernelIdeal.Gen

open Idealize.ShloMosaic
open Idealize.ShloMosaic.ValueIdx
open Idealize.ShloMosaic.Transfers (shareTok shareDrop)
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## What a task is handed -/

abbrev xLoc (d : Dev nD) : Loc nD τ sig := (SparseCore.T d).loc main_arg0
abbrev eLoc (d : Dev nD) : Loc nD τ sig := (SparseCore.T d).loc main_arg1
abbrev oLoc (d : Dev nD) : Loc nD τ sig := (SparseCore.T d).loc main_v1

/-- The share of an argument that one core is handed, and the one that one of its tasks is. -/
abbrev coreSh (c : Fin 2) : PosShare TreeShare := shareTok fullShare 2 c
abbrev taskSh (c : Fin 2) (s : Fin 16) : PosShare TreeShare := shareTok (coreSh c) 16 s

/-- The two halves of a task's share of `x`, one for each half of the window buffer. -/
def halfSh (q : PosShare TreeShare) (p : Fin 2) : PosShare TreeShare := if p = 0 then q.left else q.right

/-- The grid point of task `s` of core `c`. -/
def pt (c : Fin 2) (s : Fin 16) : grid1.Coords :=
  fun | 0 => c | 1 => s | ⟨_ + 2, h⟩ => absurd h (Nat.not_lt.2 (Nat.le_add_left _ _))

abbrev outSet (i : grid1.Coords) : Finset S512x128.Idx := (outRows i).view.set

section
variable (fx : S320000x128.Idx → F .f32) (fe : S512.Idx → BitVec 32) (d : Dev nD)

abbrev xSh (q : PosShare TreeShare) : sProp 𝕄 := xLoc d ↦{q} fx
abbrev eSh (q : PosShare TreeShare) : sProp 𝕄 := eLoc d ↦{q} fe

/-- The task's rows of the result, at anything; then holding its sums. -/
abbrev oPre (i : grid1.Coords) : sProp 𝕄 := iprop(∃ g : S512x128.Idx → F .f32, oLoc d ↦[outSet i]{fullShare} g)
abbrev oDone (i : grid1.Coords) : sProp 𝕄 :=
  iprop(∃ g : S512x128.Idx → F .f32, ⌜OutIs i fx (words i fe) g⌝ ∗ oLoc d ↦[outSet i]{fullShare} g)

end

section
variable (d : Dev nD) (i : grid1.Coords)

theorem sem1_ne : semM 1 ≠ semM 0 := by decide

theorem ownSems0_V :
    (ownSems0 (thr d i) : sProp 𝕄)
      = iprop(semVal (thr d i, .dma (semM 0)) 0 ∗ semVal (thr d i, .dma (semM 1)) 0 ∗ semVal (thr d i, .dma cc1_scoped0.sem) 0 ∗ semVal (thr d i, .dma cc1_scoped1.sem) 0
          ∗ bigSep (((((ownCells (thr d i)).erase (thr d i, .dma (semM 0))).erase (thr d i, .dma (semM 1))).erase (thr d i, .dma cc1_scoped0.sem)).erase (thr d i, .dma cc1_scoped1.sem))
              fun g => semVal g 0) := by
  have own : ∀ s : DmaSem sig, (SemLoc.dma s : SemLoc sig).isScoped .scVector = true → (thr d i, SemLoc.dma s) ∈ ownCells (thr d i) :=
    fun s hs => (mem_ownCells (g := (thr d i, SemLoc.dma s))).mpr ⟨rfl, hs⟩
  have ne : ∀ s s' : DmaSem sig, s ≠ s' → ((thr d i, SemLoc.dma s) : GSem nD τ sig) ≠ (thr d i, SemLoc.dma s') :=
    fun s s' h e => h (SemLoc.dma.inj (Prod.mk.inj e).2)
  unfold SparseCore.Cfg.ownSems0
  rw [SparseCore.bigSep_erase' (own (semM 0) (by decide)),
    SparseCore.bigSep_erase' (Finset.mem_erase.mpr ⟨ne _ _ (by decide), own (semM 1) (by decide)⟩),
    SparseCore.bigSep_erase' (Finset.mem_erase.mpr ⟨ne _ _ (by decide), Finset.mem_erase.mpr ⟨ne _ _ (by decide), own cc1_scoped0.sem (by decide)⟩⟩),
    SparseCore.bigSep_erase' (Finset.mem_erase.mpr ⟨ne _ _ (by decide), Finset.mem_erase.mpr ⟨ne _ _ (by decide), Finset.mem_erase.mpr ⟨ne _ _ (by decide), own cc1_scoped1.sem (by decide)⟩⟩⟩)]

theorem ownBufs_V :
    (ownBufs (thr d i) : sProp 𝕄)
      = iprop((∃ f, (thr d i).loc cc1_scratch0 ↦{fullShare} f) ∗ (∃ f, (thr d i).loc cc1_scratch1 ↦{fullShare} f)
          ∗ (∃ f, (thr d i).loc cc1_scratch2 ↦{fullShare} f)
          ∗ bigSep ((((ownRefs (τ := τ) (.scVector (cV i) (jV i))).erase ((Proc.scVector (cV i) (jV i)).devRef cc1_scratch0)).erase
              ((Proc.scVector (cV i) (jV i)).devRef cc1_scratch1)).erase ((Proc.scVector (cV i) (jV i)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV i) (jV i)) (b := (Proc.scVector (cV i) (jV i)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV i) (jV i)) (b := (Proc.scVector (cV i) (jV i)).devRef cc1_scratch2) rfl⟩⟩)]

theorem mem_slot (p : Fin 2) (j : S2x64x128.Idx) : j ∈ (slotM p).view.set ↔ (j 0).val = p.val := by
  constructor
  · intro h
    obtain ⟨k, -, rfl⟩ := Finset.mem_map.mp h
    have hk : (slotM p).view.emb k = (ix3 (p : Fin 2) (k 0 : Fin 64) (k 1 : Fin 128) : S2x64x128.Idx) := by
      refine (congrArg (slotM p).view.emb ?_).trans (slot_emb p (k 0) (k 1))
      funext a; match a with | ⟨0, _⟩ => rfl | ⟨1, _⟩ => rfl
    exact congrArg (fun j : S2x64x128.Idx => (j 0).val) hk
  · intro h
    refine Finset.mem_map.mpr ⟨(ix2 (j 1 : Fin 64) (j 2 : Fin 128) : S64x128.Idx), Finset.mem_univ _, (slot_emb p (j 1) (j 2)).trans ?_⟩
    funext a; match a with | ⟨0, _⟩ => exact Fin.ext h.symm | ⟨1, _⟩ => rfl | ⟨2, _⟩ => rfl

/-- The other half of the window buffer is what the first leaves. -/
theorem slot1_set : (slotM 1).view.set = (Finset.univ \ (slotM 0).view.set : Finset S2x64x128.Idx) := by
  ext j
  rw [Finset.mem_sdiff]
  have h2 : (j 0).val < 2 := (j 0).isLt
  have h1 := mem_slot 1 j
  have h0 := mem_slot 0 j
  refine ⟨fun h => ⟨Finset.mem_univ _, fun h' => ?_⟩, fun h => ?_⟩
  · have a := h1.mp h; have b := h0.mp h'; rw [a] at b; exact absurd b (by decide)
  · refine h1.mpr ?_
    have hn : (j 0).val ≠ 0 := fun e => h.2 (h0.mpr e)
    show (j 0).val = 1
    omega

variable {d i} {fx : S320000x128.Idx → F .f32} {fe : S512.Idx → BitVec 32} {qx qe : PosShare TreeShare}

/-- The two halves, each idle, are the window buffer whole, the share of `x` and their semaphores. -/
theorem slots_split :
    iprop(xSh fx d qx ∗ (∃ g : S2x64x128.Idx → F .f32, (thr d i).loc cc1_scratch1 ↦{fullShare} g) ∗ semVal (thr d i, .dma (semM 0)) 0 ∗ semVal (thr d i, .dma (semM 1)) 0)
      ⊢ (iprop(Slot d i fx (halfSh qx) 0 .idle ∗ Slot d i fx (halfSh qx) 1 .idle) : sProp 𝕄) := by
  refine Entails.trans ?_ Entails.rfl
  iintro ⟨Hx, ⟨%g, Hg⟩, H0, H1⟩
  ihave Hx := (pointsTo_share (PosShare.mem_left_op_right _)).1 $$ Hx
  icases Hx with ⟨Hx0, Hx1⟩
  ihave Hg := (pointsTo_split_subset (I := (slotM 0).view.set) (Finset.subset_univ _)).1 $$ Hg
  icases Hg with ⟨Hg0, Hg1⟩
  ihave Hg1 := (Entails.of_eq (congrArg (fun s => ((thr d i).loc cc1_scratch1 ↦[s]{fullShare} g : sProp 𝕄)) slot1_set.symm)) $$ Hg1
  unfold Slot
  isplitl [Hx0 Hg0 H0]
  · isplitl [Hg0]; · iexists g; iexact Hg0
    isplitl [Hx0]; · iexact Hx0
    iexact H0
  · isplitl [Hg1]; · iexists g; iexact Hg1
    isplitl [Hx1]; · iexact Hx1
    iexact H1

theorem slots_join :
    (iprop(Slot d i fx (halfSh qx) 0 .idle ∗ Slot d i fx (halfSh qx) 1 .idle) : sProp 𝕄)
      ⊢ iprop(xSh fx d qx ∗ (∃ g : S2x64x128.Idx → F .f32, (thr d i).loc cc1_scratch1 ↦{fullShare} g) ∗ semVal (thr d i, .dma (semM 0)) 0 ∗ semVal (thr d i, .dma (semM 1)) 0) := by
  refine Entails.trans ?_ Entails.rfl
  conv_lhs => unfold Slot
  iintro ⟨⟨⟨%g, Hg⟩, Hx, H0⟩, ⟨⟨%g1, Hg1⟩, Hx1, H1⟩⟩
  isplitl [Hx Hx1]
  · iapply (pointsTo_share (PosShare.mem_left_op_right _)).2
    isplitl [Hx]; · iexact Hx
    iexact Hx1
  isplitl [Hg Hg1]
  · ihave Hg1 := (Entails.of_eq (congrArg (fun s => ((thr d i).loc cc1_scratch1 ↦[s]{fullShare} g1 : sProp 𝕄)) slot1_set)) $$ Hg1
    iexists _
    iapply (pointsTo_join_subset (I := (slotM 0).view.set) (Finset.subset_univ _))
    isplitl [Hg]; · iexact Hg
    iexact Hg1
  isplitl [H0] <;> iassumption

end

/-- The task at grid point `i`. -/
theorem tile_body (d : Dev nD) (i : grid1.Coords) (fx : S320000x128.Idx → F .f32) (fe : S512.Idx → BitVec 32) (hE : ∀ j, (fe j).toNat < 320000)
    (qx qe : PosShare TreeShare) (O : CellTallies nD τ sig (HIx 1)) (W : Waits sig (HIx 1)) (hO : ∀ g, O g none = 0) {h2 h3 h4 h5 h6 h7} :
    iprop(levAts (K (F := F)).L (K (F := F)).lev ∗ emp
        ∗ (xSh fx d qx ∗ eSh fe d qe ∗ oPre d i)
        ∗ scopedBufs (thr d i) ∗ scopedSems0 (thr d i) ∗ owes (thr d i) O W)
      ⊢ wp frame (wpE (defs₀ (F := F)) 𝒱₀ (thr d i) none) Set.univ
          (cc1_boundary_kernel (F := F) i xM h2 edM h3 outM h4 evM h5 bufM h6 rowM h7 cc1_scratch3 cc1_scoped0 cc1_scoped1)
          fun _ => iprop((xSh fx d qx ∗ eSh fe d qe ∗ oDone fx fe d i) ∗ scopedBufs (thr d i) ∗ scopedSems0 (thr d i)
            ∗ ∃ W', ⌜∀ p ∈ W', p ∈ W ∨ p.2 = none⌝ ∗ owes (thr d i) O W') := by
  rw [(K (F := F)).scopedBufs_V scFacts d (cV i) (jV i), SparseCore.Cfg.scopedSems0_V (Val := Elt F) d (cV i) (jV i), ownSems0_V, ownBufs_V]
  generalize (bigSep ((((ownRefs (τ := τ) (.scVector (cV i) (jV i))).erase _).erase _).erase _) _ : sProp 𝕄) = RB
  generalize (bigSep (((((ownCells (thr d i)).erase _).erase _).erase _).erase _) _ : sProp 𝕄) = RS
  have body := tile_prog (F := F) (d := d) (i := i) (fx := fx) (q := halfSh qx) (O := O) (W := W) (h2 := h2) (h3 := h3) (h4 := h4) (h5 := h5) (h6 := h6) (h7 := h7) (qe := qe)
    (Q := fun _ => iprop(OutPost d i fx (words i fe) ∗ Ow d i O W ∗ Slot d i fx (halfSh qx) 0 .idle ∗ Slot d i fx (halfSh qx) 1 .idle ∗ EdPost d i qe fe)) hO hE (fun a b ha hb => by
      refine Laws.sep_mono_right (Laws.sep_mono_right ?_)
      exact Laws.sep_mono (slot_idle d i fx _ 0 a ha) (Laws.sep_mono_left (slot_idle d i fx _ 1 b hb)))
  refine BIBase.Entails.trans ?_ (((Laws.sep_mono_left (Q := iprop(RB ∗ RS)) body).trans (wp_frame_r frame _ _)).trans (wp_mono frame _ _ fun _ => ?_))
  · unfold EdPre Ow Rows OutPre
    iintro ⟨#Hlv, -, ⟨Hx, He, Ho⟩, ⟨Hev, Hbuf, ⟨%gr, Hrow⟩, Hbufs⟩, ⟨H0, H1, Hs0, Hs1, Hsems⟩, HO⟩
    ihave Hsl := (slots_split (F := F)) $$ [Hx Hbuf H0 H1]
    · isplitl [Hx]; · iexact Hx
      isplitl [Hbuf]; · iexact Hbuf
      isplitl [H0] <;> iassumption
    icases Hsl with ⟨Hsl0, Hsl1⟩
    isplitr [Hbufs Hsems]
    · isplitl [He Hev Hs0]
      · isplitl [He]; · iexact He
        isplitl [Hev]; · iexact Hev
        iexact Hs0
      isplitl [HO]
      · isplitr; · iexact Hlv
        iexists W
        isplitr; · ipureintro; exact fun p hp => .inl hp
        iexact HO
      isplitl [Hsl0]; · iexact Hsl0
      isplitl [Hsl1]; · iexact Hsl1
      isplitl [Hrow]
      · iexists gr
        isplitr; · ipureintro; exact fun j hj => absurd hj (Nat.not_lt_zero j)
        iexact Hrow
      isplitl [Ho]; · iexact Ho
      iexact Hs1
    · isplitl [Hbufs] <;> iassumption
  · unfold EdPost EdGot Ow OutPost OutGot
    iintro ⟨⟨⟨⟨Ho, Hrow⟩, Hs1⟩, ⟨#Hlv, HO⟩, Hsl0, Hsl1, ⟨⟨He, Hev⟩, Hs0⟩⟩, Hbufs, Hsems⟩
    ihave Hsl := (slots_join (F := F)) $$ [Hsl0 Hsl1]
    · isplitl [Hsl0] <;> iassumption
    icases Hsl with ⟨Hx, Hbuf, H0, H1⟩
    isplitl [Hx He Ho]
    · isplitl [Hx]; · iexact Hx
      isplitl [He]; · iexact He
      iexact Ho
    isplitl [Hev Hbuf Hrow Hbufs]
    · isplitl [Hev]; · iexists fe; iexact Hev
      isplitl [Hbuf]; · iexact Hbuf
      isplitl [Hrow]; · iexact Hrow
      iexact Hbufs
    isplitr [HO]
    · isplitl [H0]; · iexact H0
      isplitl [H1]; · iexact H1
      isplitl [Hs0]; · iexact Hs0
      isplitl [Hs1]; · iexact Hs1
      iexact Hsems
    · iexact HO

end Cert.Proof
-- ==== Proof.Task.lean ====
/-
  What the SparseCore call carries: the shares of `x` and of the end words, and the rows of the result, dealt to the
  cores and from each core to its tasks, and brought back with the sums in them.
-/
module

public import proofs.«01_k».proof.Proof.TileEntry

@[expose] public section

noncomputable section

namespace Cert.Proof

open Cert.KernelIdeal Cert.KernelIdeal.Gen

open Idealize.ShloMosaic
open Idealize.ShloMosaic.ValueIdx
open Idealize.ShloMosaic.Transfers (shareTok shareDrop)
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem nSub_zero : (K (F := F)).nSub 0 = 16 := rfl
theorem nCore_zero : (K (F := F)).nCore 0 = 2 := rfl

variable (m : (ℓ : Loc nD τ sig) → Buf (Elt F) ℓ)

/-- The arguments at launch. -/
abbrev xOf (d : Dev nD) : S320000x128.Idx → F .f32 := m (xLoc d)
abbrev eOf (d : Dev nD) : S512.Idx → BitVec 32 := m (eLoc d)

/-- What task `s` of core `c` takes and brings back. -/
abbrev goP (d : Dev nD) (c : Fin 2) (s : Fin 16) : sProp 𝕄 :=
  iprop(xSh (xOf m d) d (taskSh c s) ∗ eSh (eOf m d) d (taskSh c s) ∗ oPre d (pt c s))
abbrev tdP (d : Dev nD) (c : Fin 2) (s : Fin 16) : sProp 𝕄 :=
  iprop(xSh (xOf m d) d (taskSh c s) ∗ eSh (eOf m d) d (taskSh c s) ∗ oDone (xOf m d) (eOf m d) d (pt c s))

/-- What core `c` takes and brings back. -/
abbrev stP (d : Dev nD) (c : Fin 2) : sProp 𝕄 :=
  iprop(xSh (xOf m d) d (coreSh c) ∗ eSh (eOf m d) d (coreSh c) ∗ bigSep Finset.univ fun s : Fin 16 => oPre d (pt c s))
abbrev dnP (d : Dev nD) (c : Fin 2) : sProp 𝕄 :=
  iprop(xSh (xOf m d) d (coreSh c) ∗ eSh (eOf m d) d (coreSh c) ∗ bigSep Finset.univ fun s : Fin 16 => oDone (xOf m d) (eOf m d) d (pt c s))

def P : (K (F := F)).Pay (nD := nD) (Val := Elt F) (Name := ℕ) (U := UU) where
  st := fun q d c => match q with | 0 => stP m d (Fin.cast nCore_zero c)
  dn := fun q d c => match q with | 0 => dnP m d (Fin.cast nCore_zero c)
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with | 0 => (inferInstance : BI.Storable (upEmb : UEmb _ 𝕄) (stP m d (Fin.cast nCore_zero c)))
  dn q d c := match q with | 0 => (inferInstance : BI.Storable (upEmb : UEmb _ 𝕄) (dnP m d (Fin.cast nCore_zero c)))
  go q d c i := match q with | 0 => (inferInstance : BI.Storable (upEmb : UEmb _ 𝕄) (goP m d (Fin.cast nCore_zero c) (Fin.cast nSub_zero i)))
  td q d c i := match q with | 0 => (inferInstance : BI.Storable (upEmb : UEmb _ 𝕄) (tdP m d (Fin.cast nCore_zero c) (Fin.cast nSub_zero i)))

/-- Every end word is a row. -/
def EndsOK : Prop := ∀ (d : Dev nD) (j : S512.Idx), (eOf m d j).toNat < 320000

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_boundary_kernel (coordsV c s)
          xM (Memref.isWhole_whole _) edM (Memref.isWhole_whole _) outM (Memref.isWhole_whole _)
          evM (Memref.isWhole_whole _) bufM (Memref.isWhole_whole _) rowM (Memref.isWhole_whole _) cc1_scratch3 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hE : EndsOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) (xOf m d) (eOf m d) (hE d) _ _ O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show stP m d (Fin.cast nCore_zero c) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ dnP m d (Fin.cast nCore_zero c)))
  generalize Fin.cast nCore_zero c = c
  rw [bigSep_tasks (F := F) (goP m d c), bigSep_tasks (F := F) (tdP m d c), bigSep_sep', bigSep_sep', bigSep_sep', bigSep_sep']
  iintro ⟨Hx, He, Ho⟩
  ihave Hx := (Transfers.pointsTo_toks_split (coreSh c) 16) $$ Hx
  icases Hx with ⟨Hx', Hx⟩
  ihave He := (Transfers.pointsTo_toks_split (coreSh c) 16) $$ He
  icases He with ⟨He', He⟩
  imodintro
  isplitl [Hx He Ho]
  · isplitl [Hx]; · iexact Hx
    isplitl [He]; · iexact He
    iexact Ho
  iintro ⟨Hx, He, Ho⟩
  isplitl [Hx Hx']
  · iapply (Transfers.pointsTo_toks_join (coreSh c) 16)
    isplitl [Hx'] <;> iassumption
  isplitl [He He']
  · iapply (Transfers.pointsTo_toks_join (coreSh c) 16)
    isplitl [He'] <;> iassumption
  iexact Ho

/-! ## The result's rows, whole -/

/-- The tasks' rows of the result. -/
abbrev taskRows (cs : Fin 2 × Fin 16) : Finset S512x128.Idx := outSet (pt cs.1 cs.2)

theorem wid_pt (c : Fin 2) (s : Fin 16) : wid (pt c s) = 2 * s.val + c.val := rfl

theorem mem_rows (i : grid1.Coords) (j : S512x128.Idx) : j ∈ outSet i ↔ (j 0).val / 16 = wid i := by
  have e : ∀ k : S16x128.Idx, (((outRows i).view.emb k) 0).val = 16 * wid i + (k 0).val ∧ (((outRows i).view.emb k) 1).val = (k 1).val := by
    intro k
    have h := off289_eq i
    have h0 : k1_off289 i 0 = 16 * wid i := by rw [h]; rfl
    have h1 : k1_off289 i 1 = 0 := by rw [h]; rfl
    constructor
    · show k1_off289 i 0 + 1 * (k 0).val = _; omega
    · show k1_off289 i 1 + 1 * (k 1).val = _; omega
  constructor
  · intro h
    obtain ⟨k, -, rfl⟩ := Finset.mem_map.mp h
    have hk : (k 0).val < 16 := (k 0).isLt
    have := (e k).1
    omega
  · intro h
    have hw := wid_lt i
    refine Finset.mem_map.mpr ⟨(ix2 (⟨(j 0).val % 16, Nat.mod_lt _ (by decide)⟩ : Fin 16) (j 1 : Fin 128) : S16x128.Idx), Finset.mem_univ _, ?_⟩
    have e' := e (ix2 (⟨(j 0).val % 16, Nat.mod_lt _ (by decide)⟩ : Fin 16) (j 1 : Fin 128) : S16x128.Idx)
    funext a
    apply Fin.ext
    match a with
    | ⟨0, _⟩ => refine e'.1.trans ?_; show 16 * wid i + (j 0).val % 16 = (j 0).val; omega
    | ⟨1, _⟩ => exact e'.2

theorem rows_disjoint : ∀ a ∈ (Finset.univ : Finset (Fin 2 × Fin 16)), ∀ b ∈ (Finset.univ : Finset (Fin 2 × Fin 16)), a ≠ b → Disjoint (taskRows a) (taskRows b) := by
  intro a _ b _ hab
  refine Finset.disjoint_left.mpr fun j h1 h2 => hab ?_
  have h1 := (mem_rows _ _).mp h1
  have h2 := (mem_rows _ _).mp h2
  rw [wid_pt] at h1 h2
  have := a.1.isLt; have := b.1.isLt
  exact Prod.ext (Fin.ext (by omega)) (Fin.ext (by omega))

theorem rows_cover : (Finset.univ : Finset (Fin 2 × Fin 16)).biUnion taskRows = Finset.univ := by
  refine Finset.eq_univ_iff_forall.mpr fun j => Finset.mem_biUnion.mpr ?_
  have hj : (j 0).val < 512 := (j 0).isLt
  refine ⟨(⟨(j 0).val / 16 % 2, by omega⟩, ⟨(j 0).val / 16 / 2, by omega⟩), Finset.mem_univ _, (mem_rows _ _).mpr ?_⟩
  rw [wid_pt]
  show _ = 2 * ((j 0).val / 16 / 2) + (j 0).val / 16 % 2
  omega

/-- The sum of window `s` of the whole run: of the `s`-th end word, its group `t` of columns. -/
def tailAt (fx : S320000x128.Idx → F .f32) (fe : S512.Idx → BitVec 32) : S512x128.Idx → F .f32 :=
  fun j => wsum fx (fe (ix1 (j 0 : Fin 512))) ((j 1).val / 16) (ix1 ⟨(j 1).val % 16, Nat.mod_lt _ (by decide)⟩)

theorem tail_of_rows {fx : S320000x128.Idx → F .f32} {fe : S512.Idx → BitVec 32} {g : S512x128.Idx → F .f32} {gs : Fin 2 × Fin 16 → S512x128.Idx → F .f32}
    (hg : ∀ cs ∈ (Finset.univ : Finset (Fin 2 × Fin 16)), ∀ j ∈ taskRows cs, g j = gs cs j)
    (h : ∀ cs : Fin 2 × Fin 16, OutIs (pt cs.1 cs.2) fx (words (pt cs.1 cs.2) fe) (gs cs)) : g = tailAt fx fe := by
  funext j
  have hj : (j 0).val < 512 := (j 0).isLt
  have hm : j ∈ (Finset.univ : Finset (Fin 2 × Fin 16)).biUnion taskRows := by rw [rows_cover]; exact Finset.mem_univ _
  obtain ⟨cs, -, hcs⟩ := Finset.mem_biUnion.mp hm
  rw [hg cs (Finset.mem_univ _) j hcs]
  have hw := (mem_rows _ _).mp hcs
  have h1 := h cs ⟨(j 0).val % 16, Nat.mod_lt _ (by decide)⟩ (j 1)
  have ej : j = ix2 (⟨16 * wid (pt cs.1 cs.2) + (j 0).val % 16, by have := wid_lt (pt cs.1 cs.2); omega⟩ : Fin 512) (j 1 : Fin 128) := by
    funext a; match a with
    | ⟨0, _⟩ => exact Fin.ext (by show (j 0).val = 16 * _ + (j 0).val % 16; omega)
    | ⟨1, _⟩ => rfl
  refine (congrArg (gs cs) ej).trans (h1.trans ?_)
  unfold tailAt
  have e2 : word (words (pt cs.1 cs.2) fe) ((j 0).val % 16) = fe (ix1 (j 0 : Fin 512)) := by
    refine congrArg fe ?_
    funext a; match a with
    | ⟨0, _⟩ => exact Fin.ext (by show (16 * _ + (j 0).val % 16 % 16) % 512 = (j 0).val; omega)
  show wsum fx (word _ ((j 0).val % 16)) _ _ = _
  rw [e2]

theorem bigSep_pairs (Φ : Fin 2 → Fin 16 → sProp 𝕄) :
    (bigSep Finset.univ fun c : Fin 2 => bigSep Finset.univ fun s : Fin 16 => Φ c s) = bigSep Finset.univ fun cs : Fin 2 × Fin 16 => Φ cs.1 cs.2 := by
  rw [← Finset.univ_product_univ]
  exact (SparseCore.bigSep_product Finset.univ Finset.univ fun cs : Fin 2 × Fin 16 => Φ cs.1 cs.2).symm

/-- Facts held with the parts of a family hold of all of it. -/
theorem bigSep_facts {I : Type} [DecidableEq I] (s : Finset I) (φ : I → Prop) (Φ : I → sProp 𝕄) :
    (bigSep s fun i => iprop(⌜φ i⌝ ∗ Φ i)) ⊢ (iprop(⌜∀ i ∈ s, φ i⌝ ∗ bigSep s Φ) : sProp 𝕄) := by
  induction s using Finset.induction_on with
  | empty =>
    rw [bigSep_empty, bigSep_empty]
    iintro _
    isplitr
    · ipureintro; exact fun i hi => absurd hi (Finset.notMem_empty i)
    · iempintro
  | insert a s ha ih =>
    rw [SparseCore.bigSep_insert' ha, SparseCore.bigSep_insert' ha]
    iintro ⟨⟨%h, Ha⟩, Hs⟩
    ihave Hs := ih $$ Hs
    icases Hs with ⟨%hs, Hs⟩
    isplitr
    · ipureintro
      intro i hi
      rcases Finset.mem_insert.mp hi with rfl | hi
      · exact h
      · exact hs i hi
    · isplitl [Ha] <;> iassumption

/-- The result whole, at anything, is dealt to the tasks; -/
theorem rows_deal (d : Dev nD) (f : S512x128.Idx → F .f32) :
    (oLoc d ↦{fullShare} f : sProp 𝕄) ⊢ bigSep Finset.univ fun c : Fin 2 => bigSep Finset.univ fun s : Fin 16 => oPre d (pt c s) := by
  rw [bigSep_pairs (F := F) (fun c s => oPre d (pt c s)), ← rows_cover]
  refine (Entails.of_eq (pointsTo_biUnion Finset.univ (ℓ := oLoc d) taskRows rows_disjoint)).trans ?_
  have h : ∀ cs : Fin 2 × Fin 16, (oLoc d ↦[taskRows cs]{fullShare} f : sProp 𝕄) ⊢ oPre d (pt cs.1 cs.2) := by
    intro cs
    iintro H
    iexists f
    iexact H
  exact bigSep_mono fun cs _ => h cs

/-- and brought back whole, the sums of the windows in it. -/
theorem rows_join (d : Dev nD) (fx : S320000x128.Idx → F .f32) (fe : S512.Idx → BitVec 32) :
    (bigSep Finset.univ fun c : Fin 2 => bigSep Finset.univ fun s : Fin 16 => oDone fx fe d (pt c s)) ⊢ (oLoc d ↦{fullShare} tailAt fx fe : sProp 𝕄) := by
  rw [bigSep_pairs (F := F) (fun c s => oDone fx fe d (pt c s))]
  haveI : ∀ _ : Fin 2 × Fin 16, Nonempty (Buf (Elt F) (oLoc d)) := fun _ => ⟨tailAt fx fe⟩
  refine BIBase.Entails.trans (bigSep_exists_pi Finset.univ (fun (cs : Fin 2 × Fin 16) (g : Buf (Elt F) (oLoc d)) => iprop(⌜OutIs (pt cs.1 cs.2) fx (words (pt cs.1 cs.2) fe) g⌝ ∗ oLoc d ↦[taskRows cs]{fullShare} g))) ?_
  iintro ⟨%gs, H⟩
  ihave H := (bigSep_facts (F := F) Finset.univ (fun cs : Fin 2 × Fin 16 => OutIs (pt cs.1 cs.2) fx (words (pt cs.1 cs.2) fe) (gs cs)) (fun cs => iprop(oLoc d ↦[taskRows cs]{fullShare} gs cs))) $$ H
  icases H with ⟨%h, H⟩
  ihave H := (pointsTo_biUnion_join Finset.univ taskRows gs (gs (0, 0)) rows_disjoint) $$ H
  icases H with ⟨%g, %hg, Hg⟩
  rw [rows_cover, ← tail_of_rows hg (fun cs => h cs (Finset.mem_univ _))]
  iexact Hg

end Cert.Proof
-- ==== Proof.TcBodies.lean ====
/-
  The bodies of the two TensorCore kernels: the block sums of one point of the grid, and the tail.
-/
module

public import proofs.«01_k».proof.Proof.Task
public import proofs.«01_k».proof.Proof.Gen.KernelIdeal.Points
public import Idealize.ShloMosaic.Lib.VecWindow

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Reading back an unmasked store of a view's own sizes: the payload. -/
theorem read_store_full {sp : Space} {s : Shape} {e : EltTy} (mr : Memref sig .tc sp s e) (f : mr.view.ty.Contents (Elt F))
    {off : Fin s.rank → ℕ} (inb : ∀ a, off a + s.size a ≤ s.size a) (w : s.Idx → Elt F e) :
    mr.view.read (Elt F) ((mr.access (Rect.unit (s := s) off s.size inb)).write (Elt F) f w Finset.univ) = w :=
  View.read_writes_full mr.view f inb w []

/-- One point of the block sums: the result's buffer ends holding the sums of the 64-row blocks of the other. -/
theorem blocksum_body (c : Dev nD) (i : grid0.Coords) (s0 : Memref sig .tc .vmem S12800x128 .f32) (h0 : s0.IsWhole)
    (s1 : Memref sig .tc .vmem S200x128 .f32) (h1 : s1.IsWhole) (X0 : S12800x128.Idx → Elt F .f32) (X1 : S200x128.Idx → Elt F .f32)
    (Q : PUnit → sProp 𝕄) :
    iprop(owns (c : Thread nD τ) s0 fullShare X0 ∗ owns (c : Thread nD τ) s1 fullShare X1
        ∗ (iprop(owns (c : Thread nD τ) s0 fullShare X0 ∗ owns (c : Thread nD τ) s1 fullShare (k0_pay1 X0)) -∗ Q ⟨⟩))
      ⊢ wp frame (wpE (defs₀ (F := F)) 𝒱₀ c none) Set.univ (cc0_blocksum_kernel i s0 h0 s1 h1) Q := by
  rw [cc0_blocksum_kernel_eq_skeleton]; unfold cc0_blocksum_kernel_skel owns
  simp only [Prog.lift, Prog.bind_op, Prog.bind_ret]
  iintro ⟨⟨%f0, %hf0, H0⟩, ⟨%f1, %hf1, H1⟩, Hk⟩
  sl_steps
  iapply Hk
  rw [View.readAt_full, hf0]
  isplitl [H0]
  · iexists f0; isplitr; · ipureintro; exact hf0
    iexact H0
  · iexists _; isplitr
    on_goal 2 => iexact H1
    ipureintro; exact read_store_full s1 f1 _ _

/-- The tail: the result's buffer ends holding the tail of the seven others. -/
theorem tail_body (c : Dev nD) (s0 : Memref sig .tc .vmem S5000x128 .f32) (h0 : s0.IsWhole)
    (s1 : Memref sig .tc .vmem S512x128 .f32) (h1 : s1.IsWhole) (s2 : Memref sig .tc .vmem S512x1 .i32) (h2 : s2.IsWhole)
    (s3 : Memref sig .tc .vmem S512x1 .i32) (h3 : s3.IsWhole) (s4 : Memref sig .tc .vmem S512x1 .f32) (h4 : s4.IsWhole)
    (s5 : Memref sig .tc .vmem S128x16 .f32) (h5 : s5.IsWhole) (s6 : Memref sig .tc .vmem S1x16 .f32) (h6 : s6.IsWhole)
    (s7 : Memref sig .tc .vmem S512x16 .f32) (h7 : s7.IsWhole)
    (X0 : S5000x128.Idx → Elt F .f32) (X1 : S512x128.Idx → Elt F .f32) (X2 X3 : S512x1.Idx → Elt F .i32) (X4 : S512x1.Idx → Elt F .f32)
    (X5 : S128x16.Idx → Elt F .f32) (X6 : S1x16.Idx → Elt F .f32) (X7 : S512x16.Idx → Elt F .f32)
    (Q : PUnit → sProp 𝕄) :
    iprop(owns (c : Thread nD τ) s0 fullShare X0 ∗ owns (c : Thread nD τ) s1 fullShare X1 ∗ owns (c : Thread nD τ) s2 fullShare X2
        ∗ owns (c : Thread nD τ) s3 fullShare X3 ∗ owns (c : Thread nD τ) s4 fullShare X4 ∗ owns (c : Thread nD τ) s5 fullShare X5
        ∗ owns (c : Thread nD τ) s6 fullShare X6 ∗ owns (c : Thread nD τ) s7 fullShare X7
        ∗ (iprop(owns (c : Thread nD τ) s0 fullShare X0 ∗ owns (c : Thread nD τ) s1 fullShare X1 ∗ owns (c : Thread nD τ) s2 fullShare X2
            ∗ owns (c : Thread nD τ) s3 fullShare X3 ∗ owns (c : Thread nD τ) s4 fullShare X4 ∗ owns (c : Thread nD τ) s5 fullShare X5
            ∗ owns (c : Thread nD τ) s6 fullShare X6
            ∗ owns (c : Thread nD τ) s7 fullShare (k2_pay1 (k2_pay2 X2 X3 X0 X1 X4) X5 X6)) -∗ Q ⟨⟩))
      ⊢ wp frame (wpE (defs₀ (F := F)) 𝒱₀ c none) Set.univ
          (cc2__tc_tail_kernel s0 h0 s1 h1 s2 h2 s3 h3 s4 h4 s5 h5 s6 h6 s7 h7) Q := by
  rw [cc2__tc_tail_kernel_eq_skeleton]; unfold cc2__tc_tail_kernel_skel
  rw [k2_part1_eq_skeleton]; unfold k2_part1_skel owns
  simp only [Prog.lift, Prog.bind_op, Prog.bind_ret, pure_bind]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  sl_steps
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  · iexists _; isplitr
    on_goal 2 => iexact H7
    ipureintro
    refine (read_store_full s7 f7 _ _).trans ?_
    rw [View.readAt_full s0.view f0, View.readAt_full s1.view f1, View.readAt_full s2.view f2, View.readAt_full s3.view f3,
      View.readAt_full s4.view f4, View.readAt_full s5.view f5, View.readAt_full s6.view f6, hf0, hf1, hf2, hf3, hf4, hf5, hf6]

end Cert.Proof

end
-- ==== Proof.TcRegions.lean ====
/-
  A TensorCore kernel of the program as one step of its main thread: the buffers outside the kernel go from one
  valuation to the next, while the core still owes the SparseCores their starts.
-/
module

public import proofs.«01_k».proof.Proof.TcBodies
public import Idealize.ShloMosaic.Lib.Pipeline.FrameTail
public import Idealize.ShloMosaic.Lib.Pipeline.RegionsLoop

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.ShloMosaic.Pipeline (Dat RegionSeg BodyObligation BodyObligationLoose ucRefs unscopedBufs_held afterRegion)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The prefetched tables' contents: no kernel has a table. -/
abbrev adm : (p : Fin 2) → (pcfgs (F := F) p).Adm := fun p => (cfgs p).toPCfg_adm

/-- What core `d` owes beside a kernel: `O`, its recorded waits at or below level `b`. -/
def dues (O : CellTallies nD τ sig (HIx 1)) (b : ℕ) (d : Dev nD) : sProp 𝕄 :=
  iprop(∃ W, ⌜(K (F := F)).WBelow (SparseCore.T d) W b⌝ ∗ owes (SparseCore.T d) O W)

section Region

variable (V : Dev nD → Valuation τ sig (Elt F)) (O : CellTallies nD τ sig (HIx 1)) (b : ℕ)
  (dats : (p : Fin 2) → (c : Dev nD) → Dat τ (Elt F) (HIx 1) ℕ UU ℕ (Pipeline.pin (pcfgs (F := F)) adm p) c)

/-- Data that say: the arrays at `V`, nothing carried but the core's other scoped buffers, `O` owed throughout. -/
structure Plain (p : Fin 2) : Prop where
  hA : ∀ c w, (dats p c).A w = V c (Proc.devRef .tc (Pipeline.arrRef (cfgs p).spec w))
  hq : ∀ c w, (dats p c).q w = fullShare
  howed : ∀ c t, (dats p c).owed t = O
  hrec : ∀ c t, (dats p c).recorded t = {q | (K (F := F)).lev (SparseCore.T c, q.1) q.2 ≤ b}
  hΦ : ∀ c t, (dats p c).Φ t = Pipeline.scopedRest (cfgs p).spec c

variable {V O b dats}

theorem dues_owesAt {p : Fin 2} (h : Plain V O b dats p) (c : Dev nD) (t) :
    dues (F := F) O b c ⊢ ((dats p c).owesAt (none : HIx 1) t : sProp 𝕄) := by
  unfold dues Dat.owesAt Pipeline.owesWithin Dat.bound
  rw [h.howed, h.hrec]
  iintro ⟨%W, %hW, HO⟩
  iexists W
  isplitr
  · ipureintro; exact fun q hq => Or.inl (hW q hq)
  iexact HO

theorem owesAt_dues {p : Fin 2} (h : Plain V O b dats p) (c : Dev nD) (t) :
    ((dats p c).owesAt (none : HIx 1) t : sProp 𝕄) ⊢ dues (F := F) O b c := by
  unfold dues Dat.owesAt Pipeline.owesWithin Dat.bound
  rw [h.howed, h.hrec]
  iintro ⟨%W, %hW, HO⟩
  iexists W
  isplitr
  · ipureintro
    intro q hq
    rcases hW hq with h' | ⟨w, s, h'⟩
    · exact h'
    · rw [h', SparseCore.Cfg.lev_none]; exact Nat.zero_le _
  iexact HO

theorem noTables (p : Fin 2) (c : Dev nD) :
    (BI.emp : sProp 𝕄) ⊢ Pipeline.prefHeld (Ix := HIx 1) (Name := ℕ) (U := UU) (Lvl := ℕ) (Val := Elt F) (pcfgs (F := F) p).pre c (fun _ => fullShare) (adm p).1 := by
  unfold Pipeline.prefHeld
  refine (show (BI.emp : sProp 𝕄) ⊢ bigSep (Finset.univ : Finset (Fin 0)) _ from by
    rw [show (Finset.univ : Finset (Fin 0)) = ∅ from rfl, BI.bigSep_empty])

/-- Kernel `p` as a region entered with the buffers outside it at `V`. -/
def region {p : Fin 2} (kit : Pipeline.LaunchFacts (nD := nD) (τ := τ) cfgs p) (h : Plain V O b dats p) (hO : ∀ g, O g none = 0)
    (hbody : ∀ c, BodyObligationLoose (dats p c) defs₀ 𝒱₀ none Set.univ) :
    RegionSeg (pcfgs (F := F)) adm dats none defs₀ 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_intro (Pipeline.pin (pcfgs (F := F)) adm) dats none p c fun w s t => by
    rw [h.howed]; exact (K (F := F)).mayWait_none _ hO
  pre c := iprop(StableHlo.held (c : Thread nD τ) (ucRefs τ sig) (V c) ∗ dues (F := F) O b c)
  post c := iprop(StableHlo.held (c : Thread nD τ) (ucRefs τ sig) (afterRegion (dats p c) (V c)) ∗ dues (F := F) O b c)
  X _ := iprop(emp)
  Y _ := iprop(emp)
  Z c := Pipeline.unscopedRest (Ix := HIx 1) (Name := ℕ) (U := UU) (Lvl := ℕ) (cfgs p).spec c (fun r => V c (Proc.devRef .tc r))
  hentry c := by
    rw [Pipeline.ownSems0_none,
      show StableHlo.held (c.tc : Thread nD τ) (ucRefs τ sig) (V c) = unscopedBufs c (fun r => V c (Proc.devRef .tc r))
        from (unscopedBufs_held (Ix := HIx 1) (Name := ℕ) (U := UU) (Lvl := ℕ) c (V c)).symm]
    have hsplit := Pipeline.arrays_of_unscopedBufs (p := p) (pcfgs (F := F)) adm dats kit.win kit.arr_whole c
      ((dats p c).share_full (h.hq c)) (fun r => V c (Proc.devRef .tc r)) (fun w => h.hA c w)
    iintro ⟨⟨Hub, HO⟩, -, -⟩
    ihave H := hsplit $$ Hub
    icases H with ⟨Ha, Hrest⟩
    imodintro
    isplitl [Ha]; · iexact Ha
    isplitr; · iapply (noTables p c); iempintro
    isplitl [HO]; · iapply (dues_owesAt h c 0); iexact HO
    isplitr; · iempintro
    iexact Hrest
  hin c := by
    rw [h.hΦ]; iintro ⟨-, -, Hr⟩; iexact Hr
  hout c := by
    rw [h.hΦ, Pipeline.ownSems0_none]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ)
      kit.win kit.arr_whole c dats ((dats p c).share_full (h.hq c))
      (fun r => V c (Proc.devRef .tc r)) (fun r => afterRegion (dats p c) (V c) (Proc.devRef .tc r)) ((dats p c).arrAt · (cfgs p).N)
      (fun w => (Pipeline.afterRegion_arr (dats p c) (V c) kit.win.arr_inj w).symm)
      (fun r hr => Pipeline.afterRegion_of_not_arr (dats p c) (V c)
        fun w h => hr (h ▸ Finset.mem_image.mpr ⟨w, Finset.mem_univ _, rfl⟩))
    rw [show StableHlo.held (c.tc : Thread nD τ) (ucRefs τ sig) (afterRegion (dats p c) (V c))
          = unscopedBufs c (fun r => afterRegion (dats p c) (V c) (Proc.devRef .tc r))
        from (unscopedBufs_held (Ix := HIx 1) (Name := ℕ) (U := UU) (Lvl := ℕ) c (afterRegion (dats p c) (V c))).symm]
    iintro ⟨Ha, HO, -, Hrest⟩
    imodintro
    isplitl [Ha Hrest]
    · iapply hjoin; isplitl [Ha] <;> iassumption
    iapply (owesAt_dues h c _); iexact HO

/-- Kernel `p`'s call in @main: the step. -/
theorem wp_region [∀ e, Nonempty (Elt F e)] {p : Fin 2} (kit : Pipeline.LaunchFacts (nD := nD) (τ := τ) cfgs p) (h : Plain V O b dats p) (hO : ∀ g, O g none = 0)
    (hbody : ∀ c, BodyObligationLoose (dats p c) defs₀ 𝒱₀ none Set.univ) (d : Dev nD) {Q : PUnit → sProp 𝕄} :
    iprop((iprop(boundary (SparseCore.T d) ∗ StableHlo.held (SparseCore.T d) (ucRefs τ sig) (afterRegion (dats p d) (V d)) ∗ dues (F := F) O b d) -∗ Q ⟨⟩)
        ∗ boundary (SparseCore.T d) ∗ StableHlo.held (SparseCore.T d) (ucRefs τ sig) (V d) ∗ dues (F := F) O b d
        ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Q := by
  have hw := RegionSeg.wp (pcfgs (F := F)) adm dats none Gen.cellOf_inj EP defs₀ 𝒱₀ (K (F := F)).L (K (F := F)).lev
    (region kit h hO hbody) d none (fun u hu => nomatch hu) (fun _ => .ret ⟨⟩) Q
  dsimp only [region] at hw
  refine BIBase.Entails.trans ?_ ((hw).trans ((K (F := F)).wp_liftProg (D (F := F)) 𝒱 (SparseCore.T d) Set.univ none _ Q))
  iintro ⟨Hk, Hb, Hh, HO, HL, Hg, Ht⟩
  isplitl [Hk]
  · iintro ⟨Hb, Hh, HO⟩
    rw [wp_ret]; imodintro
    iapply Hk
    isplitl [Hb]; · iexact Hb
    isplitl [Hh]; · iexact Hh
    iexact HO
  isplitl [Hb]; · iexact Hb
  isplitl [Hh HO]
  · isplitl [Hh]; · iexact Hh
    iexact HO
  isplitl [HL]; · iexact HL
  isplitl [Hg]; · iexact Hg
  iexact Ht

end Region

end Cert.Proof

end
-- ==== Proof.TcDats.lean ====
/-
  The two TensorCore kernels' pipelines: their data, their bodies, and the arrays they leave.
-/
module

public import proofs.«01_k».proof.Proof.TcRegions
public import Idealize.ShloMosaic.Lib.Pipeline.ValueKit.Geometry

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.ShloMosaic.Pipeline (Dat BodyObligation BodyObligationLoose)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (V : Dev nD → Valuation τ sig (Elt F)) (O : CellTallies nD τ sig (HIx 1)) (b : ℕ)

/-- Window `w` of the block sums: its block at point `t`, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- Window `w` of the tail: its block, read off its array. -/
def blk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The block sums' data. -/
def dat0 (c : Dev nD) : Dat τ (Elt F) (HIx 1) ℕ UU ℕ cfg0 c where
  A w := V c (Proc.devRef .tc (Pipeline.arrRef spec0 w))
  after w t := match w with
    | ⟨0, _⟩ => blk0 V c 0 t
    | ⟨1, _⟩ => k0_pay1 (blk0 V c 0 t)
  Φ _ := Pipeline.scopedRest spec0 c
  q _ := fullShare
  owed _ := O
  recorded _ := {q | (K (F := F)).lev (SparseCore.T c, q.1) q.2 ≤ b}

/-- The tail's data. -/
def dat2 (c : Dev nD) : Dat τ (Elt F) (HIx 1) ℕ UU ℕ cfg2 c where
  A w := V c (Proc.devRef .tc (Pipeline.arrRef spec2 w))
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => k2_pay1 (k2_pay2 (blk2 V c 2 t) (blk2 V c 3 t) (blk2 V c 0 t) (blk2 V c 1 t) (blk2 V c 4 t)) (blk2 V c 5 t) (blk2 V c 6 t)
  Φ _ := Pipeline.scopedRest spec2 c
  q _ := fullShare
  owed _ := O
  recorded _ := {q | (K (F := F)).lev (SparseCore.T c, q.1) q.2 ≤ b}

def dats : (p : Fin 2) → (c : Dev nD) → Dat τ (Elt F) (HIx 1) ℕ UU ℕ (Pipeline.pin (pcfgs (F := F)) adm p) c
  | ⟨0, _⟩ => dat0 V O b
  | ⟨1, _⟩ => dat2 V O b

theorem plain0 : Plain V O b (dats V O b) 0 := ⟨fun _ _ => rfl, fun _ _ => rfl, fun _ _ => rfl, fun _ _ => rfl, fun _ _ => rfl⟩
theorem plain1 : Plain V O b (dats V O b) 1 := ⟨fun _ _ => rfl, fun _ _ => rfl, fun _ _ => rfl, fun _ _ => rfl, fun _ _ => rfl⟩

/-! ## The block sums -/

theorem before0_0 (c : Dev nD) (t : Fin cfg0.N) (d) : (dat0 V O b c).before 0 t d = blk0 V c 0 t := by
  unfold Dat.before; rw [if_pos (fetch0_0 t)]; unfold Dat.fetched Dat.blockOf blk0; dsimp only [dat0]; rfl
theorem after0_0 (c : Dev nD) (t : Fin cfg0.N) : (dat0 V O b c).after 0 t = blk0 V c 0 t := by dsimp only [dat0]
theorem after0_1 (c : Dev nD) (t : Fin cfg0.N) : (dat0 V O b c).after 1 t = k0_pay1 (blk0 V c 0 t) := by dsimp only [dat0]

theorem defs_tc0 : (defs₀ (F := F)) .tc cfg0.body = fun a => cc0_blocksum_kernel (grid0.coords a.1) (win0_0.stage (a.2 0))
    (hstage0_0 ((a.2 0).cast nbuf0_0)) (win0_1.stage (a.2 1)) (hstage0_1 ((a.2 1).cast nbuf0_1)) := rfl
theorem prog_eq0 (t : Fin cfg0.N) : (defs₀ (F := F)) .tc cfg0.body (cfg0.bodyArgs t (cfg0.slots t)) = bodyAt0 t :=
  (congrFun defs_tc0 _).trans rfl

set_option backward.isDefEq.respectTransparency.types false in
theorem body0 (c : Dev nD) : BodyObligation (dat0 V O b c) (defs₀ (F := F)) 𝒱₀ (none : HIx 1) Set.univ := fun t => by
  rw [bigSep_W0, bigSep_W0]
  dsimp only
  simp only [before0_0, after0_0, after0_1]
  rw [show (dat0 V O b c).Φ t.castSucc = Pipeline.scopedRest spec0 c from rfl, show (dat0 V O b c).Φ t.succ = Pipeline.scopedRest spec0 c from rfl,
    show (dat0 V O b c).owesAt (none : HIx 1) t.succ = (dat0 V O b c).owesAt (none : HIx 1) t.castSucc from rfl]
  iintro ⟨HΦ, HO, ⟨%d0, H0⟩, ⟨%d1, H1⟩⟩
  sl_rw [prog_eq0 t]
  iapply (blocksum_body c _ _ _ _ _ (blk0 V c 0 t) _ _)
  isplitl [H0]; · iexact H0
  isplitl [H1]; · iexact H1
  iintro ⟨H0, H1⟩
  isplitl [HΦ]; · iexact HΦ
  isplitl [HO]; · iexact HO
  isplitl [H0]; · iexact H0
  iexact H1

/-! ## The tail -/

theorem before2_0 (c : Dev nD) (t : Fin cfg2.N) (d) : (dat2 V O b c).before 0 t d = blk2 V c 0 t := by
  unfold Dat.before; rw [if_pos (fetch2_0 t)]; unfold Dat.fetched Dat.blockOf blk2; dsimp only [dat2]; rfl
theorem before2_1 (c : Dev nD) (t : Fin cfg2.N) (d) : (dat2 V O b c).before 1 t d = blk2 V c 1 t := by
  unfold Dat.before; rw [if_pos (fetch2_1 t)]; unfold Dat.fetched Dat.blockOf blk2; dsimp only [dat2]; rfl
theorem before2_2 (c : Dev nD) (t : Fin cfg2.N) (d) : (dat2 V O b c).before 2 t d = blk2 V c 2 t := by
  unfold Dat.before; rw [if_pos (fetch2_2 t)]; unfold Dat.fetched Dat.blockOf blk2; dsimp only [dat2]; rfl
theorem before2_3 (c : Dev nD) (t : Fin cfg2.N) (d) : (dat2 V O b c).before 3 t d = blk2 V c 3 t := by
  unfold Dat.before; rw [if_pos (fetch2_3 t)]; unfold Dat.fetched Dat.blockOf blk2; dsimp only [dat2]; rfl
theorem before2_4 (c : Dev nD) (t : Fin cfg2.N) (d) : (dat2 V O b c).before 4 t d = blk2 V c 4 t := by
  unfold Dat.before; rw [if_pos (fetch2_4 t)]; unfold Dat.fetched Dat.blockOf blk2; dsimp only [dat2]; rfl
theorem before2_5 (c : Dev nD) (t : Fin cfg2.N) (d) : (dat2 V O b c).before 5 t d = blk2 V c 5 t := by
  unfold Dat.before; rw [if_pos (fetch2_5 t)]; unfold Dat.fetched Dat.blockOf blk2; dsimp only [dat2]; rfl
theorem before2_6 (c : Dev nD) (t : Fin cfg2.N) (d) : (dat2 V O b c).before 6 t d = blk2 V c 6 t := by
  unfold Dat.before; rw [if_pos (fetch2_6 t)]; unfold Dat.fetched Dat.blockOf blk2; dsimp only [dat2]; rfl
theorem after2_0 (c : Dev nD) (t : Fin cfg2.N) : (dat2 V O b c).after 0 t = blk2 V c 0 t := by dsimp only [dat2]
theorem after2_1 (c : Dev nD) (t : Fin cfg2.N) : (dat2 V O b c).after 1 t = blk2 V c 1 t := by dsimp only [dat2]
theorem after2_2 (c : Dev nD) (t : Fin cfg2.N) : (dat2 V O b c).after 2 t = blk2 V c 2 t := by dsimp only [dat2]
theorem after2_3 (c : Dev nD) (t : Fin cfg2.N) : (dat2 V O b c).after 3 t = blk2 V c 3 t := by dsimp only [dat2]
theorem after2_4 (c : Dev nD) (t : Fin cfg2.N) : (dat2 V O b c).after 4 t = blk2 V c 4 t := by dsimp only [dat2]
theorem after2_5 (c : Dev nD) (t : Fin cfg2.N) : (dat2 V O b c).after 5 t = blk2 V c 5 t := by dsimp only [dat2]
theorem after2_6 (c : Dev nD) (t : Fin cfg2.N) : (dat2 V O b c).after 6 t = blk2 V c 6 t := by dsimp only [dat2]
theorem after2_7 (c : Dev nD) (t : Fin cfg2.N) : (dat2 V O b c).after 7 t
    = k2_pay1 (k2_pay2 (blk2 V c 2 t) (blk2 V c 3 t) (blk2 V c 0 t) (blk2 V c 1 t) (blk2 V c 4 t)) (blk2 V c 5 t) (blk2 V c 6 t) := by dsimp only [dat2]

theorem defs_tc2 : (defs₀ (F := F)) .tc cfg2.body = fun a => cc2__tc_tail_kernel (win2_0.stage (a.2 0)) (hstage2_0 0) (win2_1.stage (a.2 1)) (hstage2_1 0)
    (win2_2.stage (a.2 2)) (hstage2_2 0) (win2_3.stage (a.2 3)) (hstage2_3 0) (win2_4.stage (a.2 4)) (hstage2_4 0) (win2_5.stage (a.2 5)) (hstage2_5 0)
    (win2_6.stage (a.2 6)) (hstage2_6 0) (win2_7.stage (a.2 7)) (hstage2_7 0) := rfl
theorem prog_eq2 (t : Fin cfg2.N) : (defs₀ (F := F)) .tc cfg2.body (cfg2.bodyArgs t (cfg2.slots t)) = bodyAt2 t :=
  (congrFun defs_tc2 _).trans rfl

set_option backward.isDefEq.respectTransparency.types false in
theorem body2 (c : Dev nD) : BodyObligation (dat2 V O b c) (defs₀ (F := F)) 𝒱₀ (none : HIx 1) Set.univ := fun t => by
  rw [bigSep_W2, bigSep_W2]
  dsimp only
  simp only [before2_0, before2_1, before2_2, before2_3, before2_4, before2_5, before2_6,
    after2_0, after2_1, after2_2, after2_3, after2_4, after2_5, after2_6, after2_7]
  rw [show (dat2 V O b c).Φ t.castSucc = Pipeline.scopedRest spec2 c from rfl, show (dat2 V O b c).Φ t.succ = Pipeline.scopedRest spec2 c from rfl,
    show (dat2 V O b c).owesAt (none : HIx 1) t.succ = (dat2 V O b c).owesAt (none : HIx 1) t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  sl_rw [prog_eq2 t]
  iapply (tail_body c _ _ _ _ _ _ _ _ _ _ _ _ _ _ _ _ (blk2 V c 0 t) (blk2 V c 1 t) (blk2 V c 2 t) (blk2 V c 3 t) (blk2 V c 4 t)
    (blk2 V c 5 t) (blk2 V c 6 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The two steps of @main -/

open Idealize.ShloMosaic.Pipeline (ucRefs afterRegion)

theorem loose0 (c : Dev nD) : BodyObligationLoose (dats V O b 0 c) (defs₀ (F := F)) 𝒱₀ (none : HIx 1) Set.univ := (body0 V O b c).loose
theorem loose2 (c : Dev nD) : BodyObligationLoose (dats V O b 1 c) (defs₀ (F := F)) 𝒱₀ (none : HIx 1) Set.univ := (body2 V O b c).loose

/-- The block sums' call. -/
theorem wp_blocksum [∀ e, Nonempty (Elt F e)] (hO : ∀ g, O g none = 0) (d : Dev nD) {Q : PUnit → sProp 𝕄} :
    iprop((iprop(boundary (SparseCore.T d) ∗ StableHlo.held (SparseCore.T d) (ucRefs τ sig) (afterRegion (dat0 V O b d) (V d)) ∗ dues (F := F) O b d) -∗ Q ⟨⟩)
        ∗ boundary (SparseCore.T d) ∗ StableHlo.held (SparseCore.T d) (ucRefs τ sig) (V d) ∗ dues (F := F) O b d
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (Prog.lift (.customCall (SparseCore.inner (Pipeline.entry 0)) ())) Q :=
  wp_region (p := 0) (dats := dats V O b) launch0 (plain0 V O b) hO (loose0 V O b) d

/-- The tail's call. -/
theorem wp_tail [∀ e, Nonempty (Elt F e)] (hO : ∀ g, O g none = 0) (d : Dev nD) {Q : PUnit → sProp 𝕄} :
    iprop((iprop(boundary (SparseCore.T d) ∗ StableHlo.held (SparseCore.T d) (ucRefs τ sig) (afterRegion (dat2 V O b d) (V d)) ∗ dues (F := F) O b d) -∗ Q ⟨⟩)
        ∗ boundary (SparseCore.T d) ∗ StableHlo.held (SparseCore.T d) (ucRefs τ sig) (V d) ∗ dues (F := F) O b d
        ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d) none) Set.univ
          (Prog.lift (.customCall (SparseCore.inner (Pipeline.entry 1)) ())) Q :=
  wp_region (p := 1) (dats := dats V O b) launch2 (plain1 V O b) hO (loose2 V O b) d

end Cert.Proof

end
-- ==== Proof.HostOps.lean ====
/-
  The host operations between the SparseCore call and the tail, as one line; what the tail reads of it.
-/
module

public import proofs.«01_k».proof.Proof.TcDats
public import Idealize.ShloMosaic.Lib.StableHlo.RunRead

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.ShloMosaic.StableHlo
open Idealize.SL.Sem

variable {F : FTy → Type} [FloatOps F]

/-- The concatenation the starts are, named. -/
def joinStarts (a : (⟨S1, .i32⟩ : BufTy).Contents (Elt F)) (b : (⟨S511, .i32⟩ : BufTy).Contents (Elt F)) : (⟨S512, .i32⟩ : BufTy).Contents (Elt F) :=
  concatenate S512 0 [⟨S1, a⟩, ⟨S511, b⟩] concatenates_S1_S511_S512_d0

/-- @main's host operations, in order. -/
abbrev hostOps : List (HloOp τ sig (Elt F)) :=
  [ nullary main_c (constantI S_ 32 0#32),
    unary main_c main_v2 (broadcastInDim S1 ![] bcast_S_S1 : (⟨S_, .i32⟩ : BufTy).Contents (Elt F) → (⟨S1, .i32⟩ : BufTy).Contents (Elt F)),
    unary main_arg1 main_v3 ((extractStridedSlice S511 ![0] · slices_S512_S511_0) : (⟨S512, .i32⟩ : BufTy).Contents (Elt F) → (⟨S511, .i32⟩ : BufTy).Contents (Elt F)),
    binary main_v2 main_v3 main_v4 (joinStarts (F := F)),
    binary main_arg1 main_v4 main_v5 (subi : (⟨S512, .i32⟩ : BufTy).Contents (Elt F) → (⟨S512, .i32⟩ : BufTy).Contents (Elt F) → (⟨S512, .i32⟩ : BufTy).Contents (Elt F)),
    unary main_v5 main_v6 (sitofp .f32 : (⟨S512, .i32⟩ : BufTy).Contents (Elt F) → (⟨S512, .f32⟩ : BufTy).Contents (Elt F)),
    nullary main_cst (constant S_ .f32 0x3F800000#32),
    unary main_cst main_v7 (broadcastInDim S512 ![] bcast_S_S512 : (⟨S_, .f32⟩ : BufTy).Contents (Elt F) → (⟨S512, .f32⟩ : BufTy).Contents (Elt F)),
    binary main_v6 main_v7 main_v8 (maximumf : (⟨S512, .f32⟩ : BufTy).Contents (Elt F) → (⟨S512, .f32⟩ : BufTy).Contents (Elt F) → (⟨S512, .f32⟩ : BufTy).Contents (Elt F)),
    nullary main_cst_0 (constant S_ .f32 0x3F800000#32),
    unary main_cst_0 main_v9 (broadcastInDim S512 ![] bcast_S_S512 : (⟨S_, .f32⟩ : BufTy).Contents (Elt F) → (⟨S512, .f32⟩ : BufTy).Contents (Elt F)),
    binary main_v9 main_v8 main_v10 (Host.divf : (⟨S512, .f32⟩ : BufTy).Contents (Elt F) → (⟨S512, .f32⟩ : BufTy).Contents (Elt F) → (⟨S512, .f32⟩ : BufTy).Contents (Elt F)),
    unary main_v10 main_v11 (broadcastInDim S512x1 ![0] bcast_S512_S512x1_0 : (⟨S512, .f32⟩ : BufTy).Contents (Elt F) → (⟨S512x1, .f32⟩ : BufTy).Contents (Elt F)),
    nullary main_c_1 (constantI S_ 32 64#32),
    unary main_c_1 main_call0_v0 id,
    unary main_call0_v0 main_call0_v1 (broadcastInDim S512 ![] bcast_S_S512),
    binary main_v4 main_call0_v1 main_call0_v2 Host.divsi,
    unary main_v4 main_call0_v3 signi,
    unary main_call0_v0 main_call0_v4 signi,
    unary main_call0_v4 main_call0_v5 (broadcastInDim S512 ![] bcast_S_S512),
    binary main_call0_v3 main_call0_v5 main_call0_v6 (cmpi .ne),
    unary main_call0_v0 main_call0_v7 (broadcastInDim S512 ![] bcast_S_S512),
    binary main_v4 main_call0_v7 main_call0_v8 Host.remsi,
    nullary main_call0_c (constantI S_ 32 0#32),
    unary main_call0_c main_call0_v9 (broadcastInDim S512 ![] bcast_S_S512),
    binary main_call0_v8 main_call0_v9 main_call0_v10 (cmpi .ne),
    binary main_call0_v6 main_call0_v10 main_call0_v11 andi,
    nullary main_call0_c_0 (constantI S_ 32 1#32),
    unary main_call0_c_0 main_call0_v12 (broadcastInDim S512 ![] bcast_S_S512),
    binary main_call0_v2 main_call0_v12 main_call0_v13 subi,
    ternary main_call0_v11 main_call0_v13 main_call0_v2 main_v12 select,
    unary main_v12 main_v13 (broadcastInDim S512x1 ![0] bcast_S512_S512x1_0 : (⟨S512, .i32⟩ : BufTy).Contents (Elt F) → (⟨S512x1, .i32⟩ : BufTy).Contents (Elt F)),
    nullary main_c_2 (constantI S_ 32 64#32),
    unary main_c_2 main_call1_v0 id,
    unary main_call1_v0 main_call1_v1 (broadcastInDim S512 ![] bcast_S_S512),
    binary main_arg1 main_call1_v1 main_call1_v2 Host.divsi,
    unary main_arg1 main_call1_v3 signi,
    unary main_call1_v0 main_call1_v4 signi,
    unary main_call1_v4 main_call1_v5 (broadcastInDim S512 ![] bcast_S_S512),
    binary main_call1_v3 main_call1_v5 main_call1_v6 (cmpi .ne),
    unary main_call1_v0 main_call1_v7 (broadcastInDim S512 ![] bcast_S_S512),
    binary main_arg1 main_call1_v7 main_call1_v8 Host.remsi,
    nullary main_call1_c (constantI S_ 32 0#32),
    unary main_call1_c main_call1_v9 (broadcastInDim S512 ![] bcast_S_S512),
    binary main_call1_v8 main_call1_v9 main_call1_v10 (cmpi .ne),
    binary main_call1_v6 main_call1_v10 main_call1_v11 andi,
    nullary main_call1_c_0 (constantI S_ 32 1#32),
    unary main_call1_c_0 main_call1_v12 (broadcastInDim S512 ![] bcast_S_S512),
    binary main_call1_v2 main_call1_v12 main_call1_v13 subi,
    ternary main_call1_v11 main_call1_v13 main_call1_v2 main_v14 select,
    unary main_v14 main_v15 (broadcastInDim S512x1 ![0] bcast_S512_S512x1_0 : (⟨S512, .i32⟩ : BufTy).Contents (Elt F) → (⟨S512x1, .i32⟩ : BufTy).Contents (Elt F)),
    unary main_arg2 main_v16 ((transpose S128x16 [1, 0] · transposes_S16x128_S128x16_1_0) : (⟨S16x128, .f32⟩ : BufTy).Contents (Elt F) → (⟨S128x16, .f32⟩ : BufTy).Contents (Elt F)),
    unary main_arg3 main_v17 (broadcastInDim S1x16 ![1] bcast_S16_S1x16_1 : (⟨S16, .f32⟩ : BufTy).Contents (Elt F) → (⟨S1x16, .f32⟩ : BufTy).Contents (Elt F)) ]

/-- The buffers they write. -/
abbrev hostWrites : List (Ref sig .tc) :=
  [main_c, main_v2, main_v3, main_v4, main_v5, main_v6, main_cst, main_v7, main_v8, main_cst_0, main_v9, main_v10, main_v11, main_c_1,
    main_call0_v0, main_call0_v1, main_call0_v2, main_call0_v3, main_call0_v4, main_call0_v5, main_call0_v6, main_call0_v7, main_call0_v8,
    main_call0_c, main_call0_v9, main_call0_v10, main_call0_v11, main_call0_c_0, main_call0_v12, main_call0_v13, main_v12, main_v13, main_c_2,
    main_call1_v0, main_call1_v1, main_call1_v2, main_call1_v3, main_call1_v4, main_call1_v5, main_call1_v6, main_call1_v7, main_call1_v8,
    main_call1_c, main_call1_v9, main_call1_v10, main_call1_v11, main_call1_c_0, main_call1_v12, main_call1_v13, main_v14, main_v15, main_v16, main_v17]

set_option maxRecDepth 8192 in
theorem hostOps_writes : (hostOps (F := F)).Forall fun op => op.writes ⊆ (hostWrites.map (Proc.devRef (τ := τ) .tc)).toFinset :=
  forall_writes_sub_of_map rfl

set_option maxRecDepth 8192 in
theorem hostOps_fresh : ∀ op ∈ hostOps (F := F), op.fresh = ∅ := List.forall_iff_forall_mem.mp (forall_fresh_of_map rfl)

set_option maxRecDepth 8192 in
theorem hostOps_sub : ∀ op ∈ hostOps (F := F), op.bufs ⊆ Pipeline.ucRefs τ sig := by
  intro op hop
  refine Pipeline.sub_ucRefs op ?_
  revert op
  simp only [List.forall_mem_cons, List.not_mem_nil, false_implies, implies_true, and_true,
    nullary_bufs_sub, unary_bufs_sub, binary_bufs_sub, ternary_bufs_sub]

/-- A buffer they do not write keeps its contents. -/
theorem hostOps_keep {r : Ref sig .tc} (hr : r ∉ hostWrites) (V : Valuation τ sig (Elt F)) :
    after (hostOps (F := F)) V (Proc.devRef .tc r) = V (Proc.devRef .tc r) :=
  after_of_writes_sub hostOps V hostOps_writes hr

set_option maxRecDepth 8192 in
/-- @main: the block sums, the SparseCore call, the host operations, the tail. -/
theorem main_eq (d : Dev nD) : main (F := F) d = ((Prog.lift (.customCall (SparseCore.inner (Pipeline.entry 0)) ())) >>= fun _ => sc.run d 0 >>= fun _ =>
    seqK hostOps ((Prog.lift (.customCall (SparseCore.inner (Pipeline.entry 1)) ())) >>= fun _ => pure ⟨⟩)) := by
  simp only [main, fn_floor_divide.body, fn_floor_divide_0.body, fn_where.body, bind_assoc, pure_bind]
  rfl

end Cert.Proof

end
-- ==== Proof.MainRun.lean ====
/-
  @main's valuations between its steps, and its SparseCore call as one step.
-/
module

public import proofs.«01_k».proof.Proof.HostOps
public import Idealize.ShloMosaic.Lib.Pipeline.RegionArraysS
public import Idealize.ShloMosaic.Lib.SparseCore.Quiescent

@[expose] public section

noncomputable section

namespace Cert.Proof

open Cert.KernelIdeal Cert.KernelIdeal.Gen

open Idealize.ShloMosaic
open Idealize.ShloMosaic.TcCoe
open Idealize.ShloMosaic.SparseCore (S V)
open Idealize.ShloMosaic.SparseCore.Cfg (HIx)
open Idealize.ShloMosaic.Pipeline (ucRefs unscopedBufs_held afterRegion)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-! ## The valuations -/

/-- At launch. -/
def V0 (d : Dev nD) : Valuation τ sig (Elt F) := fun b => m (d, b)
/-- After the block sums. -/
def V1 (d : Dev nD) : Valuation τ sig (Elt F) := afterRegion (dat0 (V0 m) ((K (F := F)).Otc d 0) 0 d) (V0 m d)
/-- After the SparseCore call. -/
def V2 (d : Dev nD) : Valuation τ sig (Elt F) := Function.update (V1 m d) (Proc.devRef .tc main_v1) (tailAt (xOf m d) (eOf m d))
/-- After the host operations. -/
def V3 (d : Dev nD) : Valuation τ sig (Elt F) := StableHlo.after hostOps (V2 m d)
/-- At the end. -/
def V4 (d : Dev nD) : Valuation τ sig (Elt F) := afterRegion (dat2 (V3 m) ((K (F := F)).Otc d 1) 8 d) (V3 m d)

theorem V1_keep (d : Dev nD) (r : Ref sig .tc) (h : ∀ w, Pipeline.arrRef spec0 w = r → (cfg0.win w).isOut = false) :
    V1 m d (Proc.devRef .tc r) = m ((SparseCore.T d).loc r) :=
  Pipeline.afterRegion_keeps (dat0 (V0 m) ((K (F := F)).Otc d 0) 0 d) (V0 m d) launch0.win.arr_inj (fun _ => rfl) r h

theorem V2_keep (d : Dev nD) (r : Ref sig .tc) (h : r ≠ main_v1) : V2 m d (Proc.devRef .tc r) = V1 m d (Proc.devRef .tc r) :=
  Function.update_of_ne (fun e => h (Proc.devRef_injective _ e)) _ _

theorem V4_keep (d : Dev nD) (r : Ref sig .tc) (h : ∀ w, Pipeline.arrRef spec2 w = r → (cfg2.win w).isOut = false) :
    V4 m d (Proc.devRef .tc r) = V3 m d (Proc.devRef .tc r) :=
  Pipeline.afterRegion_keeps (dat2 (V3 m) ((K (F := F)).Otc d 1) 8 d) (V3 m d) launch2.win.arr_inj (fun _ => rfl) r h

/-- An argument ends as it was at launch. -/
theorem V4_arg (d : Dev nD) (r : Ref sig .tc) (h0 : ∀ w, Pipeline.arrRef spec0 w = r → (cfg0.win w).isOut = false) (h1 : r ≠ main_v1)
    (h2 : r ∉ hostWrites) (h3 : ∀ w, Pipeline.arrRef spec2 w = r → (cfg2.win w).isOut = false) :
    V4 m d (Proc.devRef .tc r) = m ((SparseCore.T d).loc r) :=
  (V4_keep m d r h3).trans ((hostOps_keep h2 _).trans ((V2_keep m d r h1).trans (V1_keep m d r h0)))

/-! ## What the core owes -/

theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this
  omega

theorem tcSt_dues (d : Dev nD) (n : ℕ) :
    ((K (F := F)).tcSt EH d n : sProp 𝕄) ⊢ iprop(dues ((K (F := F)).Otc d n) (8 * n) d ∗ (dues ((K (F := F)).Otc d n) (8 * n) d -∗ (K (F := F)).tcSt EH d n)) := by
  unfold SparseCore.Cfg.tcSt dues
  iintro ⟨HO, Hr⟩
  isplitl [HO]; · iexact HO
  iintro HO
  isplitl [HO]; · iexact HO
  iexact Hr

/-! ## The SparseCore call -/

/-- The buffers the call takes. -/
def callRefs : Finset (DevRef τ sig) := {Proc.devRef .tc main_arg0, Proc.devRef .tc main_arg1, Proc.devRef .tc main_v1}

theorem callRefs_sub : callRefs ⊆ ucRefs τ sig := by
  intro b hb
  unfold callRefs at hb
  simp only [Finset.mem_insert, Finset.mem_singleton] at hb
  rcases hb with rfl | rfl | rfl <;> exact Finset.mem_filter.mpr ⟨StableHlo.devRef_mem_tcRefs _, by decide⟩

theorem held_call (d : Dev nD) (W : Valuation τ sig (Elt F)) :
    (StableHlo.held (SparseCore.T d) callRefs W : sProp 𝕄)
      = iprop((xLoc d ↦{fullShare} W (Proc.devRef .tc main_arg0)) ∗ (eLoc d ↦{fullShare} W (Proc.devRef .tc main_arg1)) ∗ oLoc d ↦{fullShare} W (Proc.devRef .tc main_v1)) := by
  unfold StableHlo.held callRefs
  rw [SparseCore.bigSep_insert' (by decide), SparseCore.bigSep_insert' (by decide), bigSep_singleton]

theorem st_eq (d : Dev nD) : (bigSep Finset.univ fun c : Fin ((K (F := F)).nCore 0) => (P m).st 0 d c) = (bigSep Finset.univ (stP m d) : sProp 𝕄) :=
  bigSep_cores (stP m d)
theorem dn_eq (d : Dev nD) : (bigSep Finset.univ fun c : Fin ((K (F := F)).nCore 0) => (P m).dn 0 d c) = iprop((bigSep Finset.univ fun c : Fin 2 => xSh (xOf m d) d (coreSh c)) ∗ (bigSep Finset.univ fun c : Fin 2 => eSh (eOf m d) d (coreSh c))
      ∗ bigSep Finset.univ fun c : Fin 2 => bigSep Finset.univ fun s : Fin 16 => oDone (xOf m d) (eOf m d) d (pt c s)) := by
  refine (bigSep_cores (dnP m d)).trans ?_
  rw [bigSep_sep', bigSep_sep']

/-- The call: the result's buffer goes from whatever it held to the tails. -/
theorem wp_call (κ : GSem nD τ sig → ℕ) (d : Dev nD) {Q : PUnit → sProp 𝕄} :
    iprop((K (F := F)).ctx EH (P m) κ ∗ (K (F := F)).tcSt EH d 0 ∗ StableHlo.held (SparseCore.T d) (ucRefs τ sig) (V1 m d)
        ∗ ((iprop((K (F := F)).tcSt EH d 1 ∗ StableHlo.held (SparseCore.T d) (ucRefs τ sig) (V2 m d))) -∗ Q ⟨⟩))
      ⊢ wp frame (wpE ((K (F := F)).defs (D (F := F))) 𝒱 (SparseCore.T d) none) Set.univ (sc.run d 0) Q := by
  rw [StableHlo.held_sub_split (SparseCore.T d) callRefs_sub (V1 m d), StableHlo.held_sub_split (SparseCore.T d) callRefs_sub (V2 m d), held_call, held_call,
    StableHlo.held_congr (SparseCore.T d) (V := V2 m d) (V' := V1 m d) (S := ucRefs τ sig \ callRefs) (fun b hb => Function.update_of_ne
      (fun e => (Finset.mem_sdiff.mp hb).2 (by rw [e]; unfold callRefs; simp)) _ _),
    V2_keep m d main_arg0 (by decide), V2_keep m d main_arg1 (by decide), V1_keep m d main_arg0 (by decide), V1_keep m d main_arg1 (by decide),
    show V2 m d (Proc.devRef .tc main_v1) = tailAt (xOf m d) (eOf m d) from Function.update_self _ _ _]
  iintro ⟨#Hctx, Hst, ⟨⟨Hx, He, Ho⟩, Hrest⟩, Hk⟩
  ihave Hx := (Transfers.pointsTo_toks_split fullShare 2) $$ Hx
  icases Hx with ⟨Hx', Hx⟩
  ihave He := (Transfers.pointsTo_toks_split fullShare 2) $$ He
  icases He with ⟨He', He⟩
  ihave Ho := (rows_deal d _) $$ Ho
  iapply ((K (F := F)).wp_run (D (F := F)) 𝒱 (EH := EH) (P := P m) κ d 0)
  isplitr; · iexact Hctx
  isplitl [Hst]; · iexact Hst
  isplitl [Hx He Ho]
  · rw [st_eq, bigSep_sep', bigSep_sep']
    isplitl [Hx]; · iexact Hx
    isplitl [He]; · iexact He
    iexact Ho
  iintro ⟨Hst, Hdn⟩
  ihave Hdn := (Entails.of_eq (dn_eq m d)) $$ Hdn
  icases Hdn with ⟨Hx, He, Ho⟩
  iapply Hk
  isplitl [Hst]; · iexact Hst
  isplitr [Hrest]
  · isplitl [Hx Hx']
    · iapply (Transfers.pointsTo_toks_join fullShare 2)
      isplitl [Hx'] <;> iassumption
    isplitl [He He']
    · iapply (Transfers.pointsTo_toks_join fullShare 2)
      isplitl [He'] <;> iassumption
    iapply (rows_join d (xOf m d) (eOf m d)); iexact Ho
  iexact Hrest

end Cert.Proof

end
-- ==== Proof.Launch.lean ====
/-
  The program's run: what the launch deals, @main from step to step, and what the final memory is.
-/
module

public import proofs.«01_k».proof.Proof.MainRun
public import Idealize.ShloMosaic.Lib.Pipeline.RegionArraysS
public import Idealize.ShloMosaic.Lib.SparseCore.Quiescent

@[expose] public section

noncomputable section

namespace Cert.Proof

open Cert.KernelIdeal Cert.KernelIdeal.Gen

open Idealize.ShloMosaic
open Idealize.ShloMosaic.TcCoe
open Idealize.ShloMosaic.SparseCore (S V)
open Idealize.ShloMosaic.SparseCore.Cfg (HIx)
open Idealize.ShloMosaic.Pipeline (ucRefs unscopedBufs_held afterRegion)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch -/

/-- The launch's ghost element. -/
def u₀ : UU := (initOf (K (F := F)).hsCells (K (F := F)).hsToks,
  (initOf (Pipeline.cells (nD := nD) (τ := τ) (Pipeline.pin (pcfgs (F := F)) adm) Gen.cellOf_inj) (Pipeline.launchToks (Pipeline.pin (pcfgs (F := F)) adm) Gen.cellOf_inj), 1))

/-- What a core takes of it: the pipelines' cells and transfers. -/
def ghosts (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

omit [FloatOps F] in
theorem ownU_split (a : UH) (b : UR) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
theorem bigSep_emp' {I : Type} (s : Finset I) : (bigSep s fun _ => iprop(emp)) = (iprop(emp) : sProp 𝕄) := bigSep_emp_const s

theorem Px_emp : (bigSep Finset.univ fun thr : Thread nD τ => bigSep Finset.univ fun q : Fin 1 => (P (F := F) m).x q thr) = (iprop(emp) : sProp 𝕄) := by
  show (bigSep Finset.univ fun thr : Thread nD τ => bigSep Finset.univ fun q : Fin 1 => iprop(emp)) = (iprop(emp) : sProp 𝕄)
  simp only [bigSep_emp']

theorem hu₀ : (ownU (u₀ (F := F)) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 1 => (P m).x q thr) := by
  unfold u₀ ghosts
  rw [Px_emp, bigSep_sep']
  iintro Hu
  ihave H := (ownU_split _ _) $$ Hu
  icases H with ⟨HH, HP⟩
  imod (Pipeline.fund_ghost (Pipeline.pin (pcfgs (F := F)) adm) EP Gen.cellOf_inj) $$ HP with ⟨Hg, Ht⟩
  imodintro
  isplitl [HH]; · iexact HH
  isplitl [Hg Ht]
  · isplitl [Hg]; · iexact Hg
    iexact Ht
  iempintro

abbrev FIN (d : Dev nD) : sProp 𝕄 := StableHlo.held (SparseCore.T d) (ucRefs τ sig) (V4 m d)

/-- The host operations. -/
theorem wp_host (d : Dev nD) (W : Valuation τ sig (Elt F)) {Q : PUnit → sProp 𝕄} :
    iprop(boundary (SparseCore.T d) ∗ StableHlo.held (SparseCore.T d) (ucRefs τ sig) W)
      ⊢ iprop(((boundary (SparseCore.T d) ∗ StableHlo.held (SparseCore.T d) (ucRefs τ sig) (StableHlo.after hostOps W)) -∗ Q ⟨⟩)
        -∗ wp frame (wpE ((K (F := F)).defs (D (F := F))) 𝒱 (SparseCore.T d) none) Set.univ (StableHlo.seq hostOps) Q) := by
  have h := StableHlo.wp_seq (defs := (K (F := F)).defs (D (F := F))) (𝒱 := 𝒱) (bd := none) (E := Set.univ) d (ucRefs τ sig) (fun _ => Prog.ret ⟨⟩)
    (K := Q) hostOps hostOps_sub hostOps_fresh W
  rw [← bind_pure (StableHlo.seq hostOps)]
  iintro H Hk
  iapply h $$ H
  iintro H
  rw [wp_ret]; imodintro
  iapply Hk; iexact H

set_option maxHeartbeats 1000000 in
/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd ghosts
  rw [show (unscopedBufs d (fun b => m ((SparseCore.T d).loc b)) : sProp 𝕄) = StableHlo.held (SparseCore.T d) (ucRefs τ sig) (V0 m d)
      from unscopedBufs_held (Ix := HIx 1) (Name := ℕ) (U := UU) (Lvl := ℕ) d (V0 m d),
    show (Finset.univ : Finset (Fin 2)) = {0, 1} from rfl, SparseCore.bigSep_insert' (by decide), bigSep_singleton,
    SparseCore.bigSep_insert' (by decide), bigSep_singleton]
  rw [main_eq, ← StableHlo.seq_bind_seqK]
  simp only [wp_bind]
  iintro ⟨#Hctx, Hst, ⟨Hb, Hh, Hts, -⟩, ⟨Hg0, Hg1⟩, Ht0, Ht1⟩
  ihave #Hlev := (SparseCore.Cfg.ctx_levAts κ) $$ Hctx
  ihave Hst := (tcSt_dues d 0) $$ Hst
  icases Hst with ⟨HO, Hst⟩
  iapply (wp_blocksum (V0 m) ((K (F := F)).Otc d 0) 0 (Otc_none d 0) d)
  isplitr [Hb Hh HO Hg0 Ht0]
  rotate_left
  · isplitl [Hb]; · iexact Hb
    isplitl [Hh]; · iexact Hh
    isplitl [HO]; · iexact HO
    isplitr; · iexact Hlev
    isplitl [Hg0]; · iexact Hg0
    iexact Ht0
  iintro ⟨Hb, Hh, HO⟩
  ihave Hst := Hst $$ HO
  iapply (wp_call m κ d)
  isplitr; · iexact Hctx
  isplitl [Hst]; · iexact Hst
  isplitl [Hh]; · iexact Hh
  iintro ⟨Hst, Hh⟩
  iapply (wp_host d (V2 m d)) $$ [Hb Hh]
  · isplitl [Hb] <;> iassumption
  iintro ⟨Hb, Hh⟩
  ihave Hst := (tcSt_dues d 1) $$ Hst
  icases Hst with ⟨HO, Hst⟩
  iapply (wp_tail (V3 m) ((K (F := F)).Otc d 1) 8 (Otc_none d 1) d)
  isplitr [Hb Hh HO Hg1 Ht1]
  rotate_left
  · isplitl [Hb]; · iexact Hb
    isplitl [Hh]; · iexact Hh
    isplitl [HO]; · iexact HO
    isplitr; · iexact Hlev
    isplitl [Hg1]; · iexact Hg1
    iexact Ht1
  iintro ⟨Hb, Hh, HO⟩
  ihave Hst := Hst $$ HO
  rw [wp_pure]
  imodintro
  isplitl [Hst]; · iexact Hst
  isplitl [Hh]; · iexact Hh
  isplitl [Hb] <;> iassumption

/-! ## The final memory -/

/-- Held buffers are the machine's. -/
theorem held_agree (d : Dev nD) (W : Valuation τ sig (Elt F)) (s' : Phys nD τ sig (Elt F)) (A : Finset (DevRef τ sig)) :
    iprop(StableHlo.held (SparseCore.T d) A W ∗ SI s') ⊢ (⌜∀ b ∈ A, s'.mem.mem (d, b) = W b⌝ : sProp 𝕄) := by
  induction A using Finset.induction_on with
  | empty => iintro -; ipureintro; exact fun b hb => absurd hb (Finset.notMem_empty b)
  | insert b A hb ih =>
    unfold StableHlo.held at ih ⊢
    rw [SparseCore.bigSep_insert' hb]
    iintro ⟨⟨Hb, HA⟩, HSI⟩
    ihave H := (persistent_entails_right (SI_pointsTo_agree (st := s') (ℓ := ((SparseCore.T d).1, b)) (I := Finset.univ) (q := fullShare) (f := W b))) $$ [HSI Hb]
    · isplitl [HSI] <;> iassumption
    icases H with ⟨%h1, HSI, -⟩
    ihave H := ih $$ [HA HSI]
    · isplitl [HA] <;> iassumption
    icases H with %h2
    ipureintro
    intro b' hb'
    rcases Finset.mem_insert.mp hb' with rfl | hb'
    · exact funext fun i => h1 i (Finset.mem_univ i)
    · exact h2 b' hb'

/-- What the final memory is. -/
def QC : PUnit × MemSt nD τ sig (Elt F) → Prop := fun r => (∀ d : Dev nD, ∀ b ∈ ucRefs τ sig, r.2.mem (d, b) = V4 m d b) ∧ r.2.sem = fun _ => 0

theorem run_main [∀ e, Nonempty (Elt F e)] (hE : EndsOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m hE)
    (fun q _ => match q with | 0 => SparseCore.Cfg.VecSplit.of_plain (vecSplit m))
    m ρ main (fun d => ghosts d) (FIN m) (u₀ (F := F)) (sep_elim_left.trans (hu₀ m)) (hmain m ρ)
    (fun d s' => ∀ b ∈ ucRefs τ sig, s'.mem.mem (d, b) = V4 m d b) (fun d s' => held_agree d (V4 m d) s' _) (QC m) (fun _ h hz => ⟨h, hz⟩)

theorem mem_ucRefs (r : Ref sig .tc) (h : r.isScoped = false) : Proc.devRef (τ := τ) .tc r ∈ ucRefs τ sig :=
  Finset.mem_filter.mpr ⟨StableHlo.devRef_mem_tcRefs _, fun h' => Bool.false_ne_true (h.symm.trans h')⟩

/-- Every argument ends as it was at launch, and every counter at zero. -/
theorem args_kept {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h.1 c _ (mem_ucRefs main_arg0 rfl)).trans (V4_arg m c main_arg0 (by decide) (by decide) (by decide) (by decide)),
    (h.1 c _ (mem_ucRefs main_arg1 rfl)).trans (V4_arg m c main_arg1 (by decide) (by decide) (by decide) (by decide)),
    (h.1 c _ (mem_ucRefs main_arg2 rfl)).trans (V4_arg m c main_arg2 (by decide) (by decide) (by decide) (by decide)),
    (h.1 c _ (mem_ucRefs main_arg3 rfl)).trans (V4_arg m c main_arg3 (by decide) (by decide) (by decide) (by decide))⟩

end Cert.Proof

end
-- ==== Proof.Ends.lean ====
/- What the two preconditions say of the launch memory, and the witnesses of the shape facts they state. -/
module

public import proofs.«01_k».proof.Pre_ends_are_rows
public import proofs.«01_k».proof.Pre_ends_sorted_rows_finite
public import Idealize.ShloMosaic.Lib.ReduceAll
public import Idealize.ShloMosaic.Lib.Decide
public import Idealize.ShloMosaic.Lib.Affine

@[expose] public section

noncomputable section

namespace Cert.Proof

open Idealize.ShloMosaic

/-- The shape facts of `ends_are_rows`. -/
instance rowsFacts : Cert.Pre_ends_are_rows.Facts where
  bcast_S_S512 := by decide
  reducesTo_S512_S_d0 := by decide
  h_S_ := by decide

/-- The shape facts of `ends_sorted_rows_finite`. -/
instance sortedFacts : Cert.Pre_ends_sorted_rows_finite.Facts where
  bcast_S_S512 := by decide
  reducesTo_S512_S_d0 := by decide
  h_S_ := by decide
  slices_S512_S511_0 := by decide
  slices_S512_S511_1 := by decide
  reducesTo_S511_S_d0 := by decide
  bcast_S_S320000x128 := by decide
  reducesTo_S320000x128_S_d0_1 := by decide

instance : Subsingleton (Shape.Idx ⟨0, ![]⟩) := ⟨fun a b => funext fun i => i.elim0⟩

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

theorem andi_eq_one {a b : BitVec 1} (h : IntOp.andi a b = 1#1) : a = 1#1 ∧ b = 1#1 := by
  revert h; revert a b; decide

/-- A word `v` with `0 ≤ v < 320000`, signed, is a row number. -/
theorem row_of_cmp (v : BitVec 32) (e : IntOp.andi (IntOp.cmpi .sge v 0#32) (IntOp.cmpi .slt v 320000#32) = 1#1) : v.toNat < 320000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

variable {F : FTy → Type} [FloatOps F]

/-- `ends_are_rows` gives every end as a row number. -/
theorem rows_of_pre {x e c b} (h : Cert.Pre_ends_are_rows.fn (F := F) x e c b = fun _ => 1#1) (j) : (e j).toNat < 320000 := by
  have h0 := congrFun h (fun i => i.elim0)
  simp only [Cert.Pre_ends_are_rows.fn] at h0
  have := Host.reduce_andi_all _ _ _ _ _ h0 j
  exact row_of_cmp _ this

/-- `ends_sorted_rows_finite` gives every end as a row number. -/
theorem rows_of_sorted {x e c b} (h : Cert.Pre_ends_sorted_rows_finite.fn (F := F) x e c b = fun _ => 1#1) (j) : (e j).toNat < 320000 := by
  have h0 := congrFun h (fun i => i.elim0)
  simp only [Cert.Pre_ends_sorted_rows_finite.fn, andi] at h0
  have := Host.reduce_andi_all _ _ _ _ _ (andi_eq_one (andi_eq_one h0).1).1 j
  exact row_of_cmp _ this

end Cert.Proof

end
-- ==== Proof.SameText.lean ====
/- The kernel's program and its idealization are the same text: their tables and threads are equal at any float values. -/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

set_option maxHeartbeats 2000000

/-- The bodies' table on the vector subcores. -/
theorem bodies_scVector (c s a) : Cert.Kernel.defs₀ (F := F) (.scVector c s) 1 a = Cert.KernelIdeal.defs₀ (F := F) (.scVector c s) 1 a := rfl

/-- The bodies' table. -/
theorem bodies_eq : Cert.Kernel.defs₀ (F := F) = Cert.KernelIdeal.defs₀ (F := F) := by
  funext p l a
  match p, l, a with
  | .tc, 0, _ => rfl
  | .tc, 1, _ => rfl
  | .tc, 2, _ => rfl
  | .scScalar _, 0, _ => rfl
  | .scScalar _, 1, _ => rfl
  | .scScalar _, 2, _ => rfl
  | .scVector _ _, 0, _ => rfl
  | .scVector c s, 1, a => exact bodies_scVector c s a
  | .scVector _ _, 2, _ => rfl

set_option smartUnfolding false in
/-- The program's table. -/
theorem defs_eq : Cert.Kernel.defs (F := F) = Cert.KernelIdeal.defs (F := F) :=
  congrArg (fun D => Cert.KernelIdeal.sc.defs (Pipeline.defs Cert.KernelIdeal.pcfgs D)) bodies_eq

/-- @main. -/
theorem mains_eq : Cert.Kernel.main (F := F) = Cert.KernelIdeal.main (F := F) := rfl

set_option smartUnfolding false in
/-- The threads. -/
theorem threads_eq : Cert.Kernel.threads (F := F) = Cert.KernelIdeal.threads (F := F) :=
  congrArg (fun D => Cert.KernelIdeal.sc.threads D) mains_eq

end Cert.Proof

end
-- ==== Proof.Frames.lean ====
/- The frames: each program runs, leaves its arguments as they were and its counters at zero. -/
module

public import proofs.«01_k».proof.Proof.Launch
public import proofs.«01_k».proof.Proof.Ends
public import proofs.«01_k».proof.Proof.Gen.ReferenceIdeal.Run
public import proofs.«01_k».proof.Proof.SameText
public import proofs.«01_k».proof.Defs

@[expose] public section

noncomputable section

namespace Cert.Proof

open Idealize.ShloMosaic Idealize.SL.Sem Cert.KernelIdeal

/-- The kernel's run over any float values: its arguments kept, its counters at zero. -/
theorem frame_any {F : FTy → Type} [FloatOps F] [∀ e, Nonempty (Elt F e)] (m : (ℓ : Loc nD τ sig) → Buf (Elt F) ℓ) (ρ : Dev nD → PrngReg) (hE : EndsOK m) :
    θ_run (Cert.KernelIdeal.defs (F := F)) Cert.KernelIdeal.threads ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run Cert.KernelIdeal.defs _ _).mono (fun _ h => ⟨fun c => args_kept m h c, h.2⟩) (run_main m ρ hE)

/-- `Cert.quiescent_KernelIdeal` (Defs.lean). -/
theorem frame_kernelIdeal : Cert.quiescent_KernelIdeal := fun m ρ hpre => frame_any (F := Ideal) m ρ (fun d j => rows_of_pre (hpre d) j)

/-- `Cert.quiescent_KernelIdeal_pre_ends_sorted_rows_finite` (Defs.lean). -/
theorem frame_kernelIdeal_sorted : Cert.quiescent_KernelIdeal_pre_ends_sorted_rows_finite := fun m ρ hpre =>
  frame_any (F := Ideal) m ρ (fun d j => rows_of_sorted (hpre d) j)

set_option maxHeartbeats 4000000 in
set_option smartUnfolding false in
/-- `Cert.quiescent_Kernel` (Defs.lean): the same program's text, over the machine's own float words. -/
theorem frame_kernel : Cert.quiescent_Kernel := by
  intro m ρ hpre
  rw [defs_eq, threads_eq]
  exact frame_any (F := Bits) m ρ (fun d j => rows_of_pre (hpre d) j)

/-- `Cert.quiescent_ReferenceIdeal` (Defs.lean). -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- `Cert.quiescent_ReferenceIdeal_pre_ends_sorted_rows_finite` (Defs.lean). -/
theorem frame_referenceIdeal_sorted : Cert.quiescent_ReferenceIdeal_pre_ends_sorted_rows_finite := fun m ρ _ => frame_referenceIdeal m ρ trivial

end Cert.Proof

end
-- ==== Proof.RefValue.lean ====
/- The reference's value: its composed term, cut at the segments' averages. -/
module

public import proofs.«01_k».proof.Proof.Gen.ReferenceIdeal.Run
public import Idealize.ShloMosaic.Lib.Pointwise
public import Idealize.ShloMosaic.Lib.Routing.OpsPair
public import Idealize.ShloMosaic.Lib.IndicatorCount

@[expose] public section

noncomputable section

namespace Cert.Proof.Val

open Cert.ReferenceIdeal Cert.ReferenceIdeal.Gen Idealize.ShloMosaic Idealize.ShloMosaic.TcCoe Idealize.SL.Sem

/-- The averages of the segments: the sums of the rows, by their numbers. -/
def aveR (x : FVec Ideal S320000x128 .f32) (e : IVec S512 32) : FVec Ideal S512x128 .f32 :=
  Host.divf (Host.scatterAdd scatter_S512x128_S320000x1_S320000x128_1_0_0_1 (broadcastInDim S512x128 ![] bcast_S_S512x128 (constant S_ .f32 0x00000000#32)) (broadcastInDim S320000x1 ![0] bcast_S320000_S320000x1_0 (Host.reduce IntOp.addi (extui 32 (cmpi .sle (broadcastInDim S320000x512 ![0, 1] bcast_S1x512_S320000x512_0_1 (broadcastInDim S1x512 ![1] bcast_S512_S1x512_1 e)) (broadcastInDim S320000x512 ![0, 1] bcast_S320000x1_S320000x512_0_1 (broadcastInDim S320000x1 ![0] bcast_S320000_S320000x1_0 (iotaInDim S320000 32 0)))) natLt_1_32) (constantI S_ 32 0#32) reducesTo_S320000x512_S320000_d1 h_S_)) x) (broadcastInDim S512x128 ![0, 1] bcast_S512x1_S512x128_0_1 (broadcastInDim S512x1 ![0] bcast_S512_S512x1_0 (maximumf (sitofp .f32 (subi e (concatenate S512 0 [⟨S1, (broadcastInDim S1 ![] bcast_S_S1 (constantI S_ 32 0#32))⟩, ⟨S511, (extractStridedSlice S511 ![0] e slices_S512_S511_0)⟩] concatenates_S1_S511_S512_d0))) (broadcastInDim S512 ![] bcast_S_S512 (constant S_ .f32 0x3F800000#32)))))

/-- Averages over their norms. -/
def normR (A : FVec Ideal S512x128 .f32) : FVec Ideal S512x128 .f32 :=
  Host.divf A (broadcastInDim S512x128 ![0, 1] bcast_S512x1_S512x128_0_1 (Host.sqrt (maximumf (Host.absf (Host.negf (addf (mulf (Host.negf (extractStridedSlice S512x1 ![0, 0] A slices_S512x128_S512x1_0_0)) (extractStridedSlice S512x1 ![0, 0] A slices_S512x128_S512x1_0_0)) (broadcastInDim S512x1 ![0] bcast_S512_S512x1_0 (Host.reduceAdd (mulf (extractStridedSlice S512x127 ![0, 1] A slices_S512x128_S512x127_0_1) (extractStridedSlice S512x127 ![0, 1] A slices_S512x128_S512x127_0_1)) (constant S_ .f32 0x00000000#32) reducesTo_S512x127_S512_d1 h_S_))))) (broadcastInDim S512x1 ![] bcast_S_S512x1 (constant S_ .f32 0x322BCC77#32)))))

/-- The logits of averages. -/
def tailR (A : FVec Ideal S512x128 .f32) (w : FVec Ideal S16x128 .f32) (b : FVec Ideal S16 .f32) : FVec Ideal S512x16 .f32 :=
  addf (addf (broadcastInDim S512x16 ![] bcast_S_S512x16 (constant S_ .f32 0x40000000#32)) (mulf (broadcastInDim S512x16 ![] bcast_S_S512x16 (constant S_ .f32 0x40000000#32)) (Host.dotGeneral dot_S512x128_S128x16_S512x16_1_0_0_1_n_n none (concatenate S512x128 1 [⟨S512x1, (Host.negf (extractStridedSlice S512x1 ![0, 0] (normR A) slices_S512x128_S512x1_0_0))⟩, ⟨S512x127, (extractStridedSlice S512x127 ![0, 1] (normR A) slices_S512x128_S512x127_0_1)⟩] concatenates_S512x1_S512x127_S512x128_d1) (transpose S128x16 [1, 0] w transposes_S16x128_S128x16_1_0)))) (broadcastInDim S512x16 ![0, 1] bcast_S1x16_S512x16_0_1 (broadcastInDim S1x16 ![1] bcast_S16_S1x16_1 b))

/-- The reference's result, so cut. -/
theorem res_eq (m : (ℓ : Loc nD τ sig) → Buf (Elt Ideal) ℓ) (c : Dev nD) : Value.res_main_v50 m c
    = tailR (aveR (m ((c.tc : Thread nD τ).loc main_arg0)) (m ((c.tc : Thread nD τ).loc main_arg1))) (m ((c.tc : Thread nD τ).loc main_arg2)) (m ((c.tc : Thread nD τ).loc main_arg3)) := rfl

theorem normR_at (A : FVec Ideal S512x128 .f32) (i : Fin 512) (c : Fin 128) : normR A (ix2 i c)
    = Ideal.div (A (ix2 i c)) (Ideal.sqrt (max (FloatOps.absf (F := Ideal) (φ := .f32) (-(-A (ix2 i 0) * A (ix2 i 0) + ∑ k : Fin 127, A (ix2 i ⟨1 + k.val, by omega⟩) * A (ix2 i ⟨1 + k.val, by omega⟩))))
        (Ideal.ofBits .f32 0x322BCC77#32))) := by
  pointwise [normR]

theorem tailR_at (A : FVec Ideal S512x128 .f32) (w : FVec Ideal S16x128 .f32) (b : FVec Ideal S16 .f32) (i : Fin 512) (j : Fin 16) : tailR A w b (ix2 i j)
    = Ideal.ofBits .f32 0x40000000#32 + Ideal.ofBits .f32 0x40000000#32 * (∑ _k : Fin 1, -normR A (ix2 i 0) * w (ix2 j 0)
        + ∑ k : Fin 127, normR A (ix2 i ⟨1 + k.val, by omega⟩) * w (ix2 j ⟨1 + k.val, by omega⟩)) + b (ix1 j) := by
  pointwise [tailR]

/-- The segment each row is added to: the number of ends at or before it. -/
def segR (e : IVec S512 32) : IVec S320000x1 32 :=
  (broadcastInDim S320000x1 ![0] bcast_S320000_S320000x1_0 (Host.reduce IntOp.addi (extui 32 (cmpi .sle (broadcastInDim S320000x512 ![0, 1] bcast_S1x512_S320000x512_0_1 (broadcastInDim S1x512 ![1] bcast_S512_S1x512_1 e)) (broadcastInDim S320000x512 ![0, 1] bcast_S320000x1_S320000x512_0_1 (broadcastInDim S320000x1 ![0] bcast_S320000_S320000x1_0 (iotaInDim S320000 32 0)))) natLt_1_32) (constantI S_ 32 0#32) reducesTo_S320000x512_S320000_d1 h_S_))

/-- The sums of the segments. -/
def sumR (x : FVec Ideal S320000x128 .f32) (e : IVec S512 32) : FVec Ideal S512x128 .f32 :=
  Host.scatterAdd scatter_S512x128_S320000x1_S320000x128_1_0_0_1 (broadcastInDim S512x128 ![] bcast_S_S512x128 (constant S_ .f32 0x00000000#32)) (segR e) x

/-- The first row of a segment: the end before it. -/
def startW (e : IVec S512 32) (i : Fin 512) : BitVec 32 := if h : i.val < 1 then 0#32 else e (ix1 ⟨i.val - 1, by omega⟩)

theorem aveR_at (x : FVec Ideal S320000x128 .f32) (e : IVec S512 32) (i : Fin 512) (c : Fin 128) : aveR x e (ix2 i c)
    = Ideal.div (sumR x e (ix2 i c)) (max (FloatOps.sitofp (F := Ideal) .f32 (IntOp.subi (e (ix1 i)) (startW e i))) 1) := by
  pointwise [aveR]
  rfl

/-- Where an update of the sums lands. -/
theorem lands (idx : IVec S320000x1 32) (r : Fin 320000) (c' : Fin 128) (i : Fin 512) (c : Fin 128) :
    (scatter_S512x128_S320000x1_S320000x128_1_0_0_1.resultIdx? (ix2 r c') idx = some (ix2 i c)) ↔ ((idx (ix2 r 0)).toInt = i.val ∧ c' = c) := by
  rw [show (scatter_S512x128_S320000x1_S320000x128_1_0_0_1.resultIdx? (ix2 r c') idx = some (ix2 i c)) ↔ _ from Routing.resultIdx?_ix2 _ _ _ _ _]
  rw [show scatter_S512x128_S320000x1_S320000x128_1_0_0_1.start (ix2 r c') idx 0 = (idx (ix2 r 0)).toInt by
      unfold ScatterDims.start
      rw [dif_pos (by show (0 : Fin 2) ∈ [(0 : Fin 2)]; decide)]
      congr 2
      funext b
      match b with
      | ⟨0, _⟩ => rfl
      | ⟨1, _⟩ => rfl,
    show scatter_S512x128_S320000x1_S320000x128_1_0_0_1.window (ix2 r c') 0 = 0 from rfl,
    show scatter_S512x128_S320000x1_S320000x128_1_0_0_1.start (ix2 r c') idx 1 = 0 from rfl,
    show scatter_S512x128_S320000x1_S320000x128_1_0_0_1.window (ix2 r c') 1 = c'.val from rfl, Fin.ext_iff]
  omega

theorem segR_at (e : IVec S512 32) (r : Fin 320000) : segR e (ix2 r 0) = BitVec.ofNat 32 (Finset.univ.filter fun j : Fin 512 => IntOp.cmpi .sle (e (ix1 j)) (BitVec.ofNat 32 r.val) = 1#1).card := by
  pointwise [segR]
  exact IndicatorCount.fold_addi_setWidth_eq_card (fun j : Fin 512 => IntOp.cmpi .sle (e (ix1 j)) (BitVec.ofNat 32 r.val)) Finset.univ

end Cert.Proof.Val

end
-- ==== Proof.ScatterSum.lean ====
/- The reference's scatter, as a sum over the rows of each segment. -/
module

public import proofs.«01_k».proof.Proof.RefValue

@[expose] public section

noncomputable section

namespace Cert.Proof.Val

open Cert.ReferenceIdeal Cert.ReferenceIdeal.Gen
open Idealize.ShloMosaic

/-- A scatter of rows into rows adds up, at each row, the updates that name it. -/
theorem scatter_rows {R C N : ℕ} (d : ScatterDims ⟨2, ![R, C]⟩ ⟨2, ![N, 1]⟩ ⟨2, ![N, C]⟩) (z : FVec Ideal ⟨2, ![R, C]⟩ .f32) (idx : IVec ⟨2, ![N, 1]⟩ 32)
    (x : FVec Ideal ⟨2, ![N, C]⟩ .f32)
    (hl : ∀ (r : Fin N) (c' : Fin C) (i : Fin R) (c : Fin C), d.resultIdx? (ix2 r c') idx = some (ix2 i c) ↔ ((idx (ix2 r 0)).toInt = i.val ∧ c' = c))
    (i : Fin R) (c : Fin C) : Host.scatterAdd d z idx x (ix2 i c) = z (ix2 i c) + ∑ r : Fin N, if (idx (ix2 r 0)).toInt = i.val then x (ix2 r c) else 0 := by
  unfold Host.scatterAdd
  rw [Ideal.hostScatterAdd_def]
  unfold Ideal.hostScatterAdd
  rw [Finset.sum_filter, sum_idx2]
  congr 1
  refine Finset.sum_congr rfl fun r _ => ?_
  simp only [hl]
  by_cases hr : (idx (ix2 r 0)).toInt = i.val
  · simp [hr]
  · simp [hr]

theorem sumR_at (x : FVec Ideal S320000x128 .f32) (e : IVec S512 32) (i : Fin 512) (c : Fin 128) : sumR x e (ix2 i c)
    = ∑ r : Fin 320000, if (segR e (ix2 r 0)).toInt = i.val then x (ix2 r c) else 0 := by
  unfold sumR
  refine (scatter_rows _ _ _ _ (fun r c' i c => lands (segR e) r c' i c) i c).trans ?_
  have hz : (broadcastInDim S512x128 ![] bcast_S_S512x128 (constant (F := Ideal) S_ .f32 0x00000000#32)) (ix2 i c) = 0 := by
    pointwise
  rw [hz, zero_add]

end Cert.Proof.Val

end
-- ==== Proof.SumEq.lean ====
/- Sums over a run of rows as differences of running totals: the mathematics both programs rest on. -/
module

public import Idealize.ShloMosaic.Lib.Pointwise

@[expose] public section

noncomputable section

namespace Cert.Proof.Val

/-- The running total of the first `n` rows. -/
def total (X : ℕ → ℝ) (n : ℕ) : ℝ := ∑ r ∈ Finset.range n, X r

/-- The rows of a run, picked out of all of them. -/
theorem total_run (X : ℕ → ℝ) {a b N : ℕ} (hab : a ≤ b) (hb : b ≤ N) :
    (∑ r : Fin N, if a ≤ r.val ∧ r.val < b then X r.val else 0) = total X b - total X a := by
  rw [Fin.sum_univ_eq_sum_range (fun r => if a ≤ r ∧ r < b then X r else 0) N, ← Finset.sum_filter]
  unfold total
  rw [← Finset.sum_Ico_eq_sub _ hab]
  congr 1
  ext r
  simp only [Finset.mem_filter, Finset.mem_range, Finset.mem_Ico]
  omega

/-- A block of rows. -/
theorem total_block (X : ℕ → ℝ) (a n : ℕ) : (∑ k : Fin n, X (a + k.val)) = total X (a + n) - total X a := by
  unfold total
  rw [Fin.sum_univ_eq_sum_range (fun k => X (a + k)) n, Finset.sum_range_add]
  ring

/-- Whole blocks of sixty-four rows between two block numbers. -/
theorem total_blocks (X : ℕ → ℝ) {a b N : ℕ} (hab : a ≤ b) (hb : b ≤ N) :
    (∑ k : Fin N, if a ≤ k.val ∧ k.val < b then total X (64 * k.val + 64) - total X (64 * k.val) else 0) = total X (64 * b) - total X (64 * a) := by
  rw [total_run (fun k => total X (64 * k + 64) - total X (64 * k)) hab hb]
  have h : ∀ n, total (fun k => total X (64 * k + 64) - total X (64 * k)) n = total X (64 * n) := fun n => by
    have := Finset.sum_range_sub (fun k => total X (64 * k)) n
    unfold total at this ⊢
    rw [show 64 * 0 = 0 from rfl, Finset.range_zero, Finset.sum_empty, sub_zero] at this
    exact this
  rw [h, h]

/-- The end before segment `i`, zero before the first. -/
def before (en : Fin 512 → ℕ) (i : Fin 512) : ℕ := if h : i.val < 1 then 0 else en ⟨i.val - 1, by omega⟩

theorem before_le {en : Fin 512 → ℕ} (hm : Monotone en) (i : Fin 512) : before en i ≤ en i := by
  unfold before
  split
  · omega
  · exact hm (Fin.mk_le_of_le_val (by omega))

/-- A row lies in segment `i` when `i` ends are at or before it. -/
theorem card_eq_iff {en : Fin 512 → ℕ} (hm : Monotone en) (r : ℕ) (i : Fin 512) :
    (Finset.univ.filter fun j => en j ≤ r).card = i.val ↔ before en i ≤ r ∧ r < en i := by
  have hlt : ∀ n : Fin 512, (Finset.univ.filter fun j : Fin 512 => j < n).card = n.val := fun n => by
    rw [Finset.filter_gt_eq_Iio, Fin.card_Iio]
  have hle : ∀ n : Fin 512, (Finset.univ.filter fun j : Fin 512 => j ≤ n).card = n.val + 1 := fun n => by
    rw [Finset.filter_ge_eq_Iic, Fin.card_Iic]
  constructor
  · intro h
    constructor
    · by_contra hb
      unfold before at hb
      split at hb
      · omega
      · rename_i h1
        have : (Finset.univ.filter fun j => en j ≤ r) ⊆ Finset.univ.filter fun j : Fin 512 => j < ⟨i.val - 1, by omega⟩ := by
          intro j hj
          simp only [Finset.mem_filter, Finset.mem_univ, true_and] at hj ⊢
          by_contra hji
          have := hm (not_lt.1 hji)
          omega
        have := Finset.card_le_card this
        rw [hlt, h] at this
        simp only at this
        omega
    · by_contra hb
      have : (Finset.univ.filter fun j : Fin 512 => j ≤ i) ⊆ Finset.univ.filter fun j => en j ≤ r := by
        intro j hj
        simp only [Finset.mem_filter, Finset.mem_univ, true_and] at hj ⊢
        have := hm hj
        omega
      have := Finset.card_le_card this
      rw [hle, h] at this
      omega
  · rintro ⟨h1, h2⟩
    rw [← hlt i]
    congr 1
    ext j
    simp only [Finset.mem_filter, Finset.mem_univ, true_and]
    constructor
    · intro hj
      by_contra hji
      have := hm (not_lt.1 hji)
      omega
    · intro hj
      have hj' : j.val < i.val := hj
      unfold before at h1
      rw [dif_neg (by omega)] at h1
      exact (hm (show j ≤ ⟨i.val - 1, by omega⟩ from Fin.le_def.2 (by show j.val ≤ i.val - 1; omega))).trans h1

end Cert.Proof.Val

end
-- ==== Proof.KerValue.lean ====
/- The tail's value: its payloads, cut at the segments' averages. -/
module

public import proofs.«01_k».proof.Proof.Gen.KernelIdeal.Skeleton
public import Idealize.ShloMosaic.Lib.Pointwise

@[expose] public section

noncomputable section

namespace Cert.Proof.Val

open Cert.KernelIdeal Cert.KernelIdeal.Gen Idealize.ShloMosaic Idealize.SL.Sem

/-- The averages, from the block sums and the partial sums. -/
def aveK (v1 : Vec Ideal S512x1 .i32) (v5 : Vec Ideal S512x1 .i32) (v12 : Vec Ideal S5000x128 .f32) (v15 : Vec Ideal S512x128 .f32) (v25 : Vec Ideal S512x1 .f32) : FVec Ideal S512x128 .f32 :=
  have v0 : IVec S512x5000 32 := iota .tc S512x5000 32 [1] iota_S512x5000_d1_w32
  have v2 : IVec S512x1 32 := shapeCast S512x1 v1 shapeCasts_S512x1_S512x1
  have v3 : IVec S512x5000 32 := broadcastTo S512x5000 v2 broadcasts_S512x1_S512x5000
  have v4 : IVec S512x5000 1 := cmpi .sge v0 v3
  have v6 : IVec S512x1 32 := shapeCast S512x1 v5 shapeCasts_S512x1_S512x1
  have v7 : IVec S512x5000 32 := broadcastTo S512x5000 v6 broadcasts_S512x1_S512x5000
  have v8 : IVec S512x5000 1 := cmpi .slt v0 v7
  have v9 : IVec S512x5000 1 := andi v4 v8
  have v10 : IVec S512x5000 32 := extui 32 v9 natLt_1_32
  have v11 : FVec Ideal S512x5000 .f32 := sitofp .f32 v10
  have v13 : FVec Ideal S5000x128 .f32 := shapeCast S5000x128 v12 shapeCasts_S5000x128_S5000x128
  have cst : FVec Ideal S512x128 .f32 := constant S512x128 .f32 0x00000000#32
  have v14 : FVec Ideal S512x128 .f32 := matmul dot_S512x5000_S5000x128_S512x128_1_0_0_1_n_n none v11 v13 cst
  have v16 : FVec Ideal S512x128 .f32 := shapeCast S512x128 v15 shapeCasts_S512x128_S512x128
  have v17 : IVec S512x128 32 := iota .tc S512x128 32 [0] iota_S512x128_d0_w32
  have v18 : IVec S512x128 32 := broadcast S512x128 0#32
  have v19 : IVec S512x128 1 := cmpi .eq v17 v18
  have v20 : FVec Ideal S512x128 .f32 := dynamicRotate 0 1#32 none v16 rotates_S512x128_d0
  have cst_7 : Ideal .f32 := Scalar.ofBits .f32 0x00000000#32
  have v21 : FVec Ideal S512x128 .f32 := broadcast S512x128 cst_7
  have v22 : FVec Ideal S512x128 .f32 := select v19 v21 v20
  have v23 : FVec Ideal S512x128 .f32 := addf v14 v16
  have v24 : FVec Ideal S512x128 .f32 := subf v23 v22
  have v26 : FVec Ideal S512x1 .f32 := shapeCast S512x1 v25 shapeCasts_S512x1_S512x1
  have v27 : FVec Ideal S512x128 .f32 := broadcastTo S512x128 v26 broadcasts_S512x1_S512x128
  have v28 : FVec Ideal S512x128 .f32 := mulf v24 v27
  v28

/-- Averages over their norms. -/
def normK (v28 : FVec Ideal S512x128 .f32) : FVec Ideal S512x128 .f32 :=
  have v29 : FVec Ideal S512x1 .f32 := extractStridedSlice S512x1 ![0, 0] v28 slices_S512x128_o0_0_S512x1
  have v30 : FVec Ideal S512x128 .f32 := mulf v28 v28
  have v31 : FVec Ideal S512 .f32 := multiReduction .add [1] S512 v30 0x00000000#32 reduces_S512x128_S512 (.inl rfl) rfl
  have v32 : FVec Ideal S512x1 .f32 := shapeCast S512x1 v31 shapeCasts_S512_S512x1
  have cst_11 : Ideal .f32 := Scalar.ofBits .f32 0x40000000#32
  have v33 : FVec Ideal S512x1 .f32 := broadcast S512x1 cst_11
  have v34 : FVec Ideal S512x1 .f32 := mulf v33 v29
  have v35 : FVec Ideal S512x1 .f32 := mulf v34 v29
  have v36 : FVec Ideal S512x1 .f32 := subf v32 v35
  have v37 : FVec Ideal S512x1 .f32 := absf v36
  have cst_12 : Ideal .f32 := Scalar.ofBits .f32 0x322BCC77#32
  have v38 : FVec Ideal S512x1 .f32 := broadcast S512x1 cst_12
  have v39 : FVec Ideal S512x1 .f32 := maximumf v37 v38
  have v40 : FVec Ideal S512x1 .f32 := sqrt v39
  have v41 : FVec Ideal S512x128 .f32 := broadcastTo S512x128 v40 broadcasts_S512x1_S512x128
  have v42 : FVec Ideal S512x128 .f32 := divf v28 v41
  v42

theorem pay2_eq (v1 v5 : Vec Ideal S512x1 .i32) (v12 : Vec Ideal S5000x128 .f32) (v15 : Vec Ideal S512x128 .f32) (v25 : Vec Ideal S512x1 .f32) :
    k2_pay2 v1 v5 v12 v15 v25 = normK (aveK v1 v5 v12 v15 v25) := rfl

theorem normK_at (A : FVec Ideal S512x128 .f32) (i : Fin 512) (c : Fin 128) : normK A (ix2 i c)
    = Ideal.div (A (ix2 i c)) (Ideal.sqrt (max (FloatOps.absf (F := Ideal) (φ := .f32) (∑ k : Fin 128, A (ix2 i k) * A (ix2 i k) - Ideal.ofBits .f32 0x40000000#32 * A (ix2 i 0) * A (ix2 i 0)))
        (Ideal.ofBits .f32 0x322BCC77#32))) := by
  pointwise [normK]

theorem pay1_at (N : FVec Ideal S512x128 .f32) (w : FVec Ideal S128x16 .f32) (b : FVec Ideal S1x16 .f32) (i : Fin 512) (j : Fin 16) : k2_pay1 N w b (ix2 i j)
    = Ideal.ofBits .f32 0x40000000#32 + Ideal.ofBits .f32 0x40000000#32 * ∑ k : Fin 128,
        Scalar.select (IntOp.cmpi .eq (BitVec.ofNat 32 k.val) 0#32) (0 - N (ix2 i k)) (N (ix2 i k)) * w (ix2 k j) + b (ix2 0 j) := by
  pointwise [k2_pay1]

theorem aveK_at (v1 v5 : Vec Ideal S512x1 .i32) (v12 : Vec Ideal S5000x128 .f32) (v15 : Vec Ideal S512x128 .f32) (v25 : Vec Ideal S512x1 .f32) (i : Fin 512) (c : Fin 128) :
    aveK v1 v5 v12 v15 v25 (ix2 i c) = (∑ k : Fin 5000, FloatOps.sitofp (F := Ideal) .f32 (BitVec.setWidth 32 (IntOp.andi
          (IntOp.cmpi .sge (BitVec.ofNat 32 k.val) (v1 (ix2 i 0))) (IntOp.cmpi .slt (BitVec.ofNat 32 k.val) (v5 (ix2 i 0))))) * v12 (ix2 k c)
        + v15 (ix2 i c) - Scalar.select (IntOp.cmpi .eq (BitVec.ofNat 32 i.val) 0#32) 0 (v15 (ix2 ⟨(i.val + 512 - 1) % 512, by omega⟩ c))) * v25 (ix2 i 0) := by
  pointwise [aveK]

theorem pay0_at (v0 : Vec Ideal S12800x128 .f32) (i : Fin 200) (c : Fin 128) :
    k0_pay1 v0 (ix2 i c) = ∑ k : Fin 64, v0 (ix2 ⟨i.val * 64 + k.val, by omega⟩ c) := by
  pointwise [k0_pay1]

end Cert.Proof.Val

end
-- ==== Proof.TailEq.lean ====
/- The kernel's tail and the reference's are one function of finite averages. -/
module

public import proofs.«01_k».proof.Proof.RefValue
public import proofs.«01_k».proof.Proof.KerValue

@[expose] public section

noncomputable section

namespace Cert.Proof.Val

open Idealize.ShloMosaic

/-- A finite sum of reals, in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

/-- The word of 2. -/
theorem two_word : Ideal.ofBits .f32 0x40000000#32 = ((2 : ℝ) : EReal) := by
  simp [Ideal.ofBits, Ideal.ieee, -EReal.coe_mul]; norm_num

theorem absf_neg (y : EReal) : FloatOps.absf (F := Ideal) (φ := .f32) (-y) = FloatOps.absf (F := Ideal) (φ := .f32) y := by
  show max (-y) (- -y) = max y (-y)
  rw [neg_neg, max_comm]

/-- The two spellings of the norm. -/
theorem norm_eq (A : FVec Ideal ⟨2, ![512, 128]⟩ .f32) (hA : ∀ j, ∃ r : ℝ, A j = (r : EReal)) (i : Fin 512) (c : Fin 128) :
    normK A (ix2 i c) = normR A (ix2 i c) := by
  rw [normK_at, normR_at]
  obtain ⟨a, ha⟩ : ∃ a : Fin 128 → ℝ, ∀ k, A (ix2 i k) = (a k : EReal) := ⟨fun k => (hA (ix2 i k)).choose, fun k => (hA (ix2 i k)).choose_spec⟩
  have e : (∑ k : Fin 128, A (ix2 i k) * A (ix2 i k) - Ideal.ofBits .f32 0x40000000#32 * A (ix2 i 0) * A (ix2 i 0))
      = (-A (ix2 i 0) * A (ix2 i 0) + ∑ k : Fin 127, A (ix2 i ⟨1 + k.val, by omega⟩) * A (ix2 i ⟨1 + k.val, by omega⟩)) := by
    simp only [ha, two_word, ← EReal.coe_mul, ← EReal.coe_neg, ← coe_sum, ← EReal.coe_sub, ← EReal.coe_add]
    congr 1
    rw [Fin.sum_univ_succ]
    have : ∀ k : Fin 127, (⟨1 + k.val, by omega⟩ : Fin 128) = k.succ := fun k => Fin.ext (by simp [Nat.add_comm])
    simp only [this]
    ring
  rw [e, ← absf_neg]

/-- The two tails. -/
theorem tail_eq (A : FVec Ideal ⟨2, ![512, 128]⟩ .f32) (hA : ∀ j, ∃ r : ℝ, A j = (r : EReal)) (w : FVec Ideal ⟨2, ![16, 128]⟩ .f32) (b : FVec Ideal ⟨1, ![16]⟩ .f32)
    (wT : FVec Ideal ⟨2, ![128, 16]⟩ .f32) (bR : FVec Ideal ⟨2, ![1, 16]⟩ .f32) (hw : ∀ k j, wT (ix2 k j) = w (ix2 j k)) (hb : ∀ j, bR (ix2 0 j) = b (ix1 j)) (i : Fin 512) (j : Fin 16) :
    Cert.KernelIdeal.Gen.k2_pay1 (normK A) wT bR (ix2 i j) = tailR A w b (ix2 i j) := by
  rw [pay1_at, tailR_at, hb]
  congr 3
  rw [Fin.sum_univ_succ, Fin.sum_univ_one]
  simp only [norm_eq A hA, hw]
  refine congrArg₂ (· + ·) ?_ ?_
  · rw [show IntOp.cmpi .eq (BitVec.ofNat 32 (0 : Fin 128).val) 0#32 = 1#1 from rfl]
    show (0 - _) * _ = _
    rw [zero_sub]
  · refine Finset.sum_congr rfl fun k _ => ?_
    have hk : (⟨1 + k.val, by omega⟩ : Fin 128) = k.succ := Fin.ext (by simp [Nat.add_comm])
    have h0 : IntOp.cmpi .eq (BitVec.ofNat 32 k.succ.val) 0#32 = 0#1 := by
      revert k; decide
    rw [h0, hk]
    rfl

end Cert.Proof.Val

end
-- ==== Proof.AveRef.lean ====
/- The averages both programs take, as differences of running totals, and the reference's as those. -/
module

public import proofs.«01_k».proof.Proof.ScatterSum
public import proofs.«01_k».proof.Proof.SumEq
public import proofs.«01_k».proof.Proof.TailEq

@[expose] public section

noncomputable section

namespace Cert.Proof.Val

open Cert.ReferenceIdeal Cert.ReferenceIdeal.Gen
open Idealize.ShloMosaic

/-- Column `c` of the rows, as reals, zero past the last. -/
def col (x : FVec Ideal S320000x128 .f32) (c : Fin 128) (r : ℕ) : ℝ := if h : r < 320000 then (x (ix2 ⟨r, h⟩ c)).toReal else 0

/-- The ends, as row numbers. -/
def ends (e : IVec S512 32) (i : Fin 512) : ℕ := (e (ix1 i)).toNat

/-- Finite rows and ends that are row numbers in order. -/
structure Good (x : FVec Ideal S320000x128 .f32) (e : IVec S512 32) : Prop where
  fin : ∀ j, ∃ r : ℝ, x j = (r : EReal)
  rows : ∀ i, ends e i < 320000
  mono : Monotone (ends e)

/-- The rows a segment holds, added up. -/
def segSum (x : FVec Ideal S320000x128 .f32) (e : IVec S512 32) (i : Fin 512) (c : Fin 128) : ℝ :=
  total (col x c) (ends e i) - total (col x c) (before (ends e) i)

/-- A segment's length as the programs take it, at least one. -/
def len (e : IVec S512 32) (i : Fin 512) : EReal := max (FloatOps.sitofp (F := Ideal) .f32 (IntOp.subi (e (ix1 i)) (startW e i))) 1

theorem len_real (e : IVec S512 32) (i : Fin 512) : ∃ r : ℝ, len e i = (r : EReal) ∧ 1 ≤ r :=
  ⟨max ((IntOp.subi (e (ix1 i)) (startW e i)).toInt : ℝ) 1, by
    show max (((IntOp.subi (e (ix1 i)) (startW e i)).toInt : ℝ) : EReal) 1 = _
    exact (Monotone.map_max EReal.coe_strictMono.monotone).symm, le_max_right _ _⟩

/-- A segment's average. -/
def ave (x : FVec Ideal S320000x128 .f32) (e : IVec S512 32) : FVec Ideal S512x128 .f32 :=
  fun j => Ideal.div (segSum x e (j 0) (j 1)) (len e (j 0))

variable {x : FVec Ideal S320000x128 .f32} {e : IVec S512 32}

theorem Good.col_eq (h : Good x e) (r : Fin 320000) (c : Fin 128) : x (ix2 r c) = (col x c r.val : EReal) := by
  obtain ⟨y, hy⟩ := h.fin (ix2 r c)
  unfold col
  rw [dif_pos r.isLt, hy, EReal.toReal_coe]

theorem Good.startW_toNat (_h : Good x e) (i : Fin 512) : (startW e i).toNat = before (ends e) i := by
  unfold startW before
  split
  · rfl
  · rfl

/-- Division by a length is multiplication by its reciprocal. -/
theorem div_len (e : IVec S512 32) (i : Fin 512) (s : EReal) : s * Ideal.div 1 (len e i) = Ideal.div s (len e i) := by
  obtain ⟨r, hr, h1⟩ := len_real e i
  have h0 : len e i ≠ 0 := by
    rw [hr]
    exact fun q => absurd (EReal.coe_eq_zero.1 q) (by linarith)
  unfold Ideal.div
  rw [if_neg h0, if_neg h0, one_mul]

theorem ave_real (x : FVec Ideal S320000x128 .f32) (e : IVec S512 32) (j : S512x128.Idx) : ∃ r : ℝ, ave x e j = (r : EReal) := by
  obtain ⟨r, hr, h1⟩ := len_real e (j 0)
  have h0 : len e (j 0) ≠ 0 := by
    rw [hr]
    exact fun q => absurd (EReal.coe_eq_zero.1 q) (by linarith)
  refine ⟨segSum x e (j 0) (j 1) * r⁻¹, ?_⟩
  unfold ave Ideal.div
  rw [if_neg h0, hr, EReal.coe_mul, EReal.coe_inv]

theorem toInt_small {v : BitVec 32} (h : v.toNat < 2 ^ 31) : v.toInt = v.toNat := by
  rw [BitVec.toInt_eq_toNat_cond]
  split <;> omega

theorem Good.seg_eq (h : Good x e) (r : Fin 320000) (i : Fin 512) :
    (segR e (ix2 r 0)).toInt = i.val ↔ before (ends e) i ≤ r.val ∧ r.val < ends e i := by
  rw [segR_at, ← card_eq_iff h.mono]
  have hc : (Finset.univ.filter fun j : Fin 512 => IntOp.cmpi .sle (e (ix1 j)) (BitVec.ofNat 32 r.val) = 1#1) = Finset.univ.filter fun j => ends e j ≤ r.val := by
    ext j
    simp only [Finset.mem_filter, Finset.mem_univ, true_and]
    have hr : (BitVec.ofNat 32 r.val).toNat = r.val := by rw [BitVec.toNat_ofNat]; omega
    have := h.rows j
    unfold ends at this ⊢
    rw [IntOp.cmpi_sle, toInt_small (by omega), toInt_small (by omega), hr]
    omega
  rw [hc]
  have hb : (Finset.univ.filter fun j => ends e j ≤ r.val).card ≤ 512 := (Finset.card_filter_le _ _).trans (by simp)
  have hn : (BitVec.ofNat 32 (Finset.univ.filter fun j => ends e j ≤ r.val).card).toNat = (Finset.univ.filter fun j => ends e j ≤ r.val).card := by
    rw [BitVec.toNat_ofNat]
    exact Nat.mod_eq_of_lt (by omega)
  rw [toInt_small (by omega), hn]
  omega

theorem Good.sumR_eq (h : Good x e) (i : Fin 512) (c : Fin 128) : sumR x e (ix2 i c) = (segSum x e i c : EReal) := by
  rw [sumR_at]
  unfold segSum
  rw [← total_run (N := 320000) (col x c) (before_le h.mono i) (h.rows i).le, coe_sum]
  refine Finset.sum_congr rfl fun r _ => ?_
  rw [h.col_eq]
  by_cases q : before (ends e) i ≤ r.val ∧ r.val < ends e i
  · rw [if_pos ((h.seg_eq r i).2 q), if_pos q]
  · rw [if_neg fun p => q ((h.seg_eq r i).1 p), if_neg q]
    rfl

/-- The reference's averages. -/
theorem Good.aveR_eq (h : Good x e) : aveR x e = ave x e := by
  funext j
  obtain ⟨i, c, rfl⟩ : ∃ (i : Fin 512) (c : Fin 128), j = ix2 i c := ⟨_, _, eq_ix2 j⟩
  rw [aveR_at, h.sumR_eq]
  rfl

end Cert.Proof.Val

end
-- ==== Proof.AveKer.lean ====
/- The kernel's averages: block sums and partial blocks make up the same differences of running totals. -/
module

public import proofs.«01_k».proof.Proof.AveRef

@[expose] public section

noncomputable section

namespace Cert.Proof.Val

open Cert.KernelIdeal Cert.KernelIdeal.Gen
open Idealize.ShloMosaic

theorem bit_eq (p : BitVec 1) {P : Prop} [Decidable P] (h : p = 1#1 ↔ P) : p = if P then 1#1 else 0#1 := by
  have hp : p = 1#1 ∨ p = 0#1 := by clear h; revert p; decide
  by_cases q : P
  · rw [if_pos q]; exact h.2 q
  · rw [if_neg q]; exact hp.resolve_left fun r => q (h.1 r)

/-- The selection of one block, as a number. -/
theorem mask_eq {u v : BitVec 32} (k : Fin 5000) (hu : u.toNat < 2 ^ 31) (hv : v.toNat < 2 ^ 31) :
    FloatOps.sitofp (F := Ideal) .f32 (BitVec.setWidth 32 (IntOp.andi (IntOp.cmpi .sge (BitVec.ofNat 32 k.val) u) (IntOp.cmpi .slt (BitVec.ofNat 32 k.val) v)))
      = (((if u.toNat ≤ k.val ∧ k.val < v.toNat then 1 else 0 : ℝ)) : EReal) := by
  have hk : (BitVec.ofNat 32 k.val).toNat = k.val := by rw [BitVec.toNat_ofNat]; omega
  have h1 := bit_eq (IntOp.cmpi .sge (BitVec.ofNat 32 k.val) u) (P := u.toNat ≤ k.val) (by
    rw [IntOp.cmpi_sge, toInt_small hu, toInt_small (by omega), hk]; omega)
  have h2 := bit_eq (IntOp.cmpi .slt (BitVec.ofNat 32 k.val) v) (P := k.val < v.toNat) (by
    rw [IntOp.cmpi_slt, toInt_small hv, toInt_small (by omega), hk]; omega)
  have s1 : FloatOps.sitofp (F := Ideal) .f32 1#32 = ((1 : ℝ) : EReal) := by
    show (((1#32 : BitVec 32).toInt : ℝ) : EReal) = _
    norm_num
  have s0 : FloatOps.sitofp (F := Ideal) .f32 0#32 = ((0 : ℝ) : EReal) := by
    show (((0#32 : BitVec 32).toInt : ℝ) : EReal) = _
    norm_num
  have a11 : BitVec.setWidth 32 (IntOp.andi 1#1 1#1) = 1#32 := by decide
  have a10 : BitVec.setWidth 32 (IntOp.andi 1#1 0#1) = 0#32 := by decide
  have a01 : BitVec.setWidth 32 (IntOp.andi 0#1 1#1) = 0#32 := by decide
  have a00 : BitVec.setWidth 32 (IntOp.andi 0#1 0#1) = 0#32 := by decide
  rw [h1, h2]
  by_cases p : u.toNat ≤ k.val <;> by_cases q : k.val < v.toNat <;>
    simp only [p, q, if_true, if_false, and_true, and_false, false_and, a11, a10, a01, a00, s1, s0]

theorem first_eq (i : Fin 512) : IntOp.cmpi .eq (BitVec.ofNat 32 i.val) 0#32 = if i.val < 1 then 1#1 else 0#1 := by
  refine bit_eq _ ?_
  rw [IntOp.cmpi_eq, ← BitVec.toNat_inj, BitVec.toNat_ofNat, BitVec.toNat_ofNat]
  omega

theorem Good.aveK_eq {x : FVec Ideal S320000x128 .f32} {e : IVec S512 32} (h : Good x e)
    (v1 v5 : Vec Ideal S512x1 .i32) (v12 : Vec Ideal S5000x128 .f32) (v15 : Vec Ideal S512x128 .f32) (v25 : Vec Ideal S512x1 .f32)
    (h1 : ∀ i, (v1 (ix2 i 0)).toNat = before (ends e) i / 64) (h5 : ∀ i, (v5 (ix2 i 0)).toNat = ends e i / 64)
    (h12 : ∀ (k : Fin 5000) (c : Fin 128), v12 (ix2 k c) = ((total (col x c) (64 * k.val + 64) - total (col x c) (64 * k.val) : ℝ) : EReal))
    (h15 : ∀ (i : Fin 512) (c : Fin 128), v15 (ix2 i c) = ((total (col x c) (ends e i) - total (col x c) (64 * (ends e i / 64)) : ℝ) : EReal))
    (h25 : ∀ i, v25 (ix2 i 0) = Ideal.div 1 (len e i)) : aveK v1 v5 v12 v15 v25 = ave x e := by
  funext j
  obtain ⟨i, c, rfl⟩ : ∃ (i : Fin 512) (c : Fin 128), j = ix2 i c := ⟨_, _, eq_ix2 j⟩
  have hb := before_le h.mono i
  have he := h.rows i
  have hsum : (∑ k : Fin 5000, FloatOps.sitofp (F := Ideal) .f32 (BitVec.setWidth 32 (IntOp.andi
          (IntOp.cmpi .sge (BitVec.ofNat 32 k.val) (v1 (ix2 i 0))) (IntOp.cmpi .slt (BitVec.ofNat 32 k.val) (v5 (ix2 i 0))))) * v12 (ix2 k c))
      = ((total (col x c) (64 * (ends e i / 64)) - total (col x c) (64 * (before (ends e) i / 64)) : ℝ) : EReal) := by
    rw [← total_blocks (N := 5000) (col x c) (Nat.div_le_div_right hb) (by omega), coe_sum]
    refine Finset.sum_congr rfl fun k _ => ?_
    rw [mask_eq k (by rw [h1]; omega) (by rw [h5]; omega), h12, h1, h5, ← EReal.coe_mul, ite_mul, one_mul, zero_mul]
  have hprev : Scalar.select (IntOp.cmpi .eq (BitVec.ofNat 32 i.val) 0#32) 0 (v15 (ix2 ⟨(i.val + 512 - 1) % 512, by omega⟩ c))
      = ((total (col x c) (before (ends e) i) - total (col x c) (64 * (before (ends e) i / 64)) : ℝ) : EReal) := by
    by_cases hi : i.val < 1
    · have h0 : before (ends e) i = 0 := dif_pos hi
      rw [h0, first_eq, if_pos hi]
      show (0 : EReal) = _
      simp
    · have hp : before (ends e) i = ends e ⟨(i.val + 512 - 1) % 512, by omega⟩ :=
        (dif_neg hi).trans (congrArg (ends e) (Fin.ext (by show i.val - 1 = (i.val + 512 - 1) % 512; omega)))
      rw [first_eq, if_neg hi, hp, ← h15]
      rfl
  rw [aveK_at, hsum, hprev, h15, h25, div_len, ← EReal.coe_add, ← EReal.coe_sub]
  show _ = Ideal.div (segSum x e i c : EReal) (len e i)
  refine congrArg (fun s : ℝ => Ideal.div (s : EReal) (len e i)) ?_
  unfold segSum
  ring

end Cert.Proof.Val

end
-- ==== Proof.KerRun.lean ====
/- What the kernel's arrays hold at the end, stage by stage. -/
module

public import proofs.«01_k».proof.Proof.MainRun
public import proofs.«01_k».proof.Proof.AveKer

@[expose] public section

noncomputable section

namespace Cert.Proof.Val

open Cert.KernelIdeal Cert.KernelIdeal.Gen

open Idealize.ShloMosaic
open Idealize.ShloMosaic.TcCoe
open Idealize.ShloMosaic.SparseCore.Cfg (HIx)
open Idealize.ShloMosaic.StableHlo
open Idealize.SL.Sem

variable (m : (ℓ : Loc nD τ sig) → Buf (Elt Ideal) ℓ) (d : Dev nD)

/-- The rows and the ends of a device. -/
abbrev xD : FVec Ideal S320000x128 .f32 := m ((SparseCore.T d).loc main_arg0)
abbrev eD : IVec S512 32 := m ((SparseCore.T d).loc main_arg1)

theorem V3_keep (r : Ref sig .tc) (h0 : ∀ w, Pipeline.arrRef spec0 w = r → (cfg0.win w).isOut = false) (h1 : r ≠ main_v1) (h2 : r ∉ hostWrites) :
    V3 m d (Proc.devRef .tc r) = m ((SparseCore.T d).loc r) :=
  (hostOps_keep h2 _).trans ((V2_keep m d r h1).trans (V1_keep m d r h0))

/-- The block sums. -/
theorem v0_at : V1 m d (Proc.devRef .tc main_v0) = (fun j : S5000x128.Idx => ∑ k : Fin 64, xD m d (ix2 ⟨(j 0).val * 64 + k.val, by have := (j 0).isLt; have : S5000x128.size 0 = 5000 := rfl; omega⟩ (j 1)) : FVec Ideal S5000x128 .f32) := by
  refine (Pipeline.afterRegion_arr (dat0 (V0 m) ((K (F := Ideal)).Otc d 0) 0 d) (V0 m d) launch0.win.arr_inj 1).trans ?_
  refine (dat0 (V0 m) ((K (F := Ideal)).Otc d 0) 0 d).arrAt_eq_of_covers 1 _ (by decide +kernel) fun t hf y => ?_
  obtain ⟨i, c, rfl⟩ : ∃ (i : Fin 200) (c : Fin 128), y = ix2 i c := ⟨_, _, eq_ix2 y⟩
  blk_simp
  rw [after0_1]
  refine (pay0_at _ i c).trans (Finset.sum_congr rfl fun k _ => ?_)
  have h0 : win0_0.index t 0 = win0_1.index t 0 := by clear hf; revert t; decide +kernel
  have h1 : win0_0.index t 1 = 0 := by clear hf h0; revert t; decide +kernel
  have h2 : win0_1.index t 1 = 0 := by clear hf h0 h1; revert t; decide +kernel
  blk_ext [blk0, h0, h1, h2] <;> omega

/-! The tail reads each of its arrays whole. -/

theorem blk2_0 (V : Dev nD → Valuation τ sig (Elt Ideal)) : blk2 V d 0 t2_0 = V d (Proc.devRef .tc main_v0) := by
  funext y
  blk_ext [blk2] <;> first | exact Nat.zero_add _ | rfl
theorem blk2_1 (V : Dev nD → Valuation τ sig (Elt Ideal)) : blk2 V d 1 t2_0 = V d (Proc.devRef .tc main_v1) := by
  funext y
  blk_ext [blk2] <;> first | exact Nat.zero_add _ | rfl
theorem blk2_2 (V : Dev nD → Valuation τ sig (Elt Ideal)) : blk2 V d 2 t2_0 = V d (Proc.devRef .tc main_v13) := by
  funext y
  blk_ext [blk2] <;> first | exact Nat.zero_add _ | rfl
theorem blk2_3 (V : Dev nD → Valuation τ sig (Elt Ideal)) : blk2 V d 3 t2_0 = V d (Proc.devRef .tc main_v15) := by
  funext y
  blk_ext [blk2] <;> first | exact Nat.zero_add _ | rfl
theorem blk2_4 (V : Dev nD → Valuation τ sig (Elt Ideal)) : blk2 V d 4 t2_0 = V d (Proc.devRef .tc main_v11) := by
  funext y
  blk_ext [blk2] <;> first | exact Nat.zero_add _ | rfl
theorem blk2_5 (V : Dev nD → Valuation τ sig (Elt Ideal)) : blk2 V d 5 t2_0 = V d (Proc.devRef .tc main_v16) := by
  funext y
  blk_ext [blk2] <;> first | exact Nat.zero_add _ | rfl
theorem blk2_6 (V : Dev nD → Valuation τ sig (Elt Ideal)) : blk2 V d 6 t2_0 = V d (Proc.devRef .tc main_v17) := by
  funext y
  blk_ext [blk2] <;> first | exact Nat.zero_add _ | rfl

/-- The result is the tail of the arrays it reads. -/
theorem v18_at : V4 m d (Proc.devRef .tc main_v18) = k2_pay1 (k2_pay2 (V3 m d (Proc.devRef .tc main_v13)) (V3 m d (Proc.devRef .tc main_v15)) (V3 m d (Proc.devRef .tc main_v0)) (V3 m d (Proc.devRef .tc main_v1)) (V3 m d (Proc.devRef .tc main_v11)))
    (V3 m d (Proc.devRef .tc main_v16)) (V3 m d (Proc.devRef .tc main_v17)) := by
  refine (Pipeline.afterRegion_arr (dat2 (V3 m) ((K (F := Ideal)).Otc d 1) 8 d) (V3 m d) launch2.win.arr_inj 7).trans ?_
  refine (dat2 (V3 m) ((K (F := Ideal)).Otc d 1) 8 d).arrAt_eq_of_after_last 7 t2_0 (by decide +kernel) _ fun j => ?_
  rw [after2_7, blk2_0, blk2_1, blk2_2, blk2_3, blk2_4, blk2_5, blk2_6]
  rfl

end Cert.Proof.Val

end
-- ==== Proof.KerHost.lean ====
/- The small arrays the host hands the tail: block numbers, lengths, the transposed classes, the bias as a row. -/
module

public import proofs.«01_k».proof.Proof.MainRun
public import proofs.«01_k».proof.Proof.AveKer

@[expose] public section

noncomputable section

namespace Cert.Proof.Val

open Cert.KernelIdeal Cert.KernelIdeal.Gen

open Idealize.ShloMosaic
open Idealize.ShloMosaic.TcCoe
open Idealize.ShloMosaic.StableHlo
open Idealize.SL.Sem

/-- The block number of each row number, as the host's floor division spells it. -/
def quotV (w : IVec S512 32) : IVec S512x1 32 :=
  broadcastInDim S512x1 ![0] bcast_S512_S512x1_0
      (select
        (andi
          (cmpi CmpIPredicate.ne (signi w)
            (broadcastInDim S512 ![] bcast_S_S512 (signi (id (constantI S_ 32 64#32)))))
          (cmpi CmpIPredicate.ne
            (Host.remsi w (broadcastInDim S512 ![] bcast_S_S512 (id (constantI S_ 32 64#32))))
            (broadcastInDim S512 ![] bcast_S_S512 (constantI S_ 32 0#32))))
        (subi
          (Host.divsi w (broadcastInDim S512 ![] bcast_S_S512 (id (constantI S_ 32 64#32))))
          (broadcastInDim S512 ![] bcast_S_S512 (constantI S_ 32 1#32)))
        (Host.divsi w (broadcastInDim S512 ![] bcast_S_S512 (id (constantI S_ 32 64#32)))))

/-- The starts: zero, then every end but the last. -/
def startsV (e : IVec S512 32) : IVec S512 32 :=
  joinStarts (F := Ideal) (broadcastInDim S1 ![] bcast_S_S1 (constantI S_ 32 0#32)) (extractStridedSlice S511 ![0] e slices_S512_S511_0)

/-- The reciprocals of the lengths. -/
def invV (e : IVec S512 32) : FVec Ideal S512x1 .f32 :=
  broadcastInDim S512x1 ![0] bcast_S512_S512x1_0
      (Host.divf (broadcastInDim S512 ![] bcast_S_S512 (constant S_ FTy.f32 1065353216#32))
        (maximumf (sitofp FTy.f32 (subi e (startsV e))) (broadcastInDim S512 ![] bcast_S_S512 (constant S_ FTy.f32 1065353216#32))))

/-- The host's floor division of a row number by 64 is the quotient. -/
theorem floor64 (v : BitVec 32) (hv : v.toNat < 320000) :
    (Scalar.select (IntOp.andi
          (IntOp.cmpi .ne (if v = 0 then 0 else if v.msb = true then -1 else 1 : BitVec 32) (if (64#32 : BitVec 32) = 0 then 0 else if (64#32 : BitVec 32).msb = true then -1 else 1 : BitVec 32))
          (IntOp.cmpi .ne (IntOp.remsi .host v 64#32) 0#32))
        (IntOp.subi (IntOp.divsi .host v 64#32) 1#32) (IntOp.divsi .host v 64#32)).toNat = v.toNat / 64 := by
  have hr : ∀ p : BitVec 1, IntOp.andi 0#1 p = 0#1 := by decide
  have hl : ∀ p : BitVec 1, IntOp.andi p 0#1 = 0#1 := by decide
  have hc : IntOp.andi (IntOp.cmpi .ne (if v = 0 then 0 else if v.msb = true then -1 else 1 : BitVec 32) (if (64#32 : BitVec 32) = 0 then 0 else if (64#32 : BitVec 32).msb = true then -1 else 1 : BitVec 32))
      (IntOp.cmpi .ne (IntOp.remsi .host v 64#32) 0#32) = 0#1 := by
    by_cases hz : v = 0
    · have h0 : IntOp.remsi .host v 64#32 = 0#32 := (IntOp.remsi_eq_zero_iff .host (by omega) 64 (by decide) (by decide)).2 (by rw [hz]; exact dvd_zero _)
      rw [h0, show IntOp.cmpi .ne (0#32) 0#32 = 0#1 from by decide, hl]
    · have hm : v.msb = false := by rw [BitVec.msb_eq_false_iff_two_mul_lt]; omega
      rw [if_neg hz, hm, show IntOp.cmpi .ne (if false = true then (-1 : BitVec 32) else 1) (if (64#32 : BitVec 32) = 0 then 0 else if (64#32 : BitVec 32).msb = true then -1 else 1) = 0#1 from by decide, hr]
  rw [hc]
  show (IntOp.divsi .host v 64#32).toNat = _
  have hd : IntOp.divsi .host v 64#32 = Scalar.divsi v 64#32 := by
    unfold Scalar.divsi IntOp.divsi
    have h := IntOp.not_corner_of_pos (x := v) (y := 64#32) (by decide)
    rw [if_neg h, if_neg h]
  rw [hd]
  exact Affine.nat_eq (Affine.divsi (isInt_word hv) (Affine.ofNat 64 ⟨rfl, by decide⟩) ⟨rfl, by omega, by decide⟩) _ (by omega)

theorem quotV_at (w : IVec S512 32) (i : Fin 512) (hw : (w (ix1 i)).toNat < 320000) : (quotV w (ix2 i 0)).toNat = (w (ix1 i)).toNat / 64 := by
  pointwise [quotV]
  exact floor64 _ hw

theorem startsV_at (e : IVec S512 32) (i : Fin 512) : startsV e (ix1 i) = startW e i := by
  pointwise [startsV, joinStarts]
  rfl

theorem invV_at (e : IVec S512 32) (i : Fin 512) : invV e (ix2 i 0) = Ideal.div 1 (len e i) := by
  pointwise [invV]
  rw [startsV_at]
  rfl

variable (V : Valuation τ sig (Elt Ideal))

theorem host_v11 : after (hostOps (F := Ideal)) V (Proc.devRef .tc main_v11) = invV (V (Proc.devRef .tc main_arg1)) := by
  after_results_simp
  rfl

theorem host_v13 : after (hostOps (F := Ideal)) V (Proc.devRef .tc main_v13) = quotV (startsV (V (Proc.devRef .tc main_arg1))) := by
  after_results_simp
  rfl

theorem host_v15 : after (hostOps (F := Ideal)) V (Proc.devRef .tc main_v15) = quotV (V (Proc.devRef .tc main_arg1)) := by
  after_results_simp
  rfl

theorem host_v16 (k : Fin 128) (j : Fin 16) : (after (hostOps (F := Ideal)) V (Proc.devRef .tc main_v16) : FVec Ideal S128x16 .f32) (ix2 k j)
    = (V (Proc.devRef .tc main_arg2) : FVec Ideal S16x128 .f32) (ix2 j k) := by
  after_results_simp
  pointwise

theorem host_v17 (j : Fin 16) : (after (hostOps (F := Ideal)) V (Proc.devRef .tc main_v17) : FVec Ideal S1x16 .f32) (ix2 0 j)
    = (V (Proc.devRef .tc main_arg3) : FVec Ideal S16 .f32) (ix1 j) := by
  after_results_simp
  pointwise

end Cert.Proof.Val

end
-- ==== Proof.KerEq.lean ====
/- The kernel's result, as the tail of the segments' averages. -/
module

public import proofs.«01_k».proof.Proof.KerRun
public import proofs.«01_k».proof.Proof.KerHost

@[expose] public section

noncomputable section

namespace Cert.Proof.Val

open Cert.KernelIdeal Cert.KernelIdeal.Gen

open Idealize.ShloMosaic
open Idealize.ShloMosaic.TcCoe
open Idealize.ShloMosaic.StableHlo
open Idealize.SL.Sem

section
variable {x : FVec Ideal S320000x128 .f32} {e : IVec S512 32} (h : Good x e)
include h

theorem Good.xat_eq (r : ℕ) (hr : r < 320000) (c : Fin 128) : xat x r c.val = (col x c r : EReal) := by
  unfold xat
  rw [← h.col_eq ⟨r, hr⟩ c]
  congr 2
  · exact Fin.ext (Nat.mod_eq_of_lt hr)
  · exact Fin.ext (Nat.mod_eq_of_lt c.isLt)

/-- The first rows of a window, added up. -/
theorem Good.wacc_eq (v : BitVec 32) (t : ℕ) (l : Fin 16) (hc : 16 * t + l.val < 128) (n : ℕ) (hn : (winStart v).toNat + n ≤ 320000) :
    wacc x v n t (ValueIdx.ix1 l) = ((total (col x ⟨16 * t + l.val, hc⟩) ((winStart v).toNat + n) - total (col x ⟨16 * t + l.val, hc⟩) (winStart v).toNat : ℝ) : EReal) := by
  induction n with
  | zero =>
    rw [Nat.add_zero, sub_self]
    show Ideal.ofBits .f32 0x00000000#32 = _
    rw [Ideal.ofBits_zero_f32]
    rfl
  | succ n ih =>
    show wacc x v n t (ValueIdx.ix1 l) + xat x ((winStart v).toNat + n) (16 * t + l.val) = _
    rw [ih (by omega), h.xat_eq _ (by omega) ⟨16 * t + l.val, hc⟩, ← EReal.coe_add]
    congr 1
    unfold total
    rw [← Nat.add_assoc, Finset.sum_range_succ]
    ring

/-- The rows of an end's block before it, added up. -/
theorem Good.tail_at (i : Fin 512) (c : Fin 128) : tailAt x e (ix2 i c)
    = ((total (col x c) (ends e i) - total (col x c) (64 * (ends e i / 64)) : ℝ) : EReal) := by
  have he := h.rows i
  have hw : (winStart (e (ix1 i))).toNat = ends e i / 64 * 64 := winStart_toNat he
  show wacc x (e (ix1 i)) ((e (ix1 i)).toNat % 64) (c.val / 16) (ValueIdx.ix1 ⟨c.val % 16, _⟩) = _
  have hc : (⟨16 * (c.val / 16) + (⟨c.val % 16, Nat.mod_lt _ (by decide)⟩ : Fin 16).val, by simp only; omega⟩ : Fin 128) = c := Fin.ext (by simp only; omega)
  rw [h.wacc_eq _ _ _ (by simp only; omega) _ (by rw [hw]; unfold ends at he ⊢; omega), hc, hw]
  have h1 : ends e i / 64 * 64 + (e (ix1 i)).toNat % 64 = ends e i := by unfold ends; omega
  rw [h1, Nat.mul_comm]

/-- A block of sixty-four rows, added up. -/
theorem Good.block_at (k : Fin 5000) (c : Fin 128) (hk : ∀ s : Fin 64, k.val * 64 + s.val < 320000) : (∑ s : Fin 64, x (ix2 ⟨k.val * 64 + s.val, hk s⟩ c))
    = ((total (col x c) (64 * k.val + 64) - total (col x c) (64 * k.val) : ℝ) : EReal) := by
  rw [← total_block, coe_sum]
  refine Finset.sum_congr rfl fun s _ => ?_
  rw [h.col_eq, Nat.mul_comm 64]

end

variable (m : (ℓ : Loc nD τ sig) → Buf (Elt Ideal) ℓ) (d : Dev nD)

theorem arg1_at : V2 m d (Proc.devRef .tc main_arg1) = eD m d :=
  (V2_keep m d main_arg1 (by decide)).trans (V1_keep m d main_arg1 (by decide))

/-- The kernel's result. -/
theorem ker_eq (h : Good (xD m d) (eD m d)) : V4 m d (Proc.devRef .tc main_v18)
    = tailR (ave (xD m d) (eD m d)) (m ((SparseCore.T d).loc main_arg2)) (m ((SparseCore.T d).loc main_arg3)) := by
  rw [v18_at, pay2_eq]
  have hA : aveK (V3 m d (Proc.devRef .tc main_v13)) (V3 m d (Proc.devRef .tc main_v15)) (V3 m d (Proc.devRef .tc main_v0)) (V3 m d (Proc.devRef .tc main_v1)) (V3 m d (Proc.devRef .tc main_v11))
      = ave (xD m d) (eD m d) := by
    refine h.aveK_eq _ _ _ _ _ (fun i => ?_) (fun i => ?_) (fun k c => ?_) (fun i c => ?_) (fun i => ?_)
    · rw [show V3 m d (Proc.devRef .tc main_v13) = _ from host_v13 (V2 m d), arg1_at]
      have hs := h.startW_toNat i
      rw [← startsV_at] at hs
      rw [quotV_at _ i (by rw [hs]; exact (before_le h.mono i).trans_lt (h.rows i)), hs]
    · rw [show V3 m d (Proc.devRef .tc main_v15) = _ from host_v15 (V2 m d), arg1_at]
      exact quotV_at _ i (h.rows i)
    · rw [show V3 m d (Proc.devRef .tc main_v0) = _ from (hostOps_keep (by decide) (V2 m d)).trans ((V2_keep m d main_v0 (by decide)).trans (v0_at m d))]
      exact h.block_at k c _
    · rw [show V3 m d (Proc.devRef .tc main_v1) = _ from (hostOps_keep (by decide) (V2 m d)).trans (Function.update_self _ _ _)]
      exact h.tail_at i c
    · rw [show V3 m d (Proc.devRef .tc main_v11) = _ from host_v11 (V2 m d), arg1_at]
      exact invV_at _ i
  rw [hA]
  funext q
  obtain ⟨i, j, rfl⟩ : ∃ (i : Fin 512) (j : Fin 16), q = ix2 i j := ⟨_, _, eq_ix2 q⟩
  refine tail_eq _ (ave_real _ _) _ _ _ _ (fun k j => ?_) (fun j => ?_) i j
  · refine (host_v16 (V2 m d) k j).trans ?_
    rw [(V2_keep m d main_arg2 (by decide)).trans (V1_keep m d main_arg2 (by decide))]
  · refine (host_v17 (V2 m d) j).trans ?_
    rw [(V2_keep m d main_arg3 (by decide)).trans (V1_keep m d main_arg3 (by decide))]

end Cert.Proof.Val

end
-- ==== Proof.GoodPre.lean ====
/- What the algebraic claim's precondition says of the rows and the ends. -/
module

public import proofs.«01_k».proof.Proof.AveRef
public import proofs.«01_k».proof.Proof.Ends

@[expose] public section

noncomputable section

namespace Cert.Proof.Val

open Idealize.ShloMosaic
open Cert.Pre_ends_sorted_rows_finite (S320000x128 S512 S16x128 S16 S511)

/-- A value whose absolute value is below infinity is real. -/
theorem real_of_abs (y : EReal) (h : FloatOps.cmpf (F := Ideal) (φ := .f32) .olt (FloatOps.hostAbsf (F := Ideal) (φ := .f32) y) (Ideal.ofBits .f32 0x7F800000#32) = 1#1) :
    ∃ r : ℝ, y = (r : EReal) := by
  have htop : Ideal.ofBits .f32 0x7F800000#32 = ⊤ := by simp [Ideal.ofBits, Ideal.ieee]
  rw [htop] at h
  have hlt : max y (-y) < ⊤ := by
    have h1 := (ofBool_eq_one _).1 h
    exact of_decide_eq_true h1
  rw [max_lt_iff] at hlt
  refine ⟨y.toReal, (EReal.coe_toReal hlt.1.ne fun hb => ?_).symm⟩
  rw [hb] at hlt
  exact absurd hlt.2 (by simp)

theorem good_of_pre {x : FVec Ideal S320000x128 .f32} {e : IVec S512 32} {c : FVec Ideal S16x128 .f32} {b : FVec Ideal S16 .f32}
    (h : Cert.Pre_ends_sorted_rows_finite.fn (F := Ideal) x e c b = fun _ => 1#1) : Good x e where
  fin j := by
    have h0 := congrFun h (fun i => i.elim0)
    simp only [Cert.Pre_ends_sorted_rows_finite.fn, andi] at h0
    have := Host.reduce_andi_all _ _ _ _ _ (andi_eq_one h0).2 j
    exact real_of_abs _ this
  rows i := rows_of_sorted h (ix1 i)
  mono := by
    have h0 := congrFun h (fun i => i.elim0)
    simp only [Cert.Pre_ends_sorted_rows_finite.fn, andi] at h0
    have hs : ∀ i : Fin 511, ends e ⟨i.val, by omega⟩ ≤ ends e ⟨1 + i.val, by omega⟩ := fun i => by
      have h1 := Host.reduce_andi_all _ _ _ _ _ (andi_eq_one (andi_eq_one h0).1).2 (ix1 i)
      have h2 : IntOp.cmpi .sle (e (ix1 ⟨i.val, by omega⟩)) (e (ix1 ⟨1 + i.val, by omega⟩)) = 1#1 := by
        rw [← h1]
        pointwise
      rw [IntOp.cmpi_sle, toInt_small ((rows_of_sorted h _).trans (by decide)), toInt_small ((rows_of_sorted h _).trans (by decide))] at h2
      unfold ends
      omega
    refine Fin.monotone_iff_le_succ.2 fun i => ?_
    have := hs i
    rwa [show (⟨1 + i.val, by omega⟩ : Fin 512) = i.succ from Fin.ext (Nat.add_comm _ _)] at this

end Cert.Proof.Val

end
-- ==== Proof.Algebraic.lean ====
/- The algebraic claim: over the reals and for finite rows and ordered ends, the kernel's result is the reference's. -/
module

public import proofs.«01_k».proof.Proof.KerEq
public import proofs.«01_k».proof.Proof.GoodPre
public import proofs.«01_k».proof.Proof.Launch
public import proofs.«01_k».proof.Defs

@[expose] public section

noncomputable section

namespace Cert.Proof.Val

open Idealize.ShloMosaic Idealize.SL.Sem

/-- `Cert.algebraic_KernelIdeal_ReferenceIdeal_pre_ends_sorted_rows_finite` (Defs.lean). -/
theorem algebraic : Cert.algebraic_KernelIdeal_ReferenceIdeal_pre_ends_sorted_rows_finite := by
  intro m g m' g' hpre hin
  have hgood : ∀ d, Good (xD m d) (eD m d) := fun d => good_of_pre (hpre d)
  refine ⟨fun c => V4 m c (Proc.devRef .tc Cert.KernelIdeal.main_v18), ?_, ?_⟩
  · refine (θ_run Cert.KernelIdeal.defs _ _).mono (fun r h c => ⟨h.1 c _ (mem_ucRefs Cert.KernelIdeal.main_v18 rfl), args_kept m h c⟩)
      (run_main (F := Ideal) m g fun d j => rows_of_sorted (hpre d) j)
  · refine (θ_run Cert.ReferenceIdeal.defs _ _).mono (fun r h c => ⟨(h c).1.trans ?_, (h c).2⟩) (Cert.ReferenceIdeal.Value.run m' g')
    obtain ⟨e0, e1, e2, e3⟩ := hin c
    refine ((res_eq m' c).trans ?_).trans (ker_eq m c (hgood c)).symm
    rw [e0, e1, e2, e3]
    exact congrArg (fun A => tailR A _ _) (hgood c).aveR_eq

end Cert.Proof.Val

end
-- ==== Proof.lean ====
module

public import proofs.«01_k».proof.Proof.Frames
public import proofs.«01_k».proof.Proof.Algebraic
public import proofs.«01_k».proof.Defs
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts, rowsFacts, sortedFacts,
    frame_kernel, frame_kernelIdeal, frame_kernelIdeal_sorted, frame_referenceIdeal, frame_referenceIdeal_sorted, trivial,
    Val.algebraic⟩

end Cert.Proof

end
